-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_ToSibling (m : (ℓ : Loc Cert.ToSibling.nD Cert.ToSibling.τ Cert.ToSibling.sig) → Buf (Elt Bits) ℓ) : Prop :=
  True

def Pre_ToSiblingIdeal (m : (ℓ : Loc Cert.ToSiblingIdeal.nD Cert.ToSiblingIdeal.τ Cert.ToSiblingIdeal.sig) → Buf (Elt Ideal) ℓ) : Prop :=
  True

def Pre_ToSiblingRefIdeal (m : (ℓ : Loc Cert.ToSiblingRefIdeal.nD Cert.ToSiblingRefIdeal.τ Cert.ToSiblingRefIdeal.sig) → Buf (Elt Ideal) ℓ) : Prop :=
  True

def Pre_ToSiblingRef (m : (ℓ : Loc Cert.ToSiblingRef.nD Cert.ToSiblingRef.τ Cert.ToSiblingRef.sig) → Buf (Elt Bits) ℓ) : Prop :=
  True

def Pre_ToOwner (m : (ℓ : Loc Cert.ToOwner.nD Cert.ToOwner.τ Cert.ToOwner.sig) → Buf (Elt Bits) ℓ) : Prop :=
  True

def Pre_ToOwnerIdeal (m : (ℓ : Loc Cert.ToOwnerIdeal.nD Cert.ToOwnerIdeal.τ Cert.ToOwnerIdeal.sig) → Buf (Elt Ideal) ℓ) : Prop :=
  True

def Pre_ToOwnerRefIdeal (m : (ℓ : Loc Cert.ToOwnerRefIdeal.nD Cert.ToOwnerRefIdeal.τ Cert.ToOwnerRefIdeal.sig) → Buf (Elt Ideal) ℓ) : Prop :=
  True

def Pre_ToOwnerRef (m : (ℓ : Loc Cert.ToOwnerRef.nD Cert.ToOwnerRef.τ Cert.ToOwnerRef.sig) → Buf (Elt Bits) ℓ) : Prop :=
  True

def Pre_Reduced (m : (ℓ : Loc Cert.Reduced.nD Cert.Reduced.τ Cert.Reduced.sig) → Buf (Elt Bits) ℓ) : Prop :=
  True

def Pre_ReducedIdeal (m : (ℓ : Loc Cert.ReducedIdeal.nD Cert.ReducedIdeal.τ Cert.ReducedIdeal.sig) → Buf (Elt Ideal) ℓ) : Prop :=
  True

def Pre_ReducedRefIdeal (m : (ℓ : Loc Cert.ReducedRefIdeal.nD Cert.ReducedRefIdeal.τ Cert.ReducedRefIdeal.sig) → Buf (Elt Ideal) ℓ) : Prop :=
  True

def Pre_ReducedRef (m : (ℓ : Loc Cert.ReducedRef.nD Cert.ReducedRef.τ Cert.ReducedRef.sig) → Buf (Elt Bits) ℓ) : Prop :=
  True

def Pre_ChipA (m : (ℓ : Loc Cert.ChipA.nD Cert.ChipA.τ Cert.ChipA.sig) → Buf (Elt Bits) ℓ) : Prop :=
  True

def Pre_ChipAIdeal (m : (ℓ : Loc Cert.ChipAIdeal.nD Cert.ChipAIdeal.τ Cert.ChipAIdeal.sig) → Buf (Elt Ideal) ℓ) : Prop :=
  True

def Pre_ChipARefIdeal (m : (ℓ : Loc Cert.ChipARefIdeal.nD Cert.ChipARefIdeal.τ Cert.ChipARefIdeal.sig) → Buf (Elt Ideal) ℓ) : Prop :=
  True

def Pre_ChipARef (m : (ℓ : Loc Cert.ChipARef.nD Cert.ChipARef.τ Cert.ChipARef.sig) → Buf (Elt Bits) ℓ) : Prop :=
  True

def Pre_ChipB (m : (ℓ : Loc Cert.ChipB.nD Cert.ChipB.τ Cert.ChipB.sig) → Buf (Elt Bits) ℓ) : Prop :=
  True

def Pre_ChipBIdeal (m : (ℓ : Loc Cert.ChipBIdeal.nD Cert.ChipBIdeal.τ Cert.ChipBIdeal.sig) → Buf (Elt Ideal) ℓ) : Prop :=
  True

def Pre_ChipBRefIdeal (m : (ℓ : Loc Cert.ChipBRefIdeal.nD Cert.ChipBRefIdeal.τ Cert.ChipBRefIdeal.sig) → Buf (Elt Ideal) ℓ) : Prop :=
  True

def Pre_ChipBRef (m : (ℓ : Loc Cert.ChipBRef.nD Cert.ChipBRef.τ Cert.ChipBRef.sig) → Buf (Elt Bits) ℓ) : Prop :=
  True

def Pre_ChipSmall (m : (ℓ : Loc Cert.ChipSmall.nD Cert.ChipSmall.τ Cert.ChipSmall.sig) → Buf (Elt Bits) ℓ) : Prop :=
  True

def Pre_ChipSmallIdeal (m : (ℓ : Loc Cert.ChipSmallIdeal.nD Cert.ChipSmallIdeal.τ Cert.ChipSmallIdeal.sig) → Buf (Elt Ideal) ℓ) : Prop :=
  True

def Pre_ChipSmallRefIdeal (m : (ℓ : Loc Cert.ChipSmallRefIdeal.nD Cert.ChipSmallRefIdeal.τ Cert.ChipSmallRefIdeal.sig) → Buf (Elt Ideal) ℓ) : Prop :=
  True

def Pre_ChipSmallRef (m : (ℓ : Loc Cert.ChipSmallRef.nD Cert.ChipSmallRef.τ Cert.ChipSmallRef.sig) → Buf (Elt Bits) ℓ) : Prop :=
  True

def Pre_SumA (m : (ℓ : Loc Cert.SumA.nD Cert.SumA.τ Cert.SumA.sig) → Buf (Elt Bits) ℓ) : Prop :=
  True

def Pre_SumAIdeal (m : (ℓ : Loc Cert.SumAIdeal.nD Cert.SumAIdeal.τ Cert.SumAIdeal.sig) → Buf (Elt Ideal) ℓ) : Prop :=
  True

def Pre_SumARefIdeal (m : (ℓ : Loc Cert.SumARefIdeal.nD Cert.SumARefIdeal.τ Cert.SumARefIdeal.sig) → Buf (Elt Ideal) ℓ) : Prop :=
  True

def Pre_SumB (m : (ℓ : Loc Cert.SumB.nD Cert.SumB.τ Cert.SumB.sig) → Buf (Elt Bits) ℓ) : Prop :=
  True

def Pre_SumBIdeal (m : (ℓ : Loc Cert.SumBIdeal.nD Cert.SumBIdeal.τ Cert.SumBIdeal.sig) → Buf (Elt Ideal) ℓ) : Prop :=
  True

def Pre_SumBRefIdeal (m : (ℓ : Loc Cert.SumBRefIdeal.nD Cert.SumBRefIdeal.τ Cert.SumBRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamShard (m : (ℓ : Loc Cert.AdamShard.nD Cert.AdamShard.τ Cert.AdamShard.sig) → Buf (Elt Bits) ℓ) : Prop :=
  True

def Pre_AdamShardIdeal (m : (ℓ : Loc Cert.AdamShardIdeal.nD Cert.AdamShardIdeal.τ Cert.AdamShardIdeal.sig) → Buf (Elt Ideal) ℓ) : Prop :=
  True

def Pre_AdamShardRefIdeal (m : (ℓ : Loc Cert.AdamShardRefIdeal.nD Cert.AdamShardRefIdeal.τ Cert.AdamShardRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_LayerEnd (m : (ℓ : Loc Cert.LayerEnd.nD Cert.LayerEnd.τ Cert.LayerEnd.sig) → Buf (Elt Bits) ℓ) : Prop :=
  True

def Pre_LayerEndIdeal (m : (ℓ : Loc Cert.LayerEndIdeal.nD Cert.LayerEndIdeal.τ Cert.LayerEndIdeal.sig) → Buf (Elt Ideal) ℓ) : Prop :=
  True

def Pre_LayerEndRefIdeal (m : (ℓ : Loc Cert.LayerEndRefIdeal.nD Cert.LayerEndRefIdeal.τ Cert.LayerEndRefIdeal.sig) → Buf (Elt Ideal) ℓ) : Prop :=
  True

def Pre_OutProjBwd (m : (ℓ : Loc Cert.OutProjBwd.nD Cert.OutProjBwd.τ Cert.OutProjBwd.sig) → Buf (Elt Bits) ℓ) : Prop :=
  True

def Pre_OutProjBwdIdeal (m : (ℓ : Loc Cert.OutProjBwdIdeal.nD Cert.OutProjBwdIdeal.τ Cert.OutProjBwdIdeal.sig) → Buf (Elt Ideal) ℓ) : Prop :=
  True

def Pre_OutProjBwdRefIdeal (m : (ℓ : Loc Cert.OutProjBwdRefIdeal.nD Cert.OutProjBwdRefIdeal.τ Cert.OutProjBwdRefIdeal.sig) → Buf (Elt Ideal) ℓ) : Prop :=
  True

def Pre_MulZ (m : (ℓ : Loc Cert.MulZ.nD Cert.MulZ.τ Cert.MulZ.sig) → Buf (Elt Bits) ℓ) : Prop :=
  True

def Pre_MulZIdeal (m : (ℓ : Loc Cert.MulZIdeal.nD Cert.MulZIdeal.τ Cert.MulZIdeal.sig) → Buf (Elt Ideal) ℓ) : Prop :=
  True

def Pre_MulZRefIdeal (m : (ℓ : Loc Cert.MulZRefIdeal.nD Cert.MulZRefIdeal.τ Cert.MulZRefIdeal.sig) → Buf (Elt Ideal) ℓ) : Prop :=
  True

def Pre_MulDh (m : (ℓ : Loc Cert.MulDh.nD Cert.MulDh.τ Cert.MulDh.sig) → Buf (Elt Bits) ℓ) : Prop :=
  True

def Pre_MulDhIdeal (m : (ℓ : Loc Cert.MulDhIdeal.nD Cert.MulDhIdeal.τ Cert.MulDhIdeal.sig) → Buf (Elt Ideal) ℓ) : Prop :=
  True

def Pre_MulDhRefIdeal (m : (ℓ : Loc Cert.MulDhRefIdeal.nD Cert.MulDhRefIdeal.τ Cert.MulDhRefIdeal.sig) → Buf (Elt Ideal) ℓ) : Prop :=
  True

def Pre_MulDwIn (m : (ℓ : Loc Cert.MulDwIn.nD Cert.MulDwIn.τ Cert.MulDwIn.sig) → Buf (Elt Bits) ℓ) : Prop :=
  True

def Pre_MulDwInIdeal (m : (ℓ : Loc Cert.MulDwInIdeal.nD Cert.MulDwInIdeal.τ Cert.MulDwInIdeal.sig) → Buf (Elt Ideal) ℓ) : Prop :=
  True

def Pre_MulDwInRefIdeal (m : (ℓ : Loc Cert.MulDwInRefIdeal.nD Cert.MulDwInRefIdeal.τ Cert.MulDwInRefIdeal.sig) → Buf (Elt Ideal) ℓ) : Prop :=
  True

def Pre_MulDwOut (m : (ℓ : Loc Cert.MulDwOut.nD Cert.MulDwOut.τ Cert.MulDwOut.sig) → Buf (Elt Bits) ℓ) : Prop :=
  True

def Pre_MulDwOutIdeal (m : (ℓ : Loc Cert.MulDwOutIdeal.nD Cert.MulDwOutIdeal.τ Cert.MulDwOutIdeal.sig) → Buf (Elt Ideal) ℓ) : Prop :=
  True

def Pre_MulDwOutRefIdeal (m : (ℓ : Loc Cert.MulDwOutRefIdeal.nD Cert.MulDwOutRefIdeal.τ Cert.MulDwOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ToSibling [hToSibling : Cert.ToSibling.Facts] : Prop :=
  ∀ (m : (ℓ : Loc Cert.ToSibling.nD Cert.ToSibling.τ Cert.ToSibling.sig) → Buf (Elt Bits) ℓ) (g : Dev Cert.ToSibling.nD → PrngReg), Pre_ToSibling m →
    θ_run (Cert.ToSibling.defs (F := Bits)) (onTc (τ := Cert.ToSibling.τ) (Cert.ToSibling.main (F := Bits))) ⟨m, fun _ => 0, g⟩ (fun r => (∀ c : Dev Cert.ToSibling.nD,
      r.2.mem ((c.tc : Thread Cert.ToSibling.nD Cert.ToSibling.τ).loc Cert.ToSibling.main_arg0) = m ((c.tc : Thread Cert.ToSibling.nD Cert.ToSibling.τ).loc Cert.ToSibling.main_arg0)
      ∧ r.2.mem ((c.tc : Thread Cert.ToSibling.nD Cert.ToSibling.τ).loc Cert.ToSibling.main_arg1) = m ((c.tc : Thread Cert.ToSibling.nD Cert.ToSibling.τ).loc Cert.ToSibling.main_arg1)
      ∧ r.2.mem ((c.tc : Thread Cert.ToSibling.nD Cert.ToSibling.τ).loc Cert.ToSibling.main_arg2) = m ((c.tc : Thread Cert.ToSibling.nD Cert.ToSibling.τ).loc Cert.ToSibling.main_arg2))
      ∧ r.2.sem = fun _ => 0)

def quiescent_ToSiblingIdeal [hToSiblingIdeal : Cert.ToSiblingIdeal.Facts] : Prop :=
  ∀ (m : (ℓ : Loc Cert.ToSiblingIdeal.nD Cert.ToSiblingIdeal.τ Cert.ToSiblingIdeal.sig) → Buf (Elt Ideal) ℓ) (g : Dev Cert.ToSiblingIdeal.nD → PrngReg), Pre_ToSiblingIdeal m →
    θ_run (Cert.ToSiblingIdeal.defs (F := Ideal)) (onTc (τ := Cert.ToSiblingIdeal.τ) (Cert.ToSiblingIdeal.main (F := Ideal))) ⟨m, fun _ => 0, g⟩ (fun r => (∀ c : Dev Cert.ToSiblingIdeal.nD,
      r.2.mem ((c.tc : Thread Cert.ToSiblingIdeal.nD Cert.ToSiblingIdeal.τ).loc Cert.ToSiblingIdeal.main_arg0) = m ((c.tc : Thread Cert.ToSiblingIdeal.nD Cert.ToSiblingIdeal.τ).loc Cert.ToSiblingIdeal.main_arg0)
      ∧ r.2.mem ((c.tc : Thread Cert.ToSiblingIdeal.nD Cert.ToSiblingIdeal.τ).loc Cert.ToSiblingIdeal.main_arg1) = m ((c.tc : Thread Cert.ToSiblingIdeal.nD Cert.ToSiblingIdeal.τ).loc Cert.ToSiblingIdeal.main_arg1)
      ∧ r.2.mem ((c.tc : Thread Cert.ToSiblingIdeal.nD Cert.ToSiblingIdeal.τ).loc Cert.ToSiblingIdeal.main_arg2) = m ((c.tc : Thread Cert.ToSiblingIdeal.nD Cert.ToSiblingIdeal.τ).loc Cert.ToSiblingIdeal.main_arg2))
      ∧ r.2.sem = fun _ => 0)

def quiescent_ToSiblingRefIdeal [hToSiblingRefIdeal : Cert.ToSiblingRefIdeal.Facts] : Prop :=
  ∀ (m : (ℓ : Loc Cert.ToSiblingRefIdeal.nD Cert.ToSiblingRefIdeal.τ Cert.ToSiblingRefIdeal.sig) → Buf (Elt Ideal) ℓ) (g : Dev Cert.ToSiblingRefIdeal.nD → PrngReg), Pre_ToSiblingRefIdeal m →
    θ_run (Cert.ToSiblingRefIdeal.defs (F := Ideal)) (onTc (τ := Cert.ToSiblingRefIdeal.τ) (Cert.ToSiblingRefIdeal.main (F := Ideal))) ⟨m, fun _ => 0, g⟩ (fun r => (∀ c : Dev Cert.ToSiblingRefIdeal.nD,
      r.2.mem ((c.tc : Thread Cert.ToSiblingRefIdeal.nD Cert.ToSiblingRefIdeal.τ).loc Cert.ToSiblingRefIdeal.main_arg0) = m ((c.tc : Thread Cert.ToSiblingRefIdeal.nD Cert.ToSiblingRefIdeal.τ).loc Cert.ToSiblingRefIdeal.main_arg0)
      ∧ r.2.mem ((c.tc : Thread Cert.ToSiblingRefIdeal.nD Cert.ToSiblingRefIdeal.τ).loc Cert.ToSiblingRefIdeal.main_arg1) = m ((c.tc : Thread Cert.ToSiblingRefIdeal.nD Cert.ToSiblingRefIdeal.τ).loc Cert.ToSiblingRefIdeal.main_arg1)
      ∧ r.2.mem ((c.tc : Thread Cert.ToSiblingRefIdeal.nD Cert.ToSiblingRefIdeal.τ).loc Cert.ToSiblingRefIdeal.main_arg2) = m ((c.tc : Thread Cert.ToSiblingRefIdeal.nD Cert.ToSiblingRefIdeal.τ).loc Cert.ToSiblingRefIdeal.main_arg2))
      ∧ r.2.sem = fun _ => 0)

def quiescent_ToSiblingRef [hToSiblingRef : Cert.ToSiblingRef.Facts] : Prop :=
  ∀ (m : (ℓ : Loc Cert.ToSiblingRef.nD Cert.ToSiblingRef.τ Cert.ToSiblingRef.sig) → Buf (Elt Bits) ℓ) (g : Dev Cert.ToSiblingRef.nD → PrngReg), Pre_ToSiblingRef m →
    θ_run (Cert.ToSiblingRef.defs (F := Bits)) (onTc (τ := Cert.ToSiblingRef.τ) (Cert.ToSiblingRef.main (F := Bits))) ⟨m, fun _ => 0, g⟩ (fun r => (∀ c : Dev Cert.ToSiblingRef.nD,
      r.2.mem ((c.tc : Thread Cert.ToSiblingRef.nD Cert.ToSiblingRef.τ).loc Cert.ToSiblingRef.main_arg0) = m ((c.tc : Thread Cert.ToSiblingRef.nD Cert.ToSiblingRef.τ).loc Cert.ToSiblingRef.main_arg0)
      ∧ r.2.mem ((c.tc : Thread Cert.ToSiblingRef.nD Cert.ToSiblingRef.τ).loc Cert.ToSiblingRef.main_arg1) = m ((c.tc : Thread Cert.ToSiblingRef.nD Cert.ToSiblingRef.τ).loc Cert.ToSiblingRef.main_arg1)
      ∧ r.2.mem ((c.tc : Thread Cert.ToSiblingRef.nD Cert.ToSiblingRef.τ).loc Cert.ToSiblingRef.main_arg2) = m ((c.tc : Thread Cert.ToSiblingRef.nD Cert.ToSiblingRef.τ).loc Cert.ToSiblingRef.main_arg2))
      ∧ r.2.sem = fun _ => 0)

def quiescent_ToOwner [hToOwner : Cert.ToOwner.Facts] : Prop :=
  ∀ (m : (ℓ : Loc Cert.ToOwner.nD Cert.ToOwner.τ Cert.ToOwner.sig) → Buf (Elt Bits) ℓ) (g : Dev Cert.ToOwner.nD → PrngReg), Pre_ToOwner m →
    θ_run (Cert.ToOwner.defs (F := Bits)) (onTc (τ := Cert.ToOwner.τ) (Cert.ToOwner.main (F := Bits))) ⟨m, fun _ => 0, g⟩ (fun r => (∀ c : Dev Cert.ToOwner.nD,
      r.2.mem ((c.tc : Thread Cert.ToOwner.nD Cert.ToOwner.τ).loc Cert.ToOwner.main_arg0) = m ((c.tc : Thread Cert.ToOwner.nD Cert.ToOwner.τ).loc Cert.ToOwner.main_arg0)
      ∧ r.2.mem ((c.tc : Thread Cert.ToOwner.nD Cert.ToOwner.τ).loc Cert.ToOwner.main_arg1) = m ((c.tc : Thread Cert.ToOwner.nD Cert.ToOwner.τ).loc Cert.ToOwner.main_arg1)
      ∧ r.2.mem ((c.tc : Thread Cert.ToOwner.nD Cert.ToOwner.τ).loc Cert.ToOwner.main_arg2) = m ((c.tc : Thread Cert.ToOwner.nD Cert.ToOwner.τ).loc Cert.ToOwner.main_arg2))
      ∧ r.2.sem = fun _ => 0)

def quiescent_ToOwnerIdeal [hToOwnerIdeal : Cert.ToOwnerIdeal.Facts] : Prop :=
  ∀ (m : (ℓ : Loc Cert.ToOwnerIdeal.nD Cert.ToOwnerIdeal.τ Cert.ToOwnerIdeal.sig) → Buf (Elt Ideal) ℓ) (g : Dev Cert.ToOwnerIdeal.nD → PrngReg), Pre_ToOwnerIdeal m →
    θ_run (Cert.ToOwnerIdeal.defs (F := Ideal)) (onTc (τ := Cert.ToOwnerIdeal.τ) (Cert.ToOwnerIdeal.main (F := Ideal))) ⟨m, fun _ => 0, g⟩ (fun r => (∀ c : Dev Cert.ToOwnerIdeal.nD,
      r.2.mem ((c.tc : Thread Cert.ToOwnerIdeal.nD Cert.ToOwnerIdeal.τ).loc Cert.ToOwnerIdeal.main_arg0) = m ((c.tc : Thread Cert.ToOwnerIdeal.nD Cert.ToOwnerIdeal.τ).loc Cert.ToOwnerIdeal.main_arg0)
      ∧ r.2.mem ((c.tc : Thread Cert.ToOwnerIdeal.nD Cert.ToOwnerIdeal.τ).loc Cert.ToOwnerIdeal.main_arg1) = m ((c.tc : Thread Cert.ToOwnerIdeal.nD Cert.ToOwnerIdeal.τ).loc Cert.ToOwnerIdeal.main_arg1)
      ∧ r.2.mem ((c.tc : Thread Cert.ToOwnerIdeal.nD Cert.ToOwnerIdeal.τ).loc Cert.ToOwnerIdeal.main_arg2) = m ((c.tc : Thread Cert.ToOwnerIdeal.nD Cert.ToOwnerIdeal.τ).loc Cert.ToOwnerIdeal.main_arg2))
      ∧ r.2.sem = fun _ => 0)

def quiescent_ToOwnerRefIdeal [hToOwnerRefIdeal : Cert.ToOwnerRefIdeal.Facts] : Prop :=
  ∀ (m : (ℓ : Loc Cert.ToOwnerRefIdeal.nD Cert.ToOwnerRefIdeal.τ Cert.ToOwnerRefIdeal.sig) → Buf (Elt Ideal) ℓ) (g : Dev Cert.ToOwnerRefIdeal.nD → PrngReg), Pre_ToOwnerRefIdeal m →
    θ_run (Cert.ToOwnerRefIdeal.defs (F := Ideal)) (onTc (τ := Cert.ToOwnerRefIdeal.τ) (Cert.ToOwnerRefIdeal.main (F := Ideal))) ⟨m, fun _ => 0, g⟩ (fun r => (∀ c : Dev Cert.ToOwnerRefIdeal.nD,
      r.2.mem ((c.tc : Thread Cert.ToOwnerRefIdeal.nD Cert.ToOwnerRefIdeal.τ).loc Cert.ToOwnerRefIdeal.main_arg0) = m ((c.tc : Thread Cert.ToOwnerRefIdeal.nD Cert.ToOwnerRefIdeal.τ).loc Cert.ToOwnerRefIdeal.main_arg0)
      ∧ r.2.mem ((c.tc : Thread Cert.ToOwnerRefIdeal.nD Cert.ToOwnerRefIdeal.τ).loc Cert.ToOwnerRefIdeal.main_arg1) = m ((c.tc : Thread Cert.ToOwnerRefIdeal.nD Cert.ToOwnerRefIdeal.τ).loc Cert.ToOwnerRefIdeal.main_arg1)
      ∧ r.2.mem ((c.tc : Thread Cert.ToOwnerRefIdeal.nD Cert.ToOwnerRefIdeal.τ).loc Cert.ToOwnerRefIdeal.main_arg2) = m ((c.tc : Thread Cert.ToOwnerRefIdeal.nD Cert.ToOwnerRefIdeal.τ).loc Cert.ToOwnerRefIdeal.main_arg2))
      ∧ r.2.sem = fun _ => 0)

def quiescent_ToOwnerRef [hToOwnerRef : Cert.ToOwnerRef.Facts] : Prop :=
  ∀ (m : (ℓ : Loc Cert.ToOwnerRef.nD Cert.ToOwnerRef.τ Cert.ToOwnerRef.sig) → Buf (Elt Bits) ℓ) (g : Dev Cert.ToOwnerRef.nD → PrngReg), Pre_ToOwnerRef m →
    θ_run (Cert.ToOwnerRef.defs (F := Bits)) (onTc (τ := Cert.ToOwnerRef.τ) (Cert.ToOwnerRef.main (F := Bits))) ⟨m, fun _ => 0, g⟩ (fun r => (∀ c : Dev Cert.ToOwnerRef.nD,
      r.2.mem ((c.tc : Thread Cert.ToOwnerRef.nD Cert.ToOwnerRef.τ).loc Cert.ToOwnerRef.main_arg0) = m ((c.tc : Thread Cert.ToOwnerRef.nD Cert.ToOwnerRef.τ).loc Cert.ToOwnerRef.main_arg0)
      ∧ r.2.mem ((c.tc : Thread Cert.ToOwnerRef.nD Cert.ToOwnerRef.τ).loc Cert.ToOwnerRef.main_arg1) = m ((c.tc : Thread Cert.ToOwnerRef.nD Cert.ToOwnerRef.τ).loc Cert.ToOwnerRef.main_arg1)
      ∧ r.2.mem ((c.tc : Thread Cert.ToOwnerRef.nD Cert.ToOwnerRef.τ).loc Cert.ToOwnerRef.main_arg2) = m ((c.tc : Thread Cert.ToOwnerRef.nD Cert.ToOwnerRef.τ).loc Cert.ToOwnerRef.main_arg2))
      ∧ r.2.sem = fun _ => 0)

def quiescent_Reduced [hReduced : Cert.Reduced.Facts] : Prop :=
  ∀ (m : (ℓ : Loc Cert.Reduced.nD Cert.Reduced.τ Cert.Reduced.sig) → Buf (Elt Bits) ℓ) (g : Dev Cert.Reduced.nD → PrngReg), Pre_Reduced m →
    θ_run (Cert.Reduced.defs (F := Bits)) (onTc (τ := Cert.Reduced.τ) (Cert.Reduced.main (F := Bits))) ⟨m, fun _ => 0, g⟩ (fun r => (∀ c : Dev Cert.Reduced.nD,
      r.2.mem ((c.tc : Thread Cert.Reduced.nD Cert.Reduced.τ).loc Cert.Reduced.main_arg0) = m ((c.tc : Thread Cert.Reduced.nD Cert.Reduced.τ).loc Cert.Reduced.main_arg0)
      ∧ r.2.mem ((c.tc : Thread Cert.Reduced.nD Cert.Reduced.τ).loc Cert.Reduced.main_arg1) = m ((c.tc : Thread Cert.Reduced.nD Cert.Reduced.τ).loc Cert.Reduced.main_arg1))
      ∧ r.2.sem = fun _ => 0)

def quiescent_ReducedIdeal [hReducedIdeal : Cert.ReducedIdeal.Facts] : Prop :=
  ∀ (m : (ℓ : Loc Cert.ReducedIdeal.nD Cert.ReducedIdeal.τ Cert.ReducedIdeal.sig) → Buf (Elt Ideal) ℓ) (g : Dev Cert.ReducedIdeal.nD → PrngReg), Pre_ReducedIdeal m →
    θ_run (Cert.ReducedIdeal.defs (F := Ideal)) (onTc (τ := Cert.ReducedIdeal.τ) (Cert.ReducedIdeal.main (F := Ideal))) ⟨m, fun _ => 0, g⟩ (fun r => (∀ c : Dev Cert.ReducedIdeal.nD,
      r.2.mem ((c.tc : Thread Cert.ReducedIdeal.nD Cert.ReducedIdeal.τ).loc Cert.ReducedIdeal.main_arg0) = m ((c.tc : Thread Cert.ReducedIdeal.nD Cert.ReducedIdeal.τ).loc Cert.ReducedIdeal.main_arg0)
      ∧ r.2.mem ((c.tc : Thread Cert.ReducedIdeal.nD Cert.ReducedIdeal.τ).loc Cert.ReducedIdeal.main_arg1) = m ((c.tc : Thread Cert.ReducedIdeal.nD Cert.ReducedIdeal.τ).loc Cert.ReducedIdeal.main_arg1))
      ∧ r.2.sem = fun _ => 0)

def quiescent_ReducedRefIdeal [hReducedRefIdeal : Cert.ReducedRefIdeal.Facts] : Prop :=
  ∀ (m : (ℓ : Loc Cert.ReducedRefIdeal.nD Cert.ReducedRefIdeal.τ Cert.ReducedRefIdeal.sig) → Buf (Elt Ideal) ℓ) (g : Dev Cert.ReducedRefIdeal.nD → PrngReg), Pre_ReducedRefIdeal m →
    θ_run (Cert.ReducedRefIdeal.defs (F := Ideal)) (onTc (τ := Cert.ReducedRefIdeal.τ) (Cert.ReducedRefIdeal.main (F := Ideal))) ⟨m, fun _ => 0, g⟩ (fun r => (∀ c : Dev Cert.ReducedRefIdeal.nD,
      r.2.mem ((c.tc : Thread Cert.ReducedRefIdeal.nD Cert.ReducedRefIdeal.τ).loc Cert.ReducedRefIdeal.main_arg0) = m ((c.tc : Thread Cert.ReducedRefIdeal.nD Cert.ReducedRefIdeal.τ).loc Cert.ReducedRefIdeal.main_arg0)
      ∧ r.2.mem ((c.tc : Thread Cert.ReducedRefIdeal.nD Cert.ReducedRefIdeal.τ).loc Cert.ReducedRefIdeal.main_arg1) = m ((c.tc : Thread Cert.ReducedRefIdeal.nD Cert.ReducedRefIdeal.τ).loc Cert.ReducedRefIdeal.main_arg1))
      ∧ r.2.sem = fun _ => 0)

def quiescent_ReducedRef [hReducedRef : Cert.ReducedRef.Facts] : Prop :=
  ∀ (m : (ℓ : Loc Cert.ReducedRef.nD Cert.ReducedRef.τ Cert.ReducedRef.sig) → Buf (Elt Bits) ℓ) (g : Dev Cert.ReducedRef.nD → PrngReg), Pre_ReducedRef m →
    θ_run (Cert.ReducedRef.defs (F := Bits)) (onTc (τ := Cert.ReducedRef.τ) (Cert.ReducedRef.main (F := Bits))) ⟨m, fun _ => 0, g⟩ (fun r => (∀ c : Dev Cert.ReducedRef.nD,
      r.2.mem ((c.tc : Thread Cert.ReducedRef.nD Cert.ReducedRef.τ).loc Cert.ReducedRef.main_arg0) = m ((c.tc : Thread Cert.ReducedRef.nD Cert.ReducedRef.τ).loc Cert.ReducedRef.main_arg0)
      ∧ r.2.mem ((c.tc : Thread Cert.ReducedRef.nD Cert.ReducedRef.τ).loc Cert.ReducedRef.main_arg1) = m ((c.tc : Thread Cert.ReducedRef.nD Cert.ReducedRef.τ).loc Cert.ReducedRef.main_arg1))
      ∧ r.2.sem = fun _ => 0)

def quiescent_ChipA [hChipA : Cert.ChipA.Facts] : Prop :=
  ∀ (m : (ℓ : Loc Cert.ChipA.nD Cert.ChipA.τ Cert.ChipA.sig) → Buf (Elt Bits) ℓ) (g : Dev Cert.ChipA.nD → PrngReg), Pre_ChipA m →
    θ_run (Cert.ChipA.defs (F := Bits)) (onTc (τ := Cert.ChipA.τ) (Cert.ChipA.main (F := Bits))) ⟨m, fun _ => 0, g⟩ (fun r => (∀ c : Dev Cert.ChipA.nD,
      r.2.mem ((c.tc : Thread Cert.ChipA.nD Cert.ChipA.τ).loc Cert.ChipA.main_arg0) = m ((c.tc : Thread Cert.ChipA.nD Cert.ChipA.τ).loc Cert.ChipA.main_arg0)
      ∧ r.2.mem ((c.tc : Thread Cert.ChipA.nD Cert.ChipA.τ).loc Cert.ChipA.main_arg1) = m ((c.tc : Thread Cert.ChipA.nD Cert.ChipA.τ).loc Cert.ChipA.main_arg1)
      ∧ r.2.mem ((c.tc : Thread Cert.ChipA.nD Cert.ChipA.τ).loc Cert.ChipA.main_arg2) = m ((c.tc : Thread Cert.ChipA.nD Cert.ChipA.τ).loc Cert.ChipA.main_arg2))
      ∧ r.2.sem = fun _ => 0)

def quiescent_ChipAIdeal [hChipAIdeal : Cert.ChipAIdeal.Facts] : Prop :=
  ∀ (m : (ℓ : Loc Cert.ChipAIdeal.nD Cert.ChipAIdeal.τ Cert.ChipAIdeal.sig) → Buf (Elt Ideal) ℓ) (g : Dev Cert.ChipAIdeal.nD → PrngReg), Pre_ChipAIdeal m →
    θ_run (Cert.ChipAIdeal.defs (F := Ideal)) (onTc (τ := Cert.ChipAIdeal.τ) (Cert.ChipAIdeal.main (F := Ideal))) ⟨m, fun _ => 0, g⟩ (fun r => (∀ c : Dev Cert.ChipAIdeal.nD,
      r.2.mem ((c.tc : Thread Cert.ChipAIdeal.nD Cert.ChipAIdeal.τ).loc Cert.ChipAIdeal.main_arg0) = m ((c.tc : Thread Cert.ChipAIdeal.nD Cert.ChipAIdeal.τ).loc Cert.ChipAIdeal.main_arg0)
      ∧ r.2.mem ((c.tc : Thread Cert.ChipAIdeal.nD Cert.ChipAIdeal.τ).loc Cert.ChipAIdeal.main_arg1) = m ((c.tc : Thread Cert.ChipAIdeal.nD Cert.ChipAIdeal.τ).loc Cert.ChipAIdeal.main_arg1)
      ∧ r.2.mem ((c.tc : Thread Cert.ChipAIdeal.nD Cert.ChipAIdeal.τ).loc Cert.ChipAIdeal.main_arg2) = m ((c.tc : Thread Cert.ChipAIdeal.nD Cert.ChipAIdeal.τ).loc Cert.ChipAIdeal.main_arg2))
      ∧ r.2.sem = fun _ => 0)

def quiescent_ChipARefIdeal [hChipARefIdeal : Cert.ChipARefIdeal.Facts] : Prop :=
  ∀ (m : (ℓ : Loc Cert.ChipARefIdeal.nD Cert.ChipARefIdeal.τ Cert.ChipARefIdeal.sig) → Buf (Elt Ideal) ℓ) (g : Dev Cert.ChipARefIdeal.nD → PrngReg), Pre_ChipARefIdeal m →
    θ_run (Cert.ChipARefIdeal.defs (F := Ideal)) (onTc (τ := Cert.ChipARefIdeal.τ) (Cert.ChipARefIdeal.main (F := Ideal))) ⟨m, fun _ => 0, g⟩ (fun r => (∀ c : Dev Cert.ChipARefIdeal.nD,
      r.2.mem ((c.tc : Thread Cert.ChipARefIdeal.nD Cert.ChipARefIdeal.τ).loc Cert.ChipARefIdeal.main_arg0) = m ((c.tc : Thread Cert.ChipARefIdeal.nD Cert.ChipARefIdeal.τ).loc Cert.ChipARefIdeal.main_arg0)
      ∧ r.2.mem ((c.tc : Thread Cert.ChipARefIdeal.nD Cert.ChipARefIdeal.τ).loc Cert.ChipARefIdeal.main_arg1) = m ((c.tc : Thread Cert.ChipARefIdeal.nD Cert.ChipARefIdeal.τ).loc Cert.ChipARefIdeal.main_arg1)
      ∧ r.2.mem ((c.tc : Thread Cert.ChipARefIdeal.nD Cert.ChipARefIdeal.τ).loc Cert.ChipARefIdeal.main_arg2) = m ((c.tc : Thread Cert.ChipARefIdeal.nD Cert.ChipARefIdeal.τ).loc Cert.ChipARefIdeal.main_arg2))
      ∧ r.2.sem = fun _ => 0)

def quiescent_ChipARef [hChipARef : Cert.ChipARef.Facts] : Prop :=
  ∀ (m : (ℓ : Loc Cert.ChipARef.nD Cert.ChipARef.τ Cert.ChipARef.sig) → Buf (Elt Bits) ℓ) (g : Dev Cert.ChipARef.nD → PrngReg), Pre_ChipARef m →
    θ_run (Cert.ChipARef.defs (F := Bits)) (onTc (τ := Cert.ChipARef.τ) (Cert.ChipARef.main (F := Bits))) ⟨m, fun _ => 0, g⟩ (fun r => (∀ c : Dev Cert.ChipARef.nD,
      r.2.mem ((c.tc : Thread Cert.ChipARef.nD Cert.ChipARef.τ).loc Cert.ChipARef.main_arg0) = m ((c.tc : Thread Cert.ChipARef.nD Cert.ChipARef.τ).loc Cert.ChipARef.main_arg0)
      ∧ r.2.mem ((c.tc : Thread Cert.ChipARef.nD Cert.ChipARef.τ).loc Cert.ChipARef.main_arg1) = m ((c.tc : Thread Cert.ChipARef.nD Cert.ChipARef.τ).loc Cert.ChipARef.main_arg1)
      ∧ r.2.mem ((c.tc : Thread Cert.ChipARef.nD Cert.ChipARef.τ).loc Cert.ChipARef.main_arg2) = m ((c.tc : Thread Cert.ChipARef.nD Cert.ChipARef.τ).loc Cert.ChipARef.main_arg2))
      ∧ r.2.sem = fun _ => 0)

def quiescent_ChipB [hChipB : Cert.ChipB.Facts] : Prop :=
  ∀ (m : (ℓ : Loc Cert.ChipB.nD Cert.ChipB.τ Cert.ChipB.sig) → Buf (Elt Bits) ℓ) (g : Dev Cert.ChipB.nD → PrngReg), Pre_ChipB m →
    θ_run (Cert.ChipB.defs (F := Bits)) (onTc (τ := Cert.ChipB.τ) (Cert.ChipB.main (F := Bits))) ⟨m, fun _ => 0, g⟩ (fun r => (∀ c : Dev Cert.ChipB.nD,
      r.2.mem ((c.tc : Thread Cert.ChipB.nD Cert.ChipB.τ).loc Cert.ChipB.main_arg0) = m ((c.tc : Thread Cert.ChipB.nD Cert.ChipB.τ).loc Cert.ChipB.main_arg0)
      ∧ r.2.mem ((c.tc : Thread Cert.ChipB.nD Cert.ChipB.τ).loc Cert.ChipB.main_arg1) = m ((c.tc : Thread Cert.ChipB.nD Cert.ChipB.τ).loc Cert.ChipB.main_arg1)
      ∧ r.2.mem ((c.tc : Thread Cert.ChipB.nD Cert.ChipB.τ).loc Cert.ChipB.main_arg2) = m ((c.tc : Thread Cert.ChipB.nD Cert.ChipB.τ).loc Cert.ChipB.main_arg2))
      ∧ r.2.sem = fun _ => 0)

def quiescent_ChipBIdeal [hChipBIdeal : Cert.ChipBIdeal.Facts] : Prop :=
  ∀ (m : (ℓ : Loc Cert.ChipBIdeal.nD Cert.ChipBIdeal.τ Cert.ChipBIdeal.sig) → Buf (Elt Ideal) ℓ) (g : Dev Cert.ChipBIdeal.nD → PrngReg), Pre_ChipBIdeal m →
    θ_run (Cert.ChipBIdeal.defs (F := Ideal)) (onTc (τ := Cert.ChipBIdeal.τ) (Cert.ChipBIdeal.main (F := Ideal))) ⟨m, fun _ => 0, g⟩ (fun r => (∀ c : Dev Cert.ChipBIdeal.nD,
      r.2.mem ((c.tc : Thread Cert.ChipBIdeal.nD Cert.ChipBIdeal.τ).loc Cert.ChipBIdeal.main_arg0) = m ((c.tc : Thread Cert.ChipBIdeal.nD Cert.ChipBIdeal.τ).loc Cert.ChipBIdeal.main_arg0)
      ∧ r.2.mem ((c.tc : Thread Cert.ChipBIdeal.nD Cert.ChipBIdeal.τ).loc Cert.ChipBIdeal.main_arg1) = m ((c.tc : Thread Cert.ChipBIdeal.nD Cert.ChipBIdeal.τ).loc Cert.ChipBIdeal.main_arg1)
      ∧ r.2.mem ((c.tc : Thread Cert.ChipBIdeal.nD Cert.ChipBIdeal.τ).loc Cert.ChipBIdeal.main_arg2) = m ((c.tc : Thread Cert.ChipBIdeal.nD Cert.ChipBIdeal.τ).loc Cert.ChipBIdeal.main_arg2))
      ∧ r.2.sem = fun _ => 0)

def quiescent_ChipBRefIdeal [hChipBRefIdeal : Cert.ChipBRefIdeal.Facts] : Prop :=
  ∀ (m : (ℓ : Loc Cert.ChipBRefIdeal.nD Cert.ChipBRefIdeal.τ Cert.ChipBRefIdeal.sig) → Buf (Elt Ideal) ℓ) (g : Dev Cert.ChipBRefIdeal.nD → PrngReg), Pre_ChipBRefIdeal m →
    θ_run (Cert.ChipBRefIdeal.defs (F := Ideal)) (onTc (τ := Cert.ChipBRefIdeal.τ) (Cert.ChipBRefIdeal.main (F := Ideal))) ⟨m, fun _ => 0, g⟩ (fun r => (∀ c : Dev Cert.ChipBRefIdeal.nD,
      r.2.mem ((c.tc : Thread Cert.ChipBRefIdeal.nD Cert.ChipBRefIdeal.τ).loc Cert.ChipBRefIdeal.main_arg0) = m ((c.tc : Thread Cert.ChipBRefIdeal.nD Cert.ChipBRefIdeal.τ).loc Cert.ChipBRefIdeal.main_arg0)
      ∧ r.2.mem ((c.tc : Thread Cert.ChipBRefIdeal.nD Cert.ChipBRefIdeal.τ).loc Cert.ChipBRefIdeal.main_arg1) = m ((c.tc : Thread Cert.ChipBRefIdeal.nD Cert.ChipBRefIdeal.τ).loc Cert.ChipBRefIdeal.main_arg1)
      ∧ r.2.mem ((c.tc : Thread Cert.ChipBRefIdeal.nD Cert.ChipBRefIdeal.τ).loc Cert.ChipBRefIdeal.main_arg2) = m ((c.tc : Thread Cert.ChipBRefIdeal.nD Cert.ChipBRefIdeal.τ).loc Cert.ChipBRefIdeal.main_arg2))
      ∧ r.2.sem = fun _ => 0)

def quiescent_ChipBRef [hChipBRef : Cert.ChipBRef.Facts] : Prop :=
  ∀ (m : (ℓ : Loc Cert.ChipBRef.nD Cert.ChipBRef.τ Cert.ChipBRef.sig) → Buf (Elt Bits) ℓ) (g : Dev Cert.ChipBRef.nD → PrngReg), Pre_ChipBRef m →
    θ_run (Cert.ChipBRef.defs (F := Bits)) (onTc (τ := Cert.ChipBRef.τ) (Cert.ChipBRef.main (F := Bits))) ⟨m, fun _ => 0, g⟩ (fun r => (∀ c : Dev Cert.ChipBRef.nD,
      r.2.mem ((c.tc : Thread Cert.ChipBRef.nD Cert.ChipBRef.τ).loc Cert.ChipBRef.main_arg0) = m ((c.tc : Thread Cert.ChipBRef.nD Cert.ChipBRef.τ).loc Cert.ChipBRef.main_arg0)
      ∧ r.2.mem ((c.tc : Thread Cert.ChipBRef.nD Cert.ChipBRef.τ).loc Cert.ChipBRef.main_arg1) = m ((c.tc : Thread Cert.ChipBRef.nD Cert.ChipBRef.τ).loc Cert.ChipBRef.main_arg1)
      ∧ r.2.mem ((c.tc : Thread Cert.ChipBRef.nD Cert.ChipBRef.τ).loc Cert.ChipBRef.main_arg2) = m ((c.tc : Thread Cert.ChipBRef.nD Cert.ChipBRef.τ).loc Cert.ChipBRef.main_arg2))
      ∧ r.2.sem = fun _ => 0)

def quiescent_ChipSmall [hChipSmall : Cert.ChipSmall.Facts] : Prop :=
  ∀ (m : (ℓ : Loc Cert.ChipSmall.nD Cert.ChipSmall.τ Cert.ChipSmall.sig) → Buf (Elt Bits) ℓ) (g : Dev Cert.ChipSmall.nD → PrngReg), Pre_ChipSmall m →
    θ_run (Cert.ChipSmall.defs (F := Bits)) (onTc (τ := Cert.ChipSmall.τ) (Cert.ChipSmall.main (F := Bits))) ⟨m, fun _ => 0, g⟩ (fun r => (∀ c : Dev Cert.ChipSmall.nD,
      r.2.mem ((c.tc : Thread Cert.ChipSmall.nD Cert.ChipSmall.τ).loc Cert.ChipSmall.main_arg0) = m ((c.tc : Thread Cert.ChipSmall.nD Cert.ChipSmall.τ).loc Cert.ChipSmall.main_arg0)
      ∧ r.2.mem ((c.tc : Thread Cert.ChipSmall.nD Cert.ChipSmall.τ).loc Cert.ChipSmall.main_arg1) = m ((c.tc : Thread Cert.ChipSmall.nD Cert.ChipSmall.τ).loc Cert.ChipSmall.main_arg1))
      ∧ r.2.sem = fun _ => 0)

def quiescent_ChipSmallIdeal [hChipSmallIdeal : Cert.ChipSmallIdeal.Facts] : Prop :=
  ∀ (m : (ℓ : Loc Cert.ChipSmallIdeal.nD Cert.ChipSmallIdeal.τ Cert.ChipSmallIdeal.sig) → Buf (Elt Ideal) ℓ) (g : Dev Cert.ChipSmallIdeal.nD → PrngReg), Pre_ChipSmallIdeal m →
    θ_run (Cert.ChipSmallIdeal.defs (F := Ideal)) (onTc (τ := Cert.ChipSmallIdeal.τ) (Cert.ChipSmallIdeal.main (F := Ideal))) ⟨m, fun _ => 0, g⟩ (fun r => (∀ c : Dev Cert.ChipSmallIdeal.nD,
      r.2.mem ((c.tc : Thread Cert.ChipSmallIdeal.nD Cert.ChipSmallIdeal.τ).loc Cert.ChipSmallIdeal.main_arg0) = m ((c.tc : Thread Cert.ChipSmallIdeal.nD Cert.ChipSmallIdeal.τ).loc Cert.ChipSmallIdeal.main_arg0)
      ∧ r.2.mem ((c.tc : Thread Cert.ChipSmallIdeal.nD Cert.ChipSmallIdeal.τ).loc Cert.ChipSmallIdeal.main_arg1) = m ((c.tc : Thread Cert.ChipSmallIdeal.nD Cert.ChipSmallIdeal.τ).loc Cert.ChipSmallIdeal.main_arg1))
      ∧ r.2.sem = fun _ => 0)

def quiescent_ChipSmallRefIdeal [hChipSmallRefIdeal : Cert.ChipSmallRefIdeal.Facts] : Prop :=
  ∀ (m : (ℓ : Loc Cert.ChipSmallRefIdeal.nD Cert.ChipSmallRefIdeal.τ Cert.ChipSmallRefIdeal.sig) → Buf (Elt Ideal) ℓ) (g : Dev Cert.ChipSmallRefIdeal.nD → PrngReg), Pre_ChipSmallRefIdeal m →
    θ_run (Cert.ChipSmallRefIdeal.defs (F := Ideal)) (onTc (τ := Cert.ChipSmallRefIdeal.τ) (Cert.ChipSmallRefIdeal.main (F := Ideal))) ⟨m, fun _ => 0, g⟩ (fun r => (∀ c : Dev Cert.ChipSmallRefIdeal.nD,
      r.2.mem ((c.tc : Thread Cert.ChipSmallRefIdeal.nD Cert.ChipSmallRefIdeal.τ).loc Cert.ChipSmallRefIdeal.main_arg0) = m ((c.tc : Thread Cert.ChipSmallRefIdeal.nD Cert.ChipSmallRefIdeal.τ).loc Cert.ChipSmallRefIdeal.main_arg0)
      ∧ r.2.mem ((c.tc : Thread Cert.ChipSmallRefIdeal.nD Cert.ChipSmallRefIdeal.τ).loc Cert.ChipSmallRefIdeal.main_arg1) = m ((c.tc : Thread Cert.ChipSmallRefIdeal.nD Cert.ChipSmallRefIdeal.τ).loc Cert.ChipSmallRefIdeal.main_arg1))
      ∧ r.2.sem = fun _ => 0)

def quiescent_ChipSmallRef [hChipSmallRef : Cert.ChipSmallRef.Facts] : Prop :=
  ∀ (m : (ℓ : Loc Cert.ChipSmallRef.nD Cert.ChipSmallRef.τ Cert.ChipSmallRef.sig) → Buf (Elt Bits) ℓ) (g : Dev Cert.ChipSmallRef.nD → PrngReg), Pre_ChipSmallRef m →
    θ_run (Cert.ChipSmallRef.defs (F := Bits)) (onTc (τ := Cert.ChipSmallRef.τ) (Cert.ChipSmallRef.main (F := Bits))) ⟨m, fun _ => 0, g⟩ (fun r => (∀ c : Dev Cert.ChipSmallRef.nD,
      r.2.mem ((c.tc : Thread Cert.ChipSmallRef.nD Cert.ChipSmallRef.τ).loc Cert.ChipSmallRef.main_arg0) = m ((c.tc : Thread Cert.ChipSmallRef.nD Cert.ChipSmallRef.τ).loc Cert.ChipSmallRef.main_arg0)
      ∧ r.2.mem ((c.tc : Thread Cert.ChipSmallRef.nD Cert.ChipSmallRef.τ).loc Cert.ChipSmallRef.main_arg1) = m ((c.tc : Thread Cert.ChipSmallRef.nD Cert.ChipSmallRef.τ).loc Cert.ChipSmallRef.main_arg1))
      ∧ r.2.sem = fun _ => 0)

def quiescent_SumA [hSumA : Cert.SumA.Facts] : Prop :=
  ∀ (m : (ℓ : Loc Cert.SumA.nD Cert.SumA.τ Cert.SumA.sig) → Buf (Elt Bits) ℓ) (g : Dev Cert.SumA.nD → PrngReg), Pre_SumA m →
    θ_run (Cert.SumA.defs (F := Bits)) (onTc (τ := Cert.SumA.τ) (Cert.SumA.main (F := Bits))) ⟨m, fun _ => 0, g⟩ (fun r => (∀ c : Dev Cert.SumA.nD,
      r.2.mem ((c.tc : Thread Cert.SumA.nD Cert.SumA.τ).loc Cert.SumA.main_arg0) = m ((c.tc : Thread Cert.SumA.nD Cert.SumA.τ).loc Cert.SumA.main_arg0))
      ∧ r.2.sem = fun _ => 0)

def quiescent_SumAIdeal [hSumAIdeal : Cert.SumAIdeal.Facts] : Prop :=
  ∀ (m : (ℓ : Loc Cert.SumAIdeal.nD Cert.SumAIdeal.τ Cert.SumAIdeal.sig) → Buf (Elt Ideal) ℓ) (g : Dev Cert.SumAIdeal.nD → PrngReg), Pre_SumAIdeal m →
    θ_run (Cert.SumAIdeal.defs (F := Ideal)) (onTc (τ := Cert.SumAIdeal.τ) (Cert.SumAIdeal.main (F := Ideal))) ⟨m, fun _ => 0, g⟩ (fun r => (∀ c : Dev Cert.SumAIdeal.nD,
      r.2.mem ((c.tc : Thread Cert.SumAIdeal.nD Cert.SumAIdeal.τ).loc Cert.SumAIdeal.main_arg0) = m ((c.tc : Thread Cert.SumAIdeal.nD Cert.SumAIdeal.τ).loc Cert.SumAIdeal.main_arg0))
      ∧ r.2.sem = fun _ => 0)

def quiescent_SumARefIdeal [hSumARefIdeal : Cert.SumARefIdeal.Facts] : Prop :=
  ∀ (m : (ℓ : Loc Cert.SumARefIdeal.nD Cert.SumARefIdeal.τ Cert.SumARefIdeal.sig) → Buf (Elt Ideal) ℓ) (g : Dev Cert.SumARefIdeal.nD → PrngReg), Pre_SumARefIdeal m →
    θ_run (Cert.SumARefIdeal.defs (F := Ideal)) (onTc (τ := Cert.SumARefIdeal.τ) (Cert.SumARefIdeal.main (F := Ideal))) ⟨m, fun _ => 0, g⟩ (fun r => (∀ c : Dev Cert.SumARefIdeal.nD,
      r.2.mem ((c.tc : Thread Cert.SumARefIdeal.nD Cert.SumARefIdeal.τ).loc Cert.SumARefIdeal.main_arg0) = m ((c.tc : Thread Cert.SumARefIdeal.nD Cert.SumARefIdeal.τ).loc Cert.SumARefIdeal.main_arg0))
      ∧ r.2.sem = fun _ => 0)

def quiescent_SumB [hSumB : Cert.SumB.Facts] : Prop :=
  ∀ (m : (ℓ : Loc Cert.SumB.nD Cert.SumB.τ Cert.SumB.sig) → Buf (Elt Bits) ℓ) (g : Dev Cert.SumB.nD → PrngReg), Pre_SumB m →
    θ_run (Cert.SumB.defs (F := Bits)) (onTc (τ := Cert.SumB.τ) (Cert.SumB.main (F := Bits))) ⟨m, fun _ => 0, g⟩ (fun r => (∀ c : Dev Cert.SumB.nD,
      r.2.mem ((c.tc : Thread Cert.SumB.nD Cert.SumB.τ).loc Cert.SumB.main_arg0) = m ((c.tc : Thread Cert.SumB.nD Cert.SumB.τ).loc Cert.SumB.main_arg0))
      ∧ r.2.sem = fun _ => 0)

def quiescent_SumBIdeal [hSumBIdeal : Cert.SumBIdeal.Facts] : Prop :=
  ∀ (m : (ℓ : Loc Cert.SumBIdeal.nD Cert.SumBIdeal.τ Cert.SumBIdeal.sig) → Buf (Elt Ideal) ℓ) (g : Dev Cert.SumBIdeal.nD → PrngReg), Pre_SumBIdeal m →
    θ_run (Cert.SumBIdeal.defs (F := Ideal)) (onTc (τ := Cert.SumBIdeal.τ) (Cert.SumBIdeal.main (F := Ideal))) ⟨m, fun _ => 0, g⟩ (fun r => (∀ c : Dev Cert.SumBIdeal.nD,
      r.2.mem ((c.tc : Thread Cert.SumBIdeal.nD Cert.SumBIdeal.τ).loc Cert.SumBIdeal.main_arg0) = m ((c.tc : Thread Cert.SumBIdeal.nD Cert.SumBIdeal.τ).loc Cert.SumBIdeal.main_arg0))
      ∧ r.2.sem = fun _ => 0)

def quiescent_SumBRefIdeal [hSumBRefIdeal : Cert.SumBRefIdeal.Facts] : Prop :=
  ∀ (m : (ℓ : Loc Cert.SumBRefIdeal.nD Cert.SumBRefIdeal.τ Cert.SumBRefIdeal.sig) → Buf (Elt Ideal) ℓ) (g : Dev Cert.SumBRefIdeal.nD → PrngReg), Pre_SumBRefIdeal m →
    θ_run (Cert.SumBRefIdeal.defs (F := Ideal)) (onTc (τ := Cert.SumBRefIdeal.τ) (Cert.SumBRefIdeal.main (F := Ideal))) ⟨m, fun _ => 0, g⟩ (fun r => (∀ c : Dev Cert.SumBRefIdeal.nD,
      r.2.mem ((c.tc : Thread Cert.SumBRefIdeal.nD Cert.SumBRefIdeal.τ).loc Cert.SumBRefIdeal.main_arg0) = m ((c.tc : Thread Cert.SumBRefIdeal.nD Cert.SumBRefIdeal.τ).loc Cert.SumBRefIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamShard [hAdamShard : Cert.AdamShard.Facts] : Prop :=
  ∀ (m : (ℓ : Loc Cert.AdamShard.nD Cert.AdamShard.τ Cert.AdamShard.sig) → Buf (Elt Bits) ℓ) (g : Dev Cert.AdamShard.nD → PrngReg), Pre_AdamShard m →
    θ_run (Cert.AdamShard.defs (F := Bits)) (onTc (τ := Cert.AdamShard.τ) (Cert.AdamShard.main (F := Bits))) ⟨m, fun _ => 0, g⟩ (fun r => (∀ c : Dev Cert.AdamShard.nD,
      r.2.mem ((c.tc : Thread Cert.AdamShard.nD Cert.AdamShard.τ).loc Cert.AdamShard.main_arg0) = m ((c.tc : Thread Cert.AdamShard.nD Cert.AdamShard.τ).loc Cert.AdamShard.main_arg0)
      ∧ r.2.mem ((c.tc : Thread Cert.AdamShard.nD Cert.AdamShard.τ).loc Cert.AdamShard.main_arg1) = m ((c.tc : Thread Cert.AdamShard.nD Cert.AdamShard.τ).loc Cert.AdamShard.main_arg1)
      ∧ r.2.mem ((c.tc : Thread Cert.AdamShard.nD Cert.AdamShard.τ).loc Cert.AdamShard.main_arg2) = m ((c.tc : Thread Cert.AdamShard.nD Cert.AdamShard.τ).loc Cert.AdamShard.main_arg2)
      ∧ r.2.mem ((c.tc : Thread Cert.AdamShard.nD Cert.AdamShard.τ).loc Cert.AdamShard.main_arg3) = m ((c.tc : Thread Cert.AdamShard.nD Cert.AdamShard.τ).loc Cert.AdamShard.main_arg3))
      ∧ r.2.sem = fun _ => 0)

def quiescent_AdamShardIdeal [hAdamShardIdeal : Cert.AdamShardIdeal.Facts] : Prop :=
  ∀ (m : (ℓ : Loc Cert.AdamShardIdeal.nD Cert.AdamShardIdeal.τ Cert.AdamShardIdeal.sig) → Buf (Elt Ideal) ℓ) (g : Dev Cert.AdamShardIdeal.nD → PrngReg), Pre_AdamShardIdeal m →
    θ_run (Cert.AdamShardIdeal.defs (F := Ideal)) (onTc (τ := Cert.AdamShardIdeal.τ) (Cert.AdamShardIdeal.main (F := Ideal))) ⟨m, fun _ => 0, g⟩ (fun r => (∀ c : Dev Cert.AdamShardIdeal.nD,
      r.2.mem ((c.tc : Thread Cert.AdamShardIdeal.nD Cert.AdamShardIdeal.τ).loc Cert.AdamShardIdeal.main_arg0) = m ((c.tc : Thread Cert.AdamShardIdeal.nD Cert.AdamShardIdeal.τ).loc Cert.AdamShardIdeal.main_arg0)
      ∧ r.2.mem ((c.tc : Thread Cert.AdamShardIdeal.nD Cert.AdamShardIdeal.τ).loc Cert.AdamShardIdeal.main_arg1) = m ((c.tc : Thread Cert.AdamShardIdeal.nD Cert.AdamShardIdeal.τ).loc Cert.AdamShardIdeal.main_arg1)
      ∧ r.2.mem ((c.tc : Thread Cert.AdamShardIdeal.nD Cert.AdamShardIdeal.τ).loc Cert.AdamShardIdeal.main_arg2) = m ((c.tc : Thread Cert.AdamShardIdeal.nD Cert.AdamShardIdeal.τ).loc Cert.AdamShardIdeal.main_arg2)
      ∧ r.2.mem ((c.tc : Thread Cert.AdamShardIdeal.nD Cert.AdamShardIdeal.τ).loc Cert.AdamShardIdeal.main_arg3) = m ((c.tc : Thread Cert.AdamShardIdeal.nD Cert.AdamShardIdeal.τ).loc Cert.AdamShardIdeal.main_arg3))
      ∧ r.2.sem = fun _ => 0)

def quiescent_AdamShardRefIdeal [hAdamShardRefIdeal : Cert.AdamShardRefIdeal.Facts] : Prop :=
  ∀ (m : (ℓ : Loc Cert.AdamShardRefIdeal.nD Cert.AdamShardRefIdeal.τ Cert.AdamShardRefIdeal.sig) → Buf (Elt Ideal) ℓ) (g : Dev Cert.AdamShardRefIdeal.nD → PrngReg), Pre_AdamShardRefIdeal m →
    θ_run (Cert.AdamShardRefIdeal.defs (F := Ideal)) (onTc (τ := Cert.AdamShardRefIdeal.τ) (Cert.AdamShardRefIdeal.main (F := Ideal))) ⟨m, fun _ => 0, g⟩ (fun r => (∀ c : Dev Cert.AdamShardRefIdeal.nD,
      r.2.mem ((c.tc : Thread Cert.AdamShardRefIdeal.nD Cert.AdamShardRefIdeal.τ).loc Cert.AdamShardRefIdeal.main_arg0) = m ((c.tc : Thread Cert.AdamShardRefIdeal.nD Cert.AdamShardRefIdeal.τ).loc Cert.AdamShardRefIdeal.main_arg0)
      ∧ r.2.mem ((c.tc : Thread Cert.AdamShardRefIdeal.nD Cert.AdamShardRefIdeal.τ).loc Cert.AdamShardRefIdeal.main_arg1) = m ((c.tc : Thread Cert.AdamShardRefIdeal.nD Cert.AdamShardRefIdeal.τ).loc Cert.AdamShardRefIdeal.main_arg1)
      ∧ r.2.mem ((c.tc : Thread Cert.AdamShardRefIdeal.nD Cert.AdamShardRefIdeal.τ).loc Cert.AdamShardRefIdeal.main_arg2) = m ((c.tc : Thread Cert.AdamShardRefIdeal.nD Cert.AdamShardRefIdeal.τ).loc Cert.AdamShardRefIdeal.main_arg2)
      ∧ r.2.mem ((c.tc : Thread Cert.AdamShardRefIdeal.nD Cert.AdamShardRefIdeal.τ).loc Cert.AdamShardRefIdeal.main_arg3) = m ((c.tc : Thread Cert.AdamShardRefIdeal.nD Cert.AdamShardRefIdeal.τ).loc Cert.AdamShardRefIdeal.main_arg3))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_LayerEnd [hLayerEnd : Cert.LayerEnd.Facts] : Prop :=
  ∀ (m : (ℓ : Loc Cert.LayerEnd.nD Cert.LayerEnd.τ Cert.LayerEnd.sig) → Buf (Elt Bits) ℓ) (g : Dev Cert.LayerEnd.nD → PrngReg), Pre_LayerEnd m →
    θ_run (Cert.LayerEnd.defs (F := Bits)) (onTc (τ := Cert.LayerEnd.τ) (Cert.LayerEnd.main (F := Bits))) ⟨m, fun _ => 0, g⟩ (fun r => (∀ c : Dev Cert.LayerEnd.nD,
      r.2.mem ((c.tc : Thread Cert.LayerEnd.nD Cert.LayerEnd.τ).loc Cert.LayerEnd.main_arg0) = m ((c.tc : Thread Cert.LayerEnd.nD Cert.LayerEnd.τ).loc Cert.LayerEnd.main_arg0)
      ∧ r.2.mem ((c.tc : Thread Cert.LayerEnd.nD Cert.LayerEnd.τ).loc Cert.LayerEnd.main_arg1) = m ((c.tc : Thread Cert.LayerEnd.nD Cert.LayerEnd.τ).loc Cert.LayerEnd.main_arg1)
      ∧ r.2.mem ((c.tc : Thread Cert.LayerEnd.nD Cert.LayerEnd.τ).loc Cert.LayerEnd.main_arg2) = m ((c.tc : Thread Cert.LayerEnd.nD Cert.LayerEnd.τ).loc Cert.LayerEnd.main_arg2)
      ∧ r.2.mem ((c.tc : Thread Cert.LayerEnd.nD Cert.LayerEnd.τ).loc Cert.LayerEnd.main_arg3) = m ((c.tc : Thread Cert.LayerEnd.nD Cert.LayerEnd.τ).loc Cert.LayerEnd.main_arg3)
      ∧ r.2.mem ((c.tc : Thread Cert.LayerEnd.nD Cert.LayerEnd.τ).loc Cert.LayerEnd.main_arg4) = m ((c.tc : Thread Cert.LayerEnd.nD Cert.LayerEnd.τ).loc Cert.LayerEnd.main_arg4)
      ∧ r.2.mem ((c.tc : Thread Cert.LayerEnd.nD Cert.LayerEnd.τ).loc Cert.LayerEnd.main_arg5) = m ((c.tc : Thread Cert.LayerEnd.nD Cert.LayerEnd.τ).loc Cert.LayerEnd.main_arg5)
      ∧ r.2.mem ((c.tc : Thread Cert.LayerEnd.nD Cert.LayerEnd.τ).loc Cert.LayerEnd.main_arg6) = m ((c.tc : Thread Cert.LayerEnd.nD Cert.LayerEnd.τ).loc Cert.LayerEnd.main_arg6))
      ∧ r.2.sem = fun _ => 0)

def quiescent_LayerEndIdeal [hLayerEndIdeal : Cert.LayerEndIdeal.Facts] : Prop :=
  ∀ (m : (ℓ : Loc Cert.LayerEndIdeal.nD Cert.LayerEndIdeal.τ Cert.LayerEndIdeal.sig) → Buf (Elt Ideal) ℓ) (g : Dev Cert.LayerEndIdeal.nD → PrngReg), Pre_LayerEndIdeal m →
    θ_run (Cert.LayerEndIdeal.defs (F := Ideal)) (onTc (τ := Cert.LayerEndIdeal.τ) (Cert.LayerEndIdeal.main (F := Ideal))) ⟨m, fun _ => 0, g⟩ (fun r => (∀ c : Dev Cert.LayerEndIdeal.nD,
      r.2.mem ((c.tc : Thread Cert.LayerEndIdeal.nD Cert.LayerEndIdeal.τ).loc Cert.LayerEndIdeal.main_arg0) = m ((c.tc : Thread Cert.LayerEndIdeal.nD Cert.LayerEndIdeal.τ).loc Cert.LayerEndIdeal.main_arg0)
      ∧ r.2.mem ((c.tc : Thread Cert.LayerEndIdeal.nD Cert.LayerEndIdeal.τ).loc Cert.LayerEndIdeal.main_arg1) = m ((c.tc : Thread Cert.LayerEndIdeal.nD Cert.LayerEndIdeal.τ).loc Cert.LayerEndIdeal.main_arg1)
      ∧ r.2.mem ((c.tc : Thread Cert.LayerEndIdeal.nD Cert.LayerEndIdeal.τ).loc Cert.LayerEndIdeal.main_arg2) = m ((c.tc : Thread Cert.LayerEndIdeal.nD Cert.LayerEndIdeal.τ).loc Cert.LayerEndIdeal.main_arg2)
      ∧ r.2.mem ((c.tc : Thread Cert.LayerEndIdeal.nD Cert.LayerEndIdeal.τ).loc Cert.LayerEndIdeal.main_arg3) = m ((c.tc : Thread Cert.LayerEndIdeal.nD Cert.LayerEndIdeal.τ).loc Cert.LayerEndIdeal.main_arg3)
      ∧ r.2.mem ((c.tc : Thread Cert.LayerEndIdeal.nD Cert.LayerEndIdeal.τ).loc Cert.LayerEndIdeal.main_arg4) = m ((c.tc : Thread Cert.LayerEndIdeal.nD Cert.LayerEndIdeal.τ).loc Cert.LayerEndIdeal.main_arg4)
      ∧ r.2.mem ((c.tc : Thread Cert.LayerEndIdeal.nD Cert.LayerEndIdeal.τ).loc Cert.LayerEndIdeal.main_arg5) = m ((c.tc : Thread Cert.LayerEndIdeal.nD Cert.LayerEndIdeal.τ).loc Cert.LayerEndIdeal.main_arg5)
      ∧ r.2.mem ((c.tc : Thread Cert.LayerEndIdeal.nD Cert.LayerEndIdeal.τ).loc Cert.LayerEndIdeal.main_arg6) = m ((c.tc : Thread Cert.LayerEndIdeal.nD Cert.LayerEndIdeal.τ).loc Cert.LayerEndIdeal.main_arg6))
      ∧ r.2.sem = fun _ => 0)

def quiescent_LayerEndRefIdeal [hLayerEndRefIdeal : Cert.LayerEndRefIdeal.Facts] : Prop :=
  ∀ (m : (ℓ : Loc Cert.LayerEndRefIdeal.nD Cert.LayerEndRefIdeal.τ Cert.LayerEndRefIdeal.sig) → Buf (Elt Ideal) ℓ) (g : Dev Cert.LayerEndRefIdeal.nD → PrngReg), Pre_LayerEndRefIdeal m →
    θ_run (Cert.LayerEndRefIdeal.defs (F := Ideal)) (onTc (τ := Cert.LayerEndRefIdeal.τ) (Cert.LayerEndRefIdeal.main (F := Ideal))) ⟨m, fun _ => 0, g⟩ (fun r => (∀ c : Dev Cert.LayerEndRefIdeal.nD,
      r.2.mem ((c.tc : Thread Cert.LayerEndRefIdeal.nD Cert.LayerEndRefIdeal.τ).loc Cert.LayerEndRefIdeal.main_arg0) = m ((c.tc : Thread Cert.LayerEndRefIdeal.nD Cert.LayerEndRefIdeal.τ).loc Cert.LayerEndRefIdeal.main_arg0)
      ∧ r.2.mem ((c.tc : Thread Cert.LayerEndRefIdeal.nD Cert.LayerEndRefIdeal.τ).loc Cert.LayerEndRefIdeal.main_arg1) = m ((c.tc : Thread Cert.LayerEndRefIdeal.nD Cert.LayerEndRefIdeal.τ).loc Cert.LayerEndRefIdeal.main_arg1)
      ∧ r.2.mem ((c.tc : Thread Cert.LayerEndRefIdeal.nD Cert.LayerEndRefIdeal.τ).loc Cert.LayerEndRefIdeal.main_arg2) = m ((c.tc : Thread Cert.LayerEndRefIdeal.nD Cert.LayerEndRefIdeal.τ).loc Cert.LayerEndRefIdeal.main_arg2)
      ∧ r.2.mem ((c.tc : Thread Cert.LayerEndRefIdeal.nD Cert.LayerEndRefIdeal.τ).loc Cert.LayerEndRefIdeal.main_arg3) = m ((c.tc : Thread Cert.LayerEndRefIdeal.nD Cert.LayerEndRefIdeal.τ).loc Cert.LayerEndRefIdeal.main_arg3)
      ∧ r.2.mem ((c.tc : Thread Cert.LayerEndRefIdeal.nD Cert.LayerEndRefIdeal.τ).loc Cert.LayerEndRefIdeal.main_arg4) = m ((c.tc : Thread Cert.LayerEndRefIdeal.nD Cert.LayerEndRefIdeal.τ).loc Cert.LayerEndRefIdeal.main_arg4)
      ∧ r.2.mem ((c.tc : Thread Cert.LayerEndRefIdeal.nD Cert.LayerEndRefIdeal.τ).loc Cert.LayerEndRefIdeal.main_arg5) = m ((c.tc : Thread Cert.LayerEndRefIdeal.nD Cert.LayerEndRefIdeal.τ).loc Cert.LayerEndRefIdeal.main_arg5)
      ∧ r.2.mem ((c.tc : Thread Cert.LayerEndRefIdeal.nD Cert.LayerEndRefIdeal.τ).loc Cert.LayerEndRefIdeal.main_arg6) = m ((c.tc : Thread Cert.LayerEndRefIdeal.nD Cert.LayerEndRefIdeal.τ).loc Cert.LayerEndRefIdeal.main_arg6))
      ∧ r.2.sem = fun _ => 0)

def quiescent_OutProjBwd [hOutProjBwd : Cert.OutProjBwd.Facts] : Prop :=
  ∀ (m : (ℓ : Loc Cert.OutProjBwd.nD Cert.OutProjBwd.τ Cert.OutProjBwd.sig) → Buf (Elt Bits) ℓ) (g : Dev Cert.OutProjBwd.nD → PrngReg), Pre_OutProjBwd m →
    θ_run (Cert.OutProjBwd.defs (F := Bits)) (onTc (τ := Cert.OutProjBwd.τ) (Cert.OutProjBwd.main (F := Bits))) ⟨m, fun _ => 0, g⟩ (fun r => (∀ c : Dev Cert.OutProjBwd.nD,
      r.2.mem ((c.tc : Thread Cert.OutProjBwd.nD Cert.OutProjBwd.τ).loc Cert.OutProjBwd.main_arg0) = m ((c.tc : Thread Cert.OutProjBwd.nD Cert.OutProjBwd.τ).loc Cert.OutProjBwd.main_arg0)
      ∧ r.2.mem ((c.tc : Thread Cert.OutProjBwd.nD Cert.OutProjBwd.τ).loc Cert.OutProjBwd.main_arg1) = m ((c.tc : Thread Cert.OutProjBwd.nD Cert.OutProjBwd.τ).loc Cert.OutProjBwd.main_arg1)
      ∧ r.2.mem ((c.tc : Thread Cert.OutProjBwd.nD Cert.OutProjBwd.τ).loc Cert.OutProjBwd.main_arg2) = m ((c.tc : Thread Cert.OutProjBwd.nD Cert.OutProjBwd.τ).loc Cert.OutProjBwd.main_arg2)
      ∧ r.2.mem ((c.tc : Thread Cert.OutProjBwd.nD Cert.OutProjBwd.τ).loc Cert.OutProjBwd.main_arg3) = m ((c.tc : Thread Cert.OutProjBwd.nD Cert.OutProjBwd.τ).loc Cert.OutProjBwd.main_arg3)
      ∧ r.2.mem ((c.tc : Thread Cert.OutProjBwd.nD Cert.OutProjBwd.τ).loc Cert.OutProjBwd.main_arg4) = m ((c.tc : Thread Cert.OutProjBwd.nD Cert.OutProjBwd.τ).loc Cert.OutProjBwd.main_arg4)
      ∧ r.2.mem ((c.tc : Thread Cert.OutProjBwd.nD Cert.OutProjBwd.τ).loc Cert.OutProjBwd.main_arg5) = m ((c.tc : Thread Cert.OutProjBwd.nD Cert.OutProjBwd.τ).loc Cert.OutProjBwd.main_arg5)
      ∧ r.2.mem ((c.tc : Thread Cert.OutProjBwd.nD Cert.OutProjBwd.τ).loc Cert.OutProjBwd.main_arg6) = m ((c.tc : Thread Cert.OutProjBwd.nD Cert.OutProjBwd.τ).loc Cert.OutProjBwd.main_arg6))
      ∧ r.2.sem = fun _ => 0)

def quiescent_OutProjBwdIdeal [hOutProjBwdIdeal : Cert.OutProjBwdIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
      ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2)
      ∧ r.2.mem ((c.tc : Thread Cert.OutProjBwdIdeal.nD Cert.OutProjBwdIdeal.τ).loc Cert.OutProjBwdIdeal.main_arg3) = m ((c.tc : Thread Cert.OutProjBwdIdeal.nD Cert.OutProjBwdIdeal.τ).loc Cert.OutProjBwdIdeal.main_arg3)
      ∧ r.2.mem ((c.tc : Thread Cert.OutProjBwdIdeal.nD Cert.OutProjBwdIdeal.τ).loc Cert.OutProjBwdIdeal.main_arg4) = m ((c.tc : Thread Cert.OutProjBwdIdeal.nD Cert.OutProjBwdIdeal.τ).loc Cert.OutProjBwdIdeal.main_arg4)
      ∧ r.2.mem ((c.tc : Thread Cert.OutProjBwdIdeal.nD Cert.OutProjBwdIdeal.τ).loc Cert.OutProjBwdIdeal.main_arg5) = m ((c.tc : Thread Cert.OutProjBwdIdeal.nD Cert.OutProjBwdIdeal.τ).loc Cert.OutProjBwdIdeal.main_arg5)
      ∧ r.2.mem ((c.tc : Thread Cert.OutProjBwdIdeal.nD Cert.OutProjBwdIdeal.τ).loc Cert.OutProjBwdIdeal.main_arg6) = m ((c.tc : Thread Cert.OutProjBwdIdeal.nD Cert.OutProjBwdIdeal.τ).loc Cert.OutProjBwdIdeal.main_arg6))
      ∧ r.2.sem = fun _ => 0)

def quiescent_OutProjBwdRefIdeal [hOutProjBwdRefIdeal : Cert.OutProjBwdRefIdeal.Facts] : Prop :=
  ∀ (m : (ℓ : Loc Cert.OutProjBwdRefIdeal.nD Cert.OutProjBwdRefIdeal.τ Cert.OutProjBwdRefIdeal.sig) → Buf (Elt Ideal) ℓ) (g : Dev Cert.OutProjBwdRefIdeal.nD → PrngReg), Pre_OutProjBwdRefIdeal m →
    θ_run (Cert.OutProjBwdRefIdeal.defs (F := Ideal)) (onTc (τ := Cert.OutProjBwdRefIdeal.τ) (Cert.OutProjBwdRefIdeal.main (F := Ideal))) ⟨m, fun _ => 0, g⟩ (fun r => (∀ c : Dev Cert.OutProjBwdRefIdeal.nD,
      r.2.mem ((c.tc : Thread Cert.OutProjBwdRefIdeal.nD Cert.OutProjBwdRefIdeal.τ).loc Cert.OutProjBwdRefIdeal.main_arg0) = m ((c.tc : Thread Cert.OutProjBwdRefIdeal.nD Cert.OutProjBwdRefIdeal.τ).loc Cert.OutProjBwdRefIdeal.main_arg0)
      ∧ r.2.mem ((c.tc : Thread Cert.OutProjBwdRefIdeal.nD Cert.OutProjBwdRefIdeal.τ).loc Cert.OutProjBwdRefIdeal.main_arg1) = m ((c.tc : Thread Cert.OutProjBwdRefIdeal.nD Cert.OutProjBwdRefIdeal.τ).loc Cert.OutProjBwdRefIdeal.main_arg1)
      ∧ r.2.mem ((c.tc : Thread Cert.OutProjBwdRefIdeal.nD Cert.OutProjBwdRefIdeal.τ).loc Cert.OutProjBwdRefIdeal.main_arg2) = m ((c.tc : Thread Cert.OutProjBwdRefIdeal.nD Cert.OutProjBwdRefIdeal.τ).loc Cert.OutProjBwdRefIdeal.main_arg2)
      ∧ r.2.mem ((c.tc : Thread Cert.OutProjBwdRefIdeal.nD Cert.OutProjBwdRefIdeal.τ).loc Cert.OutProjBwdRefIdeal.main_arg3) = m ((c.tc : Thread Cert.OutProjBwdRefIdeal.nD Cert.OutProjBwdRefIdeal.τ).loc Cert.OutProjBwdRefIdeal.main_arg3)
      ∧ r.2.mem ((c.tc : Thread Cert.OutProjBwdRefIdeal.nD Cert.OutProjBwdRefIdeal.τ).loc Cert.OutProjBwdRefIdeal.main_arg4) = m ((c.tc : Thread Cert.OutProjBwdRefIdeal.nD Cert.OutProjBwdRefIdeal.τ).loc Cert.OutProjBwdRefIdeal.main_arg4)
      ∧ r.2.mem ((c.tc : Thread Cert.OutProjBwdRefIdeal.nD Cert.OutProjBwdRefIdeal.τ).loc Cert.OutProjBwdRefIdeal.main_arg5) = m ((c.tc : Thread Cert.OutProjBwdRefIdeal.nD Cert.OutProjBwdRefIdeal.τ).loc Cert.OutProjBwdRefIdeal.main_arg5)
      ∧ r.2.mem ((c.tc : Thread Cert.OutProjBwdRefIdeal.nD Cert.OutProjBwdRefIdeal.τ).loc Cert.OutProjBwdRefIdeal.main_arg6) = m ((c.tc : Thread Cert.OutProjBwdRefIdeal.nD Cert.OutProjBwdRefIdeal.τ).loc Cert.OutProjBwdRefIdeal.main_arg6))
      ∧ r.2.sem = fun _ => 0)

def quiescent_MulZ [hMulZ : Cert.MulZ.Facts] : Prop :=
  ∀ (m : (ℓ : Loc Cert.MulZ.nD Cert.MulZ.τ Cert.MulZ.sig) → Buf (Elt Bits) ℓ) (g : Dev Cert.MulZ.nD → PrngReg), Pre_MulZ m →
    θ_run (Cert.MulZ.defs (F := Bits)) (onTc (τ := Cert.MulZ.τ) (Cert.MulZ.main (F := Bits))) ⟨m, fun _ => 0, g⟩ (fun r => (∀ c : Dev Cert.MulZ.nD,
      r.2.mem ((c.tc : Thread Cert.MulZ.nD Cert.MulZ.τ).loc Cert.MulZ.main_arg0) = m ((c.tc : Thread Cert.MulZ.nD Cert.MulZ.τ).loc Cert.MulZ.main_arg0)
      ∧ r.2.mem ((c.tc : Thread Cert.MulZ.nD Cert.MulZ.τ).loc Cert.MulZ.main_arg1) = m ((c.tc : Thread Cert.MulZ.nD Cert.MulZ.τ).loc Cert.MulZ.main_arg1))
      ∧ r.2.sem = fun _ => 0)

def quiescent_MulZIdeal [hMulZIdeal : Cert.MulZIdeal.Facts] : Prop :=
  ∀ (m : (ℓ : Loc Cert.MulZIdeal.nD Cert.MulZIdeal.τ Cert.MulZIdeal.sig) → Buf (Elt Ideal) ℓ) (g : Dev Cert.MulZIdeal.nD → PrngReg), Pre_MulZIdeal m →
    θ_run (Cert.MulZIdeal.defs (F := Ideal)) (onTc (τ := Cert.MulZIdeal.τ) (Cert.MulZIdeal.main (F := Ideal))) ⟨m, fun _ => 0, g⟩ (fun r => (∀ c : Dev Cert.MulZIdeal.nD,
      r.2.mem ((c.tc : Thread Cert.MulZIdeal.nD Cert.MulZIdeal.τ).loc Cert.MulZIdeal.main_arg0) = m ((c.tc : Thread Cert.MulZIdeal.nD Cert.MulZIdeal.τ).loc Cert.MulZIdeal.main_arg0)
      ∧ r.2.mem ((c.tc : Thread Cert.MulZIdeal.nD Cert.MulZIdeal.τ).loc Cert.MulZIdeal.main_arg1) = m ((c.tc : Thread Cert.MulZIdeal.nD Cert.MulZIdeal.τ).loc Cert.MulZIdeal.main_arg1))
      ∧ r.2.sem = fun _ => 0)

def quiescent_MulZRefIdeal [hMulZRefIdeal : Cert.MulZRefIdeal.Facts] : Prop :=
  ∀ (m : (ℓ : Loc Cert.MulZRefIdeal.nD Cert.MulZRefIdeal.τ Cert.MulZRefIdeal.sig) → Buf (Elt Ideal) ℓ) (g : Dev Cert.MulZRefIdeal.nD → PrngReg), Pre_MulZRefIdeal m →
    θ_run (Cert.MulZRefIdeal.defs (F := Ideal)) (onTc (τ := Cert.MulZRefIdeal.τ) (Cert.MulZRefIdeal.main (F := Ideal))) ⟨m, fun _ => 0, g⟩ (fun r => (∀ c : Dev Cert.MulZRefIdeal.nD,
      r.2.mem ((c.tc : Thread Cert.MulZRefIdeal.nD Cert.MulZRefIdeal.τ).loc Cert.MulZRefIdeal.main_arg0) = m ((c.tc : Thread Cert.MulZRefIdeal.nD Cert.MulZRefIdeal.τ).loc Cert.MulZRefIdeal.main_arg0)
      ∧ r.2.mem ((c.tc : Thread Cert.MulZRefIdeal.nD Cert.MulZRefIdeal.τ).loc Cert.MulZRefIdeal.main_arg1) = m ((c.tc : Thread Cert.MulZRefIdeal.nD Cert.MulZRefIdeal.τ).loc Cert.MulZRefIdeal.main_arg1))
      ∧ r.2.sem = fun _ => 0)

def quiescent_MulDh [hMulDh : Cert.MulDh.Facts] : Prop :=
  ∀ (m : (ℓ : Loc Cert.MulDh.nD Cert.MulDh.τ Cert.MulDh.sig) → Buf (Elt Bits) ℓ) (g : Dev Cert.MulDh.nD → PrngReg), Pre_MulDh m →
    θ_run (Cert.MulDh.defs (F := Bits)) (onTc (τ := Cert.MulDh.τ) (Cert.MulDh.main (F := Bits))) ⟨m, fun _ => 0, g⟩ (fun r => (∀ c : Dev Cert.MulDh.nD,
      r.2.mem ((c.tc : Thread Cert.MulDh.nD Cert.MulDh.τ).loc Cert.MulDh.main_arg0) = m ((c.tc : Thread Cert.MulDh.nD Cert.MulDh.τ).loc Cert.MulDh.main_arg0)
      ∧ r.2.mem ((c.tc : Thread Cert.MulDh.nD Cert.MulDh.τ).loc Cert.MulDh.main_arg1) = m ((c.tc : Thread Cert.MulDh.nD Cert.MulDh.τ).loc Cert.MulDh.main_arg1))
      ∧ r.2.sem = fun _ => 0)

def quiescent_MulDhIdeal [hMulDhIdeal : Cert.MulDhIdeal.Facts] : Prop :=
  ∀ (m : (ℓ : Loc Cert.MulDhIdeal.nD Cert.MulDhIdeal.τ Cert.MulDhIdeal.sig) → Buf (Elt Ideal) ℓ) (g : Dev Cert.MulDhIdeal.nD → PrngReg), Pre_MulDhIdeal m →
    θ_run (Cert.MulDhIdeal.defs (F := Ideal)) (onTc (τ := Cert.MulDhIdeal.τ) (Cert.MulDhIdeal.main (F := Ideal))) ⟨m, fun _ => 0, g⟩ (fun r => (∀ c : Dev Cert.MulDhIdeal.nD,
      r.2.mem ((c.tc : Thread Cert.MulDhIdeal.nD Cert.MulDhIdeal.τ).loc Cert.MulDhIdeal.main_arg0) = m ((c.tc : Thread Cert.MulDhIdeal.nD Cert.MulDhIdeal.τ).loc Cert.MulDhIdeal.main_arg0)
      ∧ r.2.mem ((c.tc : Thread Cert.MulDhIdeal.nD Cert.MulDhIdeal.τ).loc Cert.MulDhIdeal.main_arg1) = m ((c.tc : Thread Cert.MulDhIdeal.nD Cert.MulDhIdeal.τ).loc Cert.MulDhIdeal.main_arg1))
      ∧ r.2.sem = fun _ => 0)

def quiescent_MulDhRefIdeal [hMulDhRefIdeal : Cert.MulDhRefIdeal.Facts] : Prop :=
  ∀ (m : (ℓ : Loc Cert.MulDhRefIdeal.nD Cert.MulDhRefIdeal.τ Cert.MulDhRefIdeal.sig) → Buf (Elt Ideal) ℓ) (g : Dev Cert.MulDhRefIdeal.nD → PrngReg), Pre_MulDhRefIdeal m →
    θ_run (Cert.MulDhRefIdeal.defs (F := Ideal)) (onTc (τ := Cert.MulDhRefIdeal.τ) (Cert.MulDhRefIdeal.main (F := Ideal))) ⟨m, fun _ => 0, g⟩ (fun r => (∀ c : Dev Cert.MulDhRefIdeal.nD,
      r.2.mem ((c.tc : Thread Cert.MulDhRefIdeal.nD Cert.MulDhRefIdeal.τ).loc Cert.MulDhRefIdeal.main_arg0) = m ((c.tc : Thread Cert.MulDhRefIdeal.nD Cert.MulDhRefIdeal.τ).loc Cert.MulDhRefIdeal.main_arg0)
      ∧ r.2.mem ((c.tc : Thread Cert.MulDhRefIdeal.nD Cert.MulDhRefIdeal.τ).loc Cert.MulDhRefIdeal.main_arg1) = m ((c.tc : Thread Cert.MulDhRefIdeal.nD Cert.MulDhRefIdeal.τ).loc Cert.MulDhRefIdeal.main_arg1))
      ∧ r.2.sem = fun _ => 0)

def quiescent_MulDwIn [hMulDwIn : Cert.MulDwIn.Facts] : Prop :=
  ∀ (m : (ℓ : Loc Cert.MulDwIn.nD Cert.MulDwIn.τ Cert.MulDwIn.sig) → Buf (Elt Bits) ℓ) (g : Dev Cert.MulDwIn.nD → PrngReg), Pre_MulDwIn m →
    θ_run (Cert.MulDwIn.defs (F := Bits)) (onTc (τ := Cert.MulDwIn.τ) (Cert.MulDwIn.main (F := Bits))) ⟨m, fun _ => 0, g⟩ (fun r => (∀ c : Dev Cert.MulDwIn.nD,
      r.2.mem ((c.tc : Thread Cert.MulDwIn.nD Cert.MulDwIn.τ).loc Cert.MulDwIn.main_arg0) = m ((c.tc : Thread Cert.MulDwIn.nD Cert.MulDwIn.τ).loc Cert.MulDwIn.main_arg0)
      ∧ r.2.mem ((c.tc : Thread Cert.MulDwIn.nD Cert.MulDwIn.τ).loc Cert.MulDwIn.main_arg1) = m ((c.tc : Thread Cert.MulDwIn.nD Cert.MulDwIn.τ).loc Cert.MulDwIn.main_arg1))
      ∧ r.2.sem = fun _ => 0)

def quiescent_MulDwInIdeal [hMulDwInIdeal : Cert.MulDwInIdeal.Facts] : Prop :=
  ∀ (m : (ℓ : Loc Cert.MulDwInIdeal.nD Cert.MulDwInIdeal.τ Cert.MulDwInIdeal.sig) → Buf (Elt Ideal) ℓ) (g : Dev Cert.MulDwInIdeal.nD → PrngReg), Pre_MulDwInIdeal m →
    θ_run (Cert.MulDwInIdeal.defs (F := Ideal)) (onTc (τ := Cert.MulDwInIdeal.τ) (Cert.MulDwInIdeal.main (F := Ideal))) ⟨m, fun _ => 0, g⟩ (fun r => (∀ c : Dev Cert.MulDwInIdeal.nD,
      r.2.mem ((c.tc : Thread Cert.MulDwInIdeal.nD Cert.MulDwInIdeal.τ).loc Cert.MulDwInIdeal.main_arg0) = m ((c.tc : Thread Cert.MulDwInIdeal.nD Cert.MulDwInIdeal.τ).loc Cert.MulDwInIdeal.main_arg0)
      ∧ r.2.mem ((c.tc : Thread Cert.MulDwInIdeal.nD Cert.MulDwInIdeal.τ).loc Cert.MulDwInIdeal.main_arg1) = m ((c.tc : Thread Cert.MulDwInIdeal.nD Cert.MulDwInIdeal.τ).loc Cert.MulDwInIdeal.main_arg1))
      ∧ r.2.sem = fun _ => 0)

def quiescent_MulDwInRefIdeal [hMulDwInRefIdeal : Cert.MulDwInRefIdeal.Facts] : Prop :=
  ∀ (m : (ℓ : Loc Cert.MulDwInRefIdeal.nD Cert.MulDwInRefIdeal.τ Cert.MulDwInRefIdeal.sig) → Buf (Elt Ideal) ℓ) (g : Dev Cert.MulDwInRefIdeal.nD → PrngReg), Pre_MulDwInRefIdeal m →
    θ_run (Cert.MulDwInRefIdeal.defs (F := Ideal)) (onTc (τ := Cert.MulDwInRefIdeal.τ) (Cert.MulDwInRefIdeal.main (F := Ideal))) ⟨m, fun _ => 0, g⟩ (fun r => (∀ c : Dev Cert.MulDwInRefIdeal.nD,
      r.2.mem ((c.tc : Thread Cert.MulDwInRefIdeal.nD Cert.MulDwInRefIdeal.τ).loc Cert.MulDwInRefIdeal.main_arg0) = m ((c.tc : Thread Cert.MulDwInRefIdeal.nD Cert.MulDwInRefIdeal.τ).loc Cert.MulDwInRefIdeal.main_arg0)
      ∧ r.2.mem ((c.tc : Thread Cert.MulDwInRefIdeal.nD Cert.MulDwInRefIdeal.τ).loc Cert.MulDwInRefIdeal.main_arg1) = m ((c.tc : Thread Cert.MulDwInRefIdeal.nD Cert.MulDwInRefIdeal.τ).loc Cert.MulDwInRefIdeal.main_arg1))
      ∧ r.2.sem = fun _ => 0)

def quiescent_MulDwOut [hMulDwOut : Cert.MulDwOut.Facts] : Prop :=
  ∀ (m : (ℓ : Loc Cert.MulDwOut.nD Cert.MulDwOut.τ Cert.MulDwOut.sig) → Buf (Elt Bits) ℓ) (g : Dev Cert.MulDwOut.nD → PrngReg), Pre_MulDwOut m →
    θ_run (Cert.MulDwOut.defs (F := Bits)) (onTc (τ := Cert.MulDwOut.τ) (Cert.MulDwOut.main (F := Bits))) ⟨m, fun _ => 0, g⟩ (fun r => (∀ c : Dev Cert.MulDwOut.nD,
      r.2.mem ((c.tc : Thread Cert.MulDwOut.nD Cert.MulDwOut.τ).loc Cert.MulDwOut.main_arg0) = m ((c.tc : Thread Cert.MulDwOut.nD Cert.MulDwOut.τ).loc Cert.MulDwOut.main_arg0)
      ∧ r.2.mem ((c.tc : Thread Cert.MulDwOut.nD Cert.MulDwOut.τ).loc Cert.MulDwOut.main_arg1) = m ((c.tc : Thread Cert.MulDwOut.nD Cert.MulDwOut.τ).loc Cert.MulDwOut.main_arg1))
      ∧ r.2.sem = fun _ => 0)

def quiescent_MulDwOutIdeal [hMulDwOutIdeal : Cert.MulDwOutIdeal.Facts] : Prop :=
  ∀ (m : (ℓ : Loc Cert.MulDwOutIdeal.nD Cert.MulDwOutIdeal.τ Cert.MulDwOutIdeal.sig) → Buf (Elt Ideal) ℓ) (g : Dev Cert.MulDwOutIdeal.nD → PrngReg), Pre_MulDwOutIdeal m →
    θ_run (Cert.MulDwOutIdeal.defs (F := Ideal)) (onTc (τ := Cert.MulDwOutIdeal.τ) (Cert.MulDwOutIdeal.main (F := Ideal))) ⟨m, fun _ => 0, g⟩ (fun r => (∀ c : Dev Cert.MulDwOutIdeal.nD,
      r.2.mem ((c.tc : Thread Cert.MulDwOutIdeal.nD Cert.MulDwOutIdeal.τ).loc Cert.MulDwOutIdeal.main_arg0) = m ((c.tc : Thread Cert.MulDwOutIdeal.nD Cert.MulDwOutIdeal.τ).loc Cert.MulDwOutIdeal.main_arg0)
      ∧ r.2.mem ((c.tc : Thread Cert.MulDwOutIdeal.nD Cert.MulDwOutIdeal.τ).loc Cert.MulDwOutIdeal.main_arg1) = m ((c.tc : Thread Cert.MulDwOutIdeal.nD Cert.MulDwOutIdeal.τ).loc Cert.MulDwOutIdeal.main_arg1))
      ∧ r.2.sem = fun _ => 0)

def quiescent_MulDwOutRefIdeal [hMulDwOutRefIdeal : Cert.MulDwOutRefIdeal.Facts] : Prop :=
  ∀ (m : (ℓ : Loc Cert.MulDwOutRefIdeal.nD Cert.MulDwOutRefIdeal.τ Cert.MulDwOutRefIdeal.sig) → Buf (Elt Ideal) ℓ) (g : Dev Cert.MulDwOutRefIdeal.nD → PrngReg), Pre_MulDwOutRefIdeal m →
    θ_run (Cert.MulDwOutRefIdeal.defs (F := Ideal)) (onTc (τ := Cert.MulDwOutRefIdeal.τ) (Cert.MulDwOutRefIdeal.main (F := Ideal))) ⟨m, fun _ => 0, g⟩ (fun r => (∀ c : Dev Cert.MulDwOutRefIdeal.nD,
      r.2.mem ((c.tc : Thread Cert.MulDwOutRefIdeal.nD Cert.MulDwOutRefIdeal.τ).loc Cert.MulDwOutRefIdeal.main_arg0) = m ((c.tc : Thread Cert.MulDwOutRefIdeal.nD Cert.MulDwOutRefIdeal.τ).loc Cert.MulDwOutRefIdeal.main_arg0)
      ∧ r.2.mem ((c.tc : Thread Cert.MulDwOutRefIdeal.nD Cert.MulDwOutRefIdeal.τ).loc Cert.MulDwOutRefIdeal.main_arg1) = m ((c.tc : Thread Cert.MulDwOutRefIdeal.nD Cert.MulDwOutRefIdeal.τ).loc Cert.MulDwOutRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![2, 1544, 2048]⟩ ⟨3, ![2, 6176, 2048]⟩ (Layout.meshBlock [2, 2, 2] ![[], [0, 1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨3, ![2, 512, 2048]⟩ ⟨3, ![2, 2048, 2048]⟩ (Layout.meshBlock [2, 2, 2] ![[], [0, 1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 64, 128]⟩ ⟨3, ![2, 256, 128]⟩ (Layout.meshBlock [2, 2, 2] ![[], [0, 1], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v3)) (v2 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v3) = v1
          ∧ r.2.mem (((0 : Dev Cert.ReferenceIdeal.nD).tc : Thread Cert.ReferenceIdeal.nD Cert.ReferenceIdeal.τ).loc Cert.ReferenceIdeal.main_v5) = v2
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![2, 1544, 2048]⟩ ⟨3, ![2, 6176, 2048]⟩ (Layout.meshBlock [2, 2, 2] ![[], [0, 1], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.blockN ⟨3, ![2, 512, 2048]⟩ ⟨3, ![2, 2048, 2048]⟩ (Layout.meshBlock [2, 2, 2] ![[], [0, 1], []] c) (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.blockN ⟨3, ![2, 64, 128]⟩ ⟨3, ![2, 256, 128]⟩ (Layout.meshBlock [2, 2, 2] ![[], [0, 1], []] c) (m' (((0 : Dev Cert.Reference.nD).tc : Thread Cert.Reference.nD Cert.Reference.τ).loc Cert.Reference.main_arg2))) →
    ∃ (v0 : Buf (Elt Bits) (((0 : Dev Cert.Reference.nD).tc : Thread Cert.Reference.nD Cert.Reference.τ).loc Cert.Reference.main_v1)) (v1 : Buf (Elt Bits) (((0 : Dev Cert.Reference.nD).tc : Thread Cert.Reference.nD Cert.Reference.τ).loc Cert.Reference.main_v3)) (v2 : Buf (Elt Bits) (((0 : Dev Cert.Reference.nD).tc : Thread Cert.Reference.nD Cert.Reference.τ).loc Cert.Reference.main_v5)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = v1
          ∧ r.2.mem ((c.tc : Thread Cert.Kernel.nD Cert.Kernel.τ).loc Cert.Kernel.main_v1_2) = v2
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v1) = v0
          ∧ r.2.mem (((0 : Dev Cert.Reference.nD).tc : Thread Cert.Reference.nD Cert.Reference.τ).loc Cert.Reference.main_v3) = v1
          ∧ r.2.mem (((0 : Dev Cert.Reference.nD).tc : Thread Cert.Reference.nD Cert.Reference.τ).loc Cert.Reference.main_v5) = v2
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2))

def preserves_ToSibling_ToSiblingIdeal : Prop :=
  True

def algebraic_ToSiblingIdeal_ToSiblingRefIdeal [hToSiblingIdeal : Cert.ToSiblingIdeal.Facts] [hToSiblingRefIdeal : Cert.ToSiblingRefIdeal.Facts] : Prop :=
  ∀ (m : (ℓ : Loc Cert.ToSiblingIdeal.nD Cert.ToSiblingIdeal.τ Cert.ToSiblingIdeal.sig) → Buf (Elt Ideal) ℓ) (g : Dev Cert.ToSiblingIdeal.nD → PrngReg)
    (m' : (ℓ : Loc Cert.ToSiblingRefIdeal.nD Cert.ToSiblingRefIdeal.τ Cert.ToSiblingRefIdeal.sig) → Buf (Elt Ideal) ℓ) (g' : Dev Cert.ToSiblingRefIdeal.nD → PrngReg), Pre_ToSiblingIdeal m →
    (∀ c : Dev Cert.ToSiblingIdeal.nD,
      m ((c.tc : Thread Cert.ToSiblingIdeal.nD Cert.ToSiblingIdeal.τ).loc Cert.ToSiblingIdeal.main_arg0) = Layout.block ⟨4, ![2, 4, 1544, 2048]⟩ ⟨4, ![16, 4, 1544, 2048]⟩ 0 8 c (m' (((0 : Dev Cert.ToSiblingRefIdeal.nD).tc : Thread Cert.ToSiblingRefIdeal.nD Cert.ToSiblingRefIdeal.τ).loc Cert.ToSiblingRefIdeal.main_arg0))
      ∧ m ((c.tc : Thread Cert.ToSiblingIdeal.nD Cert.ToSiblingIdeal.τ).loc Cert.ToSiblingIdeal.main_arg1) = Layout.block ⟨4, ![2, 4, 512, 2048]⟩ ⟨4, ![16, 4, 512, 2048]⟩ 0 8 c (m' (((0 : Dev Cert.ToSiblingRefIdeal.nD).tc : Thread Cert.ToSiblingRefIdeal.nD Cert.ToSiblingRefIdeal.τ).loc Cert.ToSiblingRefIdeal.main_arg1))
      ∧ m ((c.tc : Thread Cert.ToSiblingIdeal.nD Cert.ToSiblingIdeal.τ).loc Cert.ToSiblingIdeal.main_arg2) = Layout.block ⟨2, ![1560, 128]⟩ ⟨2, ![12480, 128]⟩ 0 8 c (m' (((0 : Dev Cert.ToSiblingRefIdeal.nD).tc : Thread Cert.ToSiblingRefIdeal.nD Cert.ToSiblingRefIdeal.τ).loc Cert.ToSiblingRefIdeal.main_arg2))) →
    ∃ (v0 : Buf (Elt Ideal) (((0 : Dev Cert.ToSiblingRefIdeal.nD).tc : Thread Cert.ToSiblingRefIdeal.nD Cert.ToSiblingRefIdeal.τ).loc Cert.ToSiblingRefIdeal.main_v9)) (v1 : Buf (Elt Ideal) (((0 : Dev Cert.ToSiblingRefIdeal.nD).tc : Thread Cert.ToSiblingRefIdeal.nD Cert.ToSiblingRefIdeal.τ).loc Cert.ToSiblingRefIdeal.main_v18)) (v2 : Buf (Elt Ideal) (((0 : Dev Cert.ToSiblingRefIdeal.nD).tc : Thread Cert.ToSiblingRefIdeal.nD Cert.ToSiblingRefIdeal.τ).loc Cert.ToSiblingRefIdeal.main_v26)),
      θ_run (Cert.ToSiblingIdeal.defs (F := Ideal)) (onTc (τ := Cert.ToSiblingIdeal.τ) (Cert.ToSiblingIdeal.main (F := Ideal))) ⟨m, fun _ => 0, g⟩ (fun r => ∀ c : Dev Cert.ToSiblingIdeal.nD,
          r.2.mem ((c.tc : Thread Cert.ToSiblingIdeal.nD Cert.ToSiblingIdeal.τ).loc Cert.ToSiblingIdeal.main_v1_0) = Layout.block ⟨3, ![4, 1544, 2048]⟩ ⟨3, ![32, 1544, 2048]⟩ 0 8 c v0
          ∧ r.2.mem ((c.tc : Thread Cert.ToSiblingIdeal.nD Cert.ToSiblingIdeal.τ).loc Cert.ToSiblingIdeal.main_v1_1) = Layout.block ⟨3, ![4, 512, 2048]⟩ ⟨3, ![32, 512, 2048]⟩ 0 8 c v1
          ∧ r.2.mem ((c.tc : Thread Cert.ToSiblingIdeal.nD Cert.ToSiblingIdeal.τ).loc Cert.ToSiblingIdeal.main_v1_2) = Layout.block ⟨2, ![1560, 128]⟩ ⟨2, ![12480, 128]⟩ 0 8 c v2
          ∧ r.2.mem ((c.tc : Thread Cert.ToSiblingIdeal.nD Cert.ToSiblingIdeal.τ).loc Cert.ToSiblingIdeal.main_arg0) = m ((c.tc : Thread Cert.ToSiblingIdeal.nD Cert.ToSiblingIdeal.τ).loc Cert.ToSiblingIdeal.main_arg0)
          ∧ r.2.mem ((c.tc : Thread Cert.ToSiblingIdeal.nD Cert.ToSiblingIdeal.τ).loc Cert.ToSiblingIdeal.main_arg1) = m ((c.tc : Thread Cert.ToSiblingIdeal.nD Cert.ToSiblingIdeal.τ).loc Cert.ToSiblingIdeal.main_arg1)
          ∧ r.2.mem ((c.tc : Thread Cert.ToSiblingIdeal.nD Cert.ToSiblingIdeal.τ).loc Cert.ToSiblingIdeal.main_arg2) = m ((c.tc : Thread Cert.ToSiblingIdeal.nD Cert.ToSiblingIdeal.τ).loc Cert.ToSiblingIdeal.main_arg2))
      ∧ θ_run (Cert.ToSiblingRefIdeal.defs (F := Ideal)) (onTc (τ := Cert.ToSiblingRefIdeal.τ) (Cert.ToSiblingRefIdeal.main (F := Ideal))) ⟨m', fun _ => 0, g'⟩ (fun r =>
          r.2.mem (((0 : Dev Cert.ToSiblingRefIdeal.nD).tc : Thread Cert.ToSiblingRefIdeal.nD Cert.ToSiblingRefIdeal.τ).loc Cert.ToSiblingRefIdeal.main_v9) = v0
          ∧ r.2.mem (((0 : Dev Cert.ToSiblingRefIdeal.nD).tc : Thread Cert.ToSiblingRefIdeal.nD Cert.ToSiblingRefIdeal.τ).loc Cert.ToSiblingRefIdeal.main_v18) = v1
          ∧ r.2.mem (((0 : Dev Cert.ToSiblingRefIdeal.nD).tc : Thread Cert.ToSiblingRefIdeal.nD Cert.ToSiblingRefIdeal.τ).loc Cert.ToSiblingRefIdeal.main_v26) = v2
          ∧ r.2.mem (((0 : Dev Cert.ToSiblingRefIdeal.nD).tc : Thread Cert.ToSiblingRefIdeal.nD Cert.ToSiblingRefIdeal.τ).loc Cert.ToSiblingRefIdeal.main_arg0) = m' (((0 : Dev Cert.ToSiblingRefIdeal.nD).tc : Thread Cert.ToSiblingRefIdeal.nD Cert.ToSiblingRefIdeal.τ).loc Cert.ToSiblingRefIdeal.main_arg0)
          ∧ r.2.mem (((0 : Dev Cert.ToSiblingRefIdeal.nD).tc : Thread Cert.ToSiblingRefIdeal.nD Cert.ToSiblingRefIdeal.τ).loc Cert.ToSiblingRefIdeal.main_arg1) = m' (((0 : Dev Cert.ToSiblingRefIdeal.nD).tc : Thread Cert.ToSiblingRefIdeal.nD Cert.ToSiblingRefIdeal.τ).loc Cert.ToSiblingRefIdeal.main_arg1)
          ∧ r.2.mem (((0 : Dev Cert.ToSiblingRefIdeal.nD).tc : Thread Cert.ToSiblingRefIdeal.nD Cert.ToSiblingRefIdeal.τ).loc Cert.ToSiblingRefIdeal.main_arg2) = m' (((0 : Dev Cert.ToSiblingRefIdeal.nD).tc : Thread Cert.ToSiblingRefIdeal.nD Cert.ToSiblingRefIdeal.τ).loc Cert.ToSiblingRefIdeal.main_arg2))

def bitexact_ToSibling_ToSiblingRef [hToSibling : Cert.ToSibling.Facts] [hToSiblingRef : Cert.ToSiblingRef.Facts] : Prop :=
  ∀ (m : (ℓ : Loc Cert.ToSibling.nD Cert.ToSibling.τ Cert.ToSibling.sig) → Buf (Elt Bits) ℓ) (g : Dev Cert.ToSibling.nD → PrngReg)
    (m' : (ℓ : Loc Cert.ToSiblingRef.nD Cert.ToSiblingRef.τ Cert.ToSiblingRef.sig) → Buf (Elt Bits) ℓ) (g' : Dev Cert.ToSiblingRef.nD → PrngReg), Pre_ToSibling m →
    (∀ c : Dev Cert.ToSibling.nD,
      m ((c.tc : Thread Cert.ToSibling.nD Cert.ToSibling.τ).loc Cert.ToSibling.main_arg0) = Layout.block ⟨4, ![2, 4, 1544, 2048]⟩ ⟨4, ![16, 4, 1544, 2048]⟩ 0 8 c (m' (((0 : Dev Cert.ToSiblingRef.nD).tc : Thread Cert.ToSiblingRef.nD Cert.ToSiblingRef.τ).loc Cert.ToSiblingRef.main_arg0))
      ∧ m ((c.tc : Thread Cert.ToSibling.nD Cert.ToSibling.τ).loc Cert.ToSibling.main_arg1) = Layout.block ⟨4, ![2, 4, 512, 2048]⟩ ⟨4, ![16, 4, 512, 2048]⟩ 0 8 c (m' (((0 : Dev Cert.ToSiblingRef.nD).tc : Thread Cert.ToSiblingRef.nD Cert.ToSiblingRef.τ).loc Cert.ToSiblingRef.main_arg1))
      ∧ m ((c.tc : Thread Cert.ToSibling.nD Cert.ToSibling.τ).loc Cert.ToSibling.main_arg2) = Layout.block ⟨2, ![1560, 128]⟩ ⟨2, ![12480, 128]⟩ 0 8 c (m' (((0 : Dev Cert.ToSiblingRef.nD).tc : Thread Cert.ToSiblingRef.nD Cert.ToSiblingRef.τ).loc Cert.ToSiblingRef.main_arg2))) →
    ∃ (v0 : Buf (Elt Bits) (((0 : Dev Cert.ToSiblingRef.nD).tc : Thread Cert.ToSiblingRef.nD Cert.ToSiblingRef.τ).loc Cert.ToSiblingRef.main_v9)) (v1 : Buf (Elt Bits) (((0 : Dev Cert.ToSiblingRef.nD).tc : Thread Cert.ToSiblingRef.nD Cert.ToSiblingRef.τ).loc Cert.ToSiblingRef.main_v18)) (v2 : Buf (Elt Bits) (((0 : Dev Cert.ToSiblingRef.nD).tc : Thread Cert.ToSiblingRef.nD Cert.ToSiblingRef.τ).loc Cert.ToSiblingRef.main_v26)),
      θ_run (Cert.ToSibling.defs (F := Bits)) (onTc (τ := Cert.ToSibling.τ) (Cert.ToSibling.main (F := Bits))) ⟨m, fun _ => 0, g⟩ (fun r => ∀ c : Dev Cert.ToSibling.nD,
          r.2.mem ((c.tc : Thread Cert.ToSibling.nD Cert.ToSibling.τ).loc Cert.ToSibling.main_v1_0) = Layout.block ⟨3, ![4, 1544, 2048]⟩ ⟨3, ![32, 1544, 2048]⟩ 0 8 c v0
          ∧ r.2.mem ((c.tc : Thread Cert.ToSibling.nD Cert.ToSibling.τ).loc Cert.ToSibling.main_v1_1) = Layout.block ⟨3, ![4, 512, 2048]⟩ ⟨3, ![32, 512, 2048]⟩ 0 8 c v1
          ∧ r.2.mem ((c.tc : Thread Cert.ToSibling.nD Cert.ToSibling.τ).loc Cert.ToSibling.main_v1_2) = Layout.block ⟨2, ![1560, 128]⟩ ⟨2, ![12480, 128]⟩ 0 8 c v2
          ∧ r.2.mem ((c.tc : Thread Cert.ToSibling.nD Cert.ToSibling.τ).loc Cert.ToSibling.main_arg0) = m ((c.tc : Thread Cert.ToSibling.nD Cert.ToSibling.τ).loc Cert.ToSibling.main_arg0)
          ∧ r.2.mem ((c.tc : Thread Cert.ToSibling.nD Cert.ToSibling.τ).loc Cert.ToSibling.main_arg1) = m ((c.tc : Thread Cert.ToSibling.nD Cert.ToSibling.τ).loc Cert.ToSibling.main_arg1)
          ∧ r.2.mem ((c.tc : Thread Cert.ToSibling.nD Cert.ToSibling.τ).loc Cert.ToSibling.main_arg2) = m ((c.tc : Thread Cert.ToSibling.nD Cert.ToSibling.τ).loc Cert.ToSibling.main_arg2))
      ∧ θ_run (Cert.ToSiblingRef.defs (F := Bits)) (onTc (τ := Cert.ToSiblingRef.τ) (Cert.ToSiblingRef.main (F := Bits))) ⟨m', fun _ => 0, g'⟩ (fun r =>
          r.2.mem (((0 : Dev Cert.ToSiblingRef.nD).tc : Thread Cert.ToSiblingRef.nD Cert.ToSiblingRef.τ).loc Cert.ToSiblingRef.main_v9) = v0
          ∧ r.2.mem (((0 : Dev Cert.ToSiblingRef.nD).tc : Thread Cert.ToSiblingRef.nD Cert.ToSiblingRef.τ).loc Cert.ToSiblingRef.main_v18) = v1
          ∧ r.2.mem (((0 : Dev Cert.ToSiblingRef.nD).tc : Thread Cert.ToSiblingRef.nD Cert.ToSiblingRef.τ).loc Cert.ToSiblingRef.main_v26) = v2
          ∧ r.2.mem (((0 : Dev Cert.ToSiblingRef.nD).tc : Thread Cert.ToSiblingRef.nD Cert.ToSiblingRef.τ).loc Cert.ToSiblingRef.main_arg0) = m' (((0 : Dev Cert.ToSiblingRef.nD).tc : Thread Cert.ToSiblingRef.nD Cert.ToSiblingRef.τ).loc Cert.ToSiblingRef.main_arg0)
          ∧ r.2.mem (((0 : Dev Cert.ToSiblingRef.nD).tc : Thread Cert.ToSiblingRef.nD Cert.ToSiblingRef.τ).loc Cert.ToSiblingRef.main_arg1) = m' (((0 : Dev Cert.ToSiblingRef.nD).tc : Thread Cert.ToSiblingRef.nD Cert.ToSiblingRef.τ).loc Cert.ToSiblingRef.main_arg1)
          ∧ r.2.mem (((0 : Dev Cert.ToSiblingRef.nD).tc : Thread Cert.ToSiblingRef.nD Cert.ToSiblingRef.τ).loc Cert.ToSiblingRef.main_arg2) = m' (((0 : Dev Cert.ToSiblingRef.nD).tc : Thread Cert.ToSiblingRef.nD Cert.ToSiblingRef.τ).loc Cert.ToSiblingRef.main_arg2))

def preserves_ToOwner_ToOwnerIdeal : Prop :=
  True

def algebraic_ToOwnerIdeal_ToOwnerRefIdeal [hToOwnerIdeal : Cert.ToOwnerIdeal.Facts] [hToOwnerRefIdeal : Cert.ToOwnerRefIdeal.Facts] : Prop :=
  ∀ (m : (ℓ : Loc Cert.ToOwnerIdeal.nD Cert.ToOwnerIdeal.τ Cert.ToOwnerIdeal.sig) → Buf (Elt Ideal) ℓ) (g : Dev Cert.ToOwnerIdeal.nD → PrngReg)
    (m' : (ℓ : Loc Cert.ToOwnerRefIdeal.nD Cert.ToOwnerRefIdeal.τ Cert.ToOwnerRefIdeal.sig) → Buf (Elt Ideal) ℓ) (g' : Dev Cert.ToOwnerRefIdeal.nD → PrngReg), Pre_ToOwnerIdeal m →
    (∀ c : Dev Cert.ToOwnerIdeal.nD,
      m ((c.tc : Thread Cert.ToOwnerIdeal.nD Cert.ToOwnerIdeal.τ).loc Cert.ToOwnerIdeal.main_arg0) = Layout.block ⟨3, ![4, 1544, 2048]⟩ ⟨3, ![32, 1544, 2048]⟩ 0 8 c (m' (((0 : Dev Cert.ToOwnerRefIdeal.nD).tc : Thread Cert.ToOwnerRefIdeal.nD Cert.ToOwnerRefIdeal.τ).loc Cert.ToOwnerRefIdeal.main_arg0))
      ∧ m ((c.tc : Thread Cert.ToOwnerIdeal.nD Cert.ToOwnerIdeal.τ).loc Cert.ToOwnerIdeal.main_arg1) = Layout.block ⟨3, ![4, 512, 2048]⟩ ⟨3, ![32, 512, 2048]⟩ 0 8 c (m' (((0 : Dev Cert.ToOwnerRefIdeal.nD).tc : Thread Cert.ToOwnerRefIdeal.nD Cert.ToOwnerRefIdeal.τ).loc Cert.ToOwnerRefIdeal.main_arg1))
      ∧ m ((c.tc : Thread Cert.ToOwnerIdeal.nD Cert.ToOwnerIdeal.τ).loc Cert.ToOwnerIdeal.main_arg2) = Layout.block ⟨2, ![1560, 128]⟩ ⟨2, ![12480, 128]⟩ 0 8 c (m' (((0 : Dev Cert.ToOwnerRefIdeal.nD).tc : Thread Cert.ToOwnerRefIdeal.nD Cert.ToOwnerRefIdeal.τ).loc Cert.ToOwnerRefIdeal.main_arg2))) →
    ∃ (v0 : Buf (Elt Ideal) (((0 : Dev Cert.ToOwnerRefIdeal.nD).tc : Thread Cert.ToOwnerRefIdeal.nD Cert.ToOwnerRefIdeal.τ).loc Cert.ToOwnerRefIdeal.main_v4)) (v1 : Buf (Elt Ideal) (((0 : Dev Cert.ToOwnerRefIdeal.nD).tc : Thread Cert.ToOwnerRefIdeal.nD Cert.ToOwnerRefIdeal.τ).loc Cert.ToOwnerRefIdeal.main_v7)) (v2 : Buf (Elt Ideal) (((0 : Dev Cert.ToOwnerRefIdeal.nD).tc : Thread Cert.ToOwnerRefIdeal.nD Cert.ToOwnerRefIdeal.τ).loc Cert.ToOwnerRefIdeal.main_v9)),
      θ_run (Cert.ToOwnerIdeal.defs (F := Ideal)) (onTc (τ := Cert.ToOwnerIdeal.τ) (Cert.ToOwnerIdeal.main (F := Ideal))) ⟨m, fun _ => 0, g⟩ (fun r => ∀ c : Dev Cert.ToOwnerIdeal.nD,
          r.2.mem ((c.tc : Thread Cert.ToOwnerIdeal.nD Cert.ToOwnerIdeal.τ).loc Cert.ToOwnerIdeal.main_v1_0) = Layout.block ⟨3, ![4, 1544, 2048]⟩ ⟨3, ![32, 1544, 2048]⟩ 0 8 c v0
          ∧ r.2.mem ((c.tc : Thread Cert.ToOwnerIdeal.nD Cert.ToOwnerIdeal.τ).loc Cert.ToOwnerIdeal.main_v1_1) = Layout.block ⟨3, ![4, 512, 2048]⟩ ⟨3, ![32, 512, 2048]⟩ 0 8 c v1
          ∧ r.2.mem ((c.tc : Thread Cert.ToOwnerIdeal.nD Cert.ToOwnerIdeal.τ).loc Cert.ToOwnerIdeal.main_v1_2) = Layout.block ⟨3, ![4, 1560, 128]⟩ ⟨3, ![32, 1560, 128]⟩ 0 8 c v2
          ∧ r.2.mem ((c.tc : Thread Cert.ToOwnerIdeal.nD Cert.ToOwnerIdeal.τ).loc Cert.ToOwnerIdeal.main_arg0) = m ((c.tc : Thread Cert.ToOwnerIdeal.nD Cert.ToOwnerIdeal.τ).loc Cert.ToOwnerIdeal.main_arg0)
          ∧ r.2.mem ((c.tc : Thread Cert.ToOwnerIdeal.nD Cert.ToOwnerIdeal.τ).loc Cert.ToOwnerIdeal.main_arg1) = m ((c.tc : Thread Cert.ToOwnerIdeal.nD Cert.ToOwnerIdeal.τ).loc Cert.ToOwnerIdeal.main_arg1)
          ∧ r.2.mem ((c.tc : Thread Cert.ToOwnerIdeal.nD Cert.ToOwnerIdeal.τ).loc Cert.ToOwnerIdeal.main_arg2) = m ((c.tc : Thread Cert.ToOwnerIdeal.nD Cert.ToOwnerIdeal.τ).loc Cert.ToOwnerIdeal.main_arg2))
      ∧ θ_run (Cert.ToOwnerRefIdeal.defs (F := Ideal)) (onTc (τ := Cert.ToOwnerRefIdeal.τ) (Cert.ToOwnerRefIdeal.main (F := Ideal))) ⟨m', fun _ => 0, g'⟩ (fun r =>
          r.2.mem (((0 : Dev Cert.ToOwnerRefIdeal.nD).tc : Thread Cert.ToOwnerRefIdeal.nD Cert.ToOwnerRefIdeal.τ).loc Cert.ToOwnerRefIdeal.main_v4) = v0
          ∧ r.2.mem (((0 : Dev Cert.ToOwnerRefIdeal.nD).tc : Thread Cert.ToOwnerRefIdeal.nD Cert.ToOwnerRefIdeal.τ).loc Cert.ToOwnerRefIdeal.main_v7) = v1
          ∧ r.2.mem (((0 : Dev Cert.ToOwnerRefIdeal.nD).tc : Thread Cert.ToOwnerRefIdeal.nD Cert.ToOwnerRefIdeal.τ).loc Cert.ToOwnerRefIdeal.main_v9) = v2
          ∧ r.2.mem (((0 : Dev Cert.ToOwnerRefIdeal.nD).tc : Thread Cert.ToOwnerRefIdeal.nD Cert.ToOwnerRefIdeal.τ).loc Cert.ToOwnerRefIdeal.main_arg0) = m' (((0 : Dev Cert.ToOwnerRefIdeal.nD).tc : Thread Cert.ToOwnerRefIdeal.nD Cert.ToOwnerRefIdeal.τ).loc Cert.ToOwnerRefIdeal.main_arg0)
          ∧ r.2.mem (((0 : Dev Cert.ToOwnerRefIdeal.nD).tc : Thread Cert.ToOwnerRefIdeal.nD Cert.ToOwnerRefIdeal.τ).loc Cert.ToOwnerRefIdeal.main_arg1) = m' (((0 : Dev Cert.ToOwnerRefIdeal.nD).tc : Thread Cert.ToOwnerRefIdeal.nD Cert.ToOwnerRefIdeal.τ).loc Cert.ToOwnerRefIdeal.main_arg1)
          ∧ r.2.mem (((0 : Dev Cert.ToOwnerRefIdeal.nD).tc : Thread Cert.ToOwnerRefIdeal.nD Cert.ToOwnerRefIdeal.τ).loc Cert.ToOwnerRefIdeal.main_arg2) = m' (((0 : Dev Cert.ToOwnerRefIdeal.nD).tc : Thread Cert.ToOwnerRefIdeal.nD Cert.ToOwnerRefIdeal.τ).loc Cert.ToOwnerRefIdeal.main_arg2))

def bitexact_ToOwner_ToOwnerRef [hToOwner : Cert.ToOwner.Facts] [hToOwnerRef : Cert.ToOwnerRef.Facts] : Prop :=
  ∀ (m : (ℓ : Loc Cert.ToOwner.nD Cert.ToOwner.τ Cert.ToOwner.sig) → Buf (Elt Bits) ℓ) (g : Dev Cert.ToOwner.nD → PrngReg)
    (m' : (ℓ : Loc Cert.ToOwnerRef.nD Cert.ToOwnerRef.τ Cert.ToOwnerRef.sig) → Buf (Elt Bits) ℓ) (g' : Dev Cert.ToOwnerRef.nD → PrngReg), Pre_ToOwner m →
    (∀ c : Dev Cert.ToOwner.nD,
      m ((c.tc : Thread Cert.ToOwner.nD Cert.ToOwner.τ).loc Cert.ToOwner.main_arg0) = Layout.block ⟨3, ![4, 1544, 2048]⟩ ⟨3, ![32, 1544, 2048]⟩ 0 8 c (m' (((0 : Dev Cert.ToOwnerRef.nD).tc : Thread Cert.ToOwnerRef.nD Cert.ToOwnerRef.τ).loc Cert.ToOwnerRef.main_arg0))
      ∧ m ((c.tc : Thread Cert.ToOwner.nD Cert.ToOwner.τ).loc Cert.ToOwner.main_arg1) = Layout.block ⟨3, ![4, 512, 2048]⟩ ⟨3, ![32, 512, 2048]⟩ 0 8 c (m' (((0 : Dev Cert.ToOwnerRef.nD).tc : Thread Cert.ToOwnerRef.nD Cert.ToOwnerRef.τ).loc Cert.ToOwnerRef.main_arg1))
      ∧ m ((c.tc : Thread Cert.ToOwner.nD Cert.ToOwner.τ).loc Cert.ToOwner.main_arg2) = Layout.block ⟨2, ![1560, 128]⟩ ⟨2, ![12480, 128]⟩ 0 8 c (m' (((0 : Dev Cert.ToOwnerRef.nD).tc : Thread Cert.ToOwnerRef.nD Cert.ToOwnerRef.τ).loc Cert.ToOwnerRef.main_arg2))) →
    ∃ (v0 : Buf (Elt Bits) (((0 : Dev Cert.ToOwnerRef.nD).tc : Thread Cert.ToOwnerRef.nD Cert.ToOwnerRef.τ).loc Cert.ToOwnerRef.main_v4)) (v1 : Buf (Elt Bits) (((0 : Dev Cert.ToOwnerRef.nD).tc : Thread Cert.ToOwnerRef.nD Cert.ToOwnerRef.τ).loc Cert.ToOwnerRef.main_v7)) (v2 : Buf (Elt Bits) (((0 : Dev Cert.ToOwnerRef.nD).tc : Thread Cert.ToOwnerRef.nD Cert.ToOwnerRef.τ).loc Cert.ToOwnerRef.main_v9)),
      θ_run (Cert.ToOwner.defs (F := Bits)) (onTc (τ := Cert.ToOwner.τ) (Cert.ToOwner.main (F := Bits))) ⟨m, fun _ => 0, g⟩ (fun r => ∀ c : Dev Cert.ToOwner.nD,
          r.2.mem ((c.tc : Thread Cert.ToOwner.nD Cert.ToOwner.τ).loc Cert.ToOwner.main_v1_0) = Layout.block ⟨3, ![4, 1544, 2048]⟩ ⟨3, ![32, 1544, 2048]⟩ 0 8 c v0
          ∧ r.2.mem ((c.tc : Thread Cert.ToOwner.nD Cert.ToOwner.τ).loc Cert.ToOwner.main_v1_1) = Layout.block ⟨3, ![4, 512, 2048]⟩ ⟨3, ![32, 512, 2048]⟩ 0 8 c v1
          ∧ r.2.mem ((c.tc : Thread Cert.ToOwner.nD Cert.ToOwner.τ).loc Cert.ToOwner.main_v1_2) = Layout.block ⟨3, ![4, 1560, 128]⟩ ⟨3, ![32, 1560, 128]⟩ 0 8 c v2
          ∧ r.2.mem ((c.tc : Thread Cert.ToOwner.nD Cert.ToOwner.τ).loc Cert.ToOwner.main_arg0) = m ((c.tc : Thread Cert.ToOwner.nD Cert.ToOwner.τ).loc Cert.ToOwner.main_arg0)
          ∧ r.2.mem ((c.tc : Thread Cert.ToOwner.nD Cert.ToOwner.τ).loc Cert.ToOwner.main_arg1) = m ((c.tc : Thread Cert.ToOwner.nD Cert.ToOwner.τ).loc Cert.ToOwner.main_arg1)
          ∧ r.2.mem ((c.tc : Thread Cert.ToOwner.nD Cert.ToOwner.τ).loc Cert.ToOwner.main_arg2) = m ((c.tc : Thread Cert.ToOwner.nD Cert.ToOwner.τ).loc Cert.ToOwner.main_arg2))
      ∧ θ_run (Cert.ToOwnerRef.defs (F := Bits)) (onTc (τ := Cert.ToOwnerRef.τ) (Cert.ToOwnerRef.main (F := Bits))) ⟨m', fun _ => 0, g'⟩ (fun r =>
          r.2.mem (((0 : Dev Cert.ToOwnerRef.nD).tc : Thread Cert.ToOwnerRef.nD Cert.ToOwnerRef.τ).loc Cert.ToOwnerRef.main_v4) = v0
          ∧ r.2.mem (((0 : Dev Cert.ToOwnerRef.nD).tc : Thread Cert.ToOwnerRef.nD Cert.ToOwnerRef.τ).loc Cert.ToOwnerRef.main_v7) = v1
          ∧ r.2.mem (((0 : Dev Cert.ToOwnerRef.nD).tc : Thread Cert.ToOwnerRef.nD Cert.ToOwnerRef.τ).loc Cert.ToOwnerRef.main_v9) = v2
          ∧ r.2.mem (((0 : Dev Cert.ToOwnerRef.nD).tc : Thread Cert.ToOwnerRef.nD Cert.ToOwnerRef.τ).loc Cert.ToOwnerRef.main_arg0) = m' (((0 : Dev Cert.ToOwnerRef.nD).tc : Thread Cert.ToOwnerRef.nD Cert.ToOwnerRef.τ).loc Cert.ToOwnerRef.main_arg0)
          ∧ r.2.mem (((0 : Dev Cert.ToOwnerRef.nD).tc : Thread Cert.ToOwnerRef.nD Cert.ToOwnerRef.τ).loc Cert.ToOwnerRef.main_arg1) = m' (((0 : Dev Cert.ToOwnerRef.nD).tc : Thread Cert.ToOwnerRef.nD Cert.ToOwnerRef.τ).loc Cert.ToOwnerRef.main_arg1)
          ∧ r.2.mem (((0 : Dev Cert.ToOwnerRef.nD).tc : Thread Cert.ToOwnerRef.nD Cert.ToOwnerRef.τ).loc Cert.ToOwnerRef.main_arg2) = m' (((0 : Dev Cert.ToOwnerRef.nD).tc : Thread Cert.ToOwnerRef.nD Cert.ToOwnerRef.τ).loc Cert.ToOwnerRef.main_arg2))

def preserves_Reduced_ReducedIdeal : Prop :=
  True

def algebraic_ReducedIdeal_ReducedRefIdeal [hReducedIdeal : Cert.ReducedIdeal.Facts] [hReducedRefIdeal : Cert.ReducedRefIdeal.Facts] : Prop :=
  ∀ (m : (ℓ : Loc Cert.ReducedIdeal.nD Cert.ReducedIdeal.τ Cert.ReducedIdeal.sig) → Buf (Elt Ideal) ℓ) (g : Dev Cert.ReducedIdeal.nD → PrngReg)
    (m' : (ℓ : Loc Cert.ReducedRefIdeal.nD Cert.ReducedRefIdeal.τ Cert.ReducedRefIdeal.sig) → Buf (Elt Ideal) ℓ) (g' : Dev Cert.ReducedRefIdeal.nD → PrngReg), Pre_ReducedIdeal m →
    (∀ c : Dev Cert.ReducedIdeal.nD,
      m ((c.tc : Thread Cert.ReducedIdeal.nD Cert.ReducedIdeal.τ).loc Cert.ReducedIdeal.main_arg0) = Layout.block ⟨2, ![1544, 2048]⟩ ⟨2, ![12352, 2048]⟩ 0 8 c (m' (((0 : Dev Cert.ReducedRefIdeal.nD).tc : Thread Cert.ReducedRefIdeal.nD Cert.ReducedRefIdeal.τ).loc Cert.ReducedRefIdeal.main_arg0))
      ∧ m ((c.tc : Thread Cert.ReducedIdeal.nD Cert.ReducedIdeal.τ).loc Cert.ReducedIdeal.main_arg1) = Layout.block ⟨2, ![512, 2048]⟩ ⟨2, ![4096, 2048]⟩ 0 8 c (m' (((0 : Dev Cert.ReducedRefIdeal.nD).tc : Thread Cert.ReducedRefIdeal.nD Cert.ReducedRefIdeal.τ).loc Cert.ReducedRefIdeal.main_arg1))) →
    ∃ (v0 : Buf (Elt Ideal) (((0 : Dev Cert.ReducedRefIdeal.nD).tc : Thread Cert.ReducedRefIdeal.nD Cert.ReducedRefIdeal.τ).loc Cert.ReducedRefIdeal.main_v8)) (v1 : Buf (Elt Ideal) (((0 : Dev Cert.ReducedRefIdeal.nD).tc : Thread Cert.ReducedRefIdeal.nD Cert.ReducedRefIdeal.τ).loc Cert.ReducedRefIdeal.main_v17)),
      θ_run (Cert.ReducedIdeal.defs (F := Ideal)) (onTc (τ := Cert.ReducedIdeal.τ) (Cert.ReducedIdeal.main (F := Ideal))) ⟨m, fun _ => 0, g⟩ (fun r => ∀ c : Dev Cert.ReducedIdeal.nD,
          r.2.mem ((c.tc : Thread Cert.ReducedIdeal.nD Cert.ReducedIdeal.τ).loc Cert.ReducedIdeal.main_v1_0) = Layout.block ⟨2, ![1544, 2048]⟩ ⟨2, ![12352, 2048]⟩ 0 8 c v0
          ∧ r.2.mem ((c.tc : Thread Cert.ReducedIdeal.nD Cert.ReducedIdeal.τ).loc Cert.ReducedIdeal.main_v1_1) = Layout.block ⟨2, ![512, 2048]⟩ ⟨2, ![4096, 2048]⟩ 0 8 c v1
          ∧ r.2.mem ((c.tc : Thread Cert.ReducedIdeal.nD Cert.ReducedIdeal.τ).loc Cert.ReducedIdeal.main_arg0) = m ((c.tc : Thread Cert.ReducedIdeal.nD Cert.ReducedIdeal.τ).loc Cert.ReducedIdeal.main_arg0)
          ∧ r.2.mem ((c.tc : Thread Cert.ReducedIdeal.nD Cert.ReducedIdeal.τ).loc Cert.ReducedIdeal.main_arg1) = m ((c.tc : Thread Cert.ReducedIdeal.nD Cert.ReducedIdeal.τ).loc Cert.ReducedIdeal.main_arg1))
      ∧ θ_run (Cert.ReducedRefIdeal.defs (F := Ideal)) (onTc (τ := Cert.ReducedRefIdeal.τ) (Cert.ReducedRefIdeal.main (F := Ideal))) ⟨m', fun _ => 0, g'⟩ (fun r =>
          r.2.mem (((0 : Dev Cert.ReducedRefIdeal.nD).tc : Thread Cert.ReducedRefIdeal.nD Cert.ReducedRefIdeal.τ).loc Cert.ReducedRefIdeal.main_v8) = v0
          ∧ r.2.mem (((0 : Dev Cert.ReducedRefIdeal.nD).tc : Thread Cert.ReducedRefIdeal.nD Cert.ReducedRefIdeal.τ).loc Cert.ReducedRefIdeal.main_v17) = v1
          ∧ r.2.mem (((0 : Dev Cert.ReducedRefIdeal.nD).tc : Thread Cert.ReducedRefIdeal.nD Cert.ReducedRefIdeal.τ).loc Cert.ReducedRefIdeal.main_arg0) = m' (((0 : Dev Cert.ReducedRefIdeal.nD).tc : Thread Cert.ReducedRefIdeal.nD Cert.ReducedRefIdeal.τ).loc Cert.ReducedRefIdeal.main_arg0)
          ∧ r.2.mem (((0 : Dev Cert.ReducedRefIdeal.nD).tc : Thread Cert.ReducedRefIdeal.nD Cert.ReducedRefIdeal.τ).loc Cert.ReducedRefIdeal.main_arg1) = m' (((0 : Dev Cert.ReducedRefIdeal.nD).tc : Thread Cert.ReducedRefIdeal.nD Cert.ReducedRefIdeal.τ).loc Cert.ReducedRefIdeal.main_arg1))

def bitexact_Reduced_ReducedRef [hReduced : Cert.Reduced.Facts] [hReducedRef : Cert.ReducedRef.Facts] : Prop :=
  ∀ (m : (ℓ : Loc Cert.Reduced.nD Cert.Reduced.τ Cert.Reduced.sig) → Buf (Elt Bits) ℓ) (g : Dev Cert.Reduced.nD → PrngReg)
    (m' : (ℓ : Loc Cert.ReducedRef.nD Cert.ReducedRef.τ Cert.ReducedRef.sig) → Buf (Elt Bits) ℓ) (g' : Dev Cert.ReducedRef.nD → PrngReg), Pre_Reduced m →
    (∀ c : Dev Cert.Reduced.nD,
      m ((c.tc : Thread Cert.Reduced.nD Cert.Reduced.τ).loc Cert.Reduced.main_arg0) = Layout.block ⟨2, ![1544, 2048]⟩ ⟨2, ![12352, 2048]⟩ 0 8 c (m' (((0 : Dev Cert.ReducedRef.nD).tc : Thread Cert.ReducedRef.nD Cert.ReducedRef.τ).loc Cert.ReducedRef.main_arg0))
      ∧ m ((c.tc : Thread Cert.Reduced.nD Cert.Reduced.τ).loc Cert.Reduced.main_arg1) = Layout.block ⟨2, ![512, 2048]⟩ ⟨2, ![4096, 2048]⟩ 0 8 c (m' (((0 : Dev Cert.ReducedRef.nD).tc : Thread Cert.ReducedRef.nD Cert.ReducedRef.τ).loc Cert.ReducedRef.main_arg1))) →
    ∃ (v0 : Buf (Elt Bits) (((0 : Dev Cert.ReducedRef.nD).tc : Thread Cert.ReducedRef.nD Cert.ReducedRef.τ).loc Cert.ReducedRef.main_v8)) (v1 : Buf (Elt Bits) (((0 : Dev Cert.ReducedRef.nD).tc : Thread Cert.ReducedRef.nD Cert.ReducedRef.τ).loc Cert.ReducedRef.main_v17)),
      θ_run (Cert.Reduced.defs (F := Bits)) (onTc (τ := Cert.Reduced.τ) (Cert.Reduced.main (F := Bits))) ⟨m, fun _ => 0, g⟩ (fun r => ∀ c : Dev Cert.Reduced.nD,
          r.2.mem ((c.tc : Thread Cert.Reduced.nD Cert.Reduced.τ).loc Cert.Reduced.main_v1_0) = Layout.block ⟨2, ![1544, 2048]⟩ ⟨2, ![12352, 2048]⟩ 0 8 c v0
          ∧ r.2.mem ((c.tc : Thread Cert.Reduced.nD Cert.Reduced.τ).loc Cert.Reduced.main_v1_1) = Layout.block ⟨2, ![512, 2048]⟩ ⟨2, ![4096, 2048]⟩ 0 8 c v1
          ∧ r.2.mem ((c.tc : Thread Cert.Reduced.nD Cert.Reduced.τ).loc Cert.Reduced.main_arg0) = m ((c.tc : Thread Cert.Reduced.nD Cert.Reduced.τ).loc Cert.Reduced.main_arg0)
          ∧ r.2.mem ((c.tc : Thread Cert.Reduced.nD Cert.Reduced.τ).loc Cert.Reduced.main_arg1) = m ((c.tc : Thread Cert.Reduced.nD Cert.Reduced.τ).loc Cert.Reduced.main_arg1))
      ∧ θ_run (Cert.ReducedRef.defs (F := Bits)) (onTc (τ := Cert.ReducedRef.τ) (Cert.ReducedRef.main (F := Bits))) ⟨m', fun _ => 0, g'⟩ (fun r =>
          r.2.mem (((0 : Dev Cert.ReducedRef.nD).tc : Thread Cert.ReducedRef.nD Cert.ReducedRef.τ).loc Cert.ReducedRef.main_v8) = v0
          ∧ r.2.mem (((0 : Dev Cert.ReducedRef.nD).tc : Thread Cert.ReducedRef.nD Cert.ReducedRef.τ).loc Cert.ReducedRef.main_v17) = v1
          ∧ r.2.mem (((0 : Dev Cert.ReducedRef.nD).tc : Thread Cert.ReducedRef.nD Cert.ReducedRef.τ).loc Cert.ReducedRef.main_arg0) = m' (((0 : Dev Cert.ReducedRef.nD).tc : Thread Cert.ReducedRef.nD Cert.ReducedRef.τ).loc Cert.ReducedRef.main_arg0)
          ∧ r.2.mem (((0 : Dev Cert.ReducedRef.nD).tc : Thread Cert.ReducedRef.nD Cert.ReducedRef.τ).loc Cert.ReducedRef.main_arg1) = m' (((0 : Dev Cert.ReducedRef.nD).tc : Thread Cert.ReducedRef.nD Cert.ReducedRef.τ).loc Cert.ReducedRef.main_arg1))

def preserves_ChipA_ChipAIdeal : Prop :=
  True

def algebraic_ChipAIdeal_ChipARefIdeal [hChipAIdeal : Cert.ChipAIdeal.Facts] [hChipARefIdeal : Cert.ChipARefIdeal.Facts] : Prop :=
  ∀ (m : (ℓ : Loc Cert.ChipAIdeal.nD Cert.ChipAIdeal.τ Cert.ChipAIdeal.sig) → Buf (Elt Ideal) ℓ) (g : Dev Cert.ChipAIdeal.nD → PrngReg)
    (m' : (ℓ : Loc Cert.ChipARefIdeal.nD Cert.ChipARefIdeal.τ Cert.ChipARefIdeal.sig) → Buf (Elt Ideal) ℓ) (g' : Dev Cert.ChipARefIdeal.nD → PrngReg), Pre_ChipAIdeal m →
    (∀ c : Dev Cert.ChipAIdeal.nD,
      m' ((c.tc : Thread Cert.ChipARefIdeal.nD Cert.ChipARefIdeal.τ).loc Cert.ChipARefIdeal.main_arg0) = m ((c.tc : Thread Cert.ChipAIdeal.nD Cert.ChipAIdeal.τ).loc Cert.ChipAIdeal.main_arg0)
      ∧ m' ((c.tc : Thread Cert.ChipARefIdeal.nD Cert.ChipARefIdeal.τ).loc Cert.ChipARefIdeal.main_arg1) = m ((c.tc : Thread Cert.ChipAIdeal.nD Cert.ChipAIdeal.τ).loc Cert.ChipAIdeal.main_arg1)
      ∧ m' ((c.tc : Thread Cert.ChipARefIdeal.nD Cert.ChipARefIdeal.τ).loc Cert.ChipARefIdeal.main_arg2) = m ((c.tc : Thread Cert.ChipAIdeal.nD Cert.ChipAIdeal.τ).loc Cert.ChipAIdeal.main_arg2)) →
    ∃ (v0 : (c : Dev Cert.ChipAIdeal.nD) → Buf (Elt Ideal) ((c.tc : Thread Cert.ChipAIdeal.nD Cert.ChipAIdeal.τ).loc Cert.ChipAIdeal.main_v0)),
      θ_run (Cert.ChipAIdeal.defs (F := Ideal)) (onTc (τ := Cert.ChipAIdeal.τ) (Cert.ChipAIdeal.main (F := Ideal))) ⟨m, fun _ => 0, g⟩ (fun r => ∀ c : Dev Cert.ChipAIdeal.nD,
          r.2.mem ((c.tc : Thread Cert.ChipAIdeal.nD Cert.ChipAIdeal.τ).loc Cert.ChipAIdeal.main_v0) = v0 c
          ∧ r.2.mem ((c.tc : Thread Cert.ChipAIdeal.nD Cert.ChipAIdeal.τ).loc Cert.ChipAIdeal.main_arg0) = m ((c.tc : Thread Cert.ChipAIdeal.nD Cert.ChipAIdeal.τ).loc Cert.ChipAIdeal.main_arg0)
          ∧ r.2.mem ((c.tc : Thread Cert.ChipAIdeal.nD Cert.ChipAIdeal.τ).loc Cert.ChipAIdeal.main_arg1) = m ((c.tc : Thread Cert.ChipAIdeal.nD Cert.ChipAIdeal.τ).loc Cert.ChipAIdeal.main_arg1)
          ∧ r.2.mem ((c.tc : Thread Cert.ChipAIdeal.nD Cert.ChipAIdeal.τ).loc Cert.ChipAIdeal.main_arg2) = m ((c.tc : Thread Cert.ChipAIdeal.nD Cert.ChipAIdeal.τ).loc Cert.ChipAIdeal.main_arg2))
      ∧ θ_run (Cert.ChipARefIdeal.defs (F := Ideal)) (onTc (τ := Cert.ChipARefIdeal.τ) (Cert.ChipARefIdeal.main (F := Ideal))) ⟨m', fun _ => 0, g'⟩ (fun r => ∀ c : Dev Cert.ChipARefIdeal.nD,
          r.2.mem ((c.tc : Thread Cert.ChipARefIdeal.nD Cert.ChipARefIdeal.τ).loc Cert.ChipARefIdeal.main_v10) = v0 c
          ∧ r.2.mem ((c.tc : Thread Cert.ChipARefIdeal.nD Cert.ChipARefIdeal.τ).loc Cert.ChipARefIdeal.main_arg0) = m' ((c.tc : Thread Cert.ChipARefIdeal.nD Cert.ChipARefIdeal.τ).loc Cert.ChipARefIdeal.main_arg0)
          ∧ r.2.mem ((c.tc : Thread Cert.ChipARefIdeal.nD Cert.ChipARefIdeal.τ).loc Cert.ChipARefIdeal.main_arg1) = m' ((c.tc : Thread Cert.ChipARefIdeal.nD Cert.ChipARefIdeal.τ).loc Cert.ChipARefIdeal.main_arg1)
          ∧ r.2.mem ((c.tc : Thread Cert.ChipARefIdeal.nD Cert.ChipARefIdeal.τ).loc Cert.ChipARefIdeal.main_arg2) = m' ((c.tc : Thread Cert.ChipARefIdeal.nD Cert.ChipARefIdeal.τ).loc Cert.ChipARefIdeal.main_arg2))

def bitexact_ChipA_ChipARef [hChipA : Cert.ChipA.Facts] [hChipARef : Cert.ChipARef.Facts] : Prop :=
  ∀ (m : (ℓ : Loc Cert.ChipA.nD Cert.ChipA.τ Cert.ChipA.sig) → Buf (Elt Bits) ℓ) (g : Dev Cert.ChipA.nD → PrngReg)
    (m' : (ℓ : Loc Cert.ChipARef.nD Cert.ChipARef.τ Cert.ChipARef.sig) → Buf (Elt Bits) ℓ) (g' : Dev Cert.ChipARef.nD → PrngReg), Pre_ChipA m →
    (∀ c : Dev Cert.ChipA.nD,
      m' ((c.tc : Thread Cert.ChipARef.nD Cert.ChipARef.τ).loc Cert.ChipARef.main_arg0) = m ((c.tc : Thread Cert.ChipA.nD Cert.ChipA.τ).loc Cert.ChipA.main_arg0)
      ∧ m' ((c.tc : Thread Cert.ChipARef.nD Cert.ChipARef.τ).loc Cert.ChipARef.main_arg1) = m ((c.tc : Thread Cert.ChipA.nD Cert.ChipA.τ).loc Cert.ChipA.main_arg1)
      ∧ m' ((c.tc : Thread Cert.ChipARef.nD Cert.ChipARef.τ).loc Cert.ChipARef.main_arg2) = m ((c.tc : Thread Cert.ChipA.nD Cert.ChipA.τ).loc Cert.ChipA.main_arg2)) →
    ∃ (v0 : (c : Dev Cert.ChipA.nD) → Buf (Elt Bits) ((c.tc : Thread Cert.ChipA.nD Cert.ChipA.τ).loc Cert.ChipA.main_v0)),
      θ_run (Cert.ChipA.defs (F := Bits)) (onTc (τ := Cert.ChipA.τ) (Cert.ChipA.main (F := Bits))) ⟨m, fun _ => 0, g⟩ (fun r => ∀ c : Dev Cert.ChipA.nD,
          r.2.mem ((c.tc : Thread Cert.ChipA.nD Cert.ChipA.τ).loc Cert.ChipA.main_v0) = v0 c
          ∧ r.2.mem ((c.tc : Thread Cert.ChipA.nD Cert.ChipA.τ).loc Cert.ChipA.main_arg0) = m ((c.tc : Thread Cert.ChipA.nD Cert.ChipA.τ).loc Cert.ChipA.main_arg0)
          ∧ r.2.mem ((c.tc : Thread Cert.ChipA.nD Cert.ChipA.τ).loc Cert.ChipA.main_arg1) = m ((c.tc : Thread Cert.ChipA.nD Cert.ChipA.τ).loc Cert.ChipA.main_arg1)
          ∧ r.2.mem ((c.tc : Thread Cert.ChipA.nD Cert.ChipA.τ).loc Cert.ChipA.main_arg2) = m ((c.tc : Thread Cert.ChipA.nD Cert.ChipA.τ).loc Cert.ChipA.main_arg2))
      ∧ θ_run (Cert.ChipARef.defs (F := Bits)) (onTc (τ := Cert.ChipARef.τ) (Cert.ChipARef.main (F := Bits))) ⟨m', fun _ => 0, g'⟩ (fun r => ∀ c : Dev Cert.ChipARef.nD,
          r.2.mem ((c.tc : Thread Cert.ChipARef.nD Cert.ChipARef.τ).loc Cert.ChipARef.main_v10) = v0 c
          ∧ r.2.mem ((c.tc : Thread Cert.ChipARef.nD Cert.ChipARef.τ).loc Cert.ChipARef.main_arg0) = m' ((c.tc : Thread Cert.ChipARef.nD Cert.ChipARef.τ).loc Cert.ChipARef.main_arg0)
          ∧ r.2.mem ((c.tc : Thread Cert.ChipARef.nD Cert.ChipARef.τ).loc Cert.ChipARef.main_arg1) = m' ((c.tc : Thread Cert.ChipARef.nD Cert.ChipARef.τ).loc Cert.ChipARef.main_arg1)
          ∧ r.2.mem ((c.tc : Thread Cert.ChipARef.nD Cert.ChipARef.τ).loc Cert.ChipARef.main_arg2) = m' ((c.tc : Thread Cert.ChipARef.nD Cert.ChipARef.τ).loc Cert.ChipARef.main_arg2))

def preserves_ChipB_ChipBIdeal : Prop :=
  True

def algebraic_ChipBIdeal_ChipBRefIdeal [hChipBIdeal : Cert.ChipBIdeal.Facts] [hChipBRefIdeal : Cert.ChipBRefIdeal.Facts] : Prop :=
  ∀ (m : (ℓ : Loc Cert.ChipBIdeal.nD Cert.ChipBIdeal.τ Cert.ChipBIdeal.sig) → Buf (Elt Ideal) ℓ) (g : Dev Cert.ChipBIdeal.nD → PrngReg)
    (m' : (ℓ : Loc Cert.ChipBRefIdeal.nD Cert.ChipBRefIdeal.τ Cert.ChipBRefIdeal.sig) → Buf (Elt Ideal) ℓ) (g' : Dev Cert.ChipBRefIdeal.nD → PrngReg), Pre_ChipBIdeal m →
    (∀ c : Dev Cert.ChipBIdeal.nD,
      m' ((c.tc : Thread Cert.ChipBRefIdeal.nD Cert.ChipBRefIdeal.τ).loc Cert.ChipBRefIdeal.main_arg0) = m ((c.tc : Thread Cert.ChipBIdeal.nD Cert.ChipBIdeal.τ).loc Cert.ChipBIdeal.main_arg0)
      ∧ m' ((c.tc : Thread Cert.ChipBRefIdeal.nD Cert.ChipBRefIdeal.τ).loc Cert.ChipBRefIdeal.main_arg1) = m ((c.tc : Thread Cert.ChipBIdeal.nD Cert.ChipBIdeal.τ).loc Cert.ChipBIdeal.main_arg1)
      ∧ m' ((c.tc : Thread Cert.ChipBRefIdeal.nD Cert.ChipBRefIdeal.τ).loc Cert.ChipBRefIdeal.main_arg2) = m ((c.tc : Thread Cert.ChipBIdeal.nD Cert.ChipBIdeal.τ).loc Cert.ChipBIdeal.main_arg2)) →
    ∃ (v0 : (c : Dev Cert.ChipBIdeal.nD) → Buf (Elt Ideal) ((c.tc : Thread Cert.ChipBIdeal.nD Cert.ChipBIdeal.τ).loc Cert.ChipBIdeal.main_v0)),
      θ_run (Cert.ChipBIdeal.defs (F := Ideal)) (onTc (τ := Cert.ChipBIdeal.τ) (Cert.ChipBIdeal.main (F := Ideal))) ⟨m, fun _ => 0, g⟩ (fun r => ∀ c : Dev Cert.ChipBIdeal.nD,
          r.2.mem ((c.tc : Thread Cert.ChipBIdeal.nD Cert.ChipBIdeal.τ).loc Cert.ChipBIdeal.main_v0) = v0 c
          ∧ r.2.mem ((c.tc : Thread Cert.ChipBIdeal.nD Cert.ChipBIdeal.τ).loc Cert.ChipBIdeal.main_arg0) = m ((c.tc : Thread Cert.ChipBIdeal.nD Cert.ChipBIdeal.τ).loc Cert.ChipBIdeal.main_arg0)
          ∧ r.2.mem ((c.tc : Thread Cert.ChipBIdeal.nD Cert.ChipBIdeal.τ).loc Cert.ChipBIdeal.main_arg1) = m ((c.tc : Thread Cert.ChipBIdeal.nD Cert.ChipBIdeal.τ).loc Cert.ChipBIdeal.main_arg1)
          ∧ r.2.mem ((c.tc : Thread Cert.ChipBIdeal.nD Cert.ChipBIdeal.τ).loc Cert.ChipBIdeal.main_arg2) = m ((c.tc : Thread Cert.ChipBIdeal.nD Cert.ChipBIdeal.τ).loc Cert.ChipBIdeal.main_arg2))
      ∧ θ_run (Cert.ChipBRefIdeal.defs (F := Ideal)) (onTc (τ := Cert.ChipBRefIdeal.τ) (Cert.ChipBRefIdeal.main (F := Ideal))) ⟨m', fun _ => 0, g'⟩ (fun r => ∀ c : Dev Cert.ChipBRefIdeal.nD,
          r.2.mem ((c.tc : Thread Cert.ChipBRefIdeal.nD Cert.ChipBRefIdeal.τ).loc Cert.ChipBRefIdeal.main_v10) = v0 c
          ∧ r.2.mem ((c.tc : Thread Cert.ChipBRefIdeal.nD Cert.ChipBRefIdeal.τ).loc Cert.ChipBRefIdeal.main_arg0) = m' ((c.tc : Thread Cert.ChipBRefIdeal.nD Cert.ChipBRefIdeal.τ).loc Cert.ChipBRefIdeal.main_arg0)
          ∧ r.2.mem ((c.tc : Thread Cert.ChipBRefIdeal.nD Cert.ChipBRefIdeal.τ).loc Cert.ChipBRefIdeal.main_arg1) = m' ((c.tc : Thread Cert.ChipBRefIdeal.nD Cert.ChipBRefIdeal.τ).loc Cert.ChipBRefIdeal.main_arg1)
          ∧ r.2.mem ((c.tc : Thread Cert.ChipBRefIdeal.nD Cert.ChipBRefIdeal.τ).loc Cert.ChipBRefIdeal.main_arg2) = m' ((c.tc : Thread Cert.ChipBRefIdeal.nD Cert.ChipBRefIdeal.τ).loc Cert.ChipBRefIdeal.main_arg2))

def bitexact_ChipB_ChipBRef [hChipB : Cert.ChipB.Facts] [hChipBRef : Cert.ChipBRef.Facts] : Prop :=
  ∀ (m : (ℓ : Loc Cert.ChipB.nD Cert.ChipB.τ Cert.ChipB.sig) → Buf (Elt Bits) ℓ) (g : Dev Cert.ChipB.nD → PrngReg)
    (m' : (ℓ : Loc Cert.ChipBRef.nD Cert.ChipBRef.τ Cert.ChipBRef.sig) → Buf (Elt Bits) ℓ) (g' : Dev Cert.ChipBRef.nD → PrngReg), Pre_ChipB m →
    (∀ c : Dev Cert.ChipB.nD,
      m' ((c.tc : Thread Cert.ChipBRef.nD Cert.ChipBRef.τ).loc Cert.ChipBRef.main_arg0) = m ((c.tc : Thread Cert.ChipB.nD Cert.ChipB.τ).loc Cert.ChipB.main_arg0)
      ∧ m' ((c.tc : Thread Cert.ChipBRef.nD Cert.ChipBRef.τ).loc Cert.ChipBRef.main_arg1) = m ((c.tc : Thread Cert.ChipB.nD Cert.ChipB.τ).loc Cert.ChipB.main_arg1)
      ∧ m' ((c.tc : Thread Cert.ChipBRef.nD Cert.ChipBRef.τ).loc Cert.ChipBRef.main_arg2) = m ((c.tc : Thread Cert.ChipB.nD Cert.ChipB.τ).loc Cert.ChipB.main_arg2)) →
    ∃ (v0 : (c : Dev Cert.ChipB.nD) → Buf (Elt Bits) ((c.tc : Thread Cert.ChipB.nD Cert.ChipB.τ).loc Cert.ChipB.main_v0)),
      θ_run (Cert.ChipB.defs (F := Bits)) (onTc (τ := Cert.ChipB.τ) (Cert.ChipB.main (F := Bits))) ⟨m, fun _ => 0, g⟩ (fun r => ∀ c : Dev Cert.ChipB.nD,
          r.2.mem ((c.tc : Thread Cert.ChipB.nD Cert.ChipB.τ).loc Cert.ChipB.main_v0) = v0 c
          ∧ r.2.mem ((c.tc : Thread Cert.ChipB.nD Cert.ChipB.τ).loc Cert.ChipB.main_arg0) = m ((c.tc : Thread Cert.ChipB.nD Cert.ChipB.τ).loc Cert.ChipB.main_arg0)
          ∧ r.2.mem ((c.tc : Thread Cert.ChipB.nD Cert.ChipB.τ).loc Cert.ChipB.main_arg1) = m ((c.tc : Thread Cert.ChipB.nD Cert.ChipB.τ).loc Cert.ChipB.main_arg1)
          ∧ r.2.mem ((c.tc : Thread Cert.ChipB.nD Cert.ChipB.τ).loc Cert.ChipB.main_arg2) = m ((c.tc : Thread Cert.ChipB.nD Cert.ChipB.τ).loc Cert.ChipB.main_arg2))
      ∧ θ_run (Cert.ChipBRef.defs (F := Bits)) (onTc (τ := Cert.ChipBRef.τ) (Cert.ChipBRef.main (F := Bits))) ⟨m', fun _ => 0, g'⟩ (fun r => ∀ c : Dev Cert.ChipBRef.nD,
          r.2.mem ((c.tc : Thread Cert.ChipBRef.nD Cert.ChipBRef.τ).loc Cert.ChipBRef.main_v10) = v0 c
          ∧ r.2.mem ((c.tc : Thread Cert.ChipBRef.nD Cert.ChipBRef.τ).loc Cert.ChipBRef.main_arg0) = m' ((c.tc : Thread Cert.ChipBRef.nD Cert.ChipBRef.τ).loc Cert.ChipBRef.main_arg0)
          ∧ r.2.mem ((c.tc : Thread Cert.ChipBRef.nD Cert.ChipBRef.τ).loc Cert.ChipBRef.main_arg1) = m' ((c.tc : Thread Cert.ChipBRef.nD Cert.ChipBRef.τ).loc Cert.ChipBRef.main_arg1)
          ∧ r.2.mem ((c.tc : Thread Cert.ChipBRef.nD Cert.ChipBRef.τ).loc Cert.ChipBRef.main_arg2) = m' ((c.tc : Thread Cert.ChipBRef.nD Cert.ChipBRef.τ).loc Cert.ChipBRef.main_arg2))

def preserves_ChipSmall_ChipSmallIdeal : Prop :=
  True

def algebraic_ChipSmallIdeal_ChipSmallRefIdeal [hChipSmallIdeal : Cert.ChipSmallIdeal.Facts] [hChipSmallRefIdeal : Cert.ChipSmallRefIdeal.Facts] : Prop :=
  ∀ (m : (ℓ : Loc Cert.ChipSmallIdeal.nD Cert.ChipSmallIdeal.τ Cert.ChipSmallIdeal.sig) → Buf (Elt Ideal) ℓ) (g : Dev Cert.ChipSmallIdeal.nD → PrngReg)
    (m' : (ℓ : Loc Cert.ChipSmallRefIdeal.nD Cert.ChipSmallRefIdeal.τ Cert.ChipSmallRefIdeal.sig) → Buf (Elt Ideal) ℓ) (g' : Dev Cert.ChipSmallRefIdeal.nD → PrngReg), Pre_ChipSmallIdeal m →
    (∀ c : Dev Cert.ChipSmallIdeal.nD,
      m' ((c.tc : Thread Cert.ChipSmallRefIdeal.nD Cert.ChipSmallRefIdeal.τ).loc Cert.ChipSmallRefIdeal.main_arg0) = m ((c.tc : Thread Cert.ChipSmallIdeal.nD Cert.ChipSmallIdeal.τ).loc Cert.ChipSmallIdeal.main_arg0)
      ∧ m' ((c.tc : Thread Cert.ChipSmallRefIdeal.nD Cert.ChipSmallRefIdeal.τ).loc Cert.ChipSmallRefIdeal.main_arg1) = m ((c.tc : Thread Cert.ChipSmallIdeal.nD Cert.ChipSmallIdeal.τ).loc Cert.ChipSmallIdeal.main_arg1)) →
    ∃ (v0 : (c : Dev Cert.ChipSmallIdeal.nD) → Buf (Elt Ideal) ((c.tc : Thread Cert.ChipSmallIdeal.nD Cert.ChipSmallIdeal.τ).loc Cert.ChipSmallIdeal.main_v0)),
      θ_run (Cert.ChipSmallIdeal.defs (F := Ideal)) (onTc (τ := Cert.ChipSmallIdeal.τ) (Cert.ChipSmallIdeal.main (F := Ideal))) ⟨m, fun _ => 0, g⟩ (fun r => ∀ c : Dev Cert.ChipSmallIdeal.nD,
          r.2.mem ((c.tc : Thread Cert.ChipSmallIdeal.nD Cert.ChipSmallIdeal.τ).loc Cert.ChipSmallIdeal.main_v0) = v0 c
          ∧ r.2.mem ((c.tc : Thread Cert.ChipSmallIdeal.nD Cert.ChipSmallIdeal.τ).loc Cert.ChipSmallIdeal.main_arg0) = m ((c.tc : Thread Cert.ChipSmallIdeal.nD Cert.ChipSmallIdeal.τ).loc Cert.ChipSmallIdeal.main_arg0)
          ∧ r.2.mem ((c.tc : Thread Cert.ChipSmallIdeal.nD Cert.ChipSmallIdeal.τ).loc Cert.ChipSmallIdeal.main_arg1) = m ((c.tc : Thread Cert.ChipSmallIdeal.nD Cert.ChipSmallIdeal.τ).loc Cert.ChipSmallIdeal.main_arg1))
      ∧ θ_run (Cert.ChipSmallRefIdeal.defs (F := Ideal)) (onTc (τ := Cert.ChipSmallRefIdeal.τ) (Cert.ChipSmallRefIdeal.main (F := Ideal))) ⟨m', fun _ => 0, g'⟩ (fun r => ∀ c : Dev Cert.ChipSmallRefIdeal.nD,
          r.2.mem ((c.tc : Thread Cert.ChipSmallRefIdeal.nD Cert.ChipSmallRefIdeal.τ).loc Cert.ChipSmallRefIdeal.main_v0) = v0 c
          ∧ r.2.mem ((c.tc : Thread Cert.ChipSmallRefIdeal.nD Cert.ChipSmallRefIdeal.τ).loc Cert.ChipSmallRefIdeal.main_arg0) = m' ((c.tc : Thread Cert.ChipSmallRefIdeal.nD Cert.ChipSmallRefIdeal.τ).loc Cert.ChipSmallRefIdeal.main_arg0)
          ∧ r.2.mem ((c.tc : Thread Cert.ChipSmallRefIdeal.nD Cert.ChipSmallRefIdeal.τ).loc Cert.ChipSmallRefIdeal.main_arg1) = m' ((c.tc : Thread Cert.ChipSmallRefIdeal.nD Cert.ChipSmallRefIdeal.τ).loc Cert.ChipSmallRefIdeal.main_arg1))

def bitexact_ChipSmall_ChipSmallRef [hChipSmall : Cert.ChipSmall.Facts] [hChipSmallRef : Cert.ChipSmallRef.Facts] : Prop :=
  ∀ (m : (ℓ : Loc Cert.ChipSmall.nD Cert.ChipSmall.τ Cert.ChipSmall.sig) → Buf (Elt Bits) ℓ) (g : Dev Cert.ChipSmall.nD → PrngReg)
    (m' : (ℓ : Loc Cert.ChipSmallRef.nD Cert.ChipSmallRef.τ Cert.ChipSmallRef.sig) → Buf (Elt Bits) ℓ) (g' : Dev Cert.ChipSmallRef.nD → PrngReg), Pre_ChipSmall m →
    (∀ c : Dev Cert.ChipSmall.nD,
      m' ((c.tc : Thread Cert.ChipSmallRef.nD Cert.ChipSmallRef.τ).loc Cert.ChipSmallRef.main_arg0) = m ((c.tc : Thread Cert.ChipSmall.nD Cert.ChipSmall.τ).loc Cert.ChipSmall.main_arg0)
      ∧ m' ((c.tc : Thread Cert.ChipSmallRef.nD Cert.ChipSmallRef.τ).loc Cert.ChipSmallRef.main_arg1) = m ((c.tc : Thread Cert.ChipSmall.nD Cert.ChipSmall.τ).loc Cert.ChipSmall.main_arg1)) →
    ∃ (v0 : (c : Dev Cert.ChipSmall.nD) → Buf (Elt Bits) ((c.tc : Thread Cert.ChipSmall.nD Cert.ChipSmall.τ).loc Cert.ChipSmall.main_v0)),
      θ_run (Cert.ChipSmall.defs (F := Bits)) (onTc (τ := Cert.ChipSmall.τ) (Cert.ChipSmall.main (F := Bits))) ⟨m, fun _ => 0, g⟩ (fun r => ∀ c : Dev Cert.ChipSmall.nD,
          r.2.mem ((c.tc : Thread Cert.ChipSmall.nD Cert.ChipSmall.τ).loc Cert.ChipSmall.main_v0) = v0 c
          ∧ r.2.mem ((c.tc : Thread Cert.ChipSmall.nD Cert.ChipSmall.τ).loc Cert.ChipSmall.main_arg0) = m ((c.tc : Thread Cert.ChipSmall.nD Cert.ChipSmall.τ).loc Cert.ChipSmall.main_arg0)
          ∧ r.2.mem ((c.tc : Thread Cert.ChipSmall.nD Cert.ChipSmall.τ).loc Cert.ChipSmall.main_arg1) = m ((c.tc : Thread Cert.ChipSmall.nD Cert.ChipSmall.τ).loc Cert.ChipSmall.main_arg1))
      ∧ θ_run (Cert.ChipSmallRef.defs (F := Bits)) (onTc (τ := Cert.ChipSmallRef.τ) (Cert.ChipSmallRef.main (F := Bits))) ⟨m', fun _ => 0, g'⟩ (fun r => ∀ c : Dev Cert.ChipSmallRef.nD,
          r.2.mem ((c.tc : Thread Cert.ChipSmallRef.nD Cert.ChipSmallRef.τ).loc Cert.ChipSmallRef.main_v0) = v0 c
          ∧ r.2.mem ((c.tc : Thread Cert.ChipSmallRef.nD Cert.ChipSmallRef.τ).loc Cert.ChipSmallRef.main_arg0) = m' ((c.tc : Thread Cert.ChipSmallRef.nD Cert.ChipSmallRef.τ).loc Cert.ChipSmallRef.main_arg0)
          ∧ r.2.mem ((c.tc : Thread Cert.ChipSmallRef.nD Cert.ChipSmallRef.τ).loc Cert.ChipSmallRef.main_arg1) = m' ((c.tc : Thread Cert.ChipSmallRef.nD Cert.ChipSmallRef.τ).loc Cert.ChipSmallRef.main_arg1))

def preserves_SumA_SumAIdeal : Prop :=
  True

def algebraic_SumAIdeal_SumARefIdeal [hSumAIdeal : Cert.SumAIdeal.Facts] [hSumARefIdeal : Cert.SumARefIdeal.Facts] : Prop :=
  ∀ (m : (ℓ : Loc Cert.SumAIdeal.nD Cert.SumAIdeal.τ Cert.SumAIdeal.sig) → Buf (Elt Ideal) ℓ) (g : Dev Cert.SumAIdeal.nD → PrngReg)
    (m' : (ℓ : Loc Cert.SumARefIdeal.nD Cert.SumARefIdeal.τ Cert.SumARefIdeal.sig) → Buf (Elt Ideal) ℓ) (g' : Dev Cert.SumARefIdeal.nD → PrngReg), Pre_SumAIdeal m →
    (∀ c : Dev Cert.SumAIdeal.nD,
      m' ((c.tc : Thread Cert.SumARefIdeal.nD Cert.SumARefIdeal.τ).loc Cert.SumARefIdeal.main_arg0) = m ((c.tc : Thread Cert.SumAIdeal.nD Cert.SumAIdeal.τ).loc Cert.SumAIdeal.main_arg0)) →
    ∃ (v0 : (c : Dev Cert.SumAIdeal.nD) → Buf (Elt Ideal) ((c.tc : Thread Cert.SumAIdeal.nD Cert.SumAIdeal.τ).loc Cert.SumAIdeal.main_v0)),
      θ_run (Cert.SumAIdeal.defs (F := Ideal)) (onTc (τ := Cert.SumAIdeal.τ) (Cert.SumAIdeal.main (F := Ideal))) ⟨m, fun _ => 0, g⟩ (fun r => ∀ c : Dev Cert.SumAIdeal.nD,
          r.2.mem ((c.tc : Thread Cert.SumAIdeal.nD Cert.SumAIdeal.τ).loc Cert.SumAIdeal.main_v0) = v0 c
          ∧ r.2.mem ((c.tc : Thread Cert.SumAIdeal.nD Cert.SumAIdeal.τ).loc Cert.SumAIdeal.main_arg0) = m ((c.tc : Thread Cert.SumAIdeal.nD Cert.SumAIdeal.τ).loc Cert.SumAIdeal.main_arg0))
      ∧ θ_run (Cert.SumARefIdeal.defs (F := Ideal)) (onTc (τ := Cert.SumARefIdeal.τ) (Cert.SumARefIdeal.main (F := Ideal))) ⟨m', fun _ => 0, g'⟩ (fun r => ∀ c : Dev Cert.SumARefIdeal.nD,
          r.2.mem ((c.tc : Thread Cert.SumARefIdeal.nD Cert.SumARefIdeal.τ).loc Cert.SumARefIdeal.main_v1) = v0 c
          ∧ r.2.mem ((c.tc : Thread Cert.SumARefIdeal.nD Cert.SumARefIdeal.τ).loc Cert.SumARefIdeal.main_arg0) = m' ((c.tc : Thread Cert.SumARefIdeal.nD Cert.SumARefIdeal.τ).loc Cert.SumARefIdeal.main_arg0))

def preserves_SumB_SumBIdeal : Prop :=
  True

def algebraic_SumBIdeal_SumBRefIdeal [hSumBIdeal : Cert.SumBIdeal.Facts] [hSumBRefIdeal : Cert.SumBRefIdeal.Facts] : Prop :=
  ∀ (m : (ℓ : Loc Cert.SumBIdeal.nD Cert.SumBIdeal.τ Cert.SumBIdeal.sig) → Buf (Elt Ideal) ℓ) (g : Dev Cert.SumBIdeal.nD → PrngReg)
    (m' : (ℓ : Loc Cert.SumBRefIdeal.nD Cert.SumBRefIdeal.τ Cert.SumBRefIdeal.sig) → Buf (Elt Ideal) ℓ) (g' : Dev Cert.SumBRefIdeal.nD → PrngReg), Pre_SumBIdeal m →
    (∀ c : Dev Cert.SumBIdeal.nD,
      m' ((c.tc : Thread Cert.SumBRefIdeal.nD Cert.SumBRefIdeal.τ).loc Cert.SumBRefIdeal.main_arg0) = m ((c.tc : Thread Cert.SumBIdeal.nD Cert.SumBIdeal.τ).loc Cert.SumBIdeal.main_arg0)) →
    ∃ (v0 : (c : Dev Cert.SumBIdeal.nD) → Buf (Elt Ideal) ((c.tc : Thread Cert.SumBIdeal.nD Cert.SumBIdeal.τ).loc Cert.SumBIdeal.main_v0)),
      θ_run (Cert.SumBIdeal.defs (F := Ideal)) (onTc (τ := Cert.SumBIdeal.τ) (Cert.SumBIdeal.main (F := Ideal))) ⟨m, fun _ => 0, g⟩ (fun r => ∀ c : Dev Cert.SumBIdeal.nD,
          r.2.mem ((c.tc : Thread Cert.SumBIdeal.nD Cert.SumBIdeal.τ).loc Cert.SumBIdeal.main_v0) = v0 c
          ∧ r.2.mem ((c.tc : Thread Cert.SumBIdeal.nD Cert.SumBIdeal.τ).loc Cert.SumBIdeal.main_arg0) = m ((c.tc : Thread Cert.SumBIdeal.nD Cert.SumBIdeal.τ).loc Cert.SumBIdeal.main_arg0))
      ∧ θ_run (Cert.SumBRefIdeal.defs (F := Ideal)) (onTc (τ := Cert.SumBRefIdeal.τ) (Cert.SumBRefIdeal.main (F := Ideal))) ⟨m', fun _ => 0, g'⟩ (fun r => ∀ c : Dev Cert.SumBRefIdeal.nD,
          r.2.mem ((c.tc : Thread Cert.SumBRefIdeal.nD Cert.SumBRefIdeal.τ).loc Cert.SumBRefIdeal.main_v1) = v0 c
          ∧ r.2.mem ((c.tc : Thread Cert.SumBRefIdeal.nD Cert.SumBRefIdeal.τ).loc Cert.SumBRefIdeal.main_arg0) = m' ((c.tc : Thread Cert.SumBRefIdeal.nD Cert.SumBRefIdeal.τ).loc Cert.SumBRefIdeal.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamShard_AdamShardIdeal : Prop :=
  True

def algebraic_AdamShardIdeal_AdamShardRefIdeal [hAdamShardIdeal : Cert.AdamShardIdeal.Facts] [hAdamShardRefIdeal : Cert.AdamShardRefIdeal.Facts] : Prop :=
  ∀ (m : (ℓ : Loc Cert.AdamShardIdeal.nD Cert.AdamShardIdeal.τ Cert.AdamShardIdeal.sig) → Buf (Elt Ideal) ℓ) (g : Dev Cert.AdamShardIdeal.nD → PrngReg)
    (m' : (ℓ : Loc Cert.AdamShardRefIdeal.nD Cert.AdamShardRefIdeal.τ Cert.AdamShardRefIdeal.sig) → Buf (Elt Ideal) ℓ) (g' : Dev Cert.AdamShardRefIdeal.nD → PrngReg), Pre_AdamShardIdeal m →
    (∀ c : Dev Cert.AdamShardIdeal.nD,
      m' ((c.tc : Thread Cert.AdamShardRefIdeal.nD Cert.AdamShardRefIdeal.τ).loc Cert.AdamShardRefIdeal.main_arg0) = m ((c.tc : Thread Cert.AdamShardIdeal.nD Cert.AdamShardIdeal.τ).loc Cert.AdamShardIdeal.main_arg0)
      ∧ m' ((c.tc : Thread Cert.AdamShardRefIdeal.nD Cert.AdamShardRefIdeal.τ).loc Cert.AdamShardRefIdeal.main_arg1) = m ((c.tc : Thread Cert.AdamShardIdeal.nD Cert.AdamShardIdeal.τ).loc Cert.AdamShardIdeal.main_arg1)
      ∧ m' ((c.tc : Thread Cert.AdamShardRefIdeal.nD Cert.AdamShardRefIdeal.τ).loc Cert.AdamShardRefIdeal.main_arg2) = m ((c.tc : Thread Cert.AdamShardIdeal.nD Cert.AdamShardIdeal.τ).loc Cert.AdamShardIdeal.main_arg2)
      ∧ m' ((c.tc : Thread Cert.AdamShardRefIdeal.nD Cert.AdamShardRefIdeal.τ).loc Cert.AdamShardRefIdeal.main_arg3) = m ((c.tc : Thread Cert.AdamShardIdeal.nD Cert.AdamShardIdeal.τ).loc Cert.AdamShardIdeal.main_arg3)) →
    ∃ (v0 : (c : Dev Cert.AdamShardIdeal.nD) → Buf (Elt Ideal) ((c.tc : Thread Cert.AdamShardIdeal.nD Cert.AdamShardIdeal.τ).loc Cert.AdamShardIdeal.main_v0_0)) (v1 : (c : Dev Cert.AdamShardIdeal.nD) → Buf (Elt Ideal) ((c.tc : Thread Cert.AdamShardIdeal.nD Cert.AdamShardIdeal.τ).loc Cert.AdamShardIdeal.main_v0_1)) (v2 : (c : Dev Cert.AdamShardIdeal.nD) → Buf (Elt Ideal) ((c.tc : Thread Cert.AdamShardIdeal.nD Cert.AdamShardIdeal.τ).loc Cert.AdamShardIdeal.main_v0_2)) (v3 : (c : Dev Cert.AdamShardIdeal.nD) → Buf (Elt Ideal) ((c.tc : Thread Cert.AdamShardIdeal.nD Cert.AdamShardIdeal.τ).loc Cert.AdamShardIdeal.main_v0_3)),
      θ_run (Cert.AdamShardIdeal.defs (F := Ideal)) (onTc (τ := Cert.AdamShardIdeal.τ) (Cert.AdamShardIdeal.main (F := Ideal))) ⟨m, fun _ => 0, g⟩ (fun r => ∀ c : Dev Cert.AdamShardIdeal.nD,
          r.2.mem ((c.tc : Thread Cert.AdamShardIdeal.nD Cert.AdamShardIdeal.τ).loc Cert.AdamShardIdeal.main_v0_0) = v0 c
          ∧ r.2.mem ((c.tc : Thread Cert.AdamShardIdeal.nD Cert.AdamShardIdeal.τ).loc Cert.AdamShardIdeal.main_v0_1) = v1 c
          ∧ r.2.mem ((c.tc : Thread Cert.AdamShardIdeal.nD Cert.AdamShardIdeal.τ).loc Cert.AdamShardIdeal.main_v0_2) = v2 c
          ∧ r.2.mem ((c.tc : Thread Cert.AdamShardIdeal.nD Cert.AdamShardIdeal.τ).loc Cert.AdamShardIdeal.main_v0_3) = v3 c
          ∧ r.2.mem ((c.tc : Thread Cert.AdamShardIdeal.nD Cert.AdamShardIdeal.τ).loc Cert.AdamShardIdeal.main_arg0) = m ((c.tc : Thread Cert.AdamShardIdeal.nD Cert.AdamShardIdeal.τ).loc Cert.AdamShardIdeal.main_arg0)
          ∧ r.2.mem ((c.tc : Thread Cert.AdamShardIdeal.nD Cert.AdamShardIdeal.τ).loc Cert.AdamShardIdeal.main_arg1) = m ((c.tc : Thread Cert.AdamShardIdeal.nD Cert.AdamShardIdeal.τ).loc Cert.AdamShardIdeal.main_arg1)
          ∧ r.2.mem ((c.tc : Thread Cert.AdamShardIdeal.nD Cert.AdamShardIdeal.τ).loc Cert.AdamShardIdeal.main_arg2) = m ((c.tc : Thread Cert.AdamShardIdeal.nD Cert.AdamShardIdeal.τ).loc Cert.AdamShardIdeal.main_arg2)
          ∧ r.2.mem ((c.tc : Thread Cert.AdamShardIdeal.nD Cert.AdamShardIdeal.τ).loc Cert.AdamShardIdeal.main_arg3) = m ((c.tc : Thread Cert.AdamShardIdeal.nD Cert.AdamShardIdeal.τ).loc Cert.AdamShardIdeal.main_arg3))
      ∧ θ_run (Cert.AdamShardRefIdeal.defs (F := Ideal)) (onTc (τ := Cert.AdamShardRefIdeal.τ) (Cert.AdamShardRefIdeal.main (F := Ideal))) ⟨m', fun _ => 0, g'⟩ (fun r => ∀ c : Dev Cert.AdamShardRefIdeal.nD,
          r.2.mem ((c.tc : Thread Cert.AdamShardRefIdeal.nD Cert.AdamShardRefIdeal.τ).loc Cert.AdamShardRefIdeal.main_arg1) = v0 c
          ∧ r.2.mem ((c.tc : Thread Cert.AdamShardRefIdeal.nD Cert.AdamShardRefIdeal.τ).loc Cert.AdamShardRefIdeal.main_v23) = v1 c
          ∧ r.2.mem ((c.tc : Thread Cert.AdamShardRefIdeal.nD Cert.AdamShardRefIdeal.τ).loc Cert.AdamShardRefIdeal.main_v4) = v2 c
          ∧ r.2.mem ((c.tc : Thread Cert.AdamShardRefIdeal.nD Cert.AdamShardRefIdeal.τ).loc Cert.AdamShardRefIdeal.main_v10) = v3 c
          ∧ r.2.mem ((c.tc : Thread Cert.AdamShardRefIdeal.nD Cert.AdamShardRefIdeal.τ).loc Cert.AdamShardRefIdeal.main_arg0) = m' ((c.tc : Thread Cert.AdamShardRefIdeal.nD Cert.AdamShardRefIdeal.τ).loc Cert.AdamShardRefIdeal.main_arg0)
          ∧ r.2.mem ((c.tc : Thread Cert.AdamShardRefIdeal.nD Cert.AdamShardRefIdeal.τ).loc Cert.AdamShardRefIdeal.main_arg1) = m' ((c.tc : Thread Cert.AdamShardRefIdeal.nD Cert.AdamShardRefIdeal.τ).loc Cert.AdamShardRefIdeal.main_arg1)
          ∧ r.2.mem ((c.tc : Thread Cert.AdamShardRefIdeal.nD Cert.AdamShardRefIdeal.τ).loc Cert.AdamShardRefIdeal.main_arg2) = m' ((c.tc : Thread Cert.AdamShardRefIdeal.nD Cert.AdamShardRefIdeal.τ).loc Cert.AdamShardRefIdeal.main_arg2)
          ∧ r.2.mem ((c.tc : Thread Cert.AdamShardRefIdeal.nD Cert.AdamShardRefIdeal.τ).loc Cert.AdamShardRefIdeal.main_arg3) = m' ((c.tc : Thread Cert.AdamShardRefIdeal.nD Cert.AdamShardRefIdeal.τ).loc Cert.AdamShardRefIdeal.main_arg3))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v34) = v0 c
          ∧ r.2.mem ((c.tc : Thread Cert.RmsBwdRefIdeal.nD Cert.RmsBwdRefIdeal.τ).loc Cert.RmsBwdRefIdeal.main_v36) = v1 c
          ∧ r.2.mem ((c.tc : Thread Cert.RmsBwdRefIdeal.nD Cert.RmsBwdRefIdeal.τ).loc Cert.RmsBwdRefIdeal.main_v17) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)) (v3 : (c : Dev Cert.OutProjIdeal.nD) → Buf (Elt Ideal) ((c.tc : Thread Cert.OutProjIdeal.nD Cert.OutProjIdeal.τ).loc Cert.OutProjIdeal.main_v0_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_v0_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v47) = v0 c
          ∧ r.2.mem ((c.tc : Thread Cert.OutProjRefIdeal.nD Cert.OutProjRefIdeal.τ).loc Cert.OutProjRefIdeal.main_v46) = v1 c
          ∧ r.2.mem ((c.tc : Thread Cert.OutProjRefIdeal.nD Cert.OutProjRefIdeal.τ).loc Cert.OutProjRefIdeal.main_v48) = v2 c
          ∧ r.2.mem ((c.tc : Thread Cert.OutProjRefIdeal.nD Cert.OutProjRefIdeal.τ).loc Cert.OutProjRefIdeal.main_v49) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_LayerEnd_LayerEndIdeal : Prop :=
  True

def algebraic_LayerEndIdeal_LayerEndRefIdeal [hLayerEndIdeal : Cert.LayerEndIdeal.Facts] [hLayerEndRefIdeal : Cert.LayerEndRefIdeal.Facts] : Prop :=
  ∀ (m : (ℓ : Loc Cert.LayerEndIdeal.nD Cert.LayerEndIdeal.τ Cert.LayerEndIdeal.sig) → Buf (Elt Ideal) ℓ) (g : Dev Cert.LayerEndIdeal.nD → PrngReg)
    (m' : (ℓ : Loc Cert.LayerEndRefIdeal.nD Cert.LayerEndRefIdeal.τ Cert.LayerEndRefIdeal.sig) → Buf (Elt Ideal) ℓ) (g' : Dev Cert.LayerEndRefIdeal.nD → PrngReg), Pre_LayerEndIdeal m →
    (∀ c : Dev Cert.LayerEndIdeal.nD,
      m' ((c.tc : Thread Cert.LayerEndRefIdeal.nD Cert.LayerEndRefIdeal.τ).loc Cert.LayerEndRefIdeal.main_arg0) = m ((c.tc : Thread Cert.LayerEndIdeal.nD Cert.LayerEndIdeal.τ).loc Cert.LayerEndIdeal.main_arg0)
      ∧ m' ((c.tc : Thread Cert.LayerEndRefIdeal.nD Cert.LayerEndRefIdeal.τ).loc Cert.LayerEndRefIdeal.main_arg1) = m ((c.tc : Thread Cert.LayerEndIdeal.nD Cert.LayerEndIdeal.τ).loc Cert.LayerEndIdeal.main_arg1)
      ∧ m' ((c.tc : Thread Cert.LayerEndRefIdeal.nD Cert.LayerEndRefIdeal.τ).loc Cert.LayerEndRefIdeal.main_arg2) = m ((c.tc : Thread Cert.LayerEndIdeal.nD Cert.LayerEndIdeal.τ).loc Cert.LayerEndIdeal.main_arg2)
      ∧ m' ((c.tc : Thread Cert.LayerEndRefIdeal.nD Cert.LayerEndRefIdeal.τ).loc Cert.LayerEndRefIdeal.main_arg3) = m ((c.tc : Thread Cert.LayerEndIdeal.nD Cert.LayerEndIdeal.τ).loc Cert.LayerEndIdeal.main_arg3)
      ∧ m' ((c.tc : Thread Cert.LayerEndRefIdeal.nD Cert.LayerEndRefIdeal.τ).loc Cert.LayerEndRefIdeal.main_arg4) = m ((c.tc : Thread Cert.LayerEndIdeal.nD Cert.LayerEndIdeal.τ).loc Cert.LayerEndIdeal.main_arg4)
      ∧ m' ((c.tc : Thread Cert.LayerEndRefIdeal.nD Cert.LayerEndRefIdeal.τ).loc Cert.LayerEndRefIdeal.main_arg5) = m ((c.tc : Thread Cert.LayerEndIdeal.nD Cert.LayerEndIdeal.τ).loc Cert.LayerEndIdeal.main_arg5)
      ∧ m' ((c.tc : Thread Cert.LayerEndRefIdeal.nD Cert.LayerEndRefIdeal.τ).loc Cert.LayerEndRefIdeal.main_arg6) = m ((c.tc : Thread Cert.LayerEndIdeal.nD Cert.LayerEndIdeal.τ).loc Cert.LayerEndIdeal.main_arg6)) →
    ∃ (v0 : (c : Dev Cert.LayerEndIdeal.nD) → Buf (Elt Ideal) ((c.tc : Thread Cert.LayerEndIdeal.nD Cert.LayerEndIdeal.τ).loc Cert.LayerEndIdeal.main_v0_0)) (v1 : (c : Dev Cert.LayerEndIdeal.nD) → Buf (Elt Ideal) ((c.tc : Thread Cert.LayerEndIdeal.nD Cert.LayerEndIdeal.τ).loc Cert.LayerEndIdeal.main_v0_1)),
      θ_run (Cert.LayerEndIdeal.defs (F := Ideal)) (onTc (τ := Cert.LayerEndIdeal.τ) (Cert.LayerEndIdeal.main (F := Ideal))) ⟨m, fun _ => 0, g⟩ (fun r => ∀ c : Dev Cert.LayerEndIdeal.nD,
          r.2.mem ((c.tc : Thread Cert.LayerEndIdeal.nD Cert.LayerEndIdeal.τ).loc Cert.LayerEndIdeal.main_v0_0) = v0 c
          ∧ r.2.mem ((c.tc : Thread Cert.LayerEndIdeal.nD Cert.LayerEndIdeal.τ).loc Cert.LayerEndIdeal.main_v0_1) = v1 c
          ∧ r.2.mem ((c.tc : Thread Cert.LayerEndIdeal.nD Cert.LayerEndIdeal.τ).loc Cert.LayerEndIdeal.main_arg0) = m ((c.tc : Thread Cert.LayerEndIdeal.nD Cert.LayerEndIdeal.τ).loc Cert.LayerEndIdeal.main_arg0)
          ∧ r.2.mem ((c.tc : Thread Cert.LayerEndIdeal.nD Cert.LayerEndIdeal.τ).loc Cert.LayerEndIdeal.main_arg1) = m ((c.tc : Thread Cert.LayerEndIdeal.nD Cert.LayerEndIdeal.τ).loc Cert.LayerEndIdeal.main_arg1)
          ∧ r.2.mem ((c.tc : Thread Cert.LayerEndIdeal.nD Cert.LayerEndIdeal.τ).loc Cert.LayerEndIdeal.main_arg2) = m ((c.tc : Thread Cert.LayerEndIdeal.nD Cert.LayerEndIdeal.τ).loc Cert.LayerEndIdeal.main_arg2)
          ∧ r.2.mem ((c.tc : Thread Cert.LayerEndIdeal.nD Cert.LayerEndIdeal.τ).loc Cert.LayerEndIdeal.main_arg3) = m ((c.tc : Thread Cert.LayerEndIdeal.nD Cert.LayerEndIdeal.τ).loc Cert.LayerEndIdeal.main_arg3)
          ∧ r.2.mem ((c.tc : Thread Cert.LayerEndIdeal.nD Cert.LayerEndIdeal.τ).loc Cert.LayerEndIdeal.main_arg4) = m ((c.tc : Thread Cert.LayerEndIdeal.nD Cert.LayerEndIdeal.τ).loc Cert.LayerEndIdeal.main_arg4)
          ∧ r.2.mem ((c.tc : Thread Cert.LayerEndIdeal.nD Cert.LayerEndIdeal.τ).loc Cert.LayerEndIdeal.main_arg5) = m ((c.tc : Thread Cert.LayerEndIdeal.nD Cert.LayerEndIdeal.τ).loc Cert.LayerEndIdeal.main_arg5)
          ∧ r.2.mem ((c.tc : Thread Cert.LayerEndIdeal.nD Cert.LayerEndIdeal.τ).loc Cert.LayerEndIdeal.main_arg6) = m ((c.tc : Thread Cert.LayerEndIdeal.nD Cert.LayerEndIdeal.τ).loc Cert.LayerEndIdeal.main_arg6))
      ∧ θ_run (Cert.LayerEndRefIdeal.defs (F := Ideal)) (onTc (τ := Cert.LayerEndRefIdeal.τ) (Cert.LayerEndRefIdeal.main (F := Ideal))) ⟨m', fun _ => 0, g'⟩ (fun r => ∀ c : Dev Cert.LayerEndRefIdeal.nD,
          r.2.mem ((c.tc : Thread Cert.LayerEndRefIdeal.nD Cert.LayerEndRefIdeal.τ).loc Cert.LayerEndRefIdeal.main_v29) = v0 c
          ∧ r.2.mem ((c.tc : Thread Cert.LayerEndRefIdeal.nD Cert.LayerEndRefIdeal.τ).loc Cert.LayerEndRefIdeal.main_v32) = v1 c
          ∧ r.2.mem ((c.tc : Thread Cert.LayerEndRefIdeal.nD Cert.LayerEndRefIdeal.τ).loc Cert.LayerEndRefIdeal.main_arg0) = m' ((c.tc : Thread Cert.LayerEndRefIdeal.nD Cert.LayerEndRefIdeal.τ).loc Cert.LayerEndRefIdeal.main_arg0)
          ∧ r.2.mem ((c.tc : Thread Cert.LayerEndRefIdeal.nD Cert.LayerEndRefIdeal.τ).loc Cert.LayerEndRefIdeal.main_arg1) = m' ((c.tc : Thread Cert.LayerEndRefIdeal.nD Cert.LayerEndRefIdeal.τ).loc Cert.LayerEndRefIdeal.main_arg1)
          ∧ r.2.mem ((c.tc : Thread Cert.LayerEndRefIdeal.nD Cert.LayerEndRefIdeal.τ).loc Cert.LayerEndRefIdeal.main_arg2) = m' ((c.tc : Thread Cert.LayerEndRefIdeal.nD Cert.LayerEndRefIdeal.τ).loc Cert.LayerEndRefIdeal.main_arg2)
          ∧ r.2.mem ((c.tc : Thread Cert.LayerEndRefIdeal.nD Cert.LayerEndRefIdeal.τ).loc Cert.LayerEndRefIdeal.main_arg3) = m' ((c.tc : Thread Cert.LayerEndRefIdeal.nD Cert.LayerEndRefIdeal.τ).loc Cert.LayerEndRefIdeal.main_arg3)
          ∧ r.2.mem ((c.tc : Thread Cert.LayerEndRefIdeal.nD Cert.LayerEndRefIdeal.τ).loc Cert.LayerEndRefIdeal.main_arg4) = m' ((c.tc : Thread Cert.LayerEndRefIdeal.nD Cert.LayerEndRefIdeal.τ).loc Cert.LayerEndRefIdeal.main_arg4)
          ∧ r.2.mem ((c.tc : Thread Cert.LayerEndRefIdeal.nD Cert.LayerEndRefIdeal.τ).loc Cert.LayerEndRefIdeal.main_arg5) = m' ((c.tc : Thread Cert.LayerEndRefIdeal.nD Cert.LayerEndRefIdeal.τ).loc Cert.LayerEndRefIdeal.main_arg5)
          ∧ r.2.mem ((c.tc : Thread Cert.LayerEndRefIdeal.nD Cert.LayerEndRefIdeal.τ).loc Cert.LayerEndRefIdeal.main_arg6) = m' ((c.tc : Thread Cert.LayerEndRefIdeal.nD Cert.LayerEndRefIdeal.τ).loc Cert.LayerEndRefIdeal.main_arg6))

def preserves_OutProjBwd_OutProjBwdIdeal : Prop :=
  True

def algebraic_OutProjBwdIdeal_OutProjBwdRefIdeal [hOutProjBwdIdeal : Cert.OutProjBwdIdeal.Facts] [hOutProjBwdRefIdeal : Cert.OutProjBwdRefIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg)
    (m' : (ℓ : Loc Cert.OutProjBwdRefIdeal.nD Cert.OutProjBwdRefIdeal.τ Cert.OutProjBwdRefIdeal.sig) → Buf (Elt Ideal) ℓ) (g' : Dev Cert.OutProjBwdRefIdeal.nD → PrngReg), Pre_OutProjBwdIdeal m →
    (∀ c : Dev Cert.OutProjBwdIdeal.nD,
      m' ((c.tc : Thread Cert.OutProjBwdRefIdeal.nD Cert.OutProjBwdRefIdeal.τ).loc Cert.OutProjBwdRefIdeal.main_arg0) = m ((c.tc : Thread Cert.OutProjBwdIdeal.nD Cert.OutProjBwdIdeal.τ).loc Cert.OutProjBwdIdeal.main_arg0)
      ∧ m' ((c.tc : Thread Cert.OutProjBwdRefIdeal.nD Cert.OutProjBwdRefIdeal.τ).loc Cert.OutProjBwdRefIdeal.main_arg1) = m ((c.tc : Thread Cert.OutProjBwdIdeal.nD Cert.OutProjBwdIdeal.τ).loc Cert.OutProjBwdIdeal.main_arg1)
      ∧ m' ((c.tc : Thread Cert.OutProjBwdRefIdeal.nD Cert.OutProjBwdRefIdeal.τ).loc Cert.OutProjBwdRefIdeal.main_arg2) = m ((c.tc : Thread Cert.OutProjBwdIdeal.nD Cert.OutProjBwdIdeal.τ).loc Cert.OutProjBwdIdeal.main_arg2)
      ∧ m' ((c.tc : Thread Cert.OutProjBwdRefIdeal.nD Cert.OutProjBwdRefIdeal.τ).loc Cert.OutProjBwdRefIdeal.main_arg3) = m ((c.tc : Thread Cert.OutProjBwdIdeal.nD Cert.OutProjBwdIdeal.τ).loc Cert.OutProjBwdIdeal.main_arg3)
      ∧ m' ((c.tc : Thread Cert.OutProjBwdRefIdeal.nD Cert.OutProjBwdRefIdeal.τ).loc Cert.OutProjBwdRefIdeal.main_arg4) = m ((c.tc : Thread Cert.OutProjBwdIdeal.nD Cert.OutProjBwdIdeal.τ).loc Cert.OutProjBwdIdeal.main_arg4)
      ∧ m' ((c.tc : Thread Cert.OutProjBwdRefIdeal.nD Cert.OutProjBwdRefIdeal.τ).loc Cert.OutProjBwdRefIdeal.main_arg5) = m ((c.tc : Thread Cert.OutProjBwdIdeal.nD Cert.OutProjBwdIdeal.τ).loc Cert.OutProjBwdIdeal.main_arg5)
      ∧ m' ((c.tc : Thread Cert.OutProjBwdRefIdeal.nD Cert.OutProjBwdRefIdeal.τ).loc Cert.OutProjBwdRefIdeal.main_arg6) = m ((c.tc : Thread Cert.OutProjBwdIdeal.nD Cert.OutProjBwdIdeal.τ).loc Cert.OutProjBwdIdeal.main_arg6)) →
    ∃ (v0 : (c : Dev Cert.OutProjBwdIdeal.nD) → Buf (Elt Ideal) ((c.tc : Thread Cert.OutProjBwdIdeal.nD Cert.OutProjBwdIdeal.τ).loc Cert.OutProjBwdIdeal.main_v0_0)) (v1 : (c : Dev Cert.OutProjBwdIdeal.nD) → Buf (Elt Ideal) ((c.tc : Thread Cert.OutProjBwdIdeal.nD Cert.OutProjBwdIdeal.τ).loc Cert.OutProjBwdIdeal.main_v0_1)) (v2 : (c : Dev Cert.OutProjBwdIdeal.nD) → Buf (Elt Ideal) ((c.tc : Thread Cert.OutProjBwdIdeal.nD Cert.OutProjBwdIdeal.τ).loc Cert.OutProjBwdIdeal.main_v0_2)) (v3 : (c : Dev Cert.OutProjBwdIdeal.nD) → Buf (Elt Ideal) ((c.tc : Thread Cert.OutProjBwdIdeal.nD Cert.OutProjBwdIdeal.τ).loc Cert.OutProjBwdIdeal.main_v0_3)) (v4 : (c : Dev Cert.OutProjBwdIdeal.nD) → Buf (Elt Ideal) ((c.tc : Thread Cert.OutProjBwdIdeal.nD Cert.OutProjBwdIdeal.τ).loc Cert.OutProjBwdIdeal.main_v0_4)) (v5 : (c : Dev Cert.OutProjBwdIdeal.nD) → Buf (Elt Ideal) ((c.tc : Thread Cert.OutProjBwdIdeal.nD Cert.OutProjBwdIdeal.τ).loc Cert.OutProjBwdIdeal.main_v0_5)) (v6 : (c : Dev Cert.OutProjBwdIdeal.nD) → Buf (Elt Ideal) ((c.tc : Thread Cert.OutProjBwdIdeal.nD Cert.OutProjBwdIdeal.τ).loc Cert.OutProjBwdIdeal.main_v0_6)) (v7 : (c : Dev Cert.OutProjBwdIdeal.nD) → Buf (Elt Ideal) ((c.tc : Thread Cert.OutProjBwdIdeal.nD Cert.OutProjBwdIdeal.τ).loc Cert.OutProjBwdIdeal.main_v0_7)),
      θ_run (Cert.OutProjBwdIdeal.defs (F := Ideal)) (onTc (τ := Cert.OutProjBwdIdeal.τ) (Cert.OutProjBwdIdeal.main (F := Ideal))) ⟨m, fun _ => 0, g⟩ (fun r => ∀ c : Dev Cert.OutProjBwdIdeal.nD,
          r.2.mem ((c.tc : Thread Cert.OutProjBwdIdeal.nD Cert.OutProjBwdIdeal.τ).loc Cert.OutProjBwdIdeal.main_v0_0) = v0 c
          ∧ r.2.mem ((c.tc : Thread Cert.OutProjBwdIdeal.nD Cert.OutProjBwdIdeal.τ).loc Cert.OutProjBwdIdeal.main_v0_1) = v1 c
          ∧ r.2.mem ((c.tc : Thread Cert.OutProjBwdIdeal.nD Cert.OutProjBwdIdeal.τ).loc Cert.OutProjBwdIdeal.main_v0_2) = v2 c
          ∧ r.2.mem ((c.tc : Thread Cert.OutProjBwdIdeal.nD Cert.OutProjBwdIdeal.τ).loc Cert.OutProjBwdIdeal.main_v0_3) = v3 c
          ∧ r.2.mem ((c.tc : Thread Cert.OutProjBwdIdeal.nD Cert.OutProjBwdIdeal.τ).loc Cert.OutProjBwdIdeal.main_v0_4) = v4 c
          ∧ r.2.mem ((c.tc : Thread Cert.OutProjBwdIdeal.nD Cert.OutProjBwdIdeal.τ).loc Cert.OutProjBwdIdeal.main_v0_5) = v5 c
          ∧ r.2.mem ((c.tc : Thread Cert.OutProjBwdIdeal.nD Cert.OutProjBwdIdeal.τ).loc Cert.OutProjBwdIdeal.main_v0_6) = v6 c
          ∧ r.2.mem ((c.tc : Thread Cert.OutProjBwdIdeal.nD Cert.OutProjBwdIdeal.τ).loc Cert.OutProjBwdIdeal.main_v0_7) = v7 c
          ∧ r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
          ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
          ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2)
          ∧ r.2.mem ((c.tc : Thread Cert.OutProjBwdIdeal.nD Cert.OutProjBwdIdeal.τ).loc Cert.OutProjBwdIdeal.main_arg3) = m ((c.tc : Thread Cert.OutProjBwdIdeal.nD Cert.OutProjBwdIdeal.τ).loc Cert.OutProjBwdIdeal.main_arg3)
          ∧ r.2.mem ((c.tc : Thread Cert.OutProjBwdIdeal.nD Cert.OutProjBwdIdeal.τ).loc Cert.OutProjBwdIdeal.main_arg4) = m ((c.tc : Thread Cert.OutProjBwdIdeal.nD Cert.OutProjBwdIdeal.τ).loc Cert.OutProjBwdIdeal.main_arg4)
          ∧ r.2.mem ((c.tc : Thread Cert.OutProjBwdIdeal.nD Cert.OutProjBwdIdeal.τ).loc Cert.OutProjBwdIdeal.main_arg5) = m ((c.tc : Thread Cert.OutProjBwdIdeal.nD Cert.OutProjBwdIdeal.τ).loc Cert.OutProjBwdIdeal.main_arg5)
          ∧ r.2.mem ((c.tc : Thread Cert.OutProjBwdIdeal.nD Cert.OutProjBwdIdeal.τ).loc Cert.OutProjBwdIdeal.main_arg6) = m ((c.tc : Thread Cert.OutProjBwdIdeal.nD Cert.OutProjBwdIdeal.τ).loc Cert.OutProjBwdIdeal.main_arg6))
      ∧ θ_run (Cert.OutProjBwdRefIdeal.defs (F := Ideal)) (onTc (τ := Cert.OutProjBwdRefIdeal.τ) (Cert.OutProjBwdRefIdeal.main (F := Ideal))) ⟨m', fun _ => 0, g'⟩ (fun r => ∀ c : Dev Cert.OutProjBwdRefIdeal.nD,
          r.2.mem ((c.tc : Thread Cert.OutProjBwdRefIdeal.nD Cert.OutProjBwdRefIdeal.τ).loc Cert.OutProjBwdRefIdeal.main_v16) = v0 c
          ∧ r.2.mem ((c.tc : Thread Cert.OutProjBwdRefIdeal.nD Cert.OutProjBwdRefIdeal.τ).loc Cert.OutProjBwdRefIdeal.main_v22) = v1 c
          ∧ r.2.mem ((c.tc : Thread Cert.OutProjBwdRefIdeal.nD Cert.OutProjBwdRefIdeal.τ).loc Cert.OutProjBwdRefIdeal.main_v28) = v2 c
          ∧ r.2.mem ((c.tc : Thread Cert.OutProjBwdRefIdeal.nD Cert.OutProjBwdRefIdeal.τ).loc Cert.OutProjBwdRefIdeal.main_v34) = v3 c
          ∧ r.2.mem ((c.tc : Thread Cert.OutProjBwdRefIdeal.nD Cert.OutProjBwdRefIdeal.τ).loc Cert.OutProjBwdRefIdeal.main_v53) = v4 c
          ∧ r.2.mem ((c.tc : Thread Cert.OutProjBwdRefIdeal.nD Cert.OutProjBwdRefIdeal.τ).loc Cert.OutProjBwdRefIdeal.main_v72) = v5 c
          ∧ r.2.mem ((c.tc : Thread Cert.OutProjBwdRefIdeal.nD Cert.OutProjBwdRefIdeal.τ).loc Cert.OutProjBwdRefIdeal.main_v91) = v6 c
          ∧ r.2.mem ((c.tc : Thread Cert.OutProjBwdRefIdeal.nD Cert.OutProjBwdRefIdeal.τ).loc Cert.OutProjBwdRefIdeal.main_v110) = v7 c
          ∧ r.2.mem ((c.tc : Thread Cert.OutProjBwdRefIdeal.nD Cert.OutProjBwdRefIdeal.τ).loc Cert.OutProjBwdRefIdeal.main_arg0) = m' ((c.tc : Thread Cert.OutProjBwdRefIdeal.nD Cert.OutProjBwdRefIdeal.τ).loc Cert.OutProjBwdRefIdeal.main_arg0)
          ∧ r.2.mem ((c.tc : Thread Cert.OutProjBwdRefIdeal.nD Cert.OutProjBwdRefIdeal.τ).loc Cert.OutProjBwdRefIdeal.main_arg1) = m' ((c.tc : Thread Cert.OutProjBwdRefIdeal.nD Cert.OutProjBwdRefIdeal.τ).loc Cert.OutProjBwdRefIdeal.main_arg1)
          ∧ r.2.mem ((c.tc : Thread Cert.OutProjBwdRefIdeal.nD Cert.OutProjBwdRefIdeal.τ).loc Cert.OutProjBwdRefIdeal.main_arg2) = m' ((c.tc : Thread Cert.OutProjBwdRefIdeal.nD Cert.OutProjBwdRefIdeal.τ).loc Cert.OutProjBwdRefIdeal.main_arg2)
          ∧ r.2.mem ((c.tc : Thread Cert.OutProjBwdRefIdeal.nD Cert.OutProjBwdRefIdeal.τ).loc Cert.OutProjBwdRefIdeal.main_arg3) = m' ((c.tc : Thread Cert.OutProjBwdRefIdeal.nD Cert.OutProjBwdRefIdeal.τ).loc Cert.OutProjBwdRefIdeal.main_arg3)
          ∧ r.2.mem ((c.tc : Thread Cert.OutProjBwdRefIdeal.nD Cert.OutProjBwdRefIdeal.τ).loc Cert.OutProjBwdRefIdeal.main_arg4) = m' ((c.tc : Thread Cert.OutProjBwdRefIdeal.nD Cert.OutProjBwdRefIdeal.τ).loc Cert.OutProjBwdRefIdeal.main_arg4)
          ∧ r.2.mem ((c.tc : Thread Cert.OutProjBwdRefIdeal.nD Cert.OutProjBwdRefIdeal.τ).loc Cert.OutProjBwdRefIdeal.main_arg5) = m' ((c.tc : Thread Cert.OutProjBwdRefIdeal.nD Cert.OutProjBwdRefIdeal.τ).loc Cert.OutProjBwdRefIdeal.main_arg5)
          ∧ r.2.mem ((c.tc : Thread Cert.OutProjBwdRefIdeal.nD Cert.OutProjBwdRefIdeal.τ).loc Cert.OutProjBwdRefIdeal.main_arg6) = m' ((c.tc : Thread Cert.OutProjBwdRefIdeal.nD Cert.OutProjBwdRefIdeal.τ).loc Cert.OutProjBwdRefIdeal.main_arg6))

def preserves_MulZ_MulZIdeal : Prop :=
  True

def algebraic_MulZIdeal_MulZRefIdeal [hMulZIdeal : Cert.MulZIdeal.Facts] [hMulZRefIdeal : Cert.MulZRefIdeal.Facts] : Prop :=
  ∀ (m : (ℓ : Loc Cert.MulZIdeal.nD Cert.MulZIdeal.τ Cert.MulZIdeal.sig) → Buf (Elt Ideal) ℓ) (g : Dev Cert.MulZIdeal.nD → PrngReg)
    (m' : (ℓ : Loc Cert.MulZRefIdeal.nD Cert.MulZRefIdeal.τ Cert.MulZRefIdeal.sig) → Buf (Elt Ideal) ℓ) (g' : Dev Cert.MulZRefIdeal.nD → PrngReg), Pre_MulZIdeal m →
    (∀ c : Dev Cert.MulZIdeal.nD,
      m' ((c.tc : Thread Cert.MulZRefIdeal.nD Cert.MulZRefIdeal.τ).loc Cert.MulZRefIdeal.main_arg0) = m ((c.tc : Thread Cert.MulZIdeal.nD Cert.MulZIdeal.τ).loc Cert.MulZIdeal.main_arg0)
      ∧ m' ((c.tc : Thread Cert.MulZRefIdeal.nD Cert.MulZRefIdeal.τ).loc Cert.MulZRefIdeal.main_arg1) = m ((c.tc : Thread Cert.MulZIdeal.nD Cert.MulZIdeal.τ).loc Cert.MulZIdeal.main_arg1)) →
    ∃ (v0 : (c : Dev Cert.MulZIdeal.nD) → Buf (Elt Ideal) ((c.tc : Thread Cert.MulZIdeal.nD Cert.MulZIdeal.τ).loc Cert.MulZIdeal.main_v0)),
      θ_run (Cert.MulZIdeal.defs (F := Ideal)) (onTc (τ := Cert.MulZIdeal.τ) (Cert.MulZIdeal.main (F := Ideal))) ⟨m, fun _ => 0, g⟩ (fun r => ∀ c : Dev Cert.MulZIdeal.nD,
          r.2.mem ((c.tc : Thread Cert.MulZIdeal.nD Cert.MulZIdeal.τ).loc Cert.MulZIdeal.main_v0) = v0 c
          ∧ r.2.mem ((c.tc : Thread Cert.MulZIdeal.nD Cert.MulZIdeal.τ).loc Cert.MulZIdeal.main_arg0) = m ((c.tc : Thread Cert.MulZIdeal.nD Cert.MulZIdeal.τ).loc Cert.MulZIdeal.main_arg0)
          ∧ r.2.mem ((c.tc : Thread Cert.MulZIdeal.nD Cert.MulZIdeal.τ).loc Cert.MulZIdeal.main_arg1) = m ((c.tc : Thread Cert.MulZIdeal.nD Cert.MulZIdeal.τ).loc Cert.MulZIdeal.main_arg1))
      ∧ θ_run (Cert.MulZRefIdeal.defs (F := Ideal)) (onTc (τ := Cert.MulZRefIdeal.τ) (Cert.MulZRefIdeal.main (F := Ideal))) ⟨m', fun _ => 0, g'⟩ (fun r => ∀ c : Dev Cert.MulZRefIdeal.nD,
          r.2.mem ((c.tc : Thread Cert.MulZRefIdeal.nD Cert.MulZRefIdeal.τ).loc Cert.MulZRefIdeal.main_v2) = v0 c
          ∧ r.2.mem ((c.tc : Thread Cert.MulZRefIdeal.nD Cert.MulZRefIdeal.τ).loc Cert.MulZRefIdeal.main_arg0) = m' ((c.tc : Thread Cert.MulZRefIdeal.nD Cert.MulZRefIdeal.τ).loc Cert.MulZRefIdeal.main_arg0)
          ∧ r.2.mem ((c.tc : Thread Cert.MulZRefIdeal.nD Cert.MulZRefIdeal.τ).loc Cert.MulZRefIdeal.main_arg1) = m' ((c.tc : Thread Cert.MulZRefIdeal.nD Cert.MulZRefIdeal.τ).loc Cert.MulZRefIdeal.main_arg1))

def preserves_MulDh_MulDhIdeal : Prop :=
  True

def algebraic_MulDhIdeal_MulDhRefIdeal [hMulDhIdeal : Cert.MulDhIdeal.Facts] [hMulDhRefIdeal : Cert.MulDhRefIdeal.Facts] : Prop :=
  ∀ (m : (ℓ : Loc Cert.MulDhIdeal.nD Cert.MulDhIdeal.τ Cert.MulDhIdeal.sig) → Buf (Elt Ideal) ℓ) (g : Dev Cert.MulDhIdeal.nD → PrngReg)
    (m' : (ℓ : Loc Cert.MulDhRefIdeal.nD Cert.MulDhRefIdeal.τ Cert.MulDhRefIdeal.sig) → Buf (Elt Ideal) ℓ) (g' : Dev Cert.MulDhRefIdeal.nD → PrngReg), Pre_MulDhIdeal m →
    (∀ c : Dev Cert.MulDhIdeal.nD,
      m' ((c.tc : Thread Cert.MulDhRefIdeal.nD Cert.MulDhRefIdeal.τ).loc Cert.MulDhRefIdeal.main_arg0) = m ((c.tc : Thread Cert.MulDhIdeal.nD Cert.MulDhIdeal.τ).loc Cert.MulDhIdeal.main_arg0)
      ∧ m' ((c.tc : Thread Cert.MulDhRefIdeal.nD Cert.MulDhRefIdeal.τ).loc Cert.MulDhRefIdeal.main_arg1) = m ((c.tc : Thread Cert.MulDhIdeal.nD Cert.MulDhIdeal.τ).loc Cert.MulDhIdeal.main_arg1)) →
    ∃ (v0 : (c : Dev Cert.MulDhIdeal.nD) → Buf (Elt Ideal) ((c.tc : Thread Cert.MulDhIdeal.nD Cert.MulDhIdeal.τ).loc Cert.MulDhIdeal.main_v0)),
      θ_run (Cert.MulDhIdeal.defs (F := Ideal)) (onTc (τ := Cert.MulDhIdeal.τ) (Cert.MulDhIdeal.main (F := Ideal))) ⟨m, fun _ => 0, g⟩ (fun r => ∀ c : Dev Cert.MulDhIdeal.nD,
          r.2.mem ((c.tc : Thread Cert.MulDhIdeal.nD Cert.MulDhIdeal.τ).loc Cert.MulDhIdeal.main_v0) = v0 c
          ∧ r.2.mem ((c.tc : Thread Cert.MulDhIdeal.nD Cert.MulDhIdeal.τ).loc Cert.MulDhIdeal.main_arg0) = m ((c.tc : Thread Cert.MulDhIdeal.nD Cert.MulDhIdeal.τ).loc Cert.MulDhIdeal.main_arg0)
          ∧ r.2.mem ((c.tc : Thread Cert.MulDhIdeal.nD Cert.MulDhIdeal.τ).loc Cert.MulDhIdeal.main_arg1) = m ((c.tc : Thread Cert.MulDhIdeal.nD Cert.MulDhIdeal.τ).loc Cert.MulDhIdeal.main_arg1))
      ∧ θ_run (Cert.MulDhRefIdeal.defs (F := Ideal)) (onTc (τ := Cert.MulDhRefIdeal.τ) (Cert.MulDhRefIdeal.main (F := Ideal))) ⟨m', fun _ => 0, g'⟩ (fun r => ∀ c : Dev Cert.MulDhRefIdeal.nD,
          r.2.mem ((c.tc : Thread Cert.MulDhRefIdeal.nD Cert.MulDhRefIdeal.τ).loc Cert.MulDhRefIdeal.main_v2) = v0 c
          ∧ r.2.mem ((c.tc : Thread Cert.MulDhRefIdeal.nD Cert.MulDhRefIdeal.τ).loc Cert.MulDhRefIdeal.main_arg0) = m' ((c.tc : Thread Cert.MulDhRefIdeal.nD Cert.MulDhRefIdeal.τ).loc Cert.MulDhRefIdeal.main_arg0)
          ∧ r.2.mem ((c.tc : Thread Cert.MulDhRefIdeal.nD Cert.MulDhRefIdeal.τ).loc Cert.MulDhRefIdeal.main_arg1) = m' ((c.tc : Thread Cert.MulDhRefIdeal.nD Cert.MulDhRefIdeal.τ).loc Cert.MulDhRefIdeal.main_arg1))

def preserves_MulDwIn_MulDwInIdeal : Prop :=
  True

def algebraic_MulDwInIdeal_MulDwInRefIdeal [hMulDwInIdeal : Cert.MulDwInIdeal.Facts] [hMulDwInRefIdeal : Cert.MulDwInRefIdeal.Facts] : Prop :=
  ∀ (m : (ℓ : Loc Cert.MulDwInIdeal.nD Cert.MulDwInIdeal.τ Cert.MulDwInIdeal.sig) → Buf (Elt Ideal) ℓ) (g : Dev Cert.MulDwInIdeal.nD → PrngReg)
    (m' : (ℓ : Loc Cert.MulDwInRefIdeal.nD Cert.MulDwInRefIdeal.τ Cert.MulDwInRefIdeal.sig) → Buf (Elt Ideal) ℓ) (g' : Dev Cert.MulDwInRefIdeal.nD → PrngReg), Pre_MulDwInIdeal m →
    (∀ c : Dev Cert.MulDwInIdeal.nD,
      m' ((c.tc : Thread Cert.MulDwInRefIdeal.nD Cert.MulDwInRefIdeal.τ).loc Cert.MulDwInRefIdeal.main_arg0) = m ((c.tc : Thread Cert.MulDwInIdeal.nD Cert.MulDwInIdeal.τ).loc Cert.MulDwInIdeal.main_arg0)
      ∧ m' ((c.tc : Thread Cert.MulDwInRefIdeal.nD Cert.MulDwInRefIdeal.τ).loc Cert.MulDwInRefIdeal.main_arg1) = m ((c.tc : Thread Cert.MulDwInIdeal.nD Cert.MulDwInIdeal.τ).loc Cert.MulDwInIdeal.main_arg1)) →
    ∃ (v0 : (c : Dev Cert.MulDwInIdeal.nD) → Buf (Elt Ideal) ((c.tc : Thread Cert.MulDwInIdeal.nD Cert.MulDwInIdeal.τ).loc Cert.MulDwInIdeal.main_v0)),
      θ_run (Cert.MulDwInIdeal.defs (F := Ideal)) (onTc (τ := Cert.MulDwInIdeal.τ) (Cert.MulDwInIdeal.main (F := Ideal))) ⟨m, fun _ => 0, g⟩ (fun r => ∀ c : Dev Cert.MulDwInIdeal.nD,
          r.2.mem ((c.tc : Thread Cert.MulDwInIdeal.nD Cert.MulDwInIdeal.τ).loc Cert.MulDwInIdeal.main_v0) = v0 c
          ∧ r.2.mem ((c.tc : Thread Cert.MulDwInIdeal.nD Cert.MulDwInIdeal.τ).loc Cert.MulDwInIdeal.main_arg0) = m ((c.tc : Thread Cert.MulDwInIdeal.nD Cert.MulDwInIdeal.τ).loc Cert.MulDwInIdeal.main_arg0)
          ∧ r.2.mem ((c.tc : Thread Cert.MulDwInIdeal.nD Cert.MulDwInIdeal.τ).loc Cert.MulDwInIdeal.main_arg1) = m ((c.tc : Thread Cert.MulDwInIdeal.nD Cert.MulDwInIdeal.τ).loc Cert.MulDwInIdeal.main_arg1))
      ∧ θ_run (Cert.MulDwInRefIdeal.defs (F := Ideal)) (onTc (τ := Cert.MulDwInRefIdeal.τ) (Cert.MulDwInRefIdeal.main (F := Ideal))) ⟨m', fun _ => 0, g'⟩ (fun r => ∀ c : Dev Cert.MulDwInRefIdeal.nD,
          r.2.mem ((c.tc : Thread Cert.MulDwInRefIdeal.nD Cert.MulDwInRefIdeal.τ).loc Cert.MulDwInRefIdeal.main_v3) = v0 c
          ∧ r.2.mem ((c.tc : Thread Cert.MulDwInRefIdeal.nD Cert.MulDwInRefIdeal.τ).loc Cert.MulDwInRefIdeal.main_arg0) = m' ((c.tc : Thread Cert.MulDwInRefIdeal.nD Cert.MulDwInRefIdeal.τ).loc Cert.MulDwInRefIdeal.main_arg0)
          ∧ r.2.mem ((c.tc : Thread Cert.MulDwInRefIdeal.nD Cert.MulDwInRefIdeal.τ).loc Cert.MulDwInRefIdeal.main_arg1) = m' ((c.tc : Thread Cert.MulDwInRefIdeal.nD Cert.MulDwInRefIdeal.τ).loc Cert.MulDwInRefIdeal.main_arg1))

def preserves_MulDwOut_MulDwOutIdeal : Prop :=
  True

def algebraic_MulDwOutIdeal_MulDwOutRefIdeal [hMulDwOutIdeal : Cert.MulDwOutIdeal.Facts] [hMulDwOutRefIdeal : Cert.MulDwOutRefIdeal.Facts] : Prop :=
  ∀ (m : (ℓ : Loc Cert.MulDwOutIdeal.nD Cert.MulDwOutIdeal.τ Cert.MulDwOutIdeal.sig) → Buf (Elt Ideal) ℓ) (g : Dev Cert.MulDwOutIdeal.nD → PrngReg)
    (m' : (ℓ : Loc Cert.MulDwOutRefIdeal.nD Cert.MulDwOutRefIdeal.τ Cert.MulDwOutRefIdeal.sig) → Buf (Elt Ideal) ℓ) (g' : Dev Cert.MulDwOutRefIdeal.nD → PrngReg), Pre_MulDwOutIdeal m →
    (∀ c : Dev Cert.MulDwOutIdeal.nD,
      m' ((c.tc : Thread Cert.MulDwOutRefIdeal.nD Cert.MulDwOutRefIdeal.τ).loc Cert.MulDwOutRefIdeal.main_arg0) = m ((c.tc : Thread Cert.MulDwOutIdeal.nD Cert.MulDwOutIdeal.τ).loc Cert.MulDwOutIdeal.main_arg0)
      ∧ m' ((c.tc : Thread Cert.MulDwOutRefIdeal.nD Cert.MulDwOutRefIdeal.τ).loc Cert.MulDwOutRefIdeal.main_arg1) = m ((c.tc : Thread Cert.MulDwOutIdeal.nD Cert.MulDwOutIdeal.τ).loc Cert.MulDwOutIdeal.main_arg1)) →
    ∃ (v0 : (c : Dev Cert.MulDwOutIdeal.nD) → Buf (Elt Ideal) ((c.tc : Thread Cert.MulDwOutIdeal.nD Cert.MulDwOutIdeal.τ).loc Cert.MulDwOutIdeal.main_v0)),
      θ_run (Cert.MulDwOutIdeal.defs (F := Ideal)) (onTc (τ := Cert.MulDwOutIdeal.τ) (Cert.MulDwOutIdeal.main (F := Ideal))) ⟨m, fun _ => 0, g⟩ (fun r => ∀ c : Dev Cert.MulDwOutIdeal.nD,
          r.2.mem ((c.tc : Thread Cert.MulDwOutIdeal.nD Cert.MulDwOutIdeal.τ).loc Cert.MulDwOutIdeal.main_v0) = v0 c
          ∧ r.2.mem ((c.tc : Thread Cert.MulDwOutIdeal.nD Cert.MulDwOutIdeal.τ).loc Cert.MulDwOutIdeal.main_arg0) = m ((c.tc : Thread Cert.MulDwOutIdeal.nD Cert.MulDwOutIdeal.τ).loc Cert.MulDwOutIdeal.main_arg0)
          ∧ r.2.mem ((c.tc : Thread Cert.MulDwOutIdeal.nD Cert.MulDwOutIdeal.τ).loc Cert.MulDwOutIdeal.main_arg1) = m ((c.tc : Thread Cert.MulDwOutIdeal.nD Cert.MulDwOutIdeal.τ).loc Cert.MulDwOutIdeal.main_arg1))
      ∧ θ_run (Cert.MulDwOutRefIdeal.defs (F := Ideal)) (onTc (τ := Cert.MulDwOutRefIdeal.τ) (Cert.MulDwOutRefIdeal.main (F := Ideal))) ⟨m', fun _ => 0, g'⟩ (fun r => ∀ c : Dev Cert.MulDwOutRefIdeal.nD,
          r.2.mem ((c.tc : Thread Cert.MulDwOutRefIdeal.nD Cert.MulDwOutRefIdeal.τ).loc Cert.MulDwOutRefIdeal.main_v3) = v0 c
          ∧ r.2.mem ((c.tc : Thread Cert.MulDwOutRefIdeal.nD Cert.MulDwOutRefIdeal.τ).loc Cert.MulDwOutRefIdeal.main_arg0) = m' ((c.tc : Thread Cert.MulDwOutRefIdeal.nD Cert.MulDwOutRefIdeal.τ).loc Cert.MulDwOutRefIdeal.main_arg0)
          ∧ r.2.mem ((c.tc : Thread Cert.MulDwOutRefIdeal.nD Cert.MulDwOutRefIdeal.τ).loc Cert.MulDwOutRefIdeal.main_arg1) = m' ((c.tc : Thread Cert.MulDwOutRefIdeal.nD Cert.MulDwOutRefIdeal.τ).loc Cert.MulDwOutRefIdeal.main_arg1))

def Claim : Prop :=
  ∃ (hKernel : Cert.Kernel.Facts) (hKernelIdeal : Cert.KernelIdeal.Facts) (hReferenceIdeal : Cert.ReferenceIdeal.Facts) (hReference : Cert.Reference.Facts) (hToSibling : Cert.ToSibling.Facts) (hToSiblingIdeal : Cert.ToSiblingIdeal.Facts) (hToSiblingRefIdeal : Cert.ToSiblingRefIdeal.Facts) (hToSiblingRef : Cert.ToSiblingRef.Facts) (hToOwner : Cert.ToOwner.Facts) (hToOwnerIdeal : Cert.ToOwnerIdeal.Facts) (hToOwnerRefIdeal : Cert.ToOwnerRefIdeal.Facts) (hToOwnerRef : Cert.ToOwnerRef.Facts) (hReduced : Cert.Reduced.Facts) (hReducedIdeal : Cert.ReducedIdeal.Facts) (hReducedRefIdeal : Cert.ReducedRefIdeal.Facts) (hReducedRef : Cert.ReducedRef.Facts) (hChipA : Cert.ChipA.Facts) (hChipAIdeal : Cert.ChipAIdeal.Facts) (hChipARefIdeal : Cert.ChipARefIdeal.Facts) (hChipARef : Cert.ChipARef.Facts) (hChipB : Cert.ChipB.Facts) (hChipBIdeal : Cert.ChipBIdeal.Facts) (hChipBRefIdeal : Cert.ChipBRefIdeal.Facts) (hChipBRef : Cert.ChipBRef.Facts) (hChipSmall : Cert.ChipSmall.Facts) (hChipSmallIdeal : Cert.ChipSmallIdeal.Facts) (hChipSmallRefIdeal : Cert.ChipSmallRefIdeal.Facts) (hChipSmallRef : Cert.ChipSmallRef.Facts) (hSumA : Cert.SumA.Facts) (hSumAIdeal : Cert.SumAIdeal.Facts) (hSumARefIdeal : Cert.SumARefIdeal.Facts) (hSumB : Cert.SumB.Facts) (hSumBIdeal : Cert.SumBIdeal.Facts) (hSumBRefIdeal : Cert.SumBRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hAdamShard : Cert.AdamShard.Facts) (hAdamShardIdeal : Cert.AdamShardIdeal.Facts) (hAdamShardRefIdeal : Cert.AdamShardRefIdeal.Facts) (hRmsBwd : Cert.RmsBwd.Facts) (hRmsBwdIdeal : Cert.RmsBwdIdeal.Facts) (hRmsBwdRefIdeal : Cert.RmsBwdRefIdeal.Facts) (hOutProj : Cert.OutProj.Facts) (hOutProjIdeal : Cert.OutProjIdeal.Facts) (hOutProjRefIdeal : Cert.OutProjRefIdeal.Facts) (hRmsFwd : Cert.RmsFwd.Facts) (hRmsFwdIdeal : Cert.RmsFwdIdeal.Facts) (hRmsFwdRefIdeal : Cert.RmsFwdRefIdeal.Facts) (hLayerEnd : Cert.LayerEnd.Facts) (hLayerEndIdeal : Cert.LayerEndIdeal.Facts) (hLayerEndRefIdeal : Cert.LayerEndRefIdeal.Facts) (hOutProjBwd : Cert.OutProjBwd.Facts) (hOutProjBwdIdeal : Cert.OutProjBwdIdeal.Facts) (hOutProjBwdRefIdeal : Cert.OutProjBwdRefIdeal.Facts) (hMulZ : Cert.MulZ.Facts) (hMulZIdeal : Cert.MulZIdeal.Facts) (hMulZRefIdeal : Cert.MulZRefIdeal.Facts) (hMulDh : Cert.MulDh.Facts) (hMulDhIdeal : Cert.MulDhIdeal.Facts) (hMulDhRefIdeal : Cert.MulDhRefIdeal.Facts) (hMulDwIn : Cert.MulDwIn.Facts) (hMulDwInIdeal : Cert.MulDwInIdeal.Facts) (hMulDwInRefIdeal : Cert.MulDwInRefIdeal.Facts) (hMulDwOut : Cert.MulDwOut.Facts) (hMulDwOutIdeal : Cert.MulDwOutIdeal.Facts) (hMulDwOutRefIdeal : Cert.MulDwOutRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_ToSibling (hToSibling := hToSibling)
    ∧ quiescent_ToSiblingIdeal (hToSiblingIdeal := hToSiblingIdeal)
    ∧ quiescent_ToSiblingRefIdeal (hToSiblingRefIdeal := hToSiblingRefIdeal)
    ∧ quiescent_ToSiblingRef (hToSiblingRef := hToSiblingRef)
    ∧ quiescent_ToOwner (hToOwner := hToOwner)
    ∧ quiescent_ToOwnerIdeal (hToOwnerIdeal := hToOwnerIdeal)
    ∧ quiescent_ToOwnerRefIdeal (hToOwnerRefIdeal := hToOwnerRefIdeal)
    ∧ quiescent_ToOwnerRef (hToOwnerRef := hToOwnerRef)
    ∧ quiescent_Reduced (hReduced := hReduced)
    ∧ quiescent_ReducedIdeal (hReducedIdeal := hReducedIdeal)
    ∧ quiescent_ReducedRefIdeal (hReducedRefIdeal := hReducedRefIdeal)
    ∧ quiescent_ReducedRef (hReducedRef := hReducedRef)
    ∧ quiescent_ChipA (hChipA := hChipA)
    ∧ quiescent_ChipAIdeal (hChipAIdeal := hChipAIdeal)
    ∧ quiescent_ChipARefIdeal (hChipARefIdeal := hChipARefIdeal)
    ∧ quiescent_ChipARef (hChipARef := hChipARef)
    ∧ quiescent_ChipB (hChipB := hChipB)
    ∧ quiescent_ChipBIdeal (hChipBIdeal := hChipBIdeal)
    ∧ quiescent_ChipBRefIdeal (hChipBRefIdeal := hChipBRefIdeal)
    ∧ quiescent_ChipBRef (hChipBRef := hChipBRef)
    ∧ quiescent_ChipSmall (hChipSmall := hChipSmall)
    ∧ quiescent_ChipSmallIdeal (hChipSmallIdeal := hChipSmallIdeal)
    ∧ quiescent_ChipSmallRefIdeal (hChipSmallRefIdeal := hChipSmallRefIdeal)
    ∧ quiescent_ChipSmallRef (hChipSmallRef := hChipSmallRef)
    ∧ quiescent_SumA (hSumA := hSumA)
    ∧ quiescent_SumAIdeal (hSumAIdeal := hSumAIdeal)
    ∧ quiescent_SumARefIdeal (hSumARefIdeal := hSumARefIdeal)
    ∧ quiescent_SumB (hSumB := hSumB)
    ∧ quiescent_SumBIdeal (hSumBIdeal := hSumBIdeal)
    ∧ quiescent_SumBRefIdeal (hSumBRefIdeal := hSumBRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamShard (hAdamShard := hAdamShard)
    ∧ quiescent_AdamShardIdeal (hAdamShardIdeal := hAdamShardIdeal)
    ∧ quiescent_AdamShardRefIdeal (hAdamShardRefIdeal := hAdamShardRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_LayerEnd (hLayerEnd := hLayerEnd)
    ∧ quiescent_LayerEndIdeal (hLayerEndIdeal := hLayerEndIdeal)
    ∧ quiescent_LayerEndRefIdeal (hLayerEndRefIdeal := hLayerEndRefIdeal)
    ∧ quiescent_OutProjBwd (hOutProjBwd := hOutProjBwd)
    ∧ quiescent_OutProjBwdIdeal (hOutProjBwdIdeal := hOutProjBwdIdeal)
    ∧ quiescent_OutProjBwdRefIdeal (hOutProjBwdRefIdeal := hOutProjBwdRefIdeal)
    ∧ quiescent_MulZ (hMulZ := hMulZ)
    ∧ quiescent_MulZIdeal (hMulZIdeal := hMulZIdeal)
    ∧ quiescent_MulZRefIdeal (hMulZRefIdeal := hMulZRefIdeal)
    ∧ quiescent_MulDh (hMulDh := hMulDh)
    ∧ quiescent_MulDhIdeal (hMulDhIdeal := hMulDhIdeal)
    ∧ quiescent_MulDhRefIdeal (hMulDhRefIdeal := hMulDhRefIdeal)
    ∧ quiescent_MulDwIn (hMulDwIn := hMulDwIn)
    ∧ quiescent_MulDwInIdeal (hMulDwInIdeal := hMulDwInIdeal)
    ∧ quiescent_MulDwInRefIdeal (hMulDwInRefIdeal := hMulDwInRefIdeal)
    ∧ quiescent_MulDwOut (hMulDwOut := hMulDwOut)
    ∧ quiescent_MulDwOutIdeal (hMulDwOutIdeal := hMulDwOutIdeal)
    ∧ quiescent_MulDwOutRefIdeal (hMulDwOutRefIdeal := hMulDwOutRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_ToSibling_ToSiblingIdeal
    ∧ algebraic_ToSiblingIdeal_ToSiblingRefIdeal (hToSiblingIdeal := hToSiblingIdeal) (hToSiblingRefIdeal := hToSiblingRefIdeal)
    ∧ bitexact_ToSibling_ToSiblingRef (hToSibling := hToSibling) (hToSiblingRef := hToSiblingRef)
    ∧ preserves_ToOwner_ToOwnerIdeal
    ∧ algebraic_ToOwnerIdeal_ToOwnerRefIdeal (hToOwnerIdeal := hToOwnerIdeal) (hToOwnerRefIdeal := hToOwnerRefIdeal)
    ∧ bitexact_ToOwner_ToOwnerRef (hToOwner := hToOwner) (hToOwnerRef := hToOwnerRef)
    ∧ preserves_Reduced_ReducedIdeal
    ∧ algebraic_ReducedIdeal_ReducedRefIdeal (hReducedIdeal := hReducedIdeal) (hReducedRefIdeal := hReducedRefIdeal)
    ∧ bitexact_Reduced_ReducedRef (hReduced := hReduced) (hReducedRef := hReducedRef)
    ∧ preserves_ChipA_ChipAIdeal
    ∧ algebraic_ChipAIdeal_ChipARefIdeal (hChipAIdeal := hChipAIdeal) (hChipARefIdeal := hChipARefIdeal)
    ∧ bitexact_ChipA_ChipARef (hChipA := hChipA) (hChipARef := hChipARef)
    ∧ preserves_ChipB_ChipBIdeal
    ∧ algebraic_ChipBIdeal_ChipBRefIdeal (hChipBIdeal := hChipBIdeal) (hChipBRefIdeal := hChipBRefIdeal)
    ∧ bitexact_ChipB_ChipBRef (hChipB := hChipB) (hChipBRef := hChipBRef)
    ∧ preserves_ChipSmall_ChipSmallIdeal
    ∧ algebraic_ChipSmallIdeal_ChipSmallRefIdeal (hChipSmallIdeal := hChipSmallIdeal) (hChipSmallRefIdeal := hChipSmallRefIdeal)
    ∧ bitexact_ChipSmall_ChipSmallRef (hChipSmall := hChipSmall) (hChipSmallRef := hChipSmallRef)
    ∧ preserves_SumA_SumAIdeal
    ∧ algebraic_SumAIdeal_SumARefIdeal (hSumAIdeal := hSumAIdeal) (hSumARefIdeal := hSumARefIdeal)
    ∧ preserves_SumB_SumBIdeal
    ∧ algebraic_SumBIdeal_SumBRefIdeal (hSumBIdeal := hSumBIdeal) (hSumBRefIdeal := hSumBRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamShard_AdamShardIdeal
    ∧ algebraic_AdamShardIdeal_AdamShardRefIdeal (hAdamShardIdeal := hAdamShardIdeal) (hAdamShardRefIdeal := hAdamShardRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_OutProj_OutProjIdeal
    ∧ algebraic_OutProjIdeal_OutProjRefIdeal (hOutProjIdeal := hOutProjIdeal) (hOutProjRefIdeal := hOutProjRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_LayerEnd_LayerEndIdeal
    ∧ algebraic_LayerEndIdeal_LayerEndRefIdeal (hLayerEndIdeal := hLayerEndIdeal) (hLayerEndRefIdeal := hLayerEndRefIdeal)
    ∧ preserves_OutProjBwd_OutProjBwdIdeal
    ∧ algebraic_OutProjBwdIdeal_OutProjBwdRefIdeal (hOutProjBwdIdeal := hOutProjBwdIdeal) (hOutProjBwdRefIdeal := hOutProjBwdRefIdeal)
    ∧ preserves_MulZ_MulZIdeal
    ∧ algebraic_MulZIdeal_MulZRefIdeal (hMulZIdeal := hMulZIdeal) (hMulZRefIdeal := hMulZRefIdeal)
    ∧ preserves_MulDh_MulDhIdeal
    ∧ algebraic_MulDhIdeal_MulDhRefIdeal (hMulDhIdeal := hMulDhIdeal) (hMulDhRefIdeal := hMulDhRefIdeal)
    ∧ preserves_MulDwIn_MulDwInIdeal
    ∧ algebraic_MulDwInIdeal_MulDwInRefIdeal (hMulDwInIdeal := hMulDwInIdeal) (hMulDwInRefIdeal := hMulDwInRefIdeal)
    ∧ preserves_MulDwOut_MulDwOutIdeal
    ∧ algebraic_MulDwOutIdeal_MulDwOutRefIdeal (hMulDwOutIdeal := hMulDwOutIdeal) (hMulDwOutRefIdeal := hMulDwOutRefIdeal)
-- ==== Kernel.lean ====
abbrev S2x1544x2048 : Shape := ⟨3, ![2, 1544, 2048]⟩
abbrev S2x512x2048 : Shape := ⟨3, ![2, 512, 2048]⟩
abbrev S2x64x128 : Shape := ⟨3, ![2, 64, 128]⟩
abbrev S4x2x1544x2048 : Shape := ⟨4, ![4, 2, 1544, 2048]⟩
abbrev S4x2x512x2048 : Shape := ⟨4, ![4, 2, 512, 2048]⟩
abbrev S4x2x64x128 : Shape := ⟨4, ![4, 2, 64, 128]⟩
abbrev S24 : Shape := ⟨1, ![24]⟩
abbrev S3 : Shape := ⟨1, ![3]⟩
abbrev S1 : Shape := ⟨1, ![1]⟩
abbrev S_ : Shape := ⟨0, ![]⟩
abbrev S1x2x1544x2048 : Shape := ⟨4, ![1, 2, 1544, 2048]⟩
abbrev S1x2x512x2048 : Shape := ⟨4, ![1, 2, 512, 2048]⟩
abbrev S1x2x64x128 : Shape := ⟨4, ![1, 2, 64, 128]⟩
abbrev S1x1x1544x2048 : Shape := ⟨4, ![1, 1, 1544, 2048]⟩
abbrev S1544x2048 : Shape := ⟨2, ![1544, 2048]⟩
abbrev S1x1544x2048 : Shape := ⟨3, ![1, 1544, 2048]⟩
abbrev S1x1x256x2048 : Shape := ⟨4, ![1, 1, 256, 2048]⟩
abbrev S256x2048 : Shape := ⟨2, ![256, 2048]⟩
abbrev S1x256x2048 : Shape := ⟨3, ![1, 256, 2048]⟩
abbrev S1x1x64x128 : Shape := ⟨4, ![1, 1, 64, 128]⟩
abbrev S64x128 : Shape := ⟨2, ![64, 128]⟩
abbrev S1x64x128 : Shape := ⟨3, ![1, 64, 128]⟩

abbrev nBuf : Space → Nat
  | .hbm => 6
  | .vmem => 0
  | .smem => 0
  | _ => 0

abbrev bufTy : (tb : Table) → Fin (tcTables nBuf tb) → BufTy
  | .hbm, ⟨0, _⟩ => ⟨S2x1544x2048, .bf16⟩
  | .hbm, ⟨1, _⟩ => ⟨S2x512x2048, .bf16⟩
  | .hbm, ⟨2, _⟩ => ⟨S2x64x128, .f32⟩
  | .hbm, ⟨3, _⟩ => ⟨S4x2x1544x2048, .bf16⟩
  | .hbm, ⟨4, _⟩ => ⟨S4x2x512x2048, .bf16⟩
  | .hbm, ⟨5, _⟩ => ⟨S4x2x64x128, .f32⟩
  | _, _ => ⟨S2x1544x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  let c0_i32_6 : BitVec 32 := 0#32
  ![v10.toNat, 0, 0, 0]
def k0_off2 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_8 : BitVec 32 := 0#32
  let c0_i32_9 : BitVec 32 := 0#32
  let c0_i32_10 : BitVec 32 := 0#32
  ![v10.toNat, 0, 0, 0]
def k0_off3 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_12 : BitVec 32 := 0#32
  let c0_i32_13 : BitVec 32 := 0#32
  let c0_i32_14 : BitVec 32 := 0#32
  ![v10.toNat, 0, 0, 0]
def k0_off4 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_37 : BitVec 32 := 0#32
  let c0_i32_38 : BitVec 32 := 0#32
  ![v10.toNat, v8.toNat, 0, 0]
def k0_off5 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_39 : BitVec 32 := 0#32
  let c0_i32_40 : BitVec 32 := 0#32
  ![v8.toNat, 0, 0]
def k0_dev1 (d0 : Dev nD) : Nat :=
  let c0_i32_34 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_15 v2
  let c4_i32_33 : BitVec 32 := 4#32
  let v39 : BitVec 32 := Scalar.muli v23 c4_i32_33
  let v40 : BitVec 32 := Scalar.addi c0_i32_34 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v41 : BitVec 32 := Scalar.muli v5 c2_i32_35
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v43 : BitVec 32 := Scalar.muli v8 c1_i32_36
  let v44 : BitVec 32 := Scalar.addi v42 v43
  v44.toNat
def k0_dev2 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v53 : BitVec 32 := Scalar.muli v2 c4_i32_43
  let v54 : BitVec 32 := Scalar.addi c0_i32_44 v53
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_16 v5
  let c2_i32_45 : BitVec 32 := 2#32
  let v55 : BitVec 32 := Scalar.muli v24 c2_i32_45
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v57 : BitVec 32 := Scalar.muli v8 c1_i32_46
  let v58 : BitVec 32 := Scalar.addi v56 v57
  v58.toNat
def k0_dev3 (d0 : Dev nD) : Nat :=
  let c0_i32_54 : BitVec 32 := 0#32
  let c1_i32_17 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_17 v2
  let c4_i32_53 : BitVec 32 := 4#32
  let v67 : BitVec 32 := Scalar.muli v25 c4_i32_53
  let v68 : BitVec 32 := Scalar.addi c0_i32_54 v67
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.subi c1_i32_18 v5
  let c2_i32_55 : BitVec 32 := 2#32
  let v69 : BitVec 32 := Scalar.muli v26 c2_i32_55
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v71 : BitVec 32 := Scalar.muli v8 c1_i32_56
  let v72 : BitVec 32 := Scalar.addi v70 v71
  v72.toNat
def k0_off6 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_66 : BitVec 32 := 0#32
  let c0_i32_67 : BitVec 32 := 0#32
  ![v10.toNat, v8.toNat, 0, 0]
def k0_off7 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_68 : BitVec 32 := 0#32
  let c0_i32_69 : BitVec 32 := 0#32
  ![v8.toNat, 0, 0]
def k0_dev4 (d0 : Dev nD) : Nat :=
  let c0_i32_63 : BitVec 32 := 0#32
  let c1_i32_19 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_19 v2
  let c4_i32_62 : BitVec 32 := 4#32
  let v81 : BitVec 32 := Scalar.muli v27 c4_i32_62
  let v82 : BitVec 32 := Scalar.addi c0_i32_63 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v83 : BitVec 32 := Scalar.muli v5 c2_i32_64
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v85 : BitVec 32 := Scalar.muli v8 c1_i32_65
  let v86 : BitVec 32 := Scalar.addi v84 v85
  v86.toNat
def k0_dev5 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v95 : BitVec 32 := Scalar.muli v2 c4_i32_72
  let v96 : BitVec 32 := Scalar.addi c0_i32_73 v95
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_20 v5
  let c2_i32_74 : BitVec 32 := 2#32
  let v97 : BitVec 32 := Scalar.muli v28 c2_i32_74
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v99 : BitVec 32 := Scalar.muli v8 c1_i32_75
  let v100 : BitVec 32 := Scalar.addi v98 v99
  v100.toNat
def k0_dev6 (d0 : Dev nD) : Nat :=
  let c0_i32_82 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_21 v2
  let c4_i32_81 : BitVec 32 := 4#32
  let v109 : BitVec 32 := Scalar.muli v29 c4_i32_81
  let v110 : BitVec 32 := Scalar.addi c0_i32_82 v109
  let c1_i32_22 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_22 v5
  let c2_i32_83 : BitVec 32 := 2#32
  let v111 : BitVec 32 := Scalar.muli v30 c2_i32_83
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v113 : BitVec 32 := Scalar.muli v8 c1_i32_84
  let v114 : BitVec 32 := Scalar.addi v112 v113
  v114.toNat
def k0_off8 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_94 : BitVec 32 := 0#32
  let c0_i32_95 : BitVec 32 := 0#32
  ![v10.toNat, v8.toNat, 0, 0]
def k0_off9 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_96 : BitVec 32 := 0#32
  let c0_i32_97 : BitVec 32 := 0#32
  ![v8.toNat, 0, 0]
def k0_dev7 (d0 : Dev nD) : Nat :=
  let c0_i32_91 : BitVec 32 := 0#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_23 v2
  let c4_i32_90 : BitVec 32 := 4#32
  let v123 : BitVec 32 := Scalar.muli v31 c4_i32_90
  let v124 : BitVec 32 := Scalar.addi c0_i32_91 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v125 : BitVec 32 := Scalar.muli v5 c2_i32_92
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v127 : BitVec 32 := Scalar.muli v8 c1_i32_93
  let v128 : BitVec 32 := Scalar.addi v126 v127
  v128.toNat
def k0_dev8 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v137 : BitVec 32 := Scalar.muli v2 c4_i32_99
  let v138 : BitVec 32 := Scalar.addi c0_i32_100 v137
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_24 v5
  let c2_i32_101 : BitVec 32 := 2#32
  let v139 : BitVec 32 := Scalar.muli v32 c2_i32_101
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v141 : BitVec 32 := Scalar.muli v8 c1_i32_102
  let v142 : BitVec 32 := Scalar.addi v140 v141
  v142.toNat
def k0_dev9 (d0 : Dev nD) : Nat :=
  let c0_i32_109 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_25 v2
  let c4_i32_108 : BitVec 32 := 4#32
  let v151 : BitVec 32 := Scalar.muli v33 c4_i32_108
  let v152 : BitVec 32 := Scalar.addi c0_i32_109 v151
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_26 v5
  let c2_i32_110 : BitVec 32 := 2#32
  let v153 : BitVec 32 := Scalar.muli v34 c2_i32_110
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v155 : BitVec 32 := Scalar.muli v8 c1_i32_111
  let v156 : BitVec 32 := Scalar.addi v154 v155
  v156.toNat
def k0_off10 (d0 : Dev nD) : Fin 4 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let c0_i32_121 : BitVec 32 := 0#32
  ![v10.toNat, v8.toNat, 256, 0]
def k0_off11 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_122 : BitVec 32 := 256#32
  let c0_i32_123 : BitVec 32 := 0#32
  ![v8.toNat, 256, 0]
def k0_dev10 (d0 : Dev nD) : Nat :=
  let c0_i32_118 : BitVec 32 := 0#32
  let c1_i32_27 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.subi c1_i32_27 v2
  let c4_i32_117 : BitVec 32 := 4#32
  let v165 : BitVec 32 := Scalar.muli v35 c4_i32_117
  let v166 : BitVec 32 := Scalar.addi c0_i32_118 v165
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v167 : BitVec 32 := Scalar.muli v5 c2_i32_119
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v169 : BitVec 32 := Scalar.muli v8 c1_i32_120
  let v170 : BitVec 32 := Scalar.addi v168 v169
  v170.toNat
def k0_dev11 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v179 : BitVec 32 := Scalar.muli v2 c4_i32_125
  let v180 : BitVec 32 := Scalar.addi c0_i32_126 v179
  let c1_i32_28 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_28 v5
  let c2_i32_127 : BitVec 32 := 2#32
  let v181 : BitVec 32 := Scalar.muli v36 c2_i32_127
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v183 : BitVec 32 := Scalar.muli v8 c1_i32_128
  let v184 : BitVec 32 := Scalar.addi v182 v183
  v184.toNat
def k0_dev12 (d0 : Dev nD) : Nat :=
  let c0_i32_135 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_29 v2
  let c4_i32_134 : BitVec 32 := 4#32
  let v193 : BitVec 32 := Scalar.muli v37 c4_i32_134
  let v194 : BitVec 32 := Scalar.addi c0_i32_135 v193
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_30 v5
  let c2_i32_136 : BitVec 32 := 2#32
  let v195 : BitVec 32 := Scalar.muli v38 c2_i32_136
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_137 : BitVec 32 := 1#32
  let v197 : BitVec 32 := Scalar.muli v8 c1_i32_137
  let v198 : BitVec 32 := Scalar.addi v196 v197
  v198.toNat
def k0_off12 (d0 : Dev nD) : Fin 4 → Nat :=
  let c2_i32_156 : BitVec 32 := 2#32
  let c1_i32_142 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v207 : BitVec 32 := Scalar.subi c1_i32_142 v2
  let v223 : BitVec 32 := Scalar.muli c2_i32_156 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v224 : BitVec 32 := Scalar.addi v223 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_163 : BitVec 32 := 0#32
  let c0_i32_164 : BitVec 32 := 0#32
  ![v224.toNat, v8.toNat, 0, 0]
def k0_dev13 (d0 : Dev nD) : Nat :=
  let c0_i32_160 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_159 : BitVec 32 := 4#32
  let v226 : BitVec 32 := Scalar.muli v2 c4_i32_159
  let v227 : BitVec 32 := Scalar.addi c0_i32_160 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v228 : BitVec 32 := Scalar.muli v5 c2_i32_161
  let v229 : BitVec 32 := Scalar.addi v227 v228
  let c1_i32_157 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v225 : BitVec 32 := Scalar.subi c1_i32_157 v8
  let c1_i32_162 : BitVec 32 := 1#32
  let v230 : BitVec 32 := Scalar.muli v225 c1_i32_162
  let v231 : BitVec 32 := Scalar.addi v229 v230
  v231.toNat
def k0_off13 (d0 : Dev nD) : Fin 4 → Nat :=
  let c2_i32_177 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v252 : BitVec 32 := Scalar.muli c2_i32_177 v2
  let c1_i32_143 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v208 : BitVec 32 := Scalar.subi c1_i32_143 v5
  let v253 : BitVec 32 := Scalar.addi v252 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_184 : BitVec 32 := 0#32
  let c0_i32_185 : BitVec 32 := 0#32
  ![v253.toNat, v8.toNat, 0, 0]
def k0_dev14 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v255 : BitVec 32 := Scalar.muli v2 c4_i32_180
  let v256 : BitVec 32 := Scalar.addi c0_i32_181 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v257 : BitVec 32 := Scalar.muli v5 c2_i32_182
  let v258 : BitVec 32 := Scalar.addi v256 v257
  let c1_i32_178 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v254 : BitVec 32 := Scalar.subi c1_i32_178 v8
  let c1_i32_183 : BitVec 32 := 1#32
  let v259 : BitVec 32 := Scalar.muli v254 c1_i32_183
  let v260 : BitVec 32 := Scalar.addi v258 v259
  v260.toNat
def k0_off14 (d0 : Dev nD) : Fin 4 → Nat :=
  let c2_i32_198 : BitVec 32 := 2#32
  let c1_i32_144 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v209 : BitVec 32 := Scalar.subi c1_i32_144 v2
  let v281 : BitVec 32 := Scalar.muli c2_i32_198 v209
  let c1_i32_145 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v210 : BitVec 32 := Scalar.subi c1_i32_145 v5
  let v282 : BitVec 32 := Scalar.addi v281 v210
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_205 : BitVec 32 := 0#32
  let c0_i32_206 : BitVec 32 := 0#32
  ![v282.toNat, v8.toNat, 0, 0]
def k0_dev15 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v284 : BitVec 32 := Scalar.muli v2 c4_i32_201
  let v285 : BitVec 32 := Scalar.addi c0_i32_202 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v286 : BitVec 32 := Scalar.muli v5 c2_i32_203
  let v287 : BitVec 32 := Scalar.addi v285 v286
  let c1_i32_199 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_199 v8
  let c1_i32_204 : BitVec 32 := 1#32
  let v288 : BitVec 32 := Scalar.muli v283 c1_i32_204
  let v289 : BitVec 32 := Scalar.addi v287 v288
  v289.toNat
def k0_off15 (d0 : Dev nD) : Fin 4 → Nat :=
  let c2_i32_223 : BitVec 32 := 2#32
  let c1_i32_209 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v298 : BitVec 32 := Scalar.subi c1_i32_209 v2
  let v314 : BitVec 32 := Scalar.muli c2_i32_223 v298
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v315 : BitVec 32 := Scalar.addi v314 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_230 : BitVec 32 := 0#32
  let c0_i32_231 : BitVec 32 := 0#32
  ![v315.toNat, v8.toNat, 0, 0]
def k0_dev16 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v317 : BitVec 32 := Scalar.muli v2 c4_i32_226
  let v318 : BitVec 32 := Scalar.addi c0_i32_227 v317
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_228 : BitVec 32 := 2#32
  let v319 : BitVec 32 := Scalar.muli v5 c2_i32_228
  let v320 : BitVec 32 := Scalar.addi v318 v319
  let c1_i32_224 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v316 : BitVec 32 := Scalar.subi c1_i32_224 v8
  let c1_i32_229 : BitVec 32 := 1#32
  let v321 : BitVec 32 := Scalar.muli v316 c1_i32_229
  let v322 : BitVec 32 := Scalar.addi v320 v321
  v322.toNat
def k0_off16 (d0 : Dev nD) : Fin 4 → Nat :=
  let c2_i32_244 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v343 : BitVec 32 := Scalar.muli c2_i32_244 v2
  let c1_i32_210 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v299 : BitVec 32 := Scalar.subi c1_i32_210 v5
  let v344 : BitVec 32 := Scalar.addi v343 v299
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_251 : BitVec 32 := 0#32
  let c0_i32_252 : BitVec 32 := 0#32
  ![v344.toNat, v8.toNat, 0, 0]
def k0_dev17 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v346 : BitVec 32 := Scalar.muli v2 c4_i32_247
  let v347 : BitVec 32 := Scalar.addi c0_i32_248 v346
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v348 : BitVec 32 := Scalar.muli v5 c2_i32_249
  let v349 : BitVec 32 := Scalar.addi v347 v348
  let c1_i32_245 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v345 : BitVec 32 := Scalar.subi c1_i32_245 v8
  let c1_i32_250 : BitVec 32 := 1#32
  let v350 : BitVec 32 := Scalar.muli v345 c1_i32_250
  let v351 : BitVec 32 := Scalar.addi v349 v350
  v351.toNat
def k0_off17 (d0 : Dev nD) : Fin 4 → Nat :=
  let c2_i32_265 : BitVec 32 := 2#32
  let c1_i32_211 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v300 : BitVec 32 := Scalar.subi c1_i32_211 v2
  let v372 : BitVec 32 := Scalar.muli c2_i32_265 v300
  let c1_i32_212 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v301 : BitVec 32 := Scalar.subi c1_i32_212 v5
  let v373 : BitVec 32 := Scalar.addi v372 v301
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_272 : BitVec 32 := 0#32
  let c0_i32_273 : BitVec 32 := 0#32
  ![v373.toNat, v8.toNat, 0, 0]
def k0_dev18 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v375 : BitVec 32 := Scalar.muli v2 c4_i32_268
  let v376 : BitVec 32 := Scalar.addi c0_i32_269 v375
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v377 : BitVec 32 := Scalar.muli v5 c2_i32_270
  let v378 : BitVec 32 := Scalar.addi v376 v377
  let c1_i32_266 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v374 : BitVec 32 := Scalar.subi c1_i32_266 v8
  let c1_i32_271 : BitVec 32 := 1#32
  let v379 : BitVec 32 := Scalar.muli v374 c1_i32_271
  let v380 : BitVec 32 := Scalar.addi v378 v379
  v380.toNat
def k0_off18 (d0 : Dev nD) : Fin 4 → Nat :=
  let c2_i32_290 : BitVec 32 := 2#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v389 : BitVec 32 := Scalar.subi c1_i32_276 v2
  let v405 : BitVec 32 := Scalar.muli c2_i32_290 v389
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v406 : BitVec 32 := Scalar.addi v405 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_297 : BitVec 32 := 0#32
  let c0_i32_298 : BitVec 32 := 0#32
  ![v406.toNat, v8.toNat, 0, 0]
def k0_dev19 (d0 : Dev nD) : Nat :=
  let c0_i32_294 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_293 : BitVec 32 := 4#32
  let v408 : BitVec 32 := Scalar.muli v2 c4_i32_293
  let v409 : BitVec 32 := Scalar.addi c0_i32_294 v408
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_295 : BitVec 32 := 2#32
  let v410 : BitVec 32 := Scalar.muli v5 c2_i32_295
  let v411 : BitVec 32 := Scalar.addi v409 v410
  let c1_i32_291 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v407 : BitVec 32 := Scalar.subi c1_i32_291 v8
  let c1_i32_296 : BitVec 32 := 1#32
  let v412 : BitVec 32 := Scalar.muli v407 c1_i32_296
  let v413 : BitVec 32 := Scalar.addi v411 v412
  v413.toNat
def k0_off19 (d0 : Dev nD) : Fin 4 → Nat :=
  let c2_i32_311 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v434 : BitVec 32 := Scalar.muli c2_i32_311 v2
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v390 : BitVec 32 := Scalar.subi c1_i32_277 v5
  let v435 : BitVec 32 := Scalar.addi v434 v390
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_318 : BitVec 32 := 0#32
  let c0_i32_319 : BitVec 32 := 0#32
  ![v435.toNat, v8.toNat, 0, 0]
def k0_dev20 (d0 : Dev nD) : Nat :=
  let c0_i32_315 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_314 : BitVec 32 := 4#32
  let v437 : BitVec 32 := Scalar.muli v2 c4_i32_314
  let v438 : BitVec 32 := Scalar.addi c0_i32_315 v437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_316 : BitVec 32 := 2#32
  let v439 : BitVec 32 := Scalar.muli v5 c2_i32_316
  let v440 : BitVec 32 := Scalar.addi v438 v439
  let c1_i32_312 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v436 : BitVec 32 := Scalar.subi c1_i32_312 v8
  let c1_i32_317 : BitVec 32 := 1#32
  let v441 : BitVec 32 := Scalar.muli v436 c1_i32_317
  let v442 : BitVec 32 := Scalar.addi v440 v441
  v442.toNat
def k0_off20 (d0 : Dev nD) : Fin 4 → Nat :=
  let c2_i32_332 : BitVec 32 := 2#32
  let c1_i32_278 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v391 : BitVec 32 := Scalar.subi c1_i32_278 v2
  let v463 : BitVec 32 := Scalar.muli c2_i32_332 v391
  let c1_i32_279 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_279 v5
  let v464 : BitVec 32 := Scalar.addi v463 v392
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_339 : BitVec 32 := 0#32
  let c0_i32_340 : BitVec 32 := 0#32
  ![v464.toNat, v8.toNat, 0, 0]
def k0_dev21 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v466 : BitVec 32 := Scalar.muli v2 c4_i32_335
  let v467 : BitVec 32 := Scalar.addi c0_i32_336 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_337 : BitVec 32 := 2#32
  let v468 : BitVec 32 := Scalar.muli v5 c2_i32_337
  let v469 : BitVec 32 := Scalar.addi v467 v468
  let c1_i32_333 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v465 : BitVec 32 := Scalar.subi c1_i32_333 v8
  let c1_i32_338 : BitVec 32 := 1#32
  let v470 : BitVec 32 := Scalar.muli v465 c1_i32_338
  let v471 : BitVec 32 := Scalar.addi v469 v470
  v471.toNat
def k0_off21 (d0 : Dev nD) : Fin 4 → Nat :=
  let c2_i32_357 : BitVec 32 := 2#32
  let c1_i32_343 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v480 : BitVec 32 := Scalar.subi c1_i32_343 v2
  let v496 : BitVec 32 := Scalar.muli c2_i32_357 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v497 : BitVec 32 := Scalar.addi v496 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_364 : BitVec 32 := 256#32
  let c0_i32_365 : BitVec 32 := 0#32
  ![v497.toNat, v8.toNat, 256, 0]
def k0_dev22 (d0 : Dev nD) : Nat :=
  let c0_i32_361 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_360 : BitVec 32 := 4#32
  let v499 : BitVec 32 := Scalar.muli v2 c4_i32_360
  let v500 : BitVec 32 := Scalar.addi c0_i32_361 v499
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_362 : BitVec 32 := 2#32
  let v501 : BitVec 32 := Scalar.muli v5 c2_i32_362
  let v502 : BitVec 32 := Scalar.addi v500 v501
  let c1_i32_358 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v498 : BitVec 32 := Scalar.subi c1_i32_358 v8
  let c1_i32_363 : BitVec 32 := 1#32
  let v503 : BitVec 32 := Scalar.muli v498 c1_i32_363
  let v504 : BitVec 32 := Scalar.addi v502 v503
  v504.toNat
def k0_off22 (d0 : Dev nD) : Fin 4 → Nat :=
  let c2_i32_378 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v525 : BitVec 32 := Scalar.muli c2_i32_378 v2
  let c1_i32_344 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v481 : BitVec 32 := Scalar.subi c1_i32_344 v5
  let v526 : BitVec 32 := Scalar.addi v525 v481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_385 : BitVec 32 := 256#32
  let c0_i32_386 : BitVec 32 := 0#32
  ![v526.toNat, v8.toNat, 256, 0]
def k0_dev23 (d0 : Dev nD) : Nat :=
  let c0_i32_382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_381 : BitVec 32 := 4#32
  let v528 : BitVec 32 := Scalar.muli v2 c4_i32_381
  let v529 : BitVec 32 := Scalar.addi c0_i32_382 v528
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_383 : BitVec 32 := 2#32
  let v530 : BitVec 32 := Scalar.muli v5 c2_i32_383
  let v531 : BitVec 32 := Scalar.addi v529 v530
  let c1_i32_379 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v527 : BitVec 32 := Scalar.subi c1_i32_379 v8
  let c1_i32_384 : BitVec 32 := 1#32
  let v532 : BitVec 32 := Scalar.muli v527 c1_i32_384
  let v533 : BitVec 32 := Scalar.addi v531 v532
  v533.toNat
def k0_off23 (d0 : Dev nD) : Fin 4 → Nat :=
  let c2_i32_399 : BitVec 32 := 2#32
  let c1_i32_345 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.subi c1_i32_345 v2
  let v554 : BitVec 32 := Scalar.muli c2_i32_399 v482
  let c1_i32_346 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.subi c1_i32_346 v5
  let v555 : BitVec 32 := Scalar.addi v554 v483
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_406 : BitVec 32 := 256#32
  let c0_i32_407 : BitVec 32 := 0#32
  ![v555.toNat, v8.toNat, 256, 0]
def k0_dev24 (d0 : Dev nD) : Nat :=
  let c0_i32_403 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_402 : BitVec 32 := 4#32
  let v557 : BitVec 32 := Scalar.muli v2 c4_i32_402
  let v558 : BitVec 32 := Scalar.addi c0_i32_403 v557
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_404 : BitVec 32 := 2#32
  let v559 : BitVec 32 := Scalar.muli v5 c2_i32_404
  let v560 : BitVec 32 := Scalar.addi v558 v559
  let c1_i32_400 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v556 : BitVec 32 := Scalar.subi c1_i32_400 v8
  let c1_i32_405 : BitVec 32 := 1#32
  let v561 : BitVec 32 := Scalar.muli v556 c1_i32_405
  let v562 : BitVec 32 := Scalar.addi v560 v561
  v562.toNat
-- ==== Reference.lean ====
abbrev S2x6176x2048 : Shape := ⟨3, ![2, 6176, 2048]⟩
abbrev S2x2048x2048 : Shape := ⟨3, ![2, 2048, 2048]⟩
abbrev S2x256x128 : Shape := ⟨3, ![2, 256, 128]⟩
abbrev S2x4x1544x2048 : Shape := ⟨4, ![2, 4, 1544, 2048]⟩
abbrev S4x2x1544x2048 : Shape := ⟨4, ![4, 2, 1544, 2048]⟩
abbrev S2x4x512x2048 : Shape := ⟨4, ![2, 4, 512, 2048]⟩
abbrev S4x2x512x2048 : Shape := ⟨4, ![4, 2, 512, 2048]⟩
abbrev S2x4x64x128 : Shape := ⟨4, ![2, 4, 64, 128]⟩
abbrev S4x2x64x128 : Shape := ⟨4, ![4, 2, 64, 128]⟩

abbrev nBuf : Space → Nat
  | .hbm => 9
  | .vmem => 0
  | .smem => 0
  | _ => 0

abbrev bufTy : (tb : Table) → Fin (tcTables nBuf tb) → BufTy
  | .hbm, ⟨0, _⟩ => ⟨S2x6176x2048, .bf16⟩
  | .hbm, ⟨1, _⟩ => ⟨S2x2048x2048, .bf16⟩
  | .hbm, ⟨2, _⟩ => ⟨S2x256x128, .f32⟩
  | .hbm, ⟨3, _⟩ => ⟨S2x4x1544x2048, .bf16⟩
  | .hbm, ⟨4, _⟩ => ⟨S4x2x1544x2048, .bf16⟩
  | .hbm, ⟨5, _⟩ => ⟨S2x4x512x2048, .bf16⟩
  | .hbm, ⟨6, _⟩ => ⟨S4x2x512x2048, .bf16⟩
  | .hbm, ⟨7, _⟩ => ⟨S2x4x64x128, .f32⟩
  | .hbm, ⟨8, _⟩ => ⟨S4x2x64x128, .f32⟩
  | _, _ => ⟨S2x6176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ToSibling.lean ====
abbrev S2x4x1544x2048 : Shape := ⟨4, ![2, 4, 1544, 2048]⟩
abbrev S2x4x512x2048 : Shape := ⟨4, ![2, 4, 512, 2048]⟩
abbrev S1560x128 : Shape := ⟨2, ![1560, 128]⟩
abbrev S4x1544x2048 : Shape := ⟨3, ![4, 1544, 2048]⟩
abbrev S4x512x2048 : Shape := ⟨3, ![4, 512, 2048]⟩
abbrev S3 : Shape := ⟨1, ![3]⟩
abbrev S1 : Shape := ⟨1, ![1]⟩
abbrev S_ : Shape := ⟨0, ![]⟩
abbrev S1x4x1544x2048 : Shape := ⟨4, ![1, 4, 1544, 2048]⟩
abbrev S1x4x512x2048 : Shape := ⟨4, ![1, 4, 512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x4x1544x2048, .bf16⟩
  | .hbm, ⟨1, _⟩ => ⟨S2x4x512x2048, .bf16⟩
  | .hbm, ⟨2, _⟩ => ⟨S1560x128, .f32⟩
  | .hbm, ⟨3, _⟩ => ⟨S4x1544x2048, .bf16⟩
  | .hbm, ⟨4, _⟩ => ⟨S4x512x2048, .bf16⟩
  | .hbm, ⟨5, _⟩ => ⟨S1560x128, .f32⟩
  | _, _ => ⟨S2x4x1544x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 4 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_13 : BitVec 32 := 0#32
  let c0_i32_14 : BitVec 32 := 0#32
  let c0_i32_15 : BitVec 32 := 0#32
  ![v9.toNat, 0, 0, 0]
def k0_dev1 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v14 : BitVec 32 := Scalar.muli v2 c4_i32_9
  let v15 : BitVec 32 := Scalar.addi c0_i32_10 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v16 : BitVec 32 := Scalar.muli v5 c2_i32_11
  let v17 : BitVec 32 := Scalar.addi v15 v16
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_12 : BitVec 32 := 1#32
  let v18 : BitVec 32 := Scalar.muli v10 c1_i32_12
  let v19 : BitVec 32 := Scalar.addi v17 v18
  v19.toNat
def k0_off2 (d0 : Dev nD) : Fin 4 → Nat :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_22 : BitVec 32 := 0#32
  let c0_i32_23 : BitVec 32 := 0#32
  let c0_i32_24 : BitVec 32 := 0#32
  ![v11.toNat, 0, 0, 0]
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v26 : BitVec 32 := Scalar.muli v2 c4_i32_18
  let v27 : BitVec 32 := Scalar.addi c0_i32_19 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v28 : BitVec 32 := Scalar.muli v5 c2_i32_20
  let v29 : BitVec 32 := Scalar.addi v27 v28
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_21 : BitVec 32 := 1#32
  let v30 : BitVec 32 := Scalar.muli v12 c1_i32_21
  let v31 : BitVec 32 := Scalar.addi v29 v30
  v31.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v38 : BitVec 32 := Scalar.muli v2 c4_i32_27
  let v39 : BitVec 32 := Scalar.addi c0_i32_28 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v40 : BitVec 32 := Scalar.muli v5 c2_i32_29
  let v41 : BitVec 32 := Scalar.addi v39 v40
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_30 : BitVec 32 := 1#32
  let v42 : BitVec 32 := Scalar.muli v13 c1_i32_30
  let v43 : BitVec 32 := Scalar.addi v41 v42
  v43.toNat
-- ==== ToSiblingRef.lean ====
abbrev S16x4x1544x2048 : Shape := ⟨4, ![16, 4, 1544, 2048]⟩
abbrev S16x4x512x2048 : Shape := ⟨4, ![16, 4, 512, 2048]⟩
abbrev S12480x128 : Shape := ⟨2, ![12480, 128]⟩
abbrev S4x2x1560x128 : Shape := ⟨4, ![4, 2, 1560, 128]⟩
abbrev S4x4x4x1544x2048 : Shape := ⟨5, ![4, 4, 4, 1544, 2048]⟩
abbrev S4x1x4x1544x2048 : Shape := ⟨5, ![4, 1, 4, 1544, 2048]⟩
abbrev S4x4x1544x2048 : Shape := ⟨4, ![4, 4, 1544, 2048]⟩
abbrev S4x2x4x1544x2048 : Shape := ⟨5, ![4, 2, 4, 1544, 2048]⟩
abbrev S32x1544x2048 : Shape := ⟨3, ![32, 1544, 2048]⟩
abbrev S4x4x4x512x2048 : Shape := ⟨5, ![4, 4, 4, 512, 2048]⟩
abbrev S4x1x4x512x2048 : Shape := ⟨5, ![4, 1, 4, 512, 2048]⟩
abbrev S4x4x512x2048 : Shape := ⟨4, ![4, 4, 512, 2048]⟩
abbrev S4x2x4x512x2048 : Shape := ⟨5, ![4, 2, 4, 512, 2048]⟩
abbrev S32x512x2048 : Shape := ⟨3, ![32, 512, 2048]⟩
abbrev S4x1x1560x128 : Shape := ⟨4, ![4, 1, 1560, 128]⟩
abbrev S4x1560x128 : Shape := ⟨3, ![4, 1560, 128]⟩

abbrev nBuf : Space → Nat
  | .hbm => 30
  | .vmem => 0
  | .smem => 0
  | _ => 0

abbrev bufTy : (tb : Table) → Fin (tcTables nBuf tb) → BufTy
  | .hbm, ⟨0, _⟩ => ⟨S16x4x1544x2048, .bf16⟩
  | .hbm, ⟨1, _⟩ => ⟨S16x4x512x2048, .bf16⟩
  | .hbm, ⟨2, _⟩ => ⟨S12480x128, .f32⟩
  | .hbm, ⟨3, _⟩ => ⟨S4x2x1560x128, .f32⟩
  | .hbm, ⟨4, _⟩ => ⟨S4x4x4x1544x2048, .bf16⟩
  | .hbm, ⟨5, _⟩ => ⟨S4x1x4x1544x2048, .bf16⟩
  | .hbm, ⟨6, _⟩ => ⟨S4x4x1544x2048, .bf16⟩
  | .hbm, ⟨7, _⟩ => ⟨S4x1x4x1544x2048, .bf16⟩
  | .hbm, ⟨8, _⟩ => ⟨S4x4x1544x2048, .bf16⟩
  | .hbm, ⟨9, _⟩ => ⟨S4x1x4x1544x2048, .bf16⟩
  | .hbm, ⟨10, _⟩ => ⟨S4x1x4x1544x2048, .bf16⟩
  | .hbm, ⟨11, _⟩ => ⟨S4x2x4x1544x2048, .bf16⟩
  | .hbm, ⟨12, _⟩ => ⟨S32x1544x2048, .bf16⟩
  | .hbm, ⟨13, _⟩ => ⟨S4x4x4x512x2048, .bf16⟩
  | .hbm, ⟨14, _⟩ => ⟨S4x1x4x512x2048, .bf16⟩
  | .hbm, ⟨15, _⟩ => ⟨S4x4x512x2048, .bf16⟩
  | .hbm, ⟨16, _⟩ => ⟨S4x1x4x512x2048, .bf16⟩
  | .hbm, ⟨17, _⟩ => ⟨S4x4x512x2048, .bf16⟩
  | .hbm, ⟨18, _⟩ => ⟨S4x1x4x512x2048, .bf16⟩
  | .hbm, ⟨19, _⟩ => ⟨S4x1x4x512x2048, .bf16⟩
  | .hbm, ⟨20, _⟩ => ⟨S4x2x4x512x2048, .bf16⟩
  | .hbm, ⟨21, _⟩ => ⟨S32x512x2048, .bf16⟩
  | .hbm, ⟨22, _⟩ => ⟨S4x1x1560x128, .f32⟩
  | .hbm, ⟨23, _⟩ => ⟨S4x1560x128, .f32⟩
  | .hbm, ⟨24, _⟩ => ⟨S4x1x1560x128, .f32⟩
  | .hbm, ⟨25, _⟩ => ⟨S4x1560x128, .f32⟩
  | .hbm, ⟨26, _⟩ => ⟨S4x1x1560x128, .f32⟩
  | .hbm, ⟨27, _⟩ => ⟨S4x1x1560x128, .f32⟩
  | .hbm, ⟨28, _⟩ => ⟨S4x2x1560x128, .f32⟩
  | .hbm, ⟨29, _⟩ => ⟨S12480x128, .f32⟩
  | _, _ => ⟨S16x4x1544x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== ToOwner.lean ====
abbrev S4x1544x2048 : Shape := ⟨3, ![4, 1544, 2048]⟩
abbrev S4x512x2048 : Shape := ⟨3, ![4, 512, 2048]⟩
abbrev S1560x128 : Shape := ⟨2, ![1560, 128]⟩
abbrev S4x1560x128 : Shape := ⟨3, ![4, 1560, 128]⟩
abbrev S9 : Shape := ⟨1, ![9]⟩
abbrev S3 : Shape := ⟨1, ![3]⟩
abbrev S1 : Shape := ⟨1, ![1]⟩
abbrev S_ : Shape := ⟨0, ![]⟩
abbrev S1x1544x2048 : Shape := ⟨3, ![1, 1544, 2048]⟩
abbrev S1544x2048 : Shape := ⟨2, ![1544, 2048]⟩
abbrev S1x512x2048 : Shape := ⟨3, ![1, 512, 2048]⟩
abbrev S512x2048 : Shape := ⟨2, ![512, 2048]⟩
abbrev S1x1560x128 : Shape := ⟨3, ![1, 1560, 128]⟩

abbrev nBuf : Space → Nat
  | .hbm => 6
  | .vmem => 0
  | .smem => 0
  | _ => 0

abbrev bufTy : (tb : Table) → Fin (tcTables nBuf tb) → BufTy
  | .hbm, ⟨0, _⟩ => ⟨S4x1544x2048, .bf16⟩
  | .hbm, ⟨1, _⟩ => ⟨S4x512x2048, .bf16⟩
  | .hbm, ⟨2, _⟩ => ⟨S1560x128, .f32⟩
  | .hbm, ⟨3, _⟩ => ⟨S4x1544x2048, .bf16⟩
  | .hbm, ⟨4, _⟩ => ⟨S4x512x2048, .bf16⟩
  | .hbm, ⟨5, _⟩ => ⟨S4x1560x128, .f32⟩
  | _, _ => ⟨S4x1544x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_9 : BitVec 32 := 0#32
  let c0_i32_10 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_14 : BitVec 32 := 0#32
  let c0_i32_15 : BitVec 32 := 0#32
  ![v10.toNat, 0, 0]
def k0_off4 (d0 : Dev nD) : Fin 3 → Nat :=
  let c2_i32_20 : BitVec 32 := 2#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_16 v2
  let v31 : BitVec 32 := Scalar.muli c2_i32_20 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let c0_i32_34 : BitVec 32 := 0#32
  let c0_i32_35 : BitVec 32 := 0#32
  ![v32.toNat, 0, 0]
def k0_dev1 (d0 : Dev nD) : Nat :=
  let c0_i32_29 : BitVec 32 := 0#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_16 v2
  let c4_i32_28 : BitVec 32 := 4#32
  let v43 : BitVec 32 := Scalar.muli v27 c4_i32_28
  let v44 : BitVec 32 := Scalar.addi c0_i32_29 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v45 : BitVec 32 := Scalar.muli v5 c2_i32_30
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v47 : BitVec 32 := Scalar.muli v8 c1_i32_31
  let v48 : BitVec 32 := Scalar.addi v46 v47
  v48.toNat
def k0_off5 (d0 : Dev nD) : Fin 3 → Nat :=
  let c2_i32_21 : BitVec 32 := 2#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_16 v2
  let v33 : BitVec 32 := Scalar.muli c2_i32_21 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.addi v33 v5
  let c0_i32_44 : BitVec 32 := 0#32
  let c0_i32_45 : BitVec 32 := 0#32
  ![v34.toNat, 0, 0]
def k0_dev2 (d0 : Dev nD) : Nat :=
  let c0_i32_39 : BitVec 32 := 0#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_16 v2
  let c4_i32_38 : BitVec 32 := 4#32
  let v57 : BitVec 32 := Scalar.muli v27 c4_i32_38
  let v58 : BitVec 32 := Scalar.addi c0_i32_39 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v59 : BitVec 32 := Scalar.muli v5 c2_i32_40
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v61 : BitVec 32 := Scalar.muli v8 c1_i32_41
  let v62 : BitVec 32 := Scalar.addi v60 v61
  v62.toNat
def k0_dev3 (d0 : Dev nD) : Nat :=
  let c0_i32_49 : BitVec 32 := 0#32
  let c1_i32_16 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_16 v2
  let c4_i32_48 : BitVec 32 := 4#32
  let v71 : BitVec 32 := Scalar.muli v27 c4_i32_48
  let v72 : BitVec 32 := Scalar.addi c0_i32_49 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v73 : BitVec 32 := Scalar.muli v5 c2_i32_50
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v75 : BitVec 32 := Scalar.muli v8 c1_i32_51
  let v76 : BitVec 32 := Scalar.addi v74 v75
  v76.toNat
def k0_off6 (d0 : Dev nD) : Fin 3 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c2_i32_22 v2
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_17 v5
  let v36 : BitVec 32 := Scalar.addi v35 v28
  let c0_i32_61 : BitVec 32 := 0#32
  let c0_i32_62 : BitVec 32 := 0#32
  ![v36.toNat, 0, 0]
def k0_dev4 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v83 : BitVec 32 := Scalar.muli v2 c4_i32_55
  let v84 : BitVec 32 := Scalar.addi c0_i32_56 v83
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_17 v5
  let c2_i32_57 : BitVec 32 := 2#32
  let v85 : BitVec 32 := Scalar.muli v28 c2_i32_57
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v87 : BitVec 32 := Scalar.muli v8 c1_i32_58
  let v88 : BitVec 32 := Scalar.addi v86 v87
  v88.toNat
def k0_off7 (d0 : Dev nD) : Fin 3 → Nat :=
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.muli c2_i32_23 v2
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_17 v5
  let v38 : BitVec 32 := Scalar.addi v37 v28
  let c0_i32_71 : BitVec 32 := 0#32
  let c0_i32_72 : BitVec 32 := 0#32
  ![v38.toNat, 0, 0]
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v97 : BitVec 32 := Scalar.muli v2 c4_i32_65
  let v98 : BitVec 32 := Scalar.addi c0_i32_66 v97
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_17 v5
  let c2_i32_67 : BitVec 32 := 2#32
  let v99 : BitVec 32 := Scalar.muli v28 c2_i32_67
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v101 : BitVec 32 := Scalar.muli v8 c1_i32_68
  let v102 : BitVec 32 := Scalar.addi v100 v101
  v102.toNat
def k0_dev6 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v111 : BitVec 32 := Scalar.muli v2 c4_i32_74
  let v112 : BitVec 32 := Scalar.addi c0_i32_75 v111
  let c1_i32_17 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.subi c1_i32_17 v5
  let c2_i32_76 : BitVec 32 := 2#32
  let v113 : BitVec 32 := Scalar.muli v28 c2_i32_76
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v115 : BitVec 32 := Scalar.muli v8 c1_i32_77
  let v116 : BitVec 32 := Scalar.addi v114 v115
  v116.toNat
def k0_off8 (d0 : Dev nD) : Fin 3 → Nat :=
  let c2_i32_24 : BitVec 32 := 2#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_18 v2
  let v39 : BitVec 32 := Scalar.muli c2_i32_24 v29
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_19 v5
  let v40 : BitVec 32 := Scalar.addi v39 v30
  let c0_i32_87 : BitVec 32 := 0#32
  let c0_i32_88 : BitVec 32 := 0#32
  ![v40.toNat, 0, 0]
def k0_dev7 (d0 : Dev nD) : Nat :=
  let c0_i32_82 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_18 v2
  let c4_i32_81 : BitVec 32 := 4#32
  let v123 : BitVec 32 := Scalar.muli v29 c4_i32_81
  let v124 : BitVec 32 := Scalar.addi c0_i32_82 v123
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_19 v5
  let c2_i32_83 : BitVec 32 := 2#32
  let v125 : BitVec 32 := Scalar.muli v30 c2_i32_83
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v127 : BitVec 32 := Scalar.muli v8 c1_i32_84
  let v128 : BitVec 32 := Scalar.addi v126 v127
  v128.toNat
def k0_off9 (d0 : Dev nD) : Fin 3 → Nat :=
  let c2_i32_25 : BitVec 32 := 2#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_18 v2
  let v41 : BitVec 32 := Scalar.muli c2_i32_25 v29
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_19 v5
  let v42 : BitVec 32 := Scalar.addi v41 v30
  let c0_i32_96 : BitVec 32 := 0#32
  let c0_i32_97 : BitVec 32 := 0#32
  ![v42.toNat, 0, 0]
def k0_dev8 (d0 : Dev nD) : Nat :=
  let c0_i32_91 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_18 v2
  let c4_i32_90 : BitVec 32 := 4#32
  let v137 : BitVec 32 := Scalar.muli v29 c4_i32_90
  let v138 : BitVec 32 := Scalar.addi c0_i32_91 v137
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_19 v5
  let c2_i32_92 : BitVec 32 := 2#32
  let v139 : BitVec 32 := Scalar.muli v30 c2_i32_92
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v141 : BitVec 32 := Scalar.muli v8 c1_i32_93
  let v142 : BitVec 32 := Scalar.addi v140 v141
  v142.toNat
def k0_dev9 (d0 : Dev nD) : Nat :=
  let c0_i32_100 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_18 v2
  let c4_i32_99 : BitVec 32 := 4#32
  let v151 : BitVec 32 := Scalar.muli v29 c4_i32_99
  let v152 : BitVec 32 := Scalar.addi c0_i32_100 v151
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_19 v5
  let c2_i32_101 : BitVec 32 := 2#32
  let v153 : BitVec 32 := Scalar.muli v30 c2_i32_101
  let v154 : BitVec 32 := Scalar.addi v152 v153
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v155 : BitVec 32 := Scalar.muli v8 c1_i32_102
  let v156 : BitVec 32 := Scalar.addi v154 v155
  v156.toNat
-- ==== ToOwnerRef.lean ====
abbrev S32x1544x2048 : Shape := ⟨3, ![32, 1544, 2048]⟩
abbrev S32x512x2048 : Shape := ⟨3, ![32, 512, 2048]⟩
abbrev S12480x128 : Shape := ⟨2, ![12480, 128]⟩
abbrev S4x2x1560x128 : Shape := ⟨4, ![4, 2, 1560, 128]⟩
abbrev S2x4x1560x128 : Shape := ⟨4, ![2, 4, 1560, 128]⟩
abbrev S4x2x4x1544x2048 : Shape := ⟨5, ![4, 2, 4, 1544, 2048]⟩
abbrev S4x2x4x512x2048 : Shape := ⟨5, ![4, 2, 4, 512, 2048]⟩
abbrev S4x2x4x1560x128 : Shape := ⟨5, ![4, 2, 4, 1560, 128]⟩
abbrev S32x1560x128 : Shape := ⟨3, ![32, 1560, 128]⟩

abbrev nBuf : Space → Nat
  | .hbm => 13
  | .vmem => 0
  | .smem => 0
  | _ => 0

abbrev bufTy : (tb : Table) → Fin (tcTables nBuf tb) → BufTy
  | .hbm, ⟨0, _⟩ => ⟨S32x1544x2048, .bf16⟩
  | .hbm, ⟨1, _⟩ => ⟨S32x512x2048, .bf16⟩
  | .hbm, ⟨2, _⟩ => ⟨S12480x128, .f32⟩
  | .hbm, ⟨3, _⟩ => ⟨S4x2x1560x128, .f32⟩
  | .hbm, ⟨4, _⟩ => ⟨S2x4x1560x128, .f32⟩
  | .hbm, ⟨5, _⟩ => ⟨S4x2x4x1544x2048, .bf16⟩
  | .hbm, ⟨6, _⟩ => ⟨S4x2x4x1544x2048, .bf16⟩
  | .hbm, ⟨7, _⟩ => ⟨S32x1544x2048, .bf16⟩
  | .hbm, ⟨8, _⟩ => ⟨S4x2x4x512x2048, .bf16⟩
  | .hbm, ⟨9, _⟩ => ⟨S4x2x4x512x2048, .bf16⟩
  | .hbm, ⟨10, _⟩ => ⟨S32x512x2048, .bf16⟩
  | .hbm, ⟨11, _⟩ => ⟨S4x2x4x1560x128, .f32⟩
  | .hbm, ⟨12, _⟩ => ⟨S32x1560x128, .f32⟩
  | _, _ => ⟨S32x1544x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Reduced.lean ====
abbrev S1544x2048 : Shape := ⟨2, ![1544, 2048]⟩
abbrev S512x2048 : Shape := ⟨2, ![512, 2048]⟩
abbrev S2 : Shape := ⟨1, ![2]⟩
abbrev S1 : Shape := ⟨1, ![1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S1544x2048, .f32⟩
  | .hbm, ⟨1, _⟩ => ⟨S512x2048, .f32⟩
  | .hbm, ⟨2, _⟩ => ⟨S1544x2048, .f32⟩
  | .hbm, ⟨3, _⟩ => ⟨S512x2048, .f32⟩
  | _, _ => ⟨S1544x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v11 : BitVec 32 := Scalar.muli v2 c4_i32_6
  let v12 : BitVec 32 := Scalar.addi c0_i32_7 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v13 : BitVec 32 := Scalar.muli v5 c2_i32_8
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v15 : BitVec 32 := Scalar.muli v9 c1_i32_9
  let v16 : BitVec 32 := Scalar.addi v14 v15
  v16.toNat
def k0_dev2 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v21 : BitVec 32 := Scalar.muli v2 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_15 : BitVec 32 := 1#32
  let v25 : BitVec 32 := Scalar.muli v10 c1_i32_15
  let v26 : BitVec 32 := Scalar.addi v24 v25
  v26.toNat
-- ==== ReducedRef.lean ====
abbrev S12352x2048 : Shape := ⟨2, ![12352, 2048]⟩
abbrev S4096x2048 : Shape := ⟨2, ![4096, 2048]⟩
abbrev S4x2x1544x2048 : Shape := ⟨4, ![4, 2, 1544, 2048]⟩
abbrev S4x1x1544x2048 : Shape := ⟨4, ![4, 1, 1544, 2048]⟩
abbrev S4x1544x2048 : Shape := ⟨3, ![4, 1544, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩

abbrev nBuf : Space → Nat
  | .hbm => 20
  | .vmem => 0
  | .smem => 0
  | _ => 0

abbrev bufTy : (tb : Table) → Fin (tcTables nBuf tb) → BufTy
  | .hbm, ⟨0, _⟩ => ⟨S12352x2048, .f32⟩
  | .hbm, ⟨1, _⟩ => ⟨S4096x2048, .f32⟩
  | .hbm, ⟨2, _⟩ => ⟨S4x2x1544x2048, .f32⟩
  | .hbm, ⟨3, _⟩ => ⟨S4x1x1544x2048, .f32⟩
  | .hbm, ⟨4, _⟩ => ⟨S4x1544x2048, .f32⟩
  | .hbm, ⟨5, _⟩ => ⟨S4x1x1544x2048, .f32⟩
  | .hbm, ⟨6, _⟩ => ⟨S4x1544x2048, .f32⟩
  | .hbm, ⟨7, _⟩ => ⟨S4x1x1544x2048, .f32⟩
  | .hbm, ⟨8, _⟩ => ⟨S4x1x1544x2048, .f32⟩
  | .hbm, ⟨9, _⟩ => ⟨S4x2x1544x2048, .f32⟩
  | .hbm, ⟨10, _⟩ => ⟨S12352x2048, .f32⟩
  | .hbm, ⟨11, _⟩ => ⟨S4x2x512x2048, .f32⟩
  | .hbm, ⟨12, _⟩ => ⟨S4x1x512x2048, .f32⟩
  | .hbm, ⟨13, _⟩ => ⟨S4x512x2048, .f32⟩
  | .hbm, ⟨14, _⟩ => ⟨S4x1x512x2048, .f32⟩
  | .hbm, ⟨15, _⟩ => ⟨S4x512x2048, .f32⟩
  | .hbm, ⟨16, _⟩ => ⟨S4x1x512x2048, .f32⟩
  | .hbm, ⟨17, _⟩ => ⟨S4x1x512x2048, .f32⟩
  | .hbm, ⟨18, _⟩ => ⟨S4x2x512x2048, .f32⟩
  | .hbm, ⟨19, _⟩ => ⟨S4096x2048, .f32⟩
  | _, _ => ⟨S12352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== ChipA.lean ====
abbrev S1 : Shape := ⟨1, ![1]⟩
abbrev S2x6176x2048 : Shape := ⟨3, ![2, 6176, 2048]⟩
abbrev S6176x2048 : Shape := ⟨2, ![6176, 2048]⟩
abbrev S2x1544x256 : Shape := ⟨3, ![2, 1544, 256]⟩
abbrev S1544x256 : Shape := ⟨2, ![1544, 256]⟩
abbrev S1x1544x256 : Shape := ⟨3, ![1, 1544, 256]⟩

abbrev nBuf : Space → Nat
  | .hbm => 4
  | .vmem => 6
  | .smem => 1
  | _ => 0

abbrev bufTy : (tb : Table) → Fin (tcTables nBuf tb) → BufTy
  | .hbm, ⟨0, _⟩ => ⟨S1, .i32⟩
  | .hbm, ⟨1, _⟩ => ⟨S2x6176x2048, .bf16⟩
  | .hbm, ⟨2, _⟩ => ⟨S6176x2048, .bf16⟩
  | .hbm, ⟨3, _⟩ => ⟨S6176x2048, .bf16⟩
  | .local _ .vmem, ⟨0, _⟩ => ⟨S2x1544x256, .bf16⟩
  | .local _ .vmem, ⟨1, _⟩ => ⟨S2x1544x256, .bf16⟩
  | .local _ .vmem, ⟨2, _⟩ => ⟨S1544x256, .bf16⟩
  | .local _ .vmem, ⟨3, _⟩ => ⟨S1544x256, .bf16⟩
  | .local _ .vmem, ⟨4, _⟩ => ⟨S1544x256, .bf16⟩
  | .local _ .vmem, ⟨5, _⟩ => ⟨S1544x256, .bf16⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x1544x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1544x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1544x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ChipARefIdeal.lean ====
abbrev S1 : Shape := ⟨1, ![1]⟩
abbrev S2x6176x2048 : Shape := ⟨3, ![2, 6176, 2048]⟩
abbrev S6176x2048 : Shape := ⟨2, ![6176, 2048]⟩
abbrev S_ : Shape := ⟨0, ![]⟩
abbrev S1x6176x2048 : Shape := ⟨3, ![1, 6176, 2048]⟩

abbrev nBuf : Space → Nat
  | .hbm => 15
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x6176x2048, .bf16⟩
  | .hbm, ⟨2, _⟩ => ⟨S6176x2048, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x6176x2048, .bf16⟩
  | .hbm, ⟨7, _⟩ => ⟨S6176x2048, .bf16⟩
  | .hbm, ⟨8, _⟩ => ⟨S1x6176x2048, .bf16⟩
  | .hbm, ⟨9, _⟩ => ⟨S6176x2048, .bf16⟩
  | .hbm, ⟨10, _⟩ => ⟨S6176x2048, .bf16⟩
  | .hbm, ⟨11, _⟩ => ⟨S6176x2048, .f32⟩
  | .hbm, ⟨12, _⟩ => ⟨S6176x2048, .f32⟩
  | .hbm, ⟨13, _⟩ => ⟨S6176x2048, .f32⟩
  | .hbm, ⟨14, _⟩ => ⟨S6176x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ChipARef.lean ====
abbrev S1 : Shape := ⟨1, ![1]⟩
abbrev S2x6176x2048 : Shape := ⟨3, ![2, 6176, 2048]⟩
abbrev S6176x2048 : Shape := ⟨2, ![6176, 2048]⟩
abbrev S_ : Shape := ⟨0, ![]⟩
abbrev S1x6176x2048 : Shape := ⟨3, ![1, 6176, 2048]⟩

abbrev nBuf : Space → Nat
  | .hbm => 15
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x6176x2048, .bf16⟩
  | .hbm, ⟨2, _⟩ => ⟨S6176x2048, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x6176x2048, .bf16⟩
  | .hbm, ⟨7, _⟩ => ⟨S6176x2048, .bf16⟩
  | .hbm, ⟨8, _⟩ => ⟨S1x6176x2048, .bf16⟩
  | .hbm, ⟨9, _⟩ => ⟨S6176x2048, .bf16⟩
  | .hbm, ⟨10, _⟩ => ⟨S6176x2048, .bf16⟩
  | .hbm, ⟨11, _⟩ => ⟨S6176x2048, .f32⟩
  | .hbm, ⟨12, _⟩ => ⟨S6176x2048, .f32⟩
  | .hbm, ⟨13, _⟩ => ⟨S6176x2048, .f32⟩
  | .hbm, ⟨14, _⟩ => ⟨S6176x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ChipB.lean ====
abbrev S1 : Shape := ⟨1, ![1]⟩
abbrev S2x2048x2048 : Shape := ⟨3, ![2, 2048, 2048]⟩
abbrev S2048x2048 : Shape := ⟨2, ![2048, 2048]⟩
abbrev S2x256x2048 : Shape := ⟨3, ![2, 256, 2048]⟩
abbrev S256x2048 : Shape := ⟨2, ![256, 2048]⟩
abbrev S1x256x2048 : Shape := ⟨3, ![1, 256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S1, .i32⟩
  | .hbm, ⟨1, _⟩ => ⟨S2x2048x2048, .bf16⟩
  | .hbm, ⟨2, _⟩ => ⟨S2048x2048, .bf16⟩
  | .hbm, ⟨3, _⟩ => ⟨S2048x2048, .bf16⟩
  | .local _ .vmem, ⟨0, _⟩ => ⟨S2x256x2048, .bf16⟩
  | .local _ .vmem, ⟨1, _⟩ => ⟨S2x256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ChipBRef.lean ====
abbrev S1 : Shape := ⟨1, ![1]⟩
abbrev S2x2048x2048 : Shape := ⟨3, ![2, 2048, 2048]⟩
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2048x2048, .bf16⟩
  | .hbm, ⟨2, _⟩ => ⟨S2048x2048, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x2048x2048, .bf16⟩
  | .hbm, ⟨7, _⟩ => ⟨S2048x2048, .bf16⟩
  | .hbm, ⟨8, _⟩ => ⟨S1x2048x2048, .bf16⟩
  | .hbm, ⟨9, _⟩ => ⟨S2048x2048, .bf16⟩
  | .hbm, ⟨10, _⟩ => ⟨S2048x2048, .bf16⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ChipSmall.lean ====
abbrev S1560x128 : Shape := ⟨2, ![1560, 128]⟩

abbrev nBuf : Space → Nat
  | .hbm => 3
  | .vmem => 3
  | .smem => 0
  | _ => 0

abbrev bufTy : (tb : Table) → Fin (tcTables nBuf tb) → BufTy
  | .hbm, ⟨0, _⟩ => ⟨S1560x128, .f32⟩
  | .hbm, ⟨1, _⟩ => ⟨S1560x128, .f32⟩
  | .hbm, ⟨2, _⟩ => ⟨S1560x128, .f32⟩
  | .local _ .vmem, ⟨0, _⟩ => ⟨S1560x128, .f32⟩
  | .local _ .vmem, ⟨1, _⟩ => ⟨S1560x128, .f32⟩
  | .local _ .vmem, ⟨2, _⟩ => ⟨S1560x128, .f32⟩
  | _, _ => ⟨S1560x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1560x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1560x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1560x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ChipSmallRef.lean ====
abbrev S1560x128 : Shape := ⟨2, ![1560, 128]⟩

abbrev nBuf : Space → Nat
  | .hbm => 3
  | .vmem => 0
  | .smem => 0
  | _ => 0

abbrev bufTy : (tb : Table) → Fin (tcTables nBuf tb) → BufTy
  | .hbm, ⟨0, _⟩ => ⟨S1560x128, .f32⟩
  | .hbm, ⟨1, _⟩ => ⟨S1560x128, .f32⟩
  | .hbm, ⟨2, _⟩ => ⟨S1560x128, .f32⟩
  | _, _ => ⟨S1560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumA.lean ====
abbrev S4x1544x2048 : Shape := ⟨3, ![4, 1544, 2048]⟩
abbrev S1544x2048 : Shape := ⟨2, ![1544, 2048]⟩
abbrev S4x1544x256 : Shape := ⟨3, ![4, 1544, 256]⟩
abbrev S1544x256 : Shape := ⟨2, ![1544, 256]⟩
abbrev S1x1544x256 : Shape := ⟨3, ![1, 1544, 256]⟩

abbrev nBuf : Space → Nat
  | .hbm => 2
  | .vmem => 4
  | .smem => 0
  | _ => 0

abbrev bufTy : (tb : Table) → Fin (tcTables nBuf tb) → BufTy
  | .hbm, ⟨0, _⟩ => ⟨S4x1544x2048, .bf16⟩
  | .hbm, ⟨1, _⟩ => ⟨S1544x2048, .f32⟩
  | .local _ .vmem, ⟨0, _⟩ => ⟨S4x1544x256, .bf16⟩
  | .local _ .vmem, ⟨1, _⟩ => ⟨S4x1544x256, .bf16⟩
  | .local _ .vmem, ⟨2, _⟩ => ⟨S1544x256, .f32⟩
  | .local _ .vmem, ⟨3, _⟩ => ⟨S1544x256, .f32⟩
  | _, _ => ⟨S4x1544x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1544x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumARefIdeal.lean ====
abbrev S4x1544x2048 : Shape := ⟨3, ![4, 1544, 2048]⟩
abbrev S_ : Shape := ⟨0, ![]⟩
abbrev S1544x2048 : Shape := ⟨2, ![1544, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x1544x2048, .bf16⟩
  | .hbm, ⟨1, _⟩ => ⟨S4x1544x2048, .f32⟩
  | .hbm, ⟨2, _⟩ => ⟨S_, .f32⟩
  | .hbm, ⟨3, _⟩ => ⟨S1544x2048, .f32⟩
  | _, _ => ⟨S4x1544x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumB.lean ====
abbrev S4x512x2048 : Shape := ⟨3, ![4, 512, 2048]⟩
abbrev S512x2048 : Shape := ⟨2, ![512, 2048]⟩
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x512x2048, .bf16⟩
  | .hbm, ⟨1, _⟩ => ⟨S512x2048, .f32⟩
  | .local _ .vmem, ⟨0, _⟩ => ⟨S4x256x2048, .bf16⟩
  | .local _ .vmem, ⟨1, _⟩ => ⟨S4x256x2048, .bf16⟩
  | .local _ .vmem, ⟨2, _⟩ => ⟨S256x2048, .f32⟩
  | .local _ .vmem, ⟨3, _⟩ => ⟨S256x2048, .f32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumBRefIdeal.lean ====
abbrev S4x512x2048 : Shape := ⟨3, ![4, 512, 2048]⟩
abbrev S_ : Shape := ⟨0, ![]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x512x2048, .f32⟩
  | .hbm, ⟨2, _⟩ => ⟨S_, .f32⟩
  | .hbm, ⟨3, _⟩ => ⟨S512x2048, .f32⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamIn.lean ====
abbrev S1 : Shape := ⟨1, ![1]⟩
abbrev S3088x2048 : Shape := ⟨2, ![3088, 2048]⟩
abbrev S1544x2048 : Shape := ⟨2, ![1544, 2048]⟩
abbrev S1544x256 : Shape := ⟨2, ![1544, 256]⟩

abbrev nBuf : Space → Nat
  | .hbm => 10
  | .vmem => 18
  | .smem => 1
  | _ => 0

abbrev bufTy : (tb : Table) → Fin (tcTables nBuf tb) → BufTy
  | .hbm, ⟨0, _⟩ => ⟨S1, .i32⟩
  | .hbm, ⟨1, _⟩ => ⟨S3088x2048, .f32⟩
  | .hbm, ⟨2, _⟩ => ⟨S1544x2048, .f32⟩
  | .hbm, ⟨3, _⟩ => ⟨S1544x2048, .f32⟩
  | .hbm, ⟨4, _⟩ => ⟨S3088x2048, .f32⟩
  | .hbm, ⟨5, _⟩ => ⟨S3088x2048, .f32⟩
  | .hbm, ⟨6, _⟩ => ⟨S3088x2048, .f32⟩
  | .hbm, ⟨7, _⟩ => ⟨S3088x2048, .f32⟩
  | .hbm, ⟨8, _⟩ => ⟨S3088x2048, .f32⟩
  | .hbm, ⟨9, _⟩ => ⟨S3088x2048, .f32⟩
  | .local _ .vmem, ⟨0, _⟩ => ⟨S1544x256, .f32⟩
  | .local _ .vmem, ⟨1, _⟩ => ⟨S1544x256, .f32⟩
  | .local _ .vmem, ⟨2, _⟩ => ⟨S1544x256, .f32⟩
  | .local _ .vmem, ⟨3, _⟩ => ⟨S1544x256, .f32⟩
  | .local _ .vmem, ⟨4, _⟩ => ⟨S1544x256, .f32⟩
  | .local _ .vmem, ⟨5, _⟩ => ⟨S1544x256, .f32⟩
  | .local _ .vmem, ⟨6, _⟩ => ⟨S1544x256, .f32⟩
  | .local _ .vmem, ⟨7, _⟩ => ⟨S1544x256, .f32⟩
  | .local _ .vmem, ⟨8, _⟩ => ⟨S1544x256, .f32⟩
  | .local _ .vmem, ⟨9, _⟩ => ⟨S1544x256, .f32⟩
  | .local _ .vmem, ⟨10, _⟩ => ⟨S1544x256, .f32⟩
  | .local _ .vmem, ⟨11, _⟩ => ⟨S1544x256, .f32⟩
  | .local _ .vmem, ⟨12, _⟩ => ⟨S1544x256, .f32⟩
  | .local _ .vmem, ⟨13, _⟩ => ⟨S1544x256, .f32⟩
  | .local _ .vmem, ⟨14, _⟩ => ⟨S1544x256, .f32⟩
  | .local _ .vmem, ⟨15, _⟩ => ⟨S1544x256, .f32⟩
  | .local _ .vmem, ⟨16, _⟩ => ⟨S1544x256, .f32⟩
  | .local _ .vmem, ⟨17, _⟩ => ⟨S1544x256, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1544x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1544x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1544x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1544x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1544x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1544x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1544x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AdamInRefIdeal.lean ====
abbrev S1 : Shape := ⟨1, ![1]⟩
abbrev S3088x2048 : Shape := ⟨2, ![3088, 2048]⟩
abbrev S1544x2048 : Shape := ⟨2, ![1544, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S3088x2048, .f32⟩
  | .hbm, ⟨2, _⟩ => ⟨S1544x2048, .f32⟩
  | .hbm, ⟨3, _⟩ => ⟨S1544x2048, .f32⟩
  | .hbm, ⟨4, _⟩ => ⟨S3088x2048, .f32⟩
  | .hbm, ⟨5, _⟩ => ⟨S3088x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1544x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1544x2048, .f32⟩
  | .hbm, ⟨14, _⟩ => ⟨S3088x2048, .f32⟩
  | .hbm, ⟨15, _⟩ => ⟨S_, .f32⟩
  | .hbm, ⟨16, _⟩ => ⟨S3088x2048, .f32⟩
  | .hbm, ⟨17, _⟩ => ⟨S3088x2048, .f32⟩
  | .hbm, ⟨18, _⟩ => ⟨S_, .f32⟩
  | .hbm, ⟨19, _⟩ => ⟨S3088x2048, .f32⟩
  | .hbm, ⟨20, _⟩ => ⟨S3088x2048, .f32⟩
  | .hbm, ⟨21, _⟩ => ⟨S3088x2048, .f32⟩
  | .hbm, ⟨22, _⟩ => ⟨S_, .f32⟩
  | .hbm, ⟨23, _⟩ => ⟨S3088x2048, .f32⟩
  | .hbm, ⟨24, _⟩ => ⟨S3088x2048, .f32⟩
  | .hbm, ⟨25, _⟩ => ⟨S3088x2048, .f32⟩
  | .hbm, ⟨26, _⟩ => ⟨S_, .f32⟩
  | .hbm, ⟨27, _⟩ => ⟨S3088x2048, .f32⟩
  | .hbm, ⟨28, _⟩ => ⟨S3088x2048, .f32⟩
  | .hbm, ⟨29, _⟩ => ⟨S3088x2048, .f32⟩
  | .hbm, ⟨30, _⟩ => ⟨S_, .f32⟩
  | .hbm, ⟨31, _⟩ => ⟨S3088x2048, .f32⟩
  | .hbm, ⟨32, _⟩ => ⟨S3088x2048, .f32⟩
  | .hbm, ⟨33, _⟩ => ⟨S_, .f32⟩
  | .hbm, ⟨34, _⟩ => ⟨S3088x2048, .f32⟩
  | .hbm, ⟨35, _⟩ => ⟨S3088x2048, .f32⟩
  | .hbm, ⟨36, _⟩ => ⟨S3088x2048, .f32⟩
  | .hbm, ⟨37, _⟩ => ⟨S_, .f32⟩
  | .hbm, ⟨38, _⟩ => ⟨S3088x2048, .f32⟩
  | .hbm, ⟨39, _⟩ => ⟨S3088x2048, .f32⟩
  | .hbm, ⟨40, _⟩ => ⟨S3088x2048, .f32⟩
  | .hbm, ⟨41, _⟩ => ⟨S_, .f32⟩
  | .hbm, ⟨42, _⟩ => ⟨S3088x2048, .f32⟩
  | .hbm, ⟨43, _⟩ => ⟨S3088x2048, .f32⟩
  | .hbm, ⟨44, _⟩ => ⟨S3088x2048, .f32⟩
  | .hbm, ⟨45, _⟩ => ⟨S_, .f32⟩
  | .hbm, ⟨46, _⟩ => ⟨S3088x2048, .f32⟩
  | .hbm, ⟨47, _⟩ => ⟨S3088x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamOut.lean ====
abbrev S1 : Shape := ⟨1, ![1]⟩
abbrev S1024x2048 : Shape := ⟨2, ![1024, 2048]⟩
abbrev S512x2048 : Shape := ⟨2, ![512, 2048]⟩
abbrev S256x2048 : Shape := ⟨2, ![256, 2048]⟩

abbrev nBuf : Space → Nat
  | .hbm => 10
  | .vmem => 18
  | .smem => 1
  | _ => 0

abbrev bufTy : (tb : Table) → Fin (tcTables nBuf tb) → BufTy
  | .hbm, ⟨0, _⟩ => ⟨S1, .i32⟩
  | .hbm, ⟨1, _⟩ => ⟨S1024x2048, .f32⟩
  | .hbm, ⟨2, _⟩ => ⟨S512x2048, .f32⟩
  | .hbm, ⟨3, _⟩ => ⟨S512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AdamOutRefIdeal.lean ====
abbrev S1 : Shape := ⟨1, ![1]⟩
abbrev S1024x2048 : Shape := ⟨2, ![1024, 2048]⟩
abbrev S512x2048 : Shape := ⟨2, ![512, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x2048, .f32⟩
  | .hbm, ⟨2, _⟩ => ⟨S512x2048, .f32⟩
  | .hbm, ⟨3, _⟩ => ⟨S512x2048, .f32⟩
  | .hbm, ⟨4, _⟩ => ⟨S1024x2048, .f32⟩
  | .hbm, ⟨5, _⟩ => ⟨S1024x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S_, .f32⟩
  | .hbm, ⟨42, _⟩ => ⟨S1024x2048, .f32⟩
  | .hbm, ⟨43, _⟩ => ⟨S1024x2048, .f32⟩
  | .hbm, ⟨44, _⟩ => ⟨S1024x2048, .f32⟩
  | .hbm, ⟨45, _⟩ => ⟨S_, .f32⟩
  | .hbm, ⟨46, _⟩ => ⟨S1024x2048, .f32⟩
  | .hbm, ⟨47, _⟩ => ⟨S1024x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamSmall.lean ====
abbrev S1560x128 : Shape := ⟨2, ![1560, 128]⟩
abbrev S4x1560x128 : Shape := ⟨3, ![4, 1560, 128]⟩
abbrev S1x1560x128 : Shape := ⟨3, ![1, 1560, 128]⟩

abbrev nBuf : Space → Nat
  | .hbm => 8
  | .vmem => 8
  | .smem => 0
  | _ => 0

abbrev bufTy : (tb : Table) → Fin (tcTables nBuf tb) → BufTy
  | .hbm, ⟨0, _⟩ => ⟨S1560x128, .f32⟩
  | .hbm, ⟨1, _⟩ => ⟨S4x1560x128, .f32⟩
  | .hbm, ⟨2, _⟩ => ⟨S1560x128, .f32⟩
  | .hbm, ⟨3, _⟩ => ⟨S1560x128, .f32⟩
  | .hbm, ⟨4, _⟩ => ⟨S1560x128, .f32⟩
  | .hbm, ⟨5, _⟩ => ⟨S1560x128, .f32⟩
  | .hbm, ⟨6, _⟩ => ⟨S1560x128, .f32⟩
  | .hbm, ⟨7, _⟩ => ⟨S1560x128, .f32⟩
  | .local _ .vmem, ⟨0, _⟩ => ⟨S1560x128, .f32⟩
  | .local _ .vmem, ⟨1, _⟩ => ⟨S4x1560x128, .f32⟩
  | .local _ .vmem, ⟨2, _⟩ => ⟨S1560x128, .f32⟩
  | .local _ .vmem, ⟨3, _⟩ => ⟨S1560x128, .f32⟩
  | .local _ .vmem, ⟨4, _⟩ => ⟨S1560x128, .f32⟩
  | .local _ .vmem, ⟨5, _⟩ => ⟨S1560x128, .f32⟩
  | .local _ .vmem, ⟨6, _⟩ => ⟨S1560x128, .f32⟩
  | .local _ .vmem, ⟨7, _⟩ => ⟨S1560x128, .f32⟩
  | _, _ => ⟨S1560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1560x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x1560x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1560x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1560x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1560x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1560x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1560x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1560x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallRefIdeal.lean ====
abbrev S1560x128 : Shape := ⟨2, ![1560, 128]⟩
abbrev S4x1560x128 : Shape := ⟨3, ![4, 1560, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1560x128, .f32⟩
  | .hbm, ⟨1, _⟩ => ⟨S4x1560x128, .f32⟩
  | .hbm, ⟨2, _⟩ => ⟨S1560x128, .f32⟩
  | .hbm, ⟨3, _⟩ => ⟨S1560x128, .f32⟩
  | .hbm, ⟨4, _⟩ => ⟨S_, .f32⟩
  | .hbm, ⟨5, _⟩ => ⟨S1560x128, .f32⟩
  | .hbm, ⟨6, _⟩ => ⟨S_, .f32⟩
  | .hbm, ⟨7, _⟩ => ⟨S1560x128, .f32⟩
  | .hbm, ⟨8, _⟩ => ⟨S1560x128, .f32⟩
  | .hbm, ⟨9, _⟩ => ⟨S_, .f32⟩
  | .hbm, ⟨10, _⟩ => ⟨S1560x128, .f32⟩
  | .hbm, ⟨11, _⟩ => ⟨S1560x128, .f32⟩
  | .hbm, ⟨12, _⟩ => ⟨S1560x128, .f32⟩
  | .hbm, ⟨13, _⟩ => ⟨S_, .f32⟩
  | .hbm, ⟨14, _⟩ => ⟨S1560x128, .f32⟩
  | .hbm, ⟨15, _⟩ => ⟨S1560x128, .f32⟩
  | .hbm, ⟨16, _⟩ => ⟨S1560x128, .f32⟩
  | .hbm, ⟨17, _⟩ => ⟨S_, .f32⟩
  | .hbm, ⟨18, _⟩ => ⟨S1560x128, .f32⟩
  | .hbm, ⟨19, _⟩ => ⟨S1560x128, .f32⟩
  | .hbm, ⟨20, _⟩ => ⟨S1560x128, .f32⟩
  | .hbm, ⟨21, _⟩ => ⟨S_, .f32⟩
  | .hbm, ⟨22, _⟩ => ⟨S1560x128, .f32⟩
  | .hbm, ⟨23, _⟩ => ⟨S1560x128, .f32⟩
  | .hbm, ⟨24, _⟩ => ⟨S_, .f32⟩
  | .hbm, ⟨25, _⟩ => ⟨S1560x128, .f32⟩
  | .hbm, ⟨26, _⟩ => ⟨S1560x128, .f32⟩
  | .hbm, ⟨27, _⟩ => ⟨S1560x128, .f32⟩
  | .hbm, ⟨28, _⟩ => ⟨S_, .f32⟩
  | .hbm, ⟨29, _⟩ => ⟨S1560x128, .f32⟩
  | .hbm, ⟨30, _⟩ => ⟨S1560x128, .f32⟩
  | .hbm, ⟨31, _⟩ => ⟨S1560x128, .f32⟩
  | .hbm, ⟨32, _⟩ => ⟨S_, .f32⟩
  | .hbm, ⟨33, _⟩ => ⟨S1560x128, .f32⟩
  | .hbm, ⟨34, _⟩ => ⟨S1560x128, .f32⟩
  | .hbm, ⟨35, _⟩ => ⟨S1560x128, .f32⟩
  | .hbm, ⟨36, _⟩ => ⟨S_, .f32⟩
  | .hbm, ⟨37, _⟩ => ⟨S1560x128, .f32⟩
  | .hbm, ⟨38, _⟩ => ⟨S1560x128, .f32⟩
  | _, _ => ⟨S1560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamShard.lean ====
abbrev S96x128 : Shape := ⟨2, ![96, 128]⟩

abbrev nBuf : Space → Nat
  | .hbm => 8
  | .vmem => 8
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .local _ .vmem, ⟨0, _⟩ => ⟨S96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S96x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamShardRefIdeal.lean ====
abbrev S96x128 : Shape := ⟨2, ![96, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S96x128, .f32⟩
  | .hbm, ⟨7, _⟩ => ⟨S_, .f32⟩
  | .hbm, ⟨8, _⟩ => ⟨S96x128, .f32⟩
  | .hbm, ⟨9, _⟩ => ⟨S96x128, .f32⟩
  | .hbm, ⟨10, _⟩ => ⟨S96x128, .f32⟩
  | .hbm, ⟨11, _⟩ => ⟨S_, .f32⟩
  | .hbm, ⟨12, _⟩ => ⟨S96x128, .f32⟩
  | .hbm, ⟨13, _⟩ => ⟨S96x128, .f32⟩
  | .hbm, ⟨14, _⟩ => ⟨S96x128, .f32⟩
  | .hbm, ⟨15, _⟩ => ⟨S_, .f32⟩
  | .hbm, ⟨16, _⟩ => ⟨S96x128, .f32⟩
  | .hbm, ⟨17, _⟩ => ⟨S96x128, .f32⟩
  | .hbm, ⟨18, _⟩ => ⟨S96x128, .f32⟩
  | .hbm, ⟨19, _⟩ => ⟨S_, .f32⟩
  | .hbm, ⟨20, _⟩ => ⟨S96x128, .f32⟩
  | .hbm, ⟨21, _⟩ => ⟨S96x128, .f32⟩
  | .hbm, ⟨22, _⟩ => ⟨S_, .f32⟩
  | .hbm, ⟨23, _⟩ => ⟨S96x128, .f32⟩
  | .hbm, ⟨24, _⟩ => ⟨S96x128, .f32⟩
  | .hbm, ⟨25, _⟩ => ⟨S96x128, .f32⟩
  | .hbm, ⟨26, _⟩ => ⟨S_, .f32⟩
  | .hbm, ⟨27, _⟩ => ⟨S96x128, .f32⟩
  | .hbm, ⟨28, _⟩ => ⟨S96x128, .f32⟩
  | .hbm, ⟨29, _⟩ => ⟨S96x128, .f32⟩
  | .hbm, ⟨30, _⟩ => ⟨S_, .f32⟩
  | .hbm, ⟨31, _⟩ => ⟨S96x128, .f32⟩
  | .hbm, ⟨32, _⟩ => ⟨S96x128, .f32⟩
  | .hbm, ⟨33, _⟩ => ⟨S96x128, .f32⟩
  | .hbm, ⟨34, _⟩ => ⟨S_, .f32⟩
  | .hbm, ⟨35, _⟩ => ⟨S96x128, .f32⟩
  | .hbm, ⟨36, _⟩ => ⟨S96x128, .f32⟩
  | _, _ => ⟨S96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RmsBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== OutProj.lean ====
abbrev S4096x512 : Shape := ⟨2, ![4096, 512]⟩
abbrev S4096x6400 : Shape := ⟨2, ![4096, 6400]⟩
abbrev S2048x2048 : Shape := ⟨2, ![2048, 2048]⟩
abbrev S4096x2048 : Shape := ⟨2, ![4096, 2048]⟩
abbrev S1x1 : Shape := ⟨2, ![1, 1]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 12
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x6400, .f32⟩
  | .hbm, ⟨5, _⟩ => ⟨S2048x2048, .bf16⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S4096x2048, .f32⟩
  | .hbm, ⟨10, _⟩ => ⟨S4096x2048, .bf16⟩
  | .hbm, ⟨11, _⟩ => ⟨S1x1, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S2048x2048, .bf16⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .bf16⟩
  | .local _ .vmem, ⟨22, _⟩ => ⟨S256x2048, .bf16⟩
  | .local _ .vmem, ⟨23, _⟩ => ⟨S256x2048, .f32⟩
  | .local _ .vmem, ⟨24, _⟩ => ⟨S256x2048, .f32⟩
  | .local _ .vmem, ⟨25, _⟩ => ⟨S256x2048, .bf16⟩
  | .local _ .vmem, ⟨26, _⟩ => ⟨S256x2048, .bf16⟩
  | .local _ .vmem, ⟨27, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== OutProjRefIdeal.lean ====
abbrev S4096x512 : Shape := ⟨2, ![4096, 512]⟩
abbrev S4096x6400 : Shape := ⟨2, ![4096, 6400]⟩
abbrev S2048x2048 : Shape := ⟨2, ![2048, 2048]⟩
abbrev S4096x2048 : Shape := ⟨2, ![4096, 2048]⟩
abbrev S_ : Shape := ⟨0, ![]⟩
abbrev S4096 : Shape := ⟨1, ![4096]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x6400, .f32⟩
  | .hbm, ⟨5, _⟩ => ⟨S2048x2048, .bf16⟩
  | .hbm, ⟨6, _⟩ => ⟨S4096x2048, .f32⟩
  | .hbm, ⟨7, _⟩ => ⟨S4096x2048, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x2048, .f32⟩
  | .hbm, ⟨41, _⟩ => ⟨S2048x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .bf16⟩
  | .hbm, ⟨68, _⟩ => ⟨S4096x2048, .bf16⟩
  | .hbm, ⟨69, _⟩ => ⟨S1x1, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== RmsFwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LayerEnd.lean ====
abbrev S4096x512 : Shape := ⟨2, ![4096, 512]⟩
abbrev S4096x6400 : Shape := ⟨2, ![4096, 6400]⟩
abbrev S2048x2048 : Shape := ⟨2, ![2048, 2048]⟩
abbrev S4096x2048 : Shape := ⟨2, ![4096, 2048]⟩
abbrev S256x512 : Shape := ⟨2, ![256, 512]⟩
abbrev S256x2048 : Shape := ⟨2, ![256, 2048]⟩

abbrev nBuf : Space → Nat
  | .hbm => 9
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x6400, .f32⟩
  | .hbm, ⟨5, _⟩ => ⟨S2048x2048, .bf16⟩
  | .hbm, ⟨6, _⟩ => ⟨S4096x2048, .f32⟩
  | .hbm, ⟨7, _⟩ => ⟨S4096x2048, .bf16⟩
  | .hbm, ⟨8, _⟩ => ⟨S4096x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S2048x2048, .bf16⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | .local _ .vmem, ⟨21, _⟩ => ⟨S256x2048, .f32⟩
  | .local _ .vmem, ⟨22, _⟩ => ⟨S256x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LayerEndRefIdeal.lean ====
abbrev S4096x512 : Shape := ⟨2, ![4096, 512]⟩
abbrev S4096x6400 : Shape := ⟨2, ![4096, 6400]⟩
abbrev S2048x2048 : Shape := ⟨2, ![2048, 2048]⟩
abbrev S4096x2048 : Shape := ⟨2, ![4096, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x6400, .f32⟩
  | .hbm, ⟨5, _⟩ => ⟨S2048x2048, .bf16⟩
  | .hbm, ⟨6, _⟩ => ⟨S4096x2048, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x2048, .f32⟩
  | .hbm, ⟨40, _⟩ => ⟨S4096x2048, .bf16⟩
  | .hbm, ⟨41, _⟩ => ⟨S2048x2048, .f32⟩
  | .hbm, ⟨42, _⟩ => ⟨S4096x2048, .f32⟩
  | .hbm, ⟨43, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== OutProjBwd.lean ====
abbrev S4096x2048 : Shape := ⟨2, ![4096, 2048]⟩
abbrev S2048x2048 : Shape := ⟨2, ![2048, 2048]⟩
abbrev S4096x512 : Shape := ⟨2, ![4096, 512]⟩
abbrev S4096x6400 : Shape := ⟨2, ![4096, 6400]⟩
abbrev S256x2048 : Shape := ⟨2, ![256, 2048]⟩
abbrev S256x512 : Shape := ⟨2, ![256, 512]⟩

abbrev nBuf : Space → Nat
  | .hbm => 15
  | .vmem => 35
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x6400, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== OutProjBwdRefIdeal.lean ====
abbrev S4096x2048 : Shape := ⟨2, ![4096, 2048]⟩
abbrev S2048x2048 : Shape := ⟨2, ![2048, 2048]⟩
abbrev S4096x512 : Shape := ⟨2, ![4096, 512]⟩
abbrev S4096x6400 : Shape := ⟨2, ![4096, 6400]⟩
abbrev S_ : Shape := ⟨0, ![]⟩

abbrev nBuf : Space → Nat
  | .hbm => 134
  | .vmem => 0
  | .smem => 0
  | _ => 0

abbrev hbmTy0_0 (i : Nat) : BufTy := match i % 128 with
  | 0 => ⟨S4096x2048, .bf16⟩
  | 1 => ⟨S2048x2048, .bf16⟩
  | 2 => ⟨S4096x512, .f32⟩
  | 3 => ⟨S4096x512, .f32⟩
  | 4 => ⟨S4096x512, .f32⟩
  | 5 => ⟨S4096x512, .f32⟩
  | 6 => ⟨S4096x6400, .f32⟩
  | 7 => ⟨S4096x2048, .f32⟩
  | 8 => ⟨S2048x2048, .f32⟩
  | 9 => ⟨S4096x2048, .f32⟩
  | 10 => ⟨S4096x512, .f32⟩
  | 11 => ⟨S4096x512, .f32⟩
  | 12 => ⟨S4096x512, .f32⟩
  | 13 => ⟨S4096x512, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S4096x512, .f32⟩
  | 67 => ⟨S4096x512, .bf16⟩
  | 68 => ⟨S4096x512, .f32⟩
  | 69 => ⟨S4096x512, .f32⟩
  | 70 => ⟨S4096x512, .f32⟩
  | 71 => ⟨S_, .f32⟩
  | 72 => ⟨S4096x512, .f32⟩
  | 73 => ⟨S4096x512, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .bf16⟩
  | 90 => ⟨S4096x512, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S4096x512, .f32⟩
  | 97 => ⟨S4096x512, .f32⟩
  | 98 => ⟨S_, .f32⟩
  | 99 => ⟨S4096x512, .f32⟩
  | 100 => ⟨S4096x512, .f32⟩
  | 101 => ⟨S_, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S4096x512, .f32⟩
  | 111 => ⟨S4096x512, .bf16⟩
  | 112 => ⟨S4096x512, .f32⟩
  | 113 => ⟨S4096x512, .f32⟩
  | 114 => ⟨S4096x512, .f32⟩
  | 115 => ⟨S_, .f32⟩
  | 116 => ⟨S4096x512, .f32⟩
  | 117 => ⟨S4096x512, .f32⟩
  | 118 => ⟨S4096x512, .f32⟩
  | 119 => ⟨S4096x512, .f32⟩
  | 120 => ⟨S_, .f32⟩
  | 121 => ⟨S4096x512, .f32⟩
  | 122 => ⟨S4096x512, .f32⟩
  | 123 => ⟨S_, .f32⟩
  | 124 => ⟨S4096x512, .f32⟩
  | 125 => ⟨S4096x512, .f32⟩
  | 126 => ⟨S4096x512, .f32⟩
  | 127 => ⟨S4096x512, .f32⟩
  | _ => ⟨S4096x2048, .bf16⟩

abbrev hbmTy0_1 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4096x512, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_9 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_10 : Ref sig .tc := ⟨.hbm, 98, rfl⟩
abbrev main_v80 : Ref sig .tc := ⟨.hbm, 99, rfl⟩
abbrev main_v81 : Ref sig .tc := ⟨.hbm, 100, rfl⟩
abbrev main_cst_11 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_12 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_13 : Ref sig .tc := ⟨.hbm, 120, rfl⟩
abbrev main_v99 : Ref sig .tc := ⟨.hbm, 121, rfl⟩
abbrev main_v100 : Ref sig .tc := ⟨.hbm, 122, rfl⟩
abbrev main_cst_14 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩

abbrev nD : Nat := 1
abbrev τ : Topo := Topo.v7x

variable {F : FTy → Type} [FloatOps F]
-- ==== MulZ.lean ====
abbrev S4096x2048 : Shape := ⟨2, ![4096, 2048]⟩
abbrev S2048x6400 : Shape := ⟨2, ![2048, 6400]⟩
abbrev S4096x6400 : Shape := ⟨2, ![4096, 6400]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6400, .bf16⟩
  | .hbm, ⟨2, _⟩ => ⟨S4096x6400, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulZRefIdeal.lean ====
abbrev S4096x2048 : Shape := ⟨2, ![4096, 2048]⟩
abbrev S2048x6400 : Shape := ⟨2, ![2048, 6400]⟩
abbrev S4096x6400 : Shape := ⟨2, ![4096, 6400]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6400, .bf16⟩
  | .hbm, ⟨2, _⟩ => ⟨S4096x2048, .f32⟩
  | .hbm, ⟨3, _⟩ => ⟨S2048x6400, .f32⟩
  | .hbm, ⟨4, _⟩ => ⟨S4096x6400, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MulDh.lean ====
abbrev S4096x6400 : Shape := ⟨2, ![4096, 6400]⟩
abbrev S6400x2048 : Shape := ⟨2, ![6400, 2048]⟩
abbrev S4096x2048 : Shape := ⟨2, ![4096, 2048]⟩
abbrev S1024x3200 : Shape := ⟨2, ![1024, 3200]⟩
abbrev S3200x1024 : Shape := ⟨2, ![3200, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6400, .bf16⟩
  | .hbm, ⟨1, _⟩ => ⟨S6400x2048, .bf16⟩
  | .hbm, ⟨2, _⟩ => ⟨S4096x2048, .f32⟩
  | .local _ .vmem, ⟨0, _⟩ => ⟨S1024x3200, .bf16⟩
  | .local _ .vmem, ⟨1, _⟩ => ⟨S1024x3200, .bf16⟩
  | .local _ .vmem, ⟨2, _⟩ => ⟨S3200x1024, .bf16⟩
  | .local _ .vmem, ⟨3, _⟩ => ⟨S3200x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3200x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDhRefIdeal.lean ====
abbrev S4096x6400 : Shape := ⟨2, ![4096, 6400]⟩
abbrev S6400x2048 : Shape := ⟨2, ![6400, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x6400, .bf16⟩
  | .hbm, ⟨1, _⟩ => ⟨S6400x2048, .bf16⟩
  | .hbm, ⟨2, _⟩ => ⟨S4096x6400, .f32⟩
  | .hbm, ⟨3, _⟩ => ⟨S6400x2048, .f32⟩
  | .hbm, ⟨4, _⟩ => ⟨S4096x2048, .f32⟩
  | _, _ => ⟨S4096x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MulDwIn.lean ====
abbrev S4096x6400 : Shape := ⟨2, ![4096, 6400]⟩
abbrev S4096x2048 : Shape := ⟨2, ![4096, 2048]⟩
abbrev S6400x2048 : Shape := ⟨2, ![6400, 2048]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6400, .bf16⟩
  | .hbm, ⟨1, _⟩ => ⟨S4096x2048, .bf16⟩
  | .hbm, ⟨2, _⟩ => ⟨S6400x2048, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S4096x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDwInRefIdeal.lean ====
abbrev S4096x6400 : Shape := ⟨2, ![4096, 6400]⟩
abbrev S4096x2048 : Shape := ⟨2, ![4096, 2048]⟩
abbrev S6400x2048 : Shape := ⟨2, ![6400, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x6400, .bf16⟩
  | .hbm, ⟨1, _⟩ => ⟨S4096x2048, .bf16⟩
  | .hbm, ⟨2, _⟩ => ⟨S4096x6400, .f32⟩
  | .hbm, ⟨3, _⟩ => ⟨S4096x2048, .f32⟩
  | .hbm, ⟨4, _⟩ => ⟨S6400x2048, .f32⟩
  | .hbm, ⟨5, _⟩ => ⟨S6400x2048, .bf16⟩
  | _, _ => ⟨S4096x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MulDwOut.lean ====
abbrev S4096x2048 : Shape := ⟨2, ![4096, 2048]⟩
abbrev S2048x2048 : Shape := ⟨2, ![2048, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MulDwOutRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Deal.lean ====
/- # The launch of a program whose devices write into each other without asking

   The exchanges proved here have no handshake: a device's first remote copy may land on a peer that has not yet
   begun its own body. So the pieces of a device's result buffers that its peers fill must be in the peers' hands
   from the launch on, and the launch has to deal the devices' unscoped buffers all at once, next to the kernel's
   semaphores. `run_dealt` is that launch: the global step `hglob` gets, of every device, the kernel's own semaphores
   at zero, every unscoped buffer whole at its launch contents, and the proof's ghost resources.

   What each device then does with its part is `hcore`, a statement about its whole @main; `region_wp` proves the
   part of it that is one call without windows, whose body is given as an entailment over `∃`-free resources. -/
module

public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.Deal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} [∀ e, Nonempty (Val e)]
variable {U : Type} [URA U] {Λ₀ : Labels} {P : Type} [Fintype P] [DecidableEq P]

local notation "𝕄" => MT nD τ sig Unit Val ℕ U ℕ

variable (cfgs : P → Cfg sig Λ₀) (hinj : Function.Injective (cellOf (nD := nD) (τ := τ) cfgs)) (p : P)
variable {K : Type} [Fintype K] {osem : K → SemLoc sig} (hw : WinFacts₀ (cfgs p).spec) (ho : OwnSemFacts (cfgs p).spec osem)
variable (EP : Emb (URounds (GSem nD τ sig) Unit) (MT nD τ sig Unit Val ℕ U ℕ))
variable (defs₀ : Defs nD τ sig Val Λ₀) (𝒱₀ : Variants)

/-- The table of the program's calls. -/
abbrev table : P → PCfg sig Λ₀ Val := fun p => (cfgs p).toPCfg

local notation "𝔻" => Pipeline.defs (table (Val := Val) cfgs) defs₀
local notation "𝕍" => Variants.lift 𝒱₀

/-- What a device is given at launch besides what the global step hands it. -/
def before (O₀ : Dev nD → CellTallies nD τ sig Unit) (L : GSem nD τ sig → Finset Unit) (lv : GSem nD τ sig → Unit → ℕ)
    (g : Dev nD → PrngReg) (c : Dev nD) : sProp 𝕄 :=
  iprop((scopedBufs (c.tc : Thread nD τ) ∗ cellsSems0 cfgs p c ∗ idleSems0 cfgs hinj p ho c ∗ opIdle (c.tc : Thread nD τ))
    ∗ owes (c.tc : Thread nD τ) (O₀ c) ∅ ∗ levAts L lv ∗ launchCred O₀ c ∗ prngReg c (g c)
    ∗ (bigSep Finset.univ fun p' => cellsGhost cfgs EP p' c) ∗ (bigSep Finset.univ fun p' => toksInit cfgs EP p' c))

include hw in
/-- A device's part of the launch, sorted: what it keeps, and the semaphores and buffers the global step deals. -/
theorem core_split (O₀ : Dev nD → CellTallies nD τ sig Unit) (m : (ℓ : Loc nD τ sig) → Buf Val ℓ) (g : Dev nD → PrngReg) (c : Dev nD) :
    (coreInit (Ix := Unit) (Name := ℕ) (U := U) (Lvl := ℕ) (owing O₀) 0 (⟨m, fun _ => 0, g⟩ : MemSt nD τ sig Val) (c.tc : Thread nD τ))
      ⊢ iprop((scopedBufs (c.tc : Thread nD τ) ∗ cellsSems0 cfgs p c ∗ idleSems0 cfgs hinj p ho c ∗ opIdle (c.tc : Thread nD τ))
          ∗ (ownSems0 osem c ∗ unscopedSems0 c ∗ unscopedBufs c (fun b => m ((c.tc : Thread nD τ).loc b)))
          ∗ owes (c.tc : Thread nD τ) (O₀ c) ∅ ∗ levels0 c ∗ prngReg c (g c) ∗ launchCred O₀ c) := by
  refine (coreInit_boundary_owing O₀ m g c).trans ?_
  unfold boundary
  rw [scopedSems0_split cfgs hinj p hw ho c]
  iintro ⟨⟨Hsc, ⟨⟨Hcells, Hown⟩, Hidle⟩, Hop⟩, Hub, Hus, HO, Hlv, Hpr, Hcr⟩
  isplitl [Hsc Hcells Hidle Hop]
  · isplitl [Hsc]; · iexact Hsc
    isplitl [Hcells]; · iexact Hcells
    isplitl [Hidle] <;> iassumption
  isplitl [Hown Hus Hub]
  · isplitl [Hown]; · iexact Hown
    isplitl [Hus] <;> iassumption
  isplitl [HO]; · iexact HO
  isplitl [Hlv]; · iexact Hlv
  isplitl [Hpr] <;> iassumption

/-- The levels of all cells, assigned at once: only cells of TensorCores have any. -/
theorem assign_levels (L : GSem nD τ sig → Finset Unit) (lv : GSem nD τ sig → Unit → ℕ) (hL : ∀ g : GSem nD τ sig, g.1.2 ≠ .tc → L g = ∅) :
    (bigSep Finset.univ fun c : Dev nD => levels0 (Ix := Unit) (Val := Val) (Name := ℕ) (U := U) (Lvl := ℕ) (τ := τ) (sig := sig) c)
      ⊢ (|==> levAts L lv : sProp 𝕄) := by
  refine ((bigSep_mono fun c _ => lev_assign_cells (c.tc : Thread nD τ) L lv).trans (BI.bigSep_bupd _ _)).trans (BI.bupd_mono ?_)
  have hoff : (bigSep Finset.univ fun d : Dev nD => bigSep (Finset.univ.erase Proc.tc) fun q => (coreLevAts ((d, q) : Thread nD τ) L lv : sProp 𝕄)) = BI.emp := by
    have h1 (d : Dev nD) (q : Proc τ) (hq : q ∈ Finset.univ.erase Proc.tc) : (coreLevAts ((d, q) : Thread nD τ) L lv : sProp 𝕄) = BI.emp := by
      unfold coreLevAts
      exact (bigSep_congr (Ψ := fun _ : SemLoc sig => (BI.emp : sProp 𝕄)) fun sm _ => by
        rw [hL (((d, q) : Thread nD τ), sm) (Finset.ne_of_mem_erase hq), BI.bigSep_empty]).trans (BI.bigSep_emp_const _)
    exact (bigSep_congr (Ψ := fun _ : Dev nD => (BI.emp : sProp 𝕄)) fun d _ =>
      (bigSep_congr (Ψ := fun _ : Proc τ => (BI.emp : sProp 𝕄)) (h1 d)).trans (BI.bigSep_emp_const _)).trans (BI.bigSep_emp_const _)
  have hon : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun q => (coreLevAts ((d, q) : Thread nD τ) L lv : sProp 𝕄)) := by
    rw [hoff, bigSep_sep']
    iintro ⟨-, H⟩
    isplitl [H]; · iexact H
    iempintro
  rw [show (levAts L lv : sProp 𝕄) = bigSep Finset.univ fun c : Thread nD τ => coreLevAts c L lv
      from bigSep_univ_prod fun g : GSem nD τ sig => bigSep (L g) fun i => levAt g i (lv g i),
    bigSep_threads (fun c : Thread nD τ => coreLevAts c L lv)]
  exact hon

include hw in
/-- The launch. From any memory with zero counters every weakly fair execution terminates, with every scoped counter
    (and every counter off the TensorCores) at zero and with what `T` lets one read off the final memory, if: the
    global step `hglob` turns all devices' kernel semaphores, unscoped buffers and ghost resources into `G'`; and
    each device's @main runs from `before` and `G'` to `T`, with its scoped semaphores at zero and nothing owed. -/
theorem run_dealt (m : (ℓ : Loc nD τ sig) → Buf Val ℓ) (g : Dev nD → PrngReg)
    (main : Dev nD → Prog (TpuEff nD τ sig Val (Pipeline.Sig Λ₀ P fun p => (table (Val := Val) cfgs p).Adm) .tc) PUnit)
    (O₀ : Dev nD → CellTallies nD τ sig Unit) (L : GSem nD τ sig → Finset Unit) (lv : GSem nD τ sig → Unit → ℕ)
    (hL : ∀ g : GSem nD τ sig, g.1.2 ≠ .tc → L g = ∅)
    (G G' T : Dev nD → sProp 𝕄) (u₀ : U)
    (hu₀ : (ownU u₀ : sProp 𝕄) ⊢ |={Set.univ}=> iprop(BI.own (EP (initOf (cells cfgs hinj) (launchToks cfgs hinj))) ∗ bigSep Finset.univ G))
    (hglob : (bigSep Finset.univ fun c => iprop((ownSems0 osem c ∗ unscopedSems0 c ∗ unscopedBufs c (fun b => m ((c.tc : Thread nD τ).loc b))) ∗ G c) : sProp 𝕄)
      ⊢ |={Set.univ}=> bigSep Finset.univ G')
    (hcore : ∀ c : Dev nD, iprop(before cfgs hinj p ho EP O₀ L lv g c ∗ G' c)
      ⊢ wp frame (wpE 𝔻 𝕍 (c.tc : Thread nD τ) none) Set.univ (main c)
          (fun _ => iprop((T c ∗ scopedSems0 (c.tc : Thread nD τ)) ∗ ∃ W, owes (c.tc : Thread nD τ) (0 : CellTallies nD τ sig Unit) W)))
    (QY : Dev nD → MemSt nD τ sig Val → Prop)
    (hY : ∀ c (s' : Phys nD τ sig Val), iprop(T c ∗ SI s') ⊢ |={Set.univ}=> iprop(⌜QY c s'.mem⌝ ∗ SI s')) :
    θ_run 𝔻 (onTc main) ⟨m, fun _ => 0, g⟩ (fun r => (∀ c, QY c r.2)
      ∧ ∀ g' : GSem nD τ sig, (g'.1.2 ≠ .tc ∨ g'.2.isScoped .tc = true) → r.2.sem g' = 0) := by
  classical
  refine (θ_run 𝔻 _ _).mono (Q := fun r => (∀ c : Dev nD, QY c r.2
        ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩) (adequate_tpu 𝔻 _ _ _
      (reflect_intro_fupd_tc_sems (X := Unit) 𝕍 (owing O₀) 0 (noBookings fun _ => le_rfl) (owing_of_ne O₀) u₀
        (fun _ c => iprop(before cfgs hinj p ho EP O₀ L lv g c ∗ G' c)) (fun _ c => iprop(T c ∗ scopedSems0 (c.tc : Thread nD τ)))
        (fun _ => iprop(emp)) Set.univ ?_ (fun _ c => ?_) fun _ => ?_))
  · have hcores : (_ : sProp 𝕄) ⊢ _ := bigSep_mono (s := Finset.univ) fun (c : Dev nD) _ => core_split (U := U) cfgs hinj p hw ho O₀ m g c
    simp only [bigSep_sep'] at hcores
    iintro ⟨Hcores, Hu⟩
    ihave Hc := hcores $$ Hcores
    icases Hc with ⟨Hkeep, Hdeal, HO, Hlv, Hpr, Hcr⟩
    imod (assign_levels L lv hL) $$ Hlv with Hla
    imod hu₀ $$ Hu with ⟨HP, HG⟩
    imod (fund_ghost cfgs EP hinj) $$ HP with ⟨Hg, Ht⟩
    imod hglob $$ [Hdeal HG] with HG'
    · simp only [bigSep_sep']; isplitl [Hdeal] <;> iassumption
    imodintro
    iexists ()
    isplitr []
    · unfold before; simp only [bigSep_sep']
      isplitr [HG']
      · isplitl [Hkeep]; · iexact Hkeep
        isplitl [HO]; · iexact HO
        isplitl [Hla]; · iapply (BI.bigSep_intro_persistent (S := Finset.univ) fun (c : Dev nD) _ => (BI.Entails.refl (levAts L lv : sProp 𝕄))); iexact Hla
        isplitl [Hcr]; · iexact Hcr
        isplitl [Hpr]; · iexact Hpr
        isplitl [Hg] <;> iassumption
      · iexact HG'
    · iempintro
  · refine (hcore c).trans (Entails.of_eq ?_)
    unfold post; simp only [liftTc_tc]
  · have hread (c : Dev nD) (s' : Phys nD τ sig Val) : iprop((T c ∗ scopedSems0 (c.tc : Thread nD τ)) ∗ SI s') ⊢ |={Set.univ}=>
        iprop(⌜QY c s'.mem ∧ ∀ sm : SemLoc sig, sm.isScoped .tc = true → s'.mem.sem ((c.tc : Thread nD τ), sm) = 0⌝ ∗ SI s') := by
      iintro ⟨⟨HT, Hss⟩, HSI⟩
      ihave %hz := (tcScoped_read_pers c s') $$ [Hss HSI]
      · isplitl [Hss] <;> iassumption
      imod (hY c s') $$ [HT HSI] with ⟨%hy, HSI⟩
      · isplitl [HT] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

/-! ## One call without windows -/

section Region

variable (c : Dev nD) (Φ₀ Φ₁ : sProp (MT nD τ sig Unit Val ℕ U ℕ)) (O O' : CellTallies nD τ sig Unit) (hW : IsEmpty (Fin (cfgs p).W))

/-- The pipeline's data for a call without windows: it begins with `Φ₀` and owing `O`, and ends with `Φ₁` and owing `O'`. -/
def bare : Dat τ Val Unit ℕ U ℕ (cfgs p) c where
  A w := hW.elim w
  after w := hW.elim w
  Φ t := if t.val = 0 then Φ₀ else Φ₁
  q w := hW.elim w
  owed t := if t.val = 0 then O else O'

theorem bare_first (t : Fin ((cfgs p).N + 1)) (h : t.val = 0) :
    (bare (Val := Val) cfgs p c Φ₀ Φ₁ O O' hW).Φ t = Φ₀ ∧ (bare (Val := Val) cfgs p c Φ₀ Φ₁ O O' hW).owed t = O :=
  ⟨if_pos h, if_pos h⟩

theorem bare_later (t : Fin ((cfgs p).N + 1)) (h : t.val ≠ 0) :
    (bare (Val := Val) cfgs p c Φ₀ Φ₁ O O' hW).Φ t = Φ₁ ∧ (bare (Val := Val) cfgs p c Φ₀ Φ₁ O O' hW).owed t = O' :=
  ⟨if_neg h, if_neg h⟩

/-- `bare` as part of a family: every other call is given arbitrary data, which nothing reads. -/
def bareAll : (p' : P) → (c : Dev nD) → Dat τ Val Unit ℕ U ℕ (Pipeline.pinD (table (Val := Val) cfgs) (fun _ p => (cfgs p).toPCfg_adm) c p') c :=
  fun p' c => if h : p' = p then by cases h; exact bare cfgs p c Φ₀ Φ₁ O O' hW
    else ⟨fun _ _ => Classical.arbitrary _, Dat.unnamed, fun _ => iprop(emp), fun _ => fullShare, fun _ => 0, fun _ => Set.univ⟩

theorem bareAll_self : bareAll cfgs p Φ₀ Φ₁ O O' hW p c = bare cfgs p c Φ₀ Φ₁ O O' hW := by
  unfold bareAll; rw [dif_pos rfl]

theorem bigSep_of_empty {I : Type} [Fintype I] (h : IsEmpty I) (Φ : I → sProp 𝕄) : bigSep Finset.univ Φ = (BI.emp : sProp 𝕄) := by
  rw [Finset.univ_eq_empty, BI.bigSep_empty]

theorem emp_bigSep {I : Type} [Fintype I] (h : IsEmpty I) (Φ : I → sProp 𝕄) : (BI.emp : sProp 𝕄) ⊢ bigSep Finset.univ Φ := by
  rw [bigSep_of_empty h]

include hinj EP hW in
/-- A call without windows, its body run from `Φ₀` to `Φ₁` and from owing `O` to owing `O'`. The scoped buffers pass
    through the body (`R`) untouched. -/
theorem region_wp (hN : (cfgs p).N = 1)
    (hbody : ∀ t : Fin (cfgs p).N, iprop(Φ₀ ∗ ∃ W, owes (c.tc : Thread nD τ) O W)
      ⊢ wp frame (wpE defs₀ 𝒱₀ (c.tc : Thread nD τ) none) Set.univ (defs₀ .tc (cfgs p).body ((cfgs p).bodyArgs t ((cfgs p).slots t)))
          (fun _ => iprop(Φ₁ ∗ ∃ W, owes (c.tc : Thread nD τ) O' W)))
    {X Y R I : sProp 𝕄} (hbufs : (scopedBufs (c.tc : Thread nD τ) : sProp 𝕄) ⊢ R)
    (hin : iprop(X ∗ R) ⊢ Φ₀) (hout : iprop(Φ₁ ∗ I) ⊢ iprop(Y ∗ scopedSems0 (c.tc : Thread nD τ) ∗ scopedBufs (c.tc : Thread nD τ)))
    {α : Type} {k : PUnit → Prog (TpuEff nD τ sig Val (Pipeline.Sig Λ₀ P fun p => (table (Val := Val) cfgs p).Adm) .tc) α} {Q : α → sProp 𝕄} :
    iprop((X ∗ I ∗ scopedBufs (c.tc : Thread nD τ) ∗ owes (c.tc : Thread nD τ) O ∅)
        ∗ ((Y ∗ scopedSems0 (c.tc : Thread nD τ) ∗ scopedBufs (c.tc : Thread nD τ) ∗ ∃ W, owes (c.tc : Thread nD τ) O' W)
            -∗ wp frame (wpE 𝔻 𝕍 (c.tc : Thread nD τ) none) Set.univ (k ⟨⟩) Q))
      ⊢ wp frame (wpE 𝔻 𝕍 (c.tc : Thread nD τ) none) Set.univ (.op (.customCall (entry p) ()) k) Q := by
  have hself := bareAll_self cfgs p c Φ₀ Φ₁ O O' hW
  have hrun := PerCore.wp_customCall_entry_frame (table (Val := Val) cfgs) (fun _ p => (cfgs p).toPCfg_adm) (bareAll cfgs p Φ₀ Φ₁ O O' hW) ()
    EP (fun _ => 0) hinj p defs₀ 𝒱₀ (fun _ => fullShare) c Set.univ (fun _ _ => Set.mem_univ _)
    (by
      rw [hself]
      intro t
      have hlt : t.val < (cfgs p).N := t.isLt
      obtain ⟨e0, o0⟩ := bare_first cfgs p c Φ₀ Φ₁ O O' hW (Fin.castSucc (n := (cfgs p).N) t) (by show t.val = 0; omega)
      obtain ⟨e1, o1⟩ := bare_later cfgs p c Φ₀ Φ₁ O O' hW (Fin.succ (n := (cfgs p).N) t) (Nat.succ_ne_zero _)
      dsimp only [Dat.owesAt, owesWithin]
      refine BI.Entails.trans (?_ : _ ⊢ iprop(Φ₀ ∗ ∃ W, owes (c.tc : Thread nD τ) O W)) ((hbody t).trans (wp_mono frame _ _ fun _ => ?_))
      · erw [e0, o0]
        istart
        iintro ⟨HΦ, ⟨%W, %hs, How⟩, Hw⟩
        isplitl [HΦ]
        · iexact HΦ
        · iexists W; iexact How
      · erw [e1, o1]
        istart
        iintro ⟨HΦ, ⟨%W, How⟩⟩
        isplitl [HΦ]
        · iexact HΦ
        isplitl [How]
        · iexists W
          isplitr
          · ipureintro; exact fun _ _ => Or.inl trivial
          · iexact How
        · iapply (emp_bigSep hW _)
          iempintro)
    (fun w => hW.elim w) none (fun u h => nomatch h) (X := X) (Y := Y) (R := R) (I := I)
    (hbufs.trans (by
      unfold Dat.staging
      istart
      iintro H
      isplitr
      · iapply (emp_bigSep hW _)
        iempintro
      · iexact H))
    (by
      rw [hself, (bare_first cfgs p c Φ₀ Φ₁ O O' hW 0 rfl).1]
      refine BI.Entails.trans (?_ : _ ⊢ iprop(X ∗ R)) hin
      istart
      iintro ⟨HX, Hp, HR⟩
      isplitl [HX]
      · iexact HX
      · iexact HR)
    (by
      have e : (bare cfgs p c Φ₀ Φ₁ O O' hW).Φ (Fin.last (cfgs p).N) = Φ₁ := if_neg (by simp [hN])
      rw [hself]
      erw [e]
      refine BI.Entails.trans (?_ : _ ⊢ iprop(Φ₁ ∗ I)) hout
      istart
      iintro ⟨HX, _, _, HR⟩
      isplitl [HX]
      · iexact HX
      · iexact HR) (k := k) (Q := Q)
  istart
  iintro ⟨⟨HX, HI, Hb, How⟩, HK⟩
  have hpre : iprop(X ∗ I ∗ scopedBufs (c.tc : Thread nD τ) ∗ owes (c.tc : Thread nD τ) O ∅)
      ⊢ iprop(PerCore.EntryPre (Pipeline.pinD (table (Val := Val) cfgs) (fun _ p => (cfgs p).toPCfg_adm)) (bareAll cfgs p Φ₀ Φ₁ O O' hW) () EP (fun _ => 0) p c
        ∗ prefHeld (table (Val := Val) cfgs p).pre c (fun _ => fullShare) (cfgs p).toPCfg_adm.1 ∗ X ∗ I ∗ scopedBufs (c.tc : Thread nD τ)) := by
    unfold PerCore.EntryPre Dat.owesAt owesWithin
    rw [hself, (bare_first cfgs p c Φ₀ Φ₁ O O' hW 0 rfl).2]
    istart
    iintro ⟨HX, HI, Hb, How⟩
    isplitl [How]
    · isplitr
      · unfold Dat.arrays; iapply (emp_bigSep hW _); iempintro
      isplitl [How]
      · iexists ∅
        isplitr
        · ipureintro; exact fun _ _ => Or.inl trivial
        · iexact How
      isplitr
      · unfold PerCore.cellsWaits PerCore.RDat.cellsWaits; iapply (emp_bigSep hW _); iempintro
      isplitr
      · unfold PerCore.cellsInit PerCore.RDat.cellsInit; iapply (emp_bigSep hW _); iempintro
      · unfold PerCore.toksInit; iapply (emp_bigSep hW _); iempintro
    isplitr
    · unfold prefHeld; iapply (emp_bigSep (show IsEmpty (Fin 0) from inferInstance) _); iempintro
    isplitl [HX]
    · iexact HX
    isplitl [HI]
    · iexact HI
    · iexact Hb
  have hpost : (PerCore.EntryPost (Pipeline.pinD (table (Val := Val) cfgs) (fun _ p => (cfgs p).toPCfg_adm)) (bareAll cfgs p Φ₀ Φ₁ O O' hW) () p c : sProp 𝕄)
      ⊢ iprop(∃ W, owes (c.tc : Thread nD τ) O' W) := by
    have o1 : (bare cfgs p c Φ₀ Φ₁ O O' hW).owed (Fin.last (cfgs p).N) = O' := if_neg (by simp [hN])
    unfold PerCore.EntryPost Dat.owesAt owesWithin
    rw [hself]
    erw [o1]
    istart
    iintro ⟨_, ⟨%W, _, How⟩⟩
    iexists W; iexact How
  ihave H := hpre $$ [HX HI Hb How]
  · isplitl [HX]
    · iexact HX
    isplitl [HI]
    · iexact HI
    isplitl [Hb]
    · iexact Hb
    · iexact How
  iapply hrun $$ H
  iintro ⟨He, HY, Hss, Hsb⟩
  iapply HK
  isplitl [HY]
  · iexact HY
  isplitl [Hss]
  · iexact Hss
  isplitl [Hsb]
  · iexact Hsb
  iapply hpost
  iexact He

end Region

end Cert.Deal

end
-- ==== Proof.Exchange.lean ====
/- # Exchanges: kernels that only start copies and wait for them

   A `Copies` lists a kernel's remote copies (labels `K`) and its local copies (labels `I`), each as a function of the
   device that runs it. A kernel body is then a list of commands (`Cmd`): start a remote copy, wait until the copy of
   that label addressed to this device has landed, wait until its own copy has left, start a local copy, wait for one.
   `run` is the program the list denotes.

   A remote copy may forward what an earlier one delivered (`dep`): its source is the piece that landed here.

   `run_wp` runs any list that meets `Ok`, a decidable condition on the order of the commands: nothing is waited for
   before it is started, a forwarding copy starts after the wait for what it forwards, every command occurs, and a
   device that waits for a landing owes nothing of that level or below. What it gives: every piece of this device that
   some copy fills holds `V`, the contents the whole exchange ends with. -/
module

public import proofs.«01_k».proof.Proof.Deal

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- The copies of a kernel. `src k c` and `dst k c` are the two ends of the copy `k` that device `c` starts: `dst k c`
    is a piece of a buffer of `peer k c`. -/
structure Copies (nD : Nat) (τ : Topo) (sig : RefSig) (K I : Type) where
  shape : K → Shape
  elt : K → EltTy
  src : (k : K) → Dev nD → Memref sig .tc .hbm (shape k) (elt k)
  dst : (k : K) → Dev nD → Memref sig .tc .hbm (shape k) (elt k)
  peer : K → Dev nD → Dev nD
  snd : K → DmaSem sig
  rcv : K → DmaSem sig
  lshape : I → Shape
  lelt : I → EltTy
  lsrc : (i : I) → Dev nD → Memref sig .tc .hbm (lshape i) (lelt i)
  ldst : (i : I) → Dev nD → Memref sig .tc .hbm (lshape i) (lelt i)
  lsem : I → DmaSem sig
  /-- The copy whose landing here this one forwards, if any. -/
  dep : K → Option K
  /-- The order in which landings may be waited for. -/
  lvl : K → ℕ
  amt : K → ℕ
  lamt : I → ℕ
  src_exact : ∀ k c, (src k c).view.WordExact
  dst_exact : ∀ k c, (dst k c).view.WordExact
  lsrc_exact : ∀ i c, (lsrc i c).view.WordExact
  ldst_exact : ∀ i c, (ldst i c).view.WordExact
  dst_tc : ∀ k c, (dst k c).view.ref.isScScratch = false
  src_credit : ∀ k c, (src k c).view.dmaCredit = amt k
  dst_credit : ∀ k c, (dst k c).view.dmaCredit = amt k
  ldst_credit : ∀ i c, (ldst i c).view.dmaCredit = lamt i
  amt_pos : ∀ k, 0 < amt k
  lamt_pos : ∀ i, 0 < lamt i
  peer_peer : ∀ k c, peer k (peer k c) = c
  sem_inj : Function.Injective (Sum.elim snd (Sum.elim rcv lsem))
  dep_inj : ∀ x y k, dep x = some k → dep y = some k → x = y
  lvl_pos : ∀ k, 0 < lvl k
  routes : ∀ k c, τ.routes (Dev.tc c : Thread nD τ) (Dev.tc (peer k c) : Thread nD τ) = true

inductive Cmd (K I : Type) where
  | start (k : K)
  | landed (k : K)
  | left (k : K)
  | lstart (i : I)
  | lwait (i : I)
  deriving DecidableEq

variable {nD : Nat} {τ : Topo} {sig : RefSig} {Val : EltTy → Type}
variable {Λ₀ : Labels} {K I : Type} [Fintype K] [DecidableEq K] [Fintype I] [DecidableEq I]

local notation "𝕄" => MT nD τ sig Unit Val ℕ (UR sig nD τ × UR sig nD τ) ℕ

namespace Copies

variable (X : Copies nD τ sig K I)

/-- One command's effect. -/
def op (c : Dev nD) : Cmd K I → TpuEff nD τ sig Val Λ₀ .tc PUnit
  | .start k => .enqueueDma (X.src k c) (.remote (Dev.tc (X.peer k c)) (X.dst k c) (.dma (X.snd k)) (X.dst_tc k c)) (.dma (X.rcv k))
      (X.src_exact k c) (X.dst_exact k c) ⟨⟨rfl, Or.inl rfl⟩, trivial⟩
  | .landed k => .waitDma2 (X.rcv k) (X.src k c) (X.dst k c) (X.src_exact k c) (X.dst_exact k c)
  | .left k => .waitDma2 (X.snd k) (X.dst k c) (X.src k c) (X.dst_exact k c) (X.src_exact k c)
  | .lstart i => .enqueueDma (X.lsrc i c) (.here (X.ldst i c)) (.dma (X.lsem i)) (X.lsrc_exact i c) (X.ldst_exact i c) ⟨Or.inl rfl, trivial⟩
  | .lwait i => .waitDma2 (X.lsem i) (X.lsrc i c) (X.ldst i c) (X.lsrc_exact i c) (X.ldst_exact i c)

/-- The program a list of commands denotes, before `rest`. -/
def run (c : Dev nD) {α : Type} (rest : Prog (TpuEff nD τ sig Val Λ₀ .tc) α) : List (Cmd K I) → Prog (TpuEff nD τ sig Val Λ₀ .tc) α
  | [] => rest
  | a :: l => .op (X.op c a) fun _ => run c rest l

/-! ## The order of the commands -/

/-- Nothing owed at level `n` or below. -/
def Clear (n : ℕ) (D : List (Cmd K I)) : Prop := ∀ k, .start k ∉ D → n < X.lvl k

instance (n : ℕ) (D : List (Cmd K I)) : Decidable (X.Clear n D) := by unfold Clear; infer_instance

def Ready (D : List (Cmd K I)) : Cmd K I → Prop
  | .start k => .left k ∉ D ∧ ∀ k' ∈ X.dep k, .landed k' ∈ D
  | .landed k => X.Clear (X.lvl k) D
  | .left k => .start k ∈ D ∧ X.Clear 0 D
  | .lstart i => .lwait i ∉ D
  | .lwait i => .lstart i ∈ D ∧ X.Clear 0 D

instance (D : List (Cmd K I)) : DecidablePred (X.Ready D) := fun a => by
  cases a <;> unfold Ready <;> infer_instance

def Complete (D : List (Cmd K I)) : Prop :=
  (∀ k : K, .start k ∈ D ∧ .landed k ∈ D ∧ .left k ∈ D) ∧ ∀ i : I, .lstart i ∈ D ∧ .lwait i ∈ D

instance (D : List (Cmd K I)) : Decidable (Complete D) := by unfold Complete; infer_instance

/-- The list `l` may follow the commands `D`, and completes them. -/
def Ok : List (Cmd K I) → List (Cmd K I) → Prop
  | D, [] => Complete D
  | D, a :: l => a ∉ D ∧ X.Ready D a ∧ Ok (a :: D) l

instance decOk : (D l : List (Cmd K I)) → Decidable (X.Ok D l)
  | D, [] => by unfold Ok; infer_instance
  | D, a :: l => by
      unfold Ok
      have := decOk (a :: D) l
      infer_instance

/-! ## Cells, schedule, levels -/

abbrev Cell (K I : Type) := K ⊕ (K ⊕ I)

def semOf : Cell K I → SemLoc sig := fun x => .dma (Sum.elim X.snd (Sum.elim X.rcv X.lsem) x)

theorem semOf_inj : Function.Injective X.semOf := fun a b h => X.sem_inj (by simpa [semOf] using h)

def gcell (x : Dev nD × Cell K I) : GSem nD τ sig := ((x.1.tc : Thread nD τ), X.semOf x.2)

theorem gcell_inj : Function.Injective X.gcell := by
  rintro ⟨c, x⟩ ⟨c', x'⟩ h
  have h1 : c = c' := congrArg (fun g : GSem nD τ sig => g.1.1) h
  have h2 : x = x' := X.semOf_inj (congrArg Prod.snd h)
  rw [h1, h2]

abbrev sendCell (k : K) (c : Dev nD) : GSem nD τ sig := X.gcell (c, .inl k)
abbrev recvCell (k : K) (c : Dev nD) : GSem nD τ sig := X.gcell (c, .inr (.inl k))
abbrev locCell (i : I) (c : Dev nD) : GSem nD τ sig := X.gcell (c, .inr (.inr i))

/-- The label of a cell. -/
def cellAt (g : GSem nD τ sig) : Option (Dev nD × Cell K I) := by
  classical exact if h : ∃ x, X.gcell x = g then some h.choose else none

theorem cellAt_gcell (x : Dev nD × Cell K I) : X.cellAt (X.gcell x) = some x := by
  have h : ∃ y, X.gcell y = X.gcell x := ⟨x, rfl⟩
  unfold cellAt
  rw [dif_pos h, X.gcell_inj h.choose_spec]

def amount : Cell K I → ℕ := Sum.elim X.amt (Sum.elim X.amt X.lamt)

theorem amount_pos (x : Cell K I) : 0 < X.amount x := by
  rcases x with k | k | i
  · exact X.amt_pos k
  · exact X.amt_pos k
  · exact X.lamt_pos i

variable (V : (c : Dev nD) → (b : Ref sig .tc) → Buf Val ((c.tc : Thread nD τ).loc b))

/-- The piece of device `c` that copy `k` fills, holding what the exchange ends with. -/
def piece (q : PosShare TreeShare) (k : K) (c : Dev nD) : sProp 𝕄 :=
  (X.dst k (X.peer k c)).view.loc (c.tc : Thread nD τ) ↦[(X.dst k (X.peer k c)).view.set]{q} V c (X.dst k (X.peer k c)).view.ref

/-- The same of a local copy. -/
def lpiece (i : I) (c : Dev nD) : sProp 𝕄 :=
  (X.ldst i c).view.loc (c.tc : Thread nD τ) ↦[(X.ldst i c).view.set]{fullShare} V c (X.ldst i c).view.ref

/-- The source of copy `k` at device `c`. -/
def source (q : PosShare TreeShare) (k : K) (c : Dev nD) : sProp 𝕄 :=
  (X.src k c).view.loc (c.tc : Thread nD τ) ↦[(X.src k c).view.set]{q} V c (X.src k c).view.ref

def lsource (q : PosShare TreeShare) (i : I) (c : Dev nD) : sProp 𝕄 :=
  (X.lsrc i c).view.loc (c.tc : Thread nD τ) ↦[(X.lsrc i c).view.set]{q} V c (X.lsrc i c).view.ref

/-- What a cell hands its owner. -/
def pay : Dev nD × Cell K I → sProp 𝕄
  | (_, .inl _) => iprop(emp)
  | (c, .inr (.inl k)) => X.piece V fullShare k c
  | (c, .inr (.inr i)) => X.lpiece V i c

def Rd : Rounds.Schedule (GSem nD τ sig) Unit 𝕄 where
  duties g r := if r = 0 ∧ (X.cellAt g).isSome then {()} else ∅
  amount g _ _ := (X.cellAt g).elim 1 fun x => X.amount x.2
  payload g _ _ := (X.cellAt g).elim (iprop(emp)) (X.pay V)
  amount_pos g _ _ _ := by
    cases X.cellAt g with
    | none => exact Nat.one_pos
    | some x => exact X.amount_pos x.2

instance pay_storable (x : Dev nD × Cell K I) : BI.Storable (upEmb : UEmb _ 𝕄) (X.pay V x) := by
  obtain ⟨c, k | k | i⟩ := x <;> unfold pay <;> (try unfold piece) <;> (try unfold lpiece) <;> infer_instance

instance payload_storable (g : GSem nD τ sig) (r : ℕ) (d : Unit) : BI.Storable (upEmb : UEmb _ 𝕄) ((X.Rd V).payload g r d) := by
  show BI.Storable upEmb ((X.cellAt g).elim (iprop(emp)) (X.pay V))
  cases X.cellAt g with
  | none => show BI.Storable upEmb (iprop(emp)); infer_instance
  | some x => show BI.Storable upEmb (X.pay V x); infer_instance

theorem duties_zero (x : Dev nD × Cell K I) : (X.Rd V).duties (X.gcell x) 0 = {()} := by
  dsimp only [Rd]; rw [X.cellAt_gcell]; exact if_pos ⟨rfl, rfl⟩

theorem duties_later (g : GSem nD τ sig) : ∀ r, 1 ≤ r → (X.Rd V).duties g r = ∅ :=
  fun r hr => by dsimp only [Rd]; exact if_neg fun h => by omega

theorem amount_eq (x : Dev nD × Cell K I) : (X.Rd V).amount (X.gcell x) 0 () = X.amount x.2 := by
  dsimp only [Rd]; rw [X.cellAt_gcell]; rfl

theorem payload_eq (x : Dev nD × Cell K I) : (X.Rd V).payload (X.gcell x) 0 () = (X.pay V x : sProp 𝕄) := by
  dsimp only [Rd]; rw [X.cellAt_gcell]; rfl

theorem expect_eq (x : Dev nD × Cell K I) : (X.Rd V).expect (X.gcell x) 0 = X.amount x.2 := by
  unfold Schedule.expect Schedule.amountOf; rw [duties_zero, Finset.sum_singleton, amount_eq]

theorem rest_eq (x : Dev nD × Cell K I) :
    bigSep ((X.Rd V).duties (X.gcell x) 0 \ ∅) (fun u => (X.Rd V).payload (X.gcell x) 0 u) = (X.pay V x : sProp 𝕄) := by
  rw [Finset.sdiff_empty, duties_zero, bigSep_singleton, payload_eq]

def L (g : GSem nD τ sig) : Finset Unit := if g.1.2 = .tc then {()} else ∅
def lv (g : GSem nD τ sig) (_ : Unit) : ℕ := (X.cellAt g).elim 0 fun x => Sum.elim (fun _ => 0) (Sum.elim X.lvl fun _ => 0) x.2

theorem L_of_ne (g : GSem nD τ sig) (h : g.1.2 ≠ .tc) : L g = ∅ := if_neg h
theorem L_gcell (x : Dev nD × Cell K I) : L (X.gcell x) = {()} := if_pos rfl
theorem lv_gcell (x : Dev nD × Cell K I) : X.lv (X.gcell x) () = Sum.elim (fun _ => 0) (Sum.elim X.lvl fun _ => 0) x.2 := by
  unfold lv; rw [X.cellAt_gcell]; rfl

/-- What device `c` still owes once the commands `D` are done. -/
def owed (c : Dev nD) (D : List (Cmd K I)) : CellTallies nD τ sig Unit :=
  ∑ k : K, if Cmd.start k ∈ D then 0 else tallyAt (X.recvCell k (X.peer k c)) () (X.amt k)

theorem owed_start (c : Dev nD) (D : List (Cmd K I)) (k : K) (h : .start k ∉ D) :
    X.owed c D = X.owed c (.start k :: D) + tallyAt (X.recvCell k (X.peer k c)) () (X.amt k) := by
  have hE : ∑ x ∈ Finset.univ.erase k, (if Cmd.start x ∈ D then 0 else tallyAt (X.recvCell x (X.peer x c)) () (X.amt x))
      = ∑ x ∈ Finset.univ.erase k, (if Cmd.start x ∈ Cmd.start k :: D then 0 else tallyAt (X.recvCell x (X.peer x c)) () (X.amt x)) := by
    refine Finset.sum_congr rfl fun k' hk' => ?_
    have hne : k' ≠ k := Finset.ne_of_mem_erase hk'
    simp [hne]
  unfold owed
  rw [← Finset.add_sum_erase _ _ (Finset.mem_univ k), hE, if_neg h]
  rw [← Finset.add_sum_erase (Finset.univ) (fun x => if Cmd.start x ∈ Cmd.start k :: D then 0 else tallyAt (X.recvCell x (X.peer x c)) () (X.amt x)) (Finset.mem_univ k)]
  simp only [List.mem_cons_self, if_true, zero_add]
  exact add_comm _ _

theorem owed_other (c : Dev nD) (D : List (Cmd K I)) (a : Cmd K I) (h : ∀ k, a ≠ .start k) : X.owed c (a :: D) = X.owed c D := by
  unfold owed
  refine Finset.sum_congr rfl fun k' _ => ?_
  have : (Cmd.start k' ∈ a :: D) ↔ Cmd.start k' ∈ D := by
    rw [List.mem_cons]; exact ⟨fun h' => h'.resolve_left fun e => h k' e.symm, Or.inr⟩
  simp only [this]

theorem owed_pos {c : Dev nD} {D : List (Cmd K I)} {g : GSem nD τ sig} {u : Unit} (h : 0 < X.owed c D g u) :
    ∃ k, .start k ∉ D ∧ g = X.recvCell k (X.peer k c) := by
  unfold owed at h
  rw [Finset.sum_apply, Finsupp.finset_sum_apply] at h
  obtain ⟨k, -, hk⟩ := Finset.exists_ne_zero_of_sum_ne_zero h.ne'
  by_cases hD : Cmd.start k ∈ D
  · rw [if_pos hD] at hk; exact absurd rfl hk
  · rw [if_neg hD, tallyAt_apply] at hk
    by_cases hg : g = X.recvCell k (X.peer k c) ∧ u = ()
    · exact ⟨k, hD, hg.1⟩
    · rw [if_neg hg] at hk; exact absurd rfl hk

theorem mayWait (c : Dev nD) (D : List (Cmd K I)) (x : Cell K I) (n : ℕ) (hx : X.lv (X.gcell (c, x)) () ≤ n) (hD : X.Clear n D) :
    (levAts L X.lv : sProp 𝕄) ⊢ MayWait (c.tc : Thread nD τ) (X.semOf x) () (X.owed c D) :=
  MayOwe.of_cut (L := L) (lev := X.lv) n
    (fun p hp => by rw [Finset.mem_singleton.mp hp]; exact (X.L_gcell (c, x)).symm ▸ Finset.mem_singleton_self ())
    (fun g u hg => by obtain ⟨k, _, rfl⟩ := X.owed_pos hg; rw [L_gcell]; exact Finset.mem_singleton_self _)
    (fun p hp => by rw [Finset.mem_singleton.mp hp]; exact hx)
    (fun g u hg => by obtain ⟨k, hk, rfl⟩ := X.owed_pos hg; rw [lv_gcell]; exact hD k hk)

/-! ## What a device holds between two commands -/

/-- The rounds of the exchange's own cells. -/
abbrev ER (nD : Nat) (τ : Topo) (sig : RefSig) (Val : EltTy → Type) :
    Emb (UR sig nD τ) (MT nD τ sig Unit Val ℕ (UR sig nD τ × UR sig nD τ) ℕ) := embR

local notation "ℰ" => ER nD τ sig Val

theorem bigSep_at {J : Type} [DecidableEq J] {s : Finset J} {a : J} (h : a ∈ s) {F : J → sProp 𝕄} : (bigSep s F : sProp 𝕄) ⊢ F a := BI.bigSep_elim h

theorem bigSep_take {J : Type} [DecidableEq J] {s : Finset J} {a : J} (h : a ∈ s) (F : J → sProp 𝕄) :
    bigSep s F = iprop(F a ∗ bigSep (s.erase a) F) := BI.bigSep_erase h

/-- What every device knows: each cell's invariant, that its first round is open, and the levels. -/
def records (N : Dev nD × Cell K I → ℕ) : sProp 𝕄 :=
  iprop((bigSep Finset.univ fun x => cellInv ℰ (X.Rd V) (N x) (X.gcell x)) ∗ (bigSep Finset.univ fun x => reached ℰ (X.gcell x) 0) ∗ levAts L X.lv)

instance records_persistent (N : Dev nD × Cell K I → ℕ) : BI.Persistent (X.records V N) := by unfold records; infer_instance

theorem records_inv (N : Dev nD × Cell K I → ℕ) (x : Dev nD × Cell K I) : X.records V N ⊢ cellInv ℰ (X.Rd V) (N x) (X.gcell x) := by
  unfold records; iintro ⟨H, -, -⟩; iapply (bigSep_at (Finset.mem_univ x)) $$ H

theorem records_reached (N : Dev nD × Cell K I → ℕ) (x : Dev nD × Cell K I) : X.records V N ⊢ reached ℰ (X.gcell x) 0 := by
  unfold records; iintro ⟨-, H, -⟩; iapply (bigSep_at (Finset.mem_univ x)) $$ H

theorem records_levels (N : Dev nD × Cell K I → ℕ) : X.records V N ⊢ levAts L X.lv := by
  unfold records; iintro ⟨-, -, H⟩; iexact H

/-- The sending side of copy `k`: before it starts, its two tokens and the piece of the peer it fills; then a credit
    on its own cell; then that cell at zero. -/
def outgoing (c : Dev nD) (D : List (Cmd K I)) (k : K) : sProp 𝕄 :=
  if .start k ∉ D then
    iprop(dutyTok ℰ (X.sendCell k c) 0 () ∗ dutyTok ℰ (X.recvCell k (X.peer k c)) 0 ()
      ∗ (∃ fd, (X.dst k c).view.loc ((X.peer k c).tc : Thread nD τ) ↦[(X.dst k c).view.set]{fullShare} fd) ∗ atPos ℰ (X.sendCell k c) 0 ∅ 0)
  else if .left k ∉ D then iprop(cred (tallyAt (X.sendCell k c) () (X.amt k)) ∗ atPos ℰ (X.sendCell k c) 0 ∅ 0)
  else semVal (X.sendCell k c) 0

/-- The receiving side. Of what landed one half is kept; the other may be forwarded (`sources`). -/
def incoming (c : Dev nD) (D : List (Cmd K I)) (k : K) : sProp 𝕄 :=
  if .landed k ∉ D then iprop(cred (tallyAt (X.recvCell k c) () (X.amt k)) ∗ atPos ℰ (X.recvCell k c) 0 ∅ 0)
  else iprop(semVal (X.recvCell k c) 0 ∗ X.piece V fullShare.left k c)

/-- The source of copy `k`, from when it is there to when the copy starts. -/
def sources (c : Dev nD) (D : List (Cmd K I)) (k : K) : sProp 𝕄 :=
  if .start k ∉ D ∧ ∀ k' ∈ X.dep k, .landed k' ∈ D then iprop(∃ q, X.source V q k c) else iprop(emp)

/-- A local copy. -/
def inside (c : Dev nD) (D : List (Cmd K I)) (i : I) : sProp 𝕄 :=
  if .lstart i ∉ D then
    iprop(dutyTok ℰ (X.locCell i c) 0 () ∗ (∃ fd, (X.ldst i c).view.loc (c.tc : Thread nD τ) ↦[(X.ldst i c).view.set]{fullShare} fd)
      ∗ (∃ q, X.lsource V q i c) ∗ atPos ℰ (X.locCell i c) 0 ∅ 0)
  else if .lwait i ∉ D then iprop(cred (tallyAt (X.locCell i c) () (X.lamt i)) ∗ atPos ℰ (X.locCell i c) 0 ∅ 0)
  else iprop(semVal (X.locCell i c) 0 ∗ X.lpiece V i c)

def state (c : Dev nD) (D : List (Cmd K I)) : sProp 𝕄 :=
  iprop((bigSep Finset.univ fun k => X.outgoing (Val := Val) c D k) ∗ (bigSep Finset.univ fun k => X.incoming V c D k)
    ∗ (bigSep Finset.univ fun k => X.sources V c D k) ∗ (bigSep Finset.univ fun i => X.inside V c D i)
    ∗ ∃ W, owes (c.tc : Thread nD τ) (X.owed c D) W)

/-- One summand of a family replaced, the others unchanged. -/
theorem bigSep_update {J : Type} [Fintype J] [DecidableEq J] (a : J) (F F' : J → sProp 𝕄) (h : ∀ x, x ≠ a → F x = F' x) :
    (bigSep Finset.univ F : sProp 𝕄) ⊢ iprop(F a ∗ (F' a -∗ bigSep Finset.univ F')) := by
  rw [bigSep_take (Finset.mem_univ a) F, bigSep_take (Finset.mem_univ a) F',
    bigSep_congr (s := Finset.univ.erase a) (fun x hx => h x (Finset.ne_of_mem_erase hx))]
  iintro ⟨Ha, Hr⟩
  isplitl [Ha]; · iexact Ha
  iintro Ha
  isplitl [Ha] <;> iassumption

/-! Each part depends on few of the commands done. -/

theorem outgoing_congr {c : Dev nD} {D D' : List (Cmd K I)} {k : K} (h1 : Cmd.start k ∈ D ↔ Cmd.start k ∈ D')
    (h2 : Cmd.left k ∈ D ↔ Cmd.left k ∈ D') : X.outgoing (Val := Val) c D k = X.outgoing c D' k := by
  unfold outgoing; simp only [h1, h2]

theorem incoming_congr {c : Dev nD} {D D' : List (Cmd K I)} {k : K} (h1 : Cmd.landed k ∈ D ↔ Cmd.landed k ∈ D') :
    X.incoming V c D k = X.incoming V c D' k := by
  unfold incoming; simp only [h1]

theorem sources_congr {c : Dev nD} {D D' : List (Cmd K I)} {k : K} (h1 : Cmd.start k ∈ D ↔ Cmd.start k ∈ D')
    (h2 : ∀ k' ∈ X.dep k, (Cmd.landed k' ∈ D ↔ Cmd.landed k' ∈ D')) : X.sources V c D k = X.sources V c D' k := by
  have h3 : (∀ k' ∈ X.dep k, Cmd.landed k' ∈ D) ↔ ∀ k' ∈ X.dep k, Cmd.landed k' ∈ D' :=
    forall_congr' fun k' => ⟨fun h hk => (h2 k' hk).mp (h hk), fun h hk => (h2 k' hk).mpr (h hk)⟩
  unfold sources; simp only [h1, h3]

theorem inside_congr {c : Dev nD} {D D' : List (Cmd K I)} {i : I} (h1 : Cmd.lstart i ∈ D ↔ Cmd.lstart i ∈ D')
    (h2 : Cmd.lwait i ∈ D ↔ Cmd.lwait i ∈ D') : X.inside V c D i = X.inside V c D' i := by
  unfold inside; simp only [h1, h2]

section Steps

variable (N : Dev nD × Cell K I → ℕ) (c : Dev nD) (defs : Defs nD τ sig Val Λ₀) (𝒱 : Variants)
variable (hland : ∀ k c (fd : Buf Val ((X.dst k c).view.loc ((X.peer k c).tc : Thread nD τ))), ∀ i ∈ (X.dst k c).view.set,
  (X.dst k c).view.write Val fd ((X.src k c).view.read Val (V c (X.src k c).view.ref)) Finset.univ i = V (X.peer k c) (X.dst k c).view.ref i)
variable (hlland : ∀ i c (fd : Buf Val ((X.ldst i c).view.loc (c.tc : Thread nD τ))), ∀ j ∈ (X.ldst i c).view.set,
  (X.ldst i c).view.write Val fd ((X.lsrc i c).view.read Val (V c (X.lsrc i c).view.ref)) Finset.univ j = V c (X.ldst i c).view.ref j)
variable (hfwd : ∀ k k' c q, X.dep k = some k' → X.piece V q k' c ⊢ X.source V q k c)
variable {α : Type} {Q : α → sProp (MT nD τ sig Unit Val ℕ (UR sig nD τ × UR sig nD τ) ℕ)}
variable (D : List (Cmd K I)) {K' : PUnit → Prog (TpuEff nD τ sig Val Λ₀ .tc) α}

local notation "𝕎" => wp frame (wpE defs 𝒱 (c.tc : Thread nD τ) none) Set.univ

theorem pay_sent (q : PosShare TreeShare) (k : K) :
    ((X.src k c).view.loc (c.tc : Thread nD τ) ↦[(X.src k c).view.set]{q} V c (X.src k c).view.ref : sProp 𝕄)
      ⊢ (X.Rd V).payload ((c.tc : Thread nD τ), X.semOf (.inl k)) 0 () := by
  refine BIBase.Entails.trans ?_ (Entails.of_eq (X.payload_eq V (c, .inl k)).symm)
  unfold pay; iintro -; iempintro

include hland in
theorem pay_landed (k : K) (fd : Buf Val ((X.dst k c).view.loc ((X.peer k c).tc : Thread nD τ))) :
    ((X.dst k c).view.loc ((X.peer k c).tc : Thread nD τ) ↦[(X.dst k c).view.set]{fullShare}
        (X.dst k c).view.write Val fd ((X.src k c).view.read Val (V c (X.src k c).view.ref)) Finset.univ : sProp 𝕄)
      ⊢ (X.Rd V).payload (((X.peer k c).tc : Thread nD τ), X.semOf (.inr (.inl k))) 0 () := by
  refine BIBase.Entails.trans ?_ (Entails.of_eq (X.payload_eq V (X.peer k c, .inr (.inl k))).symm)
  show _ ⊢ X.piece V fullShare k (X.peer k c)
  unfold piece
  rw [X.peer_peer k c, pointsTo_congr (hland k c fd)]

include hlland in
theorem pay_local (q : PosShare TreeShare) (i : I) (fd : Buf Val ((X.ldst i c).view.loc (c.tc : Thread nD τ))) :
    (iprop(((X.ldst i c).view.loc (c.tc : Thread nD τ) ↦[(X.ldst i c).view.set]{fullShare}
        (X.ldst i c).view.write Val fd ((X.lsrc i c).view.read Val (V c (X.lsrc i c).view.ref)) Finset.univ)
        ∗ ((X.lsrc i c).view.loc (c.tc : Thread nD τ) ↦[(X.lsrc i c).view.set]{q} V c (X.lsrc i c).view.ref)) : sProp 𝕄)
      ⊢ (X.Rd V).payload ((c.tc : Thread nD τ), X.semOf (.inr (.inr i))) 0 () := by
  refine BIBase.Entails.trans ?_ (Entails.of_eq (X.payload_eq V (c, .inr (.inr i))).symm)
  unfold pay lpiece
  rw [pointsTo_congr (hlland i c fd)]
  iintro ⟨H, -⟩; iexact H

include hland in
theorem step_start (k : K) (hD : .start k ∉ D) (hR : X.Ready D (.start k)) :
    iprop(X.records V N ∗ X.state V c D ∗ (X.state V c (.start k :: D) -∗ 𝕎 (K' ⟨⟩) Q)) ⊢ 𝕎 (.op (X.op c (.start k)) K') Q := by
  have hA := bigSep_update k (fun k => X.outgoing (Val := Val) c D k) (fun k' => X.outgoing c (.start k :: D) k')
    fun x hx => X.outgoing_congr (by simp [hx]) (by simp)
  have hB : (fun k => X.incoming V c D k) = fun k' => X.incoming V c (.start k :: D) k' := funext fun x => X.incoming_congr V (by simp)
  have hS := bigSep_update k (fun k => X.sources V c D k) (fun k' => X.sources V c (.start k :: D) k')
    fun x hx => X.sources_congr V (by simp [hx]) (by simp)
  have hL : (fun i => X.inside V c D i) = fun i => X.inside V c (.start k :: D) i := funext fun x => X.inside_congr V (by simp) (by simp)
  have a0 : X.outgoing (Val := Val) c D k = _ := if_pos hD
  have a1 : X.outgoing (Val := Val) c (.start k :: D) k = _ := (if_neg (by simp)).trans (if_pos (by simpa using hR.1))
  have s0 : X.sources V c D k = _ := if_pos ⟨hD, hR.2⟩
  have s1 : X.sources V c (.start k :: D) k = iprop(emp) := if_neg fun h => h.1 (List.mem_cons_self ..)
  rw [a0, a1] at hA; rw [s0, s1] at hS
  unfold state
  rw [← hB, ← hL]
  iintro ⟨#HR, ⟨HA, HB, HS, HL, ⟨%W, How⟩⟩, HK⟩
  ihave HA := hA $$ HA
  icases HA with ⟨⟨Ht1, Ht2, ⟨%fd, Hd⟩, Hat⟩, HA⟩
  ihave HS := hS $$ HS
  icases HS with ⟨⟨%q, Hs⟩, HS⟩
  unfold source
  iapply (Rounds.wp_send_pointsTo 𝒱 ℰ (X.Rd V) (c.tc : Thread nD τ) none (κ₁ := N (c, .inl k)) (κ₂ := N (X.peer k c, .inr (.inl k)))
    (r₁ := 0) (r₂ := 0) (d₁ := ()) (d₂ := ()) (q := q) (fs := V c (X.src k c).view.ref) (fd := fd)
    ((X.duties_zero V (c, .inl k)).symm ▸ Finset.mem_singleton_self _) ((X.duties_zero V (X.peer k c, .inr (.inl k))).symm ▸ Finset.mem_singleton_self _)
    () () (X.amt k) (show (X.dst k c).view.amount (.dma (X.rcv k)) = X.amt k from X.dst_credit k c) (X.amount_eq V (c, .inl k)) (X.amount_eq V (X.peer k c, .inr (.inl k)))
    (X.owed c (.start k :: D)) (X.owed_start c D k hD) (W := W)
    (X.pay_sent V c q k) (X.pay_landed V c hland k fd) (X.routes k c)) $$ [Hs Hd How Ht1 Ht2]
  · isplitr; · iapply (X.records_inv V N (c, .inl k)); iexact HR
    isplitr; · iapply (X.records_inv V N (X.peer k c, .inr (.inl k))); iexact HR
    isplitl [Hs]; · iexact Hs
    isplitl [Hd]; · iexact Hd
    isplitl [How]; · iexact How
    isplitl [Ht1]; · iexact Ht1
    isplitr; · iapply (X.records_reached V N (c, .inl k)); iexact HR
    isplitl [Ht2]; · iexact Ht2
    iapply (X.records_reached V N (X.peer k c, .inr (.inl k))); iexact HR
  iintro ⟨Hc, How⟩
  iapply HK
  isplitl [HA Hc Hat]
  · iapply HA; isplitl [Hc]
    · iexact Hc
    iexact Hat
  isplitl [HB]; · iexact HB
  isplitl [HS]; · iapply HS; iempintro
  isplitl [HL]; · iexact HL
  iexists W; iexact How

/-- A wait on a cell of this device: its credit spent, its payload gained, the cell at zero for good. -/
theorem wait_cell (x : Cell K I) (n a : ℕ) (hx : X.lv (X.gcell (c, x)) () ≤ n) (hD : X.Clear n D) (ha : X.amount x = a) (W : Waits sig Unit)
    {w : TpuEff nD τ sig Val Λ₀ .tc PUnit}
    (hw : ∀ K : PUnit → sProp 𝕄, wpE defs 𝒱 (c.tc : Thread nD τ) none Set.univ w K = waitSpec (c.tc : Thread nD τ) Set.univ (X.semOf x) a K) :
    iprop(X.records V N ∗ cred (tallyAt (X.gcell (c, x)) () a) ∗ atPos ℰ (X.gcell (c, x)) 0 ∅ 0 ∗ owes (c.tc : Thread nD τ) (X.owed c D) W
      ∗ ((semVal (X.gcell (c, x)) 0 ∗ X.pay V (c, x) ∗ ∃ W', owes (c.tc : Thread nD τ) (X.owed c D) W') -∗ 𝕎 (K' ⟨⟩) Q)) ⊢ 𝕎 (.op w K') Q := by
  iintro ⟨#HR, Hc, Hat, How, HK⟩
  iapply (Rounds.wp_wait_rest_token 𝒱 ℰ (X.Rd V) (c.tc : Thread nD τ) none (κ := N (c, x)) hw (Set.mem_univ _) () (O := X.owed c D) (W := W)
    (R := 0) (m := 0) (T := ∅) (by rw [Nat.zero_add, ← ha]; exact (X.expect_eq V (c, x)).symm)) $$ [Hc Hat How]
  · isplitr; · iapply (X.records_inv V N (c, x)); iexact HR
    isplitl [Hc]; · iexact Hc
    isplitl [How]; · iexact How
    isplitr
    · iapply (X.mayWait c D x n hx hD); iapply (X.records_levels V N); iexact HR
    iexact Hat
  iintro ⟨How, Hat, -, Hpay⟩
  imod (Rounds.cell_close ℰ (X.Rd V) (g := X.gcell (c, x)) (Set.mem_univ (N (c, x))) (fun h => h) (R := 0 + 1) (X.duties_later V _)) $$ [Hat] with Hz
  · isplitr; · iapply (X.records_inv V N (c, x)); iexact HR
    iexact Hat
  iapply HK
  isplitl [Hz]; · iexact Hz
  isplitl [Hpay]; · iapply (BIBase.Entails.of_eq (X.rest_eq V (c, x))); iexact Hpay
  iexists _; iexact How

theorem piece_halves (k : K) : X.piece V fullShare k c ⊢ iprop(X.piece V fullShare.left k c ∗ X.piece V fullShare.right k c) := by
  unfold piece; exact (pointsTo_share (PosShare.mem_left_op_right _)).1

include hfwd in
/-- A landed piece may serve as the source of the copy that forwards it. -/
theorem sources_landed (k : K) :
    iprop(X.piece V fullShare.right k c ∗ bigSep Finset.univ fun k' => X.sources V c D k') ⊢ bigSep Finset.univ fun k' => X.sources V c (.landed k :: D) k' := by
  by_cases h : ∃ x, X.dep x = some k
  · obtain ⟨x, hx⟩ := h
    have hS := bigSep_update x (fun k => X.sources V c D k) (fun k' => X.sources V c (.landed k :: D) k') fun y hy =>
      X.sources_congr V (by simp) fun k' hk' => by
        have : k' ≠ k := fun e => hy (X.dep_inj y x k (by rw [← e]; exact hk') hx)
        simp [this]
    refine (sep_mono_right hS).trans ?_
    iintro ⟨Hp, -, HS⟩
    iapply HS
    unfold sources
    by_cases h2 : Cmd.start x ∈ (Cmd.landed k :: D)
    · rw [if_neg fun h => h.1 h2]; iempintro
    · rw [if_pos ⟨h2, fun k' hk' => by rw [hx] at hk'; cases hk'; exact List.mem_cons_self ..⟩]
      iexists _; iapply (hfwd x k c _ hx); iexact Hp
  · rw [show (fun k' => X.sources V c D k') = fun k' => X.sources V c (.landed k :: D) k' from funext fun y =>
      X.sources_congr V (by simp) fun k' hk' => by
        have : k' ≠ k := fun e => h ⟨y, by rw [← e]; exact hk'⟩
        simp [this]]
    iintro ⟨-, H⟩; iexact H

include hfwd in
theorem step_landed (k : K) (hD : .landed k ∉ D) (hR : X.Ready D (.landed k)) :
    iprop(X.records V N ∗ X.state V c D ∗ (X.state V c (.landed k :: D) -∗ 𝕎 (K' ⟨⟩) Q)) ⊢ 𝕎 (.op (X.op c (.landed k)) K') Q := by
  have hA : (fun k => X.outgoing (Val := Val) c D k) = fun k' => X.outgoing c (.landed k :: D) k' := funext fun x => X.outgoing_congr (by simp) (by simp)
  have hB := bigSep_update k (fun k => X.incoming V c D k) (fun k' => X.incoming V c (.landed k :: D) k')
    fun x hx => X.incoming_congr V (by simp [hx])
  have hL : (fun i => X.inside V c D i) = fun i => X.inside V c (.landed k :: D) i := funext fun x => X.inside_congr V (by simp) (by simp)
  have a0 : X.incoming V c D k = _ := if_pos hD
  have a1 : X.incoming V c (.landed k :: D) k = _ := if_neg (by simp)
  rw [a0, a1] at hB
  unfold state
  rw [← hA, ← hL, X.owed_other c D (.landed k) (by simp)]
  iintro ⟨#HR, ⟨HA, HB, HS, HL, ⟨%W, How⟩⟩, HK⟩
  ihave HB := hB $$ HB
  icases HB with ⟨⟨Hc, Hat⟩, HB⟩
  iapply (X.wait_cell V N c defs 𝒱 D (.inr (.inl k)) (X.lvl k) (X.amt k) (by rw [lv_gcell]; exact le_rfl) hR rfl W
    (w := X.op c (.landed k)) (fun K => by rw [← X.dst_credit k c]; rfl)) $$ [HA HB HS HL How HK Hc Hat]
  isplitr; · iexact HR
  isplitl [Hc]; · iexact Hc
  isplitl [Hat]; · iexact Hat
  isplitl [How]; · iexact How
  iintro ⟨Hz, Hp, How⟩
  iapply HK
  unfold pay
  ihave Hp := (X.piece_halves V c k) $$ Hp
  icases Hp with ⟨Hp1, Hp2⟩
  isplitl [HA]; · iexact HA
  isplitl [HB Hz Hp1]
  · iapply HB; isplitl [Hz] <;> iassumption
  isplitl [HS Hp2]
  · iapply (X.sources_landed V c hfwd D k); isplitl [Hp2] <;> iassumption
  isplitl [HL]; · iexact HL
  iexact How

theorem step_left (k : K) (hD : .left k ∉ D) (hR : X.Ready D (.left k)) :
    iprop(X.records V N ∗ X.state V c D ∗ (X.state V c (.left k :: D) -∗ 𝕎 (K' ⟨⟩) Q)) ⊢ 𝕎 (.op (X.op c (.left k)) K') Q := by
  have hA := bigSep_update k (fun k => X.outgoing (Val := Val) c D k) (fun k' => X.outgoing c (.left k :: D) k')
    fun x hx => X.outgoing_congr (by simp) (by simp [hx])
  have hB : (fun k => X.incoming V c D k) = fun k' => X.incoming V c (.left k :: D) k' := funext fun x => X.incoming_congr V (by simp)
  have hS : (fun k => X.sources V c D k) = fun k' => X.sources V c (.left k :: D) k' := funext fun x => X.sources_congr V (by simp) (by simp)
  have hL : (fun i => X.inside V c D i) = fun i => X.inside V c (.left k :: D) i := funext fun x => X.inside_congr V (by simp) (by simp)
  have a0 : X.outgoing (Val := Val) c D k = _ := (if_neg (not_not.mpr hR.1)).trans (if_pos hD)
  have a1 : X.outgoing (Val := Val) c (.left k :: D) k = _ := (if_neg (not_not.mpr (List.mem_cons_of_mem _ hR.1))).trans (if_neg (by simp))
  rw [a0, a1] at hA
  unfold state
  rw [← hB, ← hS, ← hL, X.owed_other c D (.left k) (by simp)]
  iintro ⟨#HR, ⟨HA, HB, HS, HL, ⟨%W, How⟩⟩, HK⟩
  ihave HA := hA $$ HA
  icases HA with ⟨⟨Hc, Hat⟩, HA⟩
  iapply (X.wait_cell V N c defs 𝒱 D (.inl k) 0 (X.amt k) (by rw [lv_gcell]; exact le_rfl) hR.2 rfl W
    (w := X.op c (.left k)) (fun K => by rw [← X.src_credit k c]; rfl)) $$ [HA HB HS HL How HK Hc Hat]
  isplitr; · iexact HR
  isplitl [Hc]; · iexact Hc
  isplitl [Hat]; · iexact Hat
  isplitl [How]; · iexact How
  iintro ⟨Hz, -, How⟩
  iapply HK
  isplitl [HA Hz]; · iapply HA; iexact Hz
  isplitl [HB]; · iexact HB
  isplitl [HS]; · iexact HS
  isplitl [HL]; · iexact HL
  iexact How

include hlland in
theorem step_lstart (i : I) (hD : .lstart i ∉ D) (hR : X.Ready D (.lstart i)) :
    iprop(X.records V N ∗ X.state V c D ∗ (X.state V c (.lstart i :: D) -∗ 𝕎 (K' ⟨⟩) Q)) ⊢ 𝕎 (.op (X.op c (.lstart i)) K') Q := by
  have hA : (fun k => X.outgoing (Val := Val) c D k) = fun k' => X.outgoing c (.lstart i :: D) k' := funext fun x => X.outgoing_congr (by simp) (by simp)
  have hB : (fun k => X.incoming V c D k) = fun k' => X.incoming V c (.lstart i :: D) k' := funext fun x => X.incoming_congr V (by simp)
  have hS : (fun k => X.sources V c D k) = fun k' => X.sources V c (.lstart i :: D) k' := funext fun x => X.sources_congr V (by simp) (by simp)
  have hL := bigSep_update i (fun i => X.inside V c D i) (fun j => X.inside V c (.lstart i :: D) j)
    fun x hx => X.inside_congr V (by simp [hx]) (by simp)
  have a0 : X.inside V c D i = _ := if_pos hD
  have hR' : Cmd.lwait i ∉ D := hR
  have a1 : X.inside V c (.lstart i :: D) i = _ := (if_neg (by simp)).trans (if_pos (by simpa using hR'))
  rw [a0, a1] at hL
  unfold state
  rw [← hA, ← hB, ← hS, X.owed_other c D (.lstart i) (by simp)]
  iintro ⟨#HR, ⟨HA, HB, HS, HL, How⟩, HK⟩
  ihave HL := hL $$ HL
  icases HL with ⟨⟨Ht, ⟨%fd, Hd⟩, ⟨%q, Hs⟩, Hat⟩, HL⟩
  unfold lsource
  iapply (Rounds.wp_copy_pointsTo 𝒱 ℰ (X.Rd V) (c.tc : Thread nD τ) none (κ := N (c, .inr (.inr i))) (r := 0) (d := ()) (q := q)
    (fs := V c (X.lsrc i c).view.ref) (fd := fd) ((X.duties_zero V (c, .inr (.inr i))).symm ▸ Finset.mem_singleton_self _)
    () (X.lamt i) (show (X.ldst i c).view.amount (.dma (X.lsem i)) = X.lamt i from X.ldst_credit i c) (X.amount_eq V (c, .inr (.inr i))) (X.pay_local V c hlland q i fd)) $$ [Hs Hd Ht]
  · isplitr; · iapply (X.records_inv V N (c, .inr (.inr i))); iexact HR
    isplitl [Hs]; · iexact Hs
    isplitl [Hd]; · iexact Hd
    isplitl [Ht]; · iexact Ht
    iapply (X.records_reached V N (c, .inr (.inr i))); iexact HR
  iintro Hc
  iapply HK
  isplitl [HA]; · iexact HA
  isplitl [HB]; · iexact HB
  isplitl [HS]; · iexact HS
  isplitl [HL Hc Hat]
  · iapply HL; isplitl [Hc]
    · iexact Hc
    iexact Hat
  iexact How

theorem step_lwait (i : I) (hD : .lwait i ∉ D) (hR : X.Ready D (.lwait i)) :
    iprop(X.records V N ∗ X.state V c D ∗ (X.state V c (.lwait i :: D) -∗ 𝕎 (K' ⟨⟩) Q)) ⊢ 𝕎 (.op (X.op c (.lwait i)) K') Q := by
  have hA : (fun k => X.outgoing (Val := Val) c D k) = fun k' => X.outgoing c (.lwait i :: D) k' := funext fun x => X.outgoing_congr (by simp) (by simp)
  have hB : (fun k => X.incoming V c D k) = fun k' => X.incoming V c (.lwait i :: D) k' := funext fun x => X.incoming_congr V (by simp)
  have hS : (fun k => X.sources V c D k) = fun k' => X.sources V c (.lwait i :: D) k' := funext fun x => X.sources_congr V (by simp) (by simp)
  have hL := bigSep_update i (fun i => X.inside V c D i) (fun j => X.inside V c (.lwait i :: D) j)
    fun x hx => X.inside_congr V (by simp) (by simp [hx])
  have a0 : X.inside V c D i = _ := (if_neg (not_not.mpr hR.1)).trans (if_pos hD)
  have a1 : X.inside V c (.lwait i :: D) i = _ := (if_neg (not_not.mpr (List.mem_cons_of_mem _ hR.1))).trans (if_neg (by simp))
  rw [a0, a1] at hL
  unfold state
  rw [← hA, ← hB, ← hS, X.owed_other c D (.lwait i) (by simp)]
  iintro ⟨#HR, ⟨HA, HB, HS, HL, ⟨%W, How⟩⟩, HK⟩
  ihave HL := hL $$ HL
  icases HL with ⟨⟨Hc, Hat⟩, HL⟩
  iapply (X.wait_cell V N c defs 𝒱 D (.inr (.inr i)) 0 (X.lamt i) (by rw [lv_gcell]; exact le_rfl) hR.2 rfl W
    (w := X.op c (.lwait i)) (fun K => by rw [← X.ldst_credit i c]; rfl)) $$ [HA HB HS HL How HK Hc Hat]
  isplitr; · iexact HR
  isplitl [Hc]; · iexact Hc
  isplitl [Hat]; · iexact Hat
  isplitl [How]; · iexact How
  iintro ⟨Hz, Hp, How⟩
  iapply HK
  unfold pay
  isplitl [HA]; · iexact HA
  isplitl [HB]; · iexact HB
  isplitl [HS]; · iexact HS
  isplitl [HL Hz Hp]
  · iapply HL; isplitl [Hz] <;> iassumption
  iexact How

include hland hlland hfwd in
theorem step (a : Cmd K I) (hD : a ∉ D) (hR : X.Ready D a) :
    iprop(X.records V N ∗ X.state V c D ∗ (X.state V c (a :: D) -∗ 𝕎 (K' ⟨⟩) Q)) ⊢ 𝕎 (.op (X.op c a) K') Q := by
  cases a with
  | start k => exact X.step_start V N c defs 𝒱 hland D k hD hR
  | landed k => exact X.step_landed V N c defs 𝒱 hfwd D k hD hR
  | left k => exact X.step_left V N c defs 𝒱 D k hD hR
  | lstart i => exact X.step_lstart V N c defs 𝒱 hlland D i hD hR
  | lwait i => exact X.step_lwait V N c defs 𝒱 D i hD hR

end Steps

/-- What a device holds at the end: its cells at zero, and the pieces that were filled. -/
def final (c : Dev nD) : sProp 𝕄 :=
  iprop((bigSep Finset.univ fun k => semVal (X.sendCell k c) 0)
    ∗ (bigSep Finset.univ fun k => iprop(semVal (X.recvCell k c) 0 ∗ X.piece V fullShare.left k c))
    ∗ (bigSep Finset.univ fun i => iprop(semVal (X.locCell i c) 0 ∗ X.lpiece V i c))
    ∗ ∃ W, owes (c.tc : Thread nD τ) 0 W)

theorem state_final (c : Dev nD) (D : List (Cmd K I)) (hD : Complete D) : X.state V c D ⊢ X.final V c := by
  have hA : (fun k => X.outgoing (Val := Val) c D k) = fun k => semVal (X.sendCell k c) 0 := funext fun k =>
    (if_neg (not_not.mpr (hD.1 k).1)).trans (if_neg (not_not.mpr (hD.1 k).2.2))
  have hB : (fun k => X.incoming V c D k) = fun k => iprop(semVal (X.recvCell k c) 0 ∗ X.piece V fullShare.left k c) := funext fun k =>
    if_neg (not_not.mpr (hD.1 k).2.1)
  have hL : (fun i => X.inside V c D i) = fun i => iprop(semVal (X.locCell i c) 0 ∗ X.lpiece V i c) := funext fun i =>
    (if_neg (not_not.mpr (hD.2 i).1)).trans (if_neg (not_not.mpr (hD.2 i).2))
  have hO : X.owed c D = 0 := Finset.sum_eq_zero fun k _ => if_pos (hD.1 k).1
  unfold state final
  rw [hA, hB, hL, hO]
  iintro ⟨HA, HB, -, HL, Ho⟩
  isplitl [HA]; · iexact HA
  isplitl [HB]; · iexact HB
  isplitl [HL] <;> iassumption

section Run

variable (N : Dev nD × Cell K I → ℕ) (c : Dev nD) (defs : Defs nD τ sig Val Λ₀) (𝒱 : Variants)
variable (hland : ∀ k c (fd : Buf Val ((X.dst k c).view.loc ((X.peer k c).tc : Thread nD τ))), ∀ i ∈ (X.dst k c).view.set,
  (X.dst k c).view.write Val fd ((X.src k c).view.read Val (V c (X.src k c).view.ref)) Finset.univ i = V (X.peer k c) (X.dst k c).view.ref i)
variable (hlland : ∀ i c (fd : Buf Val ((X.ldst i c).view.loc (c.tc : Thread nD τ))), ∀ j ∈ (X.ldst i c).view.set,
  (X.ldst i c).view.write Val fd ((X.lsrc i c).view.read Val (V c (X.lsrc i c).view.ref)) Finset.univ j = V c (X.ldst i c).view.ref j)
variable (hfwd : ∀ k k' c q, X.dep k = some k' → X.piece V q k' c ⊢ X.source V q k c)
variable {α : Type} {Q : α → sProp (MT nD τ sig Unit Val ℕ (UR sig nD τ × UR sig nD τ) ℕ)}
variable {rest : Prog (TpuEff nD τ sig Val Λ₀ .tc) α}

local notation "𝕎" => wp frame (wpE defs 𝒱 (c.tc : Thread nD τ) none) Set.univ

include hland hlland hfwd in
/-- A list of commands in order runs from the state it finds to the end. -/
theorem run_wp (l : List (Cmd K I)) : ∀ D : List (Cmd K I), X.Ok D l →
    iprop(X.records V N ∗ X.state V c D ∗ (X.final V c -∗ 𝕎 rest Q)) ⊢ 𝕎 (X.run c rest l) Q := by
  induction l with
  | nil =>
    intro D h
    iintro ⟨-, Hs, HK⟩
    iapply HK
    iapply (X.state_final V c D h); iexact Hs
  | cons a l ih =>
    intro D h
    obtain ⟨hD, hR, hl⟩ := h
    refine BIBase.Entails.trans ?_ (X.step V N c defs 𝒱 hland hlland hfwd D (K' := fun _ => X.run c rest l) a hD hR)
    iintro ⟨#HR, Hs, HK⟩
    isplitr; · iexact HR
    isplitl [Hs]; · iexact Hs
    iintro Hs
    iapply (ih (a :: D) hl)
    isplitr; · iexact HR
    isplitl [Hs] <;> iassumption

end Run

end Copies

end Cert.Exchange

end
-- ==== Proof.Opening.lean ====
/- # Launching an exchange

   A kernel that is one exchange (`Copies`), as the first call of @main. Every device splits its unscoped buffers into
   the pieces its peers' copies fill, the pieces its local copies fill, the sources of the copies that forward nothing,
   and what it keeps (`dealt`). The launch hands each piece a peer fills to that peer (`glob`), so no copy has to wait
   for the receiver.

   `run` is the result: if @main's rest runs from the filled pieces, the program runs. -/
module

public import proofs.«01_k».proof.Proof.Exchange

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Λ₀ : Labels} {K I : Type} [Fintype K] [DecidableEq K] [Fintype I] [DecidableEq I]

local notation "𝕄" => MT nD τ sig Unit Val ℕ (UR sig nD τ × UR sig nD τ) ℕ
local notation "ℰ" => Copies.ER nD τ sig Val

namespace Copies

variable (X : Copies nD τ sig K I)
variable (V : (c : Dev nD) → (b : Ref sig .tc) → Buf Val ((c.tc : Thread nD τ).loc b))

/-! ## Dealing -/

theorem bigSep_cells (Φ : Cell K I → sProp 𝕄) : bigSep Finset.univ Φ
    = iprop((bigSep Finset.univ fun k => Φ (.inl k)) ∗ (bigSep Finset.univ fun k => Φ (.inr (.inl k))) ∗ bigSep Finset.univ fun i => Φ (.inr (.inr i))) := by
  rw [BI.bigSep_univ_sum, BI.bigSep_univ_sum]; rfl

def peerEquiv (k : K) : Dev nD ≃ Dev nD := ⟨X.peer k, X.peer k, X.peer_peer k, X.peer_peer k⟩

/-- A family over devices and copies, each entry passed to the copy's other end. -/
theorem around (Φ : K → Dev nD → sProp 𝕄) : (bigSep Finset.univ fun c => bigSep Finset.univ fun k => Φ k c)
    = bigSep Finset.univ fun c => bigSep Finset.univ fun k => Φ k (X.peer k c) := by
  rw [Pipeline.bigSep_univ_comm, Pipeline.bigSep_univ_comm (fun c k => Φ k (X.peer k c))]
  exact bigSep_congr fun k _ => bigSep_univ_equiv (X.peerEquiv k) (Φ k)

theorem bigSep_with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable (keep : Dev nD → sProp (MT nD τ sig Unit Val ℕ (UR sig nD τ × UR sig nD τ) ℕ))

/-- The piece of device `c` that copy `k` of its peer fills, at any contents. -/
def vacant (k : K) (c : Dev nD) : sProp 𝕄 :=
  iprop(∃ f, (X.dst k (X.peer k c)).view.loc (c.tc : Thread nD τ) ↦[(X.dst k (X.peer k c)).view.set]{fullShare} f)

def lvacant (i : I) (c : Dev nD) : sProp 𝕄 :=
  iprop(∃ f, (X.ldst i c).view.loc (c.tc : Thread nD τ) ↦[(X.ldst i c).view.set]{fullShare} f)

/-- A device's unscoped buffers at launch, split. -/
def dealt (c : Dev nD) : sProp 𝕄 :=
  iprop((bigSep Finset.univ fun k => X.vacant (Val := Val) k c) ∗ (bigSep Finset.univ fun i => X.lvacant (Val := Val) i c)
    ∗ (bigSep Finset.univ fun k => X.sources V c [] k) ∗ (bigSep Finset.univ fun i => iprop(∃ q, X.lsource V q i c)) ∗ keep c)

def cellSet : Finset (GSem nD τ sig) := Finset.univ.map ⟨X.gcell, X.gcell_inj⟩
def tokSet : Finset (GSem nD τ sig × ℕ × Unit) :=
  Finset.univ.map ⟨fun x : Dev nD × Cell K I => (X.gcell x, 0, ()), fun _ _ h => X.gcell_inj (congrArg Prod.fst h)⟩

/-- A device's share of the exchange's ghost state. -/
def G (c : Dev nD) : sProp 𝕄 :=
  iprop((bigSep Finset.univ fun x => roundState ℰ (X.Rd V) (X.gcell (c, x)) 0) ∗ (bigSep Finset.univ fun x => reached ℰ (X.gcell (c, x)) 0)
    ∗ (bigSep Finset.univ fun x => atPos ℰ (X.gcell (c, x)) 0 ∅ 0) ∗ bigSep Finset.univ fun x => dutyTok ℰ (X.gcell (c, x)) 0 ())

theorem funded : BI.own (ℰ (initOf X.cellSet X.tokSet)) ⊢ (|==> bigSep Finset.univ (X.G V) : sProp 𝕄) := by
  have hX (Φ : GSem nD τ sig → sProp 𝕄) : bigSep X.cellSet Φ = bigSep Finset.univ fun c : Dev nD => bigSep Finset.univ fun x => Φ (X.gcell (c, x)) := by
    unfold cellSet; rw [bigSep_map, bigSep_univ_prod]; rfl
  have hT : bigSep X.tokSet (fun x => (dutyTok ℰ x.1 x.2.1 x.2.2 : sProp 𝕄))
      = bigSep Finset.univ fun c : Dev nD => bigSep Finset.univ fun x => dutyTok ℰ (X.gcell (c, x)) 0 () := by
    unfold tokSet; rw [bigSep_map, bigSep_univ_prod]; rfl
  iintro HX
  imod (Rounds.fund ℰ (X.Rd V) X.cellSet X.tokSet) $$ HX with ⟨Hst, Hr, Hat, Htok⟩
  imodintro
  ihave Hst := (BIBase.Entails.of_eq (hX fun g => roundState ℰ (X.Rd V) g 0)) $$ Hst
  ihave Hat := (BIBase.Entails.of_eq (hX fun g => atPos ℰ g 0 ∅ 0)) $$ Hat
  ihave Hr := (BIBase.Entails.of_eq (hX fun g => reached ℰ g 0)) $$ Hr
  ihave Htok := (BIBase.Entails.of_eq hT) $$ Htok
  unfold G; simp only [bigSep_sep']
  isplitl [Hst]; · iexact Hst
  isplitl [Hr]; · iexact Hr
  isplitl [Hat] <;> iassumption

/-- What every device knows of all cells, but for the levels. -/
def known (N : Dev nD × Cell K I → ℕ) : sProp 𝕄 :=
  iprop((bigSep Finset.univ fun x => cellInv ℰ (X.Rd V) (N x) (X.gcell x)) ∗ bigSep Finset.univ fun x => reached ℰ (X.gcell x) 0)

instance known_persistent (N : Dev nD × Cell K I → ℕ) : BI.Persistent (X.known V N) := by unfold known; infer_instance

/-- What a device holds of its own before its first command, but for the credits of its receive cells. -/
def mine (c : Dev nD) : sProp 𝕄 :=
  iprop(((bigSep Finset.univ fun k => dutyTok ℰ (X.sendCell k c) 0 ()) ∗ (bigSep Finset.univ fun k => dutyTok ℰ (X.recvCell k (X.peer k c)) 0 ())
      ∗ (bigSep Finset.univ fun k => X.vacant (Val := Val) k (X.peer k c)) ∗ (bigSep Finset.univ fun k => atPos ℰ (X.sendCell k c) 0 ∅ 0))
    ∗ (bigSep Finset.univ fun k => atPos ℰ (X.recvCell k c) 0 ∅ 0)
    ∗ (bigSep Finset.univ fun k => X.sources V c [] k)
    ∗ ((bigSep Finset.univ fun i => dutyTok ℰ (X.locCell i c) 0 ()) ∗ (bigSep Finset.univ fun i => X.lvacant (Val := Val) i c)
      ∗ (bigSep Finset.univ fun i => iprop(∃ q, X.lsource V q i c)) ∗ (bigSep Finset.univ fun i => atPos ℰ (X.locCell i c) 0 ∅ 0))
    ∗ keep c)

def start (c : Dev nD) : sProp 𝕄 := iprop(∃ N, X.known V N ∗ X.mine V keep c)

/-- The same before the pieces and the tokens of the receive cells go to the peers. -/
def raw (c : Dev nD) : sProp 𝕄 :=
  iprop(((bigSep Finset.univ fun k => dutyTok ℰ (X.sendCell k c) 0 ()) ∗ (bigSep Finset.univ fun k => dutyTok ℰ (X.recvCell k c) 0 ())
      ∗ (bigSep Finset.univ fun k => X.vacant (Val := Val) k c) ∗ (bigSep Finset.univ fun k => atPos ℰ (X.sendCell k c) 0 ∅ 0))
    ∗ (bigSep Finset.univ fun k => atPos ℰ (X.recvCell k c) 0 ∅ 0)
    ∗ (bigSep Finset.univ fun k => X.sources V c [] k)
    ∗ ((bigSep Finset.univ fun i => dutyTok ℰ (X.locCell i c) 0 ()) ∗ (bigSep Finset.univ fun i => X.lvacant (Val := Val) i c)
      ∗ (bigSep Finset.univ fun i => iprop(∃ q, X.lsource V q i c)) ∗ (bigSep Finset.univ fun i => atPos ℰ (X.locCell i c) 0 ∅ 0))
    ∗ keep c)

theorem raw_mine : bigSep Finset.univ (X.raw V keep) = bigSep Finset.univ (X.mine V keep) := by
  unfold raw mine
  simp only [bigSep_sep']
  rw [X.around (fun k c => (dutyTok ℰ (X.recvCell k c) 0 () : sProp 𝕄)), X.around (fun k c => X.vacant (Val := Val) k c)]

/-- The global step: the invariants allocated, and every vacant piece handed to the peer that fills it. -/
theorem glob :
    (bigSep Finset.univ fun c => iprop((bigSep Finset.univ fun x => semVal (X.gcell (c, x)) 0) ∗ X.dealt V keep c ∗ X.G V c) : sProp 𝕄)
      ⊢ |={Set.univ}=> bigSep Finset.univ (X.start V keep) := by
  have hinv : (iprop((bigSep Finset.univ fun c => bigSep Finset.univ fun x => semVal (X.gcell (c, x)) 0)
        ∗ bigSep Finset.univ fun c => bigSep Finset.univ fun x => roundState ℰ (X.Rd V) (X.gcell (c, x)) 0) : sProp 𝕄)
      ⊢ |={Set.univ}=> iprop(∃ N : Dev nD × Cell K I → ℕ, bigSep Finset.univ fun x => cellInv ℰ (X.Rd V) (N x) (X.gcell x)) := by
    rw [← bigSep_univ_prod (fun x : Dev nD × Cell K I => (semVal (X.gcell x) 0 : sProp 𝕄)),
      ← bigSep_univ_prod (fun x : Dev nD × Cell K I => (roundState ℰ (X.Rd V) (X.gcell x) 0 : sProp 𝕄)), ← bigSep_sep']
    exact ((bigSep_mono fun x _ => (Rounds.body_intro ℰ (X.Rd V) (X.gcell x)).trans inv_alloc).trans (bigSep_fupd _ _)).trans
      (BI.fupd_mono (BI.bigSep_exists_pi Finset.univ fun (x : Dev nD × Cell K I) (κ : ℕ) => (cellInv ℰ (X.Rd V) κ (X.gcell x) : sProp 𝕄)))
  have hsort : (bigSep Finset.univ fun c => iprop((bigSep Finset.univ fun x => semVal (X.gcell (c, x)) 0) ∗ X.dealt V keep c ∗ X.G V c) : sProp 𝕄)
      ⊢ iprop((bigSep Finset.univ fun c => bigSep Finset.univ fun x => semVal (X.gcell (c, x)) 0)
        ∗ (bigSep Finset.univ fun c => bigSep Finset.univ fun x => roundState ℰ (X.Rd V) (X.gcell (c, x)) 0)
        ∗ (bigSep Finset.univ fun x : Dev nD × Cell K I => reached ℰ (X.gcell x) 0) ∗ bigSep Finset.univ (X.raw V keep)) := by
    rw [bigSep_univ_prod (fun x : Dev nD × Cell K I => (reached ℰ (X.gcell x) 0 : sProp 𝕄)), ← bigSep_sep', ← bigSep_sep', ← bigSep_sep']
    refine bigSep_mono fun c _ => (show (_ : sProp 𝕄) ⊢ _ from ?_)
    unfold dealt G raw
    rw [bigSep_cells (fun x => (atPos ℰ (X.gcell (c, x)) 0 ∅ 0 : sProp 𝕄)), bigSep_cells (fun x => (dutyTok ℰ (X.gcell (c, x)) 0 () : sProp 𝕄))]
    iintro ⟨Hv, ⟨Hd, Hld, Hs, Hls, Hk⟩, Hst, Hr, ⟨Ha1, Ha2, Ha3⟩, Ht1, Ht2, Ht3⟩
    isplitl [Hv]; · iexact Hv
    isplitl [Hst]; · iexact Hst
    isplitl [Hr]; · iexact Hr
    isplitl [Ht1 Ht2 Hd Ha1]
    · isplitl [Ht1]; · iexact Ht1
      isplitl [Ht2]; · iexact Ht2
      isplitl [Hd]; · iexact Hd
      iexact Ha1
    isplitl [Ha2]; · iexact Ha2
    isplitl [Hs]; · iexact Hs
    isplitl [Ht3 Hld Hls Ha3]
    · isplitl [Ht3]; · iexact Ht3
      isplitl [Hld]; · iexact Hld
      isplitl [Hls]; · iexact Hls
      iexact Ha3
    iexact Hk
  iintro H
  ihave H := hsort $$ H
  icases H with ⟨Hv, Hst, #Hr, Hraw⟩
  imod hinv $$ [Hv Hst] with ⟨%N, #HI⟩
  · isplitl [Hv] <;> iassumption
  imodintro
  iapply (bigSep_with_persistent (R := X.known V N) (Φ := X.mine V keep) fun c _ => by
    unfold start
    iintro ⟨Hk, Hm⟩
    iexists N
    isplitl [Hk] <;> iassumption)
  isplitr
  · unfold known; isplitl; · iexact HI
    iexact Hr
  iapply (BIBase.Entails.of_eq (X.raw_mine V keep)); iexact Hraw

/-! ## The credits of the receive cells -/

theorem owed_at (d c : Dev nD) (k : K) : X.owed d [] (X.recvCell k c) () = if d = X.peer k c then X.amt k else 0 := by
  unfold owed
  rw [Finset.sum_apply, Finsupp.finset_sum_apply, Finset.sum_eq_single k]
  · rw [if_neg (by simp), tallyAt_apply]
    by_cases h : d = X.peer k c
    · subst h; rw [X.peer_peer, if_pos ⟨rfl, rfl⟩, if_pos rfl]
    · rw [if_neg h, if_neg fun e => h ?_]
      have := congrArg Prod.fst (X.gcell_inj e.1)
      rw [show c = X.peer k d from this, X.peer_peer]
  · intro k' _ hk
    rw [if_neg (by simp), tallyAt_apply, if_neg fun e => hk ?_]
    have := congrArg Prod.snd (X.gcell_inj e.1)
    exact (Sum.inl.inj (Sum.inr.inj this)).symm
  · exact fun h => absurd (Finset.mem_univ k) h

theorem creds (c : Dev nD) : (launchCred (fun d => X.owed d []) c : sProp 𝕄) ⊢ bigSep Finset.univ fun k => cred (tallyAt (X.recvCell k c) () (X.amt k)) := by
  have h1 (k : K) : tallyOn (X.recvCell k c) (launchCredit (owing fun d => X.owed d []) 0 (X.recvCell k c))
      = (tallyAt (X.recvCell k c) () (X.amt k) : CellTallies nD τ sig Unit) := by
    unfold tallyAt; refine congrArg _ (Finsupp.ext fun u => ?_); cases u
    rw [launchCredit_owing, Finsupp.single_eq_same, Finset.sum_congr rfl fun d _ => X.owed_at d c k, Finset.sum_ite_eq' Finset.univ (X.peer k c) fun _ => X.amt k,
      if_pos (Finset.mem_univ _)]
  let e : K ↪ SemLoc sig := ⟨fun k => X.semOf (.inr (.inl k)), fun a b h => Sum.inl.inj (Sum.inr.inj (X.semOf_inj h))⟩
  unfold launchCred
  refine BIBase.Entails.trans (BI.bigSep_subset (Finset.subset_univ (Finset.univ.map e))) ?_
  rw [bigSep_map]
  refine BIBase.Entails.of_eq (bigSep_congr fun k _ => ?_)
  rw [← h1]; rfl

/-- What a device holds before its first command, but for what it owes. -/
def opened (c : Dev nD) : sProp 𝕄 :=
  iprop((bigSep Finset.univ fun k => X.outgoing (Val := Val) c [] k) ∗ (bigSep Finset.univ fun k => X.incoming V c [] k)
    ∗ (bigSep Finset.univ fun k => X.sources V c [] k) ∗ bigSep Finset.univ fun i => X.inside V c [] i)

theorem mine_opened (c : Dev nD) :
    iprop(X.mine V keep c ∗ launchCred (fun d => X.owed d []) c) ⊢ iprop(X.opened V c ∗ keep c) := by
  have hA : (fun k => X.outgoing (Val := Val) c [] k) = fun k => iprop(dutyTok ℰ (X.sendCell k c) 0 () ∗ dutyTok ℰ (X.recvCell k (X.peer k c)) 0 ()
      ∗ X.vacant k (X.peer k c) ∗ atPos ℰ (X.sendCell k c) 0 ∅ 0) := funext fun k => by
    unfold outgoing vacant; rw [if_pos (by simp), X.peer_peer]
  have hB : (fun k => X.incoming V c [] k) = fun k => iprop(cred (tallyAt (X.recvCell k c) () (X.amt k)) ∗ atPos ℰ (X.recvCell k c) 0 ∅ 0) := funext fun k =>
    if_pos (by simp)
  have hL : (fun i => X.inside V c [] i) = fun i => iprop(dutyTok ℰ (X.locCell i c) 0 () ∗ X.lvacant i c ∗ (∃ q, X.lsource V q i c) ∗ atPos ℰ (X.locCell i c) 0 ∅ 0) :=
    funext fun i => if_pos (by simp)
  unfold opened mine
  rw [hA, hB, hL]
  simp only [bigSep_sep']
  iintro ⟨⟨HA, HB, HS, HL, Hk⟩, Hc⟩
  ihave Hc := (X.creds c) $$ Hc
  isplitl [HA HB HS HL Hc]
  · isplitl [HA]; · iexact HA
    isplitl [HB Hc]
    · isplitl [Hc] <;> iassumption
    isplitl [HS] <;> iassumption
  iexact Hk

/-! ## The run -/

section Launch

variable [∀ e, Nonempty (Val e)] {P : Type} [Fintype P] [DecidableEq P]
variable (cfgs : P → Cfg sig Λ₀) (hinj : Function.Injective (cellOf (nD := nD) (τ := τ) cfgs)) (p : P)
variable (hw : WinFacts₀ (cfgs p).spec) (ho : OwnSemFacts (cfgs p).spec X.semOf) (hW : IsEmpty (Fin (cfgs p).W)) (hN : (cfgs p).N = 1)
variable (defs₀ : Defs nD τ sig Val Λ₀) (𝒱₀ : Variants)
variable (hland : ∀ k c (fd : Buf Val ((X.dst k c).view.loc ((X.peer k c).tc : Thread nD τ))), ∀ i ∈ (X.dst k c).view.set,
  (X.dst k c).view.write Val fd ((X.src k c).view.read Val (V c (X.src k c).view.ref)) Finset.univ i = V (X.peer k c) (X.dst k c).view.ref i)
variable (hlland : ∀ i c (fd : Buf Val ((X.ldst i c).view.loc (c.tc : Thread nD τ))), ∀ j ∈ (X.ldst i c).view.set,
  (X.ldst i c).view.write Val fd ((X.lsrc i c).view.read Val (V c (X.lsrc i c).view.ref)) Finset.univ j = V c (X.ldst i c).view.ref j)
variable (hfwd : ∀ k k' c q, X.dep k = some k' → X.piece V q k' c ⊢ X.source V q k c)
variable (cmds : List (Cmd K I)) (hok : X.Ok [] cmds)
variable (hprog : ∀ (c : Dev nD) (t : Fin (cfgs p).N) (R : sProp (MT nD τ sig Unit Val ℕ (UR sig nD τ × UR sig nD τ) ℕ)),
  wp frame (wpE defs₀ 𝒱₀ (c.tc : Thread nD τ) none) Set.univ (X.run c (.ret (⟨⟩ : PUnit)) cmds) (fun _ => R)
    ⊢ wp frame (wpE defs₀ 𝒱₀ (c.tc : Thread nD τ) none) Set.univ (defs₀ .tc (cfgs p).body ((cfgs p).bodyArgs t ((cfgs p).slots t))) (fun _ => R))

local notation "𝔻" => Pipeline.defs (Deal.table (Val := Val) cfgs) defs₀
local notation "𝕍" => Variants.lift 𝒱₀

/-- The rounds of the calls' windows. -/
abbrev EL (nD : Nat) (τ : Topo) (sig : RefSig) (Val : EltTy → Type) :
    Emb (UR sig nD τ) (MT nD τ sig Unit Val ℕ (UR sig nD τ × UR sig nD τ) ℕ) := embL

/-- The pieces of a device once all copies have landed. -/
def filled (c : Dev nD) : sProp 𝕄 :=
  iprop((bigSep Finset.univ fun k => X.piece V fullShare.left k c) ∗ bigSep Finset.univ fun i => X.lpiece V i c)

/-- The rest of what a device holds between the calls of @main. -/
def idle (g : Dev nD → PrngReg) (c : Dev nD) : sProp 𝕄 :=
  iprop((scopedSems0 (c.tc : Thread nD τ) ∗ scopedBufs (c.tc : Thread nD τ) ∗ ∃ W, owes (c.tc : Thread nD τ) (0 : CellTallies nD τ sig Unit) W)
    ∗ opIdle (c.tc : Thread nD τ) ∗ prngReg c (g c)
    ∗ (bigSep Finset.univ fun p' => cellsGhost cfgs (EL nD τ sig Val) p' c) ∗ (bigSep Finset.univ fun p' => toksInit cfgs (EL nD τ sig Val) p' c))

theorem final_filled (c : Dev nD) : X.final V c ⊢ iprop(X.filled V c ∗ ownSems0 X.semOf c ∗ ∃ W, owes (c.tc : Thread nD τ) 0 W) := by
  unfold final filled ownSems0
  rw [bigSep_cells]
  simp only [bigSep_sep']
  iintro ⟨H1, ⟨H2, Hp⟩, ⟨H3, Hl⟩, Ho⟩
  isplitl [Hp Hl]
  · isplitl [Hp] <;> iassumption
  isplitr [Ho]
  · isplitl [H1]; · iexact H1
    isplitl [H2]; · iexact H2
    iexact H3
  iexact Ho

include hinj hw ho hW hN hland hlland hfwd hok hprog in
theorem call_wp (g : Dev nD → PrngReg) (c : Dev nD) {α : Type}
    {k : PUnit → Prog (TpuEff nD τ sig Val (Pipeline.Sig Λ₀ P fun p => (Deal.table (Val := Val) cfgs p).Adm) .tc) α} {Q : α → sProp 𝕄} :
    iprop((Deal.before cfgs hinj p ho (EL nD τ sig Val) (fun d => X.owed d []) L X.lv g c ∗ X.start V keep c)
        ∗ ((X.filled V c ∗ keep c ∗ idle cfgs g c) -∗ wp frame (wpE 𝔻 𝕍 (c.tc : Thread nD τ) none) Set.univ (k ⟨⟩) Q))
      ⊢ wp frame (wpE 𝔻 𝕍 (c.tc : Thread nD τ) none) Set.univ (.op (.customCall (entry p) ()) k) Q := by
  unfold Deal.before start
  iintro ⟨⟨⟨⟨Hsb, Hcs, His, Hop⟩, How, #Hlev, Hlc, Hpr, Hg, Ht⟩, %N, #Hkn, Hm⟩, HK⟩
  ihave Hm := (X.mine_opened V keep c) $$ [Hm Hlc]
  · isplitl [Hm] <;> iassumption
  icases Hm with ⟨Hop', Hkeep⟩
  iapply (Deal.region_wp cfgs hinj p (EL nD τ sig Val) defs₀ 𝒱₀ c (iprop((X.records V N ∗ X.opened V c) ∗ scopedBufs (c.tc : Thread nD τ)))
    (iprop((X.filled V c ∗ ownSems0 X.semOf c) ∗ scopedBufs (c.tc : Thread nD τ))) (X.owed c []) 0 hW hN
    (fun t => by
      refine BIBase.Entails.trans ?_ (hprog c t _)
      refine BIBase.Entails.trans ?_ (X.run_wp V N c defs₀ 𝒱₀ hland hlland hfwd cmds [] hok)
      unfold opened state
      iintro ⟨⟨⟨HR, ⟨HA, HB, HS, HL⟩⟩, Hb⟩, Ho⟩
      isplitl [HR]; · iexact HR
      isplitl [HA HB HS HL Ho]
      · isplitl [HA]; · iexact HA
        isplitl [HB]; · iexact HB
        isplitl [HS]; · iexact HS
        isplitl [HL] <;> iassumption
      iintro Hf
      ihave Hf := (X.final_filled V c) $$ Hf
      icases Hf with ⟨Hf, Hs, Ho⟩
      rw [wp_ret]; imodintro
      isplitl [Hf Hs Hb]
      · isplitl [Hf Hs]
        · isplitl [Hf] <;> iassumption
        iexact Hb
      iexact Ho)
    (X := iprop(X.records V N ∗ X.opened V c)) (Y := X.filled V c) (R := scopedBufs (c.tc : Thread nD τ))
    (I := iprop(cellsSems0 cfgs p c ∗ idleSems0 cfgs hinj p ho c)) BIBase.Entails.rfl BIBase.Entails.rfl
    (by
      rw [scopedSems0_split cfgs hinj p hw ho c]
      iintro ⟨⟨⟨Hf, Hs⟩, Hb⟩, Hc, Hi⟩
      isplitl [Hf]; · iexact Hf
      isplitr [Hb]
      · isplitl [Hc Hs]
        · isplitl [Hc] <;> iassumption
        iexact Hi
      iexact Hb))
  isplitl [Hop' Hcs His Hsb How]
  · isplitl [Hop']
    · isplitr
      · unfold records known
        icases Hkn with ⟨#H1, #H2⟩
        isplitr; · iexact H1
        isplitr; · iexact H2
        iexact Hlev
      iexact Hop'
    isplitl [Hcs His]
    · isplitl [Hcs] <;> iassumption
    isplitl [Hsb] <;> iassumption
  iintro ⟨Hf, Hss, Hsb, Ho⟩
  iapply HK
  isplitl [Hf]; · iexact Hf
  isplitl [Hkeep]; · iexact Hkeep
  unfold idle
  isplitl [Hss Hsb Ho]
  · isplitl [Hss]; · iexact Hss
    isplitl [Hsb] <;> iassumption
  isplitl [Hop]; · iexact Hop
  isplitl [Hpr]; · iexact Hpr
  isplitl [Hg] <;> iassumption

include hinj hw ho hW hN hland hlland hfwd hok hprog in
/-- The program: an exchange, then `tail`. -/
theorem run_main (m : (ℓ : Loc nD τ sig) → Buf Val ℓ) (g : Dev nD → PrngReg)
    (tail : Dev nD → PUnit → Prog (TpuEff nD τ sig Val (Pipeline.Sig Λ₀ P fun p => (Deal.table (Val := Val) cfgs p).Adm) .tc) PUnit)
    (hdeal : ∀ c : Dev nD, (unscopedBufs c (fun b => m ((c.tc : Thread nD τ).loc b)) : sProp 𝕄) ⊢ X.dealt V keep c)
    (T : Dev nD → sProp 𝕄)
    (htail : ∀ c : Dev nD, iprop(X.filled V c ∗ keep c ∗ idle cfgs g c)
      ⊢ wp frame (wpE 𝔻 𝕍 (c.tc : Thread nD τ) none) Set.univ (tail c ⟨⟩)
          (fun _ => iprop((T c ∗ scopedSems0 (c.tc : Thread nD τ)) ∗ ∃ W, owes (c.tc : Thread nD τ) (0 : CellTallies nD τ sig Unit) W)))
    (QY : Dev nD → MemSt nD τ sig Val → Prop)
    (hY : ∀ c (s' : Phys nD τ sig Val), iprop(T c ∗ SI s') ⊢ |={Set.univ}=> iprop(⌜QY c s'.mem⌝ ∗ SI s')) :
    θ_run 𝔻 (onTc fun c => .op (.customCall (entry p) ()) (tail c)) ⟨m, fun _ => 0, g⟩ (fun r => (∀ c, QY c r.2)
      ∧ ∀ g' : GSem nD τ sig, (g'.1.2 ≠ .tc ∨ g'.2.isScoped .tc = true) → r.2.sem g' = 0) :=
  Deal.run_dealt cfgs hinj p hw ho (EL nD τ sig Val) defs₀ 𝒱₀ m g _ (fun d => X.owed d []) L X.lv L_of_ne (X.G V) (X.start V keep) T
    (initOf (cells cfgs hinj) (launchToks cfgs hinj), initOf X.cellSet X.tokSet)
    (by
      iintro Hu
      ihave H := (ownU_pair _ _) $$ Hu
      icases H with ⟨HP, HX⟩
      imod (X.funded V) $$ HX with HG
      imodintro
      isplitl [HP] <;> iassumption)
    (BIBase.Entails.trans (bigSep_mono fun c _ => show (_ : sProp 𝕄) ⊢ iprop((bigSep Finset.univ fun x => semVal (X.gcell (c, x)) 0) ∗ X.dealt V keep c ∗ X.G V c) from by
      unfold ownSems0
      iintro ⟨⟨Hs, -, Hb⟩, HG⟩
      isplitl [Hs]; · iexact Hs
      isplitl [Hb]; · iapply (hdeal c); iexact Hb
      iexact HG) (X.glob V keep))
    (fun c => BIBase.Entails.trans (by
      iintro H
      isplitl [H]; · iexact H
      iintro H; iapply (htail c); iexact H) (X.call_wp V keep cfgs hinj p hw ho hW hN defs₀ 𝒱₀ hland hlland hfwd cmds hok hprog g c))
    QY hY

end Launch

end Copies

end Cert.Exchange

end
-- ==== Proof.Gather.lean ====
/- # The gather of the weights: its copies

   Eight devices `(x, y, c)`; device `d` has the logical id `4 x + 2 y + c`, its chip is `2 x + y` and its core `c`. Each
   array is cut into four blocks, one per chip, both cores of a chip holding the same one. A device copies its own block
   into place, sends one half of it (row `c` of the leading axis) to the same core of the three other chips, in four
   pieces, and forwards each piece that lands to the other core of its own chip. -/
module

public import proofs.«01_k».proof.Proof.Opening
public import proofs.«01_k».proof.Proof.Gen.KernelIdeal.Frame

@[expose] public section

set_option maxRecDepth 16384

noncomputable section

namespace Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.KernelIdeal
open Cert.KernelIdeal.Facts₀

/-- The pieces a block is sent in: the first array whole, the second in two halves, the third whole. -/
inductive Piece | a | b0 | s | b1
  deriving DecidableEq

/-- The other chips, by the coordinates that differ. -/
inductive Hop | x | y | xy
  deriving DecidableEq

/-- The remote copies: a piece to another chip, and the piece that came from there to the other core. -/
inductive Rem | ici (p : Piece) (h : Hop) | fwd (p : Piece) (h : Hop)
  deriving DecidableEq

/-- The local copies, one per array. -/
inductive Own | a | b | s
  deriving DecidableEq

instance : Fintype Piece := ⟨{.a, .b0, .s, .b1}, fun p => by cases p <;> decide⟩
instance : Fintype Hop := ⟨{.x, .y, .xy}, fun p => by cases p <;> decide⟩
instance : Fintype Own := ⟨{.a, .b, .s}, fun p => by cases p <;> decide⟩

def Rem.equiv : (Piece × Hop) ⊕ (Piece × Hop) ≃ Rem where
  toFun | .inl x => .ici x.1 x.2 | .inr x => .fwd x.1 x.2
  invFun | .ici p h => .inl (p, h) | .fwd p h => .inr (p, h)
  left_inv x := by rcases x with ⟨p, h⟩ | ⟨p, h⟩ <;> rfl
  right_inv x := by cases x <;> rfl

instance : Fintype Rem := Fintype.ofEquiv _ Rem.equiv

def Piece.shape : Piece → Shape
  | .a => S1544x2048 | .b0 => S256x2048 | .s => S64x128 | .b1 => S256x2048

def Piece.elt : Piece → EltTy
  | .a => .bf16 | .b0 => .bf16 | .s => .f32 | .b1 => .bf16

/-! ## The views -/

def slotA (off : Fin 4 → ℕ) (h : ∀ a, off a + S1x1x1544x2048.size a ≤ S4x2x1544x2048.size a) : Memref sig .tc .hbm S1544x2048 .bf16 :=
  ((Memref.whole main_v1_0).slice (Rect.unit (s := S4x2x1544x2048) off S1x1x1544x2048.size h) (fun _ => rfl)).squeeze S1544x2048 squeezes_S1x1x1544x2048_S1544x2048
def slotB (off : Fin 4 → ℕ) (h : ∀ a, off a + S1x1x256x2048.size a ≤ S4x2x512x2048.size a) : Memref sig .tc .hbm S256x2048 .bf16 :=
  ((Memref.whole main_v1_1).slice (Rect.unit (s := S4x2x512x2048) off S1x1x256x2048.size h) (fun _ => rfl)).squeeze S256x2048 squeezes_S1x1x256x2048_S256x2048
def slotS (off : Fin 4 → ℕ) (h : ∀ a, off a + S1x1x64x128.size a ≤ S4x2x64x128.size a) : Memref sig .tc .hbm S64x128 .f32 :=
  ((Memref.whole main_v1_2).slice (Rect.unit (s := S4x2x64x128) off S1x1x64x128.size h) (fun _ => rfl)).squeeze S64x128 squeezes_S1x1x64x128_S64x128
def partA (off : Fin 3 → ℕ) (h : ∀ a, off a + S1x1544x2048.size a ≤ S2x1544x2048.size a) : Memref sig .tc .hbm S1544x2048 .bf16 :=
  ((Memref.whole main_arg0).slice (Rect.unit (s := S2x1544x2048) off S1x1544x2048.size h) (fun _ => rfl)).squeeze S1544x2048 squeezes_S1x1544x2048_S1544x2048
def partB (off : Fin 3 → ℕ) (h : ∀ a, off a + S1x256x2048.size a ≤ S2x512x2048.size a) : Memref sig .tc .hbm S256x2048 .bf16 :=
  ((Memref.whole main_arg1).slice (Rect.unit (s := S2x512x2048) off S1x256x2048.size h) (fun _ => rfl)).squeeze S256x2048 squeezes_S1x256x2048_S256x2048
def partS (off : Fin 3 → ℕ) (h : ∀ a, off a + S1x64x128.size a ≤ S2x64x128.size a) : Memref sig .tc .hbm S64x128 .f32 :=
  ((Memref.whole main_arg2).slice (Rect.unit (s := S2x64x128) off S1x64x128.size h) (fun _ => rfl)).squeeze S64x128 squeezes_S1x64x128_S64x128

def sendFrom : (p : Piece) → Dev nD → Memref sig .tc .hbm p.shape p.elt
  | .a, d => partA (k0_off5 d) (k0_off5_inb d)
  | .b0, d => partB (k0_off7 d) (k0_off7_inb d)
  | .s, d => partS (k0_off9 d) (k0_off9_inb d)
  | .b1, d => partB (k0_off11 d) (k0_off11_inb d)

def sendTo : (p : Piece) → Dev nD → Memref sig .tc .hbm p.shape p.elt
  | .a, d => slotA (k0_off4 d) (k0_off4_inb d)
  | .b0, d => slotB (k0_off6 d) (k0_off6_inb d)
  | .s, d => slotS (k0_off8 d) (k0_off8_inb d)
  | .b1, d => slotB (k0_off10 d) (k0_off10_inb d)

def came : (p : Piece) → Hop → Dev nD → Memref sig .tc .hbm p.shape p.elt
  | .a, .x, d => slotA (k0_off12 d) (k0_off12_inb d)
  | .a, .y, d => slotA (k0_off13 d) (k0_off13_inb d)
  | .a, .xy, d => slotA (k0_off14 d) (k0_off14_inb d)
  | .b0, .x, d => slotB (k0_off15 d) (k0_off15_inb d)
  | .b0, .y, d => slotB (k0_off16 d) (k0_off16_inb d)
  | .b0, .xy, d => slotB (k0_off17 d) (k0_off17_inb d)
  | .s, .x, d => slotS (k0_off18 d) (k0_off18_inb d)
  | .s, .y, d => slotS (k0_off19 d) (k0_off19_inb d)
  | .s, .xy, d => slotS (k0_off20 d) (k0_off20_inb d)
  | .b1, .x, d => slotB (k0_off21 d) (k0_off21_inb d)
  | .b1, .y, d => slotB (k0_off22 d) (k0_off22_inb d)
  | .b1, .xy, d => slotB (k0_off23 d) (k0_off23_inb d)

def Rem.piece : Rem → Piece | .ici p _ => p | .fwd p _ => p

def remSrc : (k : Rem) → Dev nD → Memref sig .tc .hbm k.piece.shape k.piece.elt
  | .ici p _, d => sendFrom p d
  | .fwd p h, d => came p h d

def remDst : (k : Rem) → Dev nD → Memref sig .tc .hbm k.piece.shape k.piece.elt
  | .ici p _, d => sendTo p d
  | .fwd p h, d => came p h d

def target : Rem → Dev nD → Dev nD
  | .ici .a .x, d => ⟨k0_dev1 d, k0_dev1_lt d⟩ | .ici .a .y, d => ⟨k0_dev2 d, k0_dev2_lt d⟩ | .ici .a .xy, d => ⟨k0_dev3 d, k0_dev3_lt d⟩
  | .ici .b0 .x, d => ⟨k0_dev4 d, k0_dev4_lt d⟩ | .ici .b0 .y, d => ⟨k0_dev5 d, k0_dev5_lt d⟩ | .ici .b0 .xy, d => ⟨k0_dev6 d, k0_dev6_lt d⟩
  | .ici .s .x, d => ⟨k0_dev7 d, k0_dev7_lt d⟩ | .ici .s .y, d => ⟨k0_dev8 d, k0_dev8_lt d⟩ | .ici .s .xy, d => ⟨k0_dev9 d, k0_dev9_lt d⟩
  | .ici .b1 .x, d => ⟨k0_dev10 d, k0_dev10_lt d⟩ | .ici .b1 .y, d => ⟨k0_dev11 d, k0_dev11_lt d⟩ | .ici .b1 .xy, d => ⟨k0_dev12 d, k0_dev12_lt d⟩
  | .fwd .a .x, d => ⟨k0_dev13 d, k0_dev13_lt d⟩ | .fwd .a .y, d => ⟨k0_dev14 d, k0_dev14_lt d⟩ | .fwd .a .xy, d => ⟨k0_dev15 d, k0_dev15_lt d⟩
  | .fwd .b0 .x, d => ⟨k0_dev16 d, k0_dev16_lt d⟩ | .fwd .b0 .y, d => ⟨k0_dev17 d, k0_dev17_lt d⟩ | .fwd .b0 .xy, d => ⟨k0_dev18 d, k0_dev18_lt d⟩
  | .fwd .s .x, d => ⟨k0_dev19 d, k0_dev19_lt d⟩ | .fwd .s .y, d => ⟨k0_dev20 d, k0_dev20_lt d⟩ | .fwd .s .xy, d => ⟨k0_dev21 d, k0_dev21_lt d⟩
  | .fwd .b1 .x, d => ⟨k0_dev22 d, k0_dev22_lt d⟩ | .fwd .b1 .y, d => ⟨k0_dev23 d, k0_dev23_lt d⟩ | .fwd .b1 .xy, d => ⟨k0_dev24 d, k0_dev24_lt d⟩

def Own.shape : Own → Shape | .a => S2x1544x2048 | .b => S2x512x2048 | .s => S2x64x128
def Own.elt : Own → EltTy | .a => .bf16 | .b => .bf16 | .s => .f32

def ownSrc : (i : Own) → Memref sig .tc .hbm i.shape i.elt
  | .a => Memref.whole main_arg0 | .b => Memref.whole main_arg1 | .s => Memref.whole main_arg2

def ownDst : (i : Own) → Dev nD → Memref sig .tc .hbm i.shape i.elt
  | .a, d => ((Memref.whole main_v1_0).slice (Rect.unit (s := S4x2x1544x2048) (k0_off1 d) S1x2x1544x2048.size (k0_off1_inb d)) (fun _ => rfl)).squeeze S2x1544x2048 squeezes_S1x2x1544x2048_S2x1544x2048
  | .b, d => ((Memref.whole main_v1_1).slice (Rect.unit (s := S4x2x512x2048) (k0_off2 d) S1x2x512x2048.size (k0_off2_inb d)) (fun _ => rfl)).squeeze S2x512x2048 squeezes_S1x2x512x2048_S2x512x2048
  | .s, d => ((Memref.whole main_v1_2).slice (Rect.unit (s := S4x2x64x128) (k0_off3 d) S1x2x64x128.size (k0_off3_inb d)) (fun _ => rfl)).squeeze S2x64x128 squeezes_S1x2x64x128_S2x64x128

/-! ## The semaphores -/

def Piece.no : Piece → ℕ | .a => 0 | .b0 => 1 | .s => 2 | .b1 => 3
def Hop.no : Hop → ℕ | .x => 0 | .y => 1 | .xy => 2
def Rem.no : Rem → ℕ | .ici p h => 3 * p.no + h.no | .fwd p h => 12 + 3 * p.no + h.no
def Own.no : Own → ℕ | .a => 0 | .b => 1 | .s => 2

theorem Rem.no_lt (k : Rem) : k.no < 24 := by revert k; decide
theorem Own.no_lt (i : Own) : i.no < 3 := by revert i; decide

def sndSem (k : Rem) : DmaSem sig := ⟨k.no, by have := k.no_lt; show k.no < 51; omega⟩
def rcvSem (k : Rem) : DmaSem sig := ⟨24 + k.no, by have := k.no_lt; show 24 + k.no < 51; omega⟩
def ownSem (i : Own) : DmaSem sig := ⟨48 + i.no, by have := i.no_lt; show 48 + i.no < 51; omega⟩

theorem no_inj : ∀ k k' : Rem, k.no = k'.no → k = k' := by decide
theorem own_no_inj : ∀ i i' : Own, i.no = i'.no → i = i' := by decide

theorem sem_inj : Function.Injective (Sum.elim sndSem (Sum.elim rcvSem ownSem)) := by
  rintro (k | k | k) (k' | k' | k') h <;> have h := congrArg Fin.val h <;>
    simp only [Sum.elim_inl, Sum.elim_inr, sndSem, rcvSem, ownSem] at h
  · rw [no_inj _ _ h]
  · have := k.no_lt; omega
  · have := k.no_lt; omega
  · have := k'.no_lt; omega
  · rw [no_inj k k' (by omega)]
  · have := k.no_lt; omega
  · have := k'.no_lt; omega
  · have := k'.no_lt; omega
  · rw [own_no_inj k k' (by omega)]

/-! ## The exchange -/

def Piece.units (p : Piece) : ℕ := (sendFrom p 0).view.dmaCredit
theorem units_pos : ∀ p : Piece, 0 < p.units := by decide +kernel
def Own.units (i : Own) : ℕ := (ownSrc i).view.dmaCredit

theorem sendFrom_exact : ∀ (p : Piece) (d : Dev nD), (sendFrom p d).view.WordExact
  | .a, d => ((Memref.isWhole_whole main_arg0).wordExact_slice rfl _ (k0_off5_wordsbf16 d)).reshape _ _
  | .b0, d => ((Memref.isWhole_whole main_arg1).wordExact_slice rfl _ (k0_off7_wordsbf16 d)).reshape _ _
  | .s, d => (View.wordExact_bits rfl).reshape _ _
  | .b1, d => ((Memref.isWhole_whole main_arg1).wordExact_slice rfl _ (k0_off11_wordsbf16 d)).reshape _ _

theorem sendTo_exact : ∀ (p : Piece) (d : Dev nD), (sendTo p d).view.WordExact
  | .a, d => ((Memref.isWhole_whole main_v1_0).wordExact_slice rfl _ (k0_off4_wordsbf16 d)).reshape _ _
  | .b0, d => ((Memref.isWhole_whole main_v1_1).wordExact_slice rfl _ (k0_off6_wordsbf16 d)).reshape _ _
  | .s, d => (View.wordExact_bits rfl).reshape _ _
  | .b1, d => ((Memref.isWhole_whole main_v1_1).wordExact_slice rfl _ (k0_off10_wordsbf16 d)).reshape _ _

theorem came_exact : ∀ (p : Piece) (h : Hop) (d : Dev nD), (came p h d).view.WordExact
  | .a, .x, d => ((Memref.isWhole_whole main_v1_0).wordExact_slice rfl _ (k0_off12_wordsbf16 d)).reshape _ _
  | .a, .y, d => ((Memref.isWhole_whole main_v1_0).wordExact_slice rfl _ (k0_off13_wordsbf16 d)).reshape _ _
  | .a, .xy, d => ((Memref.isWhole_whole main_v1_0).wordExact_slice rfl _ (k0_off14_wordsbf16 d)).reshape _ _
  | .b0, .x, d => ((Memref.isWhole_whole main_v1_1).wordExact_slice rfl _ (k0_off15_wordsbf16 d)).reshape _ _
  | .b0, .y, d => ((Memref.isWhole_whole main_v1_1).wordExact_slice rfl _ (k0_off16_wordsbf16 d)).reshape _ _
  | .b0, .xy, d => ((Memref.isWhole_whole main_v1_1).wordExact_slice rfl _ (k0_off17_wordsbf16 d)).reshape _ _
  | .s, .x, d => (View.wordExact_bits rfl).reshape _ _
  | .s, .y, d => (View.wordExact_bits rfl).reshape _ _
  | .s, .xy, d => (View.wordExact_bits rfl).reshape _ _
  | .b1, .x, d => ((Memref.isWhole_whole main_v1_1).wordExact_slice rfl _ (k0_off21_wordsbf16 d)).reshape _ _
  | .b1, .y, d => ((Memref.isWhole_whole main_v1_1).wordExact_slice rfl _ (k0_off22_wordsbf16 d)).reshape _ _
  | .b1, .xy, d => ((Memref.isWhole_whole main_v1_1).wordExact_slice rfl _ (k0_off23_wordsbf16 d)).reshape _ _

theorem ownDst_exact : ∀ (i : Own) (d : Dev nD), (ownDst i d).view.WordExact
  | .a, d => ((Memref.isWhole_whole main_v1_0).wordExact_slice rfl _ (k0_off1_wordsbf16 d)).reshape _ _
  | .b, d => ((Memref.isWhole_whole main_v1_1).wordExact_slice rfl _ (k0_off2_wordsbf16 d)).reshape _ _
  | .s, d => (View.wordExact_bits rfl).reshape _ _

def dep : Rem → Option Rem | .ici _ _ => none | .fwd p h => some (.ici p h)
def lvl : Rem → ℕ | .ici _ _ => 1 | .fwd _ _ => 2

/-- The copies of the gather. -/
def X : Copies nD τ sig Rem Own where
  shape k := k.piece.shape
  elt k := k.piece.elt
  src := remSrc
  dst := remDst
  peer := target
  snd := sndSem
  rcv := rcvSem
  lshape := Own.shape
  lelt := Own.elt
  lsrc i _ := ownSrc i
  ldst := ownDst
  lsem := ownSem
  dep := dep
  lvl := lvl
  amt k := k.piece.units
  lamt := Own.units
  src_exact := fun | .ici p _, d => sendFrom_exact p d | .fwd p h, d => came_exact p h d
  dst_exact := fun | .ici p _, d => sendTo_exact p d | .fwd p h, d => came_exact p h d
  lsrc_exact := fun | .a, d => (Memref.isWhole_whole main_arg0).wordExact | .b, d => (Memref.isWhole_whole main_arg1).wordExact | .s, d => (Memref.isWhole_whole main_arg2).wordExact
  ldst_exact := ownDst_exact
  dst_tc k c := by rcases k with ⟨p, h⟩ | ⟨p, h⟩ <;> cases p <;> cases h <;> rfl
  src_credit k c := by rcases k with ⟨p, h⟩ | ⟨p, h⟩ <;> cases p <;> cases h <;> rfl
  dst_credit k c := by rcases k with ⟨p, h⟩ | ⟨p, h⟩ <;> cases p <;> cases h <;> rfl
  ldst_credit i c := by cases i <;> rfl
  amt_pos k := units_pos k.piece
  lamt_pos i := by cases i <;> decide +kernel
  peer_peer := by decide +kernel
  sem_inj := sem_inj
  dep_inj x y k hx hy := by
    rcases x with ⟨p, h⟩ | ⟨p, h⟩ <;> rcases y with ⟨p', h'⟩ | ⟨p', h'⟩ <;> simp only [dep, reduceCtorEq, Option.some.injEq] at hx hy
    subst hx; injection hy with h1 h2; subst h1; subst h2; rfl
  lvl_pos := fun | .ici _ _ => Nat.one_pos | .fwd _ _ => Nat.two_pos
  routes k c := by revert k c; decide +kernel

/-- The order the pieces are taken in. -/
def order : List (Piece × Hop) :=
  [(.a, .x), (.a, .y), (.a, .xy), (.b0, .x), (.b0, .y), (.b0, .xy), (.s, .x), (.s, .y), (.s, .xy), (.b1, .x), (.b1, .y), (.b1, .xy)]

/-- The kernel's commands. -/
def cmds : List (Cmd Rem Own) :=
  [.lstart .a, .lstart .b, .lstart .s] ++ order.map (fun x => .start (.ici x.1 x.2))
    ++ order.flatMap (fun x => [.landed (.ici x.1 x.2), .start (.fwd x.1 x.2)])
    ++ order.map (fun x => .landed (.fwd x.1 x.2)) ++ order.map (fun x => .left (.ici x.1 x.2)) ++ order.map (fun x => .left (.fwd x.1 x.2))
    ++ [.lwait .a, .lwait .b, .lwait .s]

theorem cmds_ok : X.Ok [] cmds := by decide +kernel

variable {F : FTy → Type} [FloatOps F]

theorem body (t : Fin cfg0.N) : Gen.bodyAt0 (F := F) t = .op .deviceId (fun d => X.run d (.ret (⟨⟩ : PUnit)) cmds) := by
  rfl

end Cert.Gather
-- ==== Proof.Parts.lean ====
/- # An exchange between whole arrays

   An exchange (`Copies`) whose sources lie in argument arrays and whose pieces cut the result arrays exactly: every
   element of a result is in one piece. `arrays_main` runs such a kernel as the whole of @main: at the end the arguments
   are as launched and the results hold `V`. -/
module

public import proofs.«01_k».proof.Proof.Opening

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-! ## Squeezed rectangles, by coordinates -/

/-- Two leading axes of size one dropped from a rectangle of a rank-4 shape. -/
theorem emb_drop_two {d : Fin 4 → ℕ} {m n : ℕ} (off : Fin 4 → ℕ) (inb : ∀ a, off a + (![1, 1, m, n] : Fin 4 → ℕ) a ≤ (⟨4, d⟩ : Shape).size a)
    (h : (⟨2, ![m, n]⟩ : Shape).numel = (⟨4, ![1, 1, m, n]⟩ : Shape).numel) (x : (⟨2, ![m, n]⟩ : Shape).Idx) (a : Fin 4) :
    ((Rect.unit (s := ⟨4, d⟩) off ![1, 1, m, n] inb).emb (Shape.reshapeEquiv h x) a : ℕ)
      = off a + (![0, 0, (x 0 : ℕ), (x 1 : ℕ)] : Fin 4 → ℕ) a := by
  have h1 : (⟨2, ![m, n]⟩ : Shape).numel = (⟨3, Matrix.vecCons 1 ![m, n]⟩ : Shape).numel := by simp [Shape.numel, Fin.prod_univ_succ]
  have h2 : (⟨3, ![1, m, n]⟩ : Shape).numel = (⟨4, Matrix.vecCons 1 ![1, m, n]⟩ : Shape).numel := by simp [Shape.numel, Fin.prod_univ_succ]
  rw [Rect.emb_apply]
  show off a + 1 * ((Shape.reshapeEquiv h x a : Fin _) : ℕ) = _
  rw [show Shape.reshapeEquiv h x = Shape.reshapeEquiv h2 (Shape.reshapeEquiv h1 x) from (Shape.reshapeEquiv_reshapeEquiv _ _ _).symm,
    Shape.reshapeEquiv_cons_one h2, Shape.reshapeEquiv_cons_one h1, Nat.one_mul]
  fin_cases a <;> rfl

/-- One leading axis of size one dropped from a rectangle of a rank-3 shape. -/
theorem emb_drop_one {d : Fin 3 → ℕ} {m n : ℕ} (off : Fin 3 → ℕ) (inb : ∀ a, off a + (![1, m, n] : Fin 3 → ℕ) a ≤ (⟨3, d⟩ : Shape).size a)
    (h : (⟨2, ![m, n]⟩ : Shape).numel = (⟨3, ![1, m, n]⟩ : Shape).numel) (x : (⟨2, ![m, n]⟩ : Shape).Idx) (a : Fin 3) :
    ((Rect.unit (s := ⟨3, d⟩) off ![1, m, n] inb).emb (Shape.reshapeEquiv h x) a : ℕ)
      = off a + (![0, (x 0 : ℕ), (x 1 : ℕ)] : Fin 3 → ℕ) a := by
  rw [Rect.emb_apply]
  show off a + 1 * ((Shape.reshapeEquiv h x a : Fin _) : ℕ) = _
  rw [Shape.reshapeEquiv_cons_one (n := 2) (d := ![m, n]) h x, Nat.one_mul]
  fin_cases a <;> rfl

/-- One leading axis of size one dropped from a rectangle of a rank-4 shape. -/
theorem emb_drop_front {d : Fin 4 → ℕ} {l m n : ℕ} (off : Fin 4 → ℕ) (inb : ∀ a, off a + (![1, l, m, n] : Fin 4 → ℕ) a ≤ (⟨4, d⟩ : Shape).size a)
    (h : (⟨3, ![l, m, n]⟩ : Shape).numel = (⟨4, ![1, l, m, n]⟩ : Shape).numel) (x : (⟨3, ![l, m, n]⟩ : Shape).Idx) (a : Fin 4) :
    ((Rect.unit (s := ⟨4, d⟩) off ![1, l, m, n] inb).emb (Shape.reshapeEquiv h x) a : ℕ)
      = off a + (![0, (x 0 : ℕ), (x 1 : ℕ), (x 2 : ℕ)] : Fin 4 → ℕ) a := by
  rw [Rect.emb_apply]
  show off a + 1 * ((Shape.reshapeEquiv h x a : Fin _) : ℕ) = _
  rw [Shape.reshapeEquiv_cons_one (n := 3) (d := ![l, m, n]) h x, Nat.one_mul]
  fin_cases a <;> rfl

variable {nD : Nat} {τ : Topo} {sig : RefSig} {Val : EltTy → Type}
variable {Λ₀ : Labels} {K I : Type} [Fintype K] [DecidableEq K] [Fintype I] [DecidableEq I]

local notation "𝕄" => MT nD τ sig Unit Val ℕ (UR sig nD τ × UR sig nD τ) ℕ

/-- A piece written through a view from another: enough to compare contents at each index of the view. -/
theorem write_read_eq {e : EltTy} {s : Shape} {src dst : Memref sig .tc .hbm s e} (f : src.view.ty.Contents Val)
    (g fd : dst.view.ty.Contents Val)
    (h : ∀ x, cast (congrArg Val dst.view.elt_eq.symm) (cast (congrArg Val src.view.elt_eq) (f (src.view.emb x))) = g (dst.view.emb x)) :
    ∀ i ∈ dst.view.set, dst.view.write Val fd (src.view.read Val f) Finset.univ i = g i := by
  intro i hi
  obtain ⟨x, -, rfl⟩ := Finset.mem_map.mp hi
  rw [View.write_emb_of_mem _ _ (Finset.mem_univ x), View.read_apply]
  exact h x

/-! ## Dealing whole arrays -/

theorem family_mono {J : Type} {S : Finset J} {Φ Ψ : J → sProp 𝕄} (h : ∀ j ∈ S, Φ j ⊢ Ψ j) : bigSep S Φ ⊢ bigSep S Ψ := bigSep_mono h

/-- A points-to of unknown share serves any number of readers. -/
theorem deal_readers {J : Type} [DecidableEq J] (S : Finset J) {ℓ : Loc nD τ sig} (f : Buf Val ℓ) :
    (iprop(∃ q, ℓ ↦{q} f) : sProp 𝕄) ⊢ bigSep S fun _ => iprop(∃ q, ℓ ↦{q} f) := by
  induction S using Finset.induction_on with
  | empty => rw [BI.bigSep_empty]; iintro -; iempintro
  | insert j S hj ih =>
    rw [BI.bigSep_insert hj]
    refine (show (iprop(∃ q, ℓ ↦{q} f) : sProp 𝕄) ⊢ iprop((∃ q, ℓ ↦{q} f) ∗ bigSep S fun _ => iprop(∃ q, ℓ ↦{q} f)) from ?_)
    iintro ⟨%q, H⟩
    icases (pointsTo_share (PosShare.mem_left_op_right q)).1 $$ H with ⟨H1, H2⟩
    isplitl [H1]
    · iexists q.left; iexact H1
    · iapply ih; iexists q.right; iexact H2

/-- Whole arrays, cut into pieces: each element of an array in exactly one of the array's pieces. -/
theorem deal_pieces {J A : Type} [Fintype J] [DecidableEq J] [Fintype A] [DecidableEq A] (ℓ : A → Loc nD τ sig) (arr : J → A)
    (S : (o : A) → J → Finset (Idx (ℓ o))) (hone : ∀ o i, ∃ j, ∀ j', (arr j' = o ∧ i ∈ S o j') ↔ j' = j)
    (f : (o : A) → Buf Val (ℓ o)) :
    (bigSep Finset.univ fun o => (ℓ o) ↦{fullShare} f o : sProp 𝕄) ⊢ bigSep Finset.univ fun j => (ℓ (arr j)) ↦[S (arr j) j]{fullShare} f (arr j) := by
  classical
  have h1 (o : A) : ((ℓ o) ↦{fullShare} f o : sProp 𝕄) = bigSep Finset.univ fun j => if arr j = o then (ℓ o) ↦[S o j]{fullShare} f o else BI.emp := by
    rw [← BI.bigSep_filter, ← pointsTo_biUnion]
    · congr 1
      refine (Finset.eq_univ_iff_forall.mpr fun i => ?_).symm
      obtain ⟨j, hj⟩ := hone o i
      have := (hj j).mpr rfl
      exact Finset.mem_biUnion.mpr ⟨j, Finset.mem_filter.mpr ⟨Finset.mem_univ j, this.1⟩, this.2⟩
    · intro j hj j' hj' hne
      refine Finset.disjoint_left.mpr fun i hi hi' => hne ?_
      obtain ⟨j₀, h⟩ := hone o i
      rw [(h j).mp ⟨(Finset.mem_filter.mp hj).2, hi⟩, (h j').mp ⟨(Finset.mem_filter.mp hj').2, hi'⟩]
  rw [BI.bigSep_congr (fun o _ => h1 o), Pipeline.bigSep_univ_comm]
  refine bigSep_mono fun j _ => (show (_ : sProp 𝕄) ⊢ _ from ?_)
  refine BIBase.Entails.trans (Copies.bigSep_at (Finset.mem_univ (arr j))) ?_
  rw [if_pos rfl]

/-- Facts each read off one member of a family and the state, read off the whole family. -/
theorem read_family {J : Type} [DecidableEq J] (S : Finset J) (Ψ : J → sProp 𝕄) (p : J → Prop) (s' : Phys nD τ sig Val)
    (h : ∀ j, iprop(Ψ j ∗ SI s') ⊢ iprop(⌜p j⌝ ∗ SI s')) : iprop((bigSep S Ψ : sProp 𝕄) ∗ SI s') ⊢ iprop(⌜∀ j ∈ S, p j⌝ ∗ SI s') := by
  induction S using Finset.induction_on with
  | empty =>
    iintro ⟨-, HSI⟩
    isplitr; · ipureintro; simp
    iexact HSI
  | insert j S hj ih =>
    rw [BI.bigSep_insert hj]
    refine (show iprop((Ψ j ∗ bigSep S Ψ) ∗ SI s') ⊢ _ from ?_)
    iintro ⟨⟨Hj, HS⟩, HSI⟩
    icases (h j) $$ [Hj HSI] with ⟨%hj, HSI⟩
    · isplitl [Hj] <;> iassumption
    icases ih $$ [HS HSI] with ⟨%hS, HSI⟩
    · isplitl [HS] <;> iassumption
    isplitr
    · ipureintro
      intro i hi
      rcases Finset.mem_insert.mp hi with rfl | hi
      exacts [hj, hS i hi]
    · iexact HSI

theorem read_piece {ℓ : Loc nD τ sig} {S : Finset (Idx ℓ)} {q : PosShare TreeShare} (f : Buf Val ℓ) (s' : Phys nD τ sig Val) :
    iprop((ℓ ↦[S]{q} f : sProp 𝕄) ∗ SI s') ⊢ iprop(⌜∀ i ∈ S, s'.mem.mem ℓ i = f i⌝ ∗ SI s') := by
  iintro ⟨H, HSI⟩
  icombine HSI H gives %h
  isplitr
  · ipureintro; exact h
  · iexact HSI

theorem whole_piece {ℓ : Loc nD τ sig} (S : Finset (Idx ℓ)) {q : PosShare TreeShare} (f : Buf Val ℓ) :
    (ℓ ↦{q} f : sProp 𝕄) ⊢ ℓ ↦[S]{q} f :=
  BIBase.Entails.trans (pointsTo_split_subset (Finset.subset_univ S)).1 (by iintro ⟨H, -⟩; iexact H)

namespace Copies

variable (X : Copies nD τ sig K I)
variable (V : (c : Dev nD) → (b : Ref sig .tc) → Buf Val ((c.tc : Thread nD τ).loc b))

/-- Where an exchange's ends lie: `out` the results, `arg` the arguments, `arr j` the result the piece `j` lies in, `set`
    the elements it covers, `by` the argument a copy reads. -/
structure Arrays (A B : Type) where
  out : A → Ref sig .tc
  arg : B → Ref sig .tc
  arr : K ⊕ I → A
  set : (c : Dev nD) → (o : A) → K ⊕ I → Finset (Idx ((c.tc : Thread nD τ).loc (out o)))
  one : ∀ c o i, ∃ j, ∀ j', (arr j' = o ∧ i ∈ set c o j') ↔ j' = j
  inj : Function.Injective (Sum.elim arg out)
  all : ∀ b : Ref sig .tc, b.isScoped = false → ∃ x, Sum.elim arg out x = b
  unscoped : ∀ x, (Sum.elim arg out x).isScoped = false
  piece_eq : ∀ (c : Dev nD) k (q : PosShare TreeShare) (f : (b : Ref sig .tc) → Buf Val ((c.tc : Thread nD τ).loc b)),
    ((c.tc : Thread nD τ).loc (out (arr (.inl k))) ↦[set c (arr (.inl k)) (.inl k)]{q} f _ : sProp 𝕄)
      = (X.dst k (X.peer k c)).view.loc (c.tc : Thread nD τ) ↦[(X.dst k (X.peer k c)).view.set]{q} f _
  lpiece_eq : ∀ (c : Dev nD) i (q : PosShare TreeShare) (f : (b : Ref sig .tc) → Buf Val ((c.tc : Thread nD τ).loc b)),
    ((c.tc : Thread nD τ).loc (out (arr (.inr i))) ↦[set c (arr (.inr i)) (.inr i)]{q} f _ : sProp 𝕄)
      = (X.ldst i c).view.loc (c.tc : Thread nD τ) ↦[(X.ldst i c).view.set]{q} f _
  reads : ∀ k, X.dep k = none → ∃ b, ∀ c, (X.src k c).view.ref = arg b
  lreads : ∀ i, ∃ b, ∀ c, (X.lsrc i c).view.ref = arg b

variable {A B : Type} [Fintype A] [DecidableEq A] [Fintype B] [DecidableEq B] (Y : X.Arrays (Val := Val) A B)

namespace Arrays

/-- The arguments a device keeps. -/
def args (c : Dev nD) : sProp 𝕄 := bigSep Finset.univ fun b => (c.tc : Thread nD τ).loc (Y.arg b) ↦{fullShare.left} V c (Y.arg b)

theorem read_at (c : Dev nD) {b : B} {r : Ref sig .tc} (hr : r = Y.arg b) (S : Finset (Idx ((c.tc : Thread nD τ).loc r))) :
    (bigSep Finset.univ fun b => iprop(∃ q, (c.tc : Thread nD τ).loc (Y.arg b) ↦{q} V c (Y.arg b)) : sProp 𝕄)
      ⊢ iprop(∃ q, (c.tc : Thread nD τ).loc r ↦[S]{q} V c r) := by
  subst hr
  refine BIBase.Entails.trans (Copies.bigSep_at (Finset.mem_univ b)) (show (_ : sProp 𝕄) ⊢ _ from ?_)
  iintro ⟨%q, H⟩
  iexists q
  iapply (whole_piece S (V c (Y.arg b))); iexact H

theorem deal (m : (ℓ : Loc nD τ sig) → Buf Val ℓ) (hV : ∀ c b, V c (Y.arg b) = m ((c.tc : Thread nD τ).loc (Y.arg b))) (c : Dev nD) :
    (unscopedBufs c (fun b => m ((c.tc : Thread nD τ).loc b)) : sProp 𝕄) ⊢ X.dealt V (Y.args X V) c := by
  have hmap : (Finset.univ.filter fun b : Ref sig .tc => ¬ b.isScoped) = Finset.univ.map ⟨Sum.elim Y.arg Y.out, Y.inj⟩ := by
    ext b
    simp only [Finset.mem_filter, Finset.mem_univ, true_and, Finset.mem_map, Function.Embedding.coeFn_mk, Bool.not_eq_true]
    exact ⟨Y.all b, fun ⟨x, hx⟩ => hx ▸ Y.unscoped x⟩
  have hargs : (bigSep Finset.univ fun b => ((c.tc : Thread nD τ).loc (Y.arg b)) ↦{fullShare} m ((c.tc : Thread nD τ).loc (Y.arg b)) : sProp 𝕄)
      ⊢ iprop((bigSep Finset.univ fun k => X.sources V c [] k) ∗ (bigSep Finset.univ fun i => iprop(∃ q, X.lsource V q i c)) ∗ Y.args X V c) := by
    have hsplit (b : B) : (((c.tc : Thread nD τ).loc (Y.arg b)) ↦{fullShare} m ((c.tc : Thread nD τ).loc (Y.arg b)) : sProp 𝕄)
        ⊢ iprop((bigSep (Finset.univ : Finset (K ⊕ I)) fun _ => iprop(∃ q, (c.tc : Thread nD τ).loc (Y.arg b) ↦{q} V c (Y.arg b)))
          ∗ (c.tc : Thread nD τ).loc (Y.arg b) ↦{fullShare.left} V c (Y.arg b)) := by
      rw [← hV c b]
      iintro H
      icases (pointsTo_share (PosShare.mem_left_op_right fullShare)).1 $$ H with ⟨H1, H2⟩
      isplitr [H1]
      · iapply deal_readers; iexists fullShare.right; iexact H2
      · iexact H1
    refine BIBase.Entails.trans (bigSep_mono fun b _ => hsplit b) ?_
    rw [bigSep_sep', Pipeline.bigSep_univ_comm, BI.bigSep_univ_sum]
    refine (show iprop((_ ∗ _) ∗ _) ⊢ (_ : sProp 𝕄) from ?_)
    iintro ⟨⟨H1, H2⟩, H3⟩
    isplitl [H1]
    · iapply (family_mono fun k _ => show (_ : sProp 𝕄) ⊢ X.sources V c [] k from ?_) $$ H1
      unfold sources
      split
      · rename_i h
        have hd : X.dep k = none := by
          cases hk : X.dep k with
          | none => rfl
          | some k' => exact absurd (h.2 k' (by simp [hk])) (by simp)
        obtain ⟨b, hb⟩ := Y.reads k hd
        exact Y.read_at X V c (hb c) _
      · iintro -; iempintro
    isplitl [H2]
    · iapply (family_mono fun i _ => show (_ : sProp 𝕄) ⊢ iprop(∃ q, X.lsource V q i c) from ?_) $$ H2
      obtain ⟨b, hb⟩ := Y.lreads i
      exact Y.read_at X V c (hb c) _
    · unfold args; iexact H3
  have houts : (bigSep Finset.univ fun o => ((c.tc : Thread nD τ).loc (Y.out o)) ↦{fullShare} m ((c.tc : Thread nD τ).loc (Y.out o)) : sProp 𝕄)
      ⊢ iprop((bigSep Finset.univ fun k => X.vacant (Val := Val) k c) ∗ bigSep Finset.univ fun i => X.lvacant (Val := Val) i c) := by
    refine BIBase.Entails.trans (deal_pieces (fun o => (c.tc : Thread nD τ).loc (Y.out o)) Y.arr (Y.set c) (Y.one c) _) ?_
    rw [BI.bigSep_univ_sum]
    refine (show iprop(_ ∗ _) ⊢ (_ : sProp 𝕄) from ?_)
    iintro ⟨H1, H2⟩
    isplitl [H1]
    · iapply (family_mono fun k _ => show (_ : sProp 𝕄) ⊢ X.vacant k c from ?_) $$ H1
      rw [Y.piece_eq c k fullShare (fun b => m ((c.tc : Thread nD τ).loc b))]
      unfold vacant; iintro H; iexists _; iexact H
    · iapply (family_mono fun i _ => show (_ : sProp 𝕄) ⊢ X.lvacant i c from ?_) $$ H2
      rw [Y.lpiece_eq c i fullShare (fun b => m ((c.tc : Thread nD τ).loc b))]
      unfold lvacant; iintro H; iexists _; iexact H
  unfold unscopedBufs dealt
  rw [hmap, BI.bigSep_map, BI.bigSep_univ_sum]
  refine (show iprop((bigSep Finset.univ fun b => ((c.tc : Thread nD τ).loc (Y.arg b)) ↦{fullShare} m ((c.tc : Thread nD τ).loc (Y.arg b)))
    ∗ bigSep Finset.univ fun o => ((c.tc : Thread nD τ).loc (Y.out o)) ↦{fullShare} m ((c.tc : Thread nD τ).loc (Y.out o))) ⊢ (_ : sProp 𝕄) from ?_)
  iintro ⟨H1, H2⟩
  ihave H1 := hargs $$ H1
  ihave H2 := houts $$ H2
  icases H2 with ⟨H2, H3⟩
  isplitl [H2]; · iexact H2
  isplitl [H3]; · iexact H3
  iexact H1

/-- What a device's memory holds at the end. -/
def Holds (m : (ℓ : Loc nD τ sig) → Buf Val ℓ) (c : Dev nD) (s : MemSt nD τ sig Val) : Prop :=
  (∀ b, s.mem ((c.tc : Thread nD τ).loc (Y.arg b)) = m ((c.tc : Thread nD τ).loc (Y.arg b)))
    ∧ ∀ o, s.mem ((c.tc : Thread nD τ).loc (Y.out o)) = V c (Y.out o)

theorem read (m : (ℓ : Loc nD τ sig) → Buf Val ℓ) (hV : ∀ c b, V c (Y.arg b) = m ((c.tc : Thread nD τ).loc (Y.arg b))) (c : Dev nD)
    (s' : Phys nD τ sig Val) :
    iprop((X.filled V c ∗ Y.args X V c : sProp 𝕄) ∗ SI s') ⊢ iprop(⌜Y.Holds X V m c s'.mem⌝ ∗ SI s') := by
  unfold filled args
  iintro ⟨⟨⟨H1, H2⟩, H3⟩, HSI⟩
  icases (read_family Finset.univ _ (fun k => ∀ i ∈ Y.set c (Y.arr (.inl k)) (.inl k),
    s'.mem.mem ((c.tc : Thread nD τ).loc (Y.out (Y.arr (.inl k)))) i = V c (Y.out (Y.arr (.inl k))) i) s' (fun k => by
      show iprop(X.piece V fullShare.left k c ∗ SI s') ⊢ _
      unfold piece
      rw [← Y.piece_eq c k fullShare.left (V c)]
      exact read_piece _ s')) $$ [H1 HSI] with ⟨%h1, HSI⟩
  · isplitl [H1] <;> iassumption
  icases (read_family Finset.univ _ (fun i => ∀ x ∈ Y.set c (Y.arr (.inr i)) (.inr i),
    s'.mem.mem ((c.tc : Thread nD τ).loc (Y.out (Y.arr (.inr i)))) x = V c (Y.out (Y.arr (.inr i))) x) s' (fun i => by
      show iprop(X.lpiece V i c ∗ SI s') ⊢ _
      unfold lpiece
      rw [← Y.lpiece_eq c i fullShare (V c)]
      exact read_piece _ s')) $$ [H2 HSI] with ⟨%h2, HSI⟩
  · isplitl [H2] <;> iassumption
  icases (read_family Finset.univ _ (fun b => ∀ x ∈ Finset.univ,
    s'.mem.mem ((c.tc : Thread nD τ).loc (Y.arg b)) x = V c (Y.arg b) x) s' (fun b => read_piece _ s')) $$ [H3 HSI] with ⟨%h3, HSI⟩
  · isplitl [H3] <;> iassumption
  isplitr
  · ipureintro
    refine ⟨fun b => ?_, fun o => funext fun i => ?_⟩
    · rw [← hV c b]; exact funext fun x => h3 b (Finset.mem_univ b) x (Finset.mem_univ x)
    · obtain ⟨j, hj⟩ := Y.one c o i
      obtain ⟨ha, hi⟩ := (hj j).mpr rfl
      subst ha
      rcases j with k | k
      · exact h1 k (Finset.mem_univ k) i hi
      · exact h2 k (Finset.mem_univ k) i hi
  · iexact HSI

end Arrays

variable [∀ e, Nonempty (Val e)] {P : Type} [Fintype P] [DecidableEq P]

/-- The program that is one exchange between whole arrays. -/
theorem arrays_main (cfgs : P → Cfg sig Λ₀) (hinj : Function.Injective (cellOf (nD := nD) (τ := τ) cfgs)) (p : P)
    (hw : WinFacts₀ (cfgs p).spec) (ho : OwnSemFacts (cfgs p).spec X.semOf) (hW : IsEmpty (Fin (cfgs p).W)) (hN : (cfgs p).N = 1)
    (defs₀ : Defs nD τ sig Val Λ₀) (𝒱₀ : Variants)
    (hland : ∀ k c (fd : Buf Val ((X.dst k c).view.loc ((X.peer k c).tc : Thread nD τ))), ∀ i ∈ (X.dst k c).view.set,
      (X.dst k c).view.write Val fd ((X.src k c).view.read Val (V c (X.src k c).view.ref)) Finset.univ i = V (X.peer k c) (X.dst k c).view.ref i)
    (hlland : ∀ i c (fd : Buf Val ((X.ldst i c).view.loc (c.tc : Thread nD τ))), ∀ j ∈ (X.ldst i c).view.set,
      (X.ldst i c).view.write Val fd ((X.lsrc i c).view.read Val (V c (X.lsrc i c).view.ref)) Finset.univ j = V c (X.ldst i c).view.ref j)
    (hfwd : ∀ k k' c q, X.dep k = some k' → X.piece V q k' c ⊢ X.source V q k c)
    (cmds : List (Cmd K I)) (hok : X.Ok [] cmds)
    (hprog : ∀ (c : Dev nD) (t : Fin (cfgs p).N) (R : sProp (MT nD τ sig Unit Val ℕ (UR sig nD τ × UR sig nD τ) ℕ)),
      wp frame (wpE defs₀ 𝒱₀ (c.tc : Thread nD τ) none) Set.univ (X.run c (.ret (⟨⟩ : PUnit)) cmds) (fun _ => R)
        ⊢ wp frame (wpE defs₀ 𝒱₀ (c.tc : Thread nD τ) none) Set.univ (defs₀ .tc (cfgs p).body ((cfgs p).bodyArgs t ((cfgs p).slots t))) (fun _ => R))
    (m : (ℓ : Loc nD τ sig) → Buf Val ℓ) (g : Dev nD → PrngReg)
    (hV : ∀ c b, V c (Y.arg b) = m ((c.tc : Thread nD τ).loc (Y.arg b))) :
    θ_run (Pipeline.defs (Deal.table (Val := Val) cfgs) defs₀) (onTc fun c => .op (.customCall (entry p) ()) fun _ => .ret ⟨⟩) ⟨m, fun _ => 0, g⟩ (fun r =>
      (∀ c, Y.Holds X V m c r.2) ∧ ∀ g' : GSem nD τ sig, (g'.1.2 ≠ .tc ∨ g'.2.isScoped .tc = true) → r.2.sem g' = 0) :=
  X.run_main V (Y.args X V) cfgs hinj p hw ho hW hN defs₀ 𝒱₀ hland hlland hfwd cmds hok hprog m g (fun _ _ => .ret ⟨⟩) (Y.deal X V m hV)
    (fun c => iprop(X.filled V c ∗ Y.args X V c))
    (fun c => by
      unfold idle
      rw [wp_ret]
      iintro ⟨Hf, Hk, ⟨Hs, -, Ho⟩, -⟩
      imodintro
      isplitr [Ho]
      · isplitr [Hs]
        · isplitl [Hf] <;> iassumption
        · iexact Hs
      · iexact Ho)
    (fun c s => Y.Holds X V m c s)
    (fun c s' => by
      iintro H
      imodintro
      iapply (Y.read X V m hV c s'); iexact H)

end Copies

end Cert.Exchange
-- ==== Proof.GatherRun.lean ====
/- # The gather of the weights: its run

   What the results hold: block `q`, core `l` of a result is, for the device's own chip, what the device itself was
   given, and otherwise what the device of chip `q` and core `l` was given (`gathered`). -/
module

public import proofs.«01_k».proof.Proof.Gather
public import proofs.«01_k».proof.Proof.Parts

@[expose] public section

set_option maxRecDepth 16384

noncomputable section

namespace Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exchange Cert.KernelIdeal
open Cert.KernelIdeal.Facts₀

variable {F : FTy → Type} [FloatOps F]

local notation "𝕄" => MT nD τ sig Unit (Elt F) ℕ (UR sig nD τ × UR sig nD τ) ℕ

/-! ## The contents -/

/-- Whose argument block `q`, row `l` of a result of device `c` is. -/
def holder (c : Dev nD) (q l : ℕ) : Dev nD := if q = c.val / 2 then c else ⟨(2 * q + l) % 8, Nat.mod_lt _ (by decide)⟩

/-- The results as one function of the devices' arguments. -/
def gathered {α : Type} {k : ℕ} {d : Fin 3 → ℕ} (f : Dev nD → (⟨3, d⟩ : Shape).Idx → α) (c : Dev nD) (i : (⟨4, Matrix.vecCons k d⟩ : Shape).Idx) : α :=
  f (holder c (i 0) (i 1)) fun a => i a.succ

theorem gathered_eq {α : Type} {k : ℕ} {d : Fin 3 → ℕ} (f : Dev nD → (⟨3, d⟩ : Shape).Idx → α) {c c' : Dev nD} {y : (⟨3, d⟩ : Shape).Idx}
    {i : (⟨4, Matrix.vecCons k d⟩ : Shape).Idx} (hc : holder c' (i 0) (i 1) = c) (hi : ∀ a : Fin 3, (i a.succ : ℕ) = y a) :
    f c y = gathered f c' i := by
  unfold gathered
  rw [hc]
  exact congrArg (f c) (funext fun a => Fin.ext (hi a).symm)

variable (m : (ℓ : Loc nD τ sig) → Buf (Elt F) ℓ)

def inA (c : Dev nD) : S2x1544x2048.Idx → Elt F .bf16 := m ((c.tc : Thread nD τ).loc main_arg0)
def inB (c : Dev nD) : S2x512x2048.Idx → Elt F .bf16 := m ((c.tc : Thread nD τ).loc main_arg1)
def inS (c : Dev nD) : S2x64x128.Idx → Elt F .f32 := m ((c.tc : Thread nD τ).loc main_arg2)
def outA (c : Dev nD) : S4x2x1544x2048.Idx → Elt F .bf16 := gathered (inA m) c
def outB (c : Dev nD) : S4x2x512x2048.Idx → Elt F .bf16 := gathered (inB m) c
def outS (c : Dev nD) : S4x2x64x128.Idx → Elt F .f32 := gathered (inS m) c

/-- The contents the exchange ends with. -/
def V (c : Dev nD) : (b : Ref sig .tc) → Buf (Elt F) ((c.tc : Thread nD τ).loc b) :=
  Function.update (Function.update (Function.update (fun b => m ((c.tc : Thread nD τ).loc b)) main_v1_0 (outA m c)) main_v1_1 (outB m c)) main_v1_2 (outS m c)

theorem V_a (c : Dev nD) : V m c main_v1_0 = outA m c := by
  unfold V; rw [Function.update_of_ne (by decide), Function.update_of_ne (by decide), Function.update_self]
theorem V_b (c : Dev nD) : V m c main_v1_1 = outB m c := by
  unfold V; rw [Function.update_of_ne (by decide), Function.update_self]
theorem V_s (c : Dev nD) : V m c main_v1_2 = outS m c := by unfold V; rw [Function.update_self]
theorem V_of (c : Dev nD) (b : Ref sig .tc) (h0 : b ≠ main_v1_0) (h1 : b ≠ main_v1_1) (h2 : b ≠ main_v1_2) :
    V m c b = m ((c.tc : Thread nD τ).loc b) := by
  unfold V; rw [Function.update_of_ne h2, Function.update_of_ne h1, Function.update_of_ne h0]
theorem V_arg0 (c : Dev nD) : V m c main_arg0 = inA m c := V_of m c _ (by decide) (by decide) (by decide)
theorem V_arg1 (c : Dev nD) : V m c main_arg1 = inB m c := V_of m c _ (by decide) (by decide) (by decide)
theorem V_arg2 (c : Dev nD) : V m c main_arg2 = inS m c := V_of m c _ (by decide) (by decide) (by decide)

/-! ## What a copy carries -/

section Carry

variable {α : Type} {k : ℕ} {d : Fin 3 → ℕ} (f : Dev nD → (⟨3, d⟩ : Shape).Idx → α) {r n : ℕ}

theorem carry_ici (off : Fin 4 → ℕ) (inb) (off' : Fin 3 → ℕ) (inb') (h h') (hoff : ∀ a : Fin 3, off a.succ = off' a) {c c' : Dev nD}
    (hc : holder c' (off 0) (off 1) = c) (x : (⟨2, ![r, n]⟩ : Shape).Idx) :
    f c ((Rect.unit (s := ⟨3, d⟩) off' ![1, r, n] inb').emb (Shape.reshapeEquiv h' x))
      = gathered f c' ((Rect.unit (s := ⟨4, Matrix.vecCons k d⟩) off ![1, 1, r, n] inb).emb (Shape.reshapeEquiv h x)) := by
  refine gathered_eq f ?_ fun a => ?_
  · rw [emb_drop_two off inb h x, emb_drop_two off inb h x]; exact hc
  · rw [emb_drop_two off inb h x, emb_drop_one off' inb' h' x, hoff]; rfl

theorem carry_fwd (off : Fin 4 → ℕ) (inb) (h) {c c' : Dev nD} (hc : holder c (off 0) (off 1) = holder c' (off 0) (off 1))
    (x : (⟨2, ![r, n]⟩ : Shape).Idx) :
    gathered f c ((Rect.unit (s := ⟨4, Matrix.vecCons k d⟩) off ![1, 1, r, n] inb).emb (Shape.reshapeEquiv h x))
      = gathered f c' ((Rect.unit (s := ⟨4, Matrix.vecCons k d⟩) off ![1, 1, r, n] inb).emb (Shape.reshapeEquiv h x)) := by
  refine gathered_eq f ?_ fun a => rfl
  rw [emb_drop_two off inb h x, emb_drop_two off inb h x]; exact hc.symm

theorem carry_own {l : ℕ} (f : Dev nD → (⟨3, ![l, r, n]⟩ : Shape).Idx → α) (off : Fin 4 → ℕ) (inb) (h)
    (hoff : ∀ a : Fin 3, off a.succ = 0) {c : Dev nD} (hc : off 0 = c.val / 2) (x : (⟨3, ![l, r, n]⟩ : Shape).Idx) :
    f c x = gathered f c ((Rect.unit (s := ⟨4, ![k, l, r, n]⟩) off ![1, l, r, n] inb).emb (Shape.reshapeEquiv h x)) := by
  refine gathered_eq (k := k) f ?_ fun a => ?_
  · rw [emb_drop_front off inb h x]; exact if_pos hc
  · refine (emb_drop_front off inb h x a.succ).trans ?_
    rw [hoff]; fin_cases a <;> exact Nat.zero_add _

end Carry

theorem land_a : ∀ (h : Hop) (c : Dev nD), holder (target (.ici .a h) c) (k0_off4 c 0) (k0_off4 c 1) = c := by decide +kernel
theorem land_b0 : ∀ (h : Hop) (c : Dev nD), holder (target (.ici .b0 h) c) (k0_off6 c 0) (k0_off6 c 1) = c := by decide +kernel
theorem land_s : ∀ (h : Hop) (c : Dev nD), holder (target (.ici .s h) c) (k0_off8 c 0) (k0_off8 c 1) = c := by decide +kernel
theorem land_b1 : ∀ (h : Hop) (c : Dev nD), holder (target (.ici .b1 h) c) (k0_off10 c 0) (k0_off10 c 1) = c := by decide +kernel

/-- The offsets of the piece that came from another chip. -/
def cameOff : Piece → Hop → Dev nD → Fin 4 → ℕ
  | .a, .x => k0_off12 | .a, .y => k0_off13 | .a, .xy => k0_off14 | .b0, .x => k0_off15 | .b0, .y => k0_off16 | .b0, .xy => k0_off17
  | .s, .x => k0_off18 | .s, .y => k0_off19 | .s, .xy => k0_off20 | .b1, .x => k0_off21 | .b1, .y => k0_off22 | .b1, .xy => k0_off23

theorem land_fwd : ∀ (p : Piece) (h : Hop) (c : Dev nD),
    holder c (cameOff p h c 0) (cameOff p h c 1) = holder (target (.fwd p h) c) (cameOff p h c 0) (cameOff p h c 1) := by decide +kernel

theorem src_off : ∀ (c : Dev nD) (a : Fin 3), k0_off4 c a.succ = k0_off5 c a ∧ k0_off6 c a.succ = k0_off7 c a ∧ k0_off8 c a.succ = k0_off9 c a
    ∧ k0_off10 c a.succ = k0_off11 c a := by decide +kernel

theorem own_off : ∀ (c : Dev nD), (k0_off1 c 0 = c.val / 2 ∧ k0_off2 c 0 = c.val / 2 ∧ k0_off3 c 0 = c.val / 2)
    ∧ ∀ a : Fin 3, k0_off1 c a.succ = 0 ∧ k0_off2 c a.succ = 0 ∧ k0_off3 c a.succ = 0 := by decide +kernel

section Landed

variable (c : Dev nD)

/-- What the copy `k` brings to its destination. -/
def Brings (k : Rem) (c : Dev nD) : Prop :=
  ∀ x, cast (congrArg (Elt F) (X.dst k c).view.elt_eq.symm) (cast (congrArg (Elt F) (X.src k c).view.elt_eq) (V m c (X.src k c).view.ref ((X.src k c).view.emb x)))
    = V m (X.peer k c) (X.dst k c).view.ref ((X.dst k c).view.emb x)

theorem brings_a (h : Hop) : Brings m (.ici .a h) c := fun x => by
  show V m c main_arg0 _ = V m (target (.ici .a h) c) main_v1_0 _
  rw [V_arg0, V_a]
  exact carry_ici (inA m) (k0_off4 c) (k0_off4_inb c) (k0_off5 c) (k0_off5_inb c) _ _ (fun a => (src_off c a).1) (land_a h c) x

theorem brings_b0 (h : Hop) : Brings m (.ici .b0 h) c := fun x => by
  show V m c main_arg1 _ = V m (target (.ici .b0 h) c) main_v1_1 _
  rw [V_arg1, V_b]
  exact carry_ici (inB m) (k0_off6 c) (k0_off6_inb c) (k0_off7 c) (k0_off7_inb c) _ _ (fun a => (src_off c a).2.1) (land_b0 h c) x

theorem brings_s (h : Hop) : Brings m (.ici .s h) c := fun x => by
  show V m c main_arg2 _ = V m (target (.ici .s h) c) main_v1_2 _
  rw [V_arg2, V_s]
  exact carry_ici (inS m) (k0_off8 c) (k0_off8_inb c) (k0_off9 c) (k0_off9_inb c) _ _ (fun a => (src_off c a).2.2.1) (land_s h c) x

theorem brings_b1 (h : Hop) : Brings m (.ici .b1 h) c := fun x => by
  show V m c main_arg1 _ = V m (target (.ici .b1 h) c) main_v1_1 _
  rw [V_arg1, V_b]
  exact carry_ici (inB m) (k0_off10 c) (k0_off10_inb c) (k0_off11 c) (k0_off11_inb c) _ _ (fun a => (src_off c a).2.2.2) (land_b1 h c) x

theorem brings_slotA (off : Fin 4 → ℕ) (inb) (c' : Dev nD) (hc : holder c (off 0) (off 1) = holder c' (off 0) (off 1)) (x : S1544x2048.Idx) :
    V m c main_v1_0 ((slotA off inb).view.emb x) = V m c' main_v1_0 ((slotA off inb).view.emb x) := by
  rw [V_a, V_a]; exact carry_fwd (inA m) off inb _ hc x

theorem brings_slotB (off : Fin 4 → ℕ) (inb) (c' : Dev nD) (hc : holder c (off 0) (off 1) = holder c' (off 0) (off 1)) (x : S256x2048.Idx) :
    V m c main_v1_1 ((slotB off inb).view.emb x) = V m c' main_v1_1 ((slotB off inb).view.emb x) := by
  rw [V_b, V_b]; exact carry_fwd (inB m) off inb _ hc x

theorem brings_slotS (off : Fin 4 → ℕ) (inb) (c' : Dev nD) (hc : holder c (off 0) (off 1) = holder c' (off 0) (off 1)) (x : S64x128.Idx) :
    V m c main_v1_2 ((slotS off inb).view.emb x) = V m c' main_v1_2 ((slotS off inb).view.emb x) := by
  rw [V_s, V_s]; exact carry_fwd (inS m) off inb _ hc x

theorem brings_fwd (p : Piece) (h : Hop) : Brings m (.fwd p h) c := fun x => by
  have hc := land_fwd p h c
  cases p <;> cases h <;>
    first
    | exact brings_slotA m c _ _ _ hc x
    | exact brings_slotB m c _ _ _ hc x
    | exact brings_slotS m c _ _ _ hc x

theorem landed (k : Rem) (c : Dev nD) (fd : Buf (Elt F) ((X.dst k c).view.loc ((X.peer k c).tc : Thread nD τ))) : ∀ i ∈ (X.dst k c).view.set,
    (X.dst k c).view.write (Elt F) fd ((X.src k c).view.read (Elt F) (V m c (X.src k c).view.ref)) Finset.univ i = V m (X.peer k c) (X.dst k c).view.ref i :=
  write_read_eq (src := X.src k c) (dst := X.dst k c) _ _ _ <| match k with
    | .ici .a h => brings_a m c h | .ici .b0 h => brings_b0 m c h | .ici .s h => brings_s m c h | .ici .b1 h => brings_b1 m c h
    | .fwd p h => brings_fwd m c p h

end Landed

theorem stored (i : Own) (c : Dev nD) (fd : Buf (Elt F) ((X.ldst i c).view.loc (c.tc : Thread nD τ))) : ∀ j ∈ (X.ldst i c).view.set,
    (X.ldst i c).view.write (Elt F) fd ((X.lsrc i c).view.read (Elt F) (V m c (X.lsrc i c).view.ref)) Finset.univ j = V m c (X.ldst i c).view.ref j := by
  refine write_read_eq (src := X.lsrc i c) (dst := X.ldst i c) _ _ _ fun x => ?_
  have h := own_off c
  cases i
  · show V m c main_arg0 _ = V m c main_v1_0 _
    rw [V_arg0, V_a]
    exact carry_own (inA m) (k0_off1 c) (k0_off1_inb c) _ (fun a => (h.2 a).1) h.1.1 x
  · show V m c main_arg1 _ = V m c main_v1_1 _
    rw [V_arg1, V_b]
    exact carry_own (inB m) (k0_off2 c) (k0_off2_inb c) _ (fun a => (h.2 a).2.1) h.1.2.1 x
  · show V m c main_arg2 _ = V m c main_v1_2 _
    rw [V_arg2, V_s]
    exact carry_own (inS m) (k0_off3 c) (k0_off3_inb c) _ (fun a => (h.2 a).2.2) h.1.2.2 x

/-- The offsets a piece is sent to. -/
def sendOff : Piece → Dev nD → Fin 4 → ℕ | .a => k0_off4 | .b0 => k0_off6 | .s => k0_off8 | .b1 => k0_off10

theorem came_off : ∀ (p : Piece) (h : Hop) (c : Dev nD), sendOff p (target (.ici p h) c) = cameOff p h c := by decide +kernel

section Same

variable (c : Dev nD) (q : PosShare TreeShare) {off off' : Fin 4 → ℕ} (e : off = off')

include e in
theorem same_slotA (h h') (f : Buf (Elt F) ((c.tc : Thread nD τ).loc main_v1_0)) :
    ((c.tc : Thread nD τ).loc main_v1_0 ↦[(slotA off h).view.set]{q} f : sProp 𝕄) = (c.tc : Thread nD τ).loc main_v1_0 ↦[(slotA off' h').view.set]{q} f := by
  subst e; rfl
include e in
theorem same_slotB (h h') (f : Buf (Elt F) ((c.tc : Thread nD τ).loc main_v1_1)) :
    ((c.tc : Thread nD τ).loc main_v1_1 ↦[(slotB off h).view.set]{q} f : sProp 𝕄) = (c.tc : Thread nD τ).loc main_v1_1 ↦[(slotB off' h').view.set]{q} f := by
  subst e; rfl
include e in
theorem same_slotS (h h') (f : Buf (Elt F) ((c.tc : Thread nD τ).loc main_v1_2)) :
    ((c.tc : Thread nD τ).loc main_v1_2 ↦[(slotS off h).view.set]{q} f : sProp 𝕄) = (c.tc : Thread nD τ).loc main_v1_2 ↦[(slotS off' h').view.set]{q} f := by
  subst e; rfl

end Same

section Forward

variable (c : Dev nD) (q : PosShare TreeShare) (h : Hop)

theorem piece_a : ∃ inb, (X.piece (V m) q (.ici .a h) c : sProp 𝕄)
    = ((c.tc : Thread nD τ).loc main_v1_0 ↦[(slotA (sendOff .a (target (.ici .a h) c)) inb).view.set]{q} V m c main_v1_0) := ⟨k0_off4_inb _, rfl⟩
theorem piece_b0 : ∃ inb, (X.piece (V m) q (.ici .b0 h) c : sProp 𝕄)
    = ((c.tc : Thread nD τ).loc main_v1_1 ↦[(slotB (sendOff .b0 (target (.ici .b0 h) c)) inb).view.set]{q} V m c main_v1_1) := ⟨k0_off6_inb _, rfl⟩
theorem piece_s : ∃ inb, (X.piece (V m) q (.ici .s h) c : sProp 𝕄)
    = ((c.tc : Thread nD τ).loc main_v1_2 ↦[(slotS (sendOff .s (target (.ici .s h) c)) inb).view.set]{q} V m c main_v1_2) := ⟨k0_off8_inb _, rfl⟩
theorem piece_b1 : ∃ inb, (X.piece (V m) q (.ici .b1 h) c : sProp 𝕄)
    = ((c.tc : Thread nD τ).loc main_v1_1 ↦[(slotB (sendOff .b1 (target (.ici .b1 h) c)) inb).view.set]{q} V m c main_v1_1) := ⟨k0_off10_inb _, rfl⟩

theorem source_a : ∃ inb, (X.source (V m) q (.fwd .a h) c : sProp 𝕄)
    = ((c.tc : Thread nD τ).loc main_v1_0 ↦[(slotA (cameOff .a h c) inb).view.set]{q} V m c main_v1_0) := by
  cases h; exacts [⟨k0_off12_inb c, rfl⟩, ⟨k0_off13_inb c, rfl⟩, ⟨k0_off14_inb c, rfl⟩]
theorem source_b0 : ∃ inb, (X.source (V m) q (.fwd .b0 h) c : sProp 𝕄)
    = ((c.tc : Thread nD τ).loc main_v1_1 ↦[(slotB (cameOff .b0 h c) inb).view.set]{q} V m c main_v1_1) := by
  cases h; exacts [⟨k0_off15_inb c, rfl⟩, ⟨k0_off16_inb c, rfl⟩, ⟨k0_off17_inb c, rfl⟩]
theorem source_s : ∃ inb, (X.source (V m) q (.fwd .s h) c : sProp 𝕄)
    = ((c.tc : Thread nD τ).loc main_v1_2 ↦[(slotS (cameOff .s h c) inb).view.set]{q} V m c main_v1_2) := by
  cases h; exacts [⟨k0_off18_inb c, rfl⟩, ⟨k0_off19_inb c, rfl⟩, ⟨k0_off20_inb c, rfl⟩]
theorem source_b1 : ∃ inb, (X.source (V m) q (.fwd .b1 h) c : sProp 𝕄)
    = ((c.tc : Thread nD τ).loc main_v1_1 ↦[(slotB (cameOff .b1 h c) inb).view.set]{q} V m c main_v1_1) := by
  cases h; exacts [⟨k0_off21_inb c, rfl⟩, ⟨k0_off22_inb c, rfl⟩, ⟨k0_off23_inb c, rfl⟩]

/-- What came from another chip is what is forwarded. -/
theorem piece_eq_source (p : Piece) : (X.piece (V m) q (.ici p h) c : sProp 𝕄) = X.source (V m) q (.fwd p h) c := by
  have e := came_off p h c
  cases p
  · obtain ⟨_, e1⟩ := piece_a m c q h; obtain ⟨_, e2⟩ := source_a m c q h
    rw [e1, e2]; exact same_slotA c q e _ _ _
  · obtain ⟨_, e1⟩ := piece_b0 m c q h; obtain ⟨_, e2⟩ := source_b0 m c q h
    rw [e1, e2]; exact same_slotB c q e _ _ _
  · obtain ⟨_, e1⟩ := piece_s m c q h; obtain ⟨_, e2⟩ := source_s m c q h
    rw [e1, e2]; exact same_slotS c q e _ _ _
  · obtain ⟨_, e1⟩ := piece_b1 m c q h; obtain ⟨_, e2⟩ := source_b1 m c q h
    rw [e1, e2]; exact same_slotB c q e _ _ _

end Forward

theorem forwarded (k k' : Rem) (c : Dev nD) (q : PosShare TreeShare) (hk : X.dep k = some k') :
    (X.piece (V m) q k' c : sProp 𝕄) ⊢ X.source (V m) q k c := by
  rcases k with ⟨p, h⟩ | ⟨p, h⟩
  · cases hk
  · cases Option.some.inj hk
    exact BIBase.Entails.of_eq (piece_eq_source m c q h p)

/-! ## The results, piece by piece -/

theorem mem_row {k l r n r' : ℕ} (off : Fin 4 → ℕ) (inb) (i : (⟨4, ![k, l, r, n]⟩ : Shape).Idx) :
    i ∈ (Rect.unit (s := ⟨4, ![k, l, r, n]⟩) off ![1, 1, r', n] inb).set
      ↔ off 0 = (i 0 : ℕ) ∧ off 1 = (i 1 : ℕ) ∧ off 2 ≤ (i 2 : ℕ) ∧ (i 2 : ℕ) < off 2 + r' := by
  have h3 : off 3 + n ≤ n := inb 3
  have i3 : (i 3 : ℕ) < n := (i 3).isLt
  rw [Rect.mem_set_unit]
  refine ⟨fun h => ?_, fun ⟨e0, e1, e2, e3⟩ a => ?_⟩
  · have h0 : off 0 ≤ (i 0 : ℕ) ∧ (i 0 : ℕ) < off 0 + 1 := h 0
    have h1 : off 1 ≤ (i 1 : ℕ) ∧ (i 1 : ℕ) < off 1 + 1 := h 1
    have h2 : off 2 ≤ (i 2 : ℕ) ∧ (i 2 : ℕ) < off 2 + r' := h 2
    omega
  · match a with
    | 0 => show off 0 ≤ (i 0 : ℕ) ∧ (i 0 : ℕ) < off 0 + 1; omega
    | 1 => show off 1 ≤ (i 1 : ℕ) ∧ (i 1 : ℕ) < off 1 + 1; omega
    | 2 => exact ⟨e2, e3⟩
    | 3 => show off 3 ≤ (i 3 : ℕ) ∧ (i 3 : ℕ) < off 3 + n; omega

theorem mem_block {k l r n : ℕ} (off : Fin 4 → ℕ) (inb) (i : (⟨4, ![k, l, r, n]⟩ : Shape).Idx) :
    i ∈ (Rect.unit (s := ⟨4, ![k, l, r, n]⟩) off ![1, l, r, n] inb).set ↔ off 0 = (i 0 : ℕ) := by
  have h1 : off 1 + l ≤ l := inb 1
  have h2 : off 2 + r ≤ r := inb 2
  have h3 : off 3 + n ≤ n := inb 3
  have i1 : (i 1 : ℕ) < l := (i 1).isLt
  have i2 : (i 2 : ℕ) < r := (i 2).isLt
  have i3 : (i 3 : ℕ) < n := (i 3).isLt
  rw [Rect.mem_set_unit]
  refine ⟨fun h => ?_, fun e a => ?_⟩
  · have h0 : off 0 ≤ (i 0 : ℕ) ∧ (i 0 : ℕ) < off 0 + 1 := h 0
    omega
  · match a with
    | 0 => show off 0 ≤ (i 0 : ℕ) ∧ (i 0 : ℕ) < off 0 + 1; omega
    | 1 => show off 1 ≤ (i 1 : ℕ) ∧ (i 1 : ℕ) < off 1 + l; omega
    | 2 => show off 2 ≤ (i 2 : ℕ) ∧ (i 2 : ℕ) < off 2 + r; omega
    | 3 => show off 3 ≤ (i 3 : ℕ) ∧ (i 3 : ℕ) < off 3 + n; omega

theorem mem_slotA (off h) (i : S4x2x1544x2048.Idx) : i ∈ (slotA off h).view.set ↔ off 0 = (i 0 : ℕ) ∧ off 1 = (i 1 : ℕ) := by
  have e : (slotA off h).view.set = (Rect.unit (s := S4x2x1544x2048) off S1x1x1544x2048.size h).set :=
    (View.set_reshape _ _).trans (View.set_slice_whole _ _)
  have h2 : off 2 + 1544 ≤ 1544 := h 2
  have i2 : (i 2 : ℕ) < 1544 := (i 2).isLt
  rw [e]
  exact (mem_row off h i).trans (by omega)

theorem mem_slotS (off h) (i : S4x2x64x128.Idx) : i ∈ (slotS off h).view.set ↔ off 0 = (i 0 : ℕ) ∧ off 1 = (i 1 : ℕ) := by
  have e : (slotS off h).view.set = (Rect.unit (s := S4x2x64x128) off S1x1x64x128.size h).set :=
    (View.set_reshape _ _).trans (View.set_slice_whole _ _)
  have h2 : off 2 + 64 ≤ 64 := h 2
  have i2 : (i 2 : ℕ) < 64 := (i 2).isLt
  rw [e]
  exact (mem_row off h i).trans (by omega)

theorem mem_slotB (off h) (i : S4x2x512x2048.Idx) (hm : ∃ b, off 2 = 256 * b) :
    i ∈ (slotB off h).view.set ↔ off 0 = (i 0 : ℕ) ∧ off 1 = (i 1 : ℕ) ∧ off 2 = 256 * ((i 2 : ℕ) / 256) := by
  have e : (slotB off h).view.set = (Rect.unit (s := S4x2x512x2048) off S1x1x256x2048.size h).set :=
    (View.set_reshape _ _).trans (View.set_slice_whole _ _)
  obtain ⟨b, hb⟩ := hm
  rw [e]
  exact (mem_row off h i).trans (by omega)

theorem mem_own_a (c : Dev nD) (i : S4x2x1544x2048.Idx) : i ∈ (ownDst .a c).view.set ↔ k0_off1 c 0 = (i 0 : ℕ) := by
  have e : (ownDst .a c).view.set = (Rect.unit (s := S4x2x1544x2048) (k0_off1 c) S1x2x1544x2048.size (k0_off1_inb c)).set :=
    (View.set_reshape _ _).trans (View.set_slice_whole _ _)
  rw [e]; exact mem_block _ _ i
theorem mem_own_b (c : Dev nD) (i : S4x2x512x2048.Idx) : i ∈ (ownDst .b c).view.set ↔ k0_off2 c 0 = (i 0 : ℕ) := by
  have e : (ownDst .b c).view.set = (Rect.unit (s := S4x2x512x2048) (k0_off2 c) S1x2x512x2048.size (k0_off2_inb c)).set :=
    (View.set_reshape _ _).trans (View.set_slice_whole _ _)
  rw [e]; exact mem_block _ _ i
theorem mem_own_s (c : Dev nD) (i : S4x2x64x128.Idx) : i ∈ (ownDst .s c).view.set ↔ k0_off3 c 0 = (i 0 : ℕ) := by
  have e : (ownDst .s c).view.set = (Rect.unit (s := S4x2x64x128) (k0_off3 c) S1x2x64x128.size (k0_off3_inb c)).set :=
    (View.set_reshape _ _).trans (View.set_slice_whole _ _)
  rw [e]; exact mem_block _ _ i

/-- Which copy brings the part `half` of row `l` of block `q`. -/
def bringer (c : Dev nD) (o : Own) (q : Fin 4) (l half : Fin 2) : Rem ⊕ Own :=
  if q.val = c.val / 2 then .inr o else
    let h : Hop := if q.val = (c.val / 2 + 2) % 4 then .x else if q.val / 2 = c.val / 4 then .y else .xy
    let p : Piece := match o with | .a => .a | .s => .s | .b => if half = 0 then .b0 else .b1
    if l.val = c.val % 2 then .inl (.ici p h) else .inl (.fwd p h)

def Piece.array : Piece → Own | .a => .a | .b0 => .b | .s => .s | .b1 => .b

def array : Rem ⊕ Own → Own | .inl k => k.piece.array | .inr i => i

/-- The offsets a remote copy of device `d` writes at. -/
def remOff : Rem → Dev nD → Fin 4 → ℕ | .ici p _ => sendOff p | .fwd p h => cameOff p h
def ownOff : Own → Dev nD → Fin 4 → ℕ | .a => k0_off1 | .b => k0_off2 | .s => k0_off3

/-- Whether the copy `j` brings that part. -/
def hits (c : Dev nD) : Rem ⊕ Own → ℕ → ℕ → ℕ → Prop
  | .inl k, q, l, half => remOff k (target k c) 0 = q ∧ remOff k (target k c) 1 = l ∧ (k.piece.array = .b → remOff k (target k c) 2 = 256 * half)
  | .inr i, q, l, half => ownOff i c 0 = q

instance (c : Dev nD) (j : Rem ⊕ Own) (q l half : ℕ) : Decidable (hits c j q l half) := by
  cases j <;> unfold hits <;> infer_instance

theorem bringer_spec : ∀ (c : Dev nD) (o : Own) (q : Fin 4) (l half : Fin 2) (j : Rem ⊕ Own),
    (array j = o ∧ hits c j q l half) ↔ j = bringer c o q l half := by decide +kernel

theorem came_inb_a (h : Hop) (d : Dev nD) : ∀ a, cameOff .a h d a + S1x1x1544x2048.size a ≤ S4x2x1544x2048.size a := by
  cases h; exacts [k0_off12_inb d, k0_off13_inb d, k0_off14_inb d]
theorem came_inb_b0 (h : Hop) (d : Dev nD) : ∀ a, cameOff .b0 h d a + S1x1x256x2048.size a ≤ S4x2x512x2048.size a := by
  cases h; exacts [k0_off15_inb d, k0_off16_inb d, k0_off17_inb d]
theorem came_inb_s (h : Hop) (d : Dev nD) : ∀ a, cameOff .s h d a + S1x1x64x128.size a ≤ S4x2x64x128.size a := by
  cases h; exacts [k0_off18_inb d, k0_off19_inb d, k0_off20_inb d]
theorem came_inb_b1 (h : Hop) (d : Dev nD) : ∀ a, cameOff .b1 h d a + S1x1x256x2048.size a ≤ S4x2x512x2048.size a := by
  cases h; exacts [k0_off21_inb d, k0_off22_inb d, k0_off23_inb d]

/-- The part of result `o` the copy `j` writes on device `c`, the copies of the other results none. -/
def setA (c : Dev nD) : Rem ⊕ Own → Finset S4x2x1544x2048.Idx
  | .inl (.ici .a h) => (sendTo .a (target (.ici .a h) c)).view.set
  | .inl (.fwd .a h) => (slotA (cameOff .a h (target (.fwd .a h) c)) (came_inb_a h _)).view.set
  | .inr .a => (ownDst .a c).view.set
  | _ => ∅
def setB (c : Dev nD) : Rem ⊕ Own → Finset S4x2x512x2048.Idx
  | .inl (.ici .b0 h) => (sendTo .b0 (target (.ici .b0 h) c)).view.set
  | .inl (.ici .b1 h) => (sendTo .b1 (target (.ici .b1 h) c)).view.set
  | .inl (.fwd .b0 h) => (slotB (cameOff .b0 h (target (.fwd .b0 h) c)) (came_inb_b0 h _)).view.set
  | .inl (.fwd .b1 h) => (slotB (cameOff .b1 h (target (.fwd .b1 h) c)) (came_inb_b1 h _)).view.set
  | .inr .b => (ownDst .b c).view.set
  | _ => ∅
def setS (c : Dev nD) : Rem ⊕ Own → Finset S4x2x64x128.Idx
  | .inl (.ici .s h) => (sendTo .s (target (.ici .s h) c)).view.set
  | .inl (.fwd .s h) => (slotS (cameOff .s h (target (.fwd .s h) c)) (came_inb_s h _)).view.set
  | .inr .s => (ownDst .s c).view.set
  | _ => ∅

def out : Own → Ref sig .tc | .a => main_v1_0 | .b => main_v1_1 | .s => main_v1_2
def arg : Own → Ref sig .tc | .a => main_arg0 | .b => main_arg1 | .s => main_arg2

def part (c : Dev nD) : (o : Own) → Rem ⊕ Own → Finset (Idx ((c.tc : Thread nD τ).loc (out o)))
  | .a => setA c | .b => setB c | .s => setS c

theorem halves : ∀ (c : Dev nD) (h : Hop), (∃ b, sendOff .b0 c 2 = 256 * b) ∧ (∃ b, sendOff .b1 c 2 = 256 * b)
    ∧ (∃ b, cameOff .b0 h c 2 = 256 * b) ∧ (∃ b, cameOff .b1 h c 2 = 256 * b) := by
  have : ∀ (c : Dev nD) (h : Hop), sendOff .b0 c 2 = 256 * 0 ∧ sendOff .b1 c 2 = 256 * 1 ∧ cameOff .b0 h c 2 = 256 * 0 ∧ cameOff .b1 h c 2 = 256 * 1 := by
    decide +kernel
  exact fun c h => ⟨⟨_, (this c h).1⟩, ⟨_, (this c h).2.1⟩, ⟨_, (this c h).2.2.1⟩, ⟨_, (this c h).2.2.2⟩⟩

theorem hits_a (c : Dev nD) (i : S4x2x1544x2048.Idx) (j : Rem ⊕ Own) (hj : array j = .a) : i ∈ setA c j ↔ hits c j (i 0) (i 1) 0 := by
  rcases j with (⟨p, h⟩ | ⟨p, h⟩) | o
  · cases p <;> cases hj
    refine (mem_slotA _ _ i).trans ?_
    exact ⟨fun e => ⟨e.1, e.2, nofun⟩, fun e => ⟨e.1, e.2.1⟩⟩
  · cases p <;> cases hj
    refine (mem_slotA _ _ i).trans ?_
    exact ⟨fun e => ⟨e.1, e.2, nofun⟩, fun e => ⟨e.1, e.2.1⟩⟩
  · cases o <;> cases hj
    exact mem_own_a c i

theorem hits_s (c : Dev nD) (i : S4x2x64x128.Idx) (j : Rem ⊕ Own) (hj : array j = .s) : i ∈ setS c j ↔ hits c j (i 0) (i 1) 0 := by
  rcases j with (⟨p, h⟩ | ⟨p, h⟩) | o
  · cases p <;> cases hj
    refine (mem_slotS _ _ i).trans ?_
    exact ⟨fun e => ⟨e.1, e.2, nofun⟩, fun e => ⟨e.1, e.2.1⟩⟩
  · cases p <;> cases hj
    refine (mem_slotS _ _ i).trans ?_
    exact ⟨fun e => ⟨e.1, e.2, nofun⟩, fun e => ⟨e.1, e.2.1⟩⟩
  · cases o <;> cases hj
    exact mem_own_s c i

theorem hits_b (c : Dev nD) (i : S4x2x512x2048.Idx) (j : Rem ⊕ Own) (hj : array j = .b) : i ∈ setB c j ↔ hits c j (i 0) (i 1) ((i 2 : ℕ) / 256) := by
  rcases j with (⟨p, h⟩ | ⟨p, h⟩) | o
  · cases p <;> cases hj
    · refine (mem_slotB _ _ i (halves (target (.ici .b0 h) c) .x).1).trans ?_
      exact ⟨fun e => ⟨e.1, e.2.1, fun _ => e.2.2⟩, fun e => ⟨e.1, e.2.1, e.2.2 rfl⟩⟩
    · refine (mem_slotB _ _ i (halves (target (.ici .b1 h) c) .x).2.1).trans ?_
      exact ⟨fun e => ⟨e.1, e.2.1, fun _ => e.2.2⟩, fun e => ⟨e.1, e.2.1, e.2.2 rfl⟩⟩
  · cases p <;> cases hj
    · refine (mem_slotB _ _ i (halves (target (.fwd .b0 h) c) h).2.2.1).trans ?_
      exact ⟨fun e => ⟨e.1, e.2.1, fun _ => e.2.2⟩, fun e => ⟨e.1, e.2.1, e.2.2 rfl⟩⟩
    · refine (mem_slotB _ _ i (halves (target (.fwd .b1 h) c) h).2.2.2).trans ?_
      exact ⟨fun e => ⟨e.1, e.2.1, fun _ => e.2.2⟩, fun e => ⟨e.1, e.2.1, e.2.2 rfl⟩⟩
  · cases o <;> cases hj
    exact mem_own_b c i

end Cert.Gather
-- ==== Proof.GatherMain.lean ====
/- # The gather of the weights: the whole program -/
module

public import proofs.«01_k».proof.Proof.GatherRun

@[expose] public section

set_option maxRecDepth 16384

noncomputable section

namespace Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exchange Cert.KernelIdeal
open Cert.KernelIdeal.Facts₀

variable {F : FTy → Type} [FloatOps F]

local notation "𝕄" => MT nD τ sig Unit (Elt F) ℕ (UR sig nD τ × UR sig nD τ) ℕ

theorem one_a (c : Dev nD) (i : S4x2x1544x2048.Idx) : ∃ j, ∀ j', (array j' = .a ∧ i ∈ setA c j') ↔ j' = j :=
  ⟨bringer c .a (i 0) (i 1) 0, fun j' => (and_congr_right fun ha => hits_a c i j' ha).trans (bringer_spec c .a (i 0) (i 1) 0 j')⟩
theorem one_s (c : Dev nD) (i : S4x2x64x128.Idx) : ∃ j, ∀ j', (array j' = .s ∧ i ∈ setS c j') ↔ j' = j :=
  ⟨bringer c .s (i 0) (i 1) 0, fun j' => (and_congr_right fun ha => hits_s c i j' ha).trans (bringer_spec c .s (i 0) (i 1) 0 j')⟩
theorem one_b (c : Dev nD) (i : S4x2x512x2048.Idx) : ∃ j, ∀ j', (array j' = .b ∧ i ∈ setB c j') ↔ j' = j := by
  have hi : (i 2 : ℕ) / 256 < 2 := by have : (i 2 : ℕ) < 512 := (i 2).isLt; omega
  exact ⟨bringer c .b (i 0) (i 1) ⟨_, hi⟩, fun j' => (and_congr_right fun ha => hits_b c i j' ha).trans (bringer_spec c .b (i 0) (i 1) ⟨_, hi⟩ j')⟩

theorem one (c : Dev nD) : ∀ (o : Own) (i : Idx ((c.tc : Thread nD τ).loc (out o))), ∃ j, ∀ j', (array j' = o ∧ i ∈ part c o j') ↔ j' = j
  | .a => one_a c | .b => one_b c | .s => one_s c

/-- The exchange's arrays. -/
def Y : X.Arrays (Val := Elt F) Own Own where
  out := out
  arg := arg
  arr := array
  set := part
  one := one
  inj := by decide
  all := by decide
  unscoped x := by rcases x with x | x <;> cases x <;> rfl
  piece_eq c k q f := by
    rcases k with ⟨p, h⟩ | ⟨p, h⟩
    · cases p <;> rfl
    · cases p <;> cases h <;> rfl
  lpiece_eq c i q f := by cases i <;> rfl
  reads k hk := by
    rcases k with ⟨p, h⟩ | ⟨p, h⟩
    · cases p; exacts [⟨.a, fun _ => rfl⟩, ⟨.b, fun _ => rfl⟩, ⟨.s, fun _ => rfl⟩, ⟨.b, fun _ => rfl⟩]
    · cases hk
  lreads i := by cases i; exacts [⟨.a, fun _ => rfl⟩, ⟨.b, fun _ => rfl⟩, ⟨.s, fun _ => rfl⟩]

/-! ## The run -/

theorem own_sems : Pipeline.OwnSemFacts (cfgs 0).spec X.semOf := by decide +kernel

variable (m : (ℓ : Loc nD τ sig) → Buf (Elt F) ℓ)

theorem runs (ρ : Dev nD → PrngReg) :
    θ_run (defs (F := F)) (onTc (τ := τ) (main (F := F))) ⟨m, fun _ => 0, ρ⟩ (fun r =>
      (∀ c : Dev nD, Y.Holds X (V m) m c r.2) ∧ ∀ g' : GSem nD τ sig, (g'.1.2 ≠ .tc ∨ g'.2.isScoped .tc = true) → r.2.sem g' = 0) := by
  refine X.arrays_main (V m) Y cfgs Gen.cellOf_inj 0 Gen.winFacts0.to₀ own_sems ?_ Gen.N_0 defs₀ Variants.none (landed m) (stored m) (forwarded m) cmds cmds_ok ?_ m ρ ?_
  · exact ⟨Fin.elim0⟩
  · intro c t R
    show _ ⊢ wp frame (wpE (defs₀ (F := F)) Variants.none (c.tc : Thread nD τ) none) Set.univ (Gen.bodyAt0 t) (fun _ => R)
    rw [body t, wp_deviceId]
  · intro c b
    cases b
    exacts [V_arg0 m c, V_arg1 m c, V_arg2 m c]

/-- The whole run: on every device the results gathered, the arguments as they were, every counter zero. -/
theorem run_main (ρ : Dev nD → PrngReg) :
    θ_run (defs (F := F)) (onTc (τ := τ) (main (F := F))) ⟨m, fun _ => 0, ρ⟩ (fun r => (∀ c : Dev nD,
      r.2.mem ((c.tc : Thread nD τ).loc main_v1_0) = outA m c
      ∧ r.2.mem ((c.tc : Thread nD τ).loc main_v1_1) = outB m c
      ∧ r.2.mem ((c.tc : Thread nD τ).loc main_v1_2) = outS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).2 .a).trans (V_a m c), ((h.1 c).2 .b).trans (V_b m c), ((h.1 c).2 .s).trans (V_s m c),
    (h.1 c).1 .a, (h.1 c).1 .b, (h.1 c).1 .s⟩, sem_eq_zero_of_scoped (by decide) h.2⟩) (runs m ρ)

end Cert.Gather
-- ==== Proof.GatherValue.lean ====
/- # The gather of the weights: its values

   Where every device holds its block of a whole array, the gathered result is the whole array with its rows cut into
   four and the cut brought to the front. -/
module

public import proofs.«01_k».proof.Proof.GatherMain
public import Mathlib.Tactic.Ring
public import Idealize.ShloMosaic.Lib.Layout
public import Idealize.ShloMosaic.Lib.Pipeline.Value

@[expose] public section

noncomputable section

namespace Cert.Gather

open Idealize.ShloMosaic
open Cert.KernelIdeal (nD)

/-- The holder's chip is the block's. -/
theorem holder_chip : ∀ (c : Dev nD) (q : Fin 4) (l : Fin 2), Layout.meshLin [2, 2, 2] (holder c q l).val [0, 1] = q := by decide +kernel

/-- The index `[l, q rows + r, col]` of the whole array. -/
def wholeIdx {r R n : ℕ} (hR : R = 4 * r) (i : (⟨4, ![4, 2, r, n]⟩ : Shape).Idx) : (⟨3, ![2, R, n]⟩ : Shape).Idx :=
  fun | 0 => (i 1 : Fin 2)
      | 1 => (⟨(i 0 : ℕ) * r + (i 2 : ℕ), by
          have h0 : (i 0 : ℕ) < 4 := (i 0).isLt
          have h2 : (i 2 : ℕ) < r := (i 2).isLt
          show _ < R
          rw [hR]
          calc (i 0 : ℕ) * r + (i 2 : ℕ) < (i 0 : ℕ) * r + r := Nat.add_lt_add_left h2 _
            _ = ((i 0 : ℕ) + 1) * r := (Nat.succ_mul _ _).symm
            _ ≤ 4 * r := Nat.mul_le_mul_right _ h0⟩ : Fin R)
      | 2 => (i 3 : Fin n)

/-- The index `[l, q, r, col]` of the array cut. -/
def cutIdx {r n : ℕ} (i : (⟨4, ![4, 2, r, n]⟩ : Shape).Idx) : (⟨4, ![2, 4, r, n]⟩ : Shape).Idx :=
  fun | 0 => (i 1 : Fin 2) | 1 => (i 0 : Fin 4) | 2 => (i 2 : Fin r) | 3 => (i 3 : Fin n)

theorem gathered_blocks {α : Type} {r R n : ℕ} (hR : R = 4 * r) (v : (⟨3, ![2, R, n]⟩ : Shape).Idx → α) (ht) (hs) (hp) (c : Dev nD) :
    gathered (k := 4) (fun d => Layout.blockN ⟨3, ![2, r, n]⟩ ⟨3, ![2, R, n]⟩ (Layout.meshBlock [2, 2, 2] ![[], [0, 1], []] d) v ht) c
      = transpose ⟨4, ![4, 2, r, n]⟩ [1, 0, 2, 3] (shapeCast ⟨4, ![2, 4, r, n]⟩ v hs) hp := by
  funext i
  rw [transpose_apply [1, 0, 2, 3] _ hp i (cutIdx i) (fun b => by fin_cases b <;> rfl),
    shapeCast_apply v hs (cutIdx i) (wholeIdx hR i) (by
      rw [Shape.rowMajor_val_three, Shape.rowMajor_val_four]
      show ((i 1 : ℕ) * R + ((i 0 : ℕ) * r + (i 2 : ℕ))) * n + (i 3 : ℕ) = (((i 1 : ℕ) * 4 + (i 0 : ℕ)) * r + (i 2 : ℕ)) * n + (i 3 : ℕ)
      rw [hR]; ring)]
  have e : ht.idx (Layout.meshBlock [2, 2, 2] ![[], [0, 1], []] (holder c (i 0) (i 1))) (fun a => i a.succ) = wholeIdx hR i := by
    funext a
    refine Fin.ext ((Layout.TilesN.idx_val ht _ _ a).trans ?_)
    match a with
    | 0 => show 0 * 2 + (i 1 : ℕ) = (i 1 : ℕ); omega
    | 1 =>
      show Layout.meshLin [2, 2, 2] (holder c (i 0) (i 1)).val [0, 1] * r + (i 2 : ℕ) = (i 0 : ℕ) * r + (i 2 : ℕ)
      rw [holder_chip c (i 0) (i 1)]
    | 2 => show 0 * n + (i 3 : ℕ) = (i 3 : ℕ); omega
  exact congrArg v e

end Cert.Gather
-- ==== Proof.Pair.lean ====
/- # The two cores of a chip

   Device `d` is core `d mod 2` of chip `d div 2`. Arrays of all the devices lie one block after the other; what
   the two cores of every chip hold after an exchange is read here at each index. -/
module

public import Mathlib.Tactic.Ring
public import Idealize.ShloMosaic.Lib.Layout
public import Idealize.ShloMosaic.Lib.Pipeline.Value

@[expose] public section

noncomputable section

namespace Cert.Exchange

open Idealize.ShloMosaic

/-- The other core of a device's chip. -/
def sibling (d : Fin 8) : Fin 8 := ⟨4 * (d / 4) + 2 * (d / 2 % 2) + (1 - d % 2), by omega⟩

theorem sibling_sibling : ∀ d, sibling (sibling d) = d := by decide

theorem sibling_core (d : Fin 8) : (d.val % 2 = 0 ∧ (sibling d).val = 2 * (d.val / 2) + 1) ∨ (d.val % 2 = 1 ∧ (sibling d).val = 2 * (d.val / 2)) := by
  revert d; decide

/-! ## Indices by coordinates -/

def pair {p q : ℕ} (a : Fin p) (b : Fin q) : (⟨2, ![p, q]⟩ : Shape).Idx := fun | 0 => a | 1 => b
def triple {p q r : ℕ} (a : Fin p) (b : Fin q) (c : Fin r) : (⟨3, ![p, q, r]⟩ : Shape).Idx := fun | 0 => a | 1 => b | 2 => c
def quad {p q r s : ℕ} (a : Fin p) (b : Fin q) (c : Fin r) (d : Fin s) : (⟨4, ![p, q, r, s]⟩ : Shape).Idx :=
  fun | 0 => a | 1 => b | 2 => c | 3 => d
def quint {p q r s t : ℕ} (a : Fin p) (b : Fin q) (c : Fin r) (d : Fin s) (e : Fin t) : (⟨5, ![p, q, r, s, t]⟩ : Shape).Idx :=
  fun | 0 => a | 1 => b | 2 => c | 3 => d | 4 => e

theorem unit_or {n : ℕ} (x : Fin n) : (x : ℕ) = if n = 1 then 0 else (x : ℕ) := by
  split
  · have := x.isLt; omega
  · rfl

/-! ## Two arrays with the parts of the cores exchanged -/

section Swap

variable {α : Type} {r n R : ℕ}

/-- Two arrays stacked along the second axis. -/
theorem stacked (x y : (⟨4, ![4, 1, r, n]⟩ : Shape).Idx → α) (hc) (a : Fin 4) (b : Fin 2) (c : Fin r) (d : Fin n) :
    concatenate ⟨4, ![4, 2, r, n]⟩ 1 [⟨⟨4, ![4, 1, r, n]⟩, x⟩, ⟨⟨4, ![4, 1, r, n]⟩, y⟩] hc (quad a b c d)
      = if (b : ℕ) = 0 then x (quad a 0 c d) else y (quad a 0 c d) := by
  split
  · rename_i h
    exact concatenate_pair_apply_left (t := ⟨4, ![4, 2, r, n]⟩) 1 x y hc (quad a b c d) rfl (quad a 0 c d) (fun | 0 => rfl | 1 => h.symm | 2 => rfl | 3 => rfl)
  · rename_i h
    have h1 : 1 = (b : ℕ) := by omega
    exact concatenate_pair_apply_right (t := ⟨4, ![4, 2, r, n]⟩) 1 x y hc (quad a b c d) rfl rfl (quad a 0 c d)
      (fun | 0 => fun _ => rfl | 1 => fun h => absurd rfl h | 2 => fun _ => rfl | 3 => fun _ => rfl) h1

/-- One core's part of an array of all the chips: cut out and laid flat. -/
theorem core_part (v : (⟨2, ![R, n]⟩ : Shape).Idx → α) (o : ℕ) (h1) (h2) (h3) (hb) (a : Fin 4) (b : Fin r) (c : Fin n)
    (k : (⟨2, ![R, n]⟩ : Shape).Idx) (k0 : (k 0 : ℕ) = (2 * (a : ℕ) + o) * r + (b : ℕ)) (k1 : (k 1 : ℕ) = c) :
    broadcastInDim ⟨4, ![4, 1, r, n]⟩ ![0, 2, 3] hb (shapeCast ⟨3, ![4, r, n]⟩
      (extractStridedSlice ⟨4, ![4, 1, r, n]⟩ ![0, o, 0, 0] (shapeCast ⟨4, ![4, 2, r, n]⟩ v h1) h2) h3) (quad a 0 b c) = v k := by
  have ho : o < 2 := by have : o + 1 ≤ 2 := h2.2 1; omega
  rw [broadcastInDim_apply (s := ⟨3, ![4, r, n]⟩) (t := ⟨4, ![4, 1, r, n]⟩) ![0, 2, 3] hb _ (quad a 0 b c) (triple a b c) (fun
      | 0 => rfl | 1 => unit_or b | 2 => unit_or c),
    shapeCast_apply _ h3 (triple a b c) (quad a (0 : Fin 1) b c) (by
      rw [Shape.rowMajor_val_three, Shape.rowMajor_val_four]
      show (((a : ℕ) * 1 + 0) * r + (b : ℕ)) * n + (c : ℕ) = ((a : ℕ) * r + (b : ℕ)) * n + (c : ℕ)
      ring),
    extractStridedSlice_apply ![0, o, 0, 0] _ h2 (quad a (0 : Fin 1) b c) (quad a (⟨o, ho⟩ : Fin 2) b c) (fun
      | 0 => (Nat.zero_add _).symm | 1 => rfl | 2 => (Nat.zero_add _).symm | 3 => (Nat.zero_add _).symm),
    shapeCast_apply v h1 (quad a (⟨o, ho⟩ : Fin 2) b c) k (by
      rw [Shape.rowMajor_val_two, Shape.rowMajor_val_four]
      show (k 0 : ℕ) * n + (k 1 : ℕ) = (((a : ℕ) * 2 + o) * r + (b : ℕ)) * n + (c : ℕ)
      rw [k0, k1]; ring)]

/-- Of an array of all the devices, what the other core of a chip holds is the device's block of the array with the parts
    of the two cores of every chip exchanged. -/
theorem swapped_block (hR : R = 8 * r) (v : (⟨2, ![R, n]⟩ : Shape).Idx → α) (ht) (h1) (h2) (h2') (h3) (hb) (hc) (h4) (c : Fin 8) :
    Layout.block ⟨2, ![r, n]⟩ ⟨2, ![R, n]⟩ 0 8 (sibling c) v ht
      = Layout.block ⟨2, ![r, n]⟩ ⟨2, ![R, n]⟩ 0 8 c (shapeCast ⟨2, ![R, n]⟩ (concatenate ⟨4, ![4, 2, r, n]⟩ 1
        [⟨⟨4, ![4, 1, r, n]⟩, broadcastInDim ⟨4, ![4, 1, r, n]⟩ ![0, 2, 3] hb (shapeCast ⟨3, ![4, r, n]⟩
            (extractStridedSlice ⟨4, ![4, 1, r, n]⟩ ![0, 1, 0, 0] (shapeCast ⟨4, ![4, 2, r, n]⟩ v h1) h2) h3)⟩,
          ⟨⟨4, ![4, 1, r, n]⟩, broadcastInDim ⟨4, ![4, 1, r, n]⟩ ![0, 2, 3] hb (shapeCast ⟨3, ![4, r, n]⟩
            (extractStridedSlice ⟨4, ![4, 1, r, n]⟩ ![0, 0, 0, 0] (shapeCast ⟨4, ![4, 2, r, n]⟩ v h1) h2') h3)⟩] hc) h4) ht := by
  funext i
  have e (d : Fin 8) : (ht.idx d i 0 : ℕ) = (d : ℕ) * r + (i 0 : ℕ) ∧ (ht.idx d i 1 : ℕ) = (i 1 : ℕ) :=
    ⟨Layout.Tiles.idx_val ht d i 0, Layout.Tiles.idx_val ht d i 1⟩
  have hq : (c : ℕ) / 2 < 4 := by omega
  rw [Layout.block_apply, Layout.block_apply,
    shapeCast_apply _ h4 (ht.idx c i) (quad ⟨(c : ℕ) / 2, hq⟩ (⟨(c : ℕ) % 2, by omega⟩ : Fin 2) (i 0) (i 1)) (by
      rw [Shape.rowMajor_val_two, Shape.rowMajor_val_four, (e c).1, (e c).2]
      show ((((c : ℕ) / 2) * 2 + (c : ℕ) % 2) * r + (i 0 : ℕ)) * n + (i 1 : ℕ) = ((c : ℕ) * r + (i 0 : ℕ)) * n + (i 1 : ℕ)
      rw [Nat.div_add_mod'])]
  refine Eq.trans ?_ (stacked (r := r) (n := n) _ _ hc _ _ _ _).symm
  rcases sibling_core c with ⟨h, hs⟩ | ⟨h, hs⟩
  · rw [if_pos h]
    exact (core_part v 1 h1 h2 h3 hb _ _ _ _ ((e _).1.trans (by rw [hs])) (e _).2).symm
  · rw [if_neg (by show ¬ (c : ℕ) % 2 = 0; omega)]
    exact (core_part v 0 h1 h2' h3 hb _ _ _ _ ((e _).1.trans (by rw [hs]; rfl)) (e _).2).symm

end Swap

/-! ## Arrays of two layers, each core given the other's layer for it -/

section Layers

variable {α : Type} {r n : ℕ}

/-- A device's layer for the core of its number. -/
def layer (f : Fin 8 → (⟨4, ![2, 4, r, n]⟩ : Shape).Idx → α) (c : Fin 8) (i : (⟨3, ![4, r, n]⟩ : Shape).Idx) : α :=
  f (sibling c) (quad ⟨(c : ℕ) % 2, by omega⟩ (i 0 : Fin 4) (i 1 : Fin r) (i 2 : Fin n))

/-- Two arrays stacked along the second axis. -/
theorem stacked_layers (x y : (⟨5, ![4, 1, 4, r, n]⟩ : Shape).Idx → α) (hc) (a : Fin 4) (b : Fin 2) (j : Fin 4) (c : Fin r) (d : Fin n) :
    concatenate ⟨5, ![4, 2, 4, r, n]⟩ 1 [⟨⟨5, ![4, 1, 4, r, n]⟩, x⟩, ⟨⟨5, ![4, 1, 4, r, n]⟩, y⟩] hc (quint a b j c d)
      = if (b : ℕ) = 0 then x (quint a 0 j c d) else y (quint a 0 j c d) := by
  split
  · rename_i h
    exact concatenate_pair_apply_left (t := ⟨5, ![4, 2, 4, r, n]⟩) 1 x y hc (quint a b j c d) rfl (quint a 0 j c d)
      (fun | 0 => rfl | 1 => h.symm | 2 => rfl | 3 => rfl | 4 => rfl)
  · rename_i h
    have h1 : 1 = (b : ℕ) := by omega
    exact concatenate_pair_apply_right (t := ⟨5, ![4, 2, 4, r, n]⟩) 1 x y hc (quint a b j c d) rfl rfl (quint a 0 j c d)
      (fun | 0 => fun _ => rfl | 1 => fun h => absurd rfl h | 2 => fun _ => rfl | 3 => fun _ => rfl | 4 => fun _ => rfl) h1

/-- One of the four layers of every chip: cut out and laid flat. -/
theorem layer_part (v : (⟨4, ![16, 4, r, n]⟩ : Shape).Idx → α) (o : ℕ) (h1) (h2) (h3) (hb) (a : Fin 4) (j : Fin 4) (b : Fin r) (c : Fin n)
    (k : (⟨4, ![16, 4, r, n]⟩ : Shape).Idx) (k0 : (k 0 : ℕ) = 4 * (a : ℕ) + o) (k1 : (k 1 : ℕ) = j) (k2 : (k 2 : ℕ) = b) (k3 : (k 3 : ℕ) = c) :
    broadcastInDim ⟨5, ![4, 1, 4, r, n]⟩ ![0, 2, 3, 4] hb (shapeCast ⟨4, ![4, 4, r, n]⟩
      (extractStridedSlice ⟨5, ![4, 1, 4, r, n]⟩ ![0, o, 0, 0, 0] (shapeCast ⟨5, ![4, 4, 4, r, n]⟩ v h1) h2) h3) (quint a 0 j b c) = v k := by
  have ho : o < 4 := by have : o + 1 ≤ 4 := h2.2 1; omega
  rw [broadcastInDim_apply (s := ⟨4, ![4, 4, r, n]⟩) (t := ⟨5, ![4, 1, 4, r, n]⟩) ![0, 2, 3, 4] hb _ (quint a 0 j b c) (quad a j b c) (fun
      | 0 => rfl | 1 => rfl | 2 => unit_or b | 3 => unit_or c),
    shapeCast_apply _ h3 (quad a j b c) (quint a (0 : Fin 1) j b c) (by
      rw [Shape.rowMajor_val_four, Shape.rowMajor_val_five]
      show ((((a : ℕ) * 1 + 0) * 4 + (j : ℕ)) * r + (b : ℕ)) * n + (c : ℕ) = (((a : ℕ) * 4 + (j : ℕ)) * r + (b : ℕ)) * n + (c : ℕ)
      ring),
    extractStridedSlice_apply ![0, o, 0, 0, 0] _ h2 (quint a (0 : Fin 1) j b c) (quint a (⟨o, ho⟩ : Fin 4) j b c) (fun
      | 0 => (Nat.zero_add _).symm | 1 => rfl | 2 => (Nat.zero_add _).symm | 3 => (Nat.zero_add _).symm | 4 => (Nat.zero_add _).symm),
    shapeCast_apply v h1 (quint a (⟨o, ho⟩ : Fin 4) j b c) k (by
      rw [Shape.rowMajor_val_four, Shape.rowMajor_val_five]
      show (((k 0 : ℕ) * 4 + (k 1 : ℕ)) * r + (k 2 : ℕ)) * n + (k 3 : ℕ) = ((((a : ℕ) * 4 + o) * 4 + (j : ℕ)) * r + (b : ℕ)) * n + (c : ℕ)
      rw [k0, k1, k2, k3]; ring)]

/-- Of an array of all the devices, the layer the other core has for a device is the device's block of: for core 0 the
    other core's first layer, for core 1 the other core's second. -/
theorem layer_block (v : (⟨4, ![16, 4, r, n]⟩ : Shape).Idx → α) (ht) (ht') (h1) (h2) (h2') (h3) (hb) (hc) (h4) (c : Fin 8) :
    layer (fun d => Layout.block ⟨4, ![2, 4, r, n]⟩ ⟨4, ![16, 4, r, n]⟩ 0 8 d v ht) c
      = Layout.block ⟨3, ![4, r, n]⟩ ⟨3, ![32, r, n]⟩ 0 8 c (shapeCast ⟨3, ![32, r, n]⟩ (concatenate ⟨5, ![4, 2, 4, r, n]⟩ 1
        [⟨⟨5, ![4, 1, 4, r, n]⟩, broadcastInDim ⟨5, ![4, 1, 4, r, n]⟩ ![0, 2, 3, 4] hb (shapeCast ⟨4, ![4, 4, r, n]⟩
            (extractStridedSlice ⟨5, ![4, 1, 4, r, n]⟩ ![0, 2, 0, 0, 0] (shapeCast ⟨5, ![4, 4, 4, r, n]⟩ v h1) h2) h3)⟩,
          ⟨⟨5, ![4, 1, 4, r, n]⟩, broadcastInDim ⟨5, ![4, 1, 4, r, n]⟩ ![0, 2, 3, 4] hb (shapeCast ⟨4, ![4, 4, r, n]⟩
            (extractStridedSlice ⟨5, ![4, 1, 4, r, n]⟩ ![0, 1, 0, 0, 0] (shapeCast ⟨5, ![4, 4, 4, r, n]⟩ v h1) h2') h3)⟩] hc) h4) ht' := by
  funext i
  have e : (ht'.idx c i 0 : ℕ) = (c : ℕ) * 4 + (i 0 : ℕ) ∧ (ht'.idx c i 1 : ℕ) = (i 1 : ℕ) ∧ (ht'.idx c i 2 : ℕ) = (i 2 : ℕ) :=
    ⟨Layout.Tiles.idx_val ht' c i 0, Layout.Tiles.idx_val ht' c i 1, Layout.Tiles.idx_val ht' c i 2⟩
  have hq : (c : ℕ) / 2 < 4 := by omega
  rw [layer, Layout.block_apply, Layout.block_apply,
    shapeCast_apply _ h4 (ht'.idx c i) (quint ⟨(c : ℕ) / 2, hq⟩ (⟨(c : ℕ) % 2, by omega⟩ : Fin 2) (i 0) (i 1) (i 2)) (by
      rw [Shape.rowMajor_val_three, Shape.rowMajor_val_five, e.1, e.2.1, e.2.2]
      show (((((c : ℕ) / 2) * 2 + (c : ℕ) % 2) * 4 + (i 0 : ℕ)) * r + (i 1 : ℕ)) * n + (i 2 : ℕ) = (((c : ℕ) * 4 + (i 0 : ℕ)) * r + (i 1 : ℕ)) * n + (i 2 : ℕ)
      rw [Nat.div_add_mod'])]
  refine Eq.trans ?_ (stacked_layers (r := r) (n := n) _ _ hc _ _ _ _ _).symm
  have e' (x : (⟨4, ![2, 4, r, n]⟩ : Shape).Idx) : (ht.idx (sibling c) x 0 : ℕ) = (sibling c : ℕ) * 2 + (x 0 : ℕ) :=
    Layout.Tiles.idx_val ht (sibling c) x 0
  rcases sibling_core c with ⟨h, hs⟩ | ⟨h, hs⟩
  · rw [if_pos h]
    exact (layer_part v 2 h1 h2 h3 hb _ _ _ _ _ ((e' _).trans (by
      rw [hs]; show (2 * ((c : ℕ) / 2) + 1) * 2 + (c : ℕ) % 2 = 4 * ((c : ℕ) / 2) + 2; omega)) rfl rfl rfl).symm
  · rw [if_neg (by show ¬ (c : ℕ) % 2 = 0; omega)]
    exact (layer_part v 1 h1 h2' h3 hb _ _ _ _ _ ((e' _).trans (by
      rw [hs]; show (2 * ((c : ℕ) / 2)) * 2 + (c : ℕ) % 2 = 4 * ((c : ℕ) / 2) + 1; omega)) rfl rfl rfl).symm

end Layers

end Cert.Exchange
-- ==== Proof.SwapPartial.lean ====
/- # The partial gradients to the other core

   Every device sends to the other core of its chip, of each of two arrays, the layer of that core's number, and a third
   array whole. -/
module

public import proofs.«01_k».proof.Proof.Parts
public import proofs.«01_k».proof.Proof.Pair
public import proofs.«01_k».proof.Proof.Gen.ToSiblingIdeal.Frame

@[expose] public section

set_option maxRecDepth 16384

noncomputable section

namespace Cert.SwapPartial

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exchange Cert.ToSiblingIdeal
open Cert.ToSiblingIdeal.Facts₀

/-- The arrays; each is one remote copy. -/
inductive Arr | a | b | s
  deriving DecidableEq

instance : Fintype Arr := ⟨{.a, .b, .s}, fun p => by cases p <;> decide⟩

def Arr.no : Arr → ℕ | .a => 0 | .b => 1 | .s => 2
theorem Arr.no_lt (k : Arr) : k.no < 3 := by cases k <;> decide
theorem no_inj : ∀ k k' : Arr, k.no = k'.no → k = k' := by decide

def Arr.shape : Arr → Shape | .a => S4x1544x2048 | .b => S4x512x2048 | .s => S1560x128
def Arr.elt : Arr → EltTy | .a => .bf16 | .b => .bf16 | .s => .f32

def src : (k : Arr) → Dev nD → Memref sig .tc .hbm k.shape k.elt
  | .a, d => ((Memref.whole main_arg0).slice (Rect.unit (s := S2x4x1544x2048) (k0_off1 d) S1x4x1544x2048.size (k0_off1_inb d)) (fun _ => rfl)).squeeze S4x1544x2048 squeezes_S1x4x1544x2048_S4x1544x2048
  | .b, d => ((Memref.whole main_arg1).slice (Rect.unit (s := S2x4x512x2048) (k0_off2 d) S1x4x512x2048.size (k0_off2_inb d)) (fun _ => rfl)).squeeze S4x512x2048 squeezes_S1x4x512x2048_S4x512x2048
  | .s, d => Memref.whole main_arg2
def dst : (k : Arr) → Memref sig .tc .hbm k.shape k.elt
  | .a => Memref.whole main_v1_0 | .b => Memref.whole main_v1_1 | .s => Memref.whole main_v1_2

def target : Arr → Dev nD → Dev nD
  | .a, d => ⟨k0_dev1 d, k0_dev1_lt d⟩ | .b, d => ⟨k0_dev2 d, k0_dev2_lt d⟩ | .s, d => ⟨k0_dev3 d, k0_dev3_lt d⟩

theorem target_eq : ∀ (k : Arr) (d : Dev nD), target k d = sibling d := by decide +kernel

def sndSem (k : Arr) : DmaSem sig := ⟨k.no, by have := k.no_lt; show k.no < 6; omega⟩
def rcvSem (k : Arr) : DmaSem sig := ⟨3 + k.no, by have := k.no_lt; show 3 + k.no < 6; omega⟩

theorem sem_inj : Function.Injective (Sum.elim sndSem (Sum.elim rcvSem (Empty.elim : Empty → DmaSem sig))) := by
  rintro (k | k | ⟨⟨⟩⟩) (k' | k' | ⟨⟨⟩⟩) h <;> have h := congrArg Fin.val h <;>
    simp only [Sum.elim_inl, Sum.elim_inr, sndSem, rcvSem] at h
  · rw [no_inj _ _ h]
  · have := k.no_lt; omega
  · have := k'.no_lt; omega
  · rw [no_inj k k' (by omega)]

/-- The copies of the exchange. -/
def X : Copies nD τ sig Arr Empty where
  shape := Arr.shape
  elt := Arr.elt
  src := src
  dst k _ := dst k
  peer := target
  snd := sndSem
  rcv := rcvSem
  lshape := Empty.elim
  lelt := Empty.elim
  lsrc i := i.elim
  ldst i := i.elim
  lsem := Empty.elim
  dep _ := none
  lvl _ := 1
  amt k := (dst k).view.dmaCredit
  lamt := Empty.elim
  src_exact := fun
    | .a, d => ((Memref.isWhole_whole main_arg0).wordExact_slice rfl _ (k0_off1_wordsbf16 d)).reshape _ _
    | .b, d => ((Memref.isWhole_whole main_arg1).wordExact_slice rfl _ (k0_off2_wordsbf16 d)).reshape _ _
    | .s, _ => (Memref.isWhole_whole main_arg2).wordExact
  dst_exact := fun
    | .a, _ => (Memref.isWhole_whole main_v1_0).wordExact | .b, _ => (Memref.isWhole_whole main_v1_1).wordExact
    | .s, _ => (Memref.isWhole_whole main_v1_2).wordExact
  lsrc_exact i := i.elim
  ldst_exact i := i.elim
  dst_tc k c := by cases k <;> rfl
  src_credit k c := by cases k <;> rfl
  dst_credit k c := by cases k <;> rfl
  ldst_credit i := i.elim
  amt_pos k := by cases k <;> decide +kernel
  lamt_pos i := i.elim
  peer_peer := by decide +kernel
  sem_inj := sem_inj
  dep_inj x y k hx hy := nomatch hx
  lvl_pos _ := Nat.one_pos
  routes k c := by revert k c; decide +kernel

/-- The kernel's commands. -/
def cmds : List (Cmd Arr Empty) := [.start .a, .start .b, .start .s, .left .a, .landed .a, .left .b, .landed .b, .left .s, .landed .s]

theorem cmds_ok : X.Ok [] cmds := by decide +kernel

variable {F : FTy → Type} [FloatOps F]

local notation "𝕄" => MT nD τ sig Unit (Elt F) ℕ (UR sig nD τ × UR sig nD τ) ℕ

theorem body (t : Fin cfg0.N) : Gen.bodyAt0 (F := F) t = .op .deviceId (fun d => X.run d (.ret (⟨⟩ : PUnit)) cmds) := by
  rfl

/-! ## The contents -/

variable (m : (ℓ : Loc nD τ sig) → Buf (Elt F) ℓ)

def inA (c : Dev nD) : S2x4x1544x2048.Idx → Elt F .bf16 := m ((c.tc : Thread nD τ).loc main_arg0)
def inB (c : Dev nD) : S2x4x512x2048.Idx → Elt F .bf16 := m ((c.tc : Thread nD τ).loc main_arg1)
def inS (c : Dev nD) : S1560x128.Idx → Elt F .f32 := m ((c.tc : Thread nD τ).loc main_arg2)
def outA (c : Dev nD) : S4x1544x2048.Idx → Elt F .bf16 := layer (inA m) c
def outB (c : Dev nD) : S4x512x2048.Idx → Elt F .bf16 := layer (inB m) c

/-- The contents the exchange ends with. -/
def V (c : Dev nD) : (b : Ref sig .tc) → Buf (Elt F) ((c.tc : Thread nD τ).loc b) :=
  Function.update (Function.update (Function.update (fun b => m ((c.tc : Thread nD τ).loc b)) main_v1_0 (outA m c)) main_v1_1 (outB m c))
    main_v1_2 (inS m (sibling c))

theorem V_a (c : Dev nD) : V m c main_v1_0 = outA m c := by
  unfold V; rw [Function.update_of_ne (by decide), Function.update_of_ne (by decide), Function.update_self]
theorem V_b (c : Dev nD) : V m c main_v1_1 = outB m c := by
  unfold V; rw [Function.update_of_ne (by decide), Function.update_self]
theorem V_s (c : Dev nD) : V m c main_v1_2 = inS m (sibling c) := by unfold V; rw [Function.update_self]
theorem V_of (c : Dev nD) (b : Ref sig .tc) (h0 : b ≠ main_v1_0) (h1 : b ≠ main_v1_1) (h2 : b ≠ main_v1_2) :
    V m c b = m ((c.tc : Thread nD τ).loc b) := by
  unfold V; rw [Function.update_of_ne h2, Function.update_of_ne h1, Function.update_of_ne h0]
theorem V_arg0 (c : Dev nD) : V m c main_arg0 = inA m c := V_of m c _ (by decide) (by decide) (by decide)
theorem V_arg1 (c : Dev nD) : V m c main_arg1 = inB m c := V_of m c _ (by decide) (by decide) (by decide)
theorem V_arg2 (c : Dev nD) : V m c main_arg2 = inS m c := V_of m c _ (by decide) (by decide) (by decide)

/-- The layer sent is the one the other core is to have. -/
theorem carry {α : Type} {r n : ℕ} (f : Dev nD → (⟨4, ![2, 4, r, n]⟩ : Shape).Idx → α) (off : Fin 4 → ℕ) (inb) (h) (c : Dev nD)
    (h0 : off 0 = (sibling c : ℕ) % 2) (hs : ∀ a : Fin 3, off a.succ = 0) (x : (⟨3, ![4, r, n]⟩ : Shape).Idx) :
    f c ((Rect.unit (s := ⟨4, ![2, 4, r, n]⟩) off ![1, 4, r, n] inb).emb (Shape.reshapeEquiv h x)) = layer f (sibling c) x := by
  unfold layer
  rw [sibling_sibling]
  refine congrArg (f c) (funext fun a => Fin.ext ((emb_drop_front off inb h x a).trans ?_))
  match a with
  | 0 => exact h0
  | 1 => exact (congrArg (· + (x 0 : ℕ)) (hs 0)).trans (Nat.zero_add _)
  | 2 => exact (congrArg (· + (x 1 : ℕ)) (hs 1)).trans (Nat.zero_add _)
  | 3 => exact (congrArg (· + (x 2 : ℕ)) (hs 2)).trans (Nat.zero_add _)

theorem offs : ∀ c : Dev nD, (k0_off1 c 0 = (sibling c : ℕ) % 2 ∧ k0_off2 c 0 = (sibling c : ℕ) % 2)
    ∧ ∀ a : Fin 3, k0_off1 c a.succ = 0 ∧ k0_off2 c a.succ = 0 := by decide +kernel

theorem landed (k : Arr) (c : Dev nD) (fd : Buf (Elt F) ((X.dst k c).view.loc ((X.peer k c).tc : Thread nD τ))) : ∀ i ∈ (X.dst k c).view.set,
    (X.dst k c).view.write (Elt F) fd ((X.src k c).view.read (Elt F) (V m c (X.src k c).view.ref)) Finset.univ i = V m (X.peer k c) (X.dst k c).view.ref i := by
  refine write_read_eq (src := X.src k c) (dst := X.dst k c) _ _ _ fun x => ?_
  have h := offs c
  cases k
  · show V m c main_arg0 _ = V m (target .a c) main_v1_0 _
    rw [target_eq, V_arg0, V_a]
    exact carry (inA m) (k0_off1 c) (k0_off1_inb c) _ c h.1.1 (fun a => (h.2 a).1) x
  · show V m c main_arg1 _ = V m (target .b c) main_v1_1 _
    rw [target_eq, V_arg1, V_b]
    exact carry (inB m) (k0_off2 c) (k0_off2_inb c) _ c h.1.2 (fun a => (h.2 a).2) x
  · show V m c main_arg2 _ = V m (target .s c) main_v1_2 _
    rw [target_eq, V_arg2, V_s, sibling_sibling]; rfl

/-! ## The arrays -/

def out : Arr → Ref sig .tc | .a => main_v1_0 | .b => main_v1_1 | .s => main_v1_2
def arg : Arr → Ref sig .tc | .a => main_arg0 | .b => main_arg1 | .s => main_arg2
def array : Arr ⊕ Empty → Arr | .inl k => k

/-- The exchange's arrays: each copy brings the whole of its result. -/
def Y : X.Arrays (Val := Elt F) Arr Arr where
  out := out
  arg := arg
  arr := array
  set _ _ _ := Finset.univ
  one c o i := ⟨.inl o, by
    rintro (k | ⟨⟨⟩⟩)
    exact ⟨fun h => congrArg Sum.inl h.1, fun h => ⟨Sum.inl.inj h, Finset.mem_univ _⟩⟩⟩
  inj := by decide
  all := by decide
  unscoped x := by rcases x with x | x <;> cases x <;> rfl
  piece_eq c k q f := by
    cases k
    · show _ = ((c.tc : Thread nD τ).loc main_v1_0 ↦[(View.whole main_v1_0).set]{q} f main_v1_0 : sProp 𝕄)
      rw [View.set_whole]; rfl
    · show _ = ((c.tc : Thread nD τ).loc main_v1_1 ↦[(View.whole main_v1_1).set]{q} f main_v1_1 : sProp 𝕄)
      rw [View.set_whole]; rfl
    · show _ = ((c.tc : Thread nD τ).loc main_v1_2 ↦[(View.whole main_v1_2).set]{q} f main_v1_2 : sProp 𝕄)
      rw [View.set_whole]; rfl
  lpiece_eq c i q f := i.elim
  reads k _ := by cases k; exacts [⟨.a, fun _ => rfl⟩, ⟨.b, fun _ => rfl⟩, ⟨.s, fun _ => rfl⟩]
  lreads i := i.elim

/-! ## The run -/

theorem own_sems : Pipeline.OwnSemFacts (cfgs 0).spec X.semOf := by decide +kernel

theorem runs (ρ : Dev nD → PrngReg) :
    θ_run (defs (F := F)) (onTc (τ := τ) (main (F := F))) ⟨m, fun _ => 0, ρ⟩ (fun r =>
      (∀ c : Dev nD, Y.Holds X (V m) m c r.2) ∧ ∀ g' : GSem nD τ sig, (g'.1.2 ≠ .tc ∨ g'.2.isScoped .tc = true) → r.2.sem g' = 0) := by
  refine X.arrays_main (V m) Y cfgs Gen.cellOf_inj 0 Gen.winFacts0.to₀ own_sems ⟨Fin.elim0⟩ Gen.N_0 defs₀ Variants.none (landed m) (fun i => i.elim)
    (fun _ _ _ _ h => nomatch h) cmds cmds_ok ?_ m ρ ?_
  · intro c t R
    show _ ⊢ wp frame (wpE (defs₀ (F := F)) Variants.none (c.tc : Thread nD τ) none) Set.univ (Gen.bodyAt0 t) (fun _ => R)
    rw [body t, wp_deviceId]
  · intro c b
    cases b
    exacts [V_arg0 m c, V_arg1 m c, V_arg2 m c]

/-- The whole run: on every device the results are what the other core has for it, the arguments are as they were, every
    counter is zero. -/
theorem run_main (ρ : Dev nD → PrngReg) :
    θ_run (defs (F := F)) (onTc (τ := τ) (main (F := F))) ⟨m, fun _ => 0, ρ⟩ (fun r => (∀ c : Dev nD,
      r.2.mem ((c.tc : Thread nD τ).loc main_v1_0) = outA m c
      ∧ r.2.mem ((c.tc : Thread nD τ).loc main_v1_1) = outB m c
      ∧ r.2.mem ((c.tc : Thread nD τ).loc main_v1_2) = inS m (sibling c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).2 .a).trans (V_a m c), ((h.1 c).2 .b).trans (V_b m c), ((h.1 c).2 .s).trans (V_s m c),
    (h.1 c).1 .a, (h.1 c).1 .b, (h.1 c).1 .s⟩, sem_eq_zero_of_scoped (by decide) h.2⟩) (runs m ρ)

end Cert.SwapPartial
-- ==== Proof.SwapReduced.lean ====
/- # The reduced gradients to the other core

   Every device sends both of its arrays, whole, to the other core of its chip. -/
module

public import proofs.«01_k».proof.Proof.Parts
public import proofs.«01_k».proof.Proof.Pair
public import proofs.«01_k».proof.Proof.Gen.ReducedIdeal.Frame

@[expose] public section

set_option maxRecDepth 16384

noncomputable section

namespace Cert.SwapReduced

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exchange Cert.ReducedIdeal
open Cert.ReducedIdeal.Facts₀

/-- The arrays; each is one remote copy. -/
inductive Arr | a | b
  deriving DecidableEq

instance : Fintype Arr := ⟨{.a, .b}, fun p => by cases p <;> decide⟩

def Arr.no : Arr → ℕ | .a => 0 | .b => 1
theorem Arr.no_lt (k : Arr) : k.no < 2 := by cases k <;> decide
theorem no_inj : ∀ k k' : Arr, k.no = k'.no → k = k' := by decide

def Arr.shape : Arr → Shape | .a => S1544x2048 | .b => S512x2048

def src : (k : Arr) → Memref sig .tc .hbm k.shape .f32 | .a => Memref.whole main_arg0 | .b => Memref.whole main_arg1
def dst : (k : Arr) → Memref sig .tc .hbm k.shape .f32 | .a => Memref.whole main_v1_0 | .b => Memref.whole main_v1_1

def target : Arr → Dev nD → Dev nD | .a, d => ⟨k0_dev1 d, k0_dev1_lt d⟩ | .b, d => ⟨k0_dev2 d, k0_dev2_lt d⟩

theorem target_eq : ∀ (k : Arr) (d : Dev nD), target k d = sibling d := by decide +kernel

def sndSem (k : Arr) : DmaSem sig := ⟨k.no, by have := k.no_lt; show k.no < 4; omega⟩
def rcvSem (k : Arr) : DmaSem sig := ⟨2 + k.no, by have := k.no_lt; show 2 + k.no < 4; omega⟩

theorem sem_inj : Function.Injective (Sum.elim sndSem (Sum.elim rcvSem (Empty.elim : Empty → DmaSem sig))) := by
  rintro (k | k | ⟨⟨⟩⟩) (k' | k' | ⟨⟨⟩⟩) h <;> have h := congrArg Fin.val h <;>
    simp only [Sum.elim_inl, Sum.elim_inr, sndSem, rcvSem] at h
  · rw [no_inj _ _ h]
  · have := k.no_lt; omega
  · have := k'.no_lt; omega
  · rw [no_inj k k' (by omega)]

/-- The copies of the exchange. -/
def X : Copies nD τ sig Arr Empty where
  shape := Arr.shape
  elt _ := .f32
  src k _ := src k
  dst k _ := dst k
  peer := target
  snd := sndSem
  rcv := rcvSem
  lshape := Empty.elim
  lelt := Empty.elim
  lsrc i := i.elim
  ldst i := i.elim
  lsem := Empty.elim
  dep _ := none
  lvl _ := 1
  amt k := (src k).view.dmaCredit
  lamt := Empty.elim
  src_exact := fun | .a, _ => (Memref.isWhole_whole main_arg0).wordExact | .b, _ => (Memref.isWhole_whole main_arg1).wordExact
  dst_exact := fun | .a, _ => (Memref.isWhole_whole main_v1_0).wordExact | .b, _ => (Memref.isWhole_whole main_v1_1).wordExact
  lsrc_exact i := i.elim
  ldst_exact i := i.elim
  dst_tc k c := by cases k <;> rfl
  src_credit k c := by cases k <;> rfl
  dst_credit k c := by cases k <;> rfl
  ldst_credit i := i.elim
  amt_pos k := by cases k <;> decide +kernel
  lamt_pos i := i.elim
  peer_peer := by decide +kernel
  sem_inj := sem_inj
  dep_inj x y k hx hy := nomatch hx
  lvl_pos _ := Nat.one_pos
  routes k c := by revert k c; decide +kernel

/-- The kernel's commands. -/
def cmds : List (Cmd Arr Empty) := [.start .a, .start .b, .left .a, .landed .a, .left .b, .landed .b]

theorem cmds_ok : X.Ok [] cmds := by decide +kernel

variable {F : FTy → Type} [FloatOps F]

local notation "𝕄" => MT nD τ sig Unit (Elt F) ℕ (UR sig nD τ × UR sig nD τ) ℕ

theorem body (t : Fin cfg0.N) : Gen.bodyAt0 (F := F) t = .op .deviceId (fun d => X.run d (.ret (⟨⟩ : PUnit)) cmds) := by
  rfl

/-! ## The contents -/

variable (m : (ℓ : Loc nD τ sig) → Buf (Elt F) ℓ)

def inA (c : Dev nD) : S1544x2048.Idx → Elt F .f32 := m ((c.tc : Thread nD τ).loc main_arg0)
def inB (c : Dev nD) : S512x2048.Idx → Elt F .f32 := m ((c.tc : Thread nD τ).loc main_arg1)

/-- The contents the exchange ends with. -/
def V (c : Dev nD) : (b : Ref sig .tc) → Buf (Elt F) ((c.tc : Thread nD τ).loc b) :=
  Function.update (Function.update (fun b => m ((c.tc : Thread nD τ).loc b)) main_v1_0 (inA m (sibling c))) main_v1_1 (inB m (sibling c))

theorem V_a (c : Dev nD) : V m c main_v1_0 = inA m (sibling c) := by
  unfold V; rw [Function.update_of_ne (by decide), Function.update_self]
theorem V_b (c : Dev nD) : V m c main_v1_1 = inB m (sibling c) := by unfold V; rw [Function.update_self]
theorem V_arg0 (c : Dev nD) : V m c main_arg0 = inA m c := by
  unfold V; rw [Function.update_of_ne (by decide), Function.update_of_ne (by decide)]; rfl
theorem V_arg1 (c : Dev nD) : V m c main_arg1 = inB m c := by
  unfold V; rw [Function.update_of_ne (by decide), Function.update_of_ne (by decide)]; rfl

theorem landed (k : Arr) (c : Dev nD) (fd : Buf (Elt F) ((X.dst k c).view.loc ((X.peer k c).tc : Thread nD τ))) : ∀ i ∈ (X.dst k c).view.set,
    (X.dst k c).view.write (Elt F) fd ((X.src k c).view.read (Elt F) (V m c (X.src k c).view.ref)) Finset.univ i = V m (X.peer k c) (X.dst k c).view.ref i := by
  refine write_read_eq (src := X.src k c) (dst := X.dst k c) _ _ _ fun x => ?_
  cases k
  · show V m c main_arg0 _ = V m (target .a c) main_v1_0 _
    rw [target_eq, V_arg0, V_a, sibling_sibling]; rfl
  · show V m c main_arg1 _ = V m (target .b c) main_v1_1 _
    rw [target_eq, V_arg1, V_b, sibling_sibling]; rfl

/-! ## The arrays -/

def out : Arr → Ref sig .tc | .a => main_v1_0 | .b => main_v1_1
def arg : Arr → Ref sig .tc | .a => main_arg0 | .b => main_arg1
def array : Arr ⊕ Empty → Arr | .inl k => k

/-- The exchange's arrays: each copy brings the whole of its result. -/
def Y : X.Arrays (Val := Elt F) Arr Arr where
  out := out
  arg := arg
  arr := array
  set _ _ _ := Finset.univ
  one c o i := ⟨.inl o, by
    rintro (k | ⟨⟨⟩⟩)
    exact ⟨fun h => congrArg Sum.inl h.1, fun h => ⟨Sum.inl.inj h, Finset.mem_univ _⟩⟩⟩
  inj := by decide
  all := by decide
  unscoped x := by rcases x with x | x <;> cases x <;> rfl
  piece_eq c k q f := by
    cases k
    · show _ = ((c.tc : Thread nD τ).loc main_v1_0 ↦[(View.whole main_v1_0).set]{q} f main_v1_0 : sProp 𝕄)
      rw [View.set_whole]; rfl
    · show _ = ((c.tc : Thread nD τ).loc main_v1_1 ↦[(View.whole main_v1_1).set]{q} f main_v1_1 : sProp 𝕄)
      rw [View.set_whole]; rfl
  lpiece_eq c i q f := i.elim
  reads k _ := by cases k; exacts [⟨.a, fun _ => rfl⟩, ⟨.b, fun _ => rfl⟩]
  lreads i := i.elim

/-! ## The run -/

theorem own_sems : Pipeline.OwnSemFacts (cfgs 0).spec X.semOf := by decide +kernel

theorem runs (ρ : Dev nD → PrngReg) :
    θ_run (defs (F := F)) (onTc (τ := τ) (main (F := F))) ⟨m, fun _ => 0, ρ⟩ (fun r =>
      (∀ c : Dev nD, Y.Holds X (V m) m c r.2) ∧ ∀ g' : GSem nD τ sig, (g'.1.2 ≠ .tc ∨ g'.2.isScoped .tc = true) → r.2.sem g' = 0) := by
  refine X.arrays_main (V m) Y cfgs Gen.cellOf_inj 0 Gen.winFacts0.to₀ own_sems ⟨Fin.elim0⟩ Gen.N_0 defs₀ Variants.none (landed m) (fun i => i.elim)
    (fun _ _ _ _ h => nomatch h) cmds cmds_ok ?_ m ρ ?_
  · intro c t R
    show _ ⊢ wp frame (wpE (defs₀ (F := F)) Variants.none (c.tc : Thread nD τ) none) Set.univ (Gen.bodyAt0 t) (fun _ => R)
    rw [body t, wp_deviceId]
  · intro c b
    cases b
    exacts [V_arg0 m c, V_arg1 m c]

/-- The whole run: on every device the results are the other core's arguments, the arguments are as they were, every
    counter is zero. -/
theorem run_main (ρ : Dev nD → PrngReg) :
    θ_run (defs (F := F)) (onTc (τ := τ) (main (F := F))) ⟨m, fun _ => 0, ρ⟩ (fun r => (∀ c : Dev nD,
      r.2.mem ((c.tc : Thread nD τ).loc main_v1_0) = inA m (sibling c)
      ∧ r.2.mem ((c.tc : Thread nD τ).loc main_v1_1) = inB m (sibling c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).2 .a).trans (V_a m c), ((h.1 c).2 .b).trans (V_b m c), (h.1 c).1 .a, (h.1 c).1 .b⟩,
    sem_eq_zero_of_scoped (by decide) h.2⟩) (runs m ρ)

end Cert.SwapReduced
-- ==== Proof.Deliver.lean ====
/- # The partial gradients to the chips that reduce them

   Of each of two arrays of four blocks a device sends block `q` to the same core of chip `q`, and of a third array it
   sends the whole to each; what it has for its own chip it copies into place itself. Block `q` of a result is then what
   the device of chip `q` had for this chip. -/
module

public import proofs.«01_k».proof.Proof.Parts
public import proofs.«01_k».proof.Proof.Pair
public import proofs.«01_k».proof.Proof.Gen.ToOwnerIdeal.Frame

@[expose] public section

set_option maxRecDepth 16384

noncomputable section

namespace Cert.Deliver

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exchange Cert.ToOwnerIdeal
open Cert.ToOwnerIdeal.Facts₀

/-- The arrays; each is one local copy. -/
inductive Arr | a | b | s
  deriving DecidableEq

/-- The other chips, by the coordinates that differ. -/
inductive Hop | x | y | xy
  deriving DecidableEq

/-- The remote copies: of an array to another chip. -/
structure Rem where
  hop : Hop
  arr : Arr
  deriving DecidableEq

instance : Fintype Arr := ⟨{.a, .b, .s}, fun p => by cases p <;> decide⟩
instance : Fintype Hop := ⟨{.x, .y, .xy}, fun p => by cases p <;> decide⟩

def Rem.equiv : Hop × Arr ≃ Rem where
  toFun x := ⟨x.1, x.2⟩
  invFun k := (k.hop, k.arr)
  left_inv _ := rfl
  right_inv _ := rfl

instance : Fintype Rem := Fintype.ofEquiv _ Rem.equiv

def Arr.shape : Arr → Shape | .a => S1544x2048 | .b => S512x2048 | .s => S1560x128
def Arr.elt : Arr → EltTy | .a => .bf16 | .b => .bf16 | .s => .f32

/-! ## The views -/

def fromA (off : Fin 3 → ℕ) (h : ∀ a, off a + S1x1544x2048.size a ≤ S4x1544x2048.size a) : Memref sig .tc .hbm S1544x2048 .bf16 :=
  ((Memref.whole main_arg0).slice (Rect.unit (s := S4x1544x2048) off S1x1544x2048.size h) (fun _ => rfl)).squeeze S1544x2048 squeezes_S1x1544x2048_S1544x2048
def fromB (off : Fin 3 → ℕ) (h : ∀ a, off a + S1x512x2048.size a ≤ S4x512x2048.size a) : Memref sig .tc .hbm S512x2048 .bf16 :=
  ((Memref.whole main_arg1).slice (Rect.unit (s := S4x512x2048) off S1x512x2048.size h) (fun _ => rfl)).squeeze S512x2048 squeezes_S1x512x2048_S512x2048

def remSrc : (h : Hop) → (k : Arr) → Dev nD → Memref sig .tc .hbm k.shape k.elt
  | .x, .a, d => fromA (k0_off4 d) (k0_off4_inb d) | .x, .b, d => fromB (k0_off5 d) (k0_off5_inb d)
  | .y, .a, d => fromA (k0_off6 d) (k0_off6_inb d) | .y, .b, d => fromB (k0_off7 d) (k0_off7_inb d)
  | .xy, .a, d => fromA (k0_off8 d) (k0_off8_inb d) | .xy, .b, d => fromB (k0_off9 d) (k0_off9_inb d)
  | _, .s, _ => Memref.whole main_arg2

def ownSrc : (k : Arr) → Dev nD → Memref sig .tc .hbm k.shape k.elt
  | .a, d => fromA (k0_off1 d) (k0_off1_inb d) | .b, d => fromB (k0_off2 d) (k0_off2_inb d) | .s, _ => Memref.whole main_arg2

/-- Where a device's copies go, on its own chip and on the others: the block of its chip. -/
def dst : (k : Arr) → Dev nD → Memref sig .tc .hbm k.shape k.elt
  | .a, d => ((Memref.whole main_v1_0).slice (Rect.unit (s := S4x1544x2048) (k0_off1 d) S1x1544x2048.size (k0_off1_inb d)) (fun _ => rfl)).squeeze S1544x2048 squeezes_S1x1544x2048_S1544x2048
  | .b, d => ((Memref.whole main_v1_1).slice (Rect.unit (s := S4x512x2048) (k0_off2 d) S1x512x2048.size (k0_off2_inb d)) (fun _ => rfl)).squeeze S512x2048 squeezes_S1x512x2048_S512x2048
  | .s, d => ((Memref.whole main_v1_2).slice (Rect.unit (s := S4x1560x128) (k0_off3 d) S1x1560x128.size (k0_off3_inb d)) (fun _ => rfl)).squeeze S1560x128 squeezes_S1x1560x128_S1560x128

def target : Hop → Arr → Dev nD → Dev nD
  | .x, .a, d => ⟨k0_dev1 d, k0_dev1_lt d⟩ | .x, .b, d => ⟨k0_dev2 d, k0_dev2_lt d⟩ | .x, .s, d => ⟨k0_dev3 d, k0_dev3_lt d⟩
  | .y, .a, d => ⟨k0_dev4 d, k0_dev4_lt d⟩ | .y, .b, d => ⟨k0_dev5 d, k0_dev5_lt d⟩ | .y, .s, d => ⟨k0_dev6 d, k0_dev6_lt d⟩
  | .xy, .a, d => ⟨k0_dev7 d, k0_dev7_lt d⟩ | .xy, .b, d => ⟨k0_dev8 d, k0_dev8_lt d⟩ | .xy, .s, d => ⟨k0_dev9 d, k0_dev9_lt d⟩

/-! ## The semaphores -/

def Arr.no : Arr → ℕ | .a => 0 | .b => 1 | .s => 2
def Hop.no : Hop → ℕ | .x => 0 | .y => 1 | .xy => 2
def Rem.no (k : Rem) : ℕ := 3 * k.hop.no + k.arr.no

theorem Arr.no_lt (i : Arr) : i.no < 3 := by cases i <;> decide
theorem Rem.no_lt (k : Rem) : k.no < 9 := by revert k; decide

def sndSem (k : Rem) : DmaSem sig := ⟨k.no, by have := k.no_lt; show k.no < 21; omega⟩
def rcvSem (k : Rem) : DmaSem sig := ⟨9 + k.no, by have := k.no_lt; show 9 + k.no < 21; omega⟩
def ownSem (i : Arr) : DmaSem sig := ⟨18 + i.no, by have := i.no_lt; show 18 + i.no < 21; omega⟩

theorem no_inj : ∀ k k' : Rem, k.no = k'.no → k = k' := by decide
theorem own_no_inj : ∀ i i' : Arr, i.no = i'.no → i = i' := by decide

theorem sem_inj : Function.Injective (Sum.elim sndSem (Sum.elim rcvSem ownSem)) := by
  rintro (k | k | k) (k' | k' | k') h <;> have h := congrArg Fin.val h <;>
    simp only [Sum.elim_inl, Sum.elim_inr, sndSem, rcvSem, ownSem] at h
  · rw [no_inj _ _ h]
  · have := k.no_lt; omega
  · have := k.no_lt; omega
  · have := k'.no_lt; omega
  · rw [no_inj k k' (by omega)]
  · have := k.no_lt; omega
  · have := k'.no_lt; omega
  · have := k'.no_lt; omega
  · rw [own_no_inj k k' (by omega)]

/-! ## The exchange -/

def Arr.units (k : Arr) : ℕ := (dst k 0).view.dmaCredit
theorem units_pos : ∀ k : Arr, 0 < k.units := by decide +kernel

theorem remSrc_exact : ∀ (h : Hop) (k : Arr) (d : Dev nD), (remSrc h k d).view.WordExact
  | .x, .a, d => ((Memref.isWhole_whole main_arg0).wordExact_slice rfl _ (k0_off4_wordsbf16 d)).reshape _ _
  | .x, .b, d => ((Memref.isWhole_whole main_arg1).wordExact_slice rfl _ (k0_off5_wordsbf16 d)).reshape _ _
  | .y, .a, d => ((Memref.isWhole_whole main_arg0).wordExact_slice rfl _ (k0_off6_wordsbf16 d)).reshape _ _
  | .y, .b, d => ((Memref.isWhole_whole main_arg1).wordExact_slice rfl _ (k0_off7_wordsbf16 d)).reshape _ _
  | .xy, .a, d => ((Memref.isWhole_whole main_arg0).wordExact_slice rfl _ (k0_off8_wordsbf16 d)).reshape _ _
  | .xy, .b, d => ((Memref.isWhole_whole main_arg1).wordExact_slice rfl _ (k0_off9_wordsbf16 d)).reshape _ _
  | .x, .s, _ => (Memref.isWhole_whole main_arg2).wordExact
  | .y, .s, _ => (Memref.isWhole_whole main_arg2).wordExact
  | .xy, .s, _ => (Memref.isWhole_whole main_arg2).wordExact

theorem dst_exact : ∀ (k : Arr) (d : Dev nD), (dst k d).view.WordExact
  | .a, d => ((Memref.isWhole_whole main_v1_0).wordExact_slice rfl _ (k0_off1_wordsbf16 d)).reshape _ _
  | .b, d => ((Memref.isWhole_whole main_v1_1).wordExact_slice rfl _ (k0_off2_wordsbf16 d)).reshape _ _
  | .s, d => (View.wordExact_bits rfl).reshape _ _

/-- The copies of the exchange. -/
def X : Copies nD τ sig Rem Arr where
  shape k := k.arr.shape
  elt k := k.arr.elt
  src k := remSrc k.hop k.arr
  dst k := dst k.arr
  peer k := target k.hop k.arr
  snd := sndSem
  rcv := rcvSem
  lshape := Arr.shape
  lelt := Arr.elt
  lsrc := ownSrc
  ldst := dst
  lsem := ownSem
  dep _ := none
  lvl _ := 1
  amt k := k.arr.units
  lamt := Arr.units
  src_exact k d := remSrc_exact k.hop k.arr d
  dst_exact k d := dst_exact k.arr d
  lsrc_exact := fun
    | .a, d => ((Memref.isWhole_whole main_arg0).wordExact_slice rfl _ (k0_off1_wordsbf16 d)).reshape _ _
    | .b, d => ((Memref.isWhole_whole main_arg1).wordExact_slice rfl _ (k0_off2_wordsbf16 d)).reshape _ _
    | .s, d => (Memref.isWhole_whole main_arg2).wordExact
  ldst_exact := dst_exact
  dst_tc k c := by rcases k with ⟨h, k⟩; cases k <;> rfl
  src_credit k c := by rcases k with ⟨h, k⟩; cases h <;> cases k <;> rfl
  dst_credit k c := by rcases k with ⟨h, k⟩; cases k <;> rfl
  ldst_credit k c := by cases k <;> rfl
  amt_pos k := units_pos k.arr
  lamt_pos := units_pos
  peer_peer := by decide +kernel
  sem_inj := sem_inj
  dep_inj x y k hx hy := nomatch hx
  lvl_pos _ := Nat.one_pos
  routes k c := by revert k c; decide +kernel

/-- The order the copies are taken in. -/
def order : List Rem := [⟨.x, .a⟩, ⟨.x, .b⟩, ⟨.x, .s⟩, ⟨.y, .a⟩, ⟨.y, .b⟩, ⟨.y, .s⟩, ⟨.xy, .a⟩, ⟨.xy, .b⟩, ⟨.xy, .s⟩]

/-- The kernel's commands. -/
def cmds : List (Cmd Rem Arr) :=
  [.lstart .a, .lstart .b, .lstart .s] ++ order.map .start ++ order.flatMap (fun k => [.left k, .landed k]) ++ [.lwait .a, .lwait .b, .lwait .s]

theorem cmds_ok : X.Ok [] cmds := by decide +kernel

variable {F : FTy → Type} [FloatOps F]

local notation "𝕄" => MT nD τ sig Unit (Elt F) ℕ (UR sig nD τ × UR sig nD τ) ℕ

theorem body (t : Fin cfg0.N) : Gen.bodyAt0 (F := F) t = .op .deviceId (fun d => X.run d (.ret (⟨⟩ : PUnit)) cmds) := by
  rfl

/-! ## The contents -/

/-- The device of chip `q` on the core of device `c`. -/
def mate (c : Fin 8) (q : ℕ) : Fin 8 := ⟨(2 * q + c % 2) % 8, Nat.mod_lt _ (by decide)⟩

variable {α : Type} {r n : ℕ}

/-- What the devices of a core have for the chip of device `c`. -/
def delivered (f : Fin 8 → (⟨3, ![4, r, n]⟩ : Shape).Idx → α) (c : Fin 8) (i : (⟨3, ![4, r, n]⟩ : Shape).Idx) : α :=
  f (mate c (i 0 : Fin 4)) (triple ⟨(c : ℕ) / 2, by omega⟩ (i 1 : Fin r) (i 2 : Fin n))

/-- What the devices of a core have for all. -/
def gathered (f : Fin 8 → (⟨2, ![r, n]⟩ : Shape).Idx → α) (c : Fin 8) (i : (⟨3, ![4, r, n]⟩ : Shape).Idx) : α :=
  f (mate c (i 0 : Fin 4)) (pair (i 1 : Fin r) (i 2 : Fin n))

/-- Block `off' 0` of device `c` lands in block `off 0` of device `c'`. -/
theorem carry_block (f : Fin 8 → (⟨3, ![4, r, n]⟩ : Shape).Idx → α) (off' : Fin 3 → ℕ) (inb') (h') (off : Fin 3 → ℕ) (inb) (h) {c c' : Fin 8}
    (hc : mate c' (off 0) = c) (h0 : off' 0 = (c' : ℕ) / 2) (hs : ∀ a : Fin 2, off' a.succ = 0 ∧ off a.succ = 0) (x : (⟨2, ![r, n]⟩ : Shape).Idx) :
    f c ((Rect.unit (s := ⟨3, ![4, r, n]⟩) off' ![1, r, n] inb').emb (Shape.reshapeEquiv h' x))
      = delivered f c' ((Rect.unit (s := ⟨3, ![4, r, n]⟩) off ![1, r, n] inb).emb (Shape.reshapeEquiv h x)) := by
  have e := emb_drop_one off inb h x
  unfold delivered
  rw [show mate c' _ = c from (congrArg (mate c') (e 0)).trans hc]
  refine congrArg (f c) (funext fun a => Fin.ext ((emb_drop_one off' inb' h' x a).trans ?_))
  match a with
  | 0 => exact h0
  | 1 => exact ((congrArg (· + (x 0 : ℕ)) ((hs 0).1.trans (hs 0).2.symm))).trans (e 1).symm
  | 2 => exact ((congrArg (· + (x 1 : ℕ)) ((hs 1).1.trans (hs 1).2.symm))).trans (e 2).symm

/-- The whole of device `c` lands in block `off 0` of device `c'`. -/
theorem carry_whole (f : Fin 8 → (⟨2, ![r, n]⟩ : Shape).Idx → α) (off : Fin 3 → ℕ) (inb) (h) {c c' : Fin 8}
    (hc : mate c' (off 0) = c) (hs : ∀ a : Fin 2, off a.succ = 0) (x : (⟨2, ![r, n]⟩ : Shape).Idx) :
    f c x = gathered f c' ((Rect.unit (s := ⟨3, ![4, r, n]⟩) off ![1, r, n] inb).emb (Shape.reshapeEquiv h x)) := by
  have e := emb_drop_one off inb h x
  unfold gathered
  rw [show mate c' _ = c from (congrArg (mate c') (e 0)).trans hc]
  refine congrArg (f c) (funext fun a => Fin.ext ?_)
  match a with
  | 0 => exact ((e 1).trans ((congrArg (· + (x 0 : ℕ)) (hs 0)).trans (Nat.zero_add _))).symm
  | 1 => exact ((e 2).trans ((congrArg (· + (x 1 : ℕ)) (hs 1)).trans (Nat.zero_add _))).symm

variable (m : (ℓ : Loc nD τ sig) → Buf (Elt F) ℓ)

def inA (c : Dev nD) : S4x1544x2048.Idx → Elt F .bf16 := m ((c.tc : Thread nD τ).loc main_arg0)
def inB (c : Dev nD) : S4x512x2048.Idx → Elt F .bf16 := m ((c.tc : Thread nD τ).loc main_arg1)
def inS (c : Dev nD) : S1560x128.Idx → Elt F .f32 := m ((c.tc : Thread nD τ).loc main_arg2)
def outA (c : Dev nD) : S4x1544x2048.Idx → Elt F .bf16 := delivered (inA m) c
def outB (c : Dev nD) : S4x512x2048.Idx → Elt F .bf16 := delivered (inB m) c
def outS (c : Dev nD) : S4x1560x128.Idx → Elt F .f32 := gathered (inS m) c

/-- The contents the exchange ends with. -/
def V (c : Dev nD) : (b : Ref sig .tc) → Buf (Elt F) ((c.tc : Thread nD τ).loc b) :=
  Function.update (Function.update (Function.update (fun b => m ((c.tc : Thread nD τ).loc b)) main_v1_0 (outA m c)) main_v1_1 (outB m c)) main_v1_2 (outS m c)

theorem V_a (c : Dev nD) : V m c main_v1_0 = outA m c := by
  unfold V; rw [Function.update_of_ne (by decide), Function.update_of_ne (by decide), Function.update_self]
theorem V_b (c : Dev nD) : V m c main_v1_1 = outB m c := by
  unfold V; rw [Function.update_of_ne (by decide), Function.update_self]
theorem V_s (c : Dev nD) : V m c main_v1_2 = outS m c := by unfold V; rw [Function.update_self]
theorem V_of (c : Dev nD) (b : Ref sig .tc) (h0 : b ≠ main_v1_0) (h1 : b ≠ main_v1_1) (h2 : b ≠ main_v1_2) :
    V m c b = m ((c.tc : Thread nD τ).loc b) := by
  unfold V; rw [Function.update_of_ne h2, Function.update_of_ne h1, Function.update_of_ne h0]
theorem V_arg0 (c : Dev nD) : V m c main_arg0 = inA m c := V_of m c _ (by decide) (by decide) (by decide)
theorem V_arg1 (c : Dev nD) : V m c main_arg1 = inB m c := V_of m c _ (by decide) (by decide) (by decide)
theorem V_arg2 (c : Dev nD) : V m c main_arg2 = inS m c := V_of m c _ (by decide) (by decide) (by decide)

/-! ## What a copy carries -/

/-- The blocks sent to the other chips. -/
def offA : Hop → Dev nD → Fin 3 → ℕ | .x => k0_off4 | .y => k0_off6 | .xy => k0_off8
def offB : Hop → Dev nD → Fin 3 → ℕ | .x => k0_off5 | .y => k0_off7 | .xy => k0_off9

theorem mates : ∀ (h : Hop) (c : Dev nD), mate (target h .a c) (k0_off1 c 0) = c ∧ mate (target h .b c) (k0_off2 c 0) = c
    ∧ mate (target h .s c) (k0_off3 c 0) = c := by decide +kernel
theorem own_mate : ∀ (c : Dev nD), mate c (k0_off1 c 0) = c ∧ mate c (k0_off2 c 0) = c ∧ mate c (k0_off3 c 0) = c
    ∧ k0_off1 c 0 = (c : ℕ) / 2 ∧ k0_off2 c 0 = (c : ℕ) / 2 := by decide +kernel
theorem chips : ∀ (h : Hop) (c : Dev nD), offA h c 0 = (target h .a c : ℕ) / 2 ∧ offB h c 0 = (target h .b c : ℕ) / 2 := by decide +kernel
theorem flat : ∀ (c : Dev nD) (a : Fin 2), k0_off1 c a.succ = 0 ∧ k0_off2 c a.succ = 0 ∧ k0_off3 c a.succ = 0 := by decide +kernel
theorem flat_off : ∀ (h : Hop) (c : Dev nD) (a : Fin 2), offA h c a.succ = 0 ∧ offB h c a.succ = 0 := by decide +kernel

theorem offA_inb (h : Hop) (c : Dev nD) : ∀ a, offA h c a + S1x1544x2048.size a ≤ S4x1544x2048.size a := by
  cases h; exacts [k0_off4_inb c, k0_off6_inb c, k0_off8_inb c]
theorem offB_inb (h : Hop) (c : Dev nD) : ∀ a, offB h c a + S1x512x2048.size a ≤ S4x512x2048.size a := by
  cases h; exacts [k0_off5_inb c, k0_off7_inb c, k0_off9_inb c]

section Landed

variable (c : Dev nD)

theorem brings_a (h : Hop) (x : S1544x2048.Idx) :
    V m c main_arg0 ((fromA (offA h c) (offA_inb h c)).view.emb x) = V m (target h .a c) main_v1_0 ((dst .a c).view.emb x) := by
  rw [V_arg0, V_a]
  exact carry_block (inA m) (offA h c) (offA_inb h c) _ (k0_off1 c) (k0_off1_inb c) _ (mates h c).1 (chips h c).1
    (fun a => ⟨(flat_off h c a).1, (flat c a).1⟩) x

theorem brings_b (h : Hop) (x : S512x2048.Idx) :
    V m c main_arg1 ((fromB (offB h c) (offB_inb h c)).view.emb x) = V m (target h .b c) main_v1_1 ((dst .b c).view.emb x) := by
  rw [V_arg1, V_b]
  exact carry_block (inB m) (offB h c) (offB_inb h c) _ (k0_off2 c) (k0_off2_inb c) _ (mates h c).2.1 (chips h c).2
    (fun a => ⟨(flat_off h c a).2, (flat c a).2.1⟩) x

theorem brings_s (h : Hop) (x : S1560x128.Idx) : V m c main_arg2 x = V m (target h .s c) main_v1_2 ((dst .s c).view.emb x) := by
  rw [V_arg2, V_s]
  exact carry_whole (inS m) (k0_off3 c) (k0_off3_inb c) _ (mates h c).2.2 (fun a => (flat c a).2.2) x

theorem landed (k : Rem) (c : Dev nD) (fd : Buf (Elt F) ((X.dst k c).view.loc ((X.peer k c).tc : Thread nD τ))) : ∀ i ∈ (X.dst k c).view.set,
    (X.dst k c).view.write (Elt F) fd ((X.src k c).view.read (Elt F) (V m c (X.src k c).view.ref)) Finset.univ i = V m (X.peer k c) (X.dst k c).view.ref i := by
  refine write_read_eq (src := X.src k c) (dst := X.dst k c) _ _ _ fun x => ?_
  rcases k with ⟨h, k⟩
  cases k
  · cases h; exacts [brings_a m c .x x, brings_a m c .y x, brings_a m c .xy x]
  · cases h; exacts [brings_b m c .x x, brings_b m c .y x, brings_b m c .xy x]
  · cases h; exacts [brings_s m c .x x, brings_s m c .y x, brings_s m c .xy x]

end Landed

theorem stored (i : Arr) (c : Dev nD) (fd : Buf (Elt F) ((X.ldst i c).view.loc (c.tc : Thread nD τ))) : ∀ j ∈ (X.ldst i c).view.set,
    (X.ldst i c).view.write (Elt F) fd ((X.lsrc i c).view.read (Elt F) (V m c (X.lsrc i c).view.ref)) Finset.univ j = V m c (X.ldst i c).view.ref j := by
  refine write_read_eq (src := X.lsrc i c) (dst := X.ldst i c) _ _ _ fun x => ?_
  have h := own_mate c
  cases i
  · show V m c main_arg0 _ = V m c main_v1_0 _
    rw [V_arg0, V_a]
    exact carry_block (inA m) (k0_off1 c) (k0_off1_inb c) _ (k0_off1 c) (k0_off1_inb c) _ h.1 h.2.2.2.1 (fun a => ⟨(flat c a).1, (flat c a).1⟩) x
  · show V m c main_arg1 _ = V m c main_v1_1 _
    rw [V_arg1, V_b]
    exact carry_block (inB m) (k0_off2 c) (k0_off2_inb c) _ (k0_off2 c) (k0_off2_inb c) _ h.2.1 h.2.2.2.2 (fun a => ⟨(flat c a).2.1, (flat c a).2.1⟩) x
  · show V m c main_arg2 _ = V m c main_v1_2 _
    rw [V_arg2, V_s]
    exact carry_whole (inS m) (k0_off3 c) (k0_off3_inb c) _ h.2.2.1 (fun a => (flat c a).2.2) x

/-! ## The results, piece by piece -/

theorem mem_block (off : Fin 3 → ℕ) (inb) (i : (⟨3, ![4, r, n]⟩ : Shape).Idx) :
    i ∈ (Rect.unit (s := ⟨3, ![4, r, n]⟩) off ![1, r, n] inb).set ↔ off 0 = (i 0 : ℕ) := by
  have h1 : off 1 + r ≤ r := inb 1
  have h2 : off 2 + n ≤ n := inb 2
  have i1 : (i 1 : ℕ) < r := (i 1).isLt
  have i2 : (i 2 : ℕ) < n := (i 2).isLt
  rw [Rect.mem_set_unit]
  refine ⟨fun h => ?_, fun e a => ?_⟩
  · have h0 : off 0 ≤ (i 0 : ℕ) ∧ (i 0 : ℕ) < off 0 + 1 := h 0
    omega
  · match a with
    | 0 => show off 0 ≤ (i 0 : ℕ) ∧ (i 0 : ℕ) < off 0 + 1; omega
    | 1 => show off 1 ≤ (i 1 : ℕ) ∧ (i 1 : ℕ) < off 1 + r; omega
    | 2 => show off 2 ≤ (i 2 : ℕ) ∧ (i 2 : ℕ) < off 2 + n; omega

theorem mem_a (c : Dev nD) (i : S4x1544x2048.Idx) : i ∈ (dst .a c).view.set ↔ k0_off1 c 0 = (i 0 : ℕ) := by
  have e : (dst .a c).view.set = (Rect.unit (s := S4x1544x2048) (k0_off1 c) S1x1544x2048.size (k0_off1_inb c)).set :=
    (View.set_reshape _ _).trans (View.set_slice_whole _ _)
  rw [e]; exact mem_block _ _ i
theorem mem_b (c : Dev nD) (i : S4x512x2048.Idx) : i ∈ (dst .b c).view.set ↔ k0_off2 c 0 = (i 0 : ℕ) := by
  have e : (dst .b c).view.set = (Rect.unit (s := S4x512x2048) (k0_off2 c) S1x512x2048.size (k0_off2_inb c)).set :=
    (View.set_reshape _ _).trans (View.set_slice_whole _ _)
  rw [e]; exact mem_block _ _ i
theorem mem_s (c : Dev nD) (i : S4x1560x128.Idx) : i ∈ (dst .s c).view.set ↔ k0_off3 c 0 = (i 0 : ℕ) := by
  have e : (dst .s c).view.set = (Rect.unit (s := S4x1560x128) (k0_off3 c) S1x1560x128.size (k0_off3_inb c)).set :=
    (View.set_reshape _ _).trans (View.set_slice_whole _ _)
  rw [e]; exact mem_block _ _ i

def out : Arr → Ref sig .tc | .a => main_v1_0 | .b => main_v1_1 | .s => main_v1_2
def arg : Arr → Ref sig .tc | .a => main_arg0 | .b => main_arg1 | .s => main_arg2
def array : Rem ⊕ Arr → Arr | .inl k => k.arr | .inr i => i

/-- The device a copy into device `c` comes from. -/
def sender (c : Dev nD) : Rem ⊕ Arr → Dev nD | .inl k => target k.hop k.arr c | .inr _ => c

/-- The part of each result that a copy from device `d` writes. -/
def part (c : Dev nD) : (o : Arr) → Rem ⊕ Arr → Finset (Idx ((c.tc : Thread nD τ).loc (out o)))
  | .a, j => (dst .a (sender c j)).view.set | .b, j => (dst .b (sender c j)).view.set | .s, j => (dst .s (sender c j)).view.set

/-- Which copy brings block `q`. -/
def bringer (c : Dev nD) (o : Arr) (q : Fin 4) : Rem ⊕ Arr :=
  if q.val = c.val / 2 then .inr o else
    .inl ⟨if q.val = (c.val / 2 + 2) % 4 then .x else if q.val / 2 = c.val / 4 then .y else .xy, o⟩

def offD : Arr → Dev nD → Fin 3 → ℕ | .a => k0_off1 | .b => k0_off2 | .s => k0_off3

theorem bringer_spec : ∀ (c : Dev nD) (o : Arr) (q : Fin 4) (j : Rem ⊕ Arr),
    (array j = o ∧ offD o (sender c j) 0 = q) ↔ j = bringer c o q := by decide +kernel

theorem one (c : Dev nD) : ∀ (o : Arr) (i : Idx ((c.tc : Thread nD τ).loc (out o))), ∃ j, ∀ j', (array j' = o ∧ i ∈ part c o j') ↔ j' = j
  | .a => fun (i : S4x1544x2048.Idx) => ⟨bringer c .a (i 0), fun j' => (and_congr_right fun _ => mem_a _ i).trans (bringer_spec c .a (i 0) j')⟩
  | .b => fun (i : S4x512x2048.Idx) => ⟨bringer c .b (i 0), fun j' => (and_congr_right fun _ => mem_b _ i).trans (bringer_spec c .b (i 0) j')⟩
  | .s => fun (i : S4x1560x128.Idx) => ⟨bringer c .s (i 0), fun j' => (and_congr_right fun _ => mem_s _ i).trans (bringer_spec c .s (i 0) j')⟩

/-- The exchange's arrays. -/
def Y : X.Arrays (Val := Elt F) Arr Arr where
  out := out
  arg := arg
  arr := array
  set := part
  one := one
  inj := by decide
  all := by decide
  unscoped x := by rcases x with x | x <;> cases x <;> rfl
  piece_eq c k q f := by rcases k with ⟨h, k⟩; cases k <;> rfl
  lpiece_eq c i q f := by cases i <;> rfl
  reads k _ := by
    rcases k with ⟨h, k⟩
    cases k
    · cases h; exacts [⟨.a, fun _ => rfl⟩, ⟨.a, fun _ => rfl⟩, ⟨.a, fun _ => rfl⟩]
    · cases h; exacts [⟨.b, fun _ => rfl⟩, ⟨.b, fun _ => rfl⟩, ⟨.b, fun _ => rfl⟩]
    · cases h; exacts [⟨.s, fun _ => rfl⟩, ⟨.s, fun _ => rfl⟩, ⟨.s, fun _ => rfl⟩]
  lreads i := by cases i; exacts [⟨.a, fun _ => rfl⟩, ⟨.b, fun _ => rfl⟩, ⟨.s, fun _ => rfl⟩]

/-! ## The run -/

theorem own_sems : Pipeline.OwnSemFacts (cfgs 0).spec X.semOf := by decide +kernel

theorem runs (ρ : Dev nD → PrngReg) :
    θ_run (defs (F := F)) (onTc (τ := τ) (main (F := F))) ⟨m, fun _ => 0, ρ⟩ (fun r =>
      (∀ c : Dev nD, Y.Holds X (V m) m c r.2) ∧ ∀ g' : GSem nD τ sig, (g'.1.2 ≠ .tc ∨ g'.2.isScoped .tc = true) → r.2.sem g' = 0) := by
  refine X.arrays_main (V m) Y cfgs Gen.cellOf_inj 0 Gen.winFacts0.to₀ own_sems ⟨Fin.elim0⟩ Gen.N_0 defs₀ Variants.none (landed m) (stored m)
    (fun _ _ _ _ h => nomatch h) cmds cmds_ok ?_ m ρ ?_
  · intro c t R
    show _ ⊢ wp frame (wpE (defs₀ (F := F)) Variants.none (c.tc : Thread nD τ) none) Set.univ (Gen.bodyAt0 t) (fun _ => R)
    rw [body t, wp_deviceId]
  · intro c b
    cases b
    exacts [V_arg0 m c, V_arg1 m c, V_arg2 m c]

/-- The whole run: on every device the results are what was delivered, the arguments are as they were, every counter is
    zero. -/
theorem run_main (ρ : Dev nD → PrngReg) :
    θ_run (defs (F := F)) (onTc (τ := τ) (main (F := F))) ⟨m, fun _ => 0, ρ⟩ (fun r => (∀ c : Dev nD,
      r.2.mem ((c.tc : Thread nD τ).loc main_v1_0) = outA m c
      ∧ r.2.mem ((c.tc : Thread nD τ).loc main_v1_1) = outB m c
      ∧ r.2.mem ((c.tc : Thread nD τ).loc main_v1_2) = outS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).2 .a).trans (V_a m c), ((h.1 c).2 .b).trans (V_b m c), ((h.1 c).2 .s).trans (V_s m c),
    (h.1 c).1 .a, (h.1 c).1 .b, (h.1 c).1 .s⟩, sem_eq_zero_of_scoped (by decide) h.2⟩) (runs m ρ)

end Cert.Deliver
-- ==== Proof.DeliverValue.lean ====
/- # What the chips are sent, as blocks of arrays of all the devices

   What a device has in the end is its block of the whole array with the chip that sends and the chip that receives
   exchanged; of the third array, which goes to every chip whole, it is all that the devices of its core have. -/
module

public import proofs.«01_k».proof.Proof.Deliver

@[expose] public section

noncomputable section

namespace Cert.Deliver

open Idealize.ShloMosaic Cert.Exchange

variable {α : Type} {r n R : ℕ}

theorem mate_val (c : Fin 8) (q : Fin 4) : (mate c q : ℕ) = 2 * (q : ℕ) + (c : ℕ) % 2 := by
  show (2 * (q : ℕ) + (c : ℕ) % 2) % 8 = _
  omega

/-- Blocks for each chip: the whole array read as sender's chip, core, receiver's chip, with the chips exchanged. -/
theorem delivered_block (v : (⟨3, ![32, r, n]⟩ : Shape).Idx → α) (ht) (h1) (hp) (h2) (c : Fin 8) :
    delivered (fun d => Layout.block ⟨3, ![4, r, n]⟩ ⟨3, ![32, r, n]⟩ 0 8 d v ht) c
      = Layout.block ⟨3, ![4, r, n]⟩ ⟨3, ![32, r, n]⟩ 0 8 c (shapeCast ⟨3, ![32, r, n]⟩
          (transpose ⟨5, ![4, 2, 4, r, n]⟩ [2, 1, 0, 3, 4] (shapeCast ⟨5, ![4, 2, 4, r, n]⟩ v h1) hp) h2) ht := by
  funext i
  have e (d : Fin 8) (j : (⟨3, ![4, r, n]⟩ : Shape).Idx) : (ht.idx d j 0 : ℕ) = (d : ℕ) * 4 + (j 0 : ℕ) ∧ (ht.idx d j 1 : ℕ) = (j 1 : ℕ) ∧ (ht.idx d j 2 : ℕ) = (j 2 : ℕ) :=
    ⟨Layout.Tiles.idx_val ht d j 0, Layout.Tiles.idx_val ht d j 1, Layout.Tiles.idx_val ht d j 2⟩
  have i0 : (i 0 : ℕ) < 4 := (i 0).isLt
  refine Eq.trans (Layout.block_apply ..) ?_
  rw [Layout.block_apply,
    shapeCast_apply _ h2 (ht.idx c i) (quint (⟨(c : ℕ) / 2, by omega⟩ : Fin 4) (⟨(c : ℕ) % 2, by omega⟩ : Fin 2) (i 0 : Fin 4) (i 1) (i 2)) (by
      rw [Shape.rowMajor_val_three, Shape.rowMajor_val_five, (e c i).1, (e c i).2.1, (e c i).2.2]
      show (((((c : ℕ) / 2) * 2 + (c : ℕ) % 2) * 4 + (i 0 : ℕ)) * r + (i 1 : ℕ)) * n + (i 2 : ℕ) = (((c : ℕ) * 4 + (i 0 : ℕ)) * r + (i 1 : ℕ)) * n + (i 2 : ℕ)
      rw [Nat.div_add_mod']),
    transpose_apply [2, 1, 0, 3, 4] _ hp _ (quint (i 0 : Fin 4) (⟨(c : ℕ) % 2, by omega⟩ : Fin 2) (⟨(c : ℕ) / 2, by omega⟩ : Fin 4) (i 1) (i 2))
      (fun b => by fin_cases b <;> rfl)]
  refine (shapeCast_apply v h1 _ _ ?_).symm
  have hd := e (mate c (i 0 : Fin 4)) (triple (⟨(c : ℕ) / 2, by omega⟩ : Fin 4) (i 1 : Fin r) (i 2 : Fin n))
  rw [Shape.rowMajor_val_three, Shape.rowMajor_val_five, hd.1, hd.2.1, hd.2.2, show (mate c ((i 0 : Fin 4) : ℕ) : ℕ) = 2 * (i 0 : ℕ) + (c : ℕ) % 2 from mate_val c (i 0)]
  show (((2 * (i 0 : ℕ) + (c : ℕ) % 2) * 4 + (c : ℕ) / 2) * r + (i 1 : ℕ)) * n + (i 2 : ℕ)
    = ((((i 0 : ℕ) * 2 + (c : ℕ) % 2) * 4 + (c : ℕ) / 2) * r + (i 1 : ℕ)) * n + (i 2 : ℕ)
  ring

/-- An array for all: the parts of a core's devices, one after the other, for every chip. -/
theorem gathered_block (hR : R = 8 * r) (v : (⟨2, ![R, n]⟩ : Shape).Idx → α) (ht) (ht') (h1) (hp) (hb) (h2) (c : Fin 8) :
    gathered (fun d => Layout.block ⟨2, ![r, n]⟩ ⟨2, ![R, n]⟩ 0 8 d v ht) c
      = Layout.block ⟨3, ![4, r, n]⟩ ⟨3, ![32, r, n]⟩ 0 8 c (shapeCast ⟨3, ![32, r, n]⟩
          (broadcastInDim ⟨5, ![4, 2, 4, r, n]⟩ ![1, 2, 3, 4] hb
            (transpose ⟨4, ![2, 4, r, n]⟩ [1, 0, 2, 3] (shapeCast ⟨4, ![4, 2, r, n]⟩ v h1) hp)) h2) ht' := by
  funext i
  have e (d : Fin 8) (j : (⟨2, ![r, n]⟩ : Shape).Idx) : (ht.idx d j 0 : ℕ) = (d : ℕ) * r + (j 0 : ℕ) ∧ (ht.idx d j 1 : ℕ) = (j 1 : ℕ) :=
    ⟨Layout.Tiles.idx_val ht d j 0, Layout.Tiles.idx_val ht d j 1⟩
  have e' : (ht'.idx c i 0 : ℕ) = (c : ℕ) * 4 + (i 0 : ℕ) ∧ (ht'.idx c i 1 : ℕ) = (i 1 : ℕ) ∧ (ht'.idx c i 2 : ℕ) = (i 2 : ℕ) :=
    ⟨Layout.Tiles.idx_val ht' c i 0, Layout.Tiles.idx_val ht' c i 1, Layout.Tiles.idx_val ht' c i 2⟩
  have i0 : (i 0 : ℕ) < 4 := (i 0).isLt
  refine Eq.trans (Layout.block_apply ..) ?_
  rw [Layout.block_apply,
    shapeCast_apply _ h2 (ht'.idx c i) (quint (⟨(c : ℕ) / 2, by omega⟩ : Fin 4) (⟨(c : ℕ) % 2, by omega⟩ : Fin 2) (i 0 : Fin 4) (i 1) (i 2)) (by
      rw [Shape.rowMajor_val_three, Shape.rowMajor_val_five, e'.1, e'.2.1, e'.2.2]
      show (((((c : ℕ) / 2) * 2 + (c : ℕ) % 2) * 4 + (i 0 : ℕ)) * r + (i 1 : ℕ)) * n + (i 2 : ℕ) = (((c : ℕ) * 4 + (i 0 : ℕ)) * r + (i 1 : ℕ)) * n + (i 2 : ℕ)
      rw [Nat.div_add_mod']),
    broadcastInDim_apply (s := ⟨4, ![2, 4, r, n]⟩) (t := ⟨5, ![4, 2, 4, r, n]⟩) ![1, 2, 3, 4] hb _
      (quint (⟨(c : ℕ) / 2, by omega⟩ : Fin 4) (⟨(c : ℕ) % 2, by omega⟩ : Fin 2) (i 0 : Fin 4) (i 1 : Fin r) (i 2 : Fin n))
      (quad (⟨(c : ℕ) % 2, by omega⟩ : Fin 2) (i 0 : Fin 4) (i 1 : Fin r) (i 2 : Fin n))
      (fun | 0 => rfl | 1 => rfl | 2 => unit_or (n := r) (i 1) | 3 => unit_or (n := n) (i 2)),
    transpose_apply [1, 0, 2, 3] _ hp _ (quad (i 0 : Fin 4) (⟨(c : ℕ) % 2, by omega⟩ : Fin 2) (i 1) (i 2)) (fun b => by fin_cases b <;> rfl)]
  refine (shapeCast_apply v h1 _ _ ?_).symm
  have hd := e (mate c (i 0 : Fin 4)) (pair (i 1 : Fin r) (i 2 : Fin n))
  rw [Shape.rowMajor_val_two, Shape.rowMajor_val_four, hd.1, hd.2, show (mate c ((i 0 : Fin 4) : ℕ) : ℕ) = 2 * (i 0 : ℕ) + (c : ℕ) % 2 from mate_val c (i 0)]
  show ((2 * (i 0 : ℕ) + (c : ℕ) % 2) * r + (i 1 : ℕ)) * n + (i 2 : ℕ)
    = ((((i 0 : ℕ) * 2 + (c : ℕ) % 2)) * r + (i 1 : ℕ)) * n + (i 2 : ℕ)
  ring

end Cert.Deliver
-- ==== Proof.Step.lean ====
/- # The optimiser's update of a weight, and the gradient of two layers put together from two devices' halves

   A device holds the gradient of one of the two layers, and its sibling's array that of the other. Which is which is
   told by the number of the core: the layer whose number it is has its own array. -/
module

public import Idealize.ShloMosaic.Lib.Pipeline.Value
public import Idealize.ShloMosaic.Lib.Tactic

@[expose] public section

noncomputable section

namespace Cert.Step

open Idealize.ShloMosaic

variable {F : FTy → Type} [FloatOps F] {s s' : Shape}

/-- The first moment after a step: nine tenths of the old and a tenth of the gradient. -/
def moment (g m : FVec F s .f32) : FVec F s .f32 :=
  addf (mulf (broadcast s (Scalar.ofBits .f32 0x3F666666#32)) m) (mulf (broadcast s (Scalar.ofBits .f32 0x3DCCCCCD#32)) g)

/-- The second moment after a step: the gradient's square comes in with a thousandth. -/
def square (g v : FVec F s .f32) : FVec F s .f32 :=
  addf (mulf (broadcast s (Scalar.ofBits .f32 0x3F7FBE77#32)) v) (mulf (broadcast s (Scalar.ofBits .f32 0x3A83126F#32)) (mulf g g))

/-- What is added to the weight: both moments without their bias, one over the other's root, and the weight's decay. -/
def change (w m v : FVec F s .f32) : FVec F s .f32 :=
  mulf (broadcast s (Scalar.ofBits .f32 0xBA83126F#32))
    (addf (divf (divf m (broadcast s (Scalar.ofBits .f32 0x3F26BD02#32)))
        (addf (sqrt (divf v (broadcast s (Scalar.ofBits .f32 0x3C231ACC#32)))) (broadcast s (Scalar.ofBits .f32 0x322BCC77#32))))
      (mulf (broadcast s (Scalar.ofBits .f32 0x3C23D70A#32)) w))

theorem moment_at {g m : FVec F s .f32} {g' m' : FVec F s' .f32} {j : s.Idx} {i : s'.Idx} (hg : g j = g' i) (hm : m j = m' i) :
    moment g m j = moment g' m' i := by
  show FloatOps.addf (FloatOps.mulf _ (m j)) (FloatOps.mulf _ (g j)) = FloatOps.addf (FloatOps.mulf _ (m' i)) (FloatOps.mulf _ (g' i))
  rw [hg, hm]; rfl

theorem square_at {g v : FVec F s .f32} {g' v' : FVec F s' .f32} {j : s.Idx} {i : s'.Idx} (hg : g j = g' i) (hv : v j = v' i) :
    square g v j = square g' v' i := by
  show FloatOps.addf (FloatOps.mulf _ (v j)) (FloatOps.mulf _ (FloatOps.mulf (g j) (g j))) = FloatOps.addf (FloatOps.mulf _ (v' i)) (FloatOps.mulf _ (FloatOps.mulf (g' i) (g' i)))
  rw [hg, hv]; rfl

theorem change_at {w m v : FVec F s .f32} {w' m' v' : FVec F s' .f32} {j : s.Idx} {i : s'.Idx}
    (hw : w j = w' i) (hm : m j = m' i) (hv : v j = v' i) : change w m v j = change w' m' v' i := by
  show FloatOps.mulf _ (FloatOps.addf (FloatOps.divf (FloatOps.divf (m j) _) (FloatOps.addf (FloatOps.sqrt (FloatOps.divf (v j) _)) _)) (FloatOps.mulf _ (w j)))
    = FloatOps.mulf _ (FloatOps.addf (FloatOps.divf (FloatOps.divf (m' i) _) (FloatOps.addf (FloatOps.sqrt (FloatOps.divf (v' i) _)) _)) (FloatOps.mulf _ (w' i)))
  rw [hw, hm, hv]; rfl

/-! ## The two layers -/

variable {α : Type} {r n R : ℕ}

theorem one_index (i k : (⟨1, ![1]⟩ : Shape).Idx) : i = k :=
  funext fun a => Fin.ext (by
    have hi : (i a : ℕ) < 1 := by obtain rfl : a = 0 := Subsingleton.elim _ _; exact (i 0).isLt
    have hk : (k a : ℕ) < 1 := by obtain rfl : a = 0 := Subsingleton.elim _ _; exact (k 0).isLt
    omega)

theorem choice_at {ι β : Type} (c : BitVec 1) (x y : ι → β) (j : ι) : (Scalar.select c x y : ι → β) j = Scalar.select c (x j) (y j) := by
  show (if c = 1 then x else y) j = if c = 1 then x j else y j
  split <;> rfl

theorem same_choice {a b : BitVec 32} (x y : α) : Scalar.select (Scalar.cmpi .eq a b) x y = Scalar.select (Scalar.cmpi .eq b a) x y := by
  show Scalar.select (BitVec.ofBool (a == b)) x y = Scalar.select (BitVec.ofBool (b == a)) x y
  rw [Bool.beq_comm]

/-- The two layers of a device from its own array and its sibling's, the device's core being `c`. -/
abbrev layers (c : Vec F ⟨1, ![1]⟩ .i32) (h1 : (⟨1, ![1]⟩ : Shape).ShapeCasts ⟨0, ![]⟩) (hb : (⟨0, ![]⟩ : Shape).BroadcastsInDim ⟨2, ![r, n]⟩ ![]) (own sib : (⟨2, ![r, n]⟩ : Shape).Idx → α)
    (h : Shape.Concatenates [⟨2, ![r, n]⟩, ⟨2, ![r, n]⟩] ⟨2, ![R, n]⟩ 0) : (⟨2, ![R, n]⟩ : Shape).Idx → α :=
  concatenate ⟨2, ![R, n]⟩ 0
    [⟨⟨2, ![r, n]⟩, select (broadcastInDim ⟨2, ![r, n]⟩ ![] hb (cmpi .eq (shapeCast ⟨0, ![]⟩ c h1) (constantI ⟨0, ![]⟩ 32 0#32))) own sib⟩,
     ⟨⟨2, ![r, n]⟩, select (broadcastInDim ⟨2, ![r, n]⟩ ![] hb (cmpi .eq (shapeCast ⟨0, ![]⟩ c h1) (constantI ⟨0, ![]⟩ 32 1#32))) own sib⟩] h

/-- An element of the layer whose number is the word `w`: the device's own where that is the core, else the sibling's. -/
theorem layers_at (c : Vec F ⟨1, ![1]⟩ .i32) (h1 hb) (own sib : (⟨2, ![r, n]⟩ : Shape).Idx → α) (h)
    (i : (⟨2, ![R, n]⟩ : Shape).Idx) (k : (⟨2, ![r, n]⟩ : Shape).Idx) (q : (⟨1, ![1]⟩ : Shape).Idx) (w : BitVec 32) (L : ℕ)
    (hw : L = 0 ∧ w = 0#32 ∨ L = 1 ∧ w = 1#32) (h0 : L * r + (k 0 : ℕ) = (i 0 : ℕ)) (h1' : (k 1 : ℕ) = (i 1 : ℕ)) :
    Scalar.select (Scalar.cmpi .eq w (c q)) (own k) (sib k) = layers c h1 hb own sib h i := by
  rcases hw with ⟨rfl, rfl⟩ | ⟨rfl, rfl⟩
  · refine Eq.trans ?_ (concatenate_pair_apply_left (t := ⟨2, ![R, n]⟩) 0 _ _ h i rfl k (fun b => by
      match b with
      | ⟨0, _⟩ => show (k 0 : ℕ) = (i 0 : ℕ); omega
      | ⟨1, _⟩ => exact h1')).symm
    rw [same_choice]
    show Scalar.select (Scalar.cmpi .eq (c q) _) _ _ = Scalar.select (Scalar.cmpi .eq (c _) _) _ _
    rw [one_index q]; rfl
  · refine Eq.trans ?_ (concatenate_pair_apply_right (t := ⟨2, ![R, n]⟩) 0 _ _ h i rfl rfl k (fun b hb => by
      match b, hb with
      | ⟨0, _⟩, hb => exact absurd rfl hb
      | ⟨1, _⟩, _ => exact h1') (by show (k 0 : ℕ) + r = (i 0 : ℕ); omega)).symm
    rw [same_choice]
    show Scalar.select (Scalar.cmpi .eq (c q) _) _ _ = Scalar.select (Scalar.cmpi .eq (c _) _) _ _
    rw [one_index q]; rfl

end Cert.Step

end
-- ==== Proof.Share.lean ====
/- # A chip's own partial and the one its sibling sent, added

   Of the two halves a chip has computed it keeps the one of its own core; what it adds them to is the array received. The
   sum is taken in the wide format and rounded back. -/
module

public import proofs.«01_k».proof.Proof.Step
public import proofs.«01_k».proof.Proof.Pair

@[expose] public section

noncomputable section

namespace Cert.Share

open Idealize.ShloMosaic Cert.Exchange Cert.Step

variable {F : FTy → Type} [FloatOps F] {r n : ℕ}

/-- An array of one row of matrices, read as a matrix. -/
theorem flat_at {α : Type} (x : (⟨3, ![1, r, n]⟩ : Shape).Idx → α) (h : (⟨3, ![1, r, n]⟩ : Shape).ShapeCasts ⟨2, ![r, n]⟩) (j : (⟨2, ![r, n]⟩ : Shape).Idx) :
    shapeCast ⟨2, ![r, n]⟩ x h j = x (triple (0 : Fin 1) (j 0) (j 1)) :=
  shapeCast_apply _ h j _ (by
    rw [Shape.rowMajor_val_three, Shape.rowMajor_val_two]
    show (0 * r + (j 0 : ℕ)) * n + (j 1 : ℕ) = (j 0 : ℕ) * n + (j 1 : ℕ)
    rw [Nat.zero_mul, Nat.zero_add])

/-- The sum, written on whole arrays: the core's half of `p` and the received `o`. -/
abbrev sum (hw : FTy.bits .bf16 < FTy.bits .f32) (c : Vec F ⟨1, ![1]⟩ .i32) (h1 : (⟨1, ![1]⟩ : Shape).ShapeCasts ⟨0, ![]⟩) (hb : (⟨0, ![]⟩ : Shape).BroadcastsInDim ⟨2, ![r, n]⟩ ![])
    (s0 : (⟨3, ![2, r, n]⟩ : Shape).Slices ![0, 0, 0] ⟨3, ![1, r, n]⟩) (s1 : (⟨3, ![2, r, n]⟩ : Shape).Slices ![1, 0, 0] ⟨3, ![1, r, n]⟩)
    (hf : (⟨3, ![1, r, n]⟩ : Shape).ShapeCasts ⟨2, ![r, n]⟩) (p : Vec F ⟨3, ![2, r, n]⟩ .bf16) (o : Vec F ⟨2, ![r, n]⟩ .bf16) : Vec F ⟨2, ![r, n]⟩ .bf16 :=
  truncf .bf16 (addf (extf .f32 (select (broadcastInDim ⟨2, ![r, n]⟩ ![] hb (cmpi .eq (shapeCast ⟨0, ![]⟩ c h1) (constantI ⟨0, ![]⟩ 32 0#32)))
      (shapeCast ⟨2, ![r, n]⟩ (extractStridedSlice ⟨3, ![1, r, n]⟩ ![0, 0, 0] p s0) hf)
      (shapeCast ⟨2, ![r, n]⟩ (extractStridedSlice ⟨3, ![1, r, n]⟩ ![1, 0, 0] p s1) hf)) hw) (extf .f32 o hw)) hw

/-- The sum at one element. -/
def one (hw : FTy.bits .bf16 < FTy.bits .f32) (c : BitVec 32) (x y o : F .bf16) : F .bf16 :=
  FloatOps.truncf .bf16 hw (FloatOps.addf (FloatOps.extf .f32 hw (Scalar.select (Scalar.cmpi .eq c 0#32) x y)) (FloatOps.extf .f32 hw o))

theorem sum_at (hw c h1 hb s0 s1 hf) (p : Vec F ⟨3, ![2, r, n]⟩ .bf16) (o : Vec F ⟨2, ![r, n]⟩ .bf16) (i : (⟨2, ![r, n]⟩ : Shape).Idx) (q : (⟨1, ![1]⟩ : Shape).Idx)
    (k k' : (⟨3, ![2, r, n]⟩ : Shape).Idx) (hk : (k 0 : ℕ) = 0 ∧ (k 1 : ℕ) = (i 0 : ℕ) ∧ (k 2 : ℕ) = (i 1 : ℕ))
    (hk' : (k' 0 : ℕ) = 1 ∧ (k' 1 : ℕ) = (i 0 : ℕ) ∧ (k' 2 : ℕ) = (i 1 : ℕ)) :
    one hw (c q) (p k) (p k') (o i) = sum hw c h1 hb s0 s1 hf p o i := by
  have e0 : shapeCast ⟨2, ![r, n]⟩ (extractStridedSlice ⟨3, ![1, r, n]⟩ ![0, 0, 0] p s0) hf i = p k :=
    (flat_at _ hf i).trans (extractStridedSlice_apply _ p s0 _ k (fun a => by
      match a with
      | ⟨0, _⟩ => exact hk.1
      | ⟨1, _⟩ => exact hk.2.1.trans (Nat.zero_add _).symm
      | ⟨2, _⟩ => exact hk.2.2.trans (Nat.zero_add _).symm))
  have e1 : shapeCast ⟨2, ![r, n]⟩ (extractStridedSlice ⟨3, ![1, r, n]⟩ ![1, 0, 0] p s1) hf i = p k' :=
    (flat_at _ hf i).trans (extractStridedSlice_apply _ p s1 _ k' (fun a => by
      match a with
      | ⟨0, _⟩ => exact hk'.1
      | ⟨1, _⟩ => exact hk'.2.1.trans (Nat.zero_add _).symm
      | ⟨2, _⟩ => exact hk'.2.2.trans (Nat.zero_add _).symm))
  show one hw (c q) (p k) (p k') (o i) = FloatOps.truncf .bf16 hw (FloatOps.addf (FloatOps.extf .f32 hw (Scalar.select (Scalar.cmpi .eq (c _) _)
    (shapeCast ⟨2, ![r, n]⟩ (extractStridedSlice ⟨3, ![1, r, n]⟩ ![0, 0, 0] p s0) hf i)
    (shapeCast ⟨2, ![r, n]⟩ (extractStridedSlice ⟨3, ![1, r, n]⟩ ![1, 0, 0] p s1) hf i))) (FloatOps.extf .f32 hw (o i)))
  rw [e0, e1, one_index q]
  rfl

end Cert.Share

end
-- ==== Proof.ChipAValueIdeal.lean ====
/- # A chip's gradients of the input projections, from blocks to whole arrays

   Each block is read back as what its one store leaves, and the blocks fill the result. -/
module

public import proofs.«01_k».proof.Proof.Share
public import proofs.«01_k».proof.Proof.Gen.ChipAIdeal.Value

@[expose] public section

noncomputable section

namespace Cert.ChipAIdeal.Whole

open Cert.ChipAIdeal Cert.ChipAIdeal.Gen Cert.Step Cert.Share Cert.Exchange Idealize.ShloMosaic Idealize.ShloMosaic.TcCoe Idealize.SL.Sem

variable {F : FTy → Type} [FloatOps F]

theorem corner : (![0, 0] : Fin 2 → Nat) = fun _ => 0 := funext fun a => by fin_cases a <;> rfl

/-- The one index of the array that holds the core's number. -/
def only : S1.Idx := fun | ⟨0, _⟩ => (0 : Fin 1)

/-- The two halves of a block of partials. -/
abbrev half0 : Rect S2x1544x256 := Rect.unit (s := S2x1544x256) ![0, 0, 0] S1x1544x256.size inb_S2x1544x256_S1x1544x256_0_0_0
abbrev half1 : Rect S2x1544x256 := Rect.unit (s := S2x1544x256) ![1, 0, 0] S1x1544x256.size inb_S2x1544x256_S1x1544x256_1_0_0

theorem left3 (c : Dev nD) (i : grid0.Coords) (a2 : Memref sig .tc .smem S1 .i32) (h2 : a2.IsWhole) (a3 : Memref sig .tc .vmem S2x1544x256 .bf16) (h3 : a3.IsWhole) (a4 : Memref sig .tc .vmem S1544x256 .bf16) (h4 : a4.IsWhole) (a5 : Memref sig .tc .vmem S1544x256 .bf16) (h5 : a5.IsWhole)
    (x0 : Vec F S1 .i32) (x1 : Vec F S2x1544x256 .bf16) (x2 : Vec F S1544x256 .bf16) :
    out0_A_3 c i a2 h2 a3 h3 a4 h4 a5 h5 x0 x1 x2 = k0_pay1 (x0 only) (View.ld x1 half0) (View.ld x1 half1) x2 := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero corner]
  simp only [View.readAt_eq_ld, h2.read_unread, h3.read_unread, h4.read_unread, View.ld_unit_zero (S := S1544x256) corner, shapeCast_self]
  rw [show View.ld x0 (Rect.unit ![0] ![1] inb_S1_S1_0) = x0 from View.ld_unit_zero (S := S1) (funext fun a => by fin_cases a; rfl) _ x0]
  rw [one_index (Shape.Idx.first _) only]

theorem left_at (c : Elt F .i32) (x : Vec F S2x1544x256 .bf16) (y : Vec F S1544x256 .bf16) (j : S1544x256.Idx) :
    k0_pay1 c (View.ld x half0) (View.ld x half1) y j
      = one bitsLt_bf16_f32 c (x (half0.idx (triple (0 : Fin 1) (j 0) (j 1)))) (x (half1.idx (triple (0 : Fin 1) (j 0) (j 1)))) (y j) := by
  show FloatOps.truncf .bf16 bitsLt_bf16_f32 (FloatOps.addf (FloatOps.extf .f32 bitsLt_bf16_f32
    ((Scalar.select (Scalar.cmpi .eq c 0#32) (shapeCast S1544x256 (View.ld x half0) shapeCasts_S1x1544x256_S1544x256) (shapeCast S1544x256 (View.ld x half1) shapeCasts_S1x1544x256_S1544x256) : Vec F S1544x256 .bf16) j))
    (FloatOps.extf .f32 bitsLt_bf16_f32 (y j))) = _
  rw [choice_at, flat_at, flat_at]
  rfl

theorem places : ∀ t : Fin cfg0.N, win0_1.index t (0 : Fin 3) = 0 ∧ win0_1.index t (1 : Fin 3) = win0_3.index t (0 : Fin 2) ∧ win0_1.index t (2 : Fin 3) = win0_3.index t (1 : Fin 2)
    ∧ win0_2.index t = win0_3.index t :=
  (by decide +kernel : ∀ t : Fin grid0.N, _)

theorem onto : ∀ (p : Fin 4) (q : Fin 8), ∃ t : Fin cfg0.N, win0_3.index t = ![p.val, q.val] :=
  (by decide +kernel : ∀ (p : Fin 4) (q : Fin 8), ∃ t : Fin grid0.N, win0_3.index t = ![p.val, q.val])

theorem covered (i : S6176x2048.Idx) : ∃ t : Fin cfg0.N, (cfg0.win 3).flush t = true ∧ i ∈ ((cfg0.win 3).blk t).view.set := by
  have i0 : (i 0 : ℕ) < 6176 := (i 0).isLt
  have i1 : (i 1 : ℕ) < 2048 := (i 1).isLt
  obtain ⟨t, ht⟩ := onto ⟨(i 0 : ℕ) / 1544, by omega⟩ ⟨(i 1 : ℕ) / 256, by omega⟩
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 2) * 1544 ≤ (i 0 : ℕ) ∧ (i 0 : ℕ) < win0_3.index t (0 : Fin 2) * 1544 + 1544
    rw [show win0_3.index t (0 : Fin 2) = (i 0 : ℕ) / 1544 from congrFun ht 0]
    omega
  | ⟨1, _⟩ =>
    show win0_3.index t (1 : Fin 2) * 256 ≤ (i 1 : ℕ) ∧ (i 1 : ℕ) < win0_3.index t (1 : Fin 2) * 256 + 256
    rw [show win0_3.index t (1 : Fin 2) = (i 1 : ℕ) / 256 from congrFun ht 1]
    omega

variable (m : (ℓ : Loc nD τ sig) → Buf (Elt F) ℓ)

theorem emb2 (t : Fin cfg0.N) (j : S1544x256.Idx) : ((cfg0.win 2).blk t).view.emb j = ((cfg0.win 3).blk t).view.emb j := by
  obtain ⟨-, -, -, e⟩ := places t
  funext a; apply Fin.ext
  match a with
  | ⟨0, _⟩ => show win0_2.index t (0 : Fin 2) * 1544 + 1 * (j 0).val = win0_3.index t (0 : Fin 2) * 1544 + 1 * (j 0).val; rw [e]
  | ⟨1, _⟩ => show win0_2.index t (1 : Fin 2) * 256 + 1 * (j 1).val = win0_3.index t (1 : Fin 2) * 256 + 1 * (j 1).val; rw [e]

/-- The sum of the core's own half and the array received. -/
abbrev shared (h1 : (⟨1, ![1]⟩ : Shape).ShapeCasts ⟨0, ![]⟩) (hb : (⟨0, ![]⟩ : Shape).BroadcastsInDim ⟨2, ![6176, 2048]⟩ ![])
    (s0 : (⟨3, ![2, 6176, 2048]⟩ : Shape).Slices ![0, 0, 0] ⟨3, ![1, 6176, 2048]⟩) (s1 : (⟨3, ![2, 6176, 2048]⟩ : Shape).Slices ![1, 0, 0] ⟨3, ![1, 6176, 2048]⟩) (hf : (⟨3, ![1, 6176, 2048]⟩ : Shape).ShapeCasts ⟨2, ![6176, 2048]⟩) (c : Dev nD) : Vec F S6176x2048 .bf16 :=
  sum (F := F) (r := 6176) (n := 2048) bitsLt_bf16_f32 (V m c main_arg0) h1 hb s0 s1 hf (V m c main_arg1) (V m c main_arg2)

theorem written (h1 hb s0 s1 hf) (c : Dev nD) (t : Fin cfg0.N) :
    (dats m 0 c).flushed 3 t = ((cfg0.win 3).blk t).view.read (Elt F) (shared m h1 hb s0 s1 hf c) := by
  obtain ⟨e0, e1, e2, -⟩ := places t
  rw [Value.flushed3_A, left3]
  funext j
  show _ = shared m h1 hb s0 s1 hf c (((cfg0.win 3).blk t).view.emb j)
  refine (left_at ..).trans ?_
  show one _ (V m c main_arg0 (((cfg0.win 0).blk t).view.emb only)) (V m c main_arg1 (((cfg0.win 1).blk t).view.emb (half0.idx (triple (0 : Fin 1) (j 0) (j 1)))))
    (V m c main_arg1 (((cfg0.win 1).blk t).view.emb (half1.idx (triple (0 : Fin 1) (j 0) (j 1))))) (V m c main_arg2 (((cfg0.win 2).blk t).view.emb j)) = _
  rw [emb2]
  refine sum_at _ (V m c main_arg0) h1 hb s0 s1 hf (V m c main_arg1) (V m c main_arg2) (((cfg0.win 3).blk t).view.emb j) _ _ _ ?_ ?_
  · refine ⟨?_, ?_, ?_⟩
    · show win0_1.index t (0 : Fin 3) * 2 + 1 * (0 + 1 * 0) = 0
      omega
    · show win0_1.index t (1 : Fin 3) * 1544 + 1 * (0 + 1 * (j 0).val) = win0_3.index t (0 : Fin 2) * 1544 + 1 * (j 0).val
      omega
    · show win0_1.index t (2 : Fin 3) * 256 + 1 * (0 + 1 * (j 1).val) = win0_3.index t (1 : Fin 2) * 256 + 1 * (j 1).val
      omega
  · refine ⟨?_, ?_, ?_⟩
    · show win0_1.index t (0 : Fin 3) * 2 + 1 * (1 + 1 * 0) = 1
      omega
    · show win0_1.index t (1 : Fin 3) * 1544 + 1 * (0 + 1 * (j 0).val) = win0_3.index t (0 : Fin 2) * 1544 + 1 * (j 0).val
      omega
    · show win0_1.index t (2 : Fin 3) * 256 + 1 * (0 + 1 * (j 1).val) = win0_3.index t (1 : Fin 2) * 256 + 1 * (j 1).val
      omega

theorem whole (h1 hb s0 s1 hf) (c : Dev nD) : (dats m 0 c).arrAt 3 cfg0.N = shared m h1 hb s0 s1 hf c :=
  (dats m 0 c).arrAt_eq_of_cover 3 _ (fun t _ => written m h1 hb s0 s1 hf c t) covered

end Cert.ChipAIdeal.Whole

end
-- ==== Proof.ChipBValueIdeal.lean ====
/- # A chip's gradients of the output projections, from blocks to whole arrays

   Each block is read back as what its one store leaves, and the blocks fill the result. -/
module

public import proofs.«01_k».proof.Proof.Share
public import proofs.«01_k».proof.Proof.Gen.ChipBIdeal.Value

@[expose] public section

noncomputable section

namespace Cert.ChipBIdeal.Whole

open Cert.ChipBIdeal Cert.ChipBIdeal.Gen Cert.Step Cert.Share Cert.Exchange Idealize.ShloMosaic Idealize.ShloMosaic.TcCoe Idealize.SL.Sem

variable {F : FTy → Type} [FloatOps F]

theorem corner : (![0, 0] : Fin 2 → Nat) = fun _ => 0 := funext fun a => by fin_cases a <;> rfl

/-- The one index of the array that holds the core's number. -/
def only : S1.Idx := fun | ⟨0, _⟩ => (0 : Fin 1)

/-- The two halves of a block of partials. -/
abbrev half0 : Rect S2x256x2048 := Rect.unit (s := S2x256x2048) ![0, 0, 0] S1x256x2048.size inb_S2x256x2048_S1x256x2048_0_0_0
abbrev half1 : Rect S2x256x2048 := Rect.unit (s := S2x256x2048) ![1, 0, 0] S1x256x2048.size inb_S2x256x2048_S1x256x2048_1_0_0

theorem left3 (c : Dev nD) (i : grid0.Coords) (a2 : Memref sig .tc .smem S1 .i32) (h2 : a2.IsWhole) (a3 : Memref sig .tc .vmem S2x256x2048 .bf16) (h3 : a3.IsWhole) (a4 : Memref sig .tc .vmem S256x2048 .bf16) (h4 : a4.IsWhole) (a5 : Memref sig .tc .vmem S256x2048 .bf16) (h5 : a5.IsWhole)
    (x0 : Vec F S1 .i32) (x1 : Vec F S2x256x2048 .bf16) (x2 : Vec F S256x2048 .bf16) :
    out0_A_3 c i a2 h2 a3 h3 a4 h4 a5 h5 x0 x1 x2 = k0_pay1 (x0 only) (View.ld x1 half0) (View.ld x1 half1) x2 := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero corner]
  simp only [View.readAt_eq_ld, h2.read_unread, h3.read_unread, h4.read_unread, View.ld_unit_zero (S := S256x2048) corner, shapeCast_self]
  rw [show View.ld x0 (Rect.unit ![0] ![1] inb_S1_S1_0) = x0 from View.ld_unit_zero (S := S1) (funext fun a => by fin_cases a; rfl) _ x0]
  rw [one_index (Shape.Idx.first _) only]

theorem left_at (c : Elt F .i32) (x : Vec F S2x256x2048 .bf16) (y : Vec F S256x2048 .bf16) (j : S256x2048.Idx) :
    k0_pay1 c (View.ld x half0) (View.ld x half1) y j
      = one bitsLt_bf16_f32 c (x (half0.idx (triple (0 : Fin 1) (j 0) (j 1)))) (x (half1.idx (triple (0 : Fin 1) (j 0) (j 1)))) (y j) := by
  show FloatOps.truncf .bf16 bitsLt_bf16_f32 (FloatOps.addf (FloatOps.extf .f32 bitsLt_bf16_f32
    ((Scalar.select (Scalar.cmpi .eq c 0#32) (shapeCast S256x2048 (View.ld x half0) shapeCasts_S1x256x2048_S256x2048) (shapeCast S256x2048 (View.ld x half1) shapeCasts_S1x256x2048_S256x2048) : Vec F S256x2048 .bf16) j))
    (FloatOps.extf .f32 bitsLt_bf16_f32 (y j))) = _
  rw [choice_at, flat_at, flat_at]
  rfl

theorem places : ∀ t : Fin cfg0.N, win0_1.index t (0 : Fin 3) = 0 ∧ win0_1.index t (1 : Fin 3) = win0_3.index t (0 : Fin 2) ∧ win0_1.index t (2 : Fin 3) = win0_3.index t (1 : Fin 2)
    ∧ win0_2.index t = win0_3.index t :=
  (by decide +kernel : ∀ t : Fin grid0.N, _)

theorem onto : ∀ (p : Fin 8) (q : Fin 1), ∃ t : Fin cfg0.N, win0_3.index t = ![p.val, q.val] :=
  (by decide +kernel : ∀ (p : Fin 8) (q : Fin 1), ∃ t : Fin grid0.N, win0_3.index t = ![p.val, q.val])

theorem covered (i : S2048x2048.Idx) : ∃ t : Fin cfg0.N, (cfg0.win 3).flush t = true ∧ i ∈ ((cfg0.win 3).blk t).view.set := by
  have i0 : (i 0 : ℕ) < 2048 := (i 0).isLt
  have i1 : (i 1 : ℕ) < 2048 := (i 1).isLt
  obtain ⟨t, ht⟩ := onto ⟨(i 0 : ℕ) / 256, by omega⟩ ⟨(i 1 : ℕ) / 2048, by omega⟩
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 2) * 256 ≤ (i 0 : ℕ) ∧ (i 0 : ℕ) < win0_3.index t (0 : Fin 2) * 256 + 256
    rw [show win0_3.index t (0 : Fin 2) = (i 0 : ℕ) / 256 from congrFun ht 0]
    omega
  | ⟨1, _⟩ =>
    show win0_3.index t (1 : Fin 2) * 2048 ≤ (i 1 : ℕ) ∧ (i 1 : ℕ) < win0_3.index t (1 : Fin 2) * 2048 + 2048
    rw [show win0_3.index t (1 : Fin 2) = (i 1 : ℕ) / 2048 from congrFun ht 1]
    omega

variable (m : (ℓ : Loc nD τ sig) → Buf (Elt F) ℓ)

theorem emb2 (t : Fin cfg0.N) (j : S256x2048.Idx) : ((cfg0.win 2).blk t).view.emb j = ((cfg0.win 3).blk t).view.emb j := by
  obtain ⟨-, -, -, e⟩ := places t
  funext a; apply Fin.ext
  match a with
  | ⟨0, _⟩ => show win0_2.index t (0 : Fin 2) * 256 + 1 * (j 0).val = win0_3.index t (0 : Fin 2) * 256 + 1 * (j 0).val; rw [e]
  | ⟨1, _⟩ => show win0_2.index t (1 : Fin 2) * 2048 + 1 * (j 1).val = win0_3.index t (1 : Fin 2) * 2048 + 1 * (j 1).val; rw [e]

/-- The sum of the core's own half and the array received. -/
abbrev shared (h1 : (⟨1, ![1]⟩ : Shape).ShapeCasts ⟨0, ![]⟩) (hb : (⟨0, ![]⟩ : Shape).BroadcastsInDim ⟨2, ![2048, 2048]⟩ ![])
    (s0 : (⟨3, ![2, 2048, 2048]⟩ : Shape).Slices ![0, 0, 0] ⟨3, ![1, 2048, 2048]⟩) (s1 : (⟨3, ![2, 2048, 2048]⟩ : Shape).Slices ![1, 0, 0] ⟨3, ![1, 2048, 2048]⟩) (hf : (⟨3, ![1, 2048, 2048]⟩ : Shape).ShapeCasts ⟨2, ![2048, 2048]⟩) (c : Dev nD) : Vec F S2048x2048 .bf16 :=
  sum (F := F) (r := 2048) (n := 2048) bitsLt_bf16_f32 (V m c main_arg0) h1 hb s0 s1 hf (V m c main_arg1) (V m c main_arg2)

theorem written (h1 hb s0 s1 hf) (c : Dev nD) (t : Fin cfg0.N) :
    (dats m 0 c).flushed 3 t = ((cfg0.win 3).blk t).view.read (Elt F) (shared m h1 hb s0 s1 hf c) := by
  obtain ⟨e0, e1, e2, -⟩ := places t
  rw [Value.flushed3_A, left3]
  funext j
  show _ = shared m h1 hb s0 s1 hf c (((cfg0.win 3).blk t).view.emb j)
  refine (left_at ..).trans ?_
  show one _ (V m c main_arg0 (((cfg0.win 0).blk t).view.emb only)) (V m c main_arg1 (((cfg0.win 1).blk t).view.emb (half0.idx (triple (0 : Fin 1) (j 0) (j 1)))))
    (V m c main_arg1 (((cfg0.win 1).blk t).view.emb (half1.idx (triple (0 : Fin 1) (j 0) (j 1))))) (V m c main_arg2 (((cfg0.win 2).blk t).view.emb j)) = _
  rw [emb2]
  refine sum_at _ (V m c main_arg0) h1 hb s0 s1 hf (V m c main_arg1) (V m c main_arg2) (((cfg0.win 3).blk t).view.emb j) _ _ _ ?_ ?_
  · refine ⟨?_, ?_, ?_⟩
    · show win0_1.index t (0 : Fin 3) * 2 + 1 * (0 + 1 * 0) = 0
      omega
    · show win0_1.index t (1 : Fin 3) * 256 + 1 * (0 + 1 * (j 0).val) = win0_3.index t (0 : Fin 2) * 256 + 1 * (j 0).val
      omega
    · show win0_1.index t (2 : Fin 3) * 2048 + 1 * (0 + 1 * (j 1).val) = win0_3.index t (1 : Fin 2) * 2048 + 1 * (j 1).val
      omega
  · refine ⟨?_, ?_, ?_⟩
    · show win0_1.index t (0 : Fin 3) * 2 + 1 * (1 + 1 * 0) = 1
      omega
    · show win0_1.index t (1 : Fin 3) * 256 + 1 * (0 + 1 * (j 0).val) = win0_3.index t (0 : Fin 2) * 256 + 1 * (j 0).val
      omega
    · show win0_1.index t (2 : Fin 3) * 2048 + 1 * (0 + 1 * (j 1).val) = win0_3.index t (1 : Fin 2) * 2048 + 1 * (j 1).val
      omega

theorem whole (h1 hb s0 s1 hf) (c : Dev nD) : (dats m 0 c).arrAt 3 cfg0.N = shared m h1 hb s0 s1 hf c :=
  (dats m 0 c).arrAt_eq_of_cover 3 _ (fun t _ => written m h1 hb s0 s1 hf c t) covered

end Cert.ChipBIdeal.Whole

end
-- ==== Proof.LocalChip.lean ====
module

public import proofs.«01_k».proof.Proof.ChipAValueBits
public import proofs.«01_k».proof.Proof.ChipAValueIdeal
public import proofs.«01_k».proof.Proof.Gen.ChipARefIdeal.Run
public import proofs.«01_k».proof.Proof.Gen.ChipARef.Run
public import proofs.«01_k».proof.Proof.ChipBValueBits
public import proofs.«01_k».proof.Proof.ChipBValueIdeal
public import proofs.«01_k».proof.Proof.Gen.ChipBRefIdeal.Run
public import proofs.«01_k».proof.Proof.Gen.ChipBRef.Run
public import proofs.«01_k».proof.Proof.Gen.ChipSmall.Value
public import proofs.«01_k».proof.Proof.Gen.ChipSmallIdeal.Value
public import proofs.«01_k».proof.Proof.Gen.ChipSmallRefIdeal.Run
public import proofs.«01_k».proof.Proof.Gen.ChipSmallRef.Run
public import proofs.«01_k».proof.Defs

@[expose] public section

noncomputable section

namespace Cert.Proof

open Idealize.ShloMosaic Idealize.SL.Sem

/-! ## The chip's share of the gradient of `w_in` -/

theorem frame_chip_in_kernel : Cert.quiescent_ChipA := fun m ρ _ => Cert.ChipA.Gen.frame (F := Bits) m ρ

theorem frame_chip_in_ideal : Cert.quiescent_ChipAIdeal := fun m ρ _ => Cert.ChipAIdeal.Gen.frame (F := Ideal) m ρ

theorem frame_chip_in_reference : Cert.quiescent_ChipARef := fun m ρ _ =>
  (θ_run Cert.ChipARef.defs _ _).mono (fun r h => ⟨fun c => (h c).2, sem_eq_zero_of_no_sems (by decide) r.2⟩) (Cert.ChipARef.Value.run (F := Bits) m ρ)

theorem frame_chip_in_reference_ideal : Cert.quiescent_ChipARefIdeal := fun m ρ _ =>
  (θ_run Cert.ChipARefIdeal.defs _ _).mono (fun r h => ⟨fun c => (h c).2, sem_eq_zero_of_no_sems (by decide) r.2⟩) (Cert.ChipARefIdeal.Value.run (F := Ideal) m ρ)

theorem algebraic_chip_in : Cert.algebraic_ChipAIdeal_ChipARefIdeal := fun m ρ m' ρ' _ hm => by
  refine ⟨_, (θ_run Cert.ChipAIdeal.defs _ _).mono (fun r h c => h c) (Cert.ChipAIdeal.Value.run_blocks (F := Ideal) m ρ),
    (θ_run Cert.ChipARefIdeal.defs _ _).mono (fun r h c => ?_) (Cert.ChipARefIdeal.Value.run (F := Ideal) m' ρ')⟩
  obtain ⟨e0, rest⟩ := h c
  obtain ⟨h0, h1, h2⟩ := hm c
  rw [h0, h1, h2] at e0
  exact ⟨e0.trans (Cert.ChipAIdeal.Whole.whole m Cert.ChipARefIdeal.Facts₀.shapeCasts_S1_S_ Cert.ChipARefIdeal.Facts₀.bcast_S_S6176x2048
    Cert.ChipARefIdeal.Facts₀.slices_S2x6176x2048_S1x6176x2048_0_0_0 Cert.ChipARefIdeal.Facts₀.slices_S2x6176x2048_S1x6176x2048_1_0_0
    Cert.ChipARefIdeal.Facts₀.shapeCasts_S1x6176x2048_S6176x2048 c).symm, rest⟩

theorem bitexact_chip_in : Cert.bitexact_ChipA_ChipARef := fun m ρ m' ρ' _ hm => by
  refine ⟨_, (θ_run Cert.ChipA.defs _ _).mono (fun r h c => h c) (Cert.ChipA.Value.run_blocks (F := Bits) m ρ),
    (θ_run Cert.ChipARef.defs _ _).mono (fun r h c => ?_) (Cert.ChipARef.Value.run (F := Bits) m' ρ')⟩
  obtain ⟨e0, rest⟩ := h c
  obtain ⟨h0, h1, h2⟩ := hm c
  rw [h0, h1, h2] at e0
  exact ⟨e0.trans (Cert.ChipA.Whole.whole m Cert.ChipARef.Facts₀.shapeCasts_S1_S_ Cert.ChipARef.Facts₀.bcast_S_S6176x2048
    Cert.ChipARef.Facts₀.slices_S2x6176x2048_S1x6176x2048_0_0_0 Cert.ChipARef.Facts₀.slices_S2x6176x2048_S1x6176x2048_1_0_0
    Cert.ChipARef.Facts₀.shapeCasts_S1x6176x2048_S6176x2048 c).symm, rest⟩

/-! ## The chip's share of the gradient of `w_out` -/

theorem frame_chip_out_kernel : Cert.quiescent_ChipB := fun m ρ _ => Cert.ChipB.Gen.frame (F := Bits) m ρ

theorem frame_chip_out_ideal : Cert.quiescent_ChipBIdeal := fun m ρ _ => Cert.ChipBIdeal.Gen.frame (F := Ideal) m ρ

theorem frame_chip_out_reference : Cert.quiescent_ChipBRef := fun m ρ _ =>
  (θ_run Cert.ChipBRef.defs _ _).mono (fun r h => ⟨fun c => (h c).2, sem_eq_zero_of_no_sems (by decide) r.2⟩) (Cert.ChipBRef.Value.run (F := Bits) m ρ)

theorem frame_chip_out_reference_ideal : Cert.quiescent_ChipBRefIdeal := fun m ρ _ =>
  (θ_run Cert.ChipBRefIdeal.defs _ _).mono (fun r h => ⟨fun c => (h c).2, sem_eq_zero_of_no_sems (by decide) r.2⟩) (Cert.ChipBRefIdeal.Value.run (F := Ideal) m ρ)

theorem algebraic_chip_out : Cert.algebraic_ChipBIdeal_ChipBRefIdeal := fun m ρ m' ρ' _ hm => by
  refine ⟨_, (θ_run Cert.ChipBIdeal.defs _ _).mono (fun r h c => h c) (Cert.ChipBIdeal.Value.run_blocks (F := Ideal) m ρ),
    (θ_run Cert.ChipBRefIdeal.defs _ _).mono (fun r h c => ?_) (Cert.ChipBRefIdeal.Value.run (F := Ideal) m' ρ')⟩
  obtain ⟨e0, rest⟩ := h c
  obtain ⟨h0, h1, h2⟩ := hm c
  rw [h0, h1, h2] at e0
  exact ⟨e0.trans (Cert.ChipBIdeal.Whole.whole m Cert.ChipBRefIdeal.Facts₀.shapeCasts_S1_S_ Cert.ChipBRefIdeal.Facts₀.bcast_S_S2048x2048
    Cert.ChipBRefIdeal.Facts₀.slices_S2x2048x2048_S1x2048x2048_0_0_0 Cert.ChipBRefIdeal.Facts₀.slices_S2x2048x2048_S1x2048x2048_1_0_0
    Cert.ChipBRefIdeal.Facts₀.shapeCasts_S1x2048x2048_S2048x2048 c).symm, rest⟩

theorem bitexact_chip_out : Cert.bitexact_ChipB_ChipBRef := fun m ρ m' ρ' _ hm => by
  refine ⟨_, (θ_run Cert.ChipB.defs _ _).mono (fun r h c => h c) (Cert.ChipB.Value.run_blocks (F := Bits) m ρ),
    (θ_run Cert.ChipBRef.defs _ _).mono (fun r h c => ?_) (Cert.ChipBRef.Value.run (F := Bits) m' ρ')⟩
  obtain ⟨e0, rest⟩ := h c
  obtain ⟨h0, h1, h2⟩ := hm c
  rw [h0, h1, h2] at e0
  exact ⟨e0.trans (Cert.ChipB.Whole.whole m Cert.ChipBRef.Facts₀.shapeCasts_S1_S_ Cert.ChipBRef.Facts₀.bcast_S_S2048x2048
    Cert.ChipBRef.Facts₀.slices_S2x2048x2048_S1x2048x2048_0_0_0 Cert.ChipBRef.Facts₀.slices_S2x2048x2048_S1x2048x2048_1_0_0
    Cert.ChipBRef.Facts₀.shapeCasts_S1x2048x2048_S2048x2048 c).symm, rest⟩

/-! ## The chip's share of the gradients of the small weights -/

theorem frame_chip_small_kernel : Cert.quiescent_ChipSmall := fun m ρ _ => Cert.ChipSmall.Gen.frame (F := Bits) m ρ

theorem frame_chip_small_ideal : Cert.quiescent_ChipSmallIdeal := fun m ρ _ => Cert.ChipSmallIdeal.Gen.frame (F := Ideal) m ρ

theorem frame_chip_small_reference : Cert.quiescent_ChipSmallRef := fun m ρ _ =>
  (θ_run Cert.ChipSmallRef.defs _ _).mono (fun r h => ⟨fun c => (h c).2, sem_eq_zero_of_no_sems (by decide) r.2⟩) (Cert.ChipSmallRef.Value.run (F := Bits) m ρ)

theorem frame_chip_small_reference_ideal : Cert.quiescent_ChipSmallRefIdeal := fun m ρ _ =>
  (θ_run Cert.ChipSmallRefIdeal.defs _ _).mono (fun r h => ⟨fun c => (h c).2, sem_eq_zero_of_no_sems (by decide) r.2⟩) (Cert.ChipSmallRefIdeal.Value.run (F := Ideal) m ρ)

theorem algebraic_chip_small : Cert.algebraic_ChipSmallIdeal_ChipSmallRefIdeal := fun m ρ m' ρ' _ hm => by
  refine ⟨_, (θ_run Cert.ChipSmallIdeal.defs _ _).mono (fun r h c => h c) (Cert.ChipSmallIdeal.Value.run (F := Ideal) m ρ),
    (θ_run Cert.ChipSmallRefIdeal.defs _ _).mono (fun r h c => ?_) (Cert.ChipSmallRefIdeal.Value.run (F := Ideal) m' ρ')⟩
  obtain ⟨e0, rest⟩ := h c
  obtain ⟨h0, h1⟩ := hm c
  rw [h0, h1] at e0
  exact ⟨e0.trans rfl, rest⟩

theorem bitexact_chip_small : Cert.bitexact_ChipSmall_ChipSmallRef := fun m ρ m' ρ' _ hm => by
  refine ⟨_, (θ_run Cert.ChipSmall.defs _ _).mono (fun r h c => h c) (Cert.ChipSmall.Value.run (F := Bits) m ρ),
    (θ_run Cert.ChipSmallRef.defs _ _).mono (fun r h c => ?_) (Cert.ChipSmallRef.Value.run (F := Bits) m' ρ')⟩
  obtain ⟨e0, rest⟩ := h c
  obtain ⟨h0, h1⟩ := hm c
  rw [h0, h1] at e0
  exact ⟨e0.trans rfl, rest⟩

end Cert.Proof

end
-- ==== Proof.RmsBwdParts.lean ====
/- # The backward pass of the row normalisation, block by block -/
module

public import Idealize.ShloMosaic.Lib.Tactic
public import Idealize.ShloMosaic.Lib.Pointwise
public import proofs.«01_k».proof.Proof.Gen.RmsBwdIdeal.Value

@[expose] public section

noncomputable section

namespace Cert.RmsBwdIdeal.Whole

open Cert.RmsBwdIdeal Cert.RmsBwdIdeal.Gen Idealize.ShloMosaic Idealize.ShloMosaic.TcCoe Idealize.SL.Sem

theorem hz : (![0, 0] : Fin 2 → ℕ) = fun _ => 0 := funext fun a => by fin_cases a <;> rfl

theorem out4_A (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole) (hc : cond0_0 i)
    (x : Vec Ideal S256x2048 .f32) (g : Vec Ideal S1x2048 .f32) (dh r : Vec Ideal S256x2048 .f32) :
    out0_A_4 c i a1 h1 a2 h2 a3 h3 a4 h4 a5 h5 a6 h6 a7 h7 hc x g dh r = k0_pay4 x dh g r := by
  unfold out0_A_4
  rw [View.read_writes_eq_canon _ _ _ (cover0_A_4 c i a1 h1 a2 h2 a3 h3 a4 h4 a5 h5 a6 h6 a7 h7 hc x g dh r)]
  unfold kernelRun0_A
  dsimp only
  sl_unfold_words
  rw [View.canon_unit_zero hz]
  simp only [View.readAt_eq_ld, h1.read_unread, h2.read_unread, h3.read_unread, h4.read_unread, h7.read_unread, View.ld_unit_zero (S := S256x2048) hz, View.ld_unit_zero (S := S1x2048) hz, shapeCast_self]

theorem out5_A (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole) (hc : cond0_0 i)
    (x : Vec Ideal S256x2048 .f32) (g : Vec Ideal S1x2048 .f32) (dh r : Vec Ideal S256x2048 .f32) :
    out0_A_5 c i a1 h1 a2 h2 a3 h3 a4 h4 a5 h5 a6 h6 a7 h7 hc x g dh r = k0_pay5 x dh g r := by
  unfold out0_A_5
  rw [View.read_writes_eq_canon _ _ _ (cover0_A_5 c i a1 h1 a2 h2 a3 h3 a4 h4 a5 h5 a6 h6 a7 h7 hc x g dh r)]
  unfold kernelRun0_A
  dsimp only
  sl_unfold_words
  rw [View.canon_unit_zero hz]
  simp only [View.readAt_eq_ld, h1.read_unread, h2.read_unread, h3.read_unread, h4.read_unread, h7.read_unread, View.ld_unit_zero (S := S256x2048) hz, View.ld_unit_zero (S := S1x2048) hz, shapeCast_self]

theorem out4_B (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole) (hc : ¬cond0_0 i)
    (x : Vec Ideal S256x2048 .f32) (g : Vec Ideal S1x2048 .f32) (dh r : Vec Ideal S256x2048 .f32) (o : Vec Ideal S1x2048 .f32) :
    out0_B_4 c i a1 h1 a2 h2 a3 h3 a4 h4 a5 h5 a6 h6 a7 h7 hc x g dh r o = k0_pay4 x dh g r := by
  unfold out0_B_4
  rw [View.read_writes_eq_canon _ _ _ (cover0_B_4 c i a1 h1 a2 h2 a3 h3 a4 h4 a5 h5 a6 h6 a7 h7 hc x g dh r o)]
  unfold kernelRun0_B
  dsimp only
  sl_unfold_words
  rw [View.canon_unit_zero hz]
  simp only [View.readAt_eq_ld, h1.read_unread, h2.read_unread, h3.read_unread, h4.read_unread, h7.read_unread, View.ld_unit_zero (S := S256x2048) hz, View.ld_unit_zero (S := S1x2048) hz, shapeCast_self]

theorem out5_B (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole) (hc : ¬cond0_0 i)
    (x : Vec Ideal S256x2048 .f32) (g : Vec Ideal S1x2048 .f32) (dh r : Vec Ideal S256x2048 .f32) (o : Vec Ideal S1x2048 .f32) :
    out0_B_5 c i a1 h1 a2 h2 a3 h3 a4 h4 a5 h5 a6 h6 a7 h7 hc x g dh r o = k0_pay5 x dh g r := by
  unfold out0_B_5
  rw [View.read_writes_eq_canon _ _ _ (cover0_B_5 c i a1 h1 a2 h2 a3 h3 a4 h4 a5 h5 a6 h6 a7 h7 hc x g dh r o)]
  unfold kernelRun0_B
  dsimp only
  sl_unfold_words
  rw [View.canon_unit_zero hz]
  simp only [View.readAt_eq_ld, h1.read_unread, h2.read_unread, h3.read_unread, h4.read_unread, h7.read_unread, View.ld_unit_zero (S := S256x2048) hz, View.ld_unit_zero (S := S1x2048) hz, shapeCast_self]

theorem out6_A (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole) (hc : cond0_0 i)
    (x : Vec Ideal S256x2048 .f32) (g : Vec Ideal S1x2048 .f32) (dh r : Vec Ideal S256x2048 .f32) :
    out0_A_6 c i a1 h1 a2 h2 a3 h3 a4 h4 a5 h5 a6 h6 a7 h7 hc x g dh r = k0_pay1 (k0_pay3 x) dh (k0_pay7 (k0_pay6 (F := Ideal))) := by
  unfold out0_A_6
  rw [View.read_writes_eq_canon _ _ _ (cover0_A_6 c i a1 h1 a2 h2 a3 h3 a4 h4 a5 h5 a6 h6 a7 h7 hc x g dh r)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h7.read_unread, View.ld_unit_zero (S := S256x2048) hz, View.ld_unit_zero (S := S1x2048) hz, shapeCast_self]

theorem out6_B (c : Dev nD) (i : grid0.Coords) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .bf16) (h6 : a6.IsWhole) (a7 : Memref sig .tc .vmem S1x2048 .f32) (h7 : a7.IsWhole) (hc : ¬cond0_0 i)
    (x : Vec Ideal S256x2048 .f32) (g : Vec Ideal S1x2048 .f32) (dh r : Vec Ideal S256x2048 .f32) (o : Vec Ideal S1x2048 .f32) :
    out0_B_6 c i a1 h1 a2 h2 a3 h3 a4 h4 a5 h5 a6 h6 a7 h7 hc x g dh r o = k0_pay1 (k0_pay3 x) dh (k0_pay7 o) := by
  unfold out0_B_6
  rw [View.read_writes_eq_canon _ _ _ (cover0_B_6 c i a1 h1 a2 h2 a3 h3 a4 h4 a5 h5 a6 h6 a7 h7 hc x g dh r o)]
  unfold kernelRun0_B
  dsimp only
  sl_unfold_words
  rw [View.canon_unit_zero hz]
  simp only [View.readAt_eq_ld, h1.read_unread, h2.read_unread, h3.read_unread, h4.read_unread, h7.read_unread, View.ld_unit_zero (S := S256x2048) hz, View.ld_unit_zero (S := S1x2048) hz, shapeCast_self]

end Cert.RmsBwdIdeal.Whole

end
-- ==== Proof.RmsBwdRow.lean ====
/- # The backward pass of the row normalisation, read at an index

   The gradient at a place depends on its own row alone: on the row of the argument, of the gradient that comes in, and on
   the weights. The gradient of the weights is a sum over the rows. The reference's terms are read so:
   they are what the chain rule gives, and that is the closed form. -/
module

public import Idealize.ShloMosaic.Lib.Pointwise
public import Idealize.ShloMosaic.Lib.IdealHost
public import proofs.«01_k».proof.Proof.Gen.RmsBwdRefIdeal

@[expose] public section

noncomputable section

namespace Cert.Norm

open Cert.RmsBwdRefIdeal Cert.RmsBwdRefIdeal.Facts₀ Idealize.ShloMosaic

/-- A row's mean square, with the small number added. -/
def level (v : Fin 2048 → EReal) : EReal :=
  Ideal.div (∑ k, v k * v k) (Ideal.ofBits FTy.f32 1157627904#32) + Ideal.ofBits FTy.f32 897988541#32

/-- What a row is multiplied with: one over the root of its mean square. -/
def scale (v : Fin 2048 → EReal) : EReal := Ideal.rsqrt (level v)

/-- The derivative by the square of an entry of a row, by way of the mean square and of its root. -/
def turn (v w d : Fin 2048 → EReal) : EReal :=
  Ideal.div ((∑ k, v k * (d k * w k)) * (Ideal.ofBits FTy.f32 3204448256#32 * Ideal.div (scale v) (level v))) (Ideal.ofBits FTy.f32 1157627904#32)

theorem size_eq : Ideal.ofBits .f32 1157627904#32 = ((2048 : ℝ) : EReal) := by
  simp [Ideal.ofBits, Ideal.ieee, -EReal.coe_mul]; norm_num

theorem minus_half : Ideal.ofBits .f32 3204448256#32 = ((-(1 / 2) : ℝ) : EReal) := by
  simp [Ideal.ofBits, Ideal.ieee, -EReal.coe_mul]; norm_num

theorem small : ∃ e : ℝ, 0 < e ∧ Ideal.ofBits .f32 897988541#32 = (e : EReal) := by
  refine ⟨8796093 * 2 ^ (-43 : ℤ), by positivity, ?_⟩
  simp [Ideal.ofBits, Ideal.ieee, -EReal.coe_mul]

/-- The gradient of a row of the argument, with the residual's gradient `r` added. -/
def back (v w d : Fin 2048 → EReal) (r : EReal) (b : Fin 2048) : EReal :=
  scale v * (d b * w b - v b * scale v * Ideal.div (∑ k, d k * w k * (v k * scale v)) (Ideal.ofBits FTy.f32 1157627904#32)) + r

/-- What a row adds to the gradient of the weights. -/
def gain (v d : Fin 2048 → EReal) (b : Fin 2048) : EReal := d b * (v b * scale v)

/-- The reference's gradient of the argument. -/
def dx (x : FVec Ideal S4096x2048 .f32) (g : FVec Ideal S1x2048 .f32) (dh r : FVec Ideal S4096x2048 .f32) : FVec Ideal S4096x2048 .f32 :=
  addf (addf (addf (mulf (mulf dh (broadcastInDim S4096x2048 ![0, 1] bcast_S1x2048_S4096x2048_0_1 g)) (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (mulf x (broadcastInDim S4096x2048 ![0] bcast_S4096_S4096x2048_0 (Host.reduceAdd (Host.divf (mulf (shapeCast _ (Host.reduceAdd (mulf x (mulf dh (broadcastInDim S4096x2048 ![0, 1] bcast_S1x2048_S4096x2048_0_1 g))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x (mulf dh (broadcastInDim S4096x2048 ![0, 1] bcast_S1x2048_S4096x2048_0_1 g))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x)) r

/-- The reference's gradient of the weights. -/
def dg (x : FVec Ideal S4096x2048 .f32) (dh : FVec Ideal S4096x2048 .f32) : FVec Ideal S1x2048 .f32 :=
  shapeCast S1x2048 (Host.reduceAdd (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) dh) (constant S_ .f32 0x00000000#32) reducesTo_S4096x2048_S2048_d0 h_S_) shapeCasts_S2048_S1x2048

/-- A row's gradient as the chain rule gives it: by the product, by the root and, twice, by the square. -/
def chain (v w d : Fin 2048 → EReal) (r : EReal) (b : Fin 2048) : EReal :=
  d b * w b * scale v + v b * turn v w d + turn v w d * v b + r

theorem twice (y : EReal) : y + y = y * 2 := by
  rw [← one_add_one_eq_two, EReal.left_distrib_of_nonneg zero_le_one zero_le_one, mul_one]

theorem total_mul {n : ℕ} (f : Fin n → EReal) (s : ℝ) (h : 0 ≤ s) : (∑ k, f k) * (s : EReal) = ∑ k, f k * (s : EReal) := by
  classical
  have : ∀ t : Finset (Fin n), (∑ k ∈ t, f k) * (s : EReal) = ∑ k ∈ t, f k * (s : EReal) := fun t => by
    induction t using Finset.induction_on with
    | empty => simp
    | insert a t ha ih =>
      rw [Finset.sum_insert ha, Finset.sum_insert ha, EReal.right_distrib_of_nonneg_of_ne_top (by exact_mod_cast h) (EReal.coe_ne_top s), ih]
  exact this _

/-- The mean square with the small number added is infinite or a positive real. -/
theorem level_cases (v : Fin 2048 → EReal) : level v = ⊤ ∨ ∃ q : ℝ, 0 < q ∧ level v = (q : EReal) := by
  have hs : (0 : EReal) ≤ ∑ k, v k * v k := Finset.sum_nonneg fun k _ => by
    rcases le_total 0 (v k) with h | h
    · exact mul_nonneg h h
    · rw [← neg_mul_neg]
      exact mul_nonneg (EReal.neg_nonneg.mpr h) (EReal.neg_nonneg.mpr h)
  have hm : (0 : EReal) ≤ Ideal.div (∑ k, v k * v k) (Ideal.ofBits FTy.f32 1157627904#32) := by
    rw [size_eq, Ideal.div_coe (by norm_num)]
    exact mul_nonneg hs (by exact_mod_cast (by norm_num : (0 : ℝ) ≤ 1 / 2048))
  obtain ⟨e, he, hb⟩ := small
  have hl : (e : EReal) ≤ level v := by
    rw [level, hb]
    exact le_add_of_nonneg_left hm
  generalize level v = l at hl ⊢
  induction l using EReal.rec with
  | bot => simp at hl
  | top => exact Or.inl rfl
  | coe q => exact Or.inr ⟨q, lt_of_lt_of_le he (by exact_mod_cast hl), rfl⟩

/-- The chain rule's gradient is the closed form, for all rows, infinite entries included. -/
theorem chain_eq (v w d : Fin 2048 → EReal) (r : EReal) (b : Fin 2048) : chain v w d r b = back v w d r b := by
  rcases level_cases v with h | ⟨q, hq, h⟩
  · have hs : scale v = 0 := by rw [scale, h, Ideal.rsqrt_top]
    have ht : turn v w d = 0 := by
      rw [turn, hs, size_eq, Ideal.div_coe (by norm_num), h]
      simp [Ideal.div]
    rw [chain, back, ht, hs]
    simp
  · have hr : 0 < Real.sqrt q := Real.sqrt_pos.mpr hq
    have hs : scale v = (((Real.sqrt q)⁻¹ : ℝ) : EReal) := by
      rw [scale, h, Ideal.rsqrt_coe, if_neg hq.not_gt, if_neg hq.ne']
    have hn : 0 ≤ (Real.sqrt q)⁻¹ := (inv_pos.mpr hr).le
    have hc : (∑ k, d k * w k * (v k * scale v)) = (∑ k, v k * (d k * w k)) * scale v := by
      rw [hs, total_mul _ _ hn]
      exact Finset.sum_congr rfl fun k _ => by rw [← mul_assoc, mul_comm (d k * w k)]
    have ht : turn v w d = (∑ k, v k * (d k * w k)) * ((-(1 / 2) * ((Real.sqrt q)⁻¹ * (1 / q)) * (1 / 2048) : ℝ) : EReal) := by
      rw [turn, hs, h, size_eq, Ideal.div_coe (by norm_num), Ideal.div_coe hq.ne', minus_half, ← EReal.coe_mul, ← EReal.coe_mul, mul_assoc, ← EReal.coe_mul]
    rw [chain, back, hc, ht, size_eq, Ideal.div_coe (by norm_num), hs]
    generalize (∑ k, v k * (d k * w k)) = T
    congr 1
    rw [sub_eq_add_neg, EReal.left_distrib_of_nonneg_of_ne_top (by exact_mod_cast hn) (EReal.coe_ne_top _), mul_comm (d b * w b), add_assoc]
    congr 1
    rw [mul_comm _ (v b), ← mul_assoc, twice, mul_assoc, mul_neg]
    rw [show (2 : EReal) = ((2 : ℝ) : EReal) from rfl, ← EReal.coe_mul]
    rw [show (((Real.sqrt q)⁻¹ : ℝ) : EReal) * (v b * (((Real.sqrt q)⁻¹ : ℝ) : EReal) * (T * (((Real.sqrt q)⁻¹ : ℝ) : EReal) * ((1 / 2048 : ℝ) : EReal)))
        = v b * T * (((Real.sqrt q)⁻¹ * (Real.sqrt q)⁻¹ * (Real.sqrt q)⁻¹ * (1 / 2048) : ℝ) : EReal) from by
      rw [EReal.coe_mul, EReal.coe_mul, EReal.coe_mul]; ac_rfl]
    rw [← mul_neg, ← EReal.coe_neg]
    congr 2
    have e : (Real.sqrt q)⁻¹ * (Real.sqrt q)⁻¹ = 1 / q := by
      rw [← mul_inv, Real.mul_self_sqrt hq.le, one_div]
    rw [e]
    ring

theorem dx_chain (x : FVec Ideal S4096x2048 .f32) (g : FVec Ideal S1x2048 .f32) (dh r : FVec Ideal S4096x2048 .f32) (a : Fin 4096) (b : Fin 2048) :
    dx x g dh r (ix2 a b) = chain (fun k => x (ix2 a k)) (fun k => g (ix2 0 k)) (fun k => dh (ix2 a k)) (r (ix2 a b)) b := by
  delta dx
  pointwise [chain, turn, scale, level]
  simp only [Finset.univ_unique, Finset.sum_singleton]

theorem dx_at (x : FVec Ideal S4096x2048 .f32) (g : FVec Ideal S1x2048 .f32) (dh r : FVec Ideal S4096x2048 .f32) (a : Fin 4096) (b : Fin 2048) :
    dx x g dh r (ix2 a b) = back (fun k => x (ix2 a k)) (fun k => g (ix2 0 k)) (fun k => dh (ix2 a k)) (r (ix2 a b)) b := by
  rw [dx_chain, chain_eq]

theorem dg_at (x : FVec Ideal S4096x2048 .f32) (dh : FVec Ideal S4096x2048 .f32) (b : Fin 2048) :
    dg x dh (ix2 0 b) = ∑ a, gain (fun k => x (ix2 a k)) (fun k => dh (ix2 a k)) b := by
  have e : dg x dh (ix2 0 b) = ∑ a, x (ix2 a b) * scale (fun k => x (ix2 a k)) * dh (ix2 a b) := by
    delta dg
    pointwise [scale, level]
  rw [e]
  exact Finset.sum_congr rfl fun a _ => by rw [gain, mul_comm]

end Cert.Norm

end
-- ==== Proof.RmsBwdValue.lean ====
/- # The backward pass of the row normalisation, whole

   Each block of the gradient is the same rows of the reference's, and the gradient of the weights, added up over the
   blocks of rows one after the other, is the sum over all rows. -/
module

public import proofs.«01_k».proof.Proof.RmsBwdParts
public import proofs.«01_k».proof.Proof.RmsBwdRow

@[expose] public section

noncomputable section

namespace Cert.RmsBwdIdeal.Whole

open Cert.RmsBwdIdeal Cert.RmsBwdIdeal.Gen Cert.Norm Idealize.ShloMosaic Idealize.ShloMosaic.TcCoe Idealize.SL.Sem

/-- The row of the whole at row `a` of block `t`. -/
def row (t : Fin cfg0.N) (a : Fin 256) : Fin 4096 := ⟨256 * t.val + a.val, by have := t.isLt; have h : cfg0.N = 16 := N_0; omega⟩

theorem place0 : ∀ t : Fin cfg0.N, win0_0.index t (0 : Fin 2) = t.val ∧ win0_0.index t (1 : Fin 2) = 0 :=
  (by decide +kernel : ∀ t : Fin grid0.N, _)

theorem place2 : ∀ t : Fin cfg0.N, win0_2.index t (0 : Fin 2) = t.val ∧ win0_2.index t (1 : Fin 2) = 0 :=
  (by decide +kernel : ∀ t : Fin grid0.N, _)

theorem place3 : ∀ t : Fin cfg0.N, win0_3.index t (0 : Fin 2) = t.val ∧ win0_3.index t (1 : Fin 2) = 0 :=
  (by decide +kernel : ∀ t : Fin grid0.N, _)

theorem place4 : ∀ t : Fin cfg0.N, win0_4.index t (0 : Fin 2) = t.val ∧ win0_4.index t (1 : Fin 2) = 0 :=
  (by decide +kernel : ∀ t : Fin grid0.N, _)

theorem place5 : ∀ t : Fin cfg0.N, win0_5.index t (0 : Fin 2) = t.val ∧ win0_5.index t (1 : Fin 2) = 0 :=
  (by decide +kernel : ∀ t : Fin grid0.N, _)

theorem place1 : ∀ t : Fin cfg0.N, win0_1.index t (0 : Fin 2) = 0 ∧ win0_1.index t (1 : Fin 2) = 0 :=
  (by decide +kernel : ∀ t : Fin grid0.N, _)

theorem place6 : ∀ t : Fin cfg0.N, win0_6.index t (0 : Fin 2) = 0 ∧ win0_6.index t (1 : Fin 2) = 0 :=
  (by decide +kernel : ∀ t : Fin grid0.N, _)

theorem covered4 (i : S4096x2048.Idx) : ∃ t : Fin cfg0.N, (cfg0.win 4).flush t = true ∧ i ∈ ((cfg0.win 4).blk t).view.set := by
  have i0 : (i 0 : ℕ) < 4096 := (i 0).isLt
  have i1 : (i 1 : ℕ) < 2048 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place4 t
  refine ⟨t, flush0_4 t, ?_⟩
  show i ∈ ((View.whole main_v0_0).slice (win0_4.rect t)).set
  rw [View.set_slice_whole, Rect.mem_set_unit]
  intro a
  match a with
  | ⟨0, _⟩ =>
    show win0_4.index t (0 : Fin 2) * 256 ≤ (i 0 : ℕ) ∧ (i 0 : ℕ) < win0_4.index t (0 : Fin 2) * 256 + 256
    rw [at_.1, ht]
    omega
  | ⟨1, _⟩ =>
    show win0_4.index t (1 : Fin 2) * 2048 ≤ (i 1 : ℕ) ∧ (i 1 : ℕ) < win0_4.index t (1 : Fin 2) * 2048 + 2048
    rw [at_.2]
    omega

theorem covered5 (i : S4096x2048.Idx) : ∃ t : Fin cfg0.N, (cfg0.win 5).flush t = true ∧ i ∈ ((cfg0.win 5).blk t).view.set := by
  have i0 : (i 0 : ℕ) < 4096 := (i 0).isLt
  have i1 : (i 1 : ℕ) < 2048 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place5 t
  refine ⟨t, flush0_5 t, ?_⟩
  show i ∈ ((View.whole main_v0_1).slice (win0_5.rect t)).set
  rw [View.set_slice_whole, Rect.mem_set_unit]
  intro a
  match a with
  | ⟨0, _⟩ =>
    show win0_5.index t (0 : Fin 2) * 256 ≤ (i 0 : ℕ) ∧ (i 0 : ℕ) < win0_5.index t (0 : Fin 2) * 256 + 256
    rw [at_.1, ht]
    omega
  | ⟨1, _⟩ =>
    show win0_5.index t (1 : Fin 2) * 2048 ≤ (i 1 : ℕ) ∧ (i 1 : ℕ) < win0_5.index t (1 : Fin 2) * 2048 + 2048
    rw [at_.2]
    omega

variable (m : (ℓ : Loc nD τ sig) → Buf (Elt Ideal) ℓ)

theorem block0 (c : Dev nD) (t : Fin cfg0.N) (a : Fin 256) (b : Fin 2048) : (iblk m c 0 t : Vec Ideal S256x2048 .f32) (ix2 a b) = (V m c main_arg0 : Vec Ideal S4096x2048 .f32) (ix2 (row t a) b) := by
  have e := place0 t
  refine congrArg (V m c main_arg0 : Vec Ideal S4096x2048 .f32) ?_
  funext d; apply Fin.ext
  match d with
  | ⟨0, _⟩ =>
    show win0_0.index t (0 : Fin 2) * 256 + 1 * a.val = 256 * t.val + a.val
    rw [e.1]; omega
  | ⟨1, _⟩ =>
    show win0_0.index t (1 : Fin 2) * 2048 + 1 * b.val = b.val
    rw [e.2]; omega

theorem block2 (c : Dev nD) (t : Fin cfg0.N) (a : Fin 256) (b : Fin 2048) : (iblk m c 2 t : Vec Ideal S256x2048 .f32) (ix2 a b) = (V m c main_arg2 : Vec Ideal S4096x2048 .f32) (ix2 (row t a) b) := by
  have e := place2 t
  refine congrArg (V m c main_arg2 : Vec Ideal S4096x2048 .f32) ?_
  funext d; apply Fin.ext
  match d with
  | ⟨0, _⟩ =>
    show win0_2.index t (0 : Fin 2) * 256 + 1 * a.val = 256 * t.val + a.val
    rw [e.1]; omega
  | ⟨1, _⟩ =>
    show win0_2.index t (1 : Fin 2) * 2048 + 1 * b.val = b.val
    rw [e.2]; omega

theorem block3 (c : Dev nD) (t : Fin cfg0.N) (a : Fin 256) (b : Fin 2048) : (iblk m c 3 t : Vec Ideal S256x2048 .f32) (ix2 a b) = (V m c main_arg3 : Vec Ideal S4096x2048 .f32) (ix2 (row t a) b) := by
  have e := place3 t
  refine congrArg (V m c main_arg3 : Vec Ideal S4096x2048 .f32) ?_
  funext d; apply Fin.ext
  match d with
  | ⟨0, _⟩ =>
    show win0_3.index t (0 : Fin 2) * 256 + 1 * a.val = 256 * t.val + a.val
    rw [e.1]; omega
  | ⟨1, _⟩ =>
    show win0_3.index t (1 : Fin 2) * 2048 + 1 * b.val = b.val
    rw [e.2]; omega

theorem block1 (c : Dev nD) (t : Fin cfg0.N) (b : Fin 2048) : (iblk m c 1 t : Vec Ideal S1x2048 .f32) (ix2 0 b) = (V m c main_arg1 : Vec Ideal S1x2048 .f32) (ix2 0 b) := by
  have e := place1 t
  refine congrArg (V m c main_arg1 : Vec Ideal S1x2048 .f32) ?_
  funext d; apply Fin.ext
  match d with
  | ⟨0, _⟩ =>
    show win0_1.index t (0 : Fin 2) * 1 + 1 * 0 = 0
    rw [e.1]
  | ⟨1, _⟩ =>
    show win0_1.index t (1 : Fin 2) * 2048 + 1 * b.val = b.val
    rw [e.2]; omega

/-- The gradient of the argument, all of it. -/
abbrev gradIn (c : Dev nD) : Vec Ideal S4096x2048 .f32 := dx (V m c main_arg0) (V m c main_arg1) (V m c main_arg2) (V m c main_arg3)

theorem step_at (c : Dev nD) (t : Fin cfg0.N) (a : Fin 256) (b : Fin 2048) :
    k0_pay4 (iblk m c 0 t) (iblk m c 2 t) (iblk m c 1 t) (iblk m c 3 t) (ix2 a b) = gradIn m c (ix2 (row t a) b) := by
  rw [gradIn, dx_at]
  have e : k0_pay4 (iblk m c 0 t) (iblk m c 2 t) (iblk m c 1 t) (iblk m c 3 t) (ix2 a b)
      = back (fun k => (iblk m c 0 t : Vec Ideal S256x2048 .f32) (ix2 a k)) (fun k => (iblk m c 1 t : Vec Ideal S1x2048 .f32) (ix2 0 k)) (fun k => (iblk m c 2 t : Vec Ideal S256x2048 .f32) (ix2 a k)) ((iblk m c 3 t : Vec Ideal S256x2048 .f32) (ix2 a b)) b := by
    pointwise [k0_pay4, k0_pay3, k0_pay2, back, scale, level]
  rw [e]
  simp only [block0, block1, block2, block3]

theorem outs4 (c : Dev nD) (t : Fin cfg0.N) : (outsAt0 m c t.val t.isLt).1 = k0_pay4 (iblk m c 0 t) (iblk m c 2 t) (iblk m c 1 t) (iblk m c 3 t) := by
  by_cases h0 : t.val % 16 = 0
  · rw [outsAt0_A m c t h0]
    dsimp only
    rw [out4_A]
  · rw [outsAt0_B m c t h0]
    dsimp only
    rw [out4_B]

theorem outs5 (c : Dev nD) (t : Fin cfg0.N) : (outsAt0 m c t.val t.isLt).2.1 = k0_pay5 (iblk m c 0 t) (iblk m c 2 t) (iblk m c 1 t) (iblk m c 3 t) := by
  by_cases h0 : t.val % 16 = 0
  · rw [outsAt0_A m c t h0]
    dsimp only
    rw [out5_A]
  · rw [outsAt0_B m c t h0]
    dsimp only
    rw [out5_B]

theorem written4 (c : Dev nD) (t : Fin cfg0.N) : (dats m 0 c).flushed 4 t = ((cfg0.win 4).blk t).view.read (Elt Ideal) (gradIn m c) := by
  rw [Value.flushed4, outs4]
  funext j
  have e : ((cfg0.win 4).blk t).view.emb j = ix2 (row t (j 0)) (j 1) := by
    funext d; apply Fin.ext
    match d with
    | ⟨0, _⟩ =>
      show win0_4.index t (0 : Fin 2) * 256 + 1 * (j 0).val = 256 * t.val + (j 0).val
      rw [(place4 t).1]; omega
    | ⟨1, _⟩ =>
      show win0_4.index t (1 : Fin 2) * 2048 + 1 * (j 1).val = (j 1).val
      rw [(place4 t).2]; omega
  show k0_pay4 (iblk m c 0 t) (iblk m c 2 t) (iblk m c 1 t) (iblk m c 3 t) j = gradIn m c (((cfg0.win 4).blk t).view.emb j)
  rw [e, eq_ix2 j]
  exact step_at m c t (j 0) (j 1)

theorem whole4 (c : Dev nD) : (dats m 0 c).arrAt 4 cfg0.N = gradIn m c :=
  (dats m 0 c).arrAt_eq_of_cover 4 _ (fun t _ => written4 m c t) covered4

theorem written5 (c : Dev nD) (t : Fin cfg0.N) : (dats m 0 c).flushed 5 t = ((cfg0.win 5).blk t).view.read (Elt Ideal) ((gradIn m c : Vec Ideal S4096x2048 .bf16)) := by
  rw [Value.flushed5, outs5]
  funext j
  have e : ((cfg0.win 5).blk t).view.emb j = ix2 (row t (j 0)) (j 1) := by
    funext d; apply Fin.ext
    match d with
    | ⟨0, _⟩ =>
      show win0_5.index t (0 : Fin 2) * 256 + 1 * (j 0).val = 256 * t.val + (j 0).val
      rw [(place5 t).1]; omega
    | ⟨1, _⟩ =>
      show win0_5.index t (1 : Fin 2) * 2048 + 1 * (j 1).val = (j 1).val
      rw [(place5 t).2]; omega
  show k0_pay4 (iblk m c 0 t) (iblk m c 2 t) (iblk m c 1 t) (iblk m c 3 t) j = gradIn m c (((cfg0.win 5).blk t).view.emb j)
  rw [e, eq_ix2 j]
  exact step_at m c t (j 0) (j 1)

theorem whole5 (c : Dev nD) : (dats m 0 c).arrAt 5 cfg0.N = (gradIn m c : Vec Ideal S4096x2048 .bf16) :=
  (dats m 0 c).arrAt_eq_of_cover 5 _ (fun t _ => written5 m c t) covered5

/-- What a row adds to the gradient of the weights. -/
def part (c : Dev nD) (b : Fin 2048) (p : ℕ) : EReal :=
  if h : p < 4096 then gain (fun k => (V m c main_arg0 : Vec Ideal S4096x2048 .f32) (ix2 ⟨p, h⟩ k)) (fun k => (V m c main_arg2 : Vec Ideal S4096x2048 .f32) (ix2 ⟨p, h⟩ k)) b else 0

theorem adds (c : Dev nD) (t : Fin cfg0.N) (o : Vec Ideal S1x2048 .f32) (b : Fin 2048) :
    k0_pay1 (k0_pay3 (iblk m c 0 t)) (iblk m c 2 t) (k0_pay7 o) (ix2 0 b) = o (ix2 0 b) + ∑ p ∈ Finset.range 256, part m c b (256 * t.val + p) := by
  have e : k0_pay1 (k0_pay3 (iblk m c 0 t)) (iblk m c 2 t) (k0_pay7 o) (ix2 0 b)
      = o (ix2 0 b) + ∑ a, gain (fun k => (iblk m c 0 t : Vec Ideal S256x2048 .f32) (ix2 a k)) (fun k => (iblk m c 2 t : Vec Ideal S256x2048 .f32) (ix2 a k)) b := by
    pointwise [k0_pay1, k0_pay7, k0_pay3, k0_pay2, gain, scale, level]
  rw [e, Finset.sum_range]
  refine congrArg _ (Finset.sum_congr rfl fun a _ => ?_)
  simp only [block0, block2]
  rw [part, dif_pos (show 256 * t.val + a.val < 4096 from (row t a).isLt)]
  rfl

theorem sums (c : Dev nD) (b : Fin 2048) : ∀ (n : ℕ) (h : n < cfg0.N), (outsAt0 m c n h).2.2 (ix2 0 b) = ∑ p ∈ Finset.range (256 * (n + 1)), part m c b p
  | 0, h => by
    rw [outsAt0_A m c ⟨0, h⟩ rfl]
    dsimp only
    rw [out6_A, adds]
    have z : k0_pay6 (F := Ideal) (ix2 0 b) = 0 := by pointwise [k0_pay6]
    rw [z, zero_add]
    simp only [Nat.mul_zero, Nat.zero_add, Nat.mul_one]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [out6_B, adds]
    rw [show 256 * (n + 1 + 1) = 256 * (n + 1) + 256 from by omega, Finset.sum_range_add]
    exact congrArg (· + _) (sums c b n _)

/-- The gradient of the weights, over all rows. -/
abbrev gradGain (c : Dev nD) : Vec Ideal S1x2048 .f32 := dg (V m c main_arg0) (V m c main_arg2)

theorem last (c : Dev nD) (h : 15 < cfg0.N) : (outsAt0 m c 15 h).2.2 = gradGain m c := by
  funext j
  obtain ⟨b, rfl⟩ : ∃ b, j = ix2 0 b := ⟨j 1, by
    funext d
    match d with
    | ⟨0, _⟩ => exact Fin.ext (by have : (j 0).val < 1 := (j 0).isLt; show (j 0).val = 0; omega)
    | ⟨1, _⟩ => rfl⟩
  rw [sums, gradGain, dg_at]
  rw [Finset.sum_range]
  refine Finset.sum_congr rfl fun a _ => ?_
  rw [part, dif_pos a.isLt]

theorem written6 (c : Dev nD) (t : Fin cfg0.N) (hf : (cfg0.win 6).flush t = true) : (dats m 0 c).flushed 6 t = ((cfg0.win 6).blk t).view.read (Elt Ideal) (gradGain m c) := by
  have hN : cfg0.N = 16 := N_0
  have h15 : t.val = 15 := by have := (flush0_6 t).mp hf; have := t.isLt; omega
  obtain rfl : t = t0_15 := Fin.ext h15
  rw [Value.flushed6, show (outsAt0 m c t0_15.val t0_15.isLt).2.2 = gradGain m c from last m c _]
  have hz' : (fun a => win0_6.index t0_15 a * main_v0_2.ty.shape.size a) = fun _ => 0 := funext fun a => by fin_cases a <;> decide
  exact (Memref.read_access_unit_zero (Elt Ideal) main_v0_2 hz' (fun a => by rw [congrFun hz' a]; simp) (gradGain m c)).symm

theorem covered6 (i : S1x2048.Idx) : ∃ t : Fin cfg0.N, (cfg0.win 6).flush t = true ∧ i ∈ ((cfg0.win 6).blk t).view.set := by
  have hN : cfg0.N = 16 := N_0
  have i0 : (i 0 : ℕ) < 1 := (i 0).isLt
  have i1 : (i 1 : ℕ) < 2048 := (i 1).isLt
  have at_ := place6 t0_15
  refine ⟨t0_15, (flush0_6 _).mpr rfl, ?_⟩
  show i ∈ ((View.whole main_v0_2).slice (win0_6.rect t0_15)).set
  rw [View.set_slice_whole, Rect.mem_set_unit]
  intro a
  match a with
  | ⟨0, _⟩ =>
    show win0_6.index t0_15 (0 : Fin 2) * 1 ≤ (i 0 : ℕ) ∧ (i 0 : ℕ) < win0_6.index t0_15 (0 : Fin 2) * 1 + 1
    rw [at_.1]
    omega
  | ⟨1, _⟩ =>
    show win0_6.index t0_15 (1 : Fin 2) * 2048 ≤ (i 1 : ℕ) ∧ (i 1 : ℕ) < win0_6.index t0_15 (1 : Fin 2) * 2048 + 2048
    rw [at_.2]
    omega

theorem whole6 (c : Dev nD) : (dats m 0 c).arrAt 6 cfg0.N = gradGain m c :=
  (dats m 0 c).arrAt_eq_of_cover 6 _ (written6 m c) covered6

end Cert.RmsBwdIdeal.Whole

end
-- ==== Proof.OutProjRow.lean ====
/- # The projection of the output, its error and its loss, read at an index

   The activation of a row, the error of the row and what the row adds to the loss depend on that row alone. The
   reference's terms are read so. -/
module

public import Idealize.ShloMosaic.Lib.Pointwise
public import Idealize.ShloMosaic.Lib.IdealHost
public import proofs.«01_k».proof.Proof.Gen.OutProjRefIdeal

@[expose] public section

noncomputable section

namespace Cert.Out

open Cert.OutProjRefIdeal Cert.OutProjRefIdeal.Facts₀ Idealize.ShloMosaic

/-- A part of the activation times its gate. -/
def gate (p g : EReal) : EReal := p * Ideal.div g (1 + Ideal.exp (-g))

theorem gate_eq (p g : EReal) : p * (g * Ideal.div 1 (1 + Ideal.exp (-g))) = gate p g := by
  have h : (1 : EReal) + Ideal.exp (-g) ≠ 0 := by
    have e : (0 : EReal) ≤ Ideal.exp (-g) := by
      induction g using EReal.rec with
      | bot => simp
      | top => simp
      | coe r => rw [← EReal.coe_neg, Ideal.exp_coe]; exact_mod_cast (Real.exp_pos _).le
    exact (lt_of_lt_of_le zero_lt_one (le_add_of_nonneg_right e)).ne'
  rw [gate, Ideal.mul_one_div h]

/-- Four parts of a row side by side. -/
def side (u0 u1 u2 u3 : Fin 512 → EReal) (b : Fin 2048) : EReal :=
  if h : b.val < 512 then u0 ⟨b.val, h⟩
  else if h : b.val - 512 < 512 then u1 ⟨b.val - 512, h⟩
  else if h : b.val - 512 - 512 < 512 then u2 ⟨b.val - 512 - 512, h⟩
  else u3 ⟨b.val - 512 - 512 - 512, by have := b.isLt; omega⟩

/-- The column of `r` in the part of the gates that starts at `o`. -/
def col (o : ℕ) (ho : o + 512 ≤ 6400) (r : Fin 512) : Fin 6400 := ⟨o + r.val, by have := r.isLt; omega⟩

/-- The error at a place of a row. -/
def miss (v : Fin 2048 → EReal) (w : Fin 2048 → Fin 2048 → EReal) (x t : EReal) (b : Fin 2048) : EReal :=
  x + ∑ k, v k * w k b - t

/-- What a row with these errors adds to the loss. -/
def share (v : Fin 2048 → EReal) : EReal := (∑ b, v b * v b) * Ideal.ofBits .f32 964689920#32

theorem two_pow : Ideal.ofBits .f32 1157627904#32 = ((2048 : ℝ) : EReal) := by
  simp [Ideal.ofBits, Ideal.ieee, -EReal.coe_mul]; norm_num

theorem two_pow_neg : Ideal.ofBits .f32 973078528#32 = ((1 / 2048 : ℝ) : EReal) := by
  simp [Ideal.ofBits, Ideal.ieee, -EReal.coe_mul]; norm_num

theorem half_two_pow_neg : Ideal.ofBits .f32 964689920#32 = ((1 / 4096 : ℝ) : EReal) := by
  simp [Ideal.ofBits, Ideal.ieee, -EReal.coe_mul]; norm_num

theorem half : Ideal.ofBits .f32 1056964608#32 = ((1 / 2 : ℝ) : EReal) := by
  simp [Ideal.ofBits, Ideal.ieee, -EReal.coe_mul]; norm_num

theorem two : Ideal.ofBits .f32 1073741824#32 = ((2 : ℝ) : EReal) := by
  simp [Ideal.ofBits, Ideal.ieee, -EReal.coe_mul]; norm_num

theorem div_eq (e : EReal) : Ideal.div e (Ideal.ofBits .f32 1157627904#32) = e * Ideal.ofBits .f32 973078528#32 := by
  rw [two_pow, Ideal.div_coe (by norm_num), two_pow_neg]

theorem half_div (e : EReal) : Ideal.ofBits .f32 1056964608#32 * Ideal.div e (Ideal.ofBits .f32 1157627904#32) = e * Ideal.ofBits .f32 964689920#32 := by
  rw [div_eq, half, two_pow_neg, half_two_pow_neg, mul_left_comm, ← EReal.coe_mul]
  norm_num

theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem mul_total {n : ℕ} (k : EReal) (f : Fin n → EReal) (h : ∀ a, 0 ≤ f a) : k * ∑ a, f a = ∑ a, k * f a := by
  classical
  have : ∀ s : Finset (Fin n), k * ∑ a ∈ s, f a = ∑ a ∈ s, k * f a := fun s => by
    induction s using Finset.induction_on with
    | empty => simp
    | insert a s ha ih =>
      rw [Finset.sum_insert ha, Finset.sum_insert ha, EReal.left_distrib_of_nonneg (h a) (Finset.sum_nonneg fun b _ => h b), ih]
  exact this _

/-- The reference's activation: the four parts side by side, each times its gate. -/
def act (p0 p1 p2 p3 : FVec Ideal S4096x512 .f32) (z : FVec Ideal S4096x6400 .f32) : FVec Ideal S4096x2048 .f32 :=
  (concatenate S4096x2048 1 [⟨S4096x512, ((mulf p0 (Host.divf (extractStridedSlice S4096x512 ![0, 1024] z slices_S4096x6400_S4096x512_0_1024) (addf (broadcastInDim S4096x512 ![] bcast_S_S4096x512 (constant S_ .f32 0x3F800000#32)) (Host.exp (Host.negf (extractStridedSlice S4096x512 ![0, 1024] z slices_S4096x6400_S4096x512_0_1024)))))) : (⟨S4096x512, .f32⟩ : BufTy).Contents (Elt Ideal))⟩, ⟨S4096x512, ((mulf p1 (Host.divf (extractStridedSlice S4096x512 ![0, 3072] z slices_S4096x6400_S4096x512_0_3072) (addf (broadcastInDim S4096x512 ![] bcast_S_S4096x512 (constant S_ .f32 0x3F800000#32)) (Host.exp (Host.negf (extractStridedSlice S4096x512 ![0, 3072] z slices_S4096x6400_S4096x512_0_3072)))))) : (⟨S4096x512, .f32⟩ : BufTy).Contents (Elt Ideal))⟩, ⟨S4096x512, ((mulf p2 (Host.divf (extractStridedSlice S4096x512 ![0, 4608] z slices_S4096x6400_S4096x512_0_4608) (addf (broadcastInDim S4096x512 ![] bcast_S_S4096x512 (constant S_ .f32 0x3F800000#32)) (Host.exp (Host.negf (extractStridedSlice S4096x512 ![0, 4608] z slices_S4096x6400_S4096x512_0_4608)))))) : (⟨S4096x512, .f32⟩ : BufTy).Contents (Elt Ideal))⟩, ⟨S4096x512, ((mulf p3 (Host.divf (extractStridedSlice S4096x512 ![0, 5632] z slices_S4096x6400_S4096x512_0_5632) (addf (broadcastInDim S4096x512 ![] bcast_S_S4096x512 (constant S_ .f32 0x3F800000#32)) (Host.exp (Host.negf (extractStridedSlice S4096x512 ![0, 5632] z slices_S4096x6400_S4096x512_0_5632)))))) : (⟨S4096x512, .f32⟩ : BufTy).Contents (Elt Ideal))⟩] concatenates_S4096x512_S4096x512_S4096x512_S4096x512_S4096x2048_d1 : (⟨S4096x2048, .f32⟩ : BufTy).Contents (Elt Ideal))

/-- The reference's error. -/
def err (p0 p1 p2 p3 : FVec Ideal S4096x512 .f32) (z : FVec Ideal S4096x6400 .f32) (w : FVec Ideal S2048x2048 .bf16) (x t : FVec Ideal S4096x2048 .f32) : FVec Ideal S4096x2048 .f32 :=
  subf (addf x (Host.dotGeneral dot_S4096x2048_S2048x2048_S4096x2048_1_0_0_1_n_n none ((act p0 p1 p2 p3 z)) (extf .f32 w bitsLt_bf16_f32))) t

/-- The reference's gradient of the loss. -/
def slope (p0 p1 p2 p3 : FVec Ideal S4096x512 .f32) (z : FVec Ideal S4096x6400 .f32) (w : FVec Ideal S2048x2048 .bf16) (x t : FVec Ideal S4096x2048 .f32) : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (err p0 p1 p2 p3 z w x t))

/-- The reference's loss. -/
def loss (p0 p1 p2 p3 : FVec Ideal S4096x512 .f32) (z : FVec Ideal S4096x6400 .f32) (w : FVec Ideal S2048x2048 .bf16) (x t : FVec Ideal S4096x2048 .f32) : FVec Ideal S1x1 .f32 :=
  shapeCast S1x1 (mulf (constant S_ .f32 0x3F000000#32) (Host.reduceAdd (Host.divf (Host.reduceAdd (mulf (err p0 p1 p2 p3 z w x t) (err p0 p1 p2 p3 z w x t)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_)) shapeCasts_S_S1x1

theorem act_at (p0 p1 p2 p3 : FVec Ideal S4096x512 .f32) (z : FVec Ideal S4096x6400 .f32) (a : Fin 4096) (b : Fin 2048) :
    act p0 p1 p2 p3 z (ix2 a b)
      = side (fun r => gate (p0 (ix2 a r)) (z (ix2 a (col 1024 (by decide) r)))) (fun r => gate (p1 (ix2 a r)) (z (ix2 a (col 3072 (by decide) r))))
        (fun r => gate (p2 (ix2 a r)) (z (ix2 a (col 4608 (by decide) r)))) (fun r => gate (p3 (ix2 a r)) (z (ix2 a (col 5632 (by decide) r)))) b := by
  pointwise [act, side, gate, col]

theorem err_at (p0 p1 p2 p3 : FVec Ideal S4096x512 .f32) (z : FVec Ideal S4096x6400 .f32) (w : FVec Ideal S2048x2048 .bf16) (x t : FVec Ideal S4096x2048 .f32) (a : Fin 4096) (b : Fin 2048) :
    err p0 p1 p2 p3 z w x t (ix2 a b) = miss (fun k => act p0 p1 p2 p3 z (ix2 a k)) (fun k b => w (ix2 k b)) (x (ix2 a b)) (t (ix2 a b)) b := by
  pointwise [err, miss]

theorem slope_at (p0 p1 p2 p3 : FVec Ideal S4096x512 .f32) (z : FVec Ideal S4096x6400 .f32) (w : FVec Ideal S2048x2048 .bf16) (x t : FVec Ideal S4096x2048 .f32) (a : Fin 4096) (b : Fin 2048) :
    slope p0 p1 p2 p3 z w x t (ix2 a b) = err p0 p1 p2 p3 z w x t (ix2 a b) * Ideal.ofBits .f32 973078528#32 := by
  have e : slope p0 p1 p2 p3 z w x t (ix2 a b) = Ideal.div (Ideal.ofBits .f32 1056964608#32 * 1) (Ideal.ofBits .f32 1157627904#32)
      * (Ideal.ofBits .f32 1073741824#32 * err p0 p1 p2 p3 z w x t (ix2 a b)) := by
    pointwise [slope]
  rw [e, mul_one, half, two_pow, two_pow_neg, two, Ideal.div_coe (by norm_num), ← EReal.coe_mul, ← mul_assoc, ← EReal.coe_mul, mul_comm]
  norm_num

theorem loss_at (p0 p1 p2 p3 : FVec Ideal S4096x512 .f32) (z : FVec Ideal S4096x6400 .f32) (w : FVec Ideal S2048x2048 .bf16) (x t : FVec Ideal S4096x2048 .f32) :
    loss p0 p1 p2 p3 z w x t (ix2 0 0) = ∑ a, share fun b => err p0 p1 p2 p3 z w x t (ix2 a b) := by
  have e : loss p0 p1 p2 p3 z w x t (ix2 0 0) = Ideal.ofBits .f32 1056964608#32 * ∑ a, Ideal.div (∑ b, err p0 p1 p2 p3 z w x t (ix2 a b) * err p0 p1 p2 p3 z w x t (ix2 a b)) (Ideal.ofBits .f32 1157627904#32) := by
    pointwise [loss]
  rw [e, mul_total]
  · exact Finset.sum_congr rfl fun a _ => half_div _
  · intro a
    rw [div_eq]
    refine mul_nonneg (Finset.sum_nonneg fun b _ => square_nonneg _) ?_
    rw [two_pow_neg]
    exact_mod_cast (by norm_num : (0 : ℝ) ≤ 1 / 2048)

end Cert.Out

end
-- ==== Proof.OutProjParts.lean ====
/- # The projection of the output, block by block

   The activation of a block of rows is stored as four column blocks and read back whole. -/
module

public import Idealize.ShloMosaic.Lib.Tactic
public import Idealize.ShloMosaic.Lib.Pointwise
public import proofs.«01_k».proof.Proof.OutProjRow
public import proofs.«01_k».proof.Proof.Gen.OutProjIdeal.Value

@[expose] public section

noncomputable section

namespace Cert.OutProjIdeal.Whole

open Cert.OutProjIdeal Cert.OutProjIdeal.Gen Cert.Out Idealize.ShloMosaic Idealize.ShloMosaic.TcCoe Idealize.SL.Sem

theorem hz : (![0, 0] : Fin 2 → ℕ) = fun _ => 0 := funext fun a => by fin_cases a <;> rfl

/-- The four column blocks of the activation, the last stored first. -/
def parts (p0 p1 p2 p3 g0 g1 g2 g3 : Vec Ideal S256x512 .f32) : List (View.Piece (Elt Ideal) S256x2048 .bf16) :=
  [⟨Rect.unit ![0, 1536] ![256, 512] inb_S256x2048_S256x512_0_1536, k0_pay7 p3 g3⟩,
      ⟨Rect.unit ![0, 1024] ![256, 512] inb_S256x2048_S256x512_0_1024, k0_pay6 p2 g2 (k0_pay5 g2)⟩,
      ⟨Rect.unit ![0, 512] ![256, 512] inb_S256x2048_S256x512_0_512, k0_pay4 p1 g1⟩,
      ⟨Rect.unit ![0, 0] ![256, 512] inb_S256x2048_S256x512_0_0, k0_pay3 p0 g0⟩]

/-- The activation of a block of rows. -/
def acts (p0 p1 p2 p3 g0 g1 g2 g3 : Vec Ideal S256x512 .f32) : Vec Ideal S256x2048 .bf16 := View.canon (parts p0 p1 p2 p3 g0 g1 g2 g3)

theorem readback {sig : RefSig} {κ : Kind} {sp : Space} (v : View sig κ sp S256x2048 .bf16) (p0 p1 p2 p3 g0 g1 g2 g3 : Vec Ideal S256x512 .f32) (inb) :
    v.readCov (parts p0 p1 p2 p3 g0 g1 g2 g3) (Rect.unit ![0, 0] S256x2048.size inb).toLoadRect = acts p0 p1 p2 p3 g0 g1 g2 g3 :=
  (View.readCov_eq_canon' v _ _).trans (View.ld_unit_zero (S := S256x2048) hz inb (acts p0 p1 p2 p3 g0 g1 g2 g3))

theorem out11_A (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S2048x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .bf16) (h12 : a12.IsWhole) (a13 : Memref sig .tc .vmem S256x2048 .f32) (h13 : a13.IsWhole) (a14 : Memref sig .tc .vmem S256x2048 .bf16) (h14 : a14.IsWhole) (a15 : Memref sig .tc .vmem S1x1 .f32) (h15 : a15.IsWhole) (hc : cond0_0 i)
    (p0 p1 p2 p3 g0 g1 g2 g3 : Vec Ideal S256x512 .f32) (w : Vec Ideal S2048x2048 .bf16) (x t : Vec Ideal S256x2048 .f32) :
    out0_A_11 c i a1 h1 a2 h2 a3 h3 a4 h4 a5 h5 a6 h6 a7 h7 a8 h8 a9 h9 a10 h10 a11 h11 a12 h12 a13 h13 a14 h14 a15 h15 hc p0 p1 p2 p3 g0 g1 g2 g3 w x t = (acts p0 p1 p2 p3 g0 g1 g2 g3) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc p0 p1 p2 p3 g0 g1 g2 g3 w x t)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h15.read_unread, View.ld_unit_zero (S := S256x2048) hz, View.ld_unit_zero (S := S256x512) hz, View.ld_unit_zero (S := S2048x2048) hz, View.ld_unit_zero (S := S1x1) hz, shapeCast_self]
  rfl

theorem out12_A (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S2048x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .bf16) (h12 : a12.IsWhole) (a13 : Memref sig .tc .vmem S256x2048 .f32) (h13 : a13.IsWhole) (a14 : Memref sig .tc .vmem S256x2048 .bf16) (h14 : a14.IsWhole) (a15 : Memref sig .tc .vmem S1x1 .f32) (h15 : a15.IsWhole) (hc : cond0_0 i)
    (p0 p1 p2 p3 g0 g1 g2 g3 : Vec Ideal S256x512 .f32) (w : Vec Ideal S2048x2048 .bf16) (x t : Vec Ideal S256x2048 .f32) :
    out0_A_12 c i a1 h1 a2 h2 a3 h3 a4 h4 a5 h5 a6 h6 a7 h7 a8 h8 a9 h9 a10 h10 a11 h11 a12 h12 a13 h13 a14 h14 a15 h15 hc p0 p1 p2 p3 g0 g1 g2 g3 w x t = k0_pay9 (acts p0 p1 p2 p3 g0 g1 g2 g3) w x t := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc p0 p1 p2 p3 g0 g1 g2 g3 w x t)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h15.read_unread, View.ld_unit_zero (S := S256x2048) hz, View.ld_unit_zero (S := S256x512) hz, View.ld_unit_zero (S := S2048x2048) hz, View.ld_unit_zero (S := S1x1) hz, shapeCast_self]
  exact congrArg (k0_pay9 · w x t) (readback a12.view p0 p1 p2 p3 g0 g1 g2 g3 inb_S256x2048_S256x2048_0_0)

theorem out13_A (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S2048x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .bf16) (h12 : a12.IsWhole) (a13 : Memref sig .tc .vmem S256x2048 .f32) (h13 : a13.IsWhole) (a14 : Memref sig .tc .vmem S256x2048 .bf16) (h14 : a14.IsWhole) (a15 : Memref sig .tc .vmem S1x1 .f32) (h15 : a15.IsWhole) (hc : cond0_0 i)
    (p0 p1 p2 p3 g0 g1 g2 g3 : Vec Ideal S256x512 .f32) (w : Vec Ideal S2048x2048 .bf16) (x t : Vec Ideal S256x2048 .f32) :
    out0_A_13 c i a1 h1 a2 h2 a3 h3 a4 h4 a5 h5 a6 h6 a7 h7 a8 h8 a9 h9 a10 h10 a11 h11 a12 h12 a13 h13 a14 h14 a15 h15 hc p0 p1 p2 p3 g0 g1 g2 g3 w x t = k0_pay10 (acts p0 p1 p2 p3 g0 g1 g2 g3) w x t := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc p0 p1 p2 p3 g0 g1 g2 g3 w x t)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h15.read_unread, View.ld_unit_zero (S := S256x2048) hz, View.ld_unit_zero (S := S256x512) hz, View.ld_unit_zero (S := S2048x2048) hz, View.ld_unit_zero (S := S1x1) hz, shapeCast_self]
  exact congrArg (k0_pay10 · w x t) (readback a12.view p0 p1 p2 p3 g0 g1 g2 g3 inb_S256x2048_S256x2048_0_0)

theorem out11_B (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S2048x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .bf16) (h12 : a12.IsWhole) (a13 : Memref sig .tc .vmem S256x2048 .f32) (h13 : a13.IsWhole) (a14 : Memref sig .tc .vmem S256x2048 .bf16) (h14 : a14.IsWhole) (a15 : Memref sig .tc .vmem S1x1 .f32) (h15 : a15.IsWhole) (hc : ¬cond0_0 i)
    (p0 p1 p2 p3 g0 g1 g2 g3 : Vec Ideal S256x512 .f32) (w : Vec Ideal S2048x2048 .bf16) (x t : Vec Ideal S256x2048 .f32) (o : Vec Ideal S1x1 .f32) :
    out0_B_11 c i a1 h1 a2 h2 a3 h3 a4 h4 a5 h5 a6 h6 a7 h7 a8 h8 a9 h9 a10 h10 a11 h11 a12 h12 a13 h13 a14 h14 a15 h15 hc p0 p1 p2 p3 g0 g1 g2 g3 w x t o = (acts p0 p1 p2 p3 g0 g1 g2 g3) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc p0 p1 p2 p3 g0 g1 g2 g3 w x t o)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h15.read_unread, View.ld_unit_zero (S := S256x2048) hz, View.ld_unit_zero (S := S256x512) hz, View.ld_unit_zero (S := S2048x2048) hz, View.ld_unit_zero (S := S1x1) hz, shapeCast_self]
  rfl

theorem out12_B (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S2048x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .bf16) (h12 : a12.IsWhole) (a13 : Memref sig .tc .vmem S256x2048 .f32) (h13 : a13.IsWhole) (a14 : Memref sig .tc .vmem S256x2048 .bf16) (h14 : a14.IsWhole) (a15 : Memref sig .tc .vmem S1x1 .f32) (h15 : a15.IsWhole) (hc : ¬cond0_0 i)
    (p0 p1 p2 p3 g0 g1 g2 g3 : Vec Ideal S256x512 .f32) (w : Vec Ideal S2048x2048 .bf16) (x t : Vec Ideal S256x2048 .f32) (o : Vec Ideal S1x1 .f32) :
    out0_B_12 c i a1 h1 a2 h2 a3 h3 a4 h4 a5 h5 a6 h6 a7 h7 a8 h8 a9 h9 a10 h10 a11 h11 a12 h12 a13 h13 a14 h14 a15 h15 hc p0 p1 p2 p3 g0 g1 g2 g3 w x t o = k0_pay9 (acts p0 p1 p2 p3 g0 g1 g2 g3) w x t := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc p0 p1 p2 p3 g0 g1 g2 g3 w x t o)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h15.read_unread, View.ld_unit_zero (S := S256x2048) hz, View.ld_unit_zero (S := S256x512) hz, View.ld_unit_zero (S := S2048x2048) hz, View.ld_unit_zero (S := S1x1) hz, shapeCast_self]
  exact congrArg (k0_pay9 · w x t) (readback a12.view p0 p1 p2 p3 g0 g1 g2 g3 inb_S256x2048_S256x2048_0_0)

theorem out13_B (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S2048x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .bf16) (h12 : a12.IsWhole) (a13 : Memref sig .tc .vmem S256x2048 .f32) (h13 : a13.IsWhole) (a14 : Memref sig .tc .vmem S256x2048 .bf16) (h14 : a14.IsWhole) (a15 : Memref sig .tc .vmem S1x1 .f32) (h15 : a15.IsWhole) (hc : ¬cond0_0 i)
    (p0 p1 p2 p3 g0 g1 g2 g3 : Vec Ideal S256x512 .f32) (w : Vec Ideal S2048x2048 .bf16) (x t : Vec Ideal S256x2048 .f32) (o : Vec Ideal S1x1 .f32) :
    out0_B_13 c i a1 h1 a2 h2 a3 h3 a4 h4 a5 h5 a6 h6 a7 h7 a8 h8 a9 h9 a10 h10 a11 h11 a12 h12 a13 h13 a14 h14 a15 h15 hc p0 p1 p2 p3 g0 g1 g2 g3 w x t o = k0_pay10 (acts p0 p1 p2 p3 g0 g1 g2 g3) w x t := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc p0 p1 p2 p3 g0 g1 g2 g3 w x t o)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h15.read_unread, View.ld_unit_zero (S := S256x2048) hz, View.ld_unit_zero (S := S256x512) hz, View.ld_unit_zero (S := S2048x2048) hz, View.ld_unit_zero (S := S1x1) hz, shapeCast_self]
  exact congrArg (k0_pay10 · w x t) (readback a12.view p0 p1 p2 p3 g0 g1 g2 g3 inb_S256x2048_S256x2048_0_0)

theorem out14_A (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S2048x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .bf16) (h12 : a12.IsWhole) (a13 : Memref sig .tc .vmem S256x2048 .f32) (h13 : a13.IsWhole) (a14 : Memref sig .tc .vmem S256x2048 .bf16) (h14 : a14.IsWhole) (a15 : Memref sig .tc .vmem S1x1 .f32) (h15 : a15.IsWhole) (hc : cond0_0 i)
    (p0 p1 p2 p3 g0 g1 g2 g3 : Vec Ideal S256x512 .f32) (w : Vec Ideal S2048x2048 .bf16) (x t : Vec Ideal S256x2048 .f32) :
    out0_A_14 c i a1 h1 a2 h2 a3 h3 a4 h4 a5 h5 a6 h6 a7 h7 a8 h8 a9 h9 a10 h10 a11 h11 a12 h12 a13 h13 a14 h14 a15 h15 hc p0 p1 p2 p3 g0 g1 g2 g3 w x t = k0_pay2 (k0_pay8 (acts p0 p1 p2 p3 g0 g1 g2 g3) w x t) (k0_pay1 (F := Ideal)) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 hc p0 p1 p2 p3 g0 g1 g2 g3 w x t)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, h8.read_unread, h9.read_unread, h10.read_unread, h11.read_unread, h15.read_unread, View.ld_unit_zero (S := S256x2048) hz, View.ld_unit_zero (S := S256x512) hz, View.ld_unit_zero (S := S2048x2048) hz, View.ld_unit_zero (S := S1x1) hz, shapeCast_self]
  exact congrArg (fun y => k0_pay2 (k0_pay8 y w x t) (k0_pay1 (F := Ideal))) (readback a12.view p0 p1 p2 p3 g0 g1 g2 g3 inb_S256x2048_S256x2048_0_0)

theorem out14_B (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S2048x2048 .bf16) (h9 : a9.IsWhole) (a10 : Memref sig .tc .vmem S256x2048 .f32) (h10 : a10.IsWhole) (a11 : Memref sig .tc .vmem S256x2048 .f32) (h11 : a11.IsWhole) (a12 : Memref sig .tc .vmem S256x2048 .bf16) (h12 : a12.IsWhole) (a13 : Memref sig .tc .vmem S256x2048 .f32) (h13 : a13.IsWhole) (a14 : Memref sig .tc .vmem S256x2048 .bf16) (h14 : a14.IsWhole) (a15 : Memref sig .tc .vmem S1x1 .f32) (h15 : a15.IsWhole) (hc : ¬cond0_0 i)
    (p0 p1 p2 p3 g0 g1 g2 g3 : Vec Ideal S256x512 .f32) (w : Vec Ideal S2048x2048 .bf16) (x t : Vec Ideal S256x2048 .f32) (o : Vec Ideal S1x1 .f32) :
    out0_B_14 c i a1 h1 a2 h2 a3 h3 a4 h4 a5 h5 a6 h6 a7 h7 a8 h8 a9 h9 a10 h10 a11 h11 a12 h12 a13 h13 a14 h14 a15 h15 hc p0 p1 p2 p3 g0 g1 g2 g3 w x t o = k0_pay2 (k0_pay8 (acts p0 p1 p2 p3 g0 g1 g2 g3) w x t) o := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 hc p0 p1 p2 p3 g0 g1 g2 g3 w x t o)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h15.read_unread, View.ld_unit_zero (S := S256x2048) hz, View.ld_unit_zero (S := S256x512) hz, View.ld_unit_zero (S := S2048x2048) hz, View.ld_unit_zero (S := S1x1) hz, shapeCast_self]
  exact congrArg (fun y => k0_pay2 (k0_pay8 y w x t) o) (readback a12.view p0 p1 p2 p3 g0 g1 g2 g3 inb_S256x2048_S256x2048_0_0)

/-- The activation of a block of rows, row by row. -/
def goal (p0 p1 p2 p3 g0 g1 g2 g3 : Vec Ideal S256x512 .f32) : Vec Ideal S256x2048 .bf16 := fun j =>
  side (fun r => gate (p0 (ix2 (j 0) r)) (g0 (ix2 (j 0) r))) (fun r => gate (p1 (ix2 (j 0) r)) (g1 (ix2 (j 0) r)))
    (fun r => gate (p2 (ix2 (j 0) r)) (g2 (ix2 (j 0) r))) (fun r => gate (p3 (ix2 (j 0) r)) (g3 (ix2 (j 0) r))) (j 1)

theorem part0 (p0 p1 p2 p3 g0 g1 g2 g3 : Vec Ideal S256x512 .f32) (j : S256x512.Idx) :
    k0_pay3 p0 g0 j = goal p0 p1 p2 p3 g0 g1 g2 g3 ((Rect.unit (s := S256x2048) ![0, 0] ![256, 512] inb_S256x2048_S256x512_0_0).emb j) := by
  obtain ⟨a, r, rfl⟩ : ∃ (a : Fin 256) (r : Fin 512), j = ix2 a r := ⟨j 0, j 1, eq_ix2 j⟩
  have h := r.isLt
  have e : (Rect.unit (s := S256x2048) ![0, 0] ![256, 512] inb_S256x2048_S256x512_0_0).emb (ix2 a r) = ix2 a (⟨0 + r.val, by omega⟩ : Fin 2048) := by
    funext d; apply Fin.ext
    match d with
    | ⟨0, _⟩ =>
      show 0 + 1 * a.val = a.val
      omega
    | ⟨1, _⟩ =>
      show 0 + 1 * r.val = 0 + r.val
      omega
  rw [e]
  have l : k0_pay3 p0 g0 (ix2 a r) = gate (p0 (ix2 a r)) (g0 (ix2 a r)) := by
    rw [← gate_eq]
    pointwise [k0_pay3, k0_pay4, k0_pay5, k0_pay6, k0_pay7, zero_sub, Ideal.ofBits_one_f32]
  rw [l]
  show _ = side _ _ _ _ (⟨0 + r.val, by omega⟩ : Fin 2048)
  unfold side
  rw [dif_pos (show 0 + r.val < 512 from by omega)]
  have i : (⟨0 + r.val, by omega⟩ : Fin 512) = r := Fin.ext (by dsimp only; omega)
  show _ = gate (p0 (ix2 a ⟨0 + r.val, _⟩)) (g0 (ix2 a ⟨0 + r.val, _⟩))
  rw [i]

theorem part1 (p0 p1 p2 p3 g0 g1 g2 g3 : Vec Ideal S256x512 .f32) (j : S256x512.Idx) :
    k0_pay4 p1 g1 j = goal p0 p1 p2 p3 g0 g1 g2 g3 ((Rect.unit (s := S256x2048) ![0, 512] ![256, 512] inb_S256x2048_S256x512_0_512).emb j) := by
  obtain ⟨a, r, rfl⟩ : ∃ (a : Fin 256) (r : Fin 512), j = ix2 a r := ⟨j 0, j 1, eq_ix2 j⟩
  have h := r.isLt
  have e : (Rect.unit (s := S256x2048) ![0, 512] ![256, 512] inb_S256x2048_S256x512_0_512).emb (ix2 a r) = ix2 a (⟨512 + r.val, by omega⟩ : Fin 2048) := by
    funext d; apply Fin.ext
    match d with
    | ⟨0, _⟩ =>
      show 0 + 1 * a.val = a.val
      omega
    | ⟨1, _⟩ =>
      show 512 + 1 * r.val = 512 + r.val
      omega
  rw [e]
  have l : k0_pay4 p1 g1 (ix2 a r) = gate (p1 (ix2 a r)) (g1 (ix2 a r)) := by
    rw [← gate_eq]
    pointwise [k0_pay3, k0_pay4, k0_pay5, k0_pay6, k0_pay7, zero_sub, Ideal.ofBits_one_f32]
  rw [l]
  show _ = side _ _ _ _ (⟨512 + r.val, by omega⟩ : Fin 2048)
  unfold side
  rw [dif_neg (show ¬(512 + r.val < 512) from by omega)]
  rw [dif_pos (show 512 + r.val - 512 < 512 from by omega)]
  have i : (⟨512 + r.val - 512, by omega⟩ : Fin 512) = r := Fin.ext (by dsimp only; omega)
  show _ = gate (p1 (ix2 a ⟨512 + r.val - 512, _⟩)) (g1 (ix2 a ⟨512 + r.val - 512, _⟩))
  rw [i]

theorem part2 (p0 p1 p2 p3 g0 g1 g2 g3 : Vec Ideal S256x512 .f32) (j : S256x512.Idx) :
    k0_pay6 p2 g2 (k0_pay5 g2) j = goal p0 p1 p2 p3 g0 g1 g2 g3 ((Rect.unit (s := S256x2048) ![0, 1024] ![256, 512] inb_S256x2048_S256x512_0_1024).emb j) := by
  obtain ⟨a, r, rfl⟩ : ∃ (a : Fin 256) (r : Fin 512), j = ix2 a r := ⟨j 0, j 1, eq_ix2 j⟩
  have h := r.isLt
  have e : (Rect.unit (s := S256x2048) ![0, 1024] ![256, 512] inb_S256x2048_S256x512_0_1024).emb (ix2 a r) = ix2 a (⟨1024 + r.val, by omega⟩ : Fin 2048) := by
    funext d; apply Fin.ext
    match d with
    | ⟨0, _⟩ =>
      show 0 + 1 * a.val = a.val
      omega
    | ⟨1, _⟩ =>
      show 1024 + 1 * r.val = 1024 + r.val
      omega
  rw [e]
  have l : k0_pay6 p2 g2 (k0_pay5 g2) (ix2 a r) = gate (p2 (ix2 a r)) (g2 (ix2 a r)) := by
    rw [← gate_eq]
    pointwise [k0_pay3, k0_pay4, k0_pay5, k0_pay6, k0_pay7, zero_sub, Ideal.ofBits_one_f32]
  rw [l]
  show _ = side _ _ _ _ (⟨1024 + r.val, by omega⟩ : Fin 2048)
  unfold side
  rw [dif_neg (show ¬(1024 + r.val < 512) from by omega)]
  rw [dif_neg (show ¬(1024 + r.val - 512 < 512) from by omega)]
  rw [dif_pos (show 1024 + r.val - 512 - 512 < 512 from by omega)]
  have i : (⟨1024 + r.val - 512 - 512, by omega⟩ : Fin 512) = r := Fin.ext (by dsimp only; omega)
  show _ = gate (p2 (ix2 a ⟨1024 + r.val - 512 - 512, _⟩)) (g2 (ix2 a ⟨1024 + r.val - 512 - 512, _⟩))
  rw [i]

theorem part3 (p0 p1 p2 p3 g0 g1 g2 g3 : Vec Ideal S256x512 .f32) (j : S256x512.Idx) :
    k0_pay7 p3 g3 j = goal p0 p1 p2 p3 g0 g1 g2 g3 ((Rect.unit (s := S256x2048) ![0, 1536] ![256, 512] inb_S256x2048_S256x512_0_1536).emb j) := by
  obtain ⟨a, r, rfl⟩ : ∃ (a : Fin 256) (r : Fin 512), j = ix2 a r := ⟨j 0, j 1, eq_ix2 j⟩
  have h := r.isLt
  have e : (Rect.unit (s := S256x2048) ![0, 1536] ![256, 512] inb_S256x2048_S256x512_0_1536).emb (ix2 a r) = ix2 a (⟨1536 + r.val, by omega⟩ : Fin 2048) := by
    funext d; apply Fin.ext
    match d with
    | ⟨0, _⟩ =>
      show 0 + 1 * a.val = a.val
      omega
    | ⟨1, _⟩ =>
      show 1536 + 1 * r.val = 1536 + r.val
      omega
  rw [e]
  have l : k0_pay7 p3 g3 (ix2 a r) = gate (p3 (ix2 a r)) (g3 (ix2 a r)) := by
    rw [← gate_eq]
    pointwise [k0_pay3, k0_pay4, k0_pay5, k0_pay6, k0_pay7, zero_sub, Ideal.ofBits_one_f32]
  rw [l]
  show _ = side _ _ _ _ (⟨1536 + r.val, by omega⟩ : Fin 2048)
  unfold side
  rw [dif_neg (show ¬(1536 + r.val < 512) from by omega)]
  rw [dif_neg (show ¬(1536 + r.val - 512 < 512) from by omega)]
  rw [dif_neg (show ¬(1536 + r.val - 512 - 512 < 512) from by omega)]
  have i : (⟨1536 + r.val - 512 - 512 - 512, by omega⟩ : Fin 512) = r := Fin.ext (by dsimp only; omega)
  show _ = gate (p3 (ix2 a ⟨1536 + r.val - 512 - 512 - 512, _⟩)) (g3 (ix2 a ⟨1536 + r.val - 512 - 512 - 512, _⟩))
  rw [i]

theorem acts_eq (p0 p1 p2 p3 g0 g1 g2 g3 : Vec Ideal S256x512 .f32) : acts p0 p1 p2 p3 g0 g1 g2 g3 = goal p0 p1 p2 p3 g0 g1 g2 g3 := by
  funext y
  refine View.canon_apply_of_pieces (goal p0 p1 p2 p3 g0 g1 g2 g3) _ ?_ y ?_
  · intro p hp
    rcases List.mem_cons.mp hp with rfl | hp
    · exact part3 p0 p1 p2 p3 g0 g1 g2 g3
    rcases List.mem_cons.mp hp with rfl | hp
    · exact part2 p0 p1 p2 p3 g0 g1 g2 g3
    rcases List.mem_cons.mp hp with rfl | hp
    · exact part1 p0 p1 p2 p3 g0 g1 g2 g3
    rcases List.mem_cons.mp hp with rfl | hp
    · exact part0 p0 p1 p2 p3 g0 g1 g2 g3
    nomatch hp
  · exact View.cover_of_tiledL (parts p0 p1 p2 p3 g0 g1 g2 g3) S256x512.size (by sl_kernel_rfl) y

end Cert.OutProjIdeal.Whole

end
-- ==== Proof.OutProjValue.lean ====
/- # The projection of the output, its error and its loss, whole

   Each block of the activation, of the error's gradient and of its rounding is the same rows of the reference's, and the
   loss, added up over the blocks of rows one after the other, is the sum over all rows. -/
module

public import proofs.«01_k».proof.Proof.OutProjParts

@[expose] public section

noncomputable section

namespace Cert.OutProjIdeal.Whole

open Cert.OutProjIdeal Cert.OutProjIdeal.Gen Cert.Out Idealize.ShloMosaic Idealize.ShloMosaic.TcCoe Idealize.SL.Sem

/-- The row of the whole at row `a` of block `t`. -/
def row (t : Fin cfg0.N) (a : Fin 256) : Fin 4096 := ⟨256 * t.val + a.val, by have := t.isLt; have h : cfg0.N = 16 := N_0; omega⟩

theorem place0 : ∀ t : Fin cfg0.N, win0_0.index t (0 : Fin 2) = t.val ∧ win0_0.index t (1 : Fin 2) = 0 :=
  (by decide +kernel : ∀ t : Fin grid0.N, _)

theorem place1 : ∀ t : Fin cfg0.N, win0_1.index t (0 : Fin 2) = t.val ∧ win0_1.index t (1 : Fin 2) = 0 :=
  (by decide +kernel : ∀ t : Fin grid0.N, _)

theorem place2 : ∀ t : Fin cfg0.N, win0_2.index t (0 : Fin 2) = t.val ∧ win0_2.index t (1 : Fin 2) = 0 :=
  (by decide +kernel : ∀ t : Fin grid0.N, _)

theorem place3 : ∀ t : Fin cfg0.N, win0_3.index t (0 : Fin 2) = t.val ∧ win0_3.index t (1 : Fin 2) = 0 :=
  (by decide +kernel : ∀ t : Fin grid0.N, _)

theorem place9 : ∀ t : Fin cfg0.N, win0_9.index t (0 : Fin 2) = t.val ∧ win0_9.index t (1 : Fin 2) = 0 :=
  (by decide +kernel : ∀ t : Fin grid0.N, _)

theorem place10 : ∀ t : Fin cfg0.N, win0_10.index t (0 : Fin 2) = t.val ∧ win0_10.index t (1 : Fin 2) = 0 :=
  (by decide +kernel : ∀ t : Fin grid0.N, _)

theorem place11 : ∀ t : Fin cfg0.N, win0_11.index t (0 : Fin 2) = t.val ∧ win0_11.index t (1 : Fin 2) = 0 :=
  (by decide +kernel : ∀ t : Fin grid0.N, _)

theorem place12 : ∀ t : Fin cfg0.N, win0_12.index t (0 : Fin 2) = t.val ∧ win0_12.index t (1 : Fin 2) = 0 :=
  (by decide +kernel : ∀ t : Fin grid0.N, _)

theorem place13 : ∀ t : Fin cfg0.N, win0_13.index t (0 : Fin 2) = t.val ∧ win0_13.index t (1 : Fin 2) = 0 :=
  (by decide +kernel : ∀ t : Fin grid0.N, _)

theorem place4 : ∀ t : Fin cfg0.N, win0_4.index t (0 : Fin 2) = t.val ∧ win0_4.index t (1 : Fin 2) = 2 :=
  (by decide +kernel : ∀ t : Fin grid0.N, _)

theorem place5 : ∀ t : Fin cfg0.N, win0_5.index t (0 : Fin 2) = t.val ∧ win0_5.index t (1 : Fin 2) = 6 :=
  (by decide +kernel : ∀ t : Fin grid0.N, _)

theorem place6 : ∀ t : Fin cfg0.N, win0_6.index t (0 : Fin 2) = t.val ∧ win0_6.index t (1 : Fin 2) = 9 :=
  (by decide +kernel : ∀ t : Fin grid0.N, _)

theorem place7 : ∀ t : Fin cfg0.N, win0_7.index t (0 : Fin 2) = t.val ∧ win0_7.index t (1 : Fin 2) = 11 :=
  (by decide +kernel : ∀ t : Fin grid0.N, _)

theorem place8 : ∀ t : Fin cfg0.N, win0_8.index t (0 : Fin 2) = 0 ∧ win0_8.index t (1 : Fin 2) = 0 :=
  (by decide +kernel : ∀ t : Fin grid0.N, _)

theorem place14 : ∀ t : Fin cfg0.N, win0_14.index t (0 : Fin 2) = 0 ∧ win0_14.index t (1 : Fin 2) = 0 :=
  (by decide +kernel : ∀ t : Fin grid0.N, _)

theorem covered11 (i : S4096x2048.Idx) : ∃ t : Fin cfg0.N, (cfg0.win 11).flush t = true ∧ i ∈ ((cfg0.win 11).blk t).view.set := by
  have i0 : (i 0 : ℕ) < 4096 := (i 0).isLt
  have i1 : (i 1 : ℕ) < 2048 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place11 t
  refine ⟨t, flush0_11 t, ?_⟩
  show i ∈ ((View.whole main_v0_0).slice (win0_11.rect t)).set
  rw [View.set_slice_whole, Rect.mem_set_unit]
  intro a
  match a with
  | ⟨0, _⟩ =>
    show win0_11.index t (0 : Fin 2) * 256 ≤ (i 0 : ℕ) ∧ (i 0 : ℕ) < win0_11.index t (0 : Fin 2) * 256 + 256
    rw [at_.1, ht]
    omega
  | ⟨1, _⟩ =>
    show win0_11.index t (1 : Fin 2) * 2048 ≤ (i 1 : ℕ) ∧ (i 1 : ℕ) < win0_11.index t (1 : Fin 2) * 2048 + 2048
    rw [at_.2]
    omega

theorem covered12 (i : S4096x2048.Idx) : ∃ t : Fin cfg0.N, (cfg0.win 12).flush t = true ∧ i ∈ ((cfg0.win 12).blk t).view.set := by
  have i0 : (i 0 : ℕ) < 4096 := (i 0).isLt
  have i1 : (i 1 : ℕ) < 2048 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place12 t
  refine ⟨t, flush0_12 t, ?_⟩
  show i ∈ ((View.whole main_v0_1).slice (win0_12.rect t)).set
  rw [View.set_slice_whole, Rect.mem_set_unit]
  intro a
  match a with
  | ⟨0, _⟩ =>
    show win0_12.index t (0 : Fin 2) * 256 ≤ (i 0 : ℕ) ∧ (i 0 : ℕ) < win0_12.index t (0 : Fin 2) * 256 + 256
    rw [at_.1, ht]
    omega
  | ⟨1, _⟩ =>
    show win0_12.index t (1 : Fin 2) * 2048 ≤ (i 1 : ℕ) ∧ (i 1 : ℕ) < win0_12.index t (1 : Fin 2) * 2048 + 2048
    rw [at_.2]
    omega

theorem covered13 (i : S4096x2048.Idx) : ∃ t : Fin cfg0.N, (cfg0.win 13).flush t = true ∧ i ∈ ((cfg0.win 13).blk t).view.set := by
  have i0 : (i 0 : ℕ) < 4096 := (i 0).isLt
  have i1 : (i 1 : ℕ) < 2048 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place13 t
  refine ⟨t, flush0_13 t, ?_⟩
  show i ∈ ((View.whole main_v0_2).slice (win0_13.rect t)).set
  rw [View.set_slice_whole, Rect.mem_set_unit]
  intro a
  match a with
  | ⟨0, _⟩ =>
    show win0_13.index t (0 : Fin 2) * 256 ≤ (i 0 : ℕ) ∧ (i 0 : ℕ) < win0_13.index t (0 : Fin 2) * 256 + 256
    rw [at_.1, ht]
    omega
  | ⟨1, _⟩ =>
    show win0_13.index t (1 : Fin 2) * 2048 ≤ (i 1 : ℕ) ∧ (i 1 : ℕ) < win0_13.index t (1 : Fin 2) * 2048 + 2048
    rw [at_.2]
    omega

theorem miss_at (y : FVec Ideal S256x2048 .bf16) (w : FVec Ideal S2048x2048 .bf16) (x t : FVec Ideal S256x2048 .f32) (a : Fin 256) (b : Fin 2048) :
    k0_pay8 (F := Ideal) y w x t (ix2 a b) = miss (fun k => y (ix2 a k)) (fun k b => w (ix2 k b)) (x (ix2 a b)) (t (ix2 a b)) b := by
  rw [miss, add_comm (x (ix2 a b))]
  pointwise [k0_pay8]

variable (m : (ℓ : Loc nD τ sig) → Buf (Elt Ideal) ℓ)

theorem block0 (c : Dev nD) (t : Fin cfg0.N) (a : Fin 256) (b : Fin 512) : (iblk m c 0 t : Vec Ideal S256x512 .f32) (ix2 a b) = (V m c main_arg0 : Vec Ideal S4096x512 .f32) (ix2 (row t a) (b)) := by
  have e := place0 t
  refine congrArg (V m c main_arg0 : Vec Ideal S4096x512 .f32) ?_
  funext d; apply Fin.ext
  match d with
  | ⟨0, _⟩ =>
    show win0_0.index t (0 : Fin 2) * 256 + 1 * a.val = 256 * t.val + a.val
    rw [e.1]; omega
  | ⟨1, _⟩ =>
    show win0_0.index t (1 : Fin 2) * 512 + 1 * b.val = b.val
    rw [e.2]; omega

theorem block1 (c : Dev nD) (t : Fin cfg0.N) (a : Fin 256) (b : Fin 512) : (iblk m c 1 t : Vec Ideal S256x512 .f32) (ix2 a b) = (V m c main_arg1 : Vec Ideal S4096x512 .f32) (ix2 (row t a) (b)) := by
  have e := place1 t
  refine congrArg (V m c main_arg1 : Vec Ideal S4096x512 .f32) ?_
  funext d; apply Fin.ext
  match d with
  | ⟨0, _⟩ =>
    show win0_1.index t (0 : Fin 2) * 256 + 1 * a.val = 256 * t.val + a.val
    rw [e.1]; omega
  | ⟨1, _⟩ =>
    show win0_1.index t (1 : Fin 2) * 512 + 1 * b.val = b.val
    rw [e.2]; omega

theorem block2 (c : Dev nD) (t : Fin cfg0.N) (a : Fin 256) (b : Fin 512) : (iblk m c 2 t : Vec Ideal S256x512 .f32) (ix2 a b) = (V m c main_arg2 : Vec Ideal S4096x512 .f32) (ix2 (row t a) (b)) := by
  have e := place2 t
  refine congrArg (V m c main_arg2 : Vec Ideal S4096x512 .f32) ?_
  funext d; apply Fin.ext
  match d with
  | ⟨0, _⟩ =>
    show win0_2.index t (0 : Fin 2) * 256 + 1 * a.val = 256 * t.val + a.val
    rw [e.1]; omega
  | ⟨1, _⟩ =>
    show win0_2.index t (1 : Fin 2) * 512 + 1 * b.val = b.val
    rw [e.2]; omega

theorem block3 (c : Dev nD) (t : Fin cfg0.N) (a : Fin 256) (b : Fin 512) : (iblk m c 3 t : Vec Ideal S256x512 .f32) (ix2 a b) = (V m c main_arg3 : Vec Ideal S4096x512 .f32) (ix2 (row t a) (b)) := by
  have e := place3 t
  refine congrArg (V m c main_arg3 : Vec Ideal S4096x512 .f32) ?_
  funext d; apply Fin.ext
  match d with
  | ⟨0, _⟩ =>
    show win0_3.index t (0 : Fin 2) * 256 + 1 * a.val = 256 * t.val + a.val
    rw [e.1]; omega
  | ⟨1, _⟩ =>
    show win0_3.index t (1 : Fin 2) * 512 + 1 * b.val = b.val
    rw [e.2]; omega

theorem block4 (c : Dev nD) (t : Fin cfg0.N) (a : Fin 256) (b : Fin 512) : (X0_4 m c t : Vec Ideal S256x512 .f32) (ix2 a b) = (V m c main_arg4 : Vec Ideal S4096x6400 .f32) (ix2 (row t a) (col 1024 (by decide) b)) := by
  have e := place4 t
  unfold X0_4 Pipeline.Window.fill
  rw [dif_pos (moved0_4 t (ix2 a b))]
  refine congrArg (V m c main_arg4 : Vec Ideal S4096x6400 .f32) ?_
  funext d; apply Fin.ext
  match d with
  | ⟨0, _⟩ =>
    show win0_4.index t (0 : Fin 2) * 256 + 1 * a.val = 256 * t.val + a.val
    rw [e.1]; omega
  | ⟨1, _⟩ =>
    show win0_4.index t (1 : Fin 2) * 512 + 1 * b.val = 1024 + b.val
    rw [e.2]; omega

theorem block5 (c : Dev nD) (t : Fin cfg0.N) (a : Fin 256) (b : Fin 512) : (X0_5 m c t : Vec Ideal S256x512 .f32) (ix2 a b) = (V m c main_arg4 : Vec Ideal S4096x6400 .f32) (ix2 (row t a) (col 3072 (by decide) b)) := by
  have e := place5 t
  unfold X0_5 Pipeline.Window.fill
  rw [dif_pos (moved0_5 t (ix2 a b))]
  refine congrArg (V m c main_arg4 : Vec Ideal S4096x6400 .f32) ?_
  funext d; apply Fin.ext
  match d with
  | ⟨0, _⟩ =>
    show win0_5.index t (0 : Fin 2) * 256 + 1 * a.val = 256 * t.val + a.val
    rw [e.1]; omega
  | ⟨1, _⟩ =>
    show win0_5.index t (1 : Fin 2) * 512 + 1 * b.val = 3072 + b.val
    rw [e.2]; omega

theorem block6 (c : Dev nD) (t : Fin cfg0.N) (a : Fin 256) (b : Fin 512) : (X0_6 m c t : Vec Ideal S256x512 .f32) (ix2 a b) = (V m c main_arg4 : Vec Ideal S4096x6400 .f32) (ix2 (row t a) (col 4608 (by decide) b)) := by
  have e := place6 t
  unfold X0_6 Pipeline.Window.fill
  rw [dif_pos (moved0_6 t (ix2 a b))]
  refine congrArg (V m c main_arg4 : Vec Ideal S4096x6400 .f32) ?_
  funext d; apply Fin.ext
  match d with
  | ⟨0, _⟩ =>
    show win0_6.index t (0 : Fin 2) * 256 + 1 * a.val = 256 * t.val + a.val
    rw [e.1]; omega
  | ⟨1, _⟩ =>
    show win0_6.index t (1 : Fin 2) * 512 + 1 * b.val = 4608 + b.val
    rw [e.2]; omega

theorem block7 (c : Dev nD) (t : Fin cfg0.N) (a : Fin 256) (b : Fin 512) : (X0_7 m c t : Vec Ideal S256x512 .f32) (ix2 a b) = (V m c main_arg4 : Vec Ideal S4096x6400 .f32) (ix2 (row t a) (col 5632 (by decide) b)) := by
  have e := place7 t
  unfold X0_7 Pipeline.Window.fill
  rw [dif_pos (moved0_7 t (ix2 a b))]
  refine congrArg (V m c main_arg4 : Vec Ideal S4096x6400 .f32) ?_
  funext d; apply Fin.ext
  match d with
  | ⟨0, _⟩ =>
    show win0_7.index t (0 : Fin 2) * 256 + 1 * a.val = 256 * t.val + a.val
    rw [e.1]; omega
  | ⟨1, _⟩ =>
    show win0_7.index t (1 : Fin 2) * 512 + 1 * b.val = 5632 + b.val
    rw [e.2]; omega

theorem block8 (c : Dev nD) (t : Fin cfg0.N) (a : Fin 2048) (b : Fin 2048) : (iblk m c 8 t : Vec Ideal S2048x2048 .bf16) (ix2 a b) = (V m c main_arg5 : Vec Ideal S2048x2048 .bf16) (ix2 (a) (b)) := by
  have e := place8 t
  refine congrArg (V m c main_arg5 : Vec Ideal S2048x2048 .bf16) ?_
  funext d; apply Fin.ext
  match d with
  | ⟨0, _⟩ =>
    show win0_8.index t (0 : Fin 2) * 2048 + 1 * a.val = a.val
    rw [e.1]; omega
  | ⟨1, _⟩ =>
    show win0_8.index t (1 : Fin 2) * 2048 + 1 * b.val = b.val
    rw [e.2]; omega

theorem block9 (c : Dev nD) (t : Fin cfg0.N) (a : Fin 256) (b : Fin 2048) : (iblk m c 9 t : Vec Ideal S256x2048 .f32) (ix2 a b) = (V m c main_arg6 : Vec Ideal S4096x2048 .f32) (ix2 (row t a) (b)) := by
  have e := place9 t
  refine congrArg (V m c main_arg6 : Vec Ideal S4096x2048 .f32) ?_
  funext d; apply Fin.ext
  match d with
  | ⟨0, _⟩ =>
    show win0_9.index t (0 : Fin 2) * 256 + 1 * a.val = 256 * t.val + a.val
    rw [e.1]; omega
  | ⟨1, _⟩ =>
    show win0_9.index t (1 : Fin 2) * 2048 + 1 * b.val = b.val
    rw [e.2]; omega

theorem block10 (c : Dev nD) (t : Fin cfg0.N) (a : Fin 256) (b : Fin 2048) : (iblk m c 10 t : Vec Ideal S256x2048 .f32) (ix2 a b) = (V m c main_arg7 : Vec Ideal S4096x2048 .f32) (ix2 (row t a) (b)) := by
  have e := place10 t
  refine congrArg (V m c main_arg7 : Vec Ideal S4096x2048 .f32) ?_
  funext d; apply Fin.ext
  match d with
  | ⟨0, _⟩ =>
    show win0_10.index t (0 : Fin 2) * 256 + 1 * a.val = 256 * t.val + a.val
    rw [e.1]; omega
  | ⟨1, _⟩ =>
    show win0_10.index t (1 : Fin 2) * 2048 + 1 * b.val = b.val
    rw [e.2]; omega

/-- The activation, all of it. -/
abbrev actOut (c : Dev nD) : Vec Ideal S4096x2048 .bf16 := act (V m c main_arg0) (V m c main_arg1) (V m c main_arg2) (V m c main_arg3) (V m c main_arg4)

/-- The error, all of it. -/
abbrev errOut (c : Dev nD) : Vec Ideal S4096x2048 .f32 := err (V m c main_arg0) (V m c main_arg1) (V m c main_arg2) (V m c main_arg3) (V m c main_arg4) (V m c main_arg5) (V m c main_arg6) (V m c main_arg7)

/-- The gradient of the loss, all of it. -/
abbrev slopeOut (c : Dev nD) : Vec Ideal S4096x2048 .f32 := slope (V m c main_arg0) (V m c main_arg1) (V m c main_arg2) (V m c main_arg3) (V m c main_arg4) (V m c main_arg5) (V m c main_arg6) (V m c main_arg7)

/-- The loss. -/
abbrev lossOut (c : Dev nD) : Vec Ideal S1x1 .f32 := loss (V m c main_arg0) (V m c main_arg1) (V m c main_arg2) (V m c main_arg3) (V m c main_arg4) (V m c main_arg5) (V m c main_arg6) (V m c main_arg7)

theorem acts_at (c : Dev nD) (t : Fin cfg0.N) (a : Fin 256) (b : Fin 2048) : (acts (iblk m c 0 t) (iblk m c 1 t) (iblk m c 2 t) (iblk m c 3 t) (X0_4 m c t) (X0_5 m c t) (X0_6 m c t) (X0_7 m c t)) (ix2 a b) = actOut m c (ix2 (row t a) b) := by
  rw [actOut, act_at, acts_eq]
  show side _ _ _ _ _ = _
  show side (fun r => gate ((iblk m c 0 t : Vec Ideal S256x512 .f32) (ix2 a r)) ((X0_4 m c t : Vec Ideal S256x512 .f32) (ix2 a r))) (fun r => gate ((iblk m c 1 t : Vec Ideal S256x512 .f32) (ix2 a r)) ((X0_5 m c t : Vec Ideal S256x512 .f32) (ix2 a r)))
    (fun r => gate ((iblk m c 2 t : Vec Ideal S256x512 .f32) (ix2 a r)) ((X0_6 m c t : Vec Ideal S256x512 .f32) (ix2 a r))) (fun r => gate ((iblk m c 3 t : Vec Ideal S256x512 .f32) (ix2 a r)) ((X0_7 m c t : Vec Ideal S256x512 .f32) (ix2 a r))) b = _
  simp only [block0, block1, block2, block3, block4, block5, block6, block7]

theorem err_block (c : Dev nD) (t : Fin cfg0.N) (a : Fin 256) (b : Fin 2048) : k0_pay8 (acts (iblk m c 0 t) (iblk m c 1 t) (iblk m c 2 t) (iblk m c 3 t) (X0_4 m c t) (X0_5 m c t) (X0_6 m c t) (X0_7 m c t)) (iblk m c 8 t) (iblk m c 9 t) (iblk m c 10 t) (ix2 a b) = errOut m c (ix2 (row t a) b) := by
  rw [errOut, err_at]
  have e : k0_pay8 (acts (iblk m c 0 t) (iblk m c 1 t) (iblk m c 2 t) (iblk m c 3 t) (X0_4 m c t) (X0_5 m c t) (X0_6 m c t) (X0_7 m c t)) (iblk m c 8 t) (iblk m c 9 t) (iblk m c 10 t) (ix2 a b)
      = miss (fun k => (acts (iblk m c 0 t) (iblk m c 1 t) (iblk m c 2 t) (iblk m c 3 t) (X0_4 m c t) (X0_5 m c t) (X0_6 m c t) (X0_7 m c t)) (ix2 a k)) (fun k b => (iblk m c 8 t : Vec Ideal S2048x2048 .bf16) (ix2 k b)) ((iblk m c 9 t : Vec Ideal S256x2048 .f32) (ix2 a b)) ((iblk m c 10 t : Vec Ideal S256x2048 .f32) (ix2 a b)) b := by
    exact miss_at ..
  rw [e]
  simp only [acts_at, block8, block9, block10]

theorem slope_block (c : Dev nD) (t : Fin cfg0.N) (a : Fin 256) (b : Fin 2048) : k0_pay9 (acts (iblk m c 0 t) (iblk m c 1 t) (iblk m c 2 t) (iblk m c 3 t) (X0_4 m c t) (X0_5 m c t) (X0_6 m c t) (X0_7 m c t)) (iblk m c 8 t) (iblk m c 9 t) (iblk m c 10 t) (ix2 a b) = slopeOut m c (ix2 (row t a) b) := by
  rw [slopeOut, slope_at]
  refine Eq.trans ?_ (congrArg (· * Ideal.ofBits .f32 973078528#32) (err_block m c t a b))
  pointwise [k0_pay9]

theorem outs11 (c : Dev nD) (t : Fin cfg0.N) : (outsAt0 m c t.val t.isLt).1 = (acts (iblk m c 0 t) (iblk m c 1 t) (iblk m c 2 t) (iblk m c 3 t) (X0_4 m c t) (X0_5 m c t) (X0_6 m c t) (X0_7 m c t)) := by
  by_cases h0 : t.val % 16 = 0
  · rw [outsAt0_A m c t h0]
    dsimp only
    rw [out11_A]
  · rw [outsAt0_B m c t h0]
    dsimp only
    rw [out11_B]

theorem written11 (c : Dev nD) (t : Fin cfg0.N) : (dats m 0 c).flushed 11 t = ((cfg0.win 11).blk t).view.read (Elt Ideal) (actOut m c) := by
  rw [Value.flushed11, outs11]
  funext j
  have e : ((cfg0.win 11).blk t).view.emb j = ix2 (row t (j 0)) (j 1) := by
    funext d; apply Fin.ext
    match d with
    | ⟨0, _⟩ =>
      show win0_11.index t (0 : Fin 2) * 256 + 1 * (j 0).val = 256 * t.val + (j 0).val
      rw [(place11 t).1]; omega
    | ⟨1, _⟩ =>
      show win0_11.index t (1 : Fin 2) * 2048 + 1 * (j 1).val = (j 1).val
      rw [(place11 t).2]; omega
  show (acts (iblk m c 0 t) (iblk m c 1 t) (iblk m c 2 t) (iblk m c 3 t) (X0_4 m c t) (X0_5 m c t) (X0_6 m c t) (X0_7 m c t)) j = actOut m c (((cfg0.win 11).blk t).view.emb j)
  rw [e, eq_ix2 j]
  exact acts_at m c t (j 0) (j 1)

theorem whole11 (c : Dev nD) : (dats m 0 c).arrAt 11 cfg0.N = actOut m c :=
  (dats m 0 c).arrAt_eq_of_cover 11 _ (fun t _ => written11 m c t) covered11

theorem outs12 (c : Dev nD) (t : Fin cfg0.N) : (outsAt0 m c t.val t.isLt).2.1 = k0_pay9 (acts (iblk m c 0 t) (iblk m c 1 t) (iblk m c 2 t) (iblk m c 3 t) (X0_4 m c t) (X0_5 m c t) (X0_6 m c t) (X0_7 m c t)) (iblk m c 8 t) (iblk m c 9 t) (iblk m c 10 t) := by
  by_cases h0 : t.val % 16 = 0
  · rw [outsAt0_A m c t h0]
    dsimp only
    rw [out12_A]
  · rw [outsAt0_B m c t h0]
    dsimp only
    rw [out12_B]

theorem written12 (c : Dev nD) (t : Fin cfg0.N) : (dats m 0 c).flushed 12 t = ((cfg0.win 12).blk t).view.read (Elt Ideal) (slopeOut m c) := by
  rw [Value.flushed12, outs12]
  funext j
  have e : ((cfg0.win 12).blk t).view.emb j = ix2 (row t (j 0)) (j 1) := by
    funext d; apply Fin.ext
    match d with
    | ⟨0, _⟩ =>
      show win0_12.index t (0 : Fin 2) * 256 + 1 * (j 0).val = 256 * t.val + (j 0).val
      rw [(place12 t).1]; omega
    | ⟨1, _⟩ =>
      show win0_12.index t (1 : Fin 2) * 2048 + 1 * (j 1).val = (j 1).val
      rw [(place12 t).2]; omega
  show k0_pay9 (acts (iblk m c 0 t) (iblk m c 1 t) (iblk m c 2 t) (iblk m c 3 t) (X0_4 m c t) (X0_5 m c t) (X0_6 m c t) (X0_7 m c t)) (iblk m c 8 t) (iblk m c 9 t) (iblk m c 10 t) j = slopeOut m c (((cfg0.win 12).blk t).view.emb j)
  rw [e, eq_ix2 j]
  exact slope_block m c t (j 0) (j 1)

theorem whole12 (c : Dev nD) : (dats m 0 c).arrAt 12 cfg0.N = slopeOut m c :=
  (dats m 0 c).arrAt_eq_of_cover 12 _ (fun t _ => written12 m c t) covered12

theorem outs13 (c : Dev nD) (t : Fin cfg0.N) : (outsAt0 m c t.val t.isLt).2.2.1 = k0_pay10 (acts (iblk m c 0 t) (iblk m c 1 t) (iblk m c 2 t) (iblk m c 3 t) (X0_4 m c t) (X0_5 m c t) (X0_6 m c t) (X0_7 m c t)) (iblk m c 8 t) (iblk m c 9 t) (iblk m c 10 t) := by
  by_cases h0 : t.val % 16 = 0
  · rw [outsAt0_A m c t h0]
    dsimp only
    rw [out13_A]
  · rw [outsAt0_B m c t h0]
    dsimp only
    rw [out13_B]

theorem written13 (c : Dev nD) (t : Fin cfg0.N) : (dats m 0 c).flushed 13 t = ((cfg0.win 13).blk t).view.read (Elt Ideal) ((slopeOut m c : Vec Ideal S4096x2048 .bf16)) := by
  rw [Value.flushed13, outs13]
  funext j
  have e : ((cfg0.win 13).blk t).view.emb j = ix2 (row t (j 0)) (j 1) := by
    funext d; apply Fin.ext
    match d with
    | ⟨0, _⟩ =>
      show win0_13.index t (0 : Fin 2) * 256 + 1 * (j 0).val = 256 * t.val + (j 0).val
      rw [(place13 t).1]; omega
    | ⟨1, _⟩ =>
      show win0_13.index t (1 : Fin 2) * 2048 + 1 * (j 1).val = (j 1).val
      rw [(place13 t).2]; omega
  show k0_pay9 (acts (iblk m c 0 t) (iblk m c 1 t) (iblk m c 2 t) (iblk m c 3 t) (X0_4 m c t) (X0_5 m c t) (X0_6 m c t) (X0_7 m c t)) (iblk m c 8 t) (iblk m c 9 t) (iblk m c 10 t) j = slopeOut m c (((cfg0.win 13).blk t).view.emb j)
  rw [e, eq_ix2 j]
  exact slope_block m c t (j 0) (j 1)

theorem whole13 (c : Dev nD) : (dats m 0 c).arrAt 13 cfg0.N = (slopeOut m c : Vec Ideal S4096x2048 .bf16) :=
  (dats m 0 c).arrAt_eq_of_cover 13 _ (fun t _ => written13 m c t) covered13

/-- What a row adds to the loss. -/
def part (c : Dev nD) (p : ℕ) : EReal :=
  if h : p < 4096 then share (fun b => errOut m c (ix2 ⟨p, h⟩ b)) else 0

theorem adds (c : Dev nD) (t : Fin cfg0.N) (o : Vec Ideal S1x1 .f32) :
    k0_pay2 (k0_pay8 (acts (iblk m c 0 t) (iblk m c 1 t) (iblk m c 2 t) (iblk m c 3 t) (X0_4 m c t) (X0_5 m c t) (X0_6 m c t) (X0_7 m c t)) (iblk m c 8 t) (iblk m c 9 t) (iblk m c 10 t)) o (ix2 0 0) = o (ix2 0 0) + ∑ p ∈ Finset.range 256, part m c (256 * t.val + p) := by
  have e : k0_pay2 (k0_pay8 (acts (iblk m c 0 t) (iblk m c 1 t) (iblk m c 2 t) (iblk m c 3 t) (X0_4 m c t) (X0_5 m c t) (X0_6 m c t) (X0_7 m c t)) (iblk m c 8 t) (iblk m c 9 t) (iblk m c 10 t)) o (ix2 0 0) = o (ix2 0 0) + ∑ a, share (fun b => k0_pay8 (acts (iblk m c 0 t) (iblk m c 1 t) (iblk m c 2 t) (iblk m c 3 t) (X0_4 m c t) (X0_5 m c t) (X0_6 m c t) (X0_7 m c t)) (iblk m c 8 t) (iblk m c 9 t) (iblk m c 10 t) (ix2 a b)) := by
    generalize k0_pay8 (acts (iblk m c 0 t) (iblk m c 1 t) (iblk m c 2 t) (iblk m c 3 t) (X0_4 m c t) (X0_5 m c t) (X0_6 m c t) (X0_7 m c t)) (iblk m c 8 t) (iblk m c 9 t) (iblk m c 10 t) = y
    pointwise [k0_pay2, share]
  rw [e, Finset.sum_range]
  refine congrArg _ (Finset.sum_congr rfl fun a _ => ?_)
  simp only [err_block]
  rw [part, dif_pos (show 256 * t.val + a.val < 4096 from (row t a).isLt)]
  rfl

theorem sums (c : Dev nD) : ∀ (n : ℕ) (h : n < cfg0.N), (outsAt0 m c n h).2.2.2 (ix2 0 0) = ∑ p ∈ Finset.range (256 * (n + 1)), part m c p
  | 0, h => by
    rw [outsAt0_A m c ⟨0, h⟩ rfl]
    dsimp only
    rw [out14_A, adds]
    have z : k0_pay1 (F := Ideal) (ix2 0 0) = 0 := by pointwise [k0_pay1]
    rw [z, zero_add]
    simp only [Nat.mul_zero, Nat.zero_add, Nat.mul_one]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [out14_B, adds]
    rw [show 256 * (n + 1 + 1) = 256 * (n + 1) + 256 from by omega, Finset.sum_range_add]
    exact congrArg (· + _) (sums c n _)

theorem last (c : Dev nD) (h : 15 < cfg0.N) : (outsAt0 m c 15 h).2.2.2 = lossOut m c := by
  funext j
  obtain rfl : j = ix2 0 0 := by
    funext d
    match d with
    | ⟨0, _⟩ => exact Fin.ext (by have : (j 0).val < 1 := (j 0).isLt; show (j 0).val = 0; omega)
    | ⟨1, _⟩ => exact Fin.ext (by have : (j 1).val < 1 := (j 1).isLt; show (j 1).val = 0; omega)
  rw [sums, lossOut, loss_at]
  rw [Finset.sum_range]
  refine Finset.sum_congr rfl fun a _ => ?_
  rw [part, dif_pos a.isLt]

theorem written14 (c : Dev nD) (t : Fin cfg0.N) (hf : (cfg0.win 14).flush t = true) : (dats m 0 c).flushed 14 t = ((cfg0.win 14).blk t).view.read (Elt Ideal) (lossOut m c) := by
  have hN : cfg0.N = 16 := N_0
  have h15 : t.val = 15 := by have := (flush0_14 t).mp hf; have := t.isLt; omega
  obtain rfl : t = t0_15 := Fin.ext h15
  rw [Value.flushed14, show (outsAt0 m c t0_15.val t0_15.isLt).2.2.2 = lossOut m c from last m c _]
  have hz' : (fun a => win0_14.index t0_15 a * main_v0_3.ty.shape.size a) = fun _ => 0 := funext fun a => by fin_cases a <;> decide
  exact (Memref.read_access_unit_zero (Elt Ideal) main_v0_3 hz' (fun a => by rw [congrFun hz' a]; simp) (lossOut m c)).symm

theorem covered14 (i : S1x1.Idx) : ∃ t : Fin cfg0.N, (cfg0.win 14).flush t = true ∧ i ∈ ((cfg0.win 14).blk t).view.set := by
  have hN : cfg0.N = 16 := N_0
  have i0 : (i 0 : ℕ) < 1 := (i 0).isLt
  have i1 : (i 1 : ℕ) < 1 := (i 1).isLt
  have at_ := place14 t0_15
  refine ⟨t0_15, (flush0_14 _).mpr rfl, ?_⟩
  show i ∈ ((View.whole main_v0_3).slice (win0_14.rect t0_15)).set
  rw [View.set_slice_whole, Rect.mem_set_unit]
  intro a
  match a with
  | ⟨0, _⟩ =>
    show win0_14.index t0_15 (0 : Fin 2) * 1 ≤ (i 0 : ℕ) ∧ (i 0 : ℕ) < win0_14.index t0_15 (0 : Fin 2) * 1 + 1
    rw [at_.1]
    omega
  | ⟨1, _⟩ =>
    show win0_14.index t0_15 (1 : Fin 2) * 1 ≤ (i 1 : ℕ) ∧ (i 1 : ℕ) < win0_14.index t0_15 (1 : Fin 2) * 1 + 1
    rw [at_.2]
    omega

theorem whole14 (c : Dev nD) : (dats m 0 c).arrAt 14 cfg0.N = lossOut m c :=
  (dats m 0 c).arrAt_eq_of_cover 14 _ (written14 m c) covered14

end Cert.OutProjIdeal.Whole

end
-- ==== Proof.LocalLayer.lean ====
module

public import proofs.«01_k».proof.Proof.Gen.RmsBwd.Frame
public import proofs.«01_k».proof.Proof.RmsBwdValue
public import proofs.«01_k».proof.Proof.Gen.RmsBwdRefIdeal.Run
public import proofs.«01_k».proof.Proof.Gen.OutProj.Frame
public import proofs.«01_k».proof.Proof.OutProjValue
public import proofs.«01_k».proof.Proof.Gen.OutProjRefIdeal.Run
public import proofs.«01_k».proof.Defs

@[expose] public section

noncomputable section

namespace Cert.Proof

open Idealize.ShloMosaic Idealize.SL.Sem

/-! ## The backward pass of the row normalisation -/

theorem frame_norm_kernel : Cert.quiescent_RmsBwd := fun m ρ _ => Cert.RmsBwd.Gen.frame (F := Bits) m ρ

theorem frame_norm_ideal : Cert.quiescent_RmsBwdIdeal := fun m ρ _ => Cert.RmsBwdIdeal.Gen.frame (F := Ideal) m ρ

theorem frame_norm_reference_ideal : Cert.quiescent_RmsBwdRefIdeal := fun m ρ _ =>
  (θ_run Cert.RmsBwdRefIdeal.defs _ _).mono (fun r h => ⟨fun c => (h c).2.2.2, sem_eq_zero_of_no_sems (by decide) r.2⟩) (Cert.RmsBwdRefIdeal.Value.run (F := Ideal) m ρ)

theorem algebraic_norm : Cert.algebraic_RmsBwdIdeal_RmsBwdRefIdeal := fun m ρ m' ρ' _ hm => by
  refine ⟨_, _, _, (θ_run Cert.RmsBwdIdeal.defs _ _).mono (fun r h c => h c) (Cert.RmsBwdIdeal.Value.run_blocks (F := Ideal) m ρ),
    (θ_run Cert.RmsBwdRefIdeal.defs _ _).mono (fun r h c => ?_) (Cert.RmsBwdRefIdeal.Value.run (F := Ideal) m' ρ')⟩
  obtain ⟨e0, e1, e2, rest⟩ := h c
  obtain ⟨h0, h1, h2, h3⟩ := hm c
  rw [h0, h1, h2, h3] at e0
  rw [h0, h1, h2, h3] at e1
  rw [h0, h2] at e2
  exact ⟨e0.trans (Cert.RmsBwdIdeal.Whole.whole4 m c).symm, e1.trans (Cert.RmsBwdIdeal.Whole.whole5 m c).symm, e2.trans (Cert.RmsBwdIdeal.Whole.whole6 m c).symm, rest⟩

/-! ## The projection of the output, its error and its loss -/

theorem frame_out_kernel : Cert.quiescent_OutProj := fun m ρ _ => Cert.OutProj.Gen.frame (F := Bits) m ρ

theorem frame_out_ideal : Cert.quiescent_OutProjIdeal := fun m ρ _ => Cert.OutProjIdeal.Gen.frame (F := Ideal) m ρ

theorem frame_out_reference_ideal : Cert.quiescent_OutProjRefIdeal := fun m ρ _ =>
  (θ_run Cert.OutProjRefIdeal.defs _ _).mono (fun r h => ⟨fun c => (h c).2.2.2.2, sem_eq_zero_of_no_sems (by decide) r.2⟩) (Cert.OutProjRefIdeal.Value.run (F := Ideal) m ρ)

theorem algebraic_out : Cert.algebraic_OutProjIdeal_OutProjRefIdeal := fun m ρ m' ρ' _ hm => by
  refine ⟨_, _, _, _, (θ_run Cert.OutProjIdeal.defs _ _).mono (fun r h c => h c) (Cert.OutProjIdeal.Value.run_blocks (F := Ideal) m ρ),
    (θ_run Cert.OutProjRefIdeal.defs _ _).mono (fun r h c => ?_) (Cert.OutProjRefIdeal.Value.run (F := Ideal) m' ρ')⟩
  obtain ⟨e0, e1, e2, e3, rest⟩ := h c
  obtain ⟨h0, h1, h2, h3, h4, h5, h6, h7⟩ := hm c
  rw [h0, h1, h2, h3, h4] at e0
  rw [h0, h1, h2, h3, h4, h5, h6, h7] at e1
  rw [h0, h1, h2, h3, h4, h5, h6, h7] at e2
  unfold Cert.OutProjRefIdeal.Value.res_main_v49 at e3
  rw [h0, h1, h2, h3, h4, h5, h6, h7] at e3
  exact ⟨e0.trans (Cert.OutProjIdeal.Whole.whole11 m c).symm, e1.trans (Cert.OutProjIdeal.Whole.whole12 m c).symm, e2.trans (Cert.OutProjIdeal.Whole.whole13 m c).symm, e3.trans (Cert.OutProjIdeal.Whole.whole14 m c).symm, rest⟩

end Cert.Proof

end
-- ==== Proof.RmsFwdRow.lean ====
/- # The forward pass of the row normalisation

   Each row is multiplied with one over the root of its mean square, and with the weights; the blocks of rows are the whole. -/
module

public import Idealize.ShloMosaic.Lib.Tactic
public import Idealize.ShloMosaic.Lib.Pointwise
public import proofs.«01_k».proof.Proof.RmsBwdRow
public import proofs.«01_k».proof.Proof.Gen.RmsFwdRefIdeal

@[expose] public section

noncomputable section

namespace Cert.Norm

open Cert.RmsFwdRefIdeal Cert.RmsFwdRefIdeal.Facts₀ Idealize.ShloMosaic Idealize.ShloMosaic.TcCoe Idealize.SL.Sem

/-- A place of the normalised row. -/
def flat (v w : Fin 2048 → EReal) (b : Fin 2048) : EReal := v b * scale v * w b

/-- The reference's normalised rows. -/
def normed (x : FVec Ideal S4096x2048 .f32) (g : FVec Ideal S1x2048 .f32) : FVec Ideal S4096x2048 .bf16 :=
  truncf .bf16 (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 g)) bitsLt_bf16_f32

theorem normed_at (x : FVec Ideal S4096x2048 .f32) (g : FVec Ideal S1x2048 .f32) (a : Fin 4096) (b : Fin 2048) :
    normed x g (ix2 a b) = flat (fun k => x (ix2 a k)) (fun k => g (ix2 0 k)) b := by
  pointwise [normed, flat, scale, level]

end Cert.Norm

end
-- ==== Proof.RmsFwdValue.lean ====
/- # The forward pass of the row normalisation, whole

   Each block of rows of the result is the same rows of the reference's. -/
module

public import proofs.«01_k».proof.Proof.RmsFwdRow
public import proofs.«01_k».proof.Proof.Gen.RmsFwdIdeal.Value

@[expose] public section

noncomputable section

namespace Cert.RmsFwdIdeal.Whole

open Cert.RmsFwdIdeal Cert.RmsFwdIdeal.Gen Cert.Norm Idealize.ShloMosaic Idealize.ShloMosaic.TcCoe Idealize.SL.Sem

theorem hz : (![0, 0] : Fin 2 → ℕ) = fun _ => 0 := funext fun a => by fin_cases a <;> rfl

/-- The row of the whole at row `a` of block `t`. -/
def row (t : Fin cfg0.N) (a : Fin 256) : Fin 4096 := ⟨256 * t.val + a.val, by have := t.isLt; have h : cfg0.N = 16 := N_0; omega⟩

theorem place0 : ∀ t : Fin cfg0.N, win0_0.index t (0 : Fin 2) = t.val ∧ win0_0.index t (1 : Fin 2) = 0 :=
  (by decide +kernel : ∀ t : Fin grid0.N, _)

theorem place1 : ∀ t : Fin cfg0.N, win0_1.index t (0 : Fin 2) = 0 ∧ win0_1.index t (1 : Fin 2) = 0 :=
  (by decide +kernel : ∀ t : Fin grid0.N, _)

theorem place2 : ∀ t : Fin cfg0.N, win0_2.index t (0 : Fin 2) = t.val ∧ win0_2.index t (1 : Fin 2) = 0 :=
  (by decide +kernel : ∀ t : Fin grid0.N, _)

theorem covered2 (i : S4096x2048.Idx) : ∃ t : Fin cfg0.N, (cfg0.win 2).flush t = true ∧ i ∈ ((cfg0.win 2).blk t).view.set := by
  have i0 : (i 0 : ℕ) < 4096 := (i 0).isLt
  have i1 : (i 1 : ℕ) < 2048 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place2 t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 256 ≤ (i 0 : ℕ) ∧ (i 0 : ℕ) < win0_2.index t (0 : Fin 2) * 256 + 256
    rw [at_.1, ht]
    omega
  | ⟨1, _⟩ =>
    show win0_2.index t (1 : Fin 2) * 2048 ≤ (i 1 : ℕ) ∧ (i 1 : ℕ) < win0_2.index t (1 : Fin 2) * 2048 + 2048
    rw [at_.2]
    omega

variable (m : (ℓ : Loc nD τ sig) → Buf (Elt Ideal) ℓ)

theorem block0 (c : Dev nD) (t : Fin cfg0.N) (a : Fin 256) (b : Fin 2048) : (iblk m c 0 t : Vec Ideal S256x2048 .f32) (ix2 a b) = (V m c main_arg0 : Vec Ideal S4096x2048 .f32) (ix2 (row t a) b) := by
  have e := place0 t
  refine congrArg (V m c main_arg0 : Vec Ideal S4096x2048 .f32) ?_
  funext d; apply Fin.ext
  match d with
  | ⟨0, _⟩ =>
    show win0_0.index t (0 : Fin 2) * 256 + 1 * a.val = 256 * t.val + a.val
    rw [e.1]; omega
  | ⟨1, _⟩ =>
    show win0_0.index t (1 : Fin 2) * 2048 + 1 * b.val = b.val
    rw [e.2]; omega

theorem block1 (c : Dev nD) (t : Fin cfg0.N) (a : Fin 1) (b : Fin 2048) : (iblk m c 1 t : Vec Ideal S1x2048 .f32) (ix2 a b) = (V m c main_arg1 : Vec Ideal S1x2048 .f32) (ix2 a b) := by
  have e := place1 t
  refine congrArg (V m c main_arg1 : Vec Ideal S1x2048 .f32) ?_
  funext d; apply Fin.ext
  match d with
  | ⟨0, _⟩ =>
    show win0_1.index t (0 : Fin 2) * 1 + 1 * a.val = a.val
    rw [e.1]; omega
  | ⟨1, _⟩ =>
    show win0_1.index t (1 : Fin 2) * 2048 + 1 * b.val = b.val
    rw [e.2]; omega

/-- The normalised rows, all of them. -/
abbrev out (c : Dev nD) : Vec Ideal S4096x2048 .bf16 := normed (V m c main_arg0) (V m c main_arg1)

theorem pay_at (x : Vec Ideal S256x2048 .f32) (g : Vec Ideal S1x2048 .f32) (a : Fin 256) (b : Fin 2048) :
    out0_2 x g (ix2 a b) = flat (fun k => x (ix2 a k)) (fun k => g (ix2 0 k)) b := by
  unfold out0_2
  rw [View.canon_unit_zero hz, View.ld_unit_zero (S := S256x2048) hz, View.ld_unit_zero (S := S1x2048) hz]
  pointwise [k0_pay1, flat, scale, level]

theorem at_ (c : Dev nD) (t : Fin cfg0.N) (a : Fin 256) (b : Fin 2048) : out0_2 (iblk m c 0 t) (iblk m c 1 t) (ix2 a b) = out m c (ix2 (row t a) b) := by
  rw [out, normed_at]
  refine (pay_at _ _ a b).trans ?_
  simp only [block0, block1]

theorem written2 (c : Dev nD) (t : Fin cfg0.N) : (dats m 0 c).flushed 2 t = ((cfg0.win 2).blk t).view.read (Elt Ideal) (out m c) := by
  rw [Value.flushed2]
  funext j
  have e : ((cfg0.win 2).blk t).view.emb j = ix2 (row t (j 0)) (j 1) := by
    funext d; apply Fin.ext
    match d with
    | ⟨0, _⟩ =>
      show win0_2.index t (0 : Fin 2) * 256 + 1 * (j 0).val = 256 * t.val + (j 0).val
      rw [(place2 t).1]; omega
    | ⟨1, _⟩ =>
      show win0_2.index t (1 : Fin 2) * 2048 + 1 * (j 1).val = (j 1).val
      rw [(place2 t).2]; omega
  show out0_2 (iblk m c 0 t) (iblk m c 1 t) j = out m c (((cfg0.win 2).blk t).view.emb j)
  rw [e, eq_ix2 j]
  exact at_ m c t (j 0) (j 1)

theorem whole2 (c : Dev nD) : (dats m 0 c).arrAt 2 cfg0.N = out m c :=
  (dats m 0 c).arrAt_eq_of_cover 2 _ (fun t _ => written2 m c t) covered2

end Cert.RmsFwdIdeal.Whole

end
-- ==== Proof.LayerEndRow.lean ====
/- # The projection at a layer's end, read at an index

   A row of the activation, and of the output that is added to the layer's input, depends on that row alone. -/
module

public import Idealize.ShloMosaic.Lib.Pointwise
public import proofs.«01_k».proof.Proof.OutProjRow
public import proofs.«01_k».proof.Proof.Gen.LayerEndRefIdeal

@[expose] public section

noncomputable section

namespace Cert.Out

open Cert.LayerEndRefIdeal Cert.LayerEndRefIdeal.Facts₀ Idealize.ShloMosaic Idealize.ShloMosaic.TcCoe Idealize.SL.Sem

/-- An entry of the output: the activation's row times the weights, with the layer's input added. -/
def past (v : Fin 2048 → EReal) (w : Fin 2048 → Fin 2048 → EReal) (x : EReal) (b : Fin 2048) : EReal := x + ∑ k, v k * w k b

/-- The reference's activation in a layer that another follows. -/
def gated (p0 p1 p2 p3 : FVec Ideal S4096x512 .f32) (z : FVec Ideal S4096x6400 .f32) : FVec Ideal S4096x2048 .f32 :=
  (concatenate S4096x2048 1 [⟨S4096x512, ((mulf p0 (Host.divf (extractStridedSlice S4096x512 ![0, 1024] z slices_S4096x6400_S4096x512_0_1024) (addf (broadcastInDim S4096x512 ![] bcast_S_S4096x512 (constant S_ .f32 0x3F800000#32)) (Host.exp (Host.negf (extractStridedSlice S4096x512 ![0, 1024] z slices_S4096x6400_S4096x512_0_1024)))))) : (⟨S4096x512, .f32⟩ : BufTy).Contents (Elt Ideal))⟩, ⟨S4096x512, ((mulf p1 (Host.divf (extractStridedSlice S4096x512 ![0, 3072] z slices_S4096x6400_S4096x512_0_3072) (addf (broadcastInDim S4096x512 ![] bcast_S_S4096x512 (constant S_ .f32 0x3F800000#32)) (Host.exp (Host.negf (extractStridedSlice S4096x512 ![0, 3072] z slices_S4096x6400_S4096x512_0_3072)))))) : (⟨S4096x512, .f32⟩ : BufTy).Contents (Elt Ideal))⟩, ⟨S4096x512, ((mulf p2 (Host.divf (extractStridedSlice S4096x512 ![0, 4608] z slices_S4096x6400_S4096x512_0_4608) (addf (broadcastInDim S4096x512 ![] bcast_S_S4096x512 (constant S_ .f32 0x3F800000#32)) (Host.exp (Host.negf (extractStridedSlice S4096x512 ![0, 4608] z slices_S4096x6400_S4096x512_0_4608)))))) : (⟨S4096x512, .f32⟩ : BufTy).Contents (Elt Ideal))⟩, ⟨S4096x512, ((mulf p3 (Host.divf (extractStridedSlice S4096x512 ![0, 5632] z slices_S4096x6400_S4096x512_0_5632) (addf (broadcastInDim S4096x512 ![] bcast_S_S4096x512 (constant S_ .f32 0x3F800000#32)) (Host.exp (Host.negf (extractStridedSlice S4096x512 ![0, 5632] z slices_S4096x6400_S4096x512_0_5632)))))) : (⟨S4096x512, .f32⟩ : BufTy).Contents (Elt Ideal))⟩] concatenates_S4096x512_S4096x512_S4096x512_S4096x512_S4096x2048_d1 : (⟨S4096x2048, .f32⟩ : BufTy).Contents (Elt Ideal))

/-- The reference's output of the layer. -/
def passed (p0 p1 p2 p3 : FVec Ideal S4096x512 .f32) (z : FVec Ideal S4096x6400 .f32) (w : FVec Ideal S2048x2048 .bf16) (x : FVec Ideal S4096x2048 .f32) : FVec Ideal S4096x2048 .f32 :=
  addf x (Host.dotGeneral dot_S4096x2048_S2048x2048_S4096x2048_1_0_0_1_n_n none ((gated p0 p1 p2 p3 z)) (extf .f32 w bitsLt_bf16_f32))

theorem gated_at (p0 p1 p2 p3 : FVec Ideal S4096x512 .f32) (z : FVec Ideal S4096x6400 .f32) (a : Fin 4096) (b : Fin 2048) :
    gated p0 p1 p2 p3 z (ix2 a b)
      = side (fun r => gate (p0 (ix2 a r)) (z (ix2 a (col 1024 (by decide) r)))) (fun r => gate (p1 (ix2 a r)) (z (ix2 a (col 3072 (by decide) r))))
        (fun r => gate (p2 (ix2 a r)) (z (ix2 a (col 4608 (by decide) r)))) (fun r => gate (p3 (ix2 a r)) (z (ix2 a (col 5632 (by decide) r)))) b := by
  pointwise [gated, side, gate, col]

theorem passed_at (p0 p1 p2 p3 : FVec Ideal S4096x512 .f32) (z : FVec Ideal S4096x6400 .f32) (w : FVec Ideal S2048x2048 .bf16) (x : FVec Ideal S4096x2048 .f32) (a : Fin 4096) (b : Fin 2048) :
    passed p0 p1 p2 p3 z w x (ix2 a b) = past (fun k => gated p0 p1 p2 p3 z (ix2 a k)) (fun k b => w (ix2 k b)) (x (ix2 a b)) b := by
  pointwise [passed, past]

end Cert.Out

end
-- ==== Proof.LayerEndParts.lean ====
/- # The projection at a layer's end, block by block

   The activation of a block of rows is stored as four column blocks and read back whole. -/
module

public import Idealize.ShloMosaic.Lib.Tactic
public import Idealize.ShloMosaic.Lib.Pointwise
public import proofs.«01_k».proof.Proof.LayerEndRow
public import proofs.«01_k».proof.Proof.Gen.LayerEndIdeal.Value

@[expose] public section

noncomputable section

namespace Cert.LayerEndIdeal.Whole

open Cert.LayerEndIdeal Cert.LayerEndIdeal.Gen Cert.Out Idealize.ShloMosaic Idealize.ShloMosaic.TcCoe Idealize.SL.Sem

theorem hz : (![0, 0] : Fin 2 → ℕ) = fun _ => 0 := funext fun a => by fin_cases a <;> rfl

/-- The four column blocks of the activation, the last stored first. -/
def parts (p0 p1 p2 p3 g0 g1 g2 g3 : Vec Ideal S256x512 .f32) : List (View.Piece (Elt Ideal) S256x2048 .bf16) :=
  [⟨Rect.unit ![0, 1536] ![256, 512] inb_S256x2048_S256x512_0_1536, k0_pay2 p3 g3⟩,
      ⟨Rect.unit ![0, 1024] ![256, 512] inb_S256x2048_S256x512_0_1024, k0_pay1 p2 g2 (k0_pay6 g2)⟩,
      ⟨Rect.unit ![0, 512] ![256, 512] inb_S256x2048_S256x512_0_512, k0_pay5 p1 g1⟩,
      ⟨Rect.unit ![0, 0] ![256, 512] inb_S256x2048_S256x512_0_0, k0_pay4 p0 g0⟩]

/-- The activation of a block of rows. -/
def acts (p0 p1 p2 p3 g0 g1 g2 g3 : Vec Ideal S256x512 .f32) : Vec Ideal S256x2048 .bf16 := View.canon (parts p0 p1 p2 p3 g0 g1 g2 g3)

theorem readback {sig : RefSig} {κ : Kind} {sp : Space} (v : View sig κ sp S256x2048 .bf16) (p0 p1 p2 p3 g0 g1 g2 g3 : Vec Ideal S256x512 .f32) (inb) :
    v.readCov (parts p0 p1 p2 p3 g0 g1 g2 g3) (Rect.unit ![0, 0] S256x2048.size inb).toLoadRect = acts p0 p1 p2 p3 g0 g1 g2 g3 :=
  (View.readCov_eq_canon' v _ _).trans (View.ld_unit_zero (S := S256x2048) hz inb (acts p0 p1 p2 p3 g0 g1 g2 g3))

theorem out10_A (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S2048x2048 .bf16) (h9 : a9.IsWhole) (a10 : Memref sig .tc .vmem S256x2048 .f32) (h10 : a10.IsWhole) (a11 : Memref sig .tc .vmem S256x2048 .bf16) (h11 : a11.IsWhole) (a12 : Memref sig .tc .vmem S256x2048 .f32) (h12 : a12.IsWhole)
    (p0 p1 p2 p3 g0 g1 g2 g3 : Vec Ideal S256x512 .f32) (w : Vec Ideal S2048x2048 .bf16) (x : Vec Ideal S256x2048 .f32) :
    out0_A_10 c i a1 h1 a2 h2 a3 h3 a4 h4 a5 h5 a6 h6 a7 h7 a8 h8 a9 h9 a10 h10 a11 h11 a12 h12 p0 p1 p2 p3 g0 g1 g2 g3 w x = acts p0 p1 p2 p3 g0 g1 g2 g3 := by
  unfold out0_A_10
  rw [View.read_writes_eq_canon _ _ _ (cover0_A_10 c i a1 h1 a2 h2 a3 h3 a4 h4 a5 h5 a6 h6 a7 h7 a8 h8 a9 h9 a10 h10 a11 h11 a12 h12 p0 p1 p2 p3 g0 g1 g2 g3 w x)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x512) hz, View.ld_unit_zero (S := S2048x2048) hz, View.ld_unit_zero (S := S256x2048) hz, shapeCast_self]
  rfl

theorem out11_A (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S2048x2048 .bf16) (h9 : a9.IsWhole) (a10 : Memref sig .tc .vmem S256x2048 .f32) (h10 : a10.IsWhole) (a11 : Memref sig .tc .vmem S256x2048 .bf16) (h11 : a11.IsWhole) (a12 : Memref sig .tc .vmem S256x2048 .f32) (h12 : a12.IsWhole)
    (p0 p1 p2 p3 g0 g1 g2 g3 : Vec Ideal S256x512 .f32) (w : Vec Ideal S2048x2048 .bf16) (x : Vec Ideal S256x2048 .f32) :
    out0_A_11 c i a1 h1 a2 h2 a3 h3 a4 h4 a5 h5 a6 h6 a7 h7 a8 h8 a9 h9 a10 h10 a11 h11 a12 h12 p0 p1 p2 p3 g0 g1 g2 g3 w x = k0_pay3 (acts p0 p1 p2 p3 g0 g1 g2 g3) w x := by
  unfold out0_A_11
  rw [View.read_writes_eq_canon _ _ _ (cover0_A_11 c i a1 h1 a2 h2 a3 h3 a4 h4 a5 h5 a6 h6 a7 h7 a8 h8 a9 h9 a10 h10 a11 h11 a12 h12 p0 p1 p2 p3 g0 g1 g2 g3 w x)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x512) hz, View.ld_unit_zero (S := S2048x2048) hz, View.ld_unit_zero (S := S256x2048) hz, shapeCast_self]
  exact congrArg (k0_pay3 · w x) (readback a11.view p0 p1 p2 p3 g0 g1 g2 g3 inb_S256x2048_S256x2048_0_0)

/-- The activation of a block of rows, row by row. -/
def goal (p0 p1 p2 p3 g0 g1 g2 g3 : Vec Ideal S256x512 .f32) : Vec Ideal S256x2048 .bf16 := fun j =>
  side (fun r => gate (p0 (ix2 (j 0) r)) (g0 (ix2 (j 0) r))) (fun r => gate (p1 (ix2 (j 0) r)) (g1 (ix2 (j 0) r)))
    (fun r => gate (p2 (ix2 (j 0) r)) (g2 (ix2 (j 0) r))) (fun r => gate (p3 (ix2 (j 0) r)) (g3 (ix2 (j 0) r))) (j 1)

theorem part0 (p0 p1 p2 p3 g0 g1 g2 g3 : Vec Ideal S256x512 .f32) (j : S256x512.Idx) :
    k0_pay4 p0 g0 j = goal p0 p1 p2 p3 g0 g1 g2 g3 ((Rect.unit (s := S256x2048) ![0, 0] ![256, 512] inb_S256x2048_S256x512_0_0).emb j) := by
  obtain ⟨a, r, rfl⟩ : ∃ (a : Fin 256) (r : Fin 512), j = ix2 a r := ⟨j 0, j 1, eq_ix2 j⟩
  have h := r.isLt
  have e : (Rect.unit (s := S256x2048) ![0, 0] ![256, 512] inb_S256x2048_S256x512_0_0).emb (ix2 a r) = ix2 a (⟨0 + r.val, by omega⟩ : Fin 2048) := by
    funext d; apply Fin.ext
    match d with
    | ⟨0, _⟩ =>
      show 0 + 1 * a.val = a.val
      omega
    | ⟨1, _⟩ =>
      show 0 + 1 * r.val = 0 + r.val
      omega
  rw [e]
  have l : k0_pay4 p0 g0 (ix2 a r) = gate (p0 (ix2 a r)) (g0 (ix2 a r)) := by
    rw [← gate_eq]
    pointwise [k0_pay1, k0_pay2, k0_pay4, k0_pay5, k0_pay6, zero_sub, Ideal.ofBits_one_f32]
  rw [l]
  show _ = side _ _ _ _ (⟨0 + r.val, by omega⟩ : Fin 2048)
  unfold side
  rw [dif_pos (show 0 + r.val < 512 from by omega)]
  have i : (⟨0 + r.val, by omega⟩ : Fin 512) = r := Fin.ext (by dsimp only; omega)
  show _ = gate (p0 (ix2 a ⟨0 + r.val, _⟩)) (g0 (ix2 a ⟨0 + r.val, _⟩))
  rw [i]

theorem part1 (p0 p1 p2 p3 g0 g1 g2 g3 : Vec Ideal S256x512 .f32) (j : S256x512.Idx) :
    k0_pay5 p1 g1 j = goal p0 p1 p2 p3 g0 g1 g2 g3 ((Rect.unit (s := S256x2048) ![0, 512] ![256, 512] inb_S256x2048_S256x512_0_512).emb j) := by
  obtain ⟨a, r, rfl⟩ : ∃ (a : Fin 256) (r : Fin 512), j = ix2 a r := ⟨j 0, j 1, eq_ix2 j⟩
  have h := r.isLt
  have e : (Rect.unit (s := S256x2048) ![0, 512] ![256, 512] inb_S256x2048_S256x512_0_512).emb (ix2 a r) = ix2 a (⟨512 + r.val, by omega⟩ : Fin 2048) := by
    funext d; apply Fin.ext
    match d with
    | ⟨0, _⟩ =>
      show 0 + 1 * a.val = a.val
      omega
    | ⟨1, _⟩ =>
      show 512 + 1 * r.val = 512 + r.val
      omega
  rw [e]
  have l : k0_pay5 p1 g1 (ix2 a r) = gate (p1 (ix2 a r)) (g1 (ix2 a r)) := by
    rw [← gate_eq]
    pointwise [k0_pay1, k0_pay2, k0_pay4, k0_pay5, k0_pay6, zero_sub, Ideal.ofBits_one_f32]
  rw [l]
  show _ = side _ _ _ _ (⟨512 + r.val, by omega⟩ : Fin 2048)
  unfold side
  rw [dif_neg (show ¬(512 + r.val < 512) from by omega)]
  rw [dif_pos (show 512 + r.val - 512 < 512 from by omega)]
  have i : (⟨512 + r.val - 512, by omega⟩ : Fin 512) = r := Fin.ext (by dsimp only; omega)
  show _ = gate (p1 (ix2 a ⟨512 + r.val - 512, _⟩)) (g1 (ix2 a ⟨512 + r.val - 512, _⟩))
  rw [i]

theorem part2 (p0 p1 p2 p3 g0 g1 g2 g3 : Vec Ideal S256x512 .f32) (j : S256x512.Idx) :
    k0_pay1 p2 g2 (k0_pay6 g2) j = goal p0 p1 p2 p3 g0 g1 g2 g3 ((Rect.unit (s := S256x2048) ![0, 1024] ![256, 512] inb_S256x2048_S256x512_0_1024).emb j) := by
  obtain ⟨a, r, rfl⟩ : ∃ (a : Fin 256) (r : Fin 512), j = ix2 a r := ⟨j 0, j 1, eq_ix2 j⟩
  have h := r.isLt
  have e : (Rect.unit (s := S256x2048) ![0, 1024] ![256, 512] inb_S256x2048_S256x512_0_1024).emb (ix2 a r) = ix2 a (⟨1024 + r.val, by omega⟩ : Fin 2048) := by
    funext d; apply Fin.ext
    match d with
    | ⟨0, _⟩ =>
      show 0 + 1 * a.val = a.val
      omega
    | ⟨1, _⟩ =>
      show 1024 + 1 * r.val = 1024 + r.val
      omega
  rw [e]
  have l : k0_pay1 p2 g2 (k0_pay6 g2) (ix2 a r) = gate (p2 (ix2 a r)) (g2 (ix2 a r)) := by
    rw [← gate_eq]
    pointwise [k0_pay1, k0_pay2, k0_pay4, k0_pay5, k0_pay6, zero_sub, Ideal.ofBits_one_f32]
  rw [l]
  show _ = side _ _ _ _ (⟨1024 + r.val, by omega⟩ : Fin 2048)
  unfold side
  rw [dif_neg (show ¬(1024 + r.val < 512) from by omega)]
  rw [dif_neg (show ¬(1024 + r.val - 512 < 512) from by omega)]
  rw [dif_pos (show 1024 + r.val - 512 - 512 < 512 from by omega)]
  have i : (⟨1024 + r.val - 512 - 512, by omega⟩ : Fin 512) = r := Fin.ext (by dsimp only; omega)
  show _ = gate (p2 (ix2 a ⟨1024 + r.val - 512 - 512, _⟩)) (g2 (ix2 a ⟨1024 + r.val - 512 - 512, _⟩))
  rw [i]

theorem part3 (p0 p1 p2 p3 g0 g1 g2 g3 : Vec Ideal S256x512 .f32) (j : S256x512.Idx) :
    k0_pay2 p3 g3 j = goal p0 p1 p2 p3 g0 g1 g2 g3 ((Rect.unit (s := S256x2048) ![0, 1536] ![256, 512] inb_S256x2048_S256x512_0_1536).emb j) := by
  obtain ⟨a, r, rfl⟩ : ∃ (a : Fin 256) (r : Fin 512), j = ix2 a r := ⟨j 0, j 1, eq_ix2 j⟩
  have h := r.isLt
  have e : (Rect.unit (s := S256x2048) ![0, 1536] ![256, 512] inb_S256x2048_S256x512_0_1536).emb (ix2 a r) = ix2 a (⟨1536 + r.val, by omega⟩ : Fin 2048) := by
    funext d; apply Fin.ext
    match d with
    | ⟨0, _⟩ =>
      show 0 + 1 * a.val = a.val
      omega
    | ⟨1, _⟩ =>
      show 1536 + 1 * r.val = 1536 + r.val
      omega
  rw [e]
  have l : k0_pay2 p3 g3 (ix2 a r) = gate (p3 (ix2 a r)) (g3 (ix2 a r)) := by
    rw [← gate_eq]
    pointwise [k0_pay1, k0_pay2, k0_pay4, k0_pay5, k0_pay6, zero_sub, Ideal.ofBits_one_f32]
  rw [l]
  show _ = side _ _ _ _ (⟨1536 + r.val, by omega⟩ : Fin 2048)
  unfold side
  rw [dif_neg (show ¬(1536 + r.val < 512) from by omega)]
  rw [dif_neg (show ¬(1536 + r.val - 512 < 512) from by omega)]
  rw [dif_neg (show ¬(1536 + r.val - 512 - 512 < 512) from by omega)]
  have i : (⟨1536 + r.val - 512 - 512 - 512, by omega⟩ : Fin 512) = r := Fin.ext (by dsimp only; omega)
  show _ = gate (p3 (ix2 a ⟨1536 + r.val - 512 - 512 - 512, _⟩)) (g3 (ix2 a ⟨1536 + r.val - 512 - 512 - 512, _⟩))
  rw [i]

theorem acts_eq (p0 p1 p2 p3 g0 g1 g2 g3 : Vec Ideal S256x512 .f32) : acts p0 p1 p2 p3 g0 g1 g2 g3 = goal p0 p1 p2 p3 g0 g1 g2 g3 := by
  funext y
  refine View.canon_apply_of_pieces (goal p0 p1 p2 p3 g0 g1 g2 g3) _ ?_ y ?_
  · intro p hp
    rcases List.mem_cons.mp hp with rfl | hp
    · exact part3 p0 p1 p2 p3 g0 g1 g2 g3
    rcases List.mem_cons.mp hp with rfl | hp
    · exact part2 p0 p1 p2 p3 g0 g1 g2 g3
    rcases List.mem_cons.mp hp with rfl | hp
    · exact part1 p0 p1 p2 p3 g0 g1 g2 g3
    rcases List.mem_cons.mp hp with rfl | hp
    · exact part0 p0 p1 p2 p3 g0 g1 g2 g3
    nomatch hp
  · exact View.cover_of_tiledL (parts p0 p1 p2 p3 g0 g1 g2 g3) S256x512.size (by sl_kernel_rfl) y

end Cert.LayerEndIdeal.Whole

end
-- ==== Proof.LayerEndValue.lean ====
/- # The projection at a layer's end, whole

   Each block of the activation and of the output is the same rows of the reference's. -/
module

public import proofs.«01_k».proof.Proof.LayerEndParts

@[expose] public section

noncomputable section

namespace Cert.LayerEndIdeal.Whole

open Cert.LayerEndIdeal Cert.LayerEndIdeal.Gen Cert.Out Idealize.ShloMosaic Idealize.ShloMosaic.TcCoe Idealize.SL.Sem

/-- The row of the whole at row `a` of block `t`. -/
def row (t : Fin cfg0.N) (a : Fin 256) : Fin 4096 := ⟨256 * t.val + a.val, by have := t.isLt; have h : cfg0.N = 16 := N_0; omega⟩

theorem place0 : ∀ t : Fin cfg0.N, win0_0.index t (0 : Fin 2) = t.val ∧ win0_0.index t (1 : Fin 2) = 0 :=
  (by decide +kernel : ∀ t : Fin grid0.N, _)

theorem place1 : ∀ t : Fin cfg0.N, win0_1.index t (0 : Fin 2) = t.val ∧ win0_1.index t (1 : Fin 2) = 0 :=
  (by decide +kernel : ∀ t : Fin grid0.N, _)

theorem place2 : ∀ t : Fin cfg0.N, win0_2.index t (0 : Fin 2) = t.val ∧ win0_2.index t (1 : Fin 2) = 0 :=
  (by decide +kernel : ∀ t : Fin grid0.N, _)

theorem place3 : ∀ t : Fin cfg0.N, win0_3.index t (0 : Fin 2) = t.val ∧ win0_3.index t (1 : Fin 2) = 0 :=
  (by decide +kernel : ∀ t : Fin grid0.N, _)

theorem place9 : ∀ t : Fin cfg0.N, win0_9.index t (0 : Fin 2) = t.val ∧ win0_9.index t (1 : Fin 2) = 0 :=
  (by decide +kernel : ∀ t : Fin grid0.N, _)

theorem place10 : ∀ t : Fin cfg0.N, win0_10.index t (0 : Fin 2) = t.val ∧ win0_10.index t (1 : Fin 2) = 0 :=
  (by decide +kernel : ∀ t : Fin grid0.N, _)

theorem place11 : ∀ t : Fin cfg0.N, win0_11.index t (0 : Fin 2) = t.val ∧ win0_11.index t (1 : Fin 2) = 0 :=
  (by decide +kernel : ∀ t : Fin grid0.N, _)

theorem place4 : ∀ t : Fin cfg0.N, win0_4.index t (0 : Fin 2) = t.val ∧ win0_4.index t (1 : Fin 2) = 2 :=
  (by decide +kernel : ∀ t : Fin grid0.N, _)

theorem place5 : ∀ t : Fin cfg0.N, win0_5.index t (0 : Fin 2) = t.val ∧ win0_5.index t (1 : Fin 2) = 6 :=
  (by decide +kernel : ∀ t : Fin grid0.N, _)

theorem place6 : ∀ t : Fin cfg0.N, win0_6.index t (0 : Fin 2) = t.val ∧ win0_6.index t (1 : Fin 2) = 9 :=
  (by decide +kernel : ∀ t : Fin grid0.N, _)

theorem place7 : ∀ t : Fin cfg0.N, win0_7.index t (0 : Fin 2) = t.val ∧ win0_7.index t (1 : Fin 2) = 11 :=
  (by decide +kernel : ∀ t : Fin grid0.N, _)

theorem place8 : ∀ t : Fin cfg0.N, win0_8.index t (0 : Fin 2) = 0 ∧ win0_8.index t (1 : Fin 2) = 0 :=
  (by decide +kernel : ∀ t : Fin grid0.N, _)

theorem covered10 (i : S4096x2048.Idx) : ∃ t : Fin cfg0.N, (cfg0.win 10).flush t = true ∧ i ∈ ((cfg0.win 10).blk t).view.set := by
  have i0 : (i 0 : ℕ) < 4096 := (i 0).isLt
  have i1 : (i 1 : ℕ) < 2048 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place10 t
  refine ⟨t, flush0_10 t, ?_⟩
  show i ∈ ((View.whole main_v0_0).slice (win0_10.rect t)).set
  rw [View.set_slice_whole, Rect.mem_set_unit]
  intro a
  match a with
  | ⟨0, _⟩ =>
    show win0_10.index t (0 : Fin 2) * 256 ≤ (i 0 : ℕ) ∧ (i 0 : ℕ) < win0_10.index t (0 : Fin 2) * 256 + 256
    rw [at_.1, ht]
    omega
  | ⟨1, _⟩ =>
    show win0_10.index t (1 : Fin 2) * 2048 ≤ (i 1 : ℕ) ∧ (i 1 : ℕ) < win0_10.index t (1 : Fin 2) * 2048 + 2048
    rw [at_.2]
    omega

theorem covered11 (i : S4096x2048.Idx) : ∃ t : Fin cfg0.N, (cfg0.win 11).flush t = true ∧ i ∈ ((cfg0.win 11).blk t).view.set := by
  have i0 : (i 0 : ℕ) < 4096 := (i 0).isLt
  have i1 : (i 1 : ℕ) < 2048 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place11 t
  refine ⟨t, flush0_11 t, ?_⟩
  show i ∈ ((View.whole main_v0_1).slice (win0_11.rect t)).set
  rw [View.set_slice_whole, Rect.mem_set_unit]
  intro a
  match a with
  | ⟨0, _⟩ =>
    show win0_11.index t (0 : Fin 2) * 256 ≤ (i 0 : ℕ) ∧ (i 0 : ℕ) < win0_11.index t (0 : Fin 2) * 256 + 256
    rw [at_.1, ht]
    omega
  | ⟨1, _⟩ =>
    show win0_11.index t (1 : Fin 2) * 2048 ≤ (i 1 : ℕ) ∧ (i 1 : ℕ) < win0_11.index t (1 : Fin 2) * 2048 + 2048
    rw [at_.2]
    omega

theorem past_at (y : FVec Ideal S256x2048 .bf16) (w : FVec Ideal S2048x2048 .bf16) (x : FVec Ideal S256x2048 .f32) (a : Fin 256) (b : Fin 2048) :
    k0_pay3 (F := Ideal) y w x (ix2 a b) = past (fun k => y (ix2 a k)) (fun k b => w (ix2 k b)) (x (ix2 a b)) b := by
  rw [past, add_comm (x (ix2 a b))]
  pointwise [k0_pay3]

variable (m : (ℓ : Loc nD τ sig) → Buf (Elt Ideal) ℓ)

theorem block0 (c : Dev nD) (t : Fin cfg0.N) (a : Fin 256) (b : Fin 512) : (iblk m c 0 t : Vec Ideal S256x512 .f32) (ix2 a b) = (V m c main_arg0 : Vec Ideal S4096x512 .f32) (ix2 (row t a) b) := by
  have e := place0 t
  refine congrArg (V m c main_arg0 : Vec Ideal S4096x512 .f32) ?_
  funext d; apply Fin.ext
  match d with
  | ⟨0, _⟩ =>
    show win0_0.index t (0 : Fin 2) * 256 + 1 * a.val = 256 * t.val + a.val
    rw [e.1]; omega
  | ⟨1, _⟩ =>
    show win0_0.index t (1 : Fin 2) * 512 + 1 * b.val = b.val
    rw [e.2]; omega

theorem block1 (c : Dev nD) (t : Fin cfg0.N) (a : Fin 256) (b : Fin 512) : (iblk m c 1 t : Vec Ideal S256x512 .f32) (ix2 a b) = (V m c main_arg1 : Vec Ideal S4096x512 .f32) (ix2 (row t a) b) := by
  have e := place1 t
  refine congrArg (V m c main_arg1 : Vec Ideal S4096x512 .f32) ?_
  funext d; apply Fin.ext
  match d with
  | ⟨0, _⟩ =>
    show win0_1.index t (0 : Fin 2) * 256 + 1 * a.val = 256 * t.val + a.val
    rw [e.1]; omega
  | ⟨1, _⟩ =>
    show win0_1.index t (1 : Fin 2) * 512 + 1 * b.val = b.val
    rw [e.2]; omega

theorem block2 (c : Dev nD) (t : Fin cfg0.N) (a : Fin 256) (b : Fin 512) : (iblk m c 2 t : Vec Ideal S256x512 .f32) (ix2 a b) = (V m c main_arg2 : Vec Ideal S4096x512 .f32) (ix2 (row t a) b) := by
  have e := place2 t
  refine congrArg (V m c main_arg2 : Vec Ideal S4096x512 .f32) ?_
  funext d; apply Fin.ext
  match d with
  | ⟨0, _⟩ =>
    show win0_2.index t (0 : Fin 2) * 256 + 1 * a.val = 256 * t.val + a.val
    rw [e.1]; omega
  | ⟨1, _⟩ =>
    show win0_2.index t (1 : Fin 2) * 512 + 1 * b.val = b.val
    rw [e.2]; omega

theorem block3 (c : Dev nD) (t : Fin cfg0.N) (a : Fin 256) (b : Fin 512) : (iblk m c 3 t : Vec Ideal S256x512 .f32) (ix2 a b) = (V m c main_arg3 : Vec Ideal S4096x512 .f32) (ix2 (row t a) b) := by
  have e := place3 t
  refine congrArg (V m c main_arg3 : Vec Ideal S4096x512 .f32) ?_
  funext d; apply Fin.ext
  match d with
  | ⟨0, _⟩ =>
    show win0_3.index t (0 : Fin 2) * 256 + 1 * a.val = 256 * t.val + a.val
    rw [e.1]; omega
  | ⟨1, _⟩ =>
    show win0_3.index t (1 : Fin 2) * 512 + 1 * b.val = b.val
    rw [e.2]; omega

theorem block4 (c : Dev nD) (t : Fin cfg0.N) (a : Fin 256) (b : Fin 512) : (X0_4 m c t : Vec Ideal S256x512 .f32) (ix2 a b) = (V m c main_arg4 : Vec Ideal S4096x6400 .f32) (ix2 (row t a) (col 1024 (by decide) b)) := by
  have e := place4 t
  unfold X0_4 Pipeline.Window.fill
  rw [dif_pos (moved0_4 t (ix2 a b))]
  refine congrArg (V m c main_arg4 : Vec Ideal S4096x6400 .f32) ?_
  funext d; apply Fin.ext
  match d with
  | ⟨0, _⟩ =>
    show win0_4.index t (0 : Fin 2) * 256 + 1 * a.val = 256 * t.val + a.val
    rw [e.1]; omega
  | ⟨1, _⟩ =>
    show win0_4.index t (1 : Fin 2) * 512 + 1 * b.val = 1024 + b.val
    rw [e.2]; omega

theorem block5 (c : Dev nD) (t : Fin cfg0.N) (a : Fin 256) (b : Fin 512) : (X0_5 m c t : Vec Ideal S256x512 .f32) (ix2 a b) = (V m c main_arg4 : Vec Ideal S4096x6400 .f32) (ix2 (row t a) (col 3072 (by decide) b)) := by
  have e := place5 t
  unfold X0_5 Pipeline.Window.fill
  rw [dif_pos (moved0_5 t (ix2 a b))]
  refine congrArg (V m c main_arg4 : Vec Ideal S4096x6400 .f32) ?_
  funext d; apply Fin.ext
  match d with
  | ⟨0, _⟩ =>
    show win0_5.index t (0 : Fin 2) * 256 + 1 * a.val = 256 * t.val + a.val
    rw [e.1]; omega
  | ⟨1, _⟩ =>
    show win0_5.index t (1 : Fin 2) * 512 + 1 * b.val = 3072 + b.val
    rw [e.2]; omega

theorem block6 (c : Dev nD) (t : Fin cfg0.N) (a : Fin 256) (b : Fin 512) : (X0_6 m c t : Vec Ideal S256x512 .f32) (ix2 a b) = (V m c main_arg4 : Vec Ideal S4096x6400 .f32) (ix2 (row t a) (col 4608 (by decide) b)) := by
  have e := place6 t
  unfold X0_6 Pipeline.Window.fill
  rw [dif_pos (moved0_6 t (ix2 a b))]
  refine congrArg (V m c main_arg4 : Vec Ideal S4096x6400 .f32) ?_
  funext d; apply Fin.ext
  match d with
  | ⟨0, _⟩ =>
    show win0_6.index t (0 : Fin 2) * 256 + 1 * a.val = 256 * t.val + a.val
    rw [e.1]; omega
  | ⟨1, _⟩ =>
    show win0_6.index t (1 : Fin 2) * 512 + 1 * b.val = 4608 + b.val
    rw [e.2]; omega

theorem block7 (c : Dev nD) (t : Fin cfg0.N) (a : Fin 256) (b : Fin 512) : (X0_7 m c t : Vec Ideal S256x512 .f32) (ix2 a b) = (V m c main_arg4 : Vec Ideal S4096x6400 .f32) (ix2 (row t a) (col 5632 (by decide) b)) := by
  have e := place7 t
  unfold X0_7 Pipeline.Window.fill
  rw [dif_pos (moved0_7 t (ix2 a b))]
  refine congrArg (V m c main_arg4 : Vec Ideal S4096x6400 .f32) ?_
  funext d; apply Fin.ext
  match d with
  | ⟨0, _⟩ =>
    show win0_7.index t (0 : Fin 2) * 256 + 1 * a.val = 256 * t.val + a.val
    rw [e.1]; omega
  | ⟨1, _⟩ =>
    show win0_7.index t (1 : Fin 2) * 512 + 1 * b.val = 5632 + b.val
    rw [e.2]; omega

theorem block8 (c : Dev nD) (t : Fin cfg0.N) (a : Fin 2048) (b : Fin 2048) : (iblk m c 8 t : Vec Ideal S2048x2048 .bf16) (ix2 a b) = (V m c main_arg5 : Vec Ideal S2048x2048 .bf16) (ix2 a b) := by
  have e := place8 t
  refine congrArg (V m c main_arg5 : Vec Ideal S2048x2048 .bf16) ?_
  funext d; apply Fin.ext
  match d with
  | ⟨0, _⟩ =>
    show win0_8.index t (0 : Fin 2) * 2048 + 1 * a.val = a.val
    rw [e.1]; omega
  | ⟨1, _⟩ =>
    show win0_8.index t (1 : Fin 2) * 2048 + 1 * b.val = b.val
    rw [e.2]; omega

theorem block9 (c : Dev nD) (t : Fin cfg0.N) (a : Fin 256) (b : Fin 2048) : (iblk m c 9 t : Vec Ideal S256x2048 .f32) (ix2 a b) = (V m c main_arg6 : Vec Ideal S4096x2048 .f32) (ix2 (row t a) b) := by
  have e := place9 t
  refine congrArg (V m c main_arg6 : Vec Ideal S4096x2048 .f32) ?_
  funext d; apply Fin.ext
  match d with
  | ⟨0, _⟩ =>
    show win0_9.index t (0 : Fin 2) * 256 + 1 * a.val = 256 * t.val + a.val
    rw [e.1]; omega
  | ⟨1, _⟩ =>
    show win0_9.index t (1 : Fin 2) * 2048 + 1 * b.val = b.val
    rw [e.2]; omega

/-- The activation, all of it. -/
abbrev actOut (c : Dev nD) : Vec Ideal S4096x2048 .bf16 := gated (V m c main_arg0) (V m c main_arg1) (V m c main_arg2) (V m c main_arg3) (V m c main_arg4)

/-- The output, all of it. -/
abbrev lastOut (c : Dev nD) : Vec Ideal S4096x2048 .f32 := passed (V m c main_arg0) (V m c main_arg1) (V m c main_arg2) (V m c main_arg3) (V m c main_arg4) (V m c main_arg5) (V m c main_arg6)

theorem acts_at (c : Dev nD) (t : Fin cfg0.N) (a : Fin 256) (b : Fin 2048) : (acts (iblk m c 0 t) (iblk m c 1 t) (iblk m c 2 t) (iblk m c 3 t) (X0_4 m c t) (X0_5 m c t) (X0_6 m c t) (X0_7 m c t)) (ix2 a b) = actOut m c (ix2 (row t a) b) := by
  rw [actOut, gated_at, acts_eq]
  show side _ _ _ _ _ = _
  show side (fun r => gate ((iblk m c 0 t : Vec Ideal S256x512 .f32) (ix2 a r)) ((X0_4 m c t : Vec Ideal S256x512 .f32) (ix2 a r))) (fun r => gate ((iblk m c 1 t : Vec Ideal S256x512 .f32) (ix2 a r)) ((X0_5 m c t : Vec Ideal S256x512 .f32) (ix2 a r))) (fun r => gate ((iblk m c 2 t : Vec Ideal S256x512 .f32) (ix2 a r)) ((X0_6 m c t : Vec Ideal S256x512 .f32) (ix2 a r))) (fun r => gate ((iblk m c 3 t : Vec Ideal S256x512 .f32) (ix2 a r)) ((X0_7 m c t : Vec Ideal S256x512 .f32) (ix2 a r))) b = _
  simp only [block0, block1, block2, block3, block4, block5, block6, block7]

theorem last_at (c : Dev nD) (t : Fin cfg0.N) (a : Fin 256) (b : Fin 2048) : k0_pay3 (acts (iblk m c 0 t) (iblk m c 1 t) (iblk m c 2 t) (iblk m c 3 t) (X0_4 m c t) (X0_5 m c t) (X0_6 m c t) (X0_7 m c t)) (iblk m c 8 t) (iblk m c 9 t) (ix2 a b) = lastOut m c (ix2 (row t a) b) := by
  rw [lastOut, passed_at]
  refine (past_at _ _ _ a b).trans ?_
  simp only [acts_at, block8, block9]

theorem outs10 (c : Dev nD) (t : Fin cfg0.N) : (outsAt0 m c t).1 = (acts (iblk m c 0 t) (iblk m c 1 t) (iblk m c 2 t) (iblk m c 3 t) (X0_4 m c t) (X0_5 m c t) (X0_6 m c t) (X0_7 m c t)) := by
  unfold outsAt0
  dsimp only
  rw [out10_A]

theorem outs11 (c : Dev nD) (t : Fin cfg0.N) : (outsAt0 m c t).2 = k0_pay3 (acts (iblk m c 0 t) (iblk m c 1 t) (iblk m c 2 t) (iblk m c 3 t) (X0_4 m c t) (X0_5 m c t) (X0_6 m c t) (X0_7 m c t)) (iblk m c 8 t) (iblk m c 9 t) := by
  unfold outsAt0
  dsimp only
  rw [out11_A]

theorem written10 (c : Dev nD) (t : Fin cfg0.N) : (dats m 0 c).flushed 10 t = ((cfg0.win 10).blk t).view.read (Elt Ideal) (actOut m c) := by
  rw [Value.flushed10, outs10]
  funext j
  have e : ((cfg0.win 10).blk t).view.emb j = ix2 (row t (j 0)) (j 1) := by
    funext d; apply Fin.ext
    match d with
    | ⟨0, _⟩ =>
      show win0_10.index t (0 : Fin 2) * 256 + 1 * (j 0).val = 256 * t.val + (j 0).val
      rw [(place10 t).1]; omega
    | ⟨1, _⟩ =>
      show win0_10.index t (1 : Fin 2) * 2048 + 1 * (j 1).val = (j 1).val
      rw [(place10 t).2]; omega
  show (acts (iblk m c 0 t) (iblk m c 1 t) (iblk m c 2 t) (iblk m c 3 t) (X0_4 m c t) (X0_5 m c t) (X0_6 m c t) (X0_7 m c t)) j = actOut m c (((cfg0.win 10).blk t).view.emb j)
  rw [e, eq_ix2 j]
  exact acts_at m c t (j 0) (j 1)

theorem whole10 (c : Dev nD) : (dats m 0 c).arrAt 10 cfg0.N = actOut m c :=
  (dats m 0 c).arrAt_eq_of_cover 10 _ (fun t _ => written10 m c t) covered10

theorem written11 (c : Dev nD) (t : Fin cfg0.N) : (dats m 0 c).flushed 11 t = ((cfg0.win 11).blk t).view.read (Elt Ideal) (lastOut m c) := by
  rw [Value.flushed11, outs11]
  funext j
  have e : ((cfg0.win 11).blk t).view.emb j = ix2 (row t (j 0)) (j 1) := by
    funext d; apply Fin.ext
    match d with
    | ⟨0, _⟩ =>
      show win0_11.index t (0 : Fin 2) * 256 + 1 * (j 0).val = 256 * t.val + (j 0).val
      rw [(place11 t).1]; omega
    | ⟨1, _⟩ =>
      show win0_11.index t (1 : Fin 2) * 2048 + 1 * (j 1).val = (j 1).val
      rw [(place11 t).2]; omega
  show k0_pay3 (acts (iblk m c 0 t) (iblk m c 1 t) (iblk m c 2 t) (iblk m c 3 t) (X0_4 m c t) (X0_5 m c t) (X0_6 m c t) (X0_7 m c t)) (iblk m c 8 t) (iblk m c 9 t) j = lastOut m c (((cfg0.win 11).blk t).view.emb j)
  rw [e, eq_ix2 j]
  exact last_at m c t (j 0) (j 1)

theorem whole11 (c : Dev nD) : (dats m 0 c).arrAt 11 cfg0.N = lastOut m c :=
  (dats m 0 c).arrAt_eq_of_cover 11 _ (fun t _ => written11 m c t) covered11

end Cert.LayerEndIdeal.Whole

end
-- ==== Proof.OutProjBwdRow.lean ====
/- # The gradient through the projection's gates, read at an index

   The gradient that comes back through the weights is split over the four parts; each part's is multiplied with the gate, or
   with the part and the gate's slope. -/
module

public import Idealize.ShloMosaic.Lib.Pointwise
public import Idealize.ShloMosaic.Lib.IdealHost
public import proofs.«01_k».proof.Proof.OutProjRow
public import proofs.«01_k».proof.Proof.Gen.OutProjBwdRefIdeal

@[expose] public section

noncomputable section

namespace Cert.Out

open Cert.OutProjBwdRefIdeal Cert.OutProjBwdRefIdeal.Facts₀ Idealize.ShloMosaic Idealize.ShloMosaic.TcCoe Idealize.SL.Sem

/-- The column of `r` in the part of the activation that starts at `o`. -/
def spot (o : ℕ) (ho : o + 512 ≤ 2048) (r : Fin 512) : Fin 2048 := ⟨o + r.val, by have := r.isLt; omega⟩

/-- An entry of the gradient that comes back through the weights. -/
def pull (v : Fin 2048 → EReal) (w : Fin 2048 → Fin 2048 → EReal) (b : Fin 2048) : EReal := ∑ k, v k * w k b

/-- The gate's slope, by the rule of the quotient. -/
def bend (g : EReal) : EReal :=
  Ideal.div 1 (1 + Ideal.exp (-g)) + -(-(1 * Ideal.div 1 ((1 + Ideal.exp (-g)) * (1 + Ideal.exp (-g))) * g) * Ideal.exp (-g))

/-- The gradient of a gate. -/
def tilt (y p g : EReal) : EReal := y * p * bend g

/-- The slope in closed form, infinite places included. -/
theorem bend_eq (g : EReal) : Ideal.div 1 (1 + Ideal.exp (-g)) * (1 + g * (1 - Ideal.div 1 (1 + Ideal.exp (-g)))) = bend g := by
  unfold bend
  induction g using EReal.rec with
  | bot =>
    have h : (1 : EReal) + ⊤ = ⊤ := rfl
    simp [Ideal.div, h]
  | top =>
    have h : Ideal.div 1 1 = (1 : EReal) := by
      rw [show (1 : EReal) = ((1 : ℝ) : EReal) from rfl, Ideal.div_coe (by norm_num), ← EReal.coe_mul]; norm_num
    have s : (1 : EReal) - 1 = 0 := by
      rw [show (1 : EReal) = ((1 : ℝ) : EReal) from rfl, ← EReal.coe_sub, sub_self, EReal.coe_zero]
    simp [h, s]
  | coe g =>
    have hp : (0 : ℝ) < 1 + Real.exp (-g) := by have := Real.exp_pos (-g); linarith
    rw [← EReal.coe_neg, Ideal.exp_coe, show (1 : EReal) = ((1 : ℝ) : EReal) from rfl, ← EReal.coe_add, ← EReal.coe_mul,
      Ideal.div_coe hp.ne', Ideal.div_coe (mul_pos hp hp).ne']
    simp only [← EReal.coe_mul, ← EReal.coe_neg, ← EReal.coe_sub, ← EReal.coe_add]
    refine congrArg _ ?_
    have := hp.ne'
    field_simp
    ring

/-- The reference's gradient of the activation. -/
def back (d : FVec Ideal S4096x2048 .bf16) (w : FVec Ideal S2048x2048 .bf16) : FVec Ideal S4096x2048 .f32 := Host.dotGeneral dot_S4096x2048_S2048x2048_S4096x2048_1_0_0_1_n_n none (extf .f32 d bitsLt_bf16_f32) (extf .f32 w bitsLt_bf16_f32)

theorem back_at (d : FVec Ideal S4096x2048 .bf16) (w : FVec Ideal S2048x2048 .bf16) (a : Fin 4096) (b : Fin 2048) :
    back d w (ix2 a b) = pull (fun k => d (ix2 a k)) (fun k b => w (ix2 k b)) b := by
  pointwise [back, pull]

/-- The reference's gradient of part 0. -/
def part0 (d : FVec Ideal S4096x2048 .bf16) (w : FVec Ideal S2048x2048 .bf16) (z : FVec Ideal S4096x6400 .f32) : FVec Ideal S4096x512 .f32 :=
  mulf (extractStridedSlice S4096x512 ![0, 0] (back d w) slices_S4096x2048_S4096x512_0_0) (Host.divf (extractStridedSlice S4096x512 ![0, 1024] z slices_S4096x6400_S4096x512_0_1024) (addf (broadcastInDim S4096x512 ![] bcast_S_S4096x512 (constant S_ .f32 0x3F800000#32)) (Host.exp (Host.negf (extractStridedSlice S4096x512 ![0, 1024] z slices_S4096x6400_S4096x512_0_1024)))))

theorem part0_at (d : FVec Ideal S4096x2048 .bf16) (w : FVec Ideal S2048x2048 .bf16) (z : FVec Ideal S4096x6400 .f32) (a : Fin 4096) (r : Fin 512) :
    part0 d w z (ix2 a r) = gate (pull (fun k => d (ix2 a k)) (fun k b => w (ix2 k b)) (spot 0 (by decide) r)) (z (ix2 a (col 1024 (by decide) r))) := by
  rw [← back_at]
  pointwise [part0, gate, spot, col]

/-- The reference's gradient of part 0's gate. -/
def gate0 (d : FVec Ideal S4096x2048 .bf16) (w : FVec Ideal S2048x2048 .bf16) (p0 : FVec Ideal S4096x512 .f32) (z : FVec Ideal S4096x6400 .f32) : FVec Ideal S4096x512 .bf16 :=
  truncf .bf16 (mulf (mulf (extractStridedSlice S4096x512 ![0, 0] (back d w) slices_S4096x2048_S4096x512_0_0) p0) (addf (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 1024] z slices_S4096x6400_S4096x512_0_1024))))) (Host.negf (mulf (Host.negf (mulf (mulf (broadcastInDim S4096x512 ![] bcast_S_S4096x512 (constant S_ .f32 0x3F800000#32)) (Host.divf (broadcastInDim S4096x512 ![] bcast_S_S4096x512 (constant S_ .f32 0x3F800000#32)) (mulf (addf (broadcastInDim S4096x512 ![] bcast_S_S4096x512 (constant S_ .f32 0x3F800000#32)) (Host.exp (Host.negf (extractStridedSlice S4096x512 ![0, 1024] z slices_S4096x6400_S4096x512_0_1024)))) (addf (broadcastInDim S4096x512 ![] bcast_S_S4096x512 (constant S_ .f32 0x3F800000#32)) (Host.exp (Host.negf (extractStridedSlice S4096x512 ![0, 1024] z slices_S4096x6400_S4096x512_0_1024))))))) (extractStridedSlice S4096x512 ![0, 1024] z slices_S4096x6400_S4096x512_0_1024))) (Host.exp (Host.negf (extractStridedSlice S4096x512 ![0, 1024] z slices_S4096x6400_S4096x512_0_1024))))))) bitsLt_bf16_f32

theorem gate0_at (d : FVec Ideal S4096x2048 .bf16) (w : FVec Ideal S2048x2048 .bf16) (p0 : FVec Ideal S4096x512 .f32) (z : FVec Ideal S4096x6400 .f32) (a : Fin 4096) (r : Fin 512) :
    gate0 d w p0 z (ix2 a r) = tilt (pull (fun k => d (ix2 a k)) (fun k b => w (ix2 k b)) (spot 0 (by decide) r)) (p0 (ix2 a r)) (z (ix2 a (col 1024 (by decide) r))) := by
  rw [← back_at]
  pointwise [gate0, tilt, bend, spot, col, Ideal.ofBits_one_f32]

/-- The reference's gradient of part 1. -/
def part1 (d : FVec Ideal S4096x2048 .bf16) (w : FVec Ideal S2048x2048 .bf16) (z : FVec Ideal S4096x6400 .f32) : FVec Ideal S4096x512 .f32 :=
  mulf (extractStridedSlice S4096x512 ![0, 512] (back d w) slices_S4096x2048_S4096x512_0_512) (Host.divf (extractStridedSlice S4096x512 ![0, 3072] z slices_S4096x6400_S4096x512_0_3072) (addf (broadcastInDim S4096x512 ![] bcast_S_S4096x512 (constant S_ .f32 0x3F800000#32)) (Host.exp (Host.negf (extractStridedSlice S4096x512 ![0, 3072] z slices_S4096x6400_S4096x512_0_3072)))))

theorem part1_at (d : FVec Ideal S4096x2048 .bf16) (w : FVec Ideal S2048x2048 .bf16) (z : FVec Ideal S4096x6400 .f32) (a : Fin 4096) (r : Fin 512) :
    part1 d w z (ix2 a r) = gate (pull (fun k => d (ix2 a k)) (fun k b => w (ix2 k b)) (spot 512 (by decide) r)) (z (ix2 a (col 3072 (by decide) r))) := by
  rw [← back_at]
  pointwise [part1, gate, spot, col]

/-- The reference's gradient of part 1's gate. -/
def gate1 (d : FVec Ideal S4096x2048 .bf16) (w : FVec Ideal S2048x2048 .bf16) (p1 : FVec Ideal S4096x512 .f32) (z : FVec Ideal S4096x6400 .f32) : FVec Ideal S4096x512 .bf16 :=
  truncf .bf16 (mulf (mulf (extractStridedSlice S4096x512 ![0, 512] (back d w) slices_S4096x2048_S4096x512_0_512) p1) (addf (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 3072] z slices_S4096x6400_S4096x512_0_3072))))) (Host.negf (mulf (Host.negf (mulf (mulf (broadcastInDim S4096x512 ![] bcast_S_S4096x512 (constant S_ .f32 0x3F800000#32)) (Host.divf (broadcastInDim S4096x512 ![] bcast_S_S4096x512 (constant S_ .f32 0x3F800000#32)) (mulf (addf (broadcastInDim S4096x512 ![] bcast_S_S4096x512 (constant S_ .f32 0x3F800000#32)) (Host.exp (Host.negf (extractStridedSlice S4096x512 ![0, 3072] z slices_S4096x6400_S4096x512_0_3072)))) (addf (broadcastInDim S4096x512 ![] bcast_S_S4096x512 (constant S_ .f32 0x3F800000#32)) (Host.exp (Host.negf (extractStridedSlice S4096x512 ![0, 3072] z slices_S4096x6400_S4096x512_0_3072))))))) (extractStridedSlice S4096x512 ![0, 3072] z slices_S4096x6400_S4096x512_0_3072))) (Host.exp (Host.negf (extractStridedSlice S4096x512 ![0, 3072] z slices_S4096x6400_S4096x512_0_3072))))))) bitsLt_bf16_f32

theorem gate1_at (d : FVec Ideal S4096x2048 .bf16) (w : FVec Ideal S2048x2048 .bf16) (p1 : FVec Ideal S4096x512 .f32) (z : FVec Ideal S4096x6400 .f32) (a : Fin 4096) (r : Fin 512) :
    gate1 d w p1 z (ix2 a r) = tilt (pull (fun k => d (ix2 a k)) (fun k b => w (ix2 k b)) (spot 512 (by decide) r)) (p1 (ix2 a r)) (z (ix2 a (col 3072 (by decide) r))) := by
  rw [← back_at]
  pointwise [gate1, tilt, bend, spot, col, Ideal.ofBits_one_f32]

/-- The reference's gradient of part 2. -/
def part2 (d : FVec Ideal S4096x2048 .bf16) (w : FVec Ideal S2048x2048 .bf16) (z : FVec Ideal S4096x6400 .f32) : FVec Ideal S4096x512 .f32 :=
  mulf (extractStridedSlice S4096x512 ![0, 1024] (back d w) slices_S4096x2048_S4096x512_0_1024) (Host.divf (extractStridedSlice S4096x512 ![0, 4608] z slices_S4096x6400_S4096x512_0_4608) (addf (broadcastInDim S4096x512 ![] bcast_S_S4096x512 (constant S_ .f32 0x3F800000#32)) (Host.exp (Host.negf (extractStridedSlice S4096x512 ![0, 4608] z slices_S4096x6400_S4096x512_0_4608)))))

theorem part2_at (d : FVec Ideal S4096x2048 .bf16) (w : FVec Ideal S2048x2048 .bf16) (z : FVec Ideal S4096x6400 .f32) (a : Fin 4096) (r : Fin 512) :
    part2 d w z (ix2 a r) = gate (pull (fun k => d (ix2 a k)) (fun k b => w (ix2 k b)) (spot 1024 (by decide) r)) (z (ix2 a (col 4608 (by decide) r))) := by
  rw [← back_at]
  pointwise [part2, gate, spot, col]

/-- The reference's gradient of part 2's gate. -/
def gate2 (d : FVec Ideal S4096x2048 .bf16) (w : FVec Ideal S2048x2048 .bf16) (p2 : FVec Ideal S4096x512 .f32) (z : FVec Ideal S4096x6400 .f32) : FVec Ideal S4096x512 .bf16 :=
  truncf .bf16 (mulf (mulf (extractStridedSlice S4096x512 ![0, 1024] (back d w) slices_S4096x2048_S4096x512_0_1024) p2) (addf (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 4608] z slices_S4096x6400_S4096x512_0_4608))))) (Host.negf (mulf (Host.negf (mulf (mulf (broadcastInDim S4096x512 ![] bcast_S_S4096x512 (constant S_ .f32 0x3F800000#32)) (Host.divf (broadcastInDim S4096x512 ![] bcast_S_S4096x512 (constant S_ .f32 0x3F800000#32)) (mulf (addf (broadcastInDim S4096x512 ![] bcast_S_S4096x512 (constant S_ .f32 0x3F800000#32)) (Host.exp (Host.negf (extractStridedSlice S4096x512 ![0, 4608] z slices_S4096x6400_S4096x512_0_4608)))) (addf (broadcastInDim S4096x512 ![] bcast_S_S4096x512 (constant S_ .f32 0x3F800000#32)) (Host.exp (Host.negf (extractStridedSlice S4096x512 ![0, 4608] z slices_S4096x6400_S4096x512_0_4608))))))) (extractStridedSlice S4096x512 ![0, 4608] z slices_S4096x6400_S4096x512_0_4608))) (Host.exp (Host.negf (extractStridedSlice S4096x512 ![0, 4608] z slices_S4096x6400_S4096x512_0_4608))))))) bitsLt_bf16_f32

theorem gate2_at (d : FVec Ideal S4096x2048 .bf16) (w : FVec Ideal S2048x2048 .bf16) (p2 : FVec Ideal S4096x512 .f32) (z : FVec Ideal S4096x6400 .f32) (a : Fin 4096) (r : Fin 512) :
    gate2 d w p2 z (ix2 a r) = tilt (pull (fun k => d (ix2 a k)) (fun k b => w (ix2 k b)) (spot 1024 (by decide) r)) (p2 (ix2 a r)) (z (ix2 a (col 4608 (by decide) r))) := by
  rw [← back_at]
  pointwise [gate2, tilt, bend, spot, col, Ideal.ofBits_one_f32]

/-- The reference's gradient of part 3. -/
def part3 (d : FVec Ideal S4096x2048 .bf16) (w : FVec Ideal S2048x2048 .bf16) (z : FVec Ideal S4096x6400 .f32) : FVec Ideal S4096x512 .f32 :=
  mulf (extractStridedSlice S4096x512 ![0, 1536] (back d w) slices_S4096x2048_S4096x512_0_1536) (Host.divf (extractStridedSlice S4096x512 ![0, 5632] z slices_S4096x6400_S4096x512_0_5632) (addf (broadcastInDim S4096x512 ![] bcast_S_S4096x512 (constant S_ .f32 0x3F800000#32)) (Host.exp (Host.negf (extractStridedSlice S4096x512 ![0, 5632] z slices_S4096x6400_S4096x512_0_5632)))))

theorem part3_at (d : FVec Ideal S4096x2048 .bf16) (w : FVec Ideal S2048x2048 .bf16) (z : FVec Ideal S4096x6400 .f32) (a : Fin 4096) (r : Fin 512) :
    part3 d w z (ix2 a r) = gate (pull (fun k => d (ix2 a k)) (fun k b => w (ix2 k b)) (spot 1536 (by decide) r)) (z (ix2 a (col 5632 (by decide) r))) := by
  rw [← back_at]
  pointwise [part3, gate, spot, col]

/-- The reference's gradient of part 3's gate. -/
def gate3 (d : FVec Ideal S4096x2048 .bf16) (w : FVec Ideal S2048x2048 .bf16) (p3 : FVec Ideal S4096x512 .f32) (z : FVec Ideal S4096x6400 .f32) : FVec Ideal S4096x512 .bf16 :=
  truncf .bf16 (mulf (mulf (extractStridedSlice S4096x512 ![0, 1536] (back d w) slices_S4096x2048_S4096x512_0_1536) p3) (addf (Host.divf (broadcastInDim S4096x512 ![] bcast_S_S4096x512 (constant S_ .f32 0x3F800000#32)) (addf (broadcastInDim S4096x512 ![] bcast_S_S4096x512 (constant S_ .f32 0x3F800000#32)) (Host.exp (Host.negf (extractStridedSlice S4096x512 ![0, 5632] z slices_S4096x6400_S4096x512_0_5632))))) (Host.negf (mulf (Host.negf (mulf (mulf (broadcastInDim S4096x512 ![] bcast_S_S4096x512 (constant S_ .f32 0x3F800000#32)) (Host.divf (broadcastInDim S4096x512 ![] bcast_S_S4096x512 (constant S_ .f32 0x3F800000#32)) (mulf (addf (broadcastInDim S4096x512 ![] bcast_S_S4096x512 (constant S_ .f32 0x3F800000#32)) (Host.exp (Host.negf (extractStridedSlice S4096x512 ![0, 5632] z slices_S4096x6400_S4096x512_0_5632)))) (addf (broadcastInDim S4096x512 ![] bcast_S_S4096x512 (constant S_ .f32 0x3F800000#32)) (Host.exp (Host.negf (extractStridedSlice S4096x512 ![0, 5632] z slices_S4096x6400_S4096x512_0_5632))))))) (extractStridedSlice S4096x512 ![0, 5632] z slices_S4096x6400_S4096x512_0_5632))) (Host.exp (Host.negf (extractStridedSlice S4096x512 ![0, 5632] z slices_S4096x6400_S4096x512_0_5632))))))) bitsLt_bf16_f32

theorem gate3_at (d : FVec Ideal S4096x2048 .bf16) (w : FVec Ideal S2048x2048 .bf16) (p3 : FVec Ideal S4096x512 .f32) (z : FVec Ideal S4096x6400 .f32) (a : Fin 4096) (r : Fin 512) :
    gate3 d w p3 z (ix2 a r) = tilt (pull (fun k => d (ix2 a k)) (fun k b => w (ix2 k b)) (spot 1536 (by decide) r)) (p3 (ix2 a r)) (z (ix2 a (col 5632 (by decide) r))) := by
  rw [← back_at]
  pointwise [gate3, tilt, bend, spot, col, Ideal.ofBits_one_f32]

end Cert.Out

end
-- ==== Proof.OutProjBwdParts.lean ====
/- # The gradient through the projection's gates, block by block

   What a point writes, read at an index. -/
module

public import Idealize.ShloMosaic.Lib.Tactic
public import Idealize.ShloMosaic.Lib.Pointwise
public import proofs.«01_k».proof.Proof.OutProjBwdRow
public import proofs.«01_k».proof.Proof.Gen.OutProjBwdIdeal.Value

@[expose] public section

noncomputable section

namespace Cert.OutProjBwdIdeal.Whole

open Cert.OutProjBwdIdeal Cert.OutProjBwdIdeal.Gen Cert.Out Idealize.ShloMosaic Idealize.ShloMosaic.TcCoe Idealize.SL.Sem

theorem hz : (![0, 0] : Fin 2 → ℕ) = fun _ => 0 := funext fun a => by fin_cases a <;> rfl

theorem out10_A (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S256x512 .f32) (h9 : a9.IsWhole) (a10 : Memref sig .tc .vmem S256x512 .f32) (h10 : a10.IsWhole) (a11 : Memref sig .tc .vmem S256x512 .f32) (h11 : a11.IsWhole) (a12 : Memref sig .tc .vmem S256x512 .f32) (h12 : a12.IsWhole) (a13 : Memref sig .tc .vmem S256x512 .f32) (h13 : a13.IsWhole) (a14 : Memref sig .tc .vmem S256x512 .f32) (h14 : a14.IsWhole) (a15 : Memref sig .tc .vmem S256x512 .bf16) (h15 : a15.IsWhole) (a16 : Memref sig .tc .vmem S256x512 .bf16) (h16 : a16.IsWhole) (a17 : Memref sig .tc .vmem S256x512 .bf16) (h17 : a17.IsWhole) (a18 : Memref sig .tc .vmem S256x512 .bf16) (h18 : a18.IsWhole)
    (d : Vec Ideal S256x2048 .bf16) (w : Vec Ideal S2048x2048 .bf16) (p0 p1 p2 p3 g0 g1 g2 g3 : Vec Ideal S256x512 .f32) :
    out0_A_10 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3 = k0_pay4 d w g0 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x512) hz, View.ld_unit_zero (S := S2048x2048) hz, View.ld_unit_zero (S := S256x2048) hz, shapeCast_self]

theorem out11_A (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S256x512 .f32) (h9 : a9.IsWhole) (a10 : Memref sig .tc .vmem S256x512 .f32) (h10 : a10.IsWhole) (a11 : Memref sig .tc .vmem S256x512 .f32) (h11 : a11.IsWhole) (a12 : Memref sig .tc .vmem S256x512 .f32) (h12 : a12.IsWhole) (a13 : Memref sig .tc .vmem S256x512 .f32) (h13 : a13.IsWhole) (a14 : Memref sig .tc .vmem S256x512 .f32) (h14 : a14.IsWhole) (a15 : Memref sig .tc .vmem S256x512 .bf16) (h15 : a15.IsWhole) (a16 : Memref sig .tc .vmem S256x512 .bf16) (h16 : a16.IsWhole) (a17 : Memref sig .tc .vmem S256x512 .bf16) (h17 : a17.IsWhole) (a18 : Memref sig .tc .vmem S256x512 .bf16) (h18 : a18.IsWhole)
    (d : Vec Ideal S256x2048 .bf16) (w : Vec Ideal S2048x2048 .bf16) (p0 p1 p2 p3 g0 g1 g2 g3 : Vec Ideal S256x512 .f32) :
    out0_A_11 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3 = k0_pay7 (k0_pay6 d w) g1 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x512) hz, View.ld_unit_zero (S := S2048x2048) hz, View.ld_unit_zero (S := S256x2048) hz, shapeCast_self]

theorem out12_A (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S256x512 .f32) (h9 : a9.IsWhole) (a10 : Memref sig .tc .vmem S256x512 .f32) (h10 : a10.IsWhole) (a11 : Memref sig .tc .vmem S256x512 .f32) (h11 : a11.IsWhole) (a12 : Memref sig .tc .vmem S256x512 .f32) (h12 : a12.IsWhole) (a13 : Memref sig .tc .vmem S256x512 .f32) (h13 : a13.IsWhole) (a14 : Memref sig .tc .vmem S256x512 .f32) (h14 : a14.IsWhole) (a15 : Memref sig .tc .vmem S256x512 .bf16) (h15 : a15.IsWhole) (a16 : Memref sig .tc .vmem S256x512 .bf16) (h16 : a16.IsWhole) (a17 : Memref sig .tc .vmem S256x512 .bf16) (h17 : a17.IsWhole) (a18 : Memref sig .tc .vmem S256x512 .bf16) (h18 : a18.IsWhole)
    (d : Vec Ideal S256x2048 .bf16) (w : Vec Ideal S2048x2048 .bf16) (p0 p1 p2 p3 g0 g1 g2 g3 : Vec Ideal S256x512 .f32) :
    out0_A_12 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3 = k0_pay11 (k0_pay9 (k0_pay2 d w)) (k0_pay10 g2) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x512) hz, View.ld_unit_zero (S := S2048x2048) hz, View.ld_unit_zero (S := S256x2048) hz, shapeCast_self]

theorem out13_A (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S256x512 .f32) (h9 : a9.IsWhole) (a10 : Memref sig .tc .vmem S256x512 .f32) (h10 : a10.IsWhole) (a11 : Memref sig .tc .vmem S256x512 .f32) (h11 : a11.IsWhole) (a12 : Memref sig .tc .vmem S256x512 .f32) (h12 : a12.IsWhole) (a13 : Memref sig .tc .vmem S256x512 .f32) (h13 : a13.IsWhole) (a14 : Memref sig .tc .vmem S256x512 .f32) (h14 : a14.IsWhole) (a15 : Memref sig .tc .vmem S256x512 .bf16) (h15 : a15.IsWhole) (a16 : Memref sig .tc .vmem S256x512 .bf16) (h16 : a16.IsWhole) (a17 : Memref sig .tc .vmem S256x512 .bf16) (h17 : a17.IsWhole) (a18 : Memref sig .tc .vmem S256x512 .bf16) (h18 : a18.IsWhole)
    (d : Vec Ideal S256x2048 .bf16) (w : Vec Ideal S2048x2048 .bf16) (p0 p1 p2 p3 g0 g1 g2 g3 : Vec Ideal S256x512 .f32) :
    out0_A_13 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3 = k0_pay14 (k0_pay2 d w) g3 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x512) hz, View.ld_unit_zero (S := S2048x2048) hz, View.ld_unit_zero (S := S256x2048) hz, shapeCast_self]

theorem out14_A (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S256x512 .f32) (h9 : a9.IsWhole) (a10 : Memref sig .tc .vmem S256x512 .f32) (h10 : a10.IsWhole) (a11 : Memref sig .tc .vmem S256x512 .f32) (h11 : a11.IsWhole) (a12 : Memref sig .tc .vmem S256x512 .f32) (h12 : a12.IsWhole) (a13 : Memref sig .tc .vmem S256x512 .f32) (h13 : a13.IsWhole) (a14 : Memref sig .tc .vmem S256x512 .f32) (h14 : a14.IsWhole) (a15 : Memref sig .tc .vmem S256x512 .bf16) (h15 : a15.IsWhole) (a16 : Memref sig .tc .vmem S256x512 .bf16) (h16 : a16.IsWhole) (a17 : Memref sig .tc .vmem S256x512 .bf16) (h17 : a17.IsWhole) (a18 : Memref sig .tc .vmem S256x512 .bf16) (h18 : a18.IsWhole)
    (d : Vec Ideal S256x2048 .bf16) (w : Vec Ideal S2048x2048 .bf16) (p0 p1 p2 p3 g0 g1 g2 g3 : Vec Ideal S256x512 .f32) :
    out0_A_14 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3 = k0_pay5 d w g0 p0 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x512) hz, View.ld_unit_zero (S := S2048x2048) hz, View.ld_unit_zero (S := S256x2048) hz, shapeCast_self]

theorem out15_A (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S256x512 .f32) (h9 : a9.IsWhole) (a10 : Memref sig .tc .vmem S256x512 .f32) (h10 : a10.IsWhole) (a11 : Memref sig .tc .vmem S256x512 .f32) (h11 : a11.IsWhole) (a12 : Memref sig .tc .vmem S256x512 .f32) (h12 : a12.IsWhole) (a13 : Memref sig .tc .vmem S256x512 .f32) (h13 : a13.IsWhole) (a14 : Memref sig .tc .vmem S256x512 .f32) (h14 : a14.IsWhole) (a15 : Memref sig .tc .vmem S256x512 .bf16) (h15 : a15.IsWhole) (a16 : Memref sig .tc .vmem S256x512 .bf16) (h16 : a16.IsWhole) (a17 : Memref sig .tc .vmem S256x512 .bf16) (h17 : a17.IsWhole) (a18 : Memref sig .tc .vmem S256x512 .bf16) (h18 : a18.IsWhole)
    (d : Vec Ideal S256x2048 .bf16) (w : Vec Ideal S2048x2048 .bf16) (p0 p1 p2 p3 g0 g1 g2 g3 : Vec Ideal S256x512 .f32) :
    out0_A_15 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3 = k0_pay8 (k0_pay6 d w) g1 p1 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x512) hz, View.ld_unit_zero (S := S2048x2048) hz, View.ld_unit_zero (S := S256x2048) hz, shapeCast_self]

theorem out16_A (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S256x512 .f32) (h9 : a9.IsWhole) (a10 : Memref sig .tc .vmem S256x512 .f32) (h10 : a10.IsWhole) (a11 : Memref sig .tc .vmem S256x512 .f32) (h11 : a11.IsWhole) (a12 : Memref sig .tc .vmem S256x512 .f32) (h12 : a12.IsWhole) (a13 : Memref sig .tc .vmem S256x512 .f32) (h13 : a13.IsWhole) (a14 : Memref sig .tc .vmem S256x512 .f32) (h14 : a14.IsWhole) (a15 : Memref sig .tc .vmem S256x512 .bf16) (h15 : a15.IsWhole) (a16 : Memref sig .tc .vmem S256x512 .bf16) (h16 : a16.IsWhole) (a17 : Memref sig .tc .vmem S256x512 .bf16) (h17 : a17.IsWhole) (a18 : Memref sig .tc .vmem S256x512 .bf16) (h18 : a18.IsWhole)
    (d : Vec Ideal S256x2048 .bf16) (w : Vec Ideal S2048x2048 .bf16) (p0 p1 p2 p3 g0 g1 g2 g3 : Vec Ideal S256x512 .f32) :
    out0_A_16 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3 = k0_pay12 (k0_pay9 (k0_pay2 d w)) g2 p2 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x512) hz, View.ld_unit_zero (S := S2048x2048) hz, View.ld_unit_zero (S := S256x2048) hz, shapeCast_self]

theorem out17_A (c : Dev nD) (i : grid0.Coords) (a1 : Memref sig .tc .vmem S256x2048 .bf16) (h1 : a1.IsWhole) (a2 : Memref sig .tc .vmem S2048x2048 .bf16) (h2 : a2.IsWhole) (a3 : Memref sig .tc .vmem S256x512 .f32) (h3 : a3.IsWhole) (a4 : Memref sig .tc .vmem S256x512 .f32) (h4 : a4.IsWhole) (a5 : Memref sig .tc .vmem S256x512 .f32) (h5 : a5.IsWhole) (a6 : Memref sig .tc .vmem S256x512 .f32) (h6 : a6.IsWhole) (a7 : Memref sig .tc .vmem S256x512 .f32) (h7 : a7.IsWhole) (a8 : Memref sig .tc .vmem S256x512 .f32) (h8 : a8.IsWhole) (a9 : Memref sig .tc .vmem S256x512 .f32) (h9 : a9.IsWhole) (a10 : Memref sig .tc .vmem S256x512 .f32) (h10 : a10.IsWhole) (a11 : Memref sig .tc .vmem S256x512 .f32) (h11 : a11.IsWhole) (a12 : Memref sig .tc .vmem S256x512 .f32) (h12 : a12.IsWhole) (a13 : Memref sig .tc .vmem S256x512 .f32) (h13 : a13.IsWhole) (a14 : Memref sig .tc .vmem S256x512 .f32) (h14 : a14.IsWhole) (a15 : Memref sig .tc .vmem S256x512 .bf16) (h15 : a15.IsWhole) (a16 : Memref sig .tc .vmem S256x512 .bf16) (h16 : a16.IsWhole) (a17 : Memref sig .tc .vmem S256x512 .bf16) (h17 : a17.IsWhole) (a18 : Memref sig .tc .vmem S256x512 .bf16) (h18 : a18.IsWhole)
    (d : Vec Ideal S256x2048 .bf16) (w : Vec Ideal S2048x2048 .bf16) (p0 p1 p2 p3 g0 g1 g2 g3 : Vec Ideal S256x512 .f32) :
    out0_A_17 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3 = k0_pay1 g3 (k0_pay15 (k0_pay2 d w) p3) (k0_pay16 g3) := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 d w p0 p1 p2 p3 g0 g1 g2 g3)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x512) hz, View.ld_unit_zero (S := S2048x2048) hz, View.ld_unit_zero (S := S256x2048) hz, shapeCast_self]

theorem mid_at (d : Vec Ideal S256x2048 .bf16) (w : Vec Ideal S2048x2048 .bf16) (a : Fin 256) (b : Fin 2048) :
    k0_pay2 d w (ix2 a b) = pull (fun k => d (ix2 a k)) (fun k b => w (ix2 k b)) b := by
  pointwise [k0_pay2, pull]

theorem pay10_at (d : Vec Ideal S256x2048 .bf16) (w : Vec Ideal S2048x2048 .bf16) (p0 p1 p2 p3 g0 g1 g2 g3 : Vec Ideal S256x512 .f32) (a : Fin 256) (r : Fin 512) :
    (k0_pay4 d w g0 : FVec Ideal S256x512 .f32) (ix2 a r) = gate (pull (fun k => d (ix2 a k)) (fun k b => w (ix2 k b)) (spot 0 (by decide) r)) (g0 (ix2 a r)) := by
  rw [← gate_eq, ← mid_at]
  pointwise [k0_pay1, k0_pay3, k0_pay4, k0_pay5, k0_pay6, k0_pay7, k0_pay8, k0_pay9, k0_pay10, k0_pay11, k0_pay12, k0_pay13, k0_pay14, k0_pay15, k0_pay16, spot, zero_sub, Ideal.ofBits_one_f32]

theorem pay11_at (d : Vec Ideal S256x2048 .bf16) (w : Vec Ideal S2048x2048 .bf16) (p0 p1 p2 p3 g0 g1 g2 g3 : Vec Ideal S256x512 .f32) (a : Fin 256) (r : Fin 512) :
    (k0_pay7 (k0_pay6 d w) g1 : FVec Ideal S256x512 .f32) (ix2 a r) = gate (pull (fun k => d (ix2 a k)) (fun k b => w (ix2 k b)) (spot 512 (by decide) r)) (g1 (ix2 a r)) := by
  rw [← gate_eq, ← mid_at]
  pointwise [k0_pay1, k0_pay3, k0_pay4, k0_pay5, k0_pay6, k0_pay7, k0_pay8, k0_pay9, k0_pay10, k0_pay11, k0_pay12, k0_pay13, k0_pay14, k0_pay15, k0_pay16, spot, zero_sub, Ideal.ofBits_one_f32]

theorem pay12_at (d : Vec Ideal S256x2048 .bf16) (w : Vec Ideal S2048x2048 .bf16) (p0 p1 p2 p3 g0 g1 g2 g3 : Vec Ideal S256x512 .f32) (a : Fin 256) (r : Fin 512) :
    (k0_pay11 (k0_pay9 (k0_pay2 d w)) (k0_pay10 g2) : FVec Ideal S256x512 .f32) (ix2 a r) = gate (pull (fun k => d (ix2 a k)) (fun k b => w (ix2 k b)) (spot 1024 (by decide) r)) (g2 (ix2 a r)) := by
  rw [← gate_eq, ← mid_at]
  pointwise [k0_pay1, k0_pay3, k0_pay4, k0_pay5, k0_pay6, k0_pay7, k0_pay8, k0_pay9, k0_pay10, k0_pay11, k0_pay12, k0_pay13, k0_pay14, k0_pay15, k0_pay16, spot, zero_sub, Ideal.ofBits_one_f32]

theorem pay13_at (d : Vec Ideal S256x2048 .bf16) (w : Vec Ideal S2048x2048 .bf16) (p0 p1 p2 p3 g0 g1 g2 g3 : Vec Ideal S256x512 .f32) (a : Fin 256) (r : Fin 512) :
    (k0_pay14 (k0_pay2 d w) g3 : FVec Ideal S256x512 .f32) (ix2 a r) = gate (pull (fun k => d (ix2 a k)) (fun k b => w (ix2 k b)) (spot 1536 (by decide) r)) (g3 (ix2 a r)) := by
  rw [← gate_eq, ← mid_at]
  pointwise [k0_pay1, k0_pay3, k0_pay4, k0_pay5, k0_pay6, k0_pay7, k0_pay8, k0_pay9, k0_pay10, k0_pay11, k0_pay12, k0_pay13, k0_pay14, k0_pay15, k0_pay16, spot, zero_sub, Ideal.ofBits_one_f32]

theorem pay14_at (d : Vec Ideal S256x2048 .bf16) (w : Vec Ideal S2048x2048 .bf16) (p0 p1 p2 p3 g0 g1 g2 g3 : Vec Ideal S256x512 .f32) (a : Fin 256) (r : Fin 512) :
    (k0_pay5 d w g0 p0 : FVec Ideal S256x512 .bf16) (ix2 a r) = tilt (pull (fun k => d (ix2 a k)) (fun k b => w (ix2 k b)) (spot 0 (by decide) r)) (p0 (ix2 a r)) (g0 (ix2 a r)) := by
  rw [tilt, ← bend_eq, ← mid_at]
  pointwise [k0_pay1, k0_pay3, k0_pay4, k0_pay5, k0_pay6, k0_pay7, k0_pay8, k0_pay9, k0_pay10, k0_pay11, k0_pay12, k0_pay13, k0_pay14, k0_pay15, k0_pay16, spot, zero_sub, Ideal.ofBits_one_f32]

theorem pay15_at (d : Vec Ideal S256x2048 .bf16) (w : Vec Ideal S2048x2048 .bf16) (p0 p1 p2 p3 g0 g1 g2 g3 : Vec Ideal S256x512 .f32) (a : Fin 256) (r : Fin 512) :
    (k0_pay8 (k0_pay6 d w) g1 p1 : FVec Ideal S256x512 .bf16) (ix2 a r) = tilt (pull (fun k => d (ix2 a k)) (fun k b => w (ix2 k b)) (spot 512 (by decide) r)) (p1 (ix2 a r)) (g1 (ix2 a r)) := by
  rw [tilt, ← bend_eq, ← mid_at]
  pointwise [k0_pay1, k0_pay3, k0_pay4, k0_pay5, k0_pay6, k0_pay7, k0_pay8, k0_pay9, k0_pay10, k0_pay11, k0_pay12, k0_pay13, k0_pay14, k0_pay15, k0_pay16, spot, zero_sub, Ideal.ofBits_one_f32]

theorem pay16_at (d : Vec Ideal S256x2048 .bf16) (w : Vec Ideal S2048x2048 .bf16) (p0 p1 p2 p3 g0 g1 g2 g3 : Vec Ideal S256x512 .f32) (a : Fin 256) (r : Fin 512) :
    (k0_pay12 (k0_pay9 (k0_pay2 d w)) g2 p2 : FVec Ideal S256x512 .bf16) (ix2 a r) = tilt (pull (fun k => d (ix2 a k)) (fun k b => w (ix2 k b)) (spot 1024 (by decide) r)) (p2 (ix2 a r)) (g2 (ix2 a r)) := by
  rw [tilt, ← bend_eq, ← mid_at]
  pointwise [k0_pay1, k0_pay3, k0_pay4, k0_pay5, k0_pay6, k0_pay7, k0_pay8, k0_pay9, k0_pay10, k0_pay11, k0_pay12, k0_pay13, k0_pay14, k0_pay15, k0_pay16, spot, zero_sub, Ideal.ofBits_one_f32]

theorem pay17_at (d : Vec Ideal S256x2048 .bf16) (w : Vec Ideal S2048x2048 .bf16) (p0 p1 p2 p3 g0 g1 g2 g3 : Vec Ideal S256x512 .f32) (a : Fin 256) (r : Fin 512) :
    (k0_pay1 g3 (k0_pay15 (k0_pay2 d w) p3) (k0_pay16 g3) : FVec Ideal S256x512 .bf16) (ix2 a r) = tilt (pull (fun k => d (ix2 a k)) (fun k b => w (ix2 k b)) (spot 1536 (by decide) r)) (p3 (ix2 a r)) (g3 (ix2 a r)) := by
  rw [tilt, ← bend_eq, ← mid_at]
  pointwise [k0_pay1, k0_pay3, k0_pay4, k0_pay5, k0_pay6, k0_pay7, k0_pay8, k0_pay9, k0_pay10, k0_pay11, k0_pay12, k0_pay13, k0_pay14, k0_pay15, k0_pay16, spot, zero_sub, Ideal.ofBits_one_f32]

end Cert.OutProjBwdIdeal.Whole

end
-- ==== Proof.OutProjBwdValue.lean ====
/- # The gradient through the projection's gates, whole

   Each block of the eight results is the same rows of the reference's. -/
module

public import proofs.«01_k».proof.Proof.OutProjBwdParts

@[expose] public section

noncomputable section

namespace Cert.OutProjBwdIdeal.Whole

open Cert.OutProjBwdIdeal Cert.OutProjBwdIdeal.Gen Cert.Out Idealize.ShloMosaic Idealize.ShloMosaic.TcCoe Idealize.SL.Sem

/-- The row of the whole at row `a` of block `t`. -/
def row (t : Fin cfg0.N) (a : Fin 256) : Fin 4096 := ⟨256 * t.val + a.val, by have := t.isLt; have h : cfg0.N = 16 := N_0; omega⟩

theorem place0 : ∀ t : Fin cfg0.N, win0_0.index t (0 : Fin 2) = t.val ∧ win0_0.index t (1 : Fin 2) = 0 :=
  (by decide +kernel : ∀ t : Fin grid0.N, _)

theorem place2 : ∀ t : Fin cfg0.N, win0_2.index t (0 : Fin 2) = t.val ∧ win0_2.index t (1 : Fin 2) = 0 :=
  (by decide +kernel : ∀ t : Fin grid0.N, _)

theorem place3 : ∀ t : Fin cfg0.N, win0_3.index t (0 : Fin 2) = t.val ∧ win0_3.index t (1 : Fin 2) = 0 :=
  (by decide +kernel : ∀ t : Fin grid0.N, _)

theorem place4 : ∀ t : Fin cfg0.N, win0_4.index t (0 : Fin 2) = t.val ∧ win0_4.index t (1 : Fin 2) = 0 :=
  (by decide +kernel : ∀ t : Fin grid0.N, _)

theorem place5 : ∀ t : Fin cfg0.N, win0_5.index t (0 : Fin 2) = t.val ∧ win0_5.index t (1 : Fin 2) = 0 :=
  (by decide +kernel : ∀ t : Fin grid0.N, _)

theorem place10 : ∀ t : Fin cfg0.N, win0_10.index t (0 : Fin 2) = t.val ∧ win0_10.index t (1 : Fin 2) = 0 :=
  (by decide +kernel : ∀ t : Fin grid0.N, _)

theorem place11 : ∀ t : Fin cfg0.N, win0_11.index t (0 : Fin 2) = t.val ∧ win0_11.index t (1 : Fin 2) = 0 :=
  (by decide +kernel : ∀ t : Fin grid0.N, _)

theorem place12 : ∀ t : Fin cfg0.N, win0_12.index t (0 : Fin 2) = t.val ∧ win0_12.index t (1 : Fin 2) = 0 :=
  (by decide +kernel : ∀ t : Fin grid0.N, _)

theorem place13 : ∀ t : Fin cfg0.N, win0_13.index t (0 : Fin 2) = t.val ∧ win0_13.index t (1 : Fin 2) = 0 :=
  (by decide +kernel : ∀ t : Fin grid0.N, _)

theorem place14 : ∀ t : Fin cfg0.N, win0_14.index t (0 : Fin 2) = t.val ∧ win0_14.index t (1 : Fin 2) = 0 :=
  (by decide +kernel : ∀ t : Fin grid0.N, _)

theorem place15 : ∀ t : Fin cfg0.N, win0_15.index t (0 : Fin 2) = t.val ∧ win0_15.index t (1 : Fin 2) = 0 :=
  (by decide +kernel : ∀ t : Fin grid0.N, _)

theorem place16 : ∀ t : Fin cfg0.N, win0_16.index t (0 : Fin 2) = t.val ∧ win0_16.index t (1 : Fin 2) = 0 :=
  (by decide +kernel : ∀ t : Fin grid0.N, _)

theorem place17 : ∀ t : Fin cfg0.N, win0_17.index t (0 : Fin 2) = t.val ∧ win0_17.index t (1 : Fin 2) = 0 :=
  (by decide +kernel : ∀ t : Fin grid0.N, _)

theorem place1 : ∀ t : Fin cfg0.N, win0_1.index t (0 : Fin 2) = 0 ∧ win0_1.index t (1 : Fin 2) = 0 :=
  (by decide +kernel : ∀ t : Fin grid0.N, _)

theorem place6 : ∀ t : Fin cfg0.N, win0_6.index t (0 : Fin 2) = t.val ∧ win0_6.index t (1 : Fin 2) = 2 :=
  (by decide +kernel : ∀ t : Fin grid0.N, _)

theorem place7 : ∀ t : Fin cfg0.N, win0_7.index t (0 : Fin 2) = t.val ∧ win0_7.index t (1 : Fin 2) = 6 :=
  (by decide +kernel : ∀ t : Fin grid0.N, _)

theorem place8 : ∀ t : Fin cfg0.N, win0_8.index t (0 : Fin 2) = t.val ∧ win0_8.index t (1 : Fin 2) = 9 :=
  (by decide +kernel : ∀ t : Fin grid0.N, _)

theorem place9 : ∀ t : Fin cfg0.N, win0_9.index t (0 : Fin 2) = t.val ∧ win0_9.index t (1 : Fin 2) = 11 :=
  (by decide +kernel : ∀ t : Fin grid0.N, _)

theorem covered10 (i : S4096x512.Idx) : ∃ t : Fin cfg0.N, (cfg0.win 10).flush t = true ∧ i ∈ ((cfg0.win 10).blk t).view.set := by
  have i0 : (i 0 : ℕ) < 4096 := (i 0).isLt
  have i1 : (i 1 : ℕ) < 512 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place10 t
  refine ⟨t, flush0_10 t, ?_⟩
  show i ∈ ((View.whole main_v0_0).slice (win0_10.rect t)).set
  rw [View.set_slice_whole, Rect.mem_set_unit]
  intro a
  match a with
  | ⟨0, _⟩ =>
    show win0_10.index t (0 : Fin 2) * 256 ≤ (i 0 : ℕ) ∧ (i 0 : ℕ) < win0_10.index t (0 : Fin 2) * 256 + 256
    rw [at_.1, ht]
    omega
  | ⟨1, _⟩ =>
    show win0_10.index t (1 : Fin 2) * 512 ≤ (i 1 : ℕ) ∧ (i 1 : ℕ) < win0_10.index t (1 : Fin 2) * 512 + 512
    rw [at_.2]
    omega

theorem covered11 (i : S4096x512.Idx) : ∃ t : Fin cfg0.N, (cfg0.win 11).flush t = true ∧ i ∈ ((cfg0.win 11).blk t).view.set := by
  have i0 : (i 0 : ℕ) < 4096 := (i 0).isLt
  have i1 : (i 1 : ℕ) < 512 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place11 t
  refine ⟨t, flush0_11 t, ?_⟩
  show i ∈ ((View.whole main_v0_1).slice (win0_11.rect t)).set
  rw [View.set_slice_whole, Rect.mem_set_unit]
  intro a
  match a with
  | ⟨0, _⟩ =>
    show win0_11.index t (0 : Fin 2) * 256 ≤ (i 0 : ℕ) ∧ (i 0 : ℕ) < win0_11.index t (0 : Fin 2) * 256 + 256
    rw [at_.1, ht]
    omega
  | ⟨1, _⟩ =>
    show win0_11.index t (1 : Fin 2) * 512 ≤ (i 1 : ℕ) ∧ (i 1 : ℕ) < win0_11.index t (1 : Fin 2) * 512 + 512
    rw [at_.2]
    omega

theorem covered12 (i : S4096x512.Idx) : ∃ t : Fin cfg0.N, (cfg0.win 12).flush t = true ∧ i ∈ ((cfg0.win 12).blk t).view.set := by
  have i0 : (i 0 : ℕ) < 4096 := (i 0).isLt
  have i1 : (i 1 : ℕ) < 512 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place12 t
  refine ⟨t, flush0_12 t, ?_⟩
  show i ∈ ((View.whole main_v0_2).slice (win0_12.rect t)).set
  rw [View.set_slice_whole, Rect.mem_set_unit]
  intro a
  match a with
  | ⟨0, _⟩ =>
    show win0_12.index t (0 : Fin 2) * 256 ≤ (i 0 : ℕ) ∧ (i 0 : ℕ) < win0_12.index t (0 : Fin 2) * 256 + 256
    rw [at_.1, ht]
    omega
  | ⟨1, _⟩ =>
    show win0_12.index t (1 : Fin 2) * 512 ≤ (i 1 : ℕ) ∧ (i 1 : ℕ) < win0_12.index t (1 : Fin 2) * 512 + 512
    rw [at_.2]
    omega

theorem covered13 (i : S4096x512.Idx) : ∃ t : Fin cfg0.N, (cfg0.win 13).flush t = true ∧ i ∈ ((cfg0.win 13).blk t).view.set := by
  have i0 : (i 0 : ℕ) < 4096 := (i 0).isLt
  have i1 : (i 1 : ℕ) < 512 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place13 t
  refine ⟨t, flush0_13 t, ?_⟩
  show i ∈ ((View.whole main_v0_3).slice (win0_13.rect t)).set
  rw [View.set_slice_whole, Rect.mem_set_unit]
  intro a
  match a with
  | ⟨0, _⟩ =>
    show win0_13.index t (0 : Fin 2) * 256 ≤ (i 0 : ℕ) ∧ (i 0 : ℕ) < win0_13.index t (0 : Fin 2) * 256 + 256
    rw [at_.1, ht]
    omega
  | ⟨1, _⟩ =>
    show win0_13.index t (1 : Fin 2) * 512 ≤ (i 1 : ℕ) ∧ (i 1 : ℕ) < win0_13.index t (1 : Fin 2) * 512 + 512
    rw [at_.2]
    omega

theorem covered14 (i : S4096x512.Idx) : ∃ t : Fin cfg0.N, (cfg0.win 14).flush t = true ∧ i ∈ ((cfg0.win 14).blk t).view.set := by
  have i0 : (i 0 : ℕ) < 4096 := (i 0).isLt
  have i1 : (i 1 : ℕ) < 512 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place14 t
  refine ⟨t, flush0_14 t, ?_⟩
  show i ∈ ((View.whole main_v0_4).slice (win0_14.rect t)).set
  rw [View.set_slice_whole, Rect.mem_set_unit]
  intro a
  match a with
  | ⟨0, _⟩ =>
    show win0_14.index t (0 : Fin 2) * 256 ≤ (i 0 : ℕ) ∧ (i 0 : ℕ) < win0_14.index t (0 : Fin 2) * 256 + 256
    rw [at_.1, ht]
    omega
  | ⟨1, _⟩ =>
    show win0_14.index t (1 : Fin 2) * 512 ≤ (i 1 : ℕ) ∧ (i 1 : ℕ) < win0_14.index t (1 : Fin 2) * 512 + 512
    rw [at_.2]
    omega

theorem covered15 (i : S4096x512.Idx) : ∃ t : Fin cfg0.N, (cfg0.win 15).flush t = true ∧ i ∈ ((cfg0.win 15).blk t).view.set := by
  have i0 : (i 0 : ℕ) < 4096 := (i 0).isLt
  have i1 : (i 1 : ℕ) < 512 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place15 t
  refine ⟨t, flush0_15 t, ?_⟩
  show i ∈ ((View.whole main_v0_5).slice (win0_15.rect t)).set
  rw [View.set_slice_whole, Rect.mem_set_unit]
  intro a
  match a with
  | ⟨0, _⟩ =>
    show win0_15.index t (0 : Fin 2) * 256 ≤ (i 0 : ℕ) ∧ (i 0 : ℕ) < win0_15.index t (0 : Fin 2) * 256 + 256
    rw [at_.1, ht]
    omega
  | ⟨1, _⟩ =>
    show win0_15.index t (1 : Fin 2) * 512 ≤ (i 1 : ℕ) ∧ (i 1 : ℕ) < win0_15.index t (1 : Fin 2) * 512 + 512
    rw [at_.2]
    omega

theorem covered16 (i : S4096x512.Idx) : ∃ t : Fin cfg0.N, (cfg0.win 16).flush t = true ∧ i ∈ ((cfg0.win 16).blk t).view.set := by
  have i0 : (i 0 : ℕ) < 4096 := (i 0).isLt
  have i1 : (i 1 : ℕ) < 512 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place16 t
  refine ⟨t, flush0_16 t, ?_⟩
  show i ∈ ((View.whole main_v0_6).slice (win0_16.rect t)).set
  rw [View.set_slice_whole, Rect.mem_set_unit]
  intro a
  match a with
  | ⟨0, _⟩ =>
    show win0_16.index t (0 : Fin 2) * 256 ≤ (i 0 : ℕ) ∧ (i 0 : ℕ) < win0_16.index t (0 : Fin 2) * 256 + 256
    rw [at_.1, ht]
    omega
  | ⟨1, _⟩ =>
    show win0_16.index t (1 : Fin 2) * 512 ≤ (i 1 : ℕ) ∧ (i 1 : ℕ) < win0_16.index t (1 : Fin 2) * 512 + 512
    rw [at_.2]
    omega

theorem covered17 (i : S4096x512.Idx) : ∃ t : Fin cfg0.N, (cfg0.win 17).flush t = true ∧ i ∈ ((cfg0.win 17).blk t).view.set := by
  have i0 : (i 0 : ℕ) < 4096 := (i 0).isLt
  have i1 : (i 1 : ℕ) < 512 := (i 1).isLt
  have hN : cfg0.N = 16 := N_0
  obtain ⟨t, ht⟩ : ∃ t : Fin cfg0.N, t.val = (i 0 : ℕ) / 256 := ⟨⟨(i 0 : ℕ) / 256, by omega⟩, rfl⟩
  have at_ := place17 t
  refine ⟨t, flush0_17 t, ?_⟩
  show i ∈ ((View.whole main_v0_7).slice (win0_17.rect t)).set
  rw [View.set_slice_whole, Rect.mem_set_unit]
  intro a
  match a with
  | ⟨0, _⟩ =>
    show win0_17.index t (0 : Fin 2) * 256 ≤ (i 0 : ℕ) ∧ (i 0 : ℕ) < win0_17.index t (0 : Fin 2) * 256 + 256
    rw [at_.1, ht]
    omega
  | ⟨1, _⟩ =>
    show win0_17.index t (1 : Fin 2) * 512 ≤ (i 1 : ℕ) ∧ (i 1 : ℕ) < win0_17.index t (1 : Fin 2) * 512 + 512
    rw [at_.2]
    omega

variable (m : (ℓ : Loc nD τ sig) → Buf (Elt Ideal) ℓ)

theorem block0 (c : Dev nD) (t : Fin cfg0.N) (a : Fin 256) (b : Fin 2048) : (iblk m c 0 t : Vec Ideal S256x2048 .bf16) (ix2 a b) = (V m c main_arg0 : Vec Ideal S4096x2048 .bf16) (ix2 (row t a) b) := by
  have e := place0 t
  refine congrArg (V m c main_arg0 : Vec Ideal S4096x2048 .bf16) ?_
  funext d; apply Fin.ext
  match d with
  | ⟨0, _⟩ =>
    show win0_0.index t (0 : Fin 2) * 256 + 1 * a.val = 256 * t.val + a.val
    rw [e.1]; omega
  | ⟨1, _⟩ =>
    show win0_0.index t (1 : Fin 2) * 2048 + 1 * b.val = b.val
    rw [e.2]; omega

theorem block1 (c : Dev nD) (t : Fin cfg0.N) (a : Fin 2048) (b : Fin 2048) : (iblk m c 1 t : Vec Ideal S2048x2048 .bf16) (ix2 a b) = (V m c main_arg1 : Vec Ideal S2048x2048 .bf16) (ix2 a b) := by
  have e := place1 t
  refine congrArg (V m c main_arg1 : Vec Ideal S2048x2048 .bf16) ?_
  funext d; apply Fin.ext
  match d with
  | ⟨0, _⟩ =>
    show win0_1.index t (0 : Fin 2) * 2048 + 1 * a.val = a.val
    rw [e.1]; omega
  | ⟨1, _⟩ =>
    show win0_1.index t (1 : Fin 2) * 2048 + 1 * b.val = b.val
    rw [e.2]; omega

theorem block2 (c : Dev nD) (t : Fin cfg0.N) (a : Fin 256) (b : Fin 512) : (iblk m c 2 t : Vec Ideal S256x512 .f32) (ix2 a b) = (V m c main_arg2 : Vec Ideal S4096x512 .f32) (ix2 (row t a) b) := by
  have e := place2 t
  refine congrArg (V m c main_arg2 : Vec Ideal S4096x512 .f32) ?_
  funext d; apply Fin.ext
  match d with
  | ⟨0, _⟩ =>
    show win0_2.index t (0 : Fin 2) * 256 + 1 * a.val = 256 * t.val + a.val
    rw [e.1]; omega
  | ⟨1, _⟩ =>
    show win0_2.index t (1 : Fin 2) * 512 + 1 * b.val = b.val
    rw [e.2]; omega

theorem block3 (c : Dev nD) (t : Fin cfg0.N) (a : Fin 256) (b : Fin 512) : (iblk m c 3 t : Vec Ideal S256x512 .f32) (ix2 a b) = (V m c main_arg3 : Vec Ideal S4096x512 .f32) (ix2 (row t a) b) := by
  have e := place3 t
  refine congrArg (V m c main_arg3 : Vec Ideal S4096x512 .f32) ?_
  funext d; apply Fin.ext
  match d with
  | ⟨0, _⟩ =>
    show win0_3.index t (0 : Fin 2) * 256 + 1 * a.val = 256 * t.val + a.val
    rw [e.1]; omega
  | ⟨1, _⟩ =>
    show win0_3.index t (1 : Fin 2) * 512 + 1 * b.val = b.val
    rw [e.2]; omega

theorem block4 (c : Dev nD) (t : Fin cfg0.N) (a : Fin 256) (b : Fin 512) : (iblk m c 4 t : Vec Ideal S256x512 .f32) (ix2 a b) = (V m c main_arg4 : Vec Ideal S4096x512 .f32) (ix2 (row t a) b) := by
  have e := place4 t
  refine congrArg (V m c main_arg4 : Vec Ideal S4096x512 .f32) ?_
  funext d; apply Fin.ext
  match d with
  | ⟨0, _⟩ =>
    show win0_4.index t (0 : Fin 2) * 256 + 1 * a.val = 256 * t.val + a.val
    rw [e.1]; omega
  | ⟨1, _⟩ =>
    show win0_4.index t (1 : Fin 2) * 512 + 1 * b.val = b.val
    rw [e.2]; omega

theorem block5 (c : Dev nD) (t : Fin cfg0.N) (a : Fin 256) (b : Fin 512) : (iblk m c 5 t : Vec Ideal S256x512 .f32) (ix2 a b) = (V m c main_arg5 : Vec Ideal S4096x512 .f32) (ix2 (row t a) b) := by
  have e := place5 t
  refine congrArg (V m c main_arg5 : Vec Ideal S4096x512 .f32) ?_
  funext d; apply Fin.ext
  match d with
  | ⟨0, _⟩ =>
    show win0_5.index t (0 : Fin 2) * 256 + 1 * a.val = 256 * t.val + a.val
    rw [e.1]; omega
  | ⟨1, _⟩ =>
    show win0_5.index t (1 : Fin 2) * 512 + 1 * b.val = b.val
    rw [e.2]; omega

theorem block6 (c : Dev nD) (t : Fin cfg0.N) (a : Fin 256) (b : Fin 512) : (X0_6 m c t : Vec Ideal S256x512 .f32) (ix2 a b) = (V m c main_arg6 : Vec Ideal S4096x6400 .f32) (ix2 (row t a) (col 1024 (by decide) b)) := by
  have e := place6 t
  unfold X0_6 Pipeline.Window.fill
  rw [dif_pos (moved0_6 t (ix2 a b))]
  refine congrArg (V m c main_arg6 : Vec Ideal S4096x6400 .f32) ?_
  funext d; apply Fin.ext
  match d with
  | ⟨0, _⟩ =>
    show win0_6.index t (0 : Fin 2) * 256 + 1 * a.val = 256 * t.val + a.val
    rw [e.1]; omega
  | ⟨1, _⟩ =>
    show win0_6.index t (1 : Fin 2) * 512 + 1 * b.val = 1024 + b.val
    rw [e.2]; omega

theorem block7 (c : Dev nD) (t : Fin cfg0.N) (a : Fin 256) (b : Fin 512) : (X0_7 m c t : Vec Ideal S256x512 .f32) (ix2 a b) = (V m c main_arg6 : Vec Ideal S4096x6400 .f32) (ix2 (row t a) (col 3072 (by decide) b)) := by
  have e := place7 t
  unfold X0_7 Pipeline.Window.fill
  rw [dif_pos (moved0_7 t (ix2 a b))]
  refine congrArg (V m c main_arg6 : Vec Ideal S4096x6400 .f32) ?_
  funext d; apply Fin.ext
  match d with
  | ⟨0, _⟩ =>
    show win0_7.index t (0 : Fin 2) * 256 + 1 * a.val = 256 * t.val + a.val
    rw [e.1]; omega
  | ⟨1, _⟩ =>
    show win0_7.index t (1 : Fin 2) * 512 + 1 * b.val = 3072 + b.val
    rw [e.2]; omega

theorem block8 (c : Dev nD) (t : Fin cfg0.N) (a : Fin 256) (b : Fin 512) : (X0_8 m c t : Vec Ideal S256x512 .f32) (ix2 a b) = (V m c main_arg6 : Vec Ideal S4096x6400 .f32) (ix2 (row t a) (col 4608 (by decide) b)) := by
  have e := place8 t
  unfold X0_8 Pipeline.Window.fill
  rw [dif_pos (moved0_8 t (ix2 a b))]
  refine congrArg (V m c main_arg6 : Vec Ideal S4096x6400 .f32) ?_
  funext d; apply Fin.ext
  match d with
  | ⟨0, _⟩ =>
    show win0_8.index t (0 : Fin 2) * 256 + 1 * a.val = 256 * t.val + a.val
    rw [e.1]; omega
  | ⟨1, _⟩ =>
    show win0_8.index t (1 : Fin 2) * 512 + 1 * b.val = 4608 + b.val
    rw [e.2]; omega

theorem block9 (c : Dev nD) (t : Fin cfg0.N) (a : Fin 256) (b : Fin 512) : (X0_9 m c t : Vec Ideal S256x512 .f32) (ix2 a b) = (V m c main_arg6 : Vec Ideal S4096x6400 .f32) (ix2 (row t a) (col 5632 (by decide) b)) := by
  have e := place9 t
  unfold X0_9 Pipeline.Window.fill
  rw [dif_pos (moved0_9 t (ix2 a b))]
  refine congrArg (V m c main_arg6 : Vec Ideal S4096x6400 .f32) ?_
  funext d; apply Fin.ext
  match d with
  | ⟨0, _⟩ =>
    show win0_9.index t (0 : Fin 2) * 256 + 1 * a.val = 256 * t.val + a.val
    rw [e.1]; omega
  | ⟨1, _⟩ =>
    show win0_9.index t (1 : Fin 2) * 512 + 1 * b.val = 5632 + b.val
    rw [e.2]; omega

/-- The gradient of part 0, all of it. -/
abbrev res10 (c : Dev nD) : Vec Ideal S4096x512 .f32 := part0 (V m c main_arg0) (V m c main_arg1) (V m c main_arg6)

theorem outs10 (c : Dev nD) (t : Fin cfg0.N) : (outsAt0 m c t).1 = k0_pay4 (iblk m c 0 t) (iblk m c 1 t) (X0_6 m c t) := by
  unfold outsAt0
  dsimp only
  rw [out10_A]

theorem res10_at (c : Dev nD) (t : Fin cfg0.N) (a : Fin 256) (b : Fin 512) : (k0_pay4 (iblk m c 0 t) (iblk m c 1 t) (X0_6 m c t) : FVec Ideal S256x512 .f32) (ix2 a b) = res10 m c (ix2 (row t a) b) := by
  rw [res10, part0_at]
  refine (pay10_at (iblk m c 0 t) (iblk m c 1 t) (iblk m c 2 t) (iblk m c 3 t) (iblk m c 4 t) (iblk m c 5 t) (X0_6 m c t) (X0_7 m c t) (X0_8 m c t) (X0_9 m c t) a b).trans ?_
  simp only [block0, block1, block6]

theorem written10 (c : Dev nD) (t : Fin cfg0.N) : (dats m 0 c).flushed 10 t = ((cfg0.win 10).blk t).view.read (Elt Ideal) (res10 m c) := by
  rw [Value.flushed10, outs10]
  funext j
  have e : ((cfg0.win 10).blk t).view.emb j = ix2 (row t (j 0)) (j 1) := by
    funext d; apply Fin.ext
    match d with
    | ⟨0, _⟩ =>
      show win0_10.index t (0 : Fin 2) * 256 + 1 * (j 0).val = 256 * t.val + (j 0).val
      rw [(place10 t).1]; omega
    | ⟨1, _⟩ =>
      show win0_10.index t (1 : Fin 2) * 512 + 1 * (j 1).val = (j 1).val
      rw [(place10 t).2]; omega
  show (k0_pay4 (iblk m c 0 t) (iblk m c 1 t) (X0_6 m c t) : FVec Ideal S256x512 .f32) j = res10 m c (((cfg0.win 10).blk t).view.emb j)
  rw [e, eq_ix2 j]
  exact res10_at m c t (j 0) (j 1)

theorem whole10 (c : Dev nD) : (dats m 0 c).arrAt 10 cfg0.N = res10 m c :=
  (dats m 0 c).arrAt_eq_of_cover 10 _ (fun t _ => written10 m c t) covered10

/-- The gradient of part 1, all of it. -/
abbrev res11 (c : Dev nD) : Vec Ideal S4096x512 .f32 := part1 (V m c main_arg0) (V m c main_arg1) (V m c main_arg6)

theorem outs11 (c : Dev nD) (t : Fin cfg0.N) : (outsAt0 m c t).2.1 = k0_pay7 (k0_pay6 (iblk m c 0 t) (iblk m c 1 t)) (X0_7 m c t) := by
  unfold outsAt0
  dsimp only
  rw [out11_A]

theorem res11_at (c : Dev nD) (t : Fin cfg0.N) (a : Fin 256) (b : Fin 512) : (k0_pay7 (k0_pay6 (iblk m c 0 t) (iblk m c 1 t)) (X0_7 m c t) : FVec Ideal S256x512 .f32) (ix2 a b) = res11 m c (ix2 (row t a) b) := by
  rw [res11, part1_at]
  refine (pay11_at (iblk m c 0 t) (iblk m c 1 t) (iblk m c 2 t) (iblk m c 3 t) (iblk m c 4 t) (iblk m c 5 t) (X0_6 m c t) (X0_7 m c t) (X0_8 m c t) (X0_9 m c t) a b).trans ?_
  simp only [block0, block1, block7]

theorem written11 (c : Dev nD) (t : Fin cfg0.N) : (dats m 0 c).flushed 11 t = ((cfg0.win 11).blk t).view.read (Elt Ideal) (res11 m c) := by
  rw [Value.flushed11, outs11]
  funext j
  have e : ((cfg0.win 11).blk t).view.emb j = ix2 (row t (j 0)) (j 1) := by
    funext d; apply Fin.ext
    match d with
    | ⟨0, _⟩ =>
      show win0_11.index t (0 : Fin 2) * 256 + 1 * (j 0).val = 256 * t.val + (j 0).val
      rw [(place11 t).1]; omega
    | ⟨1, _⟩ =>
      show win0_11.index t (1 : Fin 2) * 512 + 1 * (j 1).val = (j 1).val
      rw [(place11 t).2]; omega
  show (k0_pay7 (k0_pay6 (iblk m c 0 t) (iblk m c 1 t)) (X0_7 m c t) : FVec Ideal S256x512 .f32) j = res11 m c (((cfg0.win 11).blk t).view.emb j)
  rw [e, eq_ix2 j]
  exact res11_at m c t (j 0) (j 1)

theorem whole11 (c : Dev nD) : (dats m 0 c).arrAt 11 cfg0.N = res11 m c :=
  (dats m 0 c).arrAt_eq_of_cover 11 _ (fun t _ => written11 m c t) covered11

/-- The gradient of part 2, all of it. -/
abbrev res12 (c : Dev nD) : Vec Ideal S4096x512 .f32 := part2 (V m c main_arg0) (V m c main_arg1) (V m c main_arg6)

theorem outs12 (c : Dev nD) (t : Fin cfg0.N) : (outsAt0 m c t).2.2.1 = k0_pay11 (k0_pay9 (k0_pay2 (iblk m c 0 t) (iblk m c 1 t))) (k0_pay10 (X0_8 m c t)) := by
  unfold outsAt0
  dsimp only
  rw [out12_A]

theorem res12_at (c : Dev nD) (t : Fin cfg0.N) (a : Fin 256) (b : Fin 512) : (k0_pay11 (k0_pay9 (k0_pay2 (iblk m c 0 t) (iblk m c 1 t))) (k0_pay10 (X0_8 m c t)) : FVec Ideal S256x512 .f32) (ix2 a b) = res12 m c (ix2 (row t a) b) := by
  rw [res12, part2_at]
  refine (pay12_at (iblk m c 0 t) (iblk m c 1 t) (iblk m c 2 t) (iblk m c 3 t) (iblk m c 4 t) (iblk m c 5 t) (X0_6 m c t) (X0_7 m c t) (X0_8 m c t) (X0_9 m c t) a b).trans ?_
  simp only [block0, block1, block8]

theorem written12 (c : Dev nD) (t : Fin cfg0.N) : (dats m 0 c).flushed 12 t = ((cfg0.win 12).blk t).view.read (Elt Ideal) (res12 m c) := by
  rw [Value.flushed12, outs12]
  funext j
  have e : ((cfg0.win 12).blk t).view.emb j = ix2 (row t (j 0)) (j 1) := by
    funext d; apply Fin.ext
    match d with
    | ⟨0, _⟩ =>
      show win0_12.index t (0 : Fin 2) * 256 + 1 * (j 0).val = 256 * t.val + (j 0).val
      rw [(place12 t).1]; omega
    | ⟨1, _⟩ =>
      show win0_12.index t (1 : Fin 2) * 512 + 1 * (j 1).val = (j 1).val
      rw [(place12 t).2]; omega
  show (k0_pay11 (k0_pay9 (k0_pay2 (iblk m c 0 t) (iblk m c 1 t))) (k0_pay10 (X0_8 m c t)) : FVec Ideal S256x512 .f32) j = res12 m c (((cfg0.win 12).blk t).view.emb j)
  rw [e, eq_ix2 j]
  exact res12_at m c t (j 0) (j 1)

theorem whole12 (c : Dev nD) : (dats m 0 c).arrAt 12 cfg0.N = res12 m c :=
  (dats m 0 c).arrAt_eq_of_cover 12 _ (fun t _ => written12 m c t) covered12

/-- The gradient of part 3, all of it. -/
abbrev res13 (c : Dev nD) : Vec Ideal S4096x512 .f32 := part3 (V m c main_arg0) (V m c main_arg1) (V m c main_arg6)

theorem outs13 (c : Dev nD) (t : Fin cfg0.N) : (outsAt0 m c t).2.2.2.1 = k0_pay14 (k0_pay2 (iblk m c 0 t) (iblk m c 1 t)) (X0_9 m c t) := by
  unfold outsAt0
  dsimp only
  rw [out13_A]

theorem res13_at (c : Dev nD) (t : Fin cfg0.N) (a : Fin 256) (b : Fin 512) : (k0_pay14 (k0_pay2 (iblk m c 0 t) (iblk m c 1 t)) (X0_9 m c t) : FVec Ideal S256x512 .f32) (ix2 a b) = res13 m c (ix2 (row t a) b) := by
  rw [res13, part3_at]
  refine (pay13_at (iblk m c 0 t) (iblk m c 1 t) (iblk m c 2 t) (iblk m c 3 t) (iblk m c 4 t) (iblk m c 5 t) (X0_6 m c t) (X0_7 m c t) (X0_8 m c t) (X0_9 m c t) a b).trans ?_
  simp only [block0, block1, block9]

theorem written13 (c : Dev nD) (t : Fin cfg0.N) : (dats m 0 c).flushed 13 t = ((cfg0.win 13).blk t).view.read (Elt Ideal) (res13 m c) := by
  rw [Value.flushed13, outs13]
  funext j
  have e : ((cfg0.win 13).blk t).view.emb j = ix2 (row t (j 0)) (j 1) := by
    funext d; apply Fin.ext
    match d with
    | ⟨0, _⟩ =>
      show win0_13.index t (0 : Fin 2) * 256 + 1 * (j 0).val = 256 * t.val + (j 0).val
      rw [(place13 t).1]; omega
    | ⟨1, _⟩ =>
      show win0_13.index t (1 : Fin 2) * 512 + 1 * (j 1).val = (j 1).val
      rw [(place13 t).2]; omega
  show (k0_pay14 (k0_pay2 (iblk m c 0 t) (iblk m c 1 t)) (X0_9 m c t) : FVec Ideal S256x512 .f32) j = res13 m c (((cfg0.win 13).blk t).view.emb j)
  rw [e, eq_ix2 j]
  exact res13_at m c t (j 0) (j 1)

theorem whole13 (c : Dev nD) : (dats m 0 c).arrAt 13 cfg0.N = res13 m c :=
  (dats m 0 c).arrAt_eq_of_cover 13 _ (fun t _ => written13 m c t) covered13

/-- The gradient of part 0's gate, all of it. -/
abbrev res14 (c : Dev nD) : Vec Ideal S4096x512 .bf16 := gate0 (V m c main_arg0) (V m c main_arg1) (V m c main_arg2) (V m c main_arg6)

theorem outs14 (c : Dev nD) (t : Fin cfg0.N) : (outsAt0 m c t).2.2.2.2.1 = k0_pay5 (iblk m c 0 t) (iblk m c 1 t) (X0_6 m c t) (iblk m c 2 t) := by
  unfold outsAt0
  dsimp only
  rw [out14_A]

theorem res14_at (c : Dev nD) (t : Fin cfg0.N) (a : Fin 256) (b : Fin 512) : (k0_pay5 (iblk m c 0 t) (iblk m c 1 t) (X0_6 m c t) (iblk m c 2 t) : FVec Ideal S256x512 .bf16) (ix2 a b) = res14 m c (ix2 (row t a) b) := by
  rw [res14, gate0_at]
  refine (pay14_at (iblk m c 0 t) (iblk m c 1 t) (iblk m c 2 t) (iblk m c 3 t) (iblk m c 4 t) (iblk m c 5 t) (X0_6 m c t) (X0_7 m c t) (X0_8 m c t) (X0_9 m c t) a b).trans ?_
  simp only [block0, block1, block2, block6]

theorem written14 (c : Dev nD) (t : Fin cfg0.N) : (dats m 0 c).flushed 14 t = ((cfg0.win 14).blk t).view.read (Elt Ideal) (res14 m c) := by
  rw [Value.flushed14, outs14]
  funext j
  have e : ((cfg0.win 14).blk t).view.emb j = ix2 (row t (j 0)) (j 1) := by
    funext d; apply Fin.ext
    match d with
    | ⟨0, _⟩ =>
      show win0_14.index t (0 : Fin 2) * 256 + 1 * (j 0).val = 256 * t.val + (j 0).val
      rw [(place14 t).1]; omega
    | ⟨1, _⟩ =>
      show win0_14.index t (1 : Fin 2) * 512 + 1 * (j 1).val = (j 1).val
      rw [(place14 t).2]; omega
  show (k0_pay5 (iblk m c 0 t) (iblk m c 1 t) (X0_6 m c t) (iblk m c 2 t) : FVec Ideal S256x512 .bf16) j = res14 m c (((cfg0.win 14).blk t).view.emb j)
  rw [e, eq_ix2 j]
  exact res14_at m c t (j 0) (j 1)

theorem whole14 (c : Dev nD) : (dats m 0 c).arrAt 14 cfg0.N = res14 m c :=
  (dats m 0 c).arrAt_eq_of_cover 14 _ (fun t _ => written14 m c t) covered14

/-- The gradient of part 1's gate, all of it. -/
abbrev res15 (c : Dev nD) : Vec Ideal S4096x512 .bf16 := gate1 (V m c main_arg0) (V m c main_arg1) (V m c main_arg3) (V m c main_arg6)

theorem outs15 (c : Dev nD) (t : Fin cfg0.N) : (outsAt0 m c t).2.2.2.2.2.1 = k0_pay8 (k0_pay6 (iblk m c 0 t) (iblk m c 1 t)) (X0_7 m c t) (iblk m c 3 t) := by
  unfold outsAt0
  dsimp only
  rw [out15_A]

theorem res15_at (c : Dev nD) (t : Fin cfg0.N) (a : Fin 256) (b : Fin 512) : (k0_pay8 (k0_pay6 (iblk m c 0 t) (iblk m c 1 t)) (X0_7 m c t) (iblk m c 3 t) : FVec Ideal S256x512 .bf16) (ix2 a b) = res15 m c (ix2 (row t a) b) := by
  rw [res15, gate1_at]
  refine (pay15_at (iblk m c 0 t) (iblk m c 1 t) (iblk m c 2 t) (iblk m c 3 t) (iblk m c 4 t) (iblk m c 5 t) (X0_6 m c t) (X0_7 m c t) (X0_8 m c t) (X0_9 m c t) a b).trans ?_
  simp only [block0, block1, block3, block7]

theorem written15 (c : Dev nD) (t : Fin cfg0.N) : (dats m 0 c).flushed 15 t = ((cfg0.win 15).blk t).view.read (Elt Ideal) (res15 m c) := by
  rw [Value.flushed15, outs15]
  funext j
  have e : ((cfg0.win 15).blk t).view.emb j = ix2 (row t (j 0)) (j 1) := by
    funext d; apply Fin.ext
    match d with
    | ⟨0, _⟩ =>
      show win0_15.index t (0 : Fin 2) * 256 + 1 * (j 0).val = 256 * t.val + (j 0).val
      rw [(place15 t).1]; omega
    | ⟨1, _⟩ =>
      show win0_15.index t (1 : Fin 2) * 512 + 1 * (j 1).val = (j 1).val
      rw [(place15 t).2]; omega
  show (k0_pay8 (k0_pay6 (iblk m c 0 t) (iblk m c 1 t)) (X0_7 m c t) (iblk m c 3 t) : FVec Ideal S256x512 .bf16) j = res15 m c (((cfg0.win 15).blk t).view.emb j)
  rw [e, eq_ix2 j]
  exact res15_at m c t (j 0) (j 1)

theorem whole15 (c : Dev nD) : (dats m 0 c).arrAt 15 cfg0.N = res15 m c :=
  (dats m 0 c).arrAt_eq_of_cover 15 _ (fun t _ => written15 m c t) covered15

/-- The gradient of part 2's gate, all of it. -/
abbrev res16 (c : Dev nD) : Vec Ideal S4096x512 .bf16 := gate2 (V m c main_arg0) (V m c main_arg1) (V m c main_arg4) (V m c main_arg6)

theorem outs16 (c : Dev nD) (t : Fin cfg0.N) : (outsAt0 m c t).2.2.2.2.2.2.1 = k0_pay12 (k0_pay9 (k0_pay2 (iblk m c 0 t) (iblk m c 1 t))) (X0_8 m c t) (iblk m c 4 t) := by
  unfold outsAt0
  dsimp only
  rw [out16_A]

theorem res16_at (c : Dev nD) (t : Fin cfg0.N) (a : Fin 256) (b : Fin 512) : (k0_pay12 (k0_pay9 (k0_pay2 (iblk m c 0 t) (iblk m c 1 t))) (X0_8 m c t) (iblk m c 4 t) : FVec Ideal S256x512 .bf16) (ix2 a b) = res16 m c (ix2 (row t a) b) := by
  rw [res16, gate2_at]
  refine (pay16_at (iblk m c 0 t) (iblk m c 1 t) (iblk m c 2 t) (iblk m c 3 t) (iblk m c 4 t) (iblk m c 5 t) (X0_6 m c t) (X0_7 m c t) (X0_8 m c t) (X0_9 m c t) a b).trans ?_
  simp only [block0, block1, block4, block8]

theorem written16 (c : Dev nD) (t : Fin cfg0.N) : (dats m 0 c).flushed 16 t = ((cfg0.win 16).blk t).view.read (Elt Ideal) (res16 m c) := by
  rw [Value.flushed16, outs16]
  funext j
  have e : ((cfg0.win 16).blk t).view.emb j = ix2 (row t (j 0)) (j 1) := by
    funext d; apply Fin.ext
    match d with
    | ⟨0, _⟩ =>
      show win0_16.index t (0 : Fin 2) * 256 + 1 * (j 0).val = 256 * t.val + (j 0).val
      rw [(place16 t).1]; omega
    | ⟨1, _⟩ =>
      show win0_16.index t (1 : Fin 2) * 512 + 1 * (j 1).val = (j 1).val
      rw [(place16 t).2]; omega
  show (k0_pay12 (k0_pay9 (k0_pay2 (iblk m c 0 t) (iblk m c 1 t))) (X0_8 m c t) (iblk m c 4 t) : FVec Ideal S256x512 .bf16) j = res16 m c (((cfg0.win 16).blk t).view.emb j)
  rw [e, eq_ix2 j]
  exact res16_at m c t (j 0) (j 1)

theorem whole16 (c : Dev nD) : (dats m 0 c).arrAt 16 cfg0.N = res16 m c :=
  (dats m 0 c).arrAt_eq_of_cover 16 _ (fun t _ => written16 m c t) covered16

/-- The gradient of part 3's gate, all of it. -/
abbrev res17 (c : Dev nD) : Vec Ideal S4096x512 .bf16 := gate3 (V m c main_arg0) (V m c main_arg1) (V m c main_arg5) (V m c main_arg6)

theorem outs17 (c : Dev nD) (t : Fin cfg0.N) : (outsAt0 m c t).2.2.2.2.2.2.2 = k0_pay1 (X0_9 m c t) (k0_pay15 (k0_pay2 (iblk m c 0 t) (iblk m c 1 t)) (iblk m c 5 t)) (k0_pay16 (X0_9 m c t)) := by
  unfold outsAt0
  dsimp only
  rw [out17_A]

theorem res17_at (c : Dev nD) (t : Fin cfg0.N) (a : Fin 256) (b : Fin 512) : (k0_pay1 (X0_9 m c t) (k0_pay15 (k0_pay2 (iblk m c 0 t) (iblk m c 1 t)) (iblk m c 5 t)) (k0_pay16 (X0_9 m c t)) : FVec Ideal S256x512 .bf16) (ix2 a b) = res17 m c (ix2 (row t a) b) := by
  rw [res17, gate3_at]
  refine (pay17_at (iblk m c 0 t) (iblk m c 1 t) (iblk m c 2 t) (iblk m c 3 t) (iblk m c 4 t) (iblk m c 5 t) (X0_6 m c t) (X0_7 m c t) (X0_8 m c t) (X0_9 m c t) a b).trans ?_
  simp only [block0, block1, block5, block9]

theorem written17 (c : Dev nD) (t : Fin cfg0.N) : (dats m 0 c).flushed 17 t = ((cfg0.win 17).blk t).view.read (Elt Ideal) (res17 m c) := by
  rw [Value.flushed17, outs17]
  funext j
  have e : ((cfg0.win 17).blk t).view.emb j = ix2 (row t (j 0)) (j 1) := by
    funext d; apply Fin.ext
    match d with
    | ⟨0, _⟩ =>
      show win0_17.index t (0 : Fin 2) * 256 + 1 * (j 0).val = 256 * t.val + (j 0).val
      rw [(place17 t).1]; omega
    | ⟨1, _⟩ =>
      show win0_17.index t (1 : Fin 2) * 512 + 1 * (j 1).val = (j 1).val
      rw [(place17 t).2]; omega
  show (k0_pay1 (X0_9 m c t) (k0_pay15 (k0_pay2 (iblk m c 0 t) (iblk m c 1 t)) (iblk m c 5 t)) (k0_pay16 (X0_9 m c t)) : FVec Ideal S256x512 .bf16) j = res17 m c (((cfg0.win 17).blk t).view.emb j)
  rw [e, eq_ix2 j]
  exact res17_at m c t (j 0) (j 1)

theorem whole17 (c : Dev nD) : (dats m 0 c).arrAt 17 cfg0.N = res17 m c :=
  (dats m 0 c).arrAt_eq_of_cover 17 _ (fun t _ => written17 m c t) covered17

end Cert.OutProjBwdIdeal.Whole

end
-- ==== Proof.MulZValue.lean ====
/- # The projection by the input's weights, block by block

   The product is added up over the blocks of its inner axis in an array that stays on the core; after the last of them the
   entry is the whole sum, and it is written then. -/
module

public import Idealize.ShloMosaic.Lib.Tactic
public import Idealize.ShloMosaic.Lib.Pointwise
public import Idealize.ShloMosaic.Lib.IdealHost
public import proofs.«01_k».proof.Proof.Gen.MulZIdeal.Value
public import proofs.«01_k».proof.Proof.Gen.MulZRefIdeal

@[expose] public section

noncomputable section

namespace Cert.MulZIdeal.Whole

open Cert.MulZIdeal Cert.MulZIdeal.Gen Idealize.ShloMosaic Idealize.ShloMosaic.TcCoe Idealize.SL.Sem

theorem hz : (![0, 0] : Fin 2 → ℕ) = fun _ => 0 := funext fun a => by fin_cases a <;> rfl

theorem sent_A (c : Dev nD) (i : grid0.Coords) (a1 : Memref sig .tc .vmem S1024x2048 .bf16) (h1 : a1.IsWhole) (a2 : Memref sig .tc .vmem S2048x1280 .bf16) (h2 : a2.IsWhole) (a3 : Memref sig .tc .vmem S1024x1280 .f32) (h3 : a3.IsWhole) (a4 : Memref sig .tc .vmem S1024x1280 .f32) (h4 : a4.IsWhole) (hc : cond0_0 i) (hd : cond0_1 i)
    (x : Vec Ideal S1024x2048 .bf16) (y : Vec Ideal S2048x1280 .bf16) :
    out0_A_2 c i a1 h1 a2 h2 a3 h3 a4 h4 hc hd x y = k0_pay2 (k0_pay1 (F := Ideal)) x y := by
  unfold out0_A_2
  rw [View.read_writes_eq_canon _ _ _ (cover0_A_2 c i a1 h1 a2 h2 a3 h3 a4 h4 hc hd x y)]
  unfold kernelRun0_A
  dsimp only
  sl_unfold_words
  rw [View.canon_unit_zero hz]
  simp only [View.readCov_unit_zero (S := S1024x1280) _ hz]
  simp only [View.readAt_eq_ld, h1.read_unread, h2.read_unread, h4.read_unread, View.ld_unit_zero (S := S1024x1280) hz, View.ld_unit_zero (S := S1024x2048) hz, View.ld_unit_zero (S := S2048x1280) hz, shapeCast_self]
  exact (View.readCov_eq_canon' _ _ _).trans ((View.ld_unit_zero (S := S1024x1280) hz _ _).trans (View.canon_cons_unit_zero (S := S1024x1280) hz _ _ _))

/-- The row of the whole at row `a` of the block at point `t`. -/
def row (t : Fin cfg0.N) (a : Fin 1024) : Fin 4096 := ⟨1024 * (t.val / 5) + a.val, by have := t.isLt; have h : cfg0.N = 20 := N_0; omega⟩

/-- The column of the whole at column `b` of the block at point `t`. -/
def col (t : Fin cfg0.N) (b : Fin 1280) : Fin 6400 := ⟨1280 * (t.val / 1 % 5) + b.val, by have := t.isLt; have h : cfg0.N = 20 := N_0; omega⟩

/-- The place on the inner axis at place `k` of the block at point `t`. -/
def dep (t : Fin cfg0.N) (k : Fin 2048) : Fin 2048 := ⟨2048 * (t.val % 1) + k.val, by omega⟩

theorem place0 : ∀ t : Fin cfg0.N, win0_0.index t (0 : Fin 2) = t.val / 5 ∧ win0_0.index t (1 : Fin 2) = t.val % 1 :=
  (by decide +kernel : ∀ t : Fin grid0.N, _)

theorem place1 : ∀ t : Fin cfg0.N, win0_1.index t (0 : Fin 2) = t.val % 1 ∧ win0_1.index t (1 : Fin 2) = t.val / 1 % 5 :=
  (by decide +kernel : ∀ t : Fin grid0.N, _)

theorem place2 : ∀ t : Fin cfg0.N, win0_2.index t (0 : Fin 2) = t.val / 5 ∧ win0_2.index t (1 : Fin 2) = t.val / 1 % 5 :=
  (by decide +kernel : ∀ t : Fin grid0.N, _)

theorem covered (i : S4096x6400.Idx) : ∃ t : Fin cfg0.N, (cfg0.win 2).flush t = true ∧ i ∈ ((cfg0.win 2).blk t).view.set := by
  have i0 : (i 0 : ℕ) < 4096 := (i 0).isLt
  have i1 : (i 1 : ℕ) < 6400 := (i 1).isLt
  have hN : cfg0.N = 20 := N_0
  obtain ⟨t, ht⟩ : ∃ t : Fin cfg0.N, t.val = 5 * ((i 0 : ℕ) / 1024) + 1 * ((i 1 : ℕ) / 1280) + 0 := ⟨⟨5 * ((i 0 : ℕ) / 1024) + 1 * ((i 1 : ℕ) / 1280) + 0, by omega⟩, rfl⟩
  have at_ := place2 t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0 : ℕ) ∧ (i 0 : ℕ) < win0_2.index t (0 : Fin 2) * 1024 + 1024
    rw [at_.1, ht]
    omega
  | ⟨1, _⟩ =>
    show win0_2.index t (1 : Fin 2) * 1280 ≤ (i 1 : ℕ) ∧ (i 1 : ℕ) < win0_2.index t (1 : Fin 2) * 1280 + 1280
    rw [at_.2, ht]
    omega

variable (m : (ℓ : Loc nD τ sig) → Buf (Elt Ideal) ℓ)

theorem block0 (c : Dev nD) (t : Fin cfg0.N) (a : Fin 1024) (k : Fin 2048) : (iblk m c 0 t : Vec Ideal S1024x2048 .bf16) (ix2 a k) = (V m c main_arg0 : Vec Ideal S4096x2048 .bf16) (ix2 (row t a) (dep t k)) := by
  have e := place0 t
  refine congrArg (V m c main_arg0 : Vec Ideal S4096x2048 .bf16) ?_
  funext d; apply Fin.ext
  match d with
  | ⟨0, _⟩ =>
    show win0_0.index t (0 : Fin 2) * 1024 + 1 * a.val = 1024 * (t.val / 5) + a.val
    rw [e.1]; omega
  | ⟨1, _⟩ =>
    show win0_0.index t (1 : Fin 2) * 2048 + 1 * k.val = 2048 * (t.val % 1) + k.val
    rw [e.2]; omega

theorem block1 (c : Dev nD) (t : Fin cfg0.N) (k : Fin 2048) (b : Fin 1280) : (iblk m c 1 t : Vec Ideal S2048x1280 .bf16) (ix2 k b) = (V m c main_arg1 : Vec Ideal S2048x6400 .bf16) (ix2 (dep t k) (col t b)) := by
  have e := place1 t
  refine congrArg (V m c main_arg1 : Vec Ideal S2048x6400 .bf16) ?_
  funext d; apply Fin.ext
  match d with
  | ⟨0, _⟩ =>
    show win0_1.index t (0 : Fin 2) * 2048 + 1 * k.val = 2048 * (t.val % 1) + k.val
    rw [e.1]; omega
  | ⟨1, _⟩ =>
    show win0_1.index t (1 : Fin 2) * 1280 + 1 * b.val = 1280 * (t.val / 1 % 5) + b.val
    rw [e.2]; omega

/-- A term of the product's sum. -/
def both (x y : EReal) : EReal := x * y

/-- The term at place `p` of the inner axis, of the entry in row `r` and column `q`. -/
def term (c : Dev nD) (r : Fin 4096) (q : Fin 6400) (p : ℕ) : EReal :=
  if h : p < 2048 then both ((V m c main_arg0 : Vec Ideal S4096x2048 .bf16) (ix2 r ⟨p, h⟩)) ((V m c main_arg1 : Vec Ideal S2048x6400 .bf16) (ix2 ⟨p, h⟩ q)) else 0

/-- The reference's product. -/
def product (x : FVec Ideal S4096x2048 .bf16) (y : FVec Ideal S2048x6400 .bf16) : FVec Ideal S4096x6400 .f32 :=
  Host.dotGeneral Cert.MulZRefIdeal.dot_S4096x2048_S2048x6400_S4096x6400_1_0_0_1_n_n none (extf .f32 x Cert.MulZRefIdeal.Facts₀.bitsLt_bf16_f32) (extf .f32 y Cert.MulZRefIdeal.Facts₀.bitsLt_bf16_f32)

theorem product_at (c : Dev nD) (r : Fin 4096) (q : Fin 6400) :
    product (V m c main_arg0) (V m c main_arg1) (ix2 r q) = ∑ p ∈ Finset.range 2048, term m c r q p := by
  have e : ∀ (x : FVec Ideal S4096x2048 .bf16) (y : FVec Ideal S2048x6400 .bf16), product x y (ix2 r q) = ∑ k, both (x (ix2 r k)) (y (ix2 k q)) := fun x y => by
    pointwise [product, both]
  rw [e, Finset.sum_range]
  refine Finset.sum_congr rfl fun k _ => ?_
  rw [term, dif_pos k.isLt]

theorem adds (c : Dev nD) (t : Fin cfg0.N) (s : Vec Ideal S1024x1280 .f32) (a : Fin 1024) (b : Fin 1280) :
    k0_pay2 s (iblk m c 0 t) (iblk m c 1 t) (ix2 a b) = s (ix2 a b) + ∑ p ∈ Finset.range 2048, term m c (row t a) (col t b) (2048 * (t.val % 1) + p) := by
  have e : k0_pay2 s (iblk m c 0 t) (iblk m c 1 t) (ix2 a b)
      = s (ix2 a b) + ∑ k, both ((iblk m c 0 t : Vec Ideal S1024x2048 .bf16) (ix2 a k)) ((iblk m c 1 t : Vec Ideal S2048x1280 .bf16) (ix2 k b)) := by
    pointwise [k0_pay2, both]
  rw [e, Finset.sum_range]
  refine congrArg _ (Finset.sum_congr rfl fun k _ => ?_)
  rw [block0, block1, term, dif_pos (show 2048 * (t.val % 1) + k.val < 2048 from (dep t k).isLt)]
  rfl

theorem zeros (a : Fin 1024) (b : Fin 1280) : k0_pay1 (F := Ideal) (ix2 a b) = 0 := by pointwise [k0_pay1]

/-- The product, all of it. -/
abbrev whole (c : Dev nD) : Vec Ideal S4096x6400 .f32 := product (V m c main_arg0) (V m c main_arg1)

theorem sent (c : Dev nD) (t : Fin cfg0.N) (a : Fin 1024) (b : Fin 1280) : outsAt0 m c t (ix2 a b) = whole m c (ix2 (row t a) (col t b)) := by
  rw [outsAt0, sent_A, adds, zeros, zero_add, whole, product_at]
  refine Finset.sum_congr rfl fun p _ => congrArg _ ?_
  omega

theorem written (c : Dev nD) (t : Fin cfg0.N) (hf : (cfg0.win 2).flush t = true) : (dats m 0 c).flushed 2 t = ((cfg0.win 2).blk t).view.read (Elt Ideal) (whole m c : Vec Ideal S4096x6400 .f32) := by
  rw [Value.flushed2]
  funext j
  have e : ((cfg0.win 2).blk t).view.emb j = ix2 (row t (j 0)) (col t (j 1)) := by
    funext d; apply Fin.ext
    match d with
    | ⟨0, _⟩ =>
      show win0_2.index t (0 : Fin 2) * 1024 + 1 * (j 0).val = 1024 * (t.val / 5) + (j 0).val
      rw [(place2 t).1]; omega
    | ⟨1, _⟩ =>
      show win0_2.index t (1 : Fin 2) * 1280 + 1 * (j 1).val = 1280 * (t.val / 1 % 5) + (j 1).val
      rw [(place2 t).2]; omega
  show outsAt0 m c t j = whole m c (((cfg0.win 2).blk t).view.emb j)
  rw [e, eq_ix2 j]
  exact sent m c t (j 0) (j 1)

theorem final (c : Dev nD) : (dats m 0 c).arrAt 2 cfg0.N = (whole m c : Vec Ideal S4096x6400 .f32) :=
  (dats m 0 c).arrAt_eq_of_cover 2 _ (written m c) covered

end Cert.MulZIdeal.Whole

end
-- ==== Proof.MulDhValue.lean ====
/- # The gradient of the normalised rows, block by block

   The product is added up over the blocks of its inner axis in an array that stays on the core; after the last of them the
   entry is the whole sum, and it is written then. -/
module

public import Idealize.ShloMosaic.Lib.Tactic
public import Idealize.ShloMosaic.Lib.Pointwise
public import Idealize.ShloMosaic.Lib.IdealHost
public import proofs.«01_k».proof.Proof.Gen.MulDhIdeal.Value
public import proofs.«01_k».proof.Proof.Gen.MulDhRefIdeal

@[expose] public section

noncomputable section

namespace Cert.MulDhIdeal.Whole

open Cert.MulDhIdeal Cert.MulDhIdeal.Gen Idealize.ShloMosaic Idealize.ShloMosaic.TcCoe Idealize.SL.Sem

theorem hz : (![0, 0] : Fin 2 → ℕ) = fun _ => 0 := funext fun a => by fin_cases a <;> rfl

theorem held_A (c : Dev nD) (i : grid0.Coords) (a1 : Memref sig .tc .vmem S1024x3200 .bf16) (h1 : a1.IsWhole) (a2 : Memref sig .tc .vmem S3200x1024 .bf16) (h2 : a2.IsWhole) (a3 : Memref sig .tc .vmem S1024x1024 .f32) (h3 : a3.IsWhole) (a4 : Memref sig .tc .vmem S1024x1024 .f32) (h4 : a4.IsWhole) (hc : cond0_0 i) (hd : ¬cond0_1 i)
    (x : Vec Ideal S1024x3200 .bf16) (y : Vec Ideal S3200x1024 .bf16) :
    sout0_A_0 c i a1 h1 a2 h2 a3 h3 a4 h4 hc hd x y = k0_pay2 (k0_pay1 (F := Ideal)) x y := by
  unfold sout0_A_0
  rw [View.read_writes_eq_canon _ _ _ (scover0_A_0 c i a1 h1 a2 h2 a3 h3 a4 h4 hc hd x y)]
  unfold kernelRun0_A
  dsimp only
  sl_unfold_words
  rw [View.canon_cons_unit_zero (S := S1024x1024) hz, View.readCov_unit_zero (S := S1024x1024) _ hz]
  simp only [View.readAt_eq_ld, h1.read_unread, h2.read_unread, h4.read_unread, View.ld_unit_zero (S := S1024x1024) hz, View.ld_unit_zero (S := S1024x3200) hz, View.ld_unit_zero (S := S3200x1024) hz, shapeCast_self]

theorem held_B (c : Dev nD) (i : grid0.Coords) (a1 : Memref sig .tc .vmem S1024x3200 .bf16) (h1 : a1.IsWhole) (a2 : Memref sig .tc .vmem S3200x1024 .bf16) (h2 : a2.IsWhole) (a3 : Memref sig .tc .vmem S1024x1024 .f32) (h3 : a3.IsWhole) (a4 : Memref sig .tc .vmem S1024x1024 .f32) (h4 : a4.IsWhole) (hc : ¬cond0_0 i) (hd : cond0_1 i)
    (x : Vec Ideal S1024x3200 .bf16) (y : Vec Ideal S3200x1024 .bf16) (s : Vec Ideal S1024x1024 .f32) :
    sout0_B_0 c i a1 h1 a2 h2 a3 h3 a4 h4 hc hd x y s = k0_pay2 s x y := by
  unfold sout0_B_0
  rw [View.read_writes_eq_canon _ _ _ (scover0_B_0 c i a1 h1 a2 h2 a3 h3 a4 h4 hc hd x y s)]
  unfold kernelRun0_B
  dsimp only
  sl_unfold_words
  rw [View.canon_unit_zero hz]
  simp only [View.readAt_eq_ld, h1.read_unread, h2.read_unread, h4.read_unread, View.ld_unit_zero (S := S1024x1024) hz, View.ld_unit_zero (S := S1024x3200) hz, View.ld_unit_zero (S := S3200x1024) hz, shapeCast_self]

theorem sent_B (c : Dev nD) (i : grid0.Coords) (a1 : Memref sig .tc .vmem S1024x3200 .bf16) (h1 : a1.IsWhole) (a2 : Memref sig .tc .vmem S3200x1024 .bf16) (h2 : a2.IsWhole) (a3 : Memref sig .tc .vmem S1024x1024 .f32) (h3 : a3.IsWhole) (a4 : Memref sig .tc .vmem S1024x1024 .f32) (h4 : a4.IsWhole) (hc : ¬cond0_0 i) (hd : cond0_1 i)
    (x : Vec Ideal S1024x3200 .bf16) (y : Vec Ideal S3200x1024 .bf16) (s : Vec Ideal S1024x1024 .f32) :
    out0_B_2 c i a1 h1 a2 h2 a3 h3 a4 h4 hc hd x y s = k0_pay2 s x y := by
  unfold out0_B_2
  rw [View.read_writes_eq_canon _ _ _ (cover0_B_2 c i a1 h1 a2 h2 a3 h3 a4 h4 hc hd x y s)]
  unfold kernelRun0_B
  dsimp only
  sl_unfold_words
  rw [View.canon_unit_zero hz]
  simp only [View.readCov_unit_zero (S := S1024x1024) _ hz]
  simp only [View.readAt_eq_ld, h1.read_unread, h2.read_unread, h4.read_unread, View.ld_unit_zero (S := S1024x1024) hz, View.ld_unit_zero (S := S1024x3200) hz, View.ld_unit_zero (S := S3200x1024) hz, shapeCast_self]

/-- The row of the whole at row `a` of the block at point `t`. -/
def row (t : Fin cfg0.N) (a : Fin 1024) : Fin 4096 := ⟨1024 * (t.val / 4) + a.val, by have := t.isLt; have h : cfg0.N = 16 := N_0; omega⟩

/-- The column of the whole at column `b` of the block at point `t`. -/
def col (t : Fin cfg0.N) (b : Fin 1024) : Fin 2048 := ⟨1024 * (t.val / 2 % 2) + b.val, by have := t.isLt; have h : cfg0.N = 16 := N_0; omega⟩

/-- The place on the inner axis at place `k` of the block at point `t`. -/
def dep (t : Fin cfg0.N) (k : Fin 3200) : Fin 6400 := ⟨3200 * (t.val % 2) + k.val, by omega⟩

theorem place0 : ∀ t : Fin cfg0.N, win0_0.index t (0 : Fin 2) = t.val / 4 ∧ win0_0.index t (1 : Fin 2) = t.val % 2 :=
  (by decide +kernel : ∀ t : Fin grid0.N, _)

theorem place1 : ∀ t : Fin cfg0.N, win0_1.index t (0 : Fin 2) = t.val % 2 ∧ win0_1.index t (1 : Fin 2) = t.val / 2 % 2 :=
  (by decide +kernel : ∀ t : Fin grid0.N, _)

theorem place2 : ∀ t : Fin cfg0.N, win0_2.index t (0 : Fin 2) = t.val / 4 ∧ win0_2.index t (1 : Fin 2) = t.val / 2 % 2 :=
  (by decide +kernel : ∀ t : Fin grid0.N, _)

theorem covered (i : S4096x2048.Idx) : ∃ t : Fin cfg0.N, (cfg0.win 2).flush t = true ∧ i ∈ ((cfg0.win 2).blk t).view.set := by
  have i0 : (i 0 : ℕ) < 4096 := (i 0).isLt
  have i1 : (i 1 : ℕ) < 2048 := (i 1).isLt
  have hN : cfg0.N = 16 := N_0
  obtain ⟨t, ht⟩ : ∃ t : Fin cfg0.N, t.val = 4 * ((i 0 : ℕ) / 1024) + 2 * ((i 1 : ℕ) / 1024) + 1 := ⟨⟨4 * ((i 0 : ℕ) / 1024) + 2 * ((i 1 : ℕ) / 1024) + 1, by omega⟩, rfl⟩
  have at_ := place2 t
  refine ⟨t, (flush0_2 t).mpr (by rw [ht]; omega), ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0 : ℕ) ∧ (i 0 : ℕ) < win0_2.index t (0 : Fin 2) * 1024 + 1024
    rw [at_.1, ht]
    omega
  | ⟨1, _⟩ =>
    show win0_2.index t (1 : Fin 2) * 1024 ≤ (i 1 : ℕ) ∧ (i 1 : ℕ) < win0_2.index t (1 : Fin 2) * 1024 + 1024
    rw [at_.2, ht]
    omega

variable (m : (ℓ : Loc nD τ sig) → Buf (Elt Ideal) ℓ)

theorem block0 (c : Dev nD) (t : Fin cfg0.N) (a : Fin 1024) (k : Fin 3200) : (iblk m c 0 t : Vec Ideal S1024x3200 .bf16) (ix2 a k) = (V m c main_arg0 : Vec Ideal S4096x6400 .bf16) (ix2 (row t a) (dep t k)) := by
  have e := place0 t
  refine congrArg (V m c main_arg0 : Vec Ideal S4096x6400 .bf16) ?_
  funext d; apply Fin.ext
  match d with
  | ⟨0, _⟩ =>
    show win0_0.index t (0 : Fin 2) * 1024 + 1 * a.val = 1024 * (t.val / 4) + a.val
    rw [e.1]; omega
  | ⟨1, _⟩ =>
    show win0_0.index t (1 : Fin 2) * 3200 + 1 * k.val = 3200 * (t.val % 2) + k.val
    rw [e.2]; omega

theorem block1 (c : Dev nD) (t : Fin cfg0.N) (k : Fin 3200) (b : Fin 1024) : (iblk m c 1 t : Vec Ideal S3200x1024 .bf16) (ix2 k b) = (V m c main_arg1 : Vec Ideal S6400x2048 .bf16) (ix2 (dep t k) (col t b)) := by
  have e := place1 t
  refine congrArg (V m c main_arg1 : Vec Ideal S6400x2048 .bf16) ?_
  funext d; apply Fin.ext
  match d with
  | ⟨0, _⟩ =>
    show win0_1.index t (0 : Fin 2) * 3200 + 1 * k.val = 3200 * (t.val % 2) + k.val
    rw [e.1]; omega
  | ⟨1, _⟩ =>
    show win0_1.index t (1 : Fin 2) * 1024 + 1 * b.val = 1024 * (t.val / 2 % 2) + b.val
    rw [e.2]; omega

/-- A term of the product's sum. -/
def both (x y : EReal) : EReal := x * y

/-- The term at place `p` of the inner axis, of the entry in row `r` and column `q`. -/
def term (c : Dev nD) (r : Fin 4096) (q : Fin 2048) (p : ℕ) : EReal :=
  if h : p < 6400 then both ((V m c main_arg0 : Vec Ideal S4096x6400 .bf16) (ix2 r ⟨p, h⟩)) ((V m c main_arg1 : Vec Ideal S6400x2048 .bf16) (ix2 ⟨p, h⟩ q)) else 0

/-- The reference's product. -/
def product (x : FVec Ideal S4096x6400 .bf16) (y : FVec Ideal S6400x2048 .bf16) : FVec Ideal S4096x2048 .f32 :=
  Host.dotGeneral Cert.MulDhRefIdeal.dot_S4096x6400_S6400x2048_S4096x2048_1_0_0_1_n_n none (extf .f32 x Cert.MulDhRefIdeal.Facts₀.bitsLt_bf16_f32) (extf .f32 y Cert.MulDhRefIdeal.Facts₀.bitsLt_bf16_f32)

theorem product_at (c : Dev nD) (r : Fin 4096) (q : Fin 2048) :
    product (V m c main_arg0) (V m c main_arg1) (ix2 r q) = ∑ p ∈ Finset.range 6400, term m c r q p := by
  have e : ∀ (x : FVec Ideal S4096x6400 .bf16) (y : FVec Ideal S6400x2048 .bf16), product x y (ix2 r q) = ∑ k, both (x (ix2 r k)) (y (ix2 k q)) := fun x y => by
    pointwise [product, both]
  rw [e, Finset.sum_range]
  refine Finset.sum_congr rfl fun k _ => ?_
  rw [term, dif_pos k.isLt]

theorem adds (c : Dev nD) (t : Fin cfg0.N) (s : Vec Ideal S1024x1024 .f32) (a : Fin 1024) (b : Fin 1024) :
    k0_pay2 s (iblk m c 0 t) (iblk m c 1 t) (ix2 a b) = s (ix2 a b) + ∑ p ∈ Finset.range 3200, term m c (row t a) (col t b) (3200 * (t.val % 2) + p) := by
  have e : k0_pay2 s (iblk m c 0 t) (iblk m c 1 t) (ix2 a b)
      = s (ix2 a b) + ∑ k, both ((iblk m c 0 t : Vec Ideal S1024x3200 .bf16) (ix2 a k)) ((iblk m c 1 t : Vec Ideal S3200x1024 .bf16) (ix2 k b)) := by
    pointwise [k0_pay2, both]
  rw [e, Finset.sum_range]
  refine congrArg _ (Finset.sum_congr rfl fun k _ => ?_)
  rw [block0, block1, term, dif_pos (show 3200 * (t.val % 2) + k.val < 6400 from (dep t k).isLt)]
  rfl

theorem zeros (a : Fin 1024) (b : Fin 1024) : k0_pay1 (F := Ideal) (ix2 a b) = 0 := by pointwise [k0_pay1]

/-- The product, all of it. -/
abbrev whole (c : Dev nD) : Vec Ideal S4096x2048 .f32 := product (V m c main_arg0) (V m c main_arg1)

/-- What the core holds after a point: the sum over the inner axis so far. -/
theorem sums (c : Dev nD) (a : Fin 1024) (b : Fin 1024) : ∀ (n : ℕ) (h : n < cfg0.N),
    (outsAt0 m c n h).2 (ix2 a b) = ∑ p ∈ Finset.range (3200 * (n % 2 + 1)), term m c (row ⟨n, h⟩ a) (col ⟨n, h⟩ b) p := by
  have first : ∀ (n : ℕ) (h : n < cfg0.N), n % 2 = 0 →
      (outsAt0 m c n h).2 (ix2 a b) = ∑ p ∈ Finset.range (3200 * (n % 2 + 1)), term m c (row ⟨n, h⟩ a) (col ⟨n, h⟩ b) p := fun n h h0 => by
    rw [outsAt0_A m c ⟨n, h⟩ h0 (by dsimp only; omega)]
    dsimp only
    rw [held_A, adds, zeros, zero_add, h0]
    simp only [Nat.mul_zero, Nat.zero_add, Nat.mul_one]
  intro n
  induction n with
  | zero => exact fun h => first 0 h rfl
  | succ n ih =>
    intro h
    by_cases h0 : (⟨n + 1, h⟩ : Fin cfg0.N).val % 2 = 0
    · exact first (n + 1) h h0
    have ih := ih (Nat.lt_of_succ_lt h)
    have step : ∀ s : Vec Ideal S1024x1024 .f32, s (ix2 a b) = (outsAt0 m c n (Nat.lt_of_succ_lt h)).2 (ix2 a b) →
        s (ix2 a b) + ∑ p ∈ Finset.range 3200, term m c (row ⟨n + 1, h⟩ a) (col ⟨n + 1, h⟩ b) (3200 * ((⟨n + 1, h⟩ : Fin cfg0.N).val % 2) + p)
          = ∑ p ∈ Finset.range (3200 * ((n + 1) % 2 + 1)), term m c (row ⟨n + 1, h⟩ a) (col ⟨n + 1, h⟩ b) p := fun s hs => by
      dsimp only at h0 ⊢
      have er : row ⟨n + 1, h⟩ a = row ⟨n, Nat.lt_of_succ_lt h⟩ a := Fin.ext (by show 1024 * ((n + 1) / 4) + a.val = 1024 * (n / 4) + a.val; omega)
      have ec : col ⟨n + 1, h⟩ b = col ⟨n, Nat.lt_of_succ_lt h⟩ b := Fin.ext (by show 1024 * ((n + 1) / 2 % 2) + b.val = 1024 * (n / 2 % 2) + b.val; omega)
      rw [hs, ih, er, ec, show 3200 * ((n + 1) % 2 + 1) = 3200 * (n % 2 + 1) + 3200 from by omega, Finset.sum_range_add]
      refine congrArg _ (Finset.sum_congr rfl fun p _ => congrArg _ ?_)
      omega
    have h1 : (⟨n + 1, h⟩ : Fin cfg0.N).val % 2 = 1 := by dsimp only at h0 ⊢; omega
    rw [outsAt0_B m c ⟨n + 1, h⟩ h0 h1]
    dsimp only
    rw [held_B, adds]
    exact step _ rfl

theorem sent (c : Dev nD) (t : Fin cfg0.N) (hf : t.val % 2 = 1) (a : Fin 1024) (b : Fin 1024) :
    (outsAt0 m c t.val t.isLt).1 (ix2 a b) = whole m c (ix2 (row t a) (col t b)) := by
  have h0 : ¬t.val % 2 = 0 := by omega
  have e := sums m c a b t.val t.isLt
  rw [outsAt0_B m c t h0 hf] at e ⊢
  dsimp only at e ⊢
  rw [held_B] at e
  rw [sent_B, e, hf, whole, product_at]

theorem written (c : Dev nD) (t : Fin cfg0.N) (hf : (cfg0.win 2).flush t = true) : (dats m 0 c).flushed 2 t = ((cfg0.win 2).blk t).view.read (Elt Ideal) (whole m c : Vec Ideal S4096x2048 .f32) := by
  rw [Value.flushed2]
  funext j
  have e : ((cfg0.win 2).blk t).view.emb j = ix2 (row t (j 0)) (col t (j 1)) := by
    funext d; apply Fin.ext
    match d with
    | ⟨0, _⟩ =>
      show win0_2.index t (0 : Fin 2) * 1024 + 1 * (j 0).val = 1024 * (t.val / 4) + (j 0).val
      rw [(place2 t).1]; omega
    | ⟨1, _⟩ =>
      show win0_2.index t (1 : Fin 2) * 1024 + 1 * (j 1).val = 1024 * (t.val / 2 % 2) + (j 1).val
      rw [(place2 t).2]; omega
  show (outsAt0 m c t.val t.isLt).1 j = whole m c (((cfg0.win 2).blk t).view.emb j)
  rw [e, eq_ix2 j]
  exact sent m c t ((flush0_2 t).mp hf) (j 0) (j 1)

theorem final (c : Dev nD) : (dats m 0 c).arrAt 2 cfg0.N = (whole m c : Vec Ideal S4096x2048 .f32) :=
  (dats m 0 c).arrAt_eq_of_cover 2 _ (written m c) covered

end Cert.MulDhIdeal.Whole

end
-- ==== Proof.MulDwInValue.lean ====
/- # The partial gradient of the input's weights, block by block

   The product is added up over the blocks of its inner axis in an array that stays on the core; after the last of them the
   entry is the whole sum, and it is written then. -/
module

public import Idealize.ShloMosaic.Lib.Tactic
public import Idealize.ShloMosaic.Lib.Pointwise
public import Idealize.ShloMosaic.Lib.IdealHost
public import proofs.«01_k».proof.Proof.Gen.MulDwInIdeal.Value
public import proofs.«01_k».proof.Proof.Gen.MulDwInRefIdeal

@[expose] public section

noncomputable section

namespace Cert.MulDwInIdeal.Whole

open Cert.MulDwInIdeal Cert.MulDwInIdeal.Gen Idealize.ShloMosaic Idealize.ShloMosaic.TcCoe Idealize.SL.Sem

theorem hz : (![0, 0] : Fin 2 → ℕ) = fun _ => 0 := funext fun a => by fin_cases a <;> rfl

theorem held_A (c : Dev nD) (i : grid0.Coords) (a1 : Memref sig .tc .vmem S1024x1280 .bf16) (h1 : a1.IsWhole) (a2 : Memref sig .tc .vmem S1024x1024 .bf16) (h2 : a2.IsWhole) (a3 : Memref sig .tc .vmem S1280x1024 .bf16) (h3 : a3.IsWhole) (a4 : Memref sig .tc .vmem S1280x1024 .f32) (h4 : a4.IsWhole) (hc : cond0_0 i) (hd : ¬cond0_1 i)
    (x : Vec Ideal S1024x1280 .bf16) (y : Vec Ideal S1024x1024 .bf16) :
    sout0_A_0 c i a1 h1 a2 h2 a3 h3 a4 h4 hc hd x y = k0_pay2 (k0_pay1 (F := Ideal)) x y := by
  unfold sout0_A_0
  rw [View.read_writes_eq_canon _ _ _ (scover0_A_0 c i a1 h1 a2 h2 a3 h3 a4 h4 hc hd x y)]
  unfold kernelRun0_A
  dsimp only
  sl_unfold_words
  rw [View.canon_cons_unit_zero (S := S1280x1024) hz, View.readCov_unit_zero (S := S1280x1024) _ hz]
  simp only [View.readAt_eq_ld, h1.read_unread, h2.read_unread, h4.read_unread, View.ld_unit_zero (S := S1024x1024) hz, View.ld_unit_zero (S := S1024x1280) hz, View.ld_unit_zero (S := S1280x1024) hz, shapeCast_self]

theorem held_B (c : Dev nD) (i : grid0.Coords) (a1 : Memref sig .tc .vmem S1024x1280 .bf16) (h1 : a1.IsWhole) (a2 : Memref sig .tc .vmem S1024x1024 .bf16) (h2 : a2.IsWhole) (a3 : Memref sig .tc .vmem S1280x1024 .bf16) (h3 : a3.IsWhole) (a4 : Memref sig .tc .vmem S1280x1024 .f32) (h4 : a4.IsWhole) (hc : ¬cond0_0 i) (hd : ¬cond0_1 i)
    (x : Vec Ideal S1024x1280 .bf16) (y : Vec Ideal S1024x1024 .bf16) (s : Vec Ideal S1280x1024 .f32) :
    sout0_B_0 c i a1 h1 a2 h2 a3 h3 a4 h4 hc hd x y s = k0_pay2 s x y := by
  unfold sout0_B_0
  rw [View.read_writes_eq_canon _ _ _ (scover0_B_0 c i a1 h1 a2 h2 a3 h3 a4 h4 hc hd x y s)]
  unfold kernelRun0_B
  dsimp only
  sl_unfold_words
  rw [View.canon_unit_zero hz]
  simp only [View.readAt_eq_ld, h1.read_unread, h2.read_unread, h4.read_unread, View.ld_unit_zero (S := S1024x1024) hz, View.ld_unit_zero (S := S1024x1280) hz, View.ld_unit_zero (S := S1280x1024) hz, shapeCast_self]

theorem held_C (c : Dev nD) (i : grid0.Coords) (a1 : Memref sig .tc .vmem S1024x1280 .bf16) (h1 : a1.IsWhole) (a2 : Memref sig .tc .vmem S1024x1024 .bf16) (h2 : a2.IsWhole) (a3 : Memref sig .tc .vmem S1280x1024 .bf16) (h3 : a3.IsWhole) (a4 : Memref sig .tc .vmem S1280x1024 .f32) (h4 : a4.IsWhole) (hc : ¬cond0_0 i) (hd : cond0_1 i)
    (x : Vec Ideal S1024x1280 .bf16) (y : Vec Ideal S1024x1024 .bf16) (s : Vec Ideal S1280x1024 .f32) :
    sout0_C_0 c i a1 h1 a2 h2 a3 h3 a4 h4 hc hd x y s = k0_pay2 s x y := by
  unfold sout0_C_0
  rw [View.read_writes_eq_canon _ _ _ (scover0_C_0 c i a1 h1 a2 h2 a3 h3 a4 h4 hc hd x y s)]
  unfold kernelRun0_C
  dsimp only
  sl_unfold_words
  rw [View.canon_unit_zero hz]
  simp only [View.readAt_eq_ld, h1.read_unread, h2.read_unread, h4.read_unread, View.ld_unit_zero (S := S1024x1024) hz, View.ld_unit_zero (S := S1024x1280) hz, View.ld_unit_zero (S := S1280x1024) hz, shapeCast_self]

theorem sent_C (c : Dev nD) (i : grid0.Coords) (a1 : Memref sig .tc .vmem S1024x1280 .bf16) (h1 : a1.IsWhole) (a2 : Memref sig .tc .vmem S1024x1024 .bf16) (h2 : a2.IsWhole) (a3 : Memref sig .tc .vmem S1280x1024 .bf16) (h3 : a3.IsWhole) (a4 : Memref sig .tc .vmem S1280x1024 .f32) (h4 : a4.IsWhole) (hc : ¬cond0_0 i) (hd : cond0_1 i)
    (x : Vec Ideal S1024x1280 .bf16) (y : Vec Ideal S1024x1024 .bf16) (s : Vec Ideal S1280x1024 .f32) :
    out0_C_2 c i a1 h1 a2 h2 a3 h3 a4 h4 hc hd x y s = k0_pay3 (k0_pay2 s x y) := by
  unfold out0_C_2
  rw [View.read_writes_eq_canon _ _ _ (cover0_C_2 c i a1 h1 a2 h2 a3 h3 a4 h4 hc hd x y s)]
  unfold kernelRun0_C
  dsimp only
  sl_unfold_words
  rw [View.canon_unit_zero hz]
  simp only [View.readCov_unit_zero (S := S1280x1024) _ hz]
  simp only [View.readAt_eq_ld, h1.read_unread, h2.read_unread, h4.read_unread, View.ld_unit_zero (S := S1024x1024) hz, View.ld_unit_zero (S := S1024x1280) hz, View.ld_unit_zero (S := S1280x1024) hz, shapeCast_self]

/-- The row of the whole at row `a` of the block at point `t`. -/
def row (t : Fin cfg0.N) (a : Fin 1280) : Fin 6400 := ⟨1280 * (t.val / 8) + a.val, by have := t.isLt; have h : cfg0.N = 40 := N_0; omega⟩

/-- The column of the whole at column `b` of the block at point `t`. -/
def col (t : Fin cfg0.N) (b : Fin 1024) : Fin 2048 := ⟨1024 * (t.val / 4 % 2) + b.val, by have := t.isLt; have h : cfg0.N = 40 := N_0; omega⟩

/-- The place on the inner axis at place `k` of the block at point `t`. -/
def dep (t : Fin cfg0.N) (k : Fin 1024) : Fin 4096 := ⟨1024 * (t.val % 4) + k.val, by omega⟩

theorem place0 : ∀ t : Fin cfg0.N, win0_0.index t (0 : Fin 2) = t.val % 4 ∧ win0_0.index t (1 : Fin 2) = t.val / 8 :=
  (by decide +kernel : ∀ t : Fin grid0.N, _)

theorem place1 : ∀ t : Fin cfg0.N, win0_1.index t (0 : Fin 2) = t.val % 4 ∧ win0_1.index t (1 : Fin 2) = t.val / 4 % 2 :=
  (by decide +kernel : ∀ t : Fin grid0.N, _)

theorem place2 : ∀ t : Fin cfg0.N, win0_2.index t (0 : Fin 2) = t.val / 8 ∧ win0_2.index t (1 : Fin 2) = t.val / 4 % 2 :=
  (by decide +kernel : ∀ t : Fin grid0.N, _)

theorem covered (i : S6400x2048.Idx) : ∃ t : Fin cfg0.N, (cfg0.win 2).flush t = true ∧ i ∈ ((cfg0.win 2).blk t).view.set := by
  have i0 : (i 0 : ℕ) < 6400 := (i 0).isLt
  have i1 : (i 1 : ℕ) < 2048 := (i 1).isLt
  have hN : cfg0.N = 40 := N_0
  obtain ⟨t, ht⟩ : ∃ t : Fin cfg0.N, t.val = 8 * ((i 0 : ℕ) / 1280) + 4 * ((i 1 : ℕ) / 1024) + 3 := ⟨⟨8 * ((i 0 : ℕ) / 1280) + 4 * ((i 1 : ℕ) / 1024) + 3, by omega⟩, rfl⟩
  have at_ := place2 t
  refine ⟨t, (flush0_2 t).mpr (by rw [ht]; omega), ?_⟩
  show i ∈ ((View.whole main_v0).slice (win0_2.rect t)).set
  rw [View.set_slice_whole, Rect.mem_set_unit]
  intro a
  match a with
  | ⟨0, _⟩ =>
    show win0_2.index t (0 : Fin 2) * 1280 ≤ (i 0 : ℕ) ∧ (i 0 : ℕ) < win0_2.index t (0 : Fin 2) * 1280 + 1280
    rw [at_.1, ht]
    omega
  | ⟨1, _⟩ =>
    show win0_2.index t (1 : Fin 2) * 1024 ≤ (i 1 : ℕ) ∧ (i 1 : ℕ) < win0_2.index t (1 : Fin 2) * 1024 + 1024
    rw [at_.2, ht]
    omega

variable (m : (ℓ : Loc nD τ sig) → Buf (Elt Ideal) ℓ)

theorem block0 (c : Dev nD) (t : Fin cfg0.N) (k : Fin 1024) (a : Fin 1280) : (iblk m c 0 t : Vec Ideal S1024x1280 .bf16) (ix2 k a) = (V m c main_arg0 : Vec Ideal S4096x6400 .bf16) (ix2 (dep t k) (row t a)) := by
  have e := place0 t
  refine congrArg (V m c main_arg0 : Vec Ideal S4096x6400 .bf16) ?_
  funext d; apply Fin.ext
  match d with
  | ⟨0, _⟩ =>
    show win0_0.index t (0 : Fin 2) * 1024 + 1 * k.val = 1024 * (t.val % 4) + k.val
    rw [e.1]; omega
  | ⟨1, _⟩ =>
    show win0_0.index t (1 : Fin 2) * 1280 + 1 * a.val = 1280 * (t.val / 8) + a.val
    rw [e.2]; omega

theorem block1 (c : Dev nD) (t : Fin cfg0.N) (k : Fin 1024) (b : Fin 1024) : (iblk m c 1 t : Vec Ideal S1024x1024 .bf16) (ix2 k b) = (V m c main_arg1 : Vec Ideal S4096x2048 .bf16) (ix2 (dep t k) (col t b)) := by
  have e := place1 t
  refine congrArg (V m c main_arg1 : Vec Ideal S4096x2048 .bf16) ?_
  funext d; apply Fin.ext
  match d with
  | ⟨0, _⟩ =>
    show win0_1.index t (0 : Fin 2) * 1024 + 1 * k.val = 1024 * (t.val % 4) + k.val
    rw [e.1]; omega
  | ⟨1, _⟩ =>
    show win0_1.index t (1 : Fin 2) * 1024 + 1 * b.val = 1024 * (t.val / 4 % 2) + b.val
    rw [e.2]; omega

/-- A term of the product's sum. -/
def both (x y : EReal) : EReal := x * y

/-- The term at place `p` of the inner axis, of the entry in row `r` and column `q`. -/
def term (c : Dev nD) (r : Fin 6400) (q : Fin 2048) (p : ℕ) : EReal :=
  if h : p < 4096 then both ((V m c main_arg0 : Vec Ideal S4096x6400 .bf16) (ix2 ⟨p, h⟩ r)) ((V m c main_arg1 : Vec Ideal S4096x2048 .bf16) (ix2 ⟨p, h⟩ q)) else 0

/-- The reference's product. -/
def product (x : FVec Ideal S4096x6400 .bf16) (y : FVec Ideal S4096x2048 .bf16) : FVec Ideal S6400x2048 .f32 :=
  Host.dotGeneral Cert.MulDwInRefIdeal.dot_S4096x6400_S4096x2048_S6400x2048_0_0_1_1_n_n none (extf .f32 x Cert.MulDwInRefIdeal.Facts₀.bitsLt_bf16_f32) (extf .f32 y Cert.MulDwInRefIdeal.Facts₀.bitsLt_bf16_f32)

theorem product_at (c : Dev nD) (r : Fin 6400) (q : Fin 2048) :
    product (V m c main_arg0) (V m c main_arg1) (ix2 r q) = ∑ p ∈ Finset.range 4096, term m c r q p := by
  have e : ∀ (x : FVec Ideal S4096x6400 .bf16) (y : FVec Ideal S4096x2048 .bf16), product x y (ix2 r q) = ∑ k, both (x (ix2 k r)) (y (ix2 k q)) := fun x y => by
    pointwise [product, both]
  rw [e, Finset.sum_range]
  refine Finset.sum_congr rfl fun k _ => ?_
  rw [term, dif_pos k.isLt]

theorem adds (c : Dev nD) (t : Fin cfg0.N) (s : Vec Ideal S1280x1024 .f32) (a : Fin 1280) (b : Fin 1024) :
    k0_pay2 s (iblk m c 0 t) (iblk m c 1 t) (ix2 a b) = s (ix2 a b) + ∑ p ∈ Finset.range 1024, term m c (row t a) (col t b) (1024 * (t.val % 4) + p) := by
  have e : k0_pay2 s (iblk m c 0 t) (iblk m c 1 t) (ix2 a b)
      = s (ix2 a b) + ∑ k, both ((iblk m c 0 t : Vec Ideal S1024x1280 .bf16) (ix2 k a)) ((iblk m c 1 t : Vec Ideal S1024x1024 .bf16) (ix2 k b)) := by
    pointwise [k0_pay2, both]
  rw [e, Finset.sum_range]
  refine congrArg _ (Finset.sum_congr rfl fun k _ => ?_)
  rw [block0, block1, term, dif_pos (show 1024 * (t.val % 4) + k.val < 4096 from (dep t k).isLt)]
  rfl

theorem zeros (a : Fin 1280) (b : Fin 1024) : k0_pay1 (F := Ideal) (ix2 a b) = 0 := by pointwise [k0_pay1]

/-- The product, all of it. -/
abbrev whole (c : Dev nD) : Vec Ideal S6400x2048 .f32 := product (V m c main_arg0) (V m c main_arg1)

/-- What the core holds after a point: the sum over the inner axis so far. -/
theorem sums (c : Dev nD) (a : Fin 1280) (b : Fin 1024) : ∀ (n : ℕ) (h : n < cfg0.N),
    (outsAt0 m c n h).2 (ix2 a b) = ∑ p ∈ Finset.range (1024 * (n % 4 + 1)), term m c (row ⟨n, h⟩ a) (col ⟨n, h⟩ b) p := by
  have first : ∀ (n : ℕ) (h : n < cfg0.N), n % 4 = 0 →
      (outsAt0 m c n h).2 (ix2 a b) = ∑ p ∈ Finset.range (1024 * (n % 4 + 1)), term m c (row ⟨n, h⟩ a) (col ⟨n, h⟩ b) p := fun n h h0 => by
    rw [outsAt0_A m c ⟨n, h⟩ h0 (by dsimp only; omega)]
    dsimp only
    rw [held_A, adds, zeros, zero_add, h0]
    simp only [Nat.mul_zero, Nat.zero_add, Nat.mul_one]
  intro n
  induction n with
  | zero => exact fun h => first 0 h rfl
  | succ n ih =>
    intro h
    by_cases h0 : (⟨n + 1, h⟩ : Fin cfg0.N).val % 4 = 0
    · exact first (n + 1) h h0
    have ih := ih (Nat.lt_of_succ_lt h)
    have step : ∀ s : Vec Ideal S1280x1024 .f32, s (ix2 a b) = (outsAt0 m c n (Nat.lt_of_succ_lt h)).2 (ix2 a b) →
        s (ix2 a b) + ∑ p ∈ Finset.range 1024, term m c (row ⟨n + 1, h⟩ a) (col ⟨n + 1, h⟩ b) (1024 * ((⟨n + 1, h⟩ : Fin cfg0.N).val % 4) + p)
          = ∑ p ∈ Finset.range (1024 * ((n + 1) % 4 + 1)), term m c (row ⟨n + 1, h⟩ a) (col ⟨n + 1, h⟩ b) p := fun s hs => by
      dsimp only at h0 ⊢
      have er : row ⟨n + 1, h⟩ a = row ⟨n, Nat.lt_of_succ_lt h⟩ a := Fin.ext (by show 1280 * ((n + 1) / 8) + a.val = 1280 * (n / 8) + a.val; omega)
      have ec : col ⟨n + 1, h⟩ b = col ⟨n, Nat.lt_of_succ_lt h⟩ b := Fin.ext (by show 1024 * ((n + 1) / 4 % 2) + b.val = 1024 * (n / 4 % 2) + b.val; omega)
      rw [hs, ih, er, ec, show 1024 * ((n + 1) % 4 + 1) = 1024 * (n % 4 + 1) + 1024 from by omega, Finset.sum_range_add]
      refine congrArg _ (Finset.sum_congr rfl fun p _ => congrArg _ ?_)
      omega
    by_cases h1 : (⟨n + 1, h⟩ : Fin cfg0.N).val % 4 = 3
    · rw [outsAt0_C m c ⟨n + 1, h⟩ h0 h1]
      dsimp only
      rw [held_C, adds]
      exact step _ rfl
    · rw [outsAt0_B m c ⟨n + 1, h⟩ h0 h1]
      dsimp only
      rw [held_B, adds]
      exact step _ rfl

theorem sent (c : Dev nD) (t : Fin cfg0.N) (hf : t.val % 4 = 3) (a : Fin 1280) (b : Fin 1024) :
    (outsAt0 m c t.val t.isLt).1 (ix2 a b) = whole m c (ix2 (row t a) (col t b)) := by
  have h0 : ¬t.val % 4 = 0 := by omega
  have e := sums m c a b t.val t.isLt
  rw [outsAt0_C m c t h0 hf] at e ⊢
  dsimp only at e ⊢
  rw [held_C] at e
  have p : ∀ s : Vec Ideal S1280x1024 .f32, k0_pay3 s (ix2 a b) = s (ix2 a b) := fun s => by pointwise [k0_pay3]
  rw [sent_C, p, e, hf, whole, product_at]

theorem written (c : Dev nD) (t : Fin cfg0.N) (hf : (cfg0.win 2).flush t = true) : (dats m 0 c).flushed 2 t = ((cfg0.win 2).blk t).view.read (Elt Ideal) (whole m c : Vec Ideal S6400x2048 .bf16) := by
  rw [Value.flushed2]
  funext j
  have e : ((cfg0.win 2).blk t).view.emb j = ix2 (row t (j 0)) (col t (j 1)) := by
    funext d; apply Fin.ext
    match d with
    | ⟨0, _⟩ =>
      show win0_2.index t (0 : Fin 2) * 1280 + 1 * (j 0).val = 1280 * (t.val / 8) + (j 0).val
      rw [(place2 t).1]; omega
    | ⟨1, _⟩ =>
      show win0_2.index t (1 : Fin 2) * 1024 + 1 * (j 1).val = 1024 * (t.val / 4 % 2) + (j 1).val
      rw [(place2 t).2]; omega
  show (outsAt0 m c t.val t.isLt).1 j = whole m c (((cfg0.win 2).blk t).view.emb j)
  rw [e, eq_ix2 j]
  exact sent m c t ((flush0_2 t).mp hf) (j 0) (j 1)

theorem final (c : Dev nD) : (dats m 0 c).arrAt 2 cfg0.N = (whole m c : Vec Ideal S6400x2048 .bf16) :=
  (dats m 0 c).arrAt_eq_of_cover 2 _ (written m c) covered

end Cert.MulDwInIdeal.Whole

end
-- ==== Proof.MulDwOutValue.lean ====
/- # The partial gradient of the output's weights, block by block

   The product is added up over the blocks of its inner axis in an array that stays on the core; after the last of them the
   entry is the whole sum, and it is written then. -/
module

public import Idealize.ShloMosaic.Lib.Tactic
public import Idealize.ShloMosaic.Lib.Pointwise
public import Idealize.ShloMosaic.Lib.IdealHost
public import proofs.«01_k».proof.Proof.Gen.MulDwOutIdeal.Value
public import proofs.«01_k».proof.Proof.Gen.MulDwOutRefIdeal

@[expose] public section

noncomputable section

namespace Cert.MulDwOutIdeal.Whole

open Cert.MulDwOutIdeal Cert.MulDwOutIdeal.Gen Idealize.ShloMosaic Idealize.ShloMosaic.TcCoe Idealize.SL.Sem

theorem hz : (![0, 0] : Fin 2 → ℕ) = fun _ => 0 := funext fun a => by fin_cases a <;> rfl

theorem held_A (c : Dev nD) (i : grid0.Coords) (a1 : Memref sig .tc .vmem S512x1024 .bf16) (h1 : a1.IsWhole) (a2 : Memref sig .tc .vmem S512x2048 .bf16) (h2 : a2.IsWhole) (a3 : Memref sig .tc .vmem S1024x2048 .bf16) (h3 : a3.IsWhole) (a4 : Memref sig .tc .vmem S1024x2048 .f32) (h4 : a4.IsWhole) (hc : cond0_0 i) (hd : ¬cond0_1 i)
    (x : Vec Ideal S512x1024 .bf16) (y : Vec Ideal S512x2048 .bf16) :
    sout0_A_0 c i a1 h1 a2 h2 a3 h3 a4 h4 hc hd x y = k0_pay2 (k0_pay1 (F := Ideal)) x y := by
  unfold sout0_A_0
  rw [View.read_writes_eq_canon _ _ _ (scover0_A_0 c i a1 h1 a2 h2 a3 h3 a4 h4 hc hd x y)]
  unfold kernelRun0_A
  dsimp only
  sl_unfold_words
  rw [View.canon_cons_unit_zero (S := S1024x2048) hz, View.readCov_unit_zero (S := S1024x2048) _ hz]
  simp only [View.readAt_eq_ld, h1.read_unread, h2.read_unread, h4.read_unread, View.ld_unit_zero (S := S1024x2048) hz, View.ld_unit_zero (S := S512x1024) hz, View.ld_unit_zero (S := S512x2048) hz, shapeCast_self]

theorem held_B (c : Dev nD) (i : grid0.Coords) (a1 : Memref sig .tc .vmem S512x1024 .bf16) (h1 : a1.IsWhole) (a2 : Memref sig .tc .vmem S512x2048 .bf16) (h2 : a2.IsWhole) (a3 : Memref sig .tc .vmem S1024x2048 .bf16) (h3 : a3.IsWhole) (a4 : Memref sig .tc .vmem S1024x2048 .f32) (h4 : a4.IsWhole) (hc : ¬cond0_0 i) (hd : ¬cond0_1 i)
    (x : Vec Ideal S512x1024 .bf16) (y : Vec Ideal S512x2048 .bf16) (s : Vec Ideal S1024x2048 .f32) :
    sout0_B_0 c i a1 h1 a2 h2 a3 h3 a4 h4 hc hd x y s = k0_pay2 s x y := by
  unfold sout0_B_0
  rw [View.read_writes_eq_canon _ _ _ (scover0_B_0 c i a1 h1 a2 h2 a3 h3 a4 h4 hc hd x y s)]
  unfold kernelRun0_B
  dsimp only
  sl_unfold_words
  rw [View.canon_unit_zero hz]
  simp only [View.readAt_eq_ld, h1.read_unread, h2.read_unread, h4.read_unread, View.ld_unit_zero (S := S1024x2048) hz, View.ld_unit_zero (S := S512x1024) hz, View.ld_unit_zero (S := S512x2048) hz, shapeCast_self]

theorem held_C (c : Dev nD) (i : grid0.Coords) (a1 : Memref sig .tc .vmem S512x1024 .bf16) (h1 : a1.IsWhole) (a2 : Memref sig .tc .vmem S512x2048 .bf16) (h2 : a2.IsWhole) (a3 : Memref sig .tc .vmem S1024x2048 .bf16) (h3 : a3.IsWhole) (a4 : Memref sig .tc .vmem S1024x2048 .f32) (h4 : a4.IsWhole) (hc : ¬cond0_0 i) (hd : cond0_1 i)
    (x : Vec Ideal S512x1024 .bf16) (y : Vec Ideal S512x2048 .bf16) (s : Vec Ideal S1024x2048 .f32) :
    sout0_C_0 c i a1 h1 a2 h2 a3 h3 a4 h4 hc hd x y s = k0_pay2 s x y := by
  unfold sout0_C_0
  rw [View.read_writes_eq_canon _ _ _ (scover0_C_0 c i a1 h1 a2 h2 a3 h3 a4 h4 hc hd x y s)]
  unfold kernelRun0_C
  dsimp only
  sl_unfold_words
  rw [View.canon_unit_zero hz]
  simp only [View.readAt_eq_ld, h1.read_unread, h2.read_unread, h4.read_unread, View.ld_unit_zero (S := S1024x2048) hz, View.ld_unit_zero (S := S512x1024) hz, View.ld_unit_zero (S := S512x2048) hz, shapeCast_self]

theorem sent_C (c : Dev nD) (i : grid0.Coords) (a1 : Memref sig .tc .vmem S512x1024 .bf16) (h1 : a1.IsWhole) (a2 : Memref sig .tc .vmem S512x2048 .bf16) (h2 : a2.IsWhole) (a3 : Memref sig .tc .vmem S1024x2048 .bf16) (h3 : a3.IsWhole) (a4 : Memref sig .tc .vmem S1024x2048 .f32) (h4 : a4.IsWhole) (hc : ¬cond0_0 i) (hd : cond0_1 i)
    (x : Vec Ideal S512x1024 .bf16) (y : Vec Ideal S512x2048 .bf16) (s : Vec Ideal S1024x2048 .f32) :
    out0_C_2 c i a1 h1 a2 h2 a3 h3 a4 h4 hc hd x y s = k0_pay3 (k0_pay2 s x y) := by
  unfold out0_C_2
  rw [View.read_writes_eq_canon _ _ _ (cover0_C_2 c i a1 h1 a2 h2 a3 h3 a4 h4 hc hd x y s)]
  unfold kernelRun0_C
  dsimp only
  sl_unfold_words
  rw [View.canon_unit_zero hz]
  simp only [View.readCov_unit_zero (S := S1024x2048) _ hz]
  simp only [View.readAt_eq_ld, h1.read_unread, h2.read_unread, h4.read_unread, View.ld_unit_zero (S := S1024x2048) hz, View.ld_unit_zero (S := S512x1024) hz, View.ld_unit_zero (S := S512x2048) hz, shapeCast_self]

/-- The row of the whole at row `a` of the block at point `t`. -/
def row (t : Fin cfg0.N) (a : Fin 1024) : Fin 2048 := ⟨1024 * (t.val / 8) + a.val, by have := t.isLt; have h : cfg0.N = 16 := N_0; omega⟩

/-- The column of the whole at column `b` of the block at point `t`. -/
def col (t : Fin cfg0.N) (b : Fin 2048) : Fin 2048 := ⟨2048 * (t.val / 8 % 1) + b.val, by have := t.isLt; have h : cfg0.N = 16 := N_0; omega⟩

/-- The place on the inner axis at place `k` of the block at point `t`. -/
def dep (t : Fin cfg0.N) (k : Fin 512) : Fin 4096 := ⟨512 * (t.val % 8) + k.val, by omega⟩

theorem place0 : ∀ t : Fin cfg0.N, win0_0.index t (0 : Fin 2) = t.val % 8 ∧ win0_0.index t (1 : Fin 2) = t.val / 8 :=
  (by decide +kernel : ∀ t : Fin grid0.N, _)

theorem place1 : ∀ t : Fin cfg0.N, win0_1.index t (0 : Fin 2) = t.val % 8 ∧ win0_1.index t (1 : Fin 2) = t.val / 8 % 1 :=
  (by decide +kernel : ∀ t : Fin grid0.N, _)

theorem place2 : ∀ t : Fin cfg0.N, win0_2.index t (0 : Fin 2) = t.val / 8 ∧ win0_2.index t (1 : Fin 2) = t.val / 8 % 1 :=
  (by decide +kernel : ∀ t : Fin grid0.N, _)

theorem covered (i : S2048x2048.Idx) : ∃ t : Fin cfg0.N, (cfg0.win 2).flush t = true ∧ i ∈ ((cfg0.win 2).blk t).view.set := by
  have i0 : (i 0 : ℕ) < 2048 := (i 0).isLt
  have i1 : (i 1 : ℕ) < 2048 := (i 1).isLt
  have hN : cfg0.N = 16 := N_0
  obtain ⟨t, ht⟩ : ∃ t : Fin cfg0.N, t.val = 8 * ((i 0 : ℕ) / 1024) + 8 * ((i 1 : ℕ) / 2048) + 7 := ⟨⟨8 * ((i 0 : ℕ) / 1024) + 8 * ((i 1 : ℕ) / 2048) + 7, by omega⟩, rfl⟩
  have at_ := place2 t
  refine ⟨t, (flush0_2 t).mpr (by rw [ht]; omega), ?_⟩
  show i ∈ ((View.whole main_v0).slice (win0_2.rect t)).set
  rw [View.set_slice_whole, Rect.mem_set_unit]
  intro a
  match a with
  | ⟨0, _⟩ =>
    show win0_2.index t (0 : Fin 2) * 1024 ≤ (i 0 : ℕ) ∧ (i 0 : ℕ) < win0_2.index t (0 : Fin 2) * 1024 + 1024
    rw [at_.1, ht]
    omega
  | ⟨1, _⟩ =>
    show win0_2.index t (1 : Fin 2) * 2048 ≤ (i 1 : ℕ) ∧ (i 1 : ℕ) < win0_2.index t (1 : Fin 2) * 2048 + 2048
    rw [at_.2, ht]
    omega

variable (m : (ℓ : Loc nD τ sig) → Buf (Elt Ideal) ℓ)

theorem block0 (c : Dev nD) (t : Fin cfg0.N) (k : Fin 512) (a : Fin 1024) : (iblk m c 0 t : Vec Ideal S512x1024 .bf16) (ix2 k a) = (V m c main_arg0 : Vec Ideal S4096x2048 .bf16) (ix2 (dep t k) (row t a)) := by
  have e := place0 t
  refine congrArg (V m c main_arg0 : Vec Ideal S4096x2048 .bf16) ?_
  funext d; apply Fin.ext
  match d with
  | ⟨0, _⟩ =>
    show win0_0.index t (0 : Fin 2) * 512 + 1 * k.val = 512 * (t.val % 8) + k.val
    rw [e.1]; omega
  | ⟨1, _⟩ =>
    show win0_0.index t (1 : Fin 2) * 1024 + 1 * a.val = 1024 * (t.val / 8) + a.val
    rw [e.2]; omega

theorem block1 (c : Dev nD) (t : Fin cfg0.N) (k : Fin 512) (b : Fin 2048) : (iblk m c 1 t : Vec Ideal S512x2048 .bf16) (ix2 k b) = (V m c main_arg1 : Vec Ideal S4096x2048 .bf16) (ix2 (dep t k) (col t b)) := by
  have e := place1 t
  refine congrArg (V m c main_arg1 : Vec Ideal S4096x2048 .bf16) ?_
  funext d; apply Fin.ext
  match d with
  | ⟨0, _⟩ =>
    show win0_1.index t (0 : Fin 2) * 512 + 1 * k.val = 512 * (t.val % 8) + k.val
    rw [e.1]; omega
  | ⟨1, _⟩ =>
    show win0_1.index t (1 : Fin 2) * 2048 + 1 * b.val = 2048 * (t.val / 8 % 1) + b.val
    rw [e.2]; omega

/-- A term of the product's sum. -/
def both (x y : EReal) : EReal := x * y

/-- The term at place `p` of the inner axis, of the entry in row `r` and column `q`. -/
def term (c : Dev nD) (r : Fin 2048) (q : Fin 2048) (p : ℕ) : EReal :=
  if h : p < 4096 then both ((V m c main_arg0 : Vec Ideal S4096x2048 .bf16) (ix2 ⟨p, h⟩ r)) ((V m c main_arg1 : Vec Ideal S4096x2048 .bf16) (ix2 ⟨p, h⟩ q)) else 0

/-- The reference's product. -/
def product (x : FVec Ideal S4096x2048 .bf16) (y : FVec Ideal S4096x2048 .bf16) : FVec Ideal S2048x2048 .f32 :=
  Host.dotGeneral Cert.MulDwOutRefIdeal.dot_S4096x2048_S4096x2048_S2048x2048_0_0_1_1_n_n none (extf .f32 x Cert.MulDwOutRefIdeal.Facts₀.bitsLt_bf16_f32) (extf .f32 y Cert.MulDwOutRefIdeal.Facts₀.bitsLt_bf16_f32)

theorem product_at (c : Dev nD) (r : Fin 2048) (q : Fin 2048) :
    product (V m c main_arg0) (V m c main_arg1) (ix2 r q) = ∑ p ∈ Finset.range 4096, term m c r q p := by
  have e : ∀ (x : FVec Ideal S4096x2048 .bf16) (y : FVec Ideal S4096x2048 .bf16), product x y (ix2 r q) = ∑ k, both (x (ix2 k r)) (y (ix2 k q)) := fun x y => by
    pointwise [product, both]
  rw [e, Finset.sum_range]
  refine Finset.sum_congr rfl fun k _ => ?_
  rw [term, dif_pos k.isLt]

theorem adds (c : Dev nD) (t : Fin cfg0.N) (s : Vec Ideal S1024x2048 .f32) (a : Fin 1024) (b : Fin 2048) :
    k0_pay2 s (iblk m c 0 t) (iblk m c 1 t) (ix2 a b) = s (ix2 a b) + ∑ p ∈ Finset.range 512, term m c (row t a) (col t b) (512 * (t.val % 8) + p) := by
  have e : k0_pay2 s (iblk m c 0 t) (iblk m c 1 t) (ix2 a b)
      = s (ix2 a b) + ∑ k, both ((iblk m c 0 t : Vec Ideal S512x1024 .bf16) (ix2 k a)) ((iblk m c 1 t : Vec Ideal S512x2048 .bf16) (ix2 k b)) := by
    pointwise [k0_pay2, both]
  rw [e, Finset.sum_range]
  refine congrArg _ (Finset.sum_congr rfl fun k _ => ?_)
  rw [block0, block1, term, dif_pos (show 512 * (t.val % 8) + k.val < 4096 from (dep t k).isLt)]
  rfl

theorem zeros (a : Fin 1024) (b : Fin 2048) : k0_pay1 (F := Ideal) (ix2 a b) = 0 := by pointwise [k0_pay1]

/-- The product, all of it. -/
abbrev whole (c : Dev nD) : Vec Ideal S2048x2048 .f32 := product (V m c main_arg0) (V m c main_arg1)

/-- What the core holds after a point: the sum over the inner axis so far. -/
theorem sums (c : Dev nD) (a : Fin 1024) (b : Fin 2048) : ∀ (n : ℕ) (h : n < cfg0.N),
    (outsAt0 m c n h).2 (ix2 a b) = ∑ p ∈ Finset.range (512 * (n % 8 + 1)), term m c (row ⟨n, h⟩ a) (col ⟨n, h⟩ b) p := by
  have first : ∀ (n : ℕ) (h : n < cfg0.N), n % 8 = 0 →
      (outsAt0 m c n h).2 (ix2 a b) = ∑ p ∈ Finset.range (512 * (n % 8 + 1)), term m c (row ⟨n, h⟩ a) (col ⟨n, h⟩ b) p := fun n h h0 => by
    rw [outsAt0_A m c ⟨n, h⟩ h0 (by dsimp only; omega)]
    dsimp only
    rw [held_A, adds, zeros, zero_add, h0]
    simp only [Nat.mul_zero, Nat.zero_add, Nat.mul_one]
  intro n
  induction n with
  | zero => exact fun h => first 0 h rfl
  | succ n ih =>
    intro h
    by_cases h0 : (⟨n + 1, h⟩ : Fin cfg0.N).val % 8 = 0
    · exact first (n + 1) h h0
    have ih := ih (Nat.lt_of_succ_lt h)
    have step : ∀ s : Vec Ideal S1024x2048 .f32, s (ix2 a b) = (outsAt0 m c n (Nat.lt_of_succ_lt h)).2 (ix2 a b) →
        s (ix2 a b) + ∑ p ∈ Finset.range 512, term m c (row ⟨n + 1, h⟩ a) (col ⟨n + 1, h⟩ b) (512 * ((⟨n + 1, h⟩ : Fin cfg0.N).val % 8) + p)
          = ∑ p ∈ Finset.range (512 * ((n + 1) % 8 + 1)), term m c (row ⟨n + 1, h⟩ a) (col ⟨n + 1, h⟩ b) p := fun s hs => by
      dsimp only at h0 ⊢
      have er : row ⟨n + 1, h⟩ a = row ⟨n, Nat.lt_of_succ_lt h⟩ a := Fin.ext (by show 1024 * ((n + 1) / 8) + a.val = 1024 * (n / 8) + a.val; omega)
      have ec : col ⟨n + 1, h⟩ b = col ⟨n, Nat.lt_of_succ_lt h⟩ b := Fin.ext (by show 2048 * ((n + 1) / 8 % 1) + b.val = 2048 * (n / 8 % 1) + b.val; omega)
      rw [hs, ih, er, ec, show 512 * ((n + 1) % 8 + 1) = 512 * (n % 8 + 1) + 512 from by omega, Finset.sum_range_add]
      refine congrArg _ (Finset.sum_congr rfl fun p _ => congrArg _ ?_)
      omega
    by_cases h1 : (⟨n + 1, h⟩ : Fin cfg0.N).val % 8 = 7
    · rw [outsAt0_C m c ⟨n + 1, h⟩ h0 h1]
      dsimp only
      rw [held_C, adds]
      exact step _ rfl
    · rw [outsAt0_B m c ⟨n + 1, h⟩ h0 h1]
      dsimp only
      rw [held_B, adds]
      exact step _ rfl

theorem sent (c : Dev nD) (t : Fin cfg0.N) (hf : t.val % 8 = 7) (a : Fin 1024) (b : Fin 2048) :
    (outsAt0 m c t.val t.isLt).1 (ix2 a b) = whole m c (ix2 (row t a) (col t b)) := by
  have h0 : ¬t.val % 8 = 0 := by omega
  have e := sums m c a b t.val t.isLt
  rw [outsAt0_C m c t h0 hf] at e ⊢
  dsimp only at e ⊢
  rw [held_C] at e
  have p : ∀ s : Vec Ideal S1024x2048 .f32, k0_pay3 s (ix2 a b) = s (ix2 a b) := fun s => by pointwise [k0_pay3]
  rw [sent_C, p, e, hf, whole, product_at]

theorem written (c : Dev nD) (t : Fin cfg0.N) (hf : (cfg0.win 2).flush t = true) : (dats m 0 c).flushed 2 t = ((cfg0.win 2).blk t).view.read (Elt Ideal) (whole m c : Vec Ideal S2048x2048 .bf16) := by
  rw [Value.flushed2]
  funext j
  have e : ((cfg0.win 2).blk t).view.emb j = ix2 (row t (j 0)) (col t (j 1)) := by
    funext d; apply Fin.ext
    match d with
    | ⟨0, _⟩ =>
      show win0_2.index t (0 : Fin 2) * 1024 + 1 * (j 0).val = 1024 * (t.val / 8) + (j 0).val
      rw [(place2 t).1]; omega
    | ⟨1, _⟩ =>
      show win0_2.index t (1 : Fin 2) * 2048 + 1 * (j 1).val = 2048 * (t.val / 8 % 1) + (j 1).val
      rw [(place2 t).2]; omega
  show (outsAt0 m c t.val t.isLt).1 j = whole m c (((cfg0.win 2).blk t).view.emb j)
  rw [e, eq_ix2 j]
  exact sent m c t ((flush0_2 t).mp hf) (j 0) (j 1)

theorem final (c : Dev nD) : (dats m 0 c).arrAt 2 cfg0.N = (whole m c : Vec Ideal S2048x2048 .bf16) :=
  (dats m 0 c).arrAt_eq_of_cover 2 _ (written m c) covered

end Cert.MulDwOutIdeal.Whole

end
-- ==== Proof.LocalProduct.lean ====
module

public import proofs.«01_k».proof.Proof.Gen.RmsFwd.Frame
public import proofs.«01_k».proof.Proof.RmsFwdValue
public import proofs.«01_k».proof.Proof.Gen.RmsFwdRefIdeal.Run
public import proofs.«01_k».proof.Proof.Gen.LayerEnd.Frame
public import proofs.«01_k».proof.Proof.LayerEndValue
public import proofs.«01_k».proof.Proof.Gen.LayerEndRefIdeal.Run
public import proofs.«01_k».proof.Proof.Gen.OutProjBwd.Frame
public import proofs.«01_k».proof.Proof.OutProjBwdValue
public import proofs.«01_k».proof.Proof.Gen.OutProjBwdRefIdeal.Run
public import proofs.«01_k».proof.Proof.Gen.MulZ.Frame
public import proofs.«01_k».proof.Proof.MulZValue
public import proofs.«01_k».proof.Proof.Gen.MulZRefIdeal.Run
public import proofs.«01_k».proof.Proof.Gen.MulDh.Frame
public import proofs.«01_k».proof.Proof.MulDhValue
public import proofs.«01_k».proof.Proof.Gen.MulDhRefIdeal.Run
public import proofs.«01_k».proof.Proof.Gen.MulDwIn.Frame
public import proofs.«01_k».proof.Proof.MulDwInValue
public import proofs.«01_k».proof.Proof.Gen.MulDwInRefIdeal.Run
public import proofs.«01_k».proof.Proof.Gen.MulDwOut.Frame
public import proofs.«01_k».proof.Proof.MulDwOutValue
public import proofs.«01_k».proof.Proof.Gen.MulDwOutRefIdeal.Run
public import proofs.«01_k».proof.Defs

@[expose] public section

noncomputable section

namespace Cert.Proof

open Idealize.ShloMosaic Idealize.SL.Sem

/-! ## The forward pass of the row normalisation -/

theorem frame_norm_fwd_kernel : Cert.quiescent_RmsFwd := fun m ρ _ => Cert.RmsFwd.Gen.frame (F := Bits) m ρ

theorem frame_norm_fwd_ideal : Cert.quiescent_RmsFwdIdeal := fun m ρ _ => Cert.RmsFwdIdeal.Gen.frame (F := Ideal) m ρ

theorem frame_norm_fwd_reference_ideal : Cert.quiescent_RmsFwdRefIdeal := fun m ρ _ =>
  (θ_run Cert.RmsFwdRefIdeal.defs _ _).mono (fun r h => ⟨fun c => (h c).2, sem_eq_zero_of_no_sems (by decide) r.2⟩) (Cert.RmsFwdRefIdeal.Value.run (F := Ideal) m ρ)

theorem algebraic_norm_fwd : Cert.algebraic_RmsFwdIdeal_RmsFwdRefIdeal := fun m ρ m' ρ' _ hm => by
  refine ⟨_, (θ_run Cert.RmsFwdIdeal.defs _ _).mono (fun r h c => h c) (Cert.RmsFwdIdeal.Value.run_blocks (F := Ideal) m ρ),
    (θ_run Cert.RmsFwdRefIdeal.defs _ _).mono (fun r h c => ?_) (Cert.RmsFwdRefIdeal.Value.run (F := Ideal) m' ρ')⟩
  obtain ⟨e0, rest⟩ := h c
  obtain ⟨h0, h1⟩ := hm c
  rw [h0, h1] at e0
  exact ⟨e0.trans (Cert.RmsFwdIdeal.Whole.whole2 m c).symm, rest⟩

/-! ## The projection at a layer's end -/

theorem frame_end_kernel : Cert.quiescent_LayerEnd := fun m ρ _ => Cert.LayerEnd.Gen.frame (F := Bits) m ρ

theorem frame_end_ideal : Cert.quiescent_LayerEndIdeal := fun m ρ _ => Cert.LayerEndIdeal.Gen.frame (F := Ideal) m ρ

theorem frame_end_reference_ideal : Cert.quiescent_LayerEndRefIdeal := fun m ρ _ =>
  (θ_run Cert.LayerEndRefIdeal.defs _ _).mono (fun r h => ⟨fun c => (h c).2.2, sem_eq_zero_of_no_sems (by decide) r.2⟩) (Cert.LayerEndRefIdeal.Value.run (F := Ideal) m ρ)

theorem algebraic_end : Cert.algebraic_LayerEndIdeal_LayerEndRefIdeal := fun m ρ m' ρ' _ hm => by
  refine ⟨_, _, (θ_run Cert.LayerEndIdeal.defs _ _).mono (fun r h c => h c) (Cert.LayerEndIdeal.Value.run_blocks (F := Ideal) m ρ),
    (θ_run Cert.LayerEndRefIdeal.defs _ _).mono (fun r h c => ?_) (Cert.LayerEndRefIdeal.Value.run (F := Ideal) m' ρ')⟩
  obtain ⟨e0, e1, rest⟩ := h c
  obtain ⟨h0, h1, h2, h3, h4, h5, h6⟩ := hm c
  rw [h0, h1, h2, h3, h4] at e0
  rw [h0, h1, h2, h3, h4, h5, h6] at e1
  exact ⟨e0.trans (Cert.LayerEndIdeal.Whole.whole10 m c).symm, e1.trans (Cert.LayerEndIdeal.Whole.whole11 m c).symm, rest⟩

/-! ## The gradient through the projection's gates -/

theorem frame_gates_kernel : Cert.quiescent_OutProjBwd := fun m ρ _ => Cert.OutProjBwd.Gen.frame (F := Bits) m ρ

theorem frame_gates_ideal : Cert.quiescent_OutProjBwdIdeal := fun m ρ _ => Cert.OutProjBwdIdeal.Gen.frame (F := Ideal) m ρ

theorem frame_gates_reference_ideal : Cert.quiescent_OutProjBwdRefIdeal := fun m ρ _ =>
  (θ_run Cert.OutProjBwdRefIdeal.defs _ _).mono (fun r h => ⟨fun c => (h c).2.2.2.2.2.2.2.2, sem_eq_zero_of_no_sems (by decide) r.2⟩) (Cert.OutProjBwdRefIdeal.Value.run (F := Ideal) m ρ)

theorem algebraic_gates : Cert.algebraic_OutProjBwdIdeal_OutProjBwdRefIdeal := fun m ρ m' ρ' _ hm => by
  refine ⟨_, _, _, _, _, _, _, _, (θ_run Cert.OutProjBwdIdeal.defs _ _).mono (fun r h c => h c) (Cert.OutProjBwdIdeal.Value.run_blocks (F := Ideal) m ρ),
    (θ_run Cert.OutProjBwdRefIdeal.defs _ _).mono (fun r h c => ?_) (Cert.OutProjBwdRefIdeal.Value.run (F := Ideal) m' ρ')⟩
  obtain ⟨e0, e1, e2, e3, e4, e5, e6, e7, rest⟩ := h c
  obtain ⟨h0, h1, h2, h3, h4, h5, h6⟩ := hm c
  rw [h0, h1, h6] at e0
  rw [h0, h1, h6] at e1
  rw [h0, h1, h6] at e2
  rw [h0, h1, h6] at e3
  rw [h0, h1, h2, h6] at e4
  rw [h0, h1, h3, h6] at e5
  rw [h0, h1, h4, h6] at e6
  rw [h0, h1, h5, h6] at e7
  exact ⟨e0.trans (Cert.OutProjBwdIdeal.Whole.whole10 m c).symm, e1.trans (Cert.OutProjBwdIdeal.Whole.whole11 m c).symm, e2.trans (Cert.OutProjBwdIdeal.Whole.whole12 m c).symm, e3.trans (Cert.OutProjBwdIdeal.Whole.whole13 m c).symm, e4.trans (Cert.OutProjBwdIdeal.Whole.whole14 m c).symm, e5.trans (Cert.OutProjBwdIdeal.Whole.whole15 m c).symm, e6.trans (Cert.OutProjBwdIdeal.Whole.whole16 m c).symm, e7.trans (Cert.OutProjBwdIdeal.Whole.whole17 m c).symm, rest⟩

/-! ## The projection by the input's weights -/

theorem frame_mul_z_kernel : Cert.quiescent_MulZ := fun m ρ _ => Cert.MulZ.Gen.frame (F := Bits) m ρ

theorem frame_mul_z_ideal : Cert.quiescent_MulZIdeal := fun m ρ _ => Cert.MulZIdeal.Gen.frame (F := Ideal) m ρ

theorem frame_mul_z_reference_ideal : Cert.quiescent_MulZRefIdeal := fun m ρ _ =>
  (θ_run Cert.MulZRefIdeal.defs _ _).mono (fun r h => ⟨fun c => (h c).2, sem_eq_zero_of_no_sems (by decide) r.2⟩) (Cert.MulZRefIdeal.Value.run (F := Ideal) m ρ)

theorem algebraic_mul_z : Cert.algebraic_MulZIdeal_MulZRefIdeal := fun m ρ m' ρ' _ hm => by
  refine ⟨_, (θ_run Cert.MulZIdeal.defs _ _).mono (fun r h c => h c) (Cert.MulZIdeal.Value.run_blocks (F := Ideal) m ρ),
    (θ_run Cert.MulZRefIdeal.defs _ _).mono (fun r h c => ?_) (Cert.MulZRefIdeal.Value.run (F := Ideal) m' ρ')⟩
  obtain ⟨e0, rest⟩ := h c
  obtain ⟨h0, h1⟩ := hm c
  rw [h0, h1] at e0
  exact ⟨e0.trans (Cert.MulZIdeal.Whole.final m c).symm, rest⟩

/-! ## The gradient of the normalised rows -/

theorem frame_mul_dh_kernel : Cert.quiescent_MulDh := fun m ρ _ => Cert.MulDh.Gen.frame (F := Bits) m ρ

theorem frame_mul_dh_ideal : Cert.quiescent_MulDhIdeal := fun m ρ _ => Cert.MulDhIdeal.Gen.frame (F := Ideal) m ρ

theorem frame_mul_dh_reference_ideal : Cert.quiescent_MulDhRefIdeal := fun m ρ _ =>
  (θ_run Cert.MulDhRefIdeal.defs _ _).mono (fun r h => ⟨fun c => (h c).2, sem_eq_zero_of_no_sems (by decide) r.2⟩) (Cert.MulDhRefIdeal.Value.run (F := Ideal) m ρ)

theorem algebraic_mul_dh : Cert.algebraic_MulDhIdeal_MulDhRefIdeal := fun m ρ m' ρ' _ hm => by
  refine ⟨_, (θ_run Cert.MulDhIdeal.defs _ _).mono (fun r h c => h c) (Cert.MulDhIdeal.Value.run_blocks (F := Ideal) m ρ),
    (θ_run Cert.MulDhRefIdeal.defs _ _).mono (fun r h c => ?_) (Cert.MulDhRefIdeal.Value.run (F := Ideal) m' ρ')⟩
  obtain ⟨e0, rest⟩ := h c
  obtain ⟨h0, h1⟩ := hm c
  rw [h0, h1] at e0
  exact ⟨e0.trans (Cert.MulDhIdeal.Whole.final m c).symm, rest⟩

/-! ## The partial gradient of the input's weights -/

theorem frame_mul_dw_in_kernel : Cert.quiescent_MulDwIn := fun m ρ _ => Cert.MulDwIn.Gen.frame (F := Bits) m ρ

theorem frame_mul_dw_in_ideal : Cert.quiescent_MulDwInIdeal := fun m ρ _ => Cert.MulDwInIdeal.Gen.frame (F := Ideal) m ρ

theorem frame_mul_dw_in_reference_ideal : Cert.quiescent_MulDwInRefIdeal := fun m ρ _ =>
  (θ_run Cert.MulDwInRefIdeal.defs _ _).mono (fun r h => ⟨fun c => (h c).2, sem_eq_zero_of_no_sems (by decide) r.2⟩) (Cert.MulDwInRefIdeal.Value.run (F := Ideal) m ρ)

theorem algebraic_mul_dw_in : Cert.algebraic_MulDwInIdeal_MulDwInRefIdeal := fun m ρ m' ρ' _ hm => by
  refine ⟨_, (θ_run Cert.MulDwInIdeal.defs _ _).mono (fun r h c => h c) (Cert.MulDwInIdeal.Value.run_blocks (F := Ideal) m ρ),
    (θ_run Cert.MulDwInRefIdeal.defs _ _).mono (fun r h c => ?_) (Cert.MulDwInRefIdeal.Value.run (F := Ideal) m' ρ')⟩
  obtain ⟨e0, rest⟩ := h c
  obtain ⟨h0, h1⟩ := hm c
  rw [h0, h1] at e0
  exact ⟨e0.trans (Cert.MulDwInIdeal.Whole.final m c).symm, rest⟩

/-! ## The partial gradient of the output's weights -/

theorem frame_mul_dw_out_kernel : Cert.quiescent_MulDwOut := fun m ρ _ => Cert.MulDwOut.Gen.frame (F := Bits) m ρ

theorem frame_mul_dw_out_ideal : Cert.quiescent_MulDwOutIdeal := fun m ρ _ => Cert.MulDwOutIdeal.Gen.frame (F := Ideal) m ρ

theorem frame_mul_dw_out_reference_ideal : Cert.quiescent_MulDwOutRefIdeal := fun m ρ _ =>
  (θ_run Cert.MulDwOutRefIdeal.defs _ _).mono (fun r h => ⟨fun c => (h c).2, sem_eq_zero_of_no_sems (by decide) r.2⟩) (Cert.MulDwOutRefIdeal.Value.run (F := Ideal) m ρ)

theorem algebraic_mul_dw_out : Cert.algebraic_MulDwOutIdeal_MulDwOutRefIdeal := fun m ρ m' ρ' _ hm => by
  refine ⟨_, (θ_run Cert.MulDwOutIdeal.defs _ _).mono (fun r h c => h c) (Cert.MulDwOutIdeal.Value.run_blocks (F := Ideal) m ρ),
    (θ_run Cert.MulDwOutRefIdeal.defs _ _).mono (fun r h c => ?_) (Cert.MulDwOutRefIdeal.Value.run (F := Ideal) m' ρ')⟩
  obtain ⟨e0, rest⟩ := h c
  obtain ⟨h0, h1⟩ := hm c
  rw [h0, h1] at e0
  exact ⟨e0.trans (Cert.MulDwOutIdeal.Whole.final m c).symm, rest⟩

end Cert.Proof

end
-- ==== Proof.AdamInValue.lean ====
/- # The update of the input projections, from blocks to whole arrays

   Each block of the kernel's grid is read back as what its stores leave, and the blocks are set together to whole arrays:
   the gradient of both layers, the two moments and the change of the weight, as functions of the arguments. -/
module

public import proofs.«01_k».proof.Proof.Step
public import proofs.«01_k».proof.Proof.Gen.AdamInIdeal.Value

@[expose] public section

noncomputable section

namespace Cert.AdamInIdeal.Whole

open Cert.AdamInIdeal Cert.AdamInIdeal.Gen Cert.Step Idealize.ShloMosaic Idealize.ShloMosaic.TcCoe Idealize.SL.Sem

variable {F : FTy → Type} [FloatOps F]

theorem corner : (![0, 0] : Fin 2 → Nat) = fun _ => 0 := funext fun a => by fin_cases a <;> rfl

/-- The one index of the array that holds the core's number. -/
def only : S1.Idx := fun | ⟨0, _⟩ => (0 : Fin 1)

theorem left6 (c : Dev nD) (i : grid0.Coords) (a2 : Memref sig .tc .smem S1 .i32) (h2 : a2.IsWhole) (a3 : Memref sig .tc .vmem S1544x256 .f32) (h3 : a3.IsWhole) (a4 : Memref sig .tc .vmem S1544x256 .f32) (h4 : a4.IsWhole) (a5 : Memref sig .tc .vmem S1544x256 .f32) (h5 : a5.IsWhole) (a6 : Memref sig .tc .vmem S1544x256 .f32) (h6 : a6.IsWhole) (a7 : Memref sig .tc .vmem S1544x256 .f32) (h7 : a7.IsWhole) (a8 : Memref sig .tc .vmem S1544x256 .f32) (h8 : a8.IsWhole) (a9 : Memref sig .tc .vmem S1544x256 .f32) (h9 : a9.IsWhole) (a10 : Memref sig .tc .vmem S1544x256 .f32) (h10 : a10.IsWhole) (a11 : Memref sig .tc .vmem S1544x256 .f32) (h11 : a11.IsWhole) (x0 : Vec F S1 .i32) (x1 x2 x3 x4 x5 : Vec F S1544x256 .f32) :
    out0_A_6 c i a2 h2 a3 h3 a4 h4 a5 h5 a6 h6 a7 h7 a8 h8 a9 h9 a10 h10 a11 h11 x0 x1 x2 x3 x4 x5 = k0_pay2 i (x0 only) x2 x3 := by
  unfold out0_A_6
  rw [View.read_writes_eq_canon _ _ _ (cover0_A_6 c i a2 h2 a3 h3 a4 h4 a5 h5 a6 h6 a7 h7 a8 h8 a9 h9 a10 h10 a11 h11 x0 x1 x2 x3 x4 x5)]
  unfold kernelRun0_A
  dsimp only
  sl_unfold_words
  rw [View.canon_unit_zero corner]
  simp only [View.readAt_eq_ld, h2.read_unread, h3.read_unread, h4.read_unread, h5.read_unread, h6.read_unread, h7.read_unread, View.ld_unit_zero (S := S1544x256) corner, shapeCast_self]
  rw [show View.ld x0 (Rect.unit ![0] ![1] inb_S1_S1_0) = x0 from View.ld_unit_zero (S := S1) (funext fun a => by fin_cases a; rfl) _ x0]
  rw [one_index (Shape.Idx.first _) only]

theorem left7 (c : Dev nD) (i : grid0.Coords) (a2 : Memref sig .tc .smem S1 .i32) (h2 : a2.IsWhole) (a3 : Memref sig .tc .vmem S1544x256 .f32) (h3 : a3.IsWhole) (a4 : Memref sig .tc .vmem S1544x256 .f32) (h4 : a4.IsWhole) (a5 : Memref sig .tc .vmem S1544x256 .f32) (h5 : a5.IsWhole) (a6 : Memref sig .tc .vmem S1544x256 .f32) (h6 : a6.IsWhole) (a7 : Memref sig .tc .vmem S1544x256 .f32) (h7 : a7.IsWhole) (a8 : Memref sig .tc .vmem S1544x256 .f32) (h8 : a8.IsWhole) (a9 : Memref sig .tc .vmem S1544x256 .f32) (h9 : a9.IsWhole) (a10 : Memref sig .tc .vmem S1544x256 .f32) (h10 : a10.IsWhole) (a11 : Memref sig .tc .vmem S1544x256 .f32) (h11 : a11.IsWhole) (x0 : Vec F S1 .i32) (x1 x2 x3 x4 x5 : Vec F S1544x256 .f32) :
    out0_A_7 c i a2 h2 a3 h3 a4 h4 a5 h5 a6 h6 a7 h7 a8 h8 a9 h9 a10 h10 a11 h11 x0 x1 x2 x3 x4 x5 = change x1 (moment (k0_pay2 i (x0 only) x2 x3) x4) (square (k0_pay2 i (x0 only) x2 x3) x5) := by
  unfold out0_A_7
  rw [View.read_writes_eq_canon _ _ _ (cover0_A_7 c i a2 h2 a3 h3 a4 h4 a5 h5 a6 h6 a7 h7 a8 h8 a9 h9 a10 h10 a11 h11 x0 x1 x2 x3 x4 x5)]
  unfold kernelRun0_A
  dsimp only
  sl_unfold_words
  rw [View.canon_unit_zero corner]
  simp only [View.readAt_eq_ld, h2.read_unread, h3.read_unread, h4.read_unread, h5.read_unread, h6.read_unread, h7.read_unread, View.ld_unit_zero (S := S1544x256) corner, shapeCast_self]
  rw [show View.ld x0 (Rect.unit ![0] ![1] inb_S1_S1_0) = x0 from View.ld_unit_zero (S := S1) (funext fun a => by fin_cases a; rfl) _ x0]
  rw [one_index (Shape.Idx.first _) only]
  rfl

theorem left8 (c : Dev nD) (i : grid0.Coords) (a2 : Memref sig .tc .smem S1 .i32) (h2 : a2.IsWhole) (a3 : Memref sig .tc .vmem S1544x256 .f32) (h3 : a3.IsWhole) (a4 : Memref sig .tc .vmem S1544x256 .f32) (h4 : a4.IsWhole) (a5 : Memref sig .tc .vmem S1544x256 .f32) (h5 : a5.IsWhole) (a6 : Memref sig .tc .vmem S1544x256 .f32) (h6 : a6.IsWhole) (a7 : Memref sig .tc .vmem S1544x256 .f32) (h7 : a7.IsWhole) (a8 : Memref sig .tc .vmem S1544x256 .f32) (h8 : a8.IsWhole) (a9 : Memref sig .tc .vmem S1544x256 .f32) (h9 : a9.IsWhole) (a10 : Memref sig .tc .vmem S1544x256 .f32) (h10 : a10.IsWhole) (a11 : Memref sig .tc .vmem S1544x256 .f32) (h11 : a11.IsWhole) (x0 : Vec F S1 .i32) (x1 x2 x3 x4 x5 : Vec F S1544x256 .f32) :
    out0_A_8 c i a2 h2 a3 h3 a4 h4 a5 h5 a6 h6 a7 h7 a8 h8 a9 h9 a10 h10 a11 h11 x0 x1 x2 x3 x4 x5 = moment (k0_pay2 i (x0 only) x2 x3) x4 := by
  unfold out0_A_8
  rw [View.read_writes_eq_canon _ _ _ (cover0_A_8 c i a2 h2 a3 h3 a4 h4 a5 h5 a6 h6 a7 h7 a8 h8 a9 h9 a10 h10 a11 h11 x0 x1 x2 x3 x4 x5)]
  unfold kernelRun0_A
  dsimp only
  sl_unfold_words
  rw [View.canon_unit_zero corner]
  simp only [View.readAt_eq_ld, h2.read_unread, h3.read_unread, h4.read_unread, h5.read_unread, h6.read_unread, h7.read_unread, View.ld_unit_zero (S := S1544x256) corner, shapeCast_self]
  rw [show View.ld x0 (Rect.unit ![0] ![1] inb_S1_S1_0) = x0 from View.ld_unit_zero (S := S1) (funext fun a => by fin_cases a; rfl) _ x0]
  rw [one_index (Shape.Idx.first _) only]
  rfl

theorem left9 (c : Dev nD) (i : grid0.Coords) (a2 : Memref sig .tc .smem S1 .i32) (h2 : a2.IsWhole) (a3 : Memref sig .tc .vmem S1544x256 .f32) (h3 : a3.IsWhole) (a4 : Memref sig .tc .vmem S1544x256 .f32) (h4 : a4.IsWhole) (a5 : Memref sig .tc .vmem S1544x256 .f32) (h5 : a5.IsWhole) (a6 : Memref sig .tc .vmem S1544x256 .f32) (h6 : a6.IsWhole) (a7 : Memref sig .tc .vmem S1544x256 .f32) (h7 : a7.IsWhole) (a8 : Memref sig .tc .vmem S1544x256 .f32) (h8 : a8.IsWhole) (a9 : Memref sig .tc .vmem S1544x256 .f32) (h9 : a9.IsWhole) (a10 : Memref sig .tc .vmem S1544x256 .f32) (h10 : a10.IsWhole) (a11 : Memref sig .tc .vmem S1544x256 .f32) (h11 : a11.IsWhole) (x0 : Vec F S1 .i32) (x1 x2 x3 x4 x5 : Vec F S1544x256 .f32) :
    out0_A_9 c i a2 h2 a3 h3 a4 h4 a5 h5 a6 h6 a7 h7 a8 h8 a9 h9 a10 h10 a11 h11 x0 x1 x2 x3 x4 x5 = square (k0_pay2 i (x0 only) x2 x3) x5 := by
  unfold out0_A_9
  rw [View.read_writes_eq_canon _ _ _ (cover0_A_9 c i a2 h2 a3 h3 a4 h4 a5 h5 a6 h6 a7 h7 a8 h8 a9 h9 a10 h10 a11 h11 x0 x1 x2 x3 x4 x5)]
  unfold kernelRun0_A
  dsimp only
  sl_unfold_words
  rw [View.canon_unit_zero corner]
  simp only [View.readAt_eq_ld, h2.read_unread, h3.read_unread, h4.read_unread, h5.read_unread, h6.read_unread, h7.read_unread, View.ld_unit_zero (S := S1544x256) corner, shapeCast_self]
  rw [show View.ld x0 (Rect.unit ![0] ![1] inb_S1_S1_0) = x0 from View.ld_unit_zero (S := S1) (funext fun a => by fin_cases a; rfl) _ x0]
  rw [one_index (Shape.Idx.first _) only]
  rfl

/-- The number of the layer a row of blocks belongs to, as the kernel computes it. -/
def layer (i : grid0.Coords) : BitVec 32 :=
  let a : BitVec 32 := BitVec.ofNat 32 (i 0).val
  let sign (x : BitVec 32) : BitVec 32 := Scalar.subi (Scalar.extui (Scalar.cmpi .sgt x 0#32)) (Scalar.extui (Scalar.cmpi .slt x 0#32))
  Scalar.select (Scalar.andi (Scalar.cmpi .ne (sign a) (sign 1#32)) (Scalar.cmpi .ne (Scalar.remsi a 1#32) 0#32))
    (Scalar.subi (Scalar.divsi a 1#32) 1#32) (Scalar.divsi a 1#32)

theorem gradient_at (i : grid0.Coords) (c : Elt F .i32) (x y : Vec F S1544x256 .f32) (j : S1544x256.Idx) :
    k0_pay2 i c x y j = Scalar.select (Scalar.cmpi .eq (layer i) c) (x j) (y j) :=
  choice_at (Scalar.cmpi .eq (layer i) c) x y j

/-- Where each window's block is: the devices' own arrays are walked once for each layer, the others with the results. -/
theorem places : ∀ t : Fin cfg0.N,
    (win0_0.index t (0 : Fin 1) = 0)
    ∧ (∃ L : ℕ, (L = 0 ∧ layer (grid0.coords t) = 0#32 ∨ L = 1 ∧ layer (grid0.coords t) = 1#32) ∧ L * 1 + win0_2.index t (0 : Fin 2) = win0_6.index t (0 : Fin 2))
    ∧ win0_2.index t (1 : Fin 2) = win0_6.index t (1 : Fin 2)
    ∧ win0_3.index t = win0_2.index t ∧ win0_1.index t = win0_6.index t ∧ win0_4.index t = win0_6.index t ∧ win0_5.index t = win0_6.index t
    ∧ win0_7.index t = win0_6.index t ∧ win0_8.index t = win0_6.index t ∧ win0_9.index t = win0_6.index t :=
  (by
    have e : ∀ t : Fin grid0.N, win0_0.index t (0 : Fin 1) = 0
      ∧ ((layer (grid0.coords t) = 0#32 ∧ win0_2.index t (0 : Fin 2) = win0_6.index t (0 : Fin 2)) ∨ (layer (grid0.coords t) = 1#32 ∧ 1 + win0_2.index t (0 : Fin 2) = win0_6.index t (0 : Fin 2)))
      ∧ win0_2.index t (1 : Fin 2) = win0_6.index t (1 : Fin 2)
      ∧ win0_3.index t = win0_2.index t ∧ win0_1.index t = win0_6.index t ∧ win0_4.index t = win0_6.index t ∧ win0_5.index t = win0_6.index t
      ∧ win0_7.index t = win0_6.index t ∧ win0_8.index t = win0_6.index t ∧ win0_9.index t = win0_6.index t := by decide +kernel
    intro t
    obtain ⟨e0, e1, e2⟩ := e t
    refine ⟨e0, ?_, e2⟩
    rcases e1 with ⟨h, k⟩ | ⟨h, k⟩
    · exact ⟨0, .inl ⟨rfl, h⟩, by omega⟩
    · exact ⟨1, .inr ⟨rfl, h⟩, by omega⟩)

variable (m : (ℓ : Loc nD τ sig) → Buf (Elt F) ℓ)

theorem emb1 (t : Fin cfg0.N) (j : S1544x256.Idx) : ((cfg0.win 1).blk t).view.emb j = ((cfg0.win 6).blk t).view.emb j := by
  obtain ⟨-, -, -, -, e1, e4, e5, e7, e8, e9⟩ := places t
  funext a; apply Fin.ext
  match a with
  | ⟨0, _⟩ => show win0_1.index t (0 : Fin 2) * 1544 + 1 * (j 0).val = win0_6.index t (0 : Fin 2) * 1544 + 1 * (j 0).val; rw [e1]
  | ⟨1, _⟩ => show win0_1.index t (1 : Fin 2) * 256 + 1 * (j 1).val = win0_6.index t (1 : Fin 2) * 256 + 1 * (j 1).val; rw [e1]

theorem emb4 (t : Fin cfg0.N) (j : S1544x256.Idx) : ((cfg0.win 4).blk t).view.emb j = ((cfg0.win 6).blk t).view.emb j := by
  obtain ⟨-, -, -, -, e1, e4, e5, e7, e8, e9⟩ := places t
  funext a; apply Fin.ext
  match a with
  | ⟨0, _⟩ => show win0_4.index t (0 : Fin 2) * 1544 + 1 * (j 0).val = win0_6.index t (0 : Fin 2) * 1544 + 1 * (j 0).val; rw [e4]
  | ⟨1, _⟩ => show win0_4.index t (1 : Fin 2) * 256 + 1 * (j 1).val = win0_6.index t (1 : Fin 2) * 256 + 1 * (j 1).val; rw [e4]

theorem emb5 (t : Fin cfg0.N) (j : S1544x256.Idx) : ((cfg0.win 5).blk t).view.emb j = ((cfg0.win 6).blk t).view.emb j := by
  obtain ⟨-, -, -, -, e1, e4, e5, e7, e8, e9⟩ := places t
  funext a; apply Fin.ext
  match a with
  | ⟨0, _⟩ => show win0_5.index t (0 : Fin 2) * 1544 + 1 * (j 0).val = win0_6.index t (0 : Fin 2) * 1544 + 1 * (j 0).val; rw [e5]
  | ⟨1, _⟩ => show win0_5.index t (1 : Fin 2) * 256 + 1 * (j 1).val = win0_6.index t (1 : Fin 2) * 256 + 1 * (j 1).val; rw [e5]

theorem emb7 (t : Fin cfg0.N) (j : S1544x256.Idx) : ((cfg0.win 7).blk t).view.emb j = ((cfg0.win 6).blk t).view.emb j := by
  obtain ⟨-, -, -, -, e1, e4, e5, e7, e8, e9⟩ := places t
  funext a; apply Fin.ext
  match a with
  | ⟨0, _⟩ => show win0_7.index t (0 : Fin 2) * 1544 + 1 * (j 0).val = win0_6.index t (0 : Fin 2) * 1544 + 1 * (j 0).val; rw [e7]
  | ⟨1, _⟩ => show win0_7.index t (1 : Fin 2) * 256 + 1 * (j 1).val = win0_6.index t (1 : Fin 2) * 256 + 1 * (j 1).val; rw [e7]

theorem emb8 (t : Fin cfg0.N) (j : S1544x256.Idx) : ((cfg0.win 8).blk t).view.emb j = ((cfg0.win 6).blk t).view.emb j := by
  obtain ⟨-, -, -, -, e1, e4, e5, e7, e8, e9⟩ := places t
  funext a; apply Fin.ext
  match a with
  | ⟨0, _⟩ => show win0_8.index t (0 : Fin 2) * 1544 + 1 * (j 0).val = win0_6.index t (0 : Fin 2) * 1544 + 1 * (j 0).val; rw [e8]
  | ⟨1, _⟩ => show win0_8.index t (1 : Fin 2) * 256 + 1 * (j 1).val = win0_6.index t (1 : Fin 2) * 256 + 1 * (j 1).val; rw [e8]

theorem emb9 (t : Fin cfg0.N) (j : S1544x256.Idx) : ((cfg0.win 9).blk t).view.emb j = ((cfg0.win 6).blk t).view.emb j := by
  obtain ⟨-, -, -, -, e1, e4, e5, e7, e8, e9⟩ := places t
  funext a; apply Fin.ext
  match a with
  | ⟨0, _⟩ => show win0_9.index t (0 : Fin 2) * 1544 + 1 * (j 0).val = win0_6.index t (0 : Fin 2) * 1544 + 1 * (j 0).val; rw [e9]
  | ⟨1, _⟩ => show win0_9.index t (1 : Fin 2) * 256 + 1 * (j 1).val = win0_6.index t (1 : Fin 2) * 256 + 1 * (j 1).val; rw [e9]

theorem emb3 (t : Fin cfg0.N) (j : S1544x256.Idx) : ((cfg0.win 3).blk t).view.emb j = ((cfg0.win 2).blk t).view.emb j := by
  obtain ⟨-, -, -, e3, -⟩ := places t
  funext a; apply Fin.ext
  match a with
  | ⟨0, _⟩ => show win0_3.index t (0 : Fin 2) * 1544 + 1 * (j 0).val = win0_2.index t (0 : Fin 2) * 1544 + 1 * (j 0).val; rw [e3]
  | ⟨1, _⟩ => show win0_3.index t (1 : Fin 2) * 256 + 1 * (j 1).val = win0_2.index t (1 : Fin 2) * 256 + 1 * (j 1).val; rw [e3]

/-- The gradient of both layers on a device. -/
abbrev gradient (h1 : (⟨1, ![1]⟩ : Shape).ShapeCasts ⟨0, ![]⟩) (hb : (⟨0, ![]⟩ : Shape).BroadcastsInDim ⟨2, ![1544, 2048]⟩ ![]) (h : Shape.Concatenates [⟨2, ![1544, 2048]⟩, ⟨2, ![1544, 2048]⟩] ⟨2, ![3088, 2048]⟩ 0) (c : Dev nD) : Vec F S3088x2048 .f32 :=
  layers (F := F) (r := 1544) (n := 2048) (R := 3088) (V m c main_arg0) h1 hb (V m c main_arg2) (V m c main_arg3) h

theorem gradient_block (h1 : (⟨1, ![1]⟩ : Shape).ShapeCasts ⟨0, ![]⟩) (hb : (⟨0, ![]⟩ : Shape).BroadcastsInDim ⟨2, ![1544, 2048]⟩ ![]) (h : Shape.Concatenates [⟨2, ![1544, 2048]⟩, ⟨2, ![1544, 2048]⟩] ⟨2, ![3088, 2048]⟩ 0) (c : Dev nD) (t : Fin cfg0.N) (j : S1544x256.Idx) :
    k0_pay2 (grid0.coords t) (iblk m c 0 t only) (iblk m c 2 t) (iblk m c 3 t) j = gradient m h1 hb h c (((cfg0.win 6).blk t).view.emb j) := by
  obtain ⟨-, ⟨L, hL, e⟩, e2, -⟩ := places t
  refine (gradient_at ..).trans ?_
  show Scalar.select (Scalar.cmpi .eq _ (V m c main_arg0 (((cfg0.win 0).blk t).view.emb only))) (V m c main_arg2 (((cfg0.win 2).blk t).view.emb j)) (V m c main_arg3 (((cfg0.win 3).blk t).view.emb j)) = _
  rw [emb3]
  refine layers_at (V m c main_arg0) h1 hb _ _ h _ (((cfg0.win 2).blk t).view.emb j) _ _ L hL ?_ ?_
  · show L * 1544 + (win0_2.index t (0 : Fin 2) * 1544 + 1 * (j 0).val) = win0_6.index t (0 : Fin 2) * 1544 + 1 * (j 0).val
    omega
  · show win0_2.index t (1 : Fin 2) * 256 + 1 * (j 1).val = win0_6.index t (1 : Fin 2) * 256 + 1 * (j 1).val
    rw [e2]

theorem onto : ∀ (p : Fin 2) (q : Fin 8), ∃ t : Fin cfg0.N, win0_6.index t = ![p.val, q.val] :=
  (by decide +kernel : ∀ (p : Fin 2) (q : Fin 8), ∃ t : Fin grid0.N, win0_6.index t = ![p.val, q.val])

theorem written6 (h1 : (⟨1, ![1]⟩ : Shape).ShapeCasts ⟨0, ![]⟩) (hb : (⟨0, ![]⟩ : Shape).BroadcastsInDim ⟨2, ![1544, 2048]⟩ ![]) (h : Shape.Concatenates [⟨2, ![1544, 2048]⟩, ⟨2, ![1544, 2048]⟩] ⟨2, ![3088, 2048]⟩ 0) (c : Dev nD) (t : Fin cfg0.N) :
    (dats m 0 c).flushed 6 t = ((cfg0.win 6).blk t).view.read (Elt F) (gradient m h1 hb h c) := by
  rw [Value.flushed6_A, left6]
  funext j
  show _ = (gradient m h1 hb h c) (((cfg0.win 6).blk t).view.emb j)
  exact gradient_block m h1 hb h c t j

theorem covered6 (i : S3088x2048.Idx) : ∃ t : Fin cfg0.N, (cfg0.win 6).flush t = true ∧ i ∈ ((cfg0.win 6).blk t).view.set := by
  have i0 : (i 0 : ℕ) < 3088 := (i 0).isLt
  have i1 : (i 1 : ℕ) < 2048 := (i 1).isLt
  obtain ⟨t, ht⟩ := onto ⟨(i 0 : ℕ) / 1544, by omega⟩ ⟨(i 1 : ℕ) / 256, by omega⟩
  obtain ⟨-, -, -, -, -, -, -, e7, e8, e9⟩ := places t
  have e6 : win0_6.index t = win0_6.index t := rfl
  refine ⟨t, flush0_6 t, ?_⟩
  show i ∈ ((View.whole main_v0_0).slice (win0_6.rect t)).set
  rw [View.set_slice_whole, Rect.mem_set_unit]
  intro a
  match a with
  | ⟨0, _⟩ =>
    show win0_6.index t (0 : Fin 2) * 1544 ≤ (i 0 : ℕ) ∧ (i 0 : ℕ) < win0_6.index t (0 : Fin 2) * 1544 + 1544
    rw [e6, show win0_6.index t (0 : Fin 2) = (i 0 : ℕ) / 1544 from congrFun ht 0]
    omega
  | ⟨1, _⟩ =>
    show win0_6.index t (1 : Fin 2) * 256 ≤ (i 1 : ℕ) ∧ (i 1 : ℕ) < win0_6.index t (1 : Fin 2) * 256 + 256
    rw [e6, show win0_6.index t (1 : Fin 2) = (i 1 : ℕ) / 256 from congrFun ht 1]
    omega

theorem whole6 (h1 : (⟨1, ![1]⟩ : Shape).ShapeCasts ⟨0, ![]⟩) (hb : (⟨0, ![]⟩ : Shape).BroadcastsInDim ⟨2, ![1544, 2048]⟩ ![]) (h : Shape.Concatenates [⟨2, ![1544, 2048]⟩, ⟨2, ![1544, 2048]⟩] ⟨2, ![3088, 2048]⟩ 0) (c : Dev nD) : (dats m 0 c).arrAt 6 cfg0.N = gradient m h1 hb h c :=
  (dats m 0 c).arrAt_eq_of_cover 6 _ (fun t _ => written6 m h1 hb h c t) covered6

theorem written7 (h1 : (⟨1, ![1]⟩ : Shape).ShapeCasts ⟨0, ![]⟩) (hb : (⟨0, ![]⟩ : Shape).BroadcastsInDim ⟨2, ![1544, 2048]⟩ ![]) (h : Shape.Concatenates [⟨2, ![1544, 2048]⟩, ⟨2, ![1544, 2048]⟩] ⟨2, ![3088, 2048]⟩ 0) (c : Dev nD) (t : Fin cfg0.N) :
    (dats m 0 c).flushed 7 t = ((cfg0.win 7).blk t).view.read (Elt F) (change (V m c main_arg1) (moment (gradient m h1 hb h c) (V m c main_arg4)) (square (gradient m h1 hb h c) (V m c main_arg5))) := by
  rw [Value.flushed7_A, left7]
  funext j
  show _ = (change (V m c main_arg1) (moment (gradient m h1 hb h c) (V m c main_arg4)) (square (gradient m h1 hb h c) (V m c main_arg5))) (((cfg0.win 7).blk t).view.emb j)
  rw [emb7]
  exact change_at (congrArg (V m c main_arg1) (emb1 t j)) (moment_at (gradient_block m h1 hb h c t j) (congrArg (V m c main_arg4) (emb4 t j))) (square_at (gradient_block m h1 hb h c t j) (congrArg (V m c main_arg5) (emb5 t j)))

theorem covered7 (i : S3088x2048.Idx) : ∃ t : Fin cfg0.N, (cfg0.win 7).flush t = true ∧ i ∈ ((cfg0.win 7).blk t).view.set := by
  have i0 : (i 0 : ℕ) < 3088 := (i 0).isLt
  have i1 : (i 1 : ℕ) < 2048 := (i 1).isLt
  obtain ⟨t, ht⟩ := onto ⟨(i 0 : ℕ) / 1544, by omega⟩ ⟨(i 1 : ℕ) / 256, by omega⟩
  obtain ⟨-, -, -, -, -, -, -, e7, e8, e9⟩ := places t
  have e6 : win0_6.index t = win0_6.index t := rfl
  refine ⟨t, flush0_7 t, ?_⟩
  show i ∈ ((View.whole main_v0_1).slice (win0_7.rect t)).set
  rw [View.set_slice_whole, Rect.mem_set_unit]
  intro a
  match a with
  | ⟨0, _⟩ =>
    show win0_7.index t (0 : Fin 2) * 1544 ≤ (i 0 : ℕ) ∧ (i 0 : ℕ) < win0_7.index t (0 : Fin 2) * 1544 + 1544
    rw [e7, show win0_6.index t (0 : Fin 2) = (i 0 : ℕ) / 1544 from congrFun ht 0]
    omega
  | ⟨1, _⟩ =>
    show win0_7.index t (1 : Fin 2) * 256 ≤ (i 1 : ℕ) ∧ (i 1 : ℕ) < win0_7.index t (1 : Fin 2) * 256 + 256
    rw [e7, show win0_6.index t (1 : Fin 2) = (i 1 : ℕ) / 256 from congrFun ht 1]
    omega

theorem whole7 (h1 : (⟨1, ![1]⟩ : Shape).ShapeCasts ⟨0, ![]⟩) (hb : (⟨0, ![]⟩ : Shape).BroadcastsInDim ⟨2, ![1544, 2048]⟩ ![]) (h : Shape.Concatenates [⟨2, ![1544, 2048]⟩, ⟨2, ![1544, 2048]⟩] ⟨2, ![3088, 2048]⟩ 0) (c : Dev nD) : (dats m 0 c).arrAt 7 cfg0.N = change (V m c main_arg1) (moment (gradient m h1 hb h c) (V m c main_arg4)) (square (gradient m h1 hb h c) (V m c main_arg5)) :=
  (dats m 0 c).arrAt_eq_of_cover 7 _ (fun t _ => written7 m h1 hb h c t) covered7

theorem written8 (h1 : (⟨1, ![1]⟩ : Shape).ShapeCasts ⟨0, ![]⟩) (hb : (⟨0, ![]⟩ : Shape).BroadcastsInDim ⟨2, ![1544, 2048]⟩ ![]) (h : Shape.Concatenates [⟨2, ![1544, 2048]⟩, ⟨2, ![1544, 2048]⟩] ⟨2, ![3088, 2048]⟩ 0) (c : Dev nD) (t : Fin cfg0.N) :
    (dats m 0 c).flushed 8 t = ((cfg0.win 8).blk t).view.read (Elt F) (moment (gradient m h1 hb h c) (V m c main_arg4)) := by
  rw [Value.flushed8_A, left8]
  funext j
  show _ = (moment (gradient m h1 hb h c) (V m c main_arg4)) (((cfg0.win 8).blk t).view.emb j)
  rw [emb8]
  exact moment_at (gradient_block m h1 hb h c t j) (congrArg (V m c main_arg4) (emb4 t j))

theorem covered8 (i : S3088x2048.Idx) : ∃ t : Fin cfg0.N, (cfg0.win 8).flush t = true ∧ i ∈ ((cfg0.win 8).blk t).view.set := by
  have i0 : (i 0 : ℕ) < 3088 := (i 0).isLt
  have i1 : (i 1 : ℕ) < 2048 := (i 1).isLt
  obtain ⟨t, ht⟩ := onto ⟨(i 0 : ℕ) / 1544, by omega⟩ ⟨(i 1 : ℕ) / 256, by omega⟩
  obtain ⟨-, -, -, -, -, -, -, e7, e8, e9⟩ := places t
  have e6 : win0_6.index t = win0_6.index t := rfl
  refine ⟨t, flush0_8 t, ?_⟩
  show i ∈ ((View.whole main_v0_2).slice (win0_8.rect t)).set
  rw [View.set_slice_whole, Rect.mem_set_unit]
  intro a
  match a with
  | ⟨0, _⟩ =>
    show win0_8.index t (0 : Fin 2) * 1544 ≤ (i 0 : ℕ) ∧ (i 0 : ℕ) < win0_8.index t (0 : Fin 2) * 1544 + 1544
    rw [e8, show win0_6.index t (0 : Fin 2) = (i 0 : ℕ) / 1544 from congrFun ht 0]
    omega
  | ⟨1, _⟩ =>
    show win0_8.index t (1 : Fin 2) * 256 ≤ (i 1 : ℕ) ∧ (i 1 : ℕ) < win0_8.index t (1 : Fin 2) * 256 + 256
    rw [e8, show win0_6.index t (1 : Fin 2) = (i 1 : ℕ) / 256 from congrFun ht 1]
    omega

theorem whole8 (h1 : (⟨1, ![1]⟩ : Shape).ShapeCasts ⟨0, ![]⟩) (hb : (⟨0, ![]⟩ : Shape).BroadcastsInDim ⟨2, ![1544, 2048]⟩ ![]) (h : Shape.Concatenates [⟨2, ![1544, 2048]⟩, ⟨2, ![1544, 2048]⟩] ⟨2, ![3088, 2048]⟩ 0) (c : Dev nD) : (dats m 0 c).arrAt 8 cfg0.N = moment (gradient m h1 hb h c) (V m c main_arg4) :=
  (dats m 0 c).arrAt_eq_of_cover 8 _ (fun t _ => written8 m h1 hb h c t) covered8

theorem written9 (h1 : (⟨1, ![1]⟩ : Shape).ShapeCasts ⟨0, ![]⟩) (hb : (⟨0, ![]⟩ : Shape).BroadcastsInDim ⟨2, ![1544, 2048]⟩ ![]) (h : Shape.Concatenates [⟨2, ![1544, 2048]⟩, ⟨2, ![1544, 2048]⟩] ⟨2, ![3088, 2048]⟩ 0) (c : Dev nD) (t : Fin cfg0.N) :
    (dats m 0 c).flushed 9 t = ((cfg0.win 9).blk t).view.read (Elt F) (square (gradient m h1 hb h c) (V m c main_arg5)) := by
  rw [Value.flushed9_A, left9]
  funext j
  show _ = (square (gradient m h1 hb h c) (V m c main_arg5)) (((cfg0.win 9).blk t).view.emb j)
  rw [emb9]
  exact square_at (gradient_block m h1 hb h c t j) (congrArg (V m c main_arg5) (emb5 t j))

theorem covered9 (i : S3088x2048.Idx) : ∃ t : Fin cfg0.N, (cfg0.win 9).flush t = true ∧ i ∈ ((cfg0.win 9).blk t).view.set := by
  have i0 : (i 0 : ℕ) < 3088 := (i 0).isLt
  have i1 : (i 1 : ℕ) < 2048 := (i 1).isLt
  obtain ⟨t, ht⟩ := onto ⟨(i 0 : ℕ) / 1544, by omega⟩ ⟨(i 1 : ℕ) / 256, by omega⟩
  obtain ⟨-, -, -, -, -, -, -, e7, e8, e9⟩ := places t
  have e6 : win0_6.index t = win0_6.index t := rfl
  refine ⟨t, flush0_9 t, ?_⟩
  show i ∈ ((View.whole main_v0_3).slice (win0_9.rect t)).set
  rw [View.set_slice_whole, Rect.mem_set_unit]
  intro a
  match a with
  | ⟨0, _⟩ =>
    show win0_9.index t (0 : Fin 2) * 1544 ≤ (i 0 : ℕ) ∧ (i 0 : ℕ) < win0_9.index t (0 : Fin 2) * 1544 + 1544
    rw [e9, show win0_6.index t (0 : Fin 2) = (i 0 : ℕ) / 1544 from congrFun ht 0]
    omega
  | ⟨1, _⟩ =>
    show win0_9.index t (1 : Fin 2) * 256 ≤ (i 1 : ℕ) ∧ (i 1 : ℕ) < win0_9.index t (1 : Fin 2) * 256 + 256
    rw [e9, show win0_6.index t (1 : Fin 2) = (i 1 : ℕ) / 256 from congrFun ht 1]
    omega

theorem whole9 (h1 : (⟨1, ![1]⟩ : Shape).ShapeCasts ⟨0, ![]⟩) (hb : (⟨0, ![]⟩ : Shape).BroadcastsInDim ⟨2, ![1544, 2048]⟩ ![]) (h : Shape.Concatenates [⟨2, ![1544, 2048]⟩, ⟨2, ![1544, 2048]⟩] ⟨2, ![3088, 2048]⟩ 0) (c : Dev nD) : (dats m 0 c).arrAt 9 cfg0.N = square (gradient m h1 hb h c) (V m c main_arg5) :=
  (dats m 0 c).arrAt_eq_of_cover 9 _ (fun t _ => written9 m h1 hb h c t) covered9

end Cert.AdamInIdeal.Whole

end
-- ==== Proof.AdamOutValue.lean ====
/- # The update of the output projections, from blocks to whole arrays

   Each block of the kernel's grid is read back as what its stores leave, and the blocks are set together to whole arrays:
   the gradient of both layers, the two moments and the change of the weight, as functions of the arguments. -/
module

public import proofs.«01_k».proof.Proof.Step
public import proofs.«01_k».proof.Proof.Gen.AdamOutIdeal.Value

@[expose] public section

noncomputable section

namespace Cert.AdamOutIdeal.Whole

open Cert.AdamOutIdeal Cert.AdamOutIdeal.Gen Cert.Step Idealize.ShloMosaic Idealize.ShloMosaic.TcCoe Idealize.SL.Sem

variable {F : FTy → Type} [FloatOps F]

theorem corner : (![0, 0] : Fin 2 → Nat) = fun _ => 0 := funext fun a => by fin_cases a <;> rfl

/-- The one index of the array that holds the core's number. -/
def only : S1.Idx := fun | ⟨0, _⟩ => (0 : Fin 1)

theorem left6 (c : Dev nD) (i : grid0.Coords) (a2 : Memref sig .tc .smem S1 .i32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (x0 : Vec F S1 .i32) (x1 x2 x3 x4 x5 : Vec F S256x2048 .f32) :
    out0_A_6 c i a2 h2 a3 h3 a4 h4 a5 h5 a6 h6 a7 h7 a8 h8 a9 h9 a10 h10 a11 h11 x0 x1 x2 x3 x4 x5 = k0_pay2 i (x0 only) x2 x3 := by
  unfold out0_A_6
  rw [View.read_writes_eq_canon _ _ _ (cover0_A_6 c i a2 h2 a3 h3 a4 h4 a5 h5 a6 h6 a7 h7 a8 h8 a9 h9 a10 h10 a11 h11 x0 x1 x2 x3 x4 x5)]
  unfold kernelRun0_A
  dsimp only
  sl_unfold_words
  rw [View.canon_unit_zero corner]
  simp only [View.readAt_eq_ld, h2.read_unread, h3.read_unread, h4.read_unread, h5.read_unread, h6.read_unread, h7.read_unread, View.ld_unit_zero (S := S256x2048) corner, shapeCast_self]
  rw [show View.ld x0 (Rect.unit ![0] ![1] inb_S1_S1_0) = x0 from View.ld_unit_zero (S := S1) (funext fun a => by fin_cases a; rfl) _ x0]
  rw [one_index (Shape.Idx.first _) only]

theorem left7 (c : Dev nD) (i : grid0.Coords) (a2 : Memref sig .tc .smem S1 .i32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (x0 : Vec F S1 .i32) (x1 x2 x3 x4 x5 : Vec F S256x2048 .f32) :
    out0_A_7 c i a2 h2 a3 h3 a4 h4 a5 h5 a6 h6 a7 h7 a8 h8 a9 h9 a10 h10 a11 h11 x0 x1 x2 x3 x4 x5 = change x1 (moment (k0_pay2 i (x0 only) x2 x3) x4) (square (k0_pay2 i (x0 only) x2 x3) x5) := by
  unfold out0_A_7
  rw [View.read_writes_eq_canon _ _ _ (cover0_A_7 c i a2 h2 a3 h3 a4 h4 a5 h5 a6 h6 a7 h7 a8 h8 a9 h9 a10 h10 a11 h11 x0 x1 x2 x3 x4 x5)]
  unfold kernelRun0_A
  dsimp only
  sl_unfold_words
  rw [View.canon_unit_zero corner]
  simp only [View.readAt_eq_ld, h2.read_unread, h3.read_unread, h4.read_unread, h5.read_unread, h6.read_unread, h7.read_unread, View.ld_unit_zero (S := S256x2048) corner, shapeCast_self]
  rw [show View.ld x0 (Rect.unit ![0] ![1] inb_S1_S1_0) = x0 from View.ld_unit_zero (S := S1) (funext fun a => by fin_cases a; rfl) _ x0]
  rw [one_index (Shape.Idx.first _) only]
  rfl

theorem left8 (c : Dev nD) (i : grid0.Coords) (a2 : Memref sig .tc .smem S1 .i32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (x0 : Vec F S1 .i32) (x1 x2 x3 x4 x5 : Vec F S256x2048 .f32) :
    out0_A_8 c i a2 h2 a3 h3 a4 h4 a5 h5 a6 h6 a7 h7 a8 h8 a9 h9 a10 h10 a11 h11 x0 x1 x2 x3 x4 x5 = moment (k0_pay2 i (x0 only) x2 x3) x4 := by
  unfold out0_A_8
  rw [View.read_writes_eq_canon _ _ _ (cover0_A_8 c i a2 h2 a3 h3 a4 h4 a5 h5 a6 h6 a7 h7 a8 h8 a9 h9 a10 h10 a11 h11 x0 x1 x2 x3 x4 x5)]
  unfold kernelRun0_A
  dsimp only
  sl_unfold_words
  rw [View.canon_unit_zero corner]
  simp only [View.readAt_eq_ld, h2.read_unread, h3.read_unread, h4.read_unread, h5.read_unread, h6.read_unread, h7.read_unread, View.ld_unit_zero (S := S256x2048) corner, shapeCast_self]
  rw [show View.ld x0 (Rect.unit ![0] ![1] inb_S1_S1_0) = x0 from View.ld_unit_zero (S := S1) (funext fun a => by fin_cases a; rfl) _ x0]
  rw [one_index (Shape.Idx.first _) only]
  rfl

theorem left9 (c : Dev nD) (i : grid0.Coords) (a2 : Memref sig .tc .smem S1 .i32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (a11 : Memref sig .tc .vmem S256x2048 .f32) (h11 : a11.IsWhole) (x0 : Vec F S1 .i32) (x1 x2 x3 x4 x5 : Vec F S256x2048 .f32) :
    out0_A_9 c i a2 h2 a3 h3 a4 h4 a5 h5 a6 h6 a7 h7 a8 h8 a9 h9 a10 h10 a11 h11 x0 x1 x2 x3 x4 x5 = square (k0_pay2 i (x0 only) x2 x3) x5 := by
  unfold out0_A_9
  rw [View.read_writes_eq_canon _ _ _ (cover0_A_9 c i a2 h2 a3 h3 a4 h4 a5 h5 a6 h6 a7 h7 a8 h8 a9 h9 a10 h10 a11 h11 x0 x1 x2 x3 x4 x5)]
  unfold kernelRun0_A
  dsimp only
  sl_unfold_words
  rw [View.canon_unit_zero corner]
  simp only [View.readAt_eq_ld, h2.read_unread, h3.read_unread, h4.read_unread, h5.read_unread, h6.read_unread, h7.read_unread, View.ld_unit_zero (S := S256x2048) corner, shapeCast_self]
  rw [show View.ld x0 (Rect.unit ![0] ![1] inb_S1_S1_0) = x0 from View.ld_unit_zero (S := S1) (funext fun a => by fin_cases a; rfl) _ x0]
  rw [one_index (Shape.Idx.first _) only]
  rfl

/-- The number of the layer a row of blocks belongs to, as the kernel computes it. -/
def layer (i : grid0.Coords) : BitVec 32 :=
  let a : BitVec 32 := BitVec.ofNat 32 (i 0).val
  let sign (x : BitVec 32) : BitVec 32 := Scalar.subi (Scalar.extui (Scalar.cmpi .sgt x 0#32)) (Scalar.extui (Scalar.cmpi .slt x 0#32))
  Scalar.select (Scalar.andi (Scalar.cmpi .ne (sign a) (sign 2#32)) (Scalar.cmpi .ne (Scalar.remsi a 2#32) 0#32))
    (Scalar.subi (Scalar.divsi a 2#32) 1#32) (Scalar.divsi a 2#32)

theorem gradient_at (i : grid0.Coords) (c : Elt F .i32) (x y : Vec F S256x2048 .f32) (j : S256x2048.Idx) :
    k0_pay2 i c x y j = Scalar.select (Scalar.cmpi .eq (layer i) c) (x j) (y j) :=
  choice_at (Scalar.cmpi .eq (layer i) c) x y j

/-- Where each window's block is: the devices' own arrays are walked once for each layer, the others with the results. -/
theorem places : ∀ t : Fin cfg0.N,
    (win0_0.index t (0 : Fin 1) = 0)
    ∧ (∃ L : ℕ, (L = 0 ∧ layer (grid0.coords t) = 0#32 ∨ L = 1 ∧ layer (grid0.coords t) = 1#32) ∧ L * 2 + win0_2.index t (0 : Fin 2) = win0_6.index t (0 : Fin 2))
    ∧ win0_2.index t (1 : Fin 2) = win0_6.index t (1 : Fin 2)
    ∧ win0_3.index t = win0_2.index t ∧ win0_1.index t = win0_6.index t ∧ win0_4.index t = win0_6.index t ∧ win0_5.index t = win0_6.index t
    ∧ win0_7.index t = win0_6.index t ∧ win0_8.index t = win0_6.index t ∧ win0_9.index t = win0_6.index t :=
  (by
    have e : ∀ t : Fin grid0.N, win0_0.index t (0 : Fin 1) = 0
      ∧ ((layer (grid0.coords t) = 0#32 ∧ win0_2.index t (0 : Fin 2) = win0_6.index t (0 : Fin 2)) ∨ (layer (grid0.coords t) = 1#32 ∧ 2 + win0_2.index t (0 : Fin 2) = win0_6.index t (0 : Fin 2)))
      ∧ win0_2.index t (1 : Fin 2) = win0_6.index t (1 : Fin 2)
      ∧ win0_3.index t = win0_2.index t ∧ win0_1.index t = win0_6.index t ∧ win0_4.index t = win0_6.index t ∧ win0_5.index t = win0_6.index t
      ∧ win0_7.index t = win0_6.index t ∧ win0_8.index t = win0_6.index t ∧ win0_9.index t = win0_6.index t := by decide +kernel
    intro t
    obtain ⟨e0, e1, e2⟩ := e t
    refine ⟨e0, ?_, e2⟩
    rcases e1 with ⟨h, k⟩ | ⟨h, k⟩
    · exact ⟨0, .inl ⟨rfl, h⟩, by omega⟩
    · exact ⟨1, .inr ⟨rfl, h⟩, by omega⟩)

variable (m : (ℓ : Loc nD τ sig) → Buf (Elt F) ℓ)

theorem emb1 (t : Fin cfg0.N) (j : S256x2048.Idx) : ((cfg0.win 1).blk t).view.emb j = ((cfg0.win 6).blk t).view.emb j := by
  obtain ⟨-, -, -, -, e1, e4, e5, e7, e8, e9⟩ := places t
  funext a; apply Fin.ext
  match a with
  | ⟨0, _⟩ => show win0_1.index t (0 : Fin 2) * 256 + 1 * (j 0).val = win0_6.index t (0 : Fin 2) * 256 + 1 * (j 0).val; rw [e1]
  | ⟨1, _⟩ => show win0_1.index t (1 : Fin 2) * 2048 + 1 * (j 1).val = win0_6.index t (1 : Fin 2) * 2048 + 1 * (j 1).val; rw [e1]

theorem emb4 (t : Fin cfg0.N) (j : S256x2048.Idx) : ((cfg0.win 4).blk t).view.emb j = ((cfg0.win 6).blk t).view.emb j := by
  obtain ⟨-, -, -, -, e1, e4, e5, e7, e8, e9⟩ := places t
  funext a; apply Fin.ext
  match a with
  | ⟨0, _⟩ => show win0_4.index t (0 : Fin 2) * 256 + 1 * (j 0).val = win0_6.index t (0 : Fin 2) * 256 + 1 * (j 0).val; rw [e4]
  | ⟨1, _⟩ => show win0_4.index t (1 : Fin 2) * 2048 + 1 * (j 1).val = win0_6.index t (1 : Fin 2) * 2048 + 1 * (j 1).val; rw [e4]

theorem emb5 (t : Fin cfg0.N) (j : S256x2048.Idx) : ((cfg0.win 5).blk t).view.emb j = ((cfg0.win 6).blk t).view.emb j := by
  obtain ⟨-, -, -, -, e1, e4, e5, e7, e8, e9⟩ := places t
  funext a; apply Fin.ext
  match a with
  | ⟨0, _⟩ => show win0_5.index t (0 : Fin 2) * 256 + 1 * (j 0).val = win0_6.index t (0 : Fin 2) * 256 + 1 * (j 0).val; rw [e5]
  | ⟨1, _⟩ => show win0_5.index t (1 : Fin 2) * 2048 + 1 * (j 1).val = win0_6.index t (1 : Fin 2) * 2048 + 1 * (j 1).val; rw [e5]

theorem emb7 (t : Fin cfg0.N) (j : S256x2048.Idx) : ((cfg0.win 7).blk t).view.emb j = ((cfg0.win 6).blk t).view.emb j := by
  obtain ⟨-, -, -, -, e1, e4, e5, e7, e8, e9⟩ := places t
  funext a; apply Fin.ext
  match a with
  | ⟨0, _⟩ => show win0_7.index t (0 : Fin 2) * 256 + 1 * (j 0).val = win0_6.index t (0 : Fin 2) * 256 + 1 * (j 0).val; rw [e7]
  | ⟨1, _⟩ => show win0_7.index t (1 : Fin 2) * 2048 + 1 * (j 1).val = win0_6.index t (1 : Fin 2) * 2048 + 1 * (j 1).val; rw [e7]

theorem emb8 (t : Fin cfg0.N) (j : S256x2048.Idx) : ((cfg0.win 8).blk t).view.emb j = ((cfg0.win 6).blk t).view.emb j := by
  obtain ⟨-, -, -, -, e1, e4, e5, e7, e8, e9⟩ := places t
  funext a; apply Fin.ext
  match a with
  | ⟨0, _⟩ => show win0_8.index t (0 : Fin 2) * 256 + 1 * (j 0).val = win0_6.index t (0 : Fin 2) * 256 + 1 * (j 0).val; rw [e8]
  | ⟨1, _⟩ => show win0_8.index t (1 : Fin 2) * 2048 + 1 * (j 1).val = win0_6.index t (1 : Fin 2) * 2048 + 1 * (j 1).val; rw [e8]

theorem emb9 (t : Fin cfg0.N) (j : S256x2048.Idx) : ((cfg0.win 9).blk t).view.emb j = ((cfg0.win 6).blk t).view.emb j := by
  obtain ⟨-, -, -, -, e1, e4, e5, e7, e8, e9⟩ := places t
  funext a; apply Fin.ext
  match a with
  | ⟨0, _⟩ => show win0_9.index t (0 : Fin 2) * 256 + 1 * (j 0).val = win0_6.index t (0 : Fin 2) * 256 + 1 * (j 0).val; rw [e9]
  | ⟨1, _⟩ => show win0_9.index t (1 : Fin 2) * 2048 + 1 * (j 1).val = win0_6.index t (1 : Fin 2) * 2048 + 1 * (j 1).val; rw [e9]

theorem emb3 (t : Fin cfg0.N) (j : S256x2048.Idx) : ((cfg0.win 3).blk t).view.emb j = ((cfg0.win 2).blk t).view.emb j := by
  obtain ⟨-, -, -, e3, -⟩ := places t
  funext a; apply Fin.ext
  match a with
  | ⟨0, _⟩ => show win0_3.index t (0 : Fin 2) * 256 + 1 * (j 0).val = win0_2.index t (0 : Fin 2) * 256 + 1 * (j 0).val; rw [e3]
  | ⟨1, _⟩ => show win0_3.index t (1 : Fin 2) * 2048 + 1 * (j 1).val = win0_2.index t (1 : Fin 2) * 2048 + 1 * (j 1).val; rw [e3]

/-- The gradient of both layers on a device. -/
abbrev gradient (h1 : (⟨1, ![1]⟩ : Shape).ShapeCasts ⟨0, ![]⟩) (hb : (⟨0, ![]⟩ : Shape).BroadcastsInDim ⟨2, ![512, 2048]⟩ ![]) (h : Shape.Concatenates [⟨2, ![512, 2048]⟩, ⟨2, ![512, 2048]⟩] ⟨2, ![1024, 2048]⟩ 0) (c : Dev nD) : Vec F S1024x2048 .f32 :=
  layers (F := F) (r := 512) (n := 2048) (R := 1024) (V m c main_arg0) h1 hb (V m c main_arg2) (V m c main_arg3) h

theorem gradient_block (h1 : (⟨1, ![1]⟩ : Shape).ShapeCasts ⟨0, ![]⟩) (hb : (⟨0, ![]⟩ : Shape).BroadcastsInDim ⟨2, ![512, 2048]⟩ ![]) (h : Shape.Concatenates [⟨2, ![512, 2048]⟩, ⟨2, ![512, 2048]⟩] ⟨2, ![1024, 2048]⟩ 0) (c : Dev nD) (t : Fin cfg0.N) (j : S256x2048.Idx) :
    k0_pay2 (grid0.coords t) (iblk m c 0 t only) (iblk m c 2 t) (iblk m c 3 t) j = gradient m h1 hb h c (((cfg0.win 6).blk t).view.emb j) := by
  obtain ⟨-, ⟨L, hL, e⟩, e2, -⟩ := places t
  refine (gradient_at ..).trans ?_
  show Scalar.select (Scalar.cmpi .eq _ (V m c main_arg0 (((cfg0.win 0).blk t).view.emb only))) (V m c main_arg2 (((cfg0.win 2).blk t).view.emb j)) (V m c main_arg3 (((cfg0.win 3).blk t).view.emb j)) = _
  rw [emb3]
  refine layers_at (V m c main_arg0) h1 hb _ _ h _ (((cfg0.win 2).blk t).view.emb j) _ _ L hL ?_ ?_
  · show L * 512 + (win0_2.index t (0 : Fin 2) * 256 + 1 * (j 0).val) = win0_6.index t (0 : Fin 2) * 256 + 1 * (j 0).val
    omega
  · show win0_2.index t (1 : Fin 2) * 2048 + 1 * (j 1).val = win0_6.index t (1 : Fin 2) * 2048 + 1 * (j 1).val
    rw [e2]

theorem onto : ∀ (p : Fin 4) (q : Fin 1), ∃ t : Fin cfg0.N, win0_6.index t = ![p.val, q.val] :=
  (by decide +kernel : ∀ (p : Fin 4) (q : Fin 1), ∃ t : Fin grid0.N, win0_6.index t = ![p.val, q.val])

theorem written6 (h1 : (⟨1, ![1]⟩ : Shape).ShapeCasts ⟨0, ![]⟩) (hb : (⟨0, ![]⟩ : Shape).BroadcastsInDim ⟨2, ![512, 2048]⟩ ![]) (h : Shape.Concatenates [⟨2, ![512, 2048]⟩, ⟨2, ![512, 2048]⟩] ⟨2, ![1024, 2048]⟩ 0) (c : Dev nD) (t : Fin cfg0.N) :
    (dats m 0 c).flushed 6 t = ((cfg0.win 6).blk t).view.read (Elt F) (gradient m h1 hb h c) := by
  rw [Value.flushed6_A, left6]
  funext j
  show _ = (gradient m h1 hb h c) (((cfg0.win 6).blk t).view.emb j)
  exact gradient_block m h1 hb h c t j

theorem covered6 (i : S1024x2048.Idx) : ∃ t : Fin cfg0.N, (cfg0.win 6).flush t = true ∧ i ∈ ((cfg0.win 6).blk t).view.set := by
  have i0 : (i 0 : ℕ) < 1024 := (i 0).isLt
  have i1 : (i 1 : ℕ) < 2048 := (i 1).isLt
  obtain ⟨t, ht⟩ := onto ⟨(i 0 : ℕ) / 256, by omega⟩ ⟨(i 1 : ℕ) / 2048, by omega⟩
  obtain ⟨-, -, -, -, -, -, -, e7, e8, e9⟩ := places t
  have e6 : win0_6.index t = win0_6.index t := rfl
  refine ⟨t, flush0_6 t, ?_⟩
  show i ∈ ((View.whole main_v0_0).slice (win0_6.rect t)).set
  rw [View.set_slice_whole, Rect.mem_set_unit]
  intro a
  match a with
  | ⟨0, _⟩ =>
    show win0_6.index t (0 : Fin 2) * 256 ≤ (i 0 : ℕ) ∧ (i 0 : ℕ) < win0_6.index t (0 : Fin 2) * 256 + 256
    rw [e6, show win0_6.index t (0 : Fin 2) = (i 0 : ℕ) / 256 from congrFun ht 0]
    omega
  | ⟨1, _⟩ =>
    show win0_6.index t (1 : Fin 2) * 2048 ≤ (i 1 : ℕ) ∧ (i 1 : ℕ) < win0_6.index t (1 : Fin 2) * 2048 + 2048
    rw [e6, show win0_6.index t (1 : Fin 2) = (i 1 : ℕ) / 2048 from congrFun ht 1]
    omega

theorem whole6 (h1 : (⟨1, ![1]⟩ : Shape).ShapeCasts ⟨0, ![]⟩) (hb : (⟨0, ![]⟩ : Shape).BroadcastsInDim ⟨2, ![512, 2048]⟩ ![]) (h : Shape.Concatenates [⟨2, ![512, 2048]⟩, ⟨2, ![512, 2048]⟩] ⟨2, ![1024, 2048]⟩ 0) (c : Dev nD) : (dats m 0 c).arrAt 6 cfg0.N = gradient m h1 hb h c :=
  (dats m 0 c).arrAt_eq_of_cover 6 _ (fun t _ => written6 m h1 hb h c t) covered6

theorem written7 (h1 : (⟨1, ![1]⟩ : Shape).ShapeCasts ⟨0, ![]⟩) (hb : (⟨0, ![]⟩ : Shape).BroadcastsInDim ⟨2, ![512, 2048]⟩ ![]) (h : Shape.Concatenates [⟨2, ![512, 2048]⟩, ⟨2, ![512, 2048]⟩] ⟨2, ![1024, 2048]⟩ 0) (c : Dev nD) (t : Fin cfg0.N) :
    (dats m 0 c).flushed 7 t = ((cfg0.win 7).blk t).view.read (Elt F) (change (V m c main_arg1) (moment (gradient m h1 hb h c) (V m c main_arg4)) (square (gradient m h1 hb h c) (V m c main_arg5))) := by
  rw [Value.flushed7_A, left7]
  funext j
  show _ = (change (V m c main_arg1) (moment (gradient m h1 hb h c) (V m c main_arg4)) (square (gradient m h1 hb h c) (V m c main_arg5))) (((cfg0.win 7).blk t).view.emb j)
  rw [emb7]
  exact change_at (congrArg (V m c main_arg1) (emb1 t j)) (moment_at (gradient_block m h1 hb h c t j) (congrArg (V m c main_arg4) (emb4 t j))) (square_at (gradient_block m h1 hb h c t j) (congrArg (V m c main_arg5) (emb5 t j)))

theorem covered7 (i : S1024x2048.Idx) : ∃ t : Fin cfg0.N, (cfg0.win 7).flush t = true ∧ i ∈ ((cfg0.win 7).blk t).view.set := by
  have i0 : (i 0 : ℕ) < 1024 := (i 0).isLt
  have i1 : (i 1 : ℕ) < 2048 := (i 1).isLt
  obtain ⟨t, ht⟩ := onto ⟨(i 0 : ℕ) / 256, by omega⟩ ⟨(i 1 : ℕ) / 2048, by omega⟩
  obtain ⟨-, -, -, -, -, -, -, e7, e8, e9⟩ := places t
  have e6 : win0_6.index t = win0_6.index t := rfl
  refine ⟨t, flush0_7 t, ?_⟩
  show i ∈ ((View.whole main_v0_1).slice (win0_7.rect t)).set
  rw [View.set_slice_whole, Rect.mem_set_unit]
  intro a
  match a with
  | ⟨0, _⟩ =>
    show win0_7.index t (0 : Fin 2) * 256 ≤ (i 0 : ℕ) ∧ (i 0 : ℕ) < win0_7.index t (0 : Fin 2) * 256 + 256
    rw [e7, show win0_6.index t (0 : Fin 2) = (i 0 : ℕ) / 256 from congrFun ht 0]
    omega
  | ⟨1, _⟩ =>
    show win0_7.index t (1 : Fin 2) * 2048 ≤ (i 1 : ℕ) ∧ (i 1 : ℕ) < win0_7.index t (1 : Fin 2) * 2048 + 2048
    rw [e7, show win0_6.index t (1 : Fin 2) = (i 1 : ℕ) / 2048 from congrFun ht 1]
    omega

theorem whole7 (h1 : (⟨1, ![1]⟩ : Shape).ShapeCasts ⟨0, ![]⟩) (hb : (⟨0, ![]⟩ : Shape).BroadcastsInDim ⟨2, ![512, 2048]⟩ ![]) (h : Shape.Concatenates [⟨2, ![512, 2048]⟩, ⟨2, ![512, 2048]⟩] ⟨2, ![1024, 2048]⟩ 0) (c : Dev nD) : (dats m 0 c).arrAt 7 cfg0.N = change (V m c main_arg1) (moment (gradient m h1 hb h c) (V m c main_arg4)) (square (gradient m h1 hb h c) (V m c main_arg5)) :=
  (dats m 0 c).arrAt_eq_of_cover 7 _ (fun t _ => written7 m h1 hb h c t) covered7

theorem written8 (h1 : (⟨1, ![1]⟩ : Shape).ShapeCasts ⟨0, ![]⟩) (hb : (⟨0, ![]⟩ : Shape).BroadcastsInDim ⟨2, ![512, 2048]⟩ ![]) (h : Shape.Concatenates [⟨2, ![512, 2048]⟩, ⟨2, ![512, 2048]⟩] ⟨2, ![1024, 2048]⟩ 0) (c : Dev nD) (t : Fin cfg0.N) :
    (dats m 0 c).flushed 8 t = ((cfg0.win 8).blk t).view.read (Elt F) (moment (gradient m h1 hb h c) (V m c main_arg4)) := by
  rw [Value.flushed8_A, left8]
  funext j
  show _ = (moment (gradient m h1 hb h c) (V m c main_arg4)) (((cfg0.win 8).blk t).view.emb j)
  rw [emb8]
  exact moment_at (gradient_block m h1 hb h c t j) (congrArg (V m c main_arg4) (emb4 t j))

theorem covered8 (i : S1024x2048.Idx) : ∃ t : Fin cfg0.N, (cfg0.win 8).flush t = true ∧ i ∈ ((cfg0.win 8).blk t).view.set := by
  have i0 : (i 0 : ℕ) < 1024 := (i 0).isLt
  have i1 : (i 1 : ℕ) < 2048 := (i 1).isLt
  obtain ⟨t, ht⟩ := onto ⟨(i 0 : ℕ) / 256, by omega⟩ ⟨(i 1 : ℕ) / 2048, by omega⟩
  obtain ⟨-, -, -, -, -, -, -, e7, e8, e9⟩ := places t
  have e6 : win0_6.index t = win0_6.index t := rfl
  refine ⟨t, flush0_8 t, ?_⟩
  show i ∈ ((View.whole main_v0_2).slice (win0_8.rect t)).set
  rw [View.set_slice_whole, Rect.mem_set_unit]
  intro a
  match a with
  | ⟨0, _⟩ =>
    show win0_8.index t (0 : Fin 2) * 256 ≤ (i 0 : ℕ) ∧ (i 0 : ℕ) < win0_8.index t (0 : Fin 2) * 256 + 256
    rw [e8, show win0_6.index t (0 : Fin 2) = (i 0 : ℕ) / 256 from congrFun ht 0]
    omega
  | ⟨1, _⟩ =>
    show win0_8.index t (1 : Fin 2) * 2048 ≤ (i 1 : ℕ) ∧ (i 1 : ℕ) < win0_8.index t (1 : Fin 2) * 2048 + 2048
    rw [e8, show win0_6.index t (1 : Fin 2) = (i 1 : ℕ) / 2048 from congrFun ht 1]
    omega

theorem whole8 (h1 : (⟨1, ![1]⟩ : Shape).ShapeCasts ⟨0, ![]⟩) (hb : (⟨0, ![]⟩ : Shape).BroadcastsInDim ⟨2, ![512, 2048]⟩ ![]) (h : Shape.Concatenates [⟨2, ![512, 2048]⟩, ⟨2, ![512, 2048]⟩] ⟨2, ![1024, 2048]⟩ 0) (c : Dev nD) : (dats m 0 c).arrAt 8 cfg0.N = moment (gradient m h1 hb h c) (V m c main_arg4) :=
  (dats m 0 c).arrAt_eq_of_cover 8 _ (fun t _ => written8 m h1 hb h c t) covered8

theorem written9 (h1 : (⟨1, ![1]⟩ : Shape).ShapeCasts ⟨0, ![]⟩) (hb : (⟨0, ![]⟩ : Shape).BroadcastsInDim ⟨2, ![512, 2048]⟩ ![]) (h : Shape.Concatenates [⟨2, ![512, 2048]⟩, ⟨2, ![512, 2048]⟩] ⟨2, ![1024, 2048]⟩ 0) (c : Dev nD) (t : Fin cfg0.N) :
    (dats m 0 c).flushed 9 t = ((cfg0.win 9).blk t).view.read (Elt F) (square (gradient m h1 hb h c) (V m c main_arg5)) := by
  rw [Value.flushed9_A, left9]
  funext j
  show _ = (square (gradient m h1 hb h c) (V m c main_arg5)) (((cfg0.win 9).blk t).view.emb j)
  rw [emb9]
  exact square_at (gradient_block m h1 hb h c t j) (congrArg (V m c main_arg5) (emb5 t j))

theorem covered9 (i : S1024x2048.Idx) : ∃ t : Fin cfg0.N, (cfg0.win 9).flush t = true ∧ i ∈ ((cfg0.win 9).blk t).view.set := by
  have i0 : (i 0 : ℕ) < 1024 := (i 0).isLt
  have i1 : (i 1 : ℕ) < 2048 := (i 1).isLt
  obtain ⟨t, ht⟩ := onto ⟨(i 0 : ℕ) / 256, by omega⟩ ⟨(i 1 : ℕ) / 2048, by omega⟩
  obtain ⟨-, -, -, -, -, -, -, e7, e8, e9⟩ := places t
  have e6 : win0_6.index t = win0_6.index t := rfl
  refine ⟨t, flush0_9 t, ?_⟩
  show i ∈ ((View.whole main_v0_3).slice (win0_9.rect t)).set
  rw [View.set_slice_whole, Rect.mem_set_unit]
  intro a
  match a with
  | ⟨0, _⟩ =>
    show win0_9.index t (0 : Fin 2) * 256 ≤ (i 0 : ℕ) ∧ (i 0 : ℕ) < win0_9.index t (0 : Fin 2) * 256 + 256
    rw [e9, show win0_6.index t (0 : Fin 2) = (i 0 : ℕ) / 256 from congrFun ht 0]
    omega
  | ⟨1, _⟩ =>
    show win0_9.index t (1 : Fin 2) * 2048 ≤ (i 1 : ℕ) ∧ (i 1 : ℕ) < win0_9.index t (1 : Fin 2) * 2048 + 2048
    rw [e9, show win0_6.index t (1 : Fin 2) = (i 1 : ℕ) / 2048 from congrFun ht 1]
    omega

theorem whole9 (h1 : (⟨1, ![1]⟩ : Shape).ShapeCasts ⟨0, ![]⟩) (hb : (⟨0, ![]⟩ : Shape).BroadcastsInDim ⟨2, ![512, 2048]⟩ ![]) (h : Shape.Concatenates [⟨2, ![512, 2048]⟩, ⟨2, ![512, 2048]⟩] ⟨2, ![1024, 2048]⟩ 0) (c : Dev nD) : (dats m 0 c).arrAt 9 cfg0.N = square (gradient m h1 hb h c) (V m c main_arg5) :=
  (dats m 0 c).arrAt_eq_of_cover 9 _ (fun t _ => written9 m h1 hb h c t) covered9

end Cert.AdamOutIdeal.Whole

end
-- ==== Proof.Total.lean ====
/- # A sum over the four chips, one after the other or all at once

   Over the extended reals the three additions of four slices, in order, are the sum over the first axis. -/
module

public import Idealize.ShloMosaic.Lib.IdealHost
public import Idealize.ShloMosaic.Lib.Pointwise.Reduce
public import Idealize.ShloMosaic.Lib.Pipeline.Value

@[expose] public section

noncomputable section

namespace Cert.Total

open Idealize.ShloMosaic

variable {a b : ℕ}

theorem total_at (x : FVec Ideal ⟨3, ![4, a, b]⟩ .f32) (h : (⟨3, ![4, a, b]⟩ : Shape).ReducesTo [0] ⟨2, ![a, b]⟩) (hu : 0 < (⟨0, ![]⟩ : Shape).numel)
    (j : (⟨2, ![a, b]⟩ : Shape).Idx) (k : Fin 4 → (⟨3, ![4, a, b]⟩ : Shape).Idx)
    (hk : ∀ q, (k q 0 : ℕ) = q ∧ (k q 1 : ℕ) = (j 0 : ℕ) ∧ (k q 2 : ℕ) = (j 1 : ℕ)) :
    FloatOps.addf (FloatOps.addf (FloatOps.addf (x (k 0)) (x (k 1))) (x (k 2))) (x (k 3))
      = Host.reduceAdd x (constant (F := Ideal) ⟨0, ![]⟩ .f32 0x00000000#32) h hu j := by
  have e (q : Fin 4) : k q = ix3 q ⟨(j ⟨0, h.lt_r3_a0_0⟩).val, Shape.coordLt (j ⟨0, h.lt_r3_a0_0⟩) h.size_r3_a0_0⟩ ⟨(j ⟨1, h.lt_r3_a0_1⟩).val, Shape.coordLt (j ⟨1, h.lt_r3_a0_1⟩) h.size_r3_a0_1⟩ := by
    funext d; apply Fin.ext
    match d with
    | ⟨0, _⟩ => exact (hk q).1
    | ⟨1, _⟩ => exact (hk q).2.1
    | ⟨2, _⟩ => exact (hk q).2.2
  have z : (constant (F := Ideal) ⟨0, ![]⟩ .f32 0x00000000#32) (Shape.Idx.first hu) = (0 : EReal) := by
    show Ideal.ofBits .f32 0x00000000#32 = 0
    simp
  show _ = Ideal.hostReduceAdd h x ((constant (F := Ideal) ⟨0, ![]⟩ .f32 0x00000000#32) (Shape.Idx.first hu)) j
  rw [z, Ideal.hostReduceAdd_r3_a0, Fin.sum_univ_four, zero_add, ← e, ← e, ← e, ← e]
  rfl

end Cert.Total

end
-- ==== Proof.AdamSmallValue.lean ====
/- # The gradients of the small weights, summed over the chips

   The kernel adds its four slices in order; over the extended reals that is the sum over the first axis. -/
module

public import proofs.«01_k».proof.Proof.Total
public import proofs.«01_k».proof.Proof.Gen.AdamSmallIdeal.Value

@[expose] public section

noncomputable section

namespace Cert.AdamSmallIdeal.Whole

open Cert.AdamSmallIdeal Cert.AdamSmallIdeal.Gen Cert.Total Idealize.ShloMosaic Idealize.ShloMosaic.TcCoe Idealize.SL.Sem

theorem total (x : Vec Ideal S4x1560x128 .f32) (h : (⟨3, ![4, 1560, 128]⟩ : Shape).ReducesTo [0] ⟨2, ![1560, 128]⟩) (hu : 0 < (⟨0, ![]⟩ : Shape).numel) :
    k0_pay2 (View.ld x r0_0) (View.ld x r0_1) (View.ld x r0_2) (View.ld x r0_3)
      = Host.reduceAdd x (constant (F := Ideal) ⟨0, ![]⟩ .f32 0x00000000#32) h hu := by
  funext j
  refine (Value.piece4_0 _ _ _ _ j).trans ?_
  have e0 (q : ℕ) : q + 1 * 0 = q := by omega
  have e (i : ℕ) : 0 + 1 * (0 + 1 * i) = i := by omega
  exact total_at x h hu j
    ![r0_0.idx (Value.ix4_0 (r0_4.idx j)), r0_1.idx (Value.ix4_1 (r0_4.idx j)),
      r0_2.idx (Value.ix4_2 (r0_4.idx j)), r0_3.idx (Value.ix4_3 (r0_4.idx j))]
    (fun q => by
      match q with
      | ⟨0, _⟩ => exact ⟨e0 0, e _, e _⟩
      | ⟨1, _⟩ => exact ⟨e0 1, e _, e _⟩
      | ⟨2, _⟩ => exact ⟨e0 2, e _, e _⟩
      | ⟨3, _⟩ => exact ⟨e0 3, e _, e _⟩)

end Cert.AdamSmallIdeal.Whole

end
-- ==== Proof.LocalStep.lean ====
module

public import proofs.«01_k».proof.Proof.Gen.AdamIn.Frame
public import proofs.«01_k».proof.Proof.AdamInValue
public import proofs.«01_k».proof.Proof.Gen.AdamInRefIdeal.Run
public import proofs.«01_k».proof.Proof.Gen.AdamOut.Frame
public import proofs.«01_k».proof.Proof.AdamOutValue
public import proofs.«01_k».proof.Proof.Gen.AdamOutRefIdeal.Run
public import proofs.«01_k».proof.Proof.Gen.AdamSmall.Frame
public import proofs.«01_k».proof.Proof.AdamSmallValue
public import proofs.«01_k».proof.Proof.Gen.AdamSmallRefIdeal.Run
public import proofs.«01_k».proof.Proof.Gen.AdamShard.Frame
public import proofs.«01_k».proof.Proof.Gen.AdamShardIdeal.Value
public import proofs.«01_k».proof.Proof.Gen.AdamShardRefIdeal.Run
public import proofs.«01_k».proof.Defs

@[expose] public section

noncomputable section

namespace Cert.Proof

open Idealize.ShloMosaic Idealize.SL.Sem

/-! ## The step of `w_in` -/

theorem frame_step_in_kernel : Cert.quiescent_AdamIn := fun m ρ _ => Cert.AdamIn.Gen.frame (F := Bits) m ρ

theorem frame_step_in_ideal : Cert.quiescent_AdamInIdeal := fun m ρ _ => Cert.AdamInIdeal.Gen.frame (F := Ideal) m ρ

theorem frame_step_in_reference_ideal : Cert.quiescent_AdamInRefIdeal := fun m ρ _ =>
  (θ_run Cert.AdamInRefIdeal.defs _ _).mono (fun r h => ⟨fun c => (h c).2.2.2.2, sem_eq_zero_of_no_sems (by decide) r.2⟩) (Cert.AdamInRefIdeal.Value.run (F := Ideal) m ρ)

theorem algebraic_step_in : Cert.algebraic_AdamInIdeal_AdamInRefIdeal := fun m ρ m' ρ' _ hm => by
  refine ⟨_, _, _, _, (θ_run Cert.AdamInIdeal.defs _ _).mono (fun r h c => h c) (Cert.AdamInIdeal.Value.run_blocks (F := Ideal) m ρ),
    (θ_run Cert.AdamInRefIdeal.defs _ _).mono (fun r h c => ?_) (Cert.AdamInRefIdeal.Value.run (F := Ideal) m' ρ')⟩
  obtain ⟨e0, e1, e2, e3, rest⟩ := h c
  obtain ⟨h0, h1, h2, h3, h4, h5⟩ := hm c
  rw [h0, h2, h3] at e0
  rw [h0, h1, h2, h3, h4, h5] at e1
  rw [h0, h2, h3, h4] at e2
  rw [h0, h2, h3, h5] at e3
  exact ⟨e0.trans (Cert.AdamInIdeal.Whole.whole6 m Cert.AdamInRefIdeal.Facts₀.shapeCasts_S1_S_ Cert.AdamInRefIdeal.Facts₀.bcast_S_S1544x2048 Cert.AdamInRefIdeal.Facts₀.concatenates_S1544x2048_S1544x2048_S3088x2048_d0 c).symm, e1.trans
    (Cert.AdamInIdeal.Whole.whole7 m Cert.AdamInRefIdeal.Facts₀.shapeCasts_S1_S_ Cert.AdamInRefIdeal.Facts₀.bcast_S_S1544x2048 Cert.AdamInRefIdeal.Facts₀.concatenates_S1544x2048_S1544x2048_S3088x2048_d0 c).symm, e2.trans
    (Cert.AdamInIdeal.Whole.whole8 m Cert.AdamInRefIdeal.Facts₀.shapeCasts_S1_S_ Cert.AdamInRefIdeal.Facts₀.bcast_S_S1544x2048 Cert.AdamInRefIdeal.Facts₀.concatenates_S1544x2048_S1544x2048_S3088x2048_d0 c).symm, e3.trans
    (Cert.AdamInIdeal.Whole.whole9 m Cert.AdamInRefIdeal.Facts₀.shapeCasts_S1_S_ Cert.AdamInRefIdeal.Facts₀.bcast_S_S1544x2048 Cert.AdamInRefIdeal.Facts₀.concatenates_S1544x2048_S1544x2048_S3088x2048_d0 c).symm, rest⟩

/-! ## The step of `w_out` -/

theorem frame_step_out_kernel : Cert.quiescent_AdamOut := fun m ρ _ => Cert.AdamOut.Gen.frame (F := Bits) m ρ

theorem frame_step_out_ideal : Cert.quiescent_AdamOutIdeal := fun m ρ _ => Cert.AdamOutIdeal.Gen.frame (F := Ideal) m ρ

theorem frame_step_out_reference_ideal : Cert.quiescent_AdamOutRefIdeal := fun m ρ _ =>
  (θ_run Cert.AdamOutRefIdeal.defs _ _).mono (fun r h => ⟨fun c => (h c).2.2.2.2, sem_eq_zero_of_no_sems (by decide) r.2⟩) (Cert.AdamOutRefIdeal.Value.run (F := Ideal) m ρ)

theorem algebraic_step_out : Cert.algebraic_AdamOutIdeal_AdamOutRefIdeal := fun m ρ m' ρ' _ hm => by
  refine ⟨_, _, _, _, (θ_run Cert.AdamOutIdeal.defs _ _).mono (fun r h c => h c) (Cert.AdamOutIdeal.Value.run_blocks (F := Ideal) m ρ),
    (θ_run Cert.AdamOutRefIdeal.defs _ _).mono (fun r h c => ?_) (Cert.AdamOutRefIdeal.Value.run (F := Ideal) m' ρ')⟩
  obtain ⟨e0, e1, e2, e3, rest⟩ := h c
  obtain ⟨h0, h1, h2, h3, h4, h5⟩ := hm c
  rw [h0, h2, h3] at e0
  rw [h0, h1, h2, h3, h4, h5] at e1
  rw [h0, h2, h3, h4] at e2
  rw [h0, h2, h3, h5] at e3
  exact ⟨e0.trans (Cert.AdamOutIdeal.Whole.whole6 m Cert.AdamOutRefIdeal.Facts₀.shapeCasts_S1_S_ Cert.AdamOutRefIdeal.Facts₀.bcast_S_S512x2048 Cert.AdamOutRefIdeal.Facts₀.concatenates_S512x2048_S512x2048_S1024x2048_d0 c).symm, e1.trans
    (Cert.AdamOutIdeal.Whole.whole7 m Cert.AdamOutRefIdeal.Facts₀.shapeCasts_S1_S_ Cert.AdamOutRefIdeal.Facts₀.bcast_S_S512x2048 Cert.AdamOutRefIdeal.Facts₀.concatenates_S512x2048_S512x2048_S1024x2048_d0 c).symm, e2.trans
    (Cert.AdamOutIdeal.Whole.whole8 m Cert.AdamOutRefIdeal.Facts₀.shapeCasts_S1_S_ Cert.AdamOutRefIdeal.Facts₀.bcast_S_S512x2048 Cert.AdamOutRefIdeal.Facts₀.concatenates_S512x2048_S512x2048_S1024x2048_d0 c).symm, e3.trans
    (Cert.AdamOutIdeal.Whole.whole9 m Cert.AdamOutRefIdeal.Facts₀.shapeCasts_S1_S_ Cert.AdamOutRefIdeal.Facts₀.bcast_S_S512x2048 Cert.AdamOutRefIdeal.Facts₀.concatenates_S512x2048_S512x2048_S1024x2048_d0 c).symm, rest⟩

/-! ## The step of the small weights that every device holds whole -/

theorem frame_step_small_kernel : Cert.quiescent_AdamSmall := fun m ρ _ => Cert.AdamSmall.Gen.frame (F := Bits) m ρ

theorem frame_step_small_ideal : Cert.quiescent_AdamSmallIdeal := fun m ρ _ => Cert.AdamSmallIdeal.Gen.frame (F := Ideal) m ρ

theorem frame_step_small_reference_ideal : Cert.quiescent_AdamSmallRefIdeal := fun m ρ _ =>
  (θ_run Cert.AdamSmallRefIdeal.defs _ _).mono (fun r h => ⟨fun c => (h c).2.2.2.2, sem_eq_zero_of_no_sems (by decide) r.2⟩) (Cert.AdamSmallRefIdeal.Value.run (F := Ideal) m ρ)

theorem algebraic_step_small : Cert.algebraic_AdamSmallIdeal_AdamSmallRefIdeal := fun m ρ m' ρ' _ hm => by
  refine ⟨_, _, _, _, (θ_run Cert.AdamSmallIdeal.defs _ _).mono (fun r h c => h c) (Cert.AdamSmallIdeal.Value.run (F := Ideal) m ρ),
    (θ_run Cert.AdamSmallRefIdeal.defs _ _).mono (fun r h c => ?_) (Cert.AdamSmallRefIdeal.Value.run (F := Ideal) m' ρ')⟩
  obtain ⟨e0, e1, e2, e3, rest⟩ := h c
  obtain ⟨h0, h1, h2, h3⟩ := hm c
  have total := Cert.AdamSmallIdeal.Whole.total (m ((c.tc : Thread Cert.AdamSmallIdeal.nD Cert.AdamSmallIdeal.τ).loc Cert.AdamSmallIdeal.main_arg1)) Cert.AdamSmallRefIdeal.Facts₀.reducesTo_S4x1560x128_S1560x128_d0 Cert.AdamSmallRefIdeal.Facts₀.h_S_
  rw [h1, ← total] at e0
  rw [h0, h1, h2, h3, ← total] at e1
  rw [h1, h2, ← total] at e2
  rw [h1, h3, ← total] at e3
  exact ⟨e0.trans rfl, e1.trans rfl, e2.trans rfl, e3.trans rfl, rest⟩

/-! ## The step of the small weights that the chips hold in parts -/

theorem frame_step_shard_kernel : Cert.quiescent_AdamShard := fun m ρ _ => Cert.AdamShard.Gen.frame (F := Bits) m ρ

theorem frame_step_shard_ideal : Cert.quiescent_AdamShardIdeal := fun m ρ _ => Cert.AdamShardIdeal.Gen.frame (F := Ideal) m ρ

theorem frame_step_shard_reference_ideal : Cert.quiescent_AdamShardRefIdeal := fun m ρ _ =>
  (θ_run Cert.AdamShardRefIdeal.defs _ _).mono (fun r h => ⟨fun c => (h c).2.2.2.2, sem_eq_zero_of_no_sems (by decide) r.2⟩) (Cert.AdamShardRefIdeal.Value.run (F := Ideal) m ρ)

theorem algebraic_step_shard : Cert.algebraic_AdamShardIdeal_AdamShardRefIdeal := fun m ρ m' ρ' _ hm => by
  refine ⟨_, _, _, _, (θ_run Cert.AdamShardIdeal.defs _ _).mono (fun r h c => h c) (Cert.AdamShardIdeal.Value.run (F := Ideal) m ρ),
    (θ_run Cert.AdamShardRefIdeal.defs _ _).mono (fun r h c => ?_) (Cert.AdamShardRefIdeal.Value.run (F := Ideal) m' ρ')⟩
  obtain ⟨e0, e1, e2, e3, rest⟩ := h c
  obtain ⟨h0, h1, h2, h3⟩ := hm c
  rw [h1] at e0
  rw [h0, h1, h2, h3] at e1
  rw [h1, h2] at e2
  rw [h1, h3] at e3
  exact ⟨e0.trans rfl, e1.trans rfl, e2.trans rfl, e3.trans rfl, rest⟩

end Cert.Proof

end
-- ==== Proof.SumAValue.lean ====
/- # The sum of the gradient of the input projection over the chips

   Every block of the result is the four slices of the same block of the argument, added in order; the blocks fill the
   result, so the whole of it is the sum over the chips. -/
module

public import proofs.«01_k».proof.Proof.Total
public import proofs.«01_k».proof.Proof.Gen.SumAIdeal.Value

@[expose] public section

noncomputable section

namespace Cert.SumAIdeal.Whole

open Cert.SumAIdeal Cert.SumAIdeal.Gen Cert.Total Idealize.ShloMosaic Idealize.ShloMosaic.TcCoe Idealize.SL.Sem

/-- The argument's blocks are where the result's are, all four slices of them. -/
theorem places : ∀ t : Fin cfg0.N, win0_0.index t (0 : Fin 3) = 0 ∧ win0_0.index t (1 : Fin 3) = win0_1.index t (0 : Fin 2) ∧ win0_0.index t (2 : Fin 3) = win0_1.index t (1 : Fin 2) :=
  (by decide +kernel : ∀ t : Fin grid0.N, _)

theorem onto : ∀ (p : Fin 1) (q : Fin 8), ∃ t : Fin cfg0.N, win0_1.index t = ![p.val, q.val] :=
  (by decide +kernel : ∀ (p : Fin 1) (q : Fin 8), ∃ t : Fin grid0.N, win0_1.index t = ![p.val, q.val])

theorem covered (i : S1544x2048.Idx) : ∃ t : Fin cfg0.N, (cfg0.win 1).flush t = true ∧ i ∈ ((cfg0.win 1).blk t).view.set := by
  have i0 : (i 0 : ℕ) < 1544 := (i 0).isLt
  have i1 : (i 1 : ℕ) < 2048 := (i 1).isLt
  obtain ⟨t, ht⟩ := onto ⟨(i 0 : ℕ) / 1544, by omega⟩ ⟨(i 1 : ℕ) / 256, by omega⟩
  refine ⟨t, flush0_1 t, ?_⟩
  show i ∈ ((View.whole main_v0).slice (win0_1.rect t)).set
  rw [View.set_slice_whole, Rect.mem_set_unit]
  intro a
  match a with
  | ⟨0, _⟩ =>
    show win0_1.index t (0 : Fin 2) * 1544 ≤ (i 0 : ℕ) ∧ (i 0 : ℕ) < win0_1.index t (0 : Fin 2) * 1544 + 1544
    rw [show win0_1.index t (0 : Fin 2) = (i 0 : ℕ) / 1544 from congrFun ht 0]
    omega
  | ⟨1, _⟩ =>
    show win0_1.index t (1 : Fin 2) * 256 ≤ (i 1 : ℕ) ∧ (i 1 : ℕ) < win0_1.index t (1 : Fin 2) * 256 + 256
    rw [show win0_1.index t (1 : Fin 2) = (i 1 : ℕ) / 256 from congrFun ht 1]
    omega

variable (m : (ℓ : Loc nD τ sig) → Buf (Elt Ideal) ℓ)

/-- The sum over the chips. -/
abbrev total (h : (⟨3, ![4, 1544, 2048]⟩ : Shape).ReducesTo [0] ⟨2, ![1544, 2048]⟩) (hu : 0 < (⟨0, ![]⟩ : Shape).numel) (c : Dev nD) : Vec Ideal S1544x2048 .f32 :=
  Host.reduceAdd (extf .f32 (V m c main_arg0) bitsLt_bf16_f32) (constant (F := Ideal) ⟨0, ![]⟩ .f32 0x00000000#32) h hu

theorem written (h hu) (c : Dev nD) (t : Fin cfg0.N) : (dats m 0 c).flushed 1 t = ((cfg0.win 1).blk t).view.read (Elt Ideal) (total m h hu c) := by
  obtain ⟨e0, e1, e2⟩ := places t
  rw [Value.flushed1]
  funext j
  show out0_1 (iblk m c 0 t) j = total m h hu c (((cfg0.win 1).blk t).view.emb j)
  refine (Value.canon1_eq _ _ _ _ j).trans ?_
  have at0 : (((cfg0.win 0).blk t).view.emb (r0_0.idx (Value.ix1_0 j)) 0 : ℕ) = 0 ∧ (((cfg0.win 0).blk t).view.emb (r0_0.idx (Value.ix1_0 j)) 1 : ℕ) = (((cfg0.win 1).blk t).view.emb j 0 : ℕ)
      ∧ (((cfg0.win 0).blk t).view.emb (r0_0.idx (Value.ix1_0 j)) 2 : ℕ) = (((cfg0.win 1).blk t).view.emb j 1 : ℕ) := by
    refine ⟨?_, ?_, ?_⟩
    · show win0_0.index t (0 : Fin 3) * 4 + 1 * (0 + 1 * 0) = 0
      omega
    · show win0_0.index t (1 : Fin 3) * 1544 + 1 * (0 + 1 * (j 0).val) = win0_1.index t (0 : Fin 2) * 1544 + 1 * (j 0).val
      omega
    · show win0_0.index t (2 : Fin 3) * 256 + 1 * (0 + 1 * (j 1).val) = win0_1.index t (1 : Fin 2) * 256 + 1 * (j 1).val
      omega
  have at1 : (((cfg0.win 0).blk t).view.emb (r0_1.idx (Value.ix1_1 j)) 0 : ℕ) = 1 ∧ (((cfg0.win 0).blk t).view.emb (r0_1.idx (Value.ix1_1 j)) 1 : ℕ) = (((cfg0.win 1).blk t).view.emb j 0 : ℕ)
      ∧ (((cfg0.win 0).blk t).view.emb (r0_1.idx (Value.ix1_1 j)) 2 : ℕ) = (((cfg0.win 1).blk t).view.emb j 1 : ℕ) := by
    refine ⟨?_, ?_, ?_⟩
    · show win0_0.index t (0 : Fin 3) * 4 + 1 * (1 + 1 * 0) = 1
      omega
    · show win0_0.index t (1 : Fin 3) * 1544 + 1 * (0 + 1 * (j 0).val) = win0_1.index t (0 : Fin 2) * 1544 + 1 * (j 0).val
      omega
    · show win0_0.index t (2 : Fin 3) * 256 + 1 * (0 + 1 * (j 1).val) = win0_1.index t (1 : Fin 2) * 256 + 1 * (j 1).val
      omega
  have at2 : (((cfg0.win 0).blk t).view.emb (r0_2.idx (Value.ix1_2 j)) 0 : ℕ) = 2 ∧ (((cfg0.win 0).blk t).view.emb (r0_2.idx (Value.ix1_2 j)) 1 : ℕ) = (((cfg0.win 1).blk t).view.emb j 0 : ℕ)
      ∧ (((cfg0.win 0).blk t).view.emb (r0_2.idx (Value.ix1_2 j)) 2 : ℕ) = (((cfg0.win 1).blk t).view.emb j 1 : ℕ) := by
    refine ⟨?_, ?_, ?_⟩
    · show win0_0.index t (0 : Fin 3) * 4 + 1 * (2 + 1 * 0) = 2
      omega
    · show win0_0.index t (1 : Fin 3) * 1544 + 1 * (0 + 1 * (j 0).val) = win0_1.index t (0 : Fin 2) * 1544 + 1 * (j 0).val
      omega
    · show win0_0.index t (2 : Fin 3) * 256 + 1 * (0 + 1 * (j 1).val) = win0_1.index t (1 : Fin 2) * 256 + 1 * (j 1).val
      omega
  have at3 : (((cfg0.win 0).blk t).view.emb (r0_3.idx (Value.ix1_3 j)) 0 : ℕ) = 3 ∧ (((cfg0.win 0).blk t).view.emb (r0_3.idx (Value.ix1_3 j)) 1 : ℕ) = (((cfg0.win 1).blk t).view.emb j 0 : ℕ)
      ∧ (((cfg0.win 0).blk t).view.emb (r0_3.idx (Value.ix1_3 j)) 2 : ℕ) = (((cfg0.win 1).blk t).view.emb j 1 : ℕ) := by
    refine ⟨?_, ?_, ?_⟩
    · show win0_0.index t (0 : Fin 3) * 4 + 1 * (3 + 1 * 0) = 3
      omega
    · show win0_0.index t (1 : Fin 3) * 1544 + 1 * (0 + 1 * (j 0).val) = win0_1.index t (0 : Fin 2) * 1544 + 1 * (j 0).val
      omega
    · show win0_0.index t (2 : Fin 3) * 256 + 1 * (0 + 1 * (j 1).val) = win0_1.index t (1 : Fin 2) * 256 + 1 * (j 1).val
      omega
  exact total_at (extf .f32 (V m c main_arg0) bitsLt_bf16_f32) h hu (((cfg0.win 1).blk t).view.emb j)
    ![((cfg0.win 0).blk t).view.emb (r0_0.idx (Value.ix1_0 j)), ((cfg0.win 0).blk t).view.emb (r0_1.idx (Value.ix1_1 j)),
      ((cfg0.win 0).blk t).view.emb (r0_2.idx (Value.ix1_2 j)), ((cfg0.win 0).blk t).view.emb (r0_3.idx (Value.ix1_3 j))]
    (fun q => by
      match q with
      | ⟨0, _⟩ => exact at0
      | ⟨1, _⟩ => exact at1
      | ⟨2, _⟩ => exact at2
      | ⟨3, _⟩ => exact at3)

theorem whole (h hu) (c : Dev nD) : (dats m 0 c).arrAt 1 cfg0.N = total m h hu c :=
  (dats m 0 c).arrAt_eq_of_cover 1 _ (fun t _ => written m h hu c t) covered

end Cert.SumAIdeal.Whole

end
-- ==== Proof.SumBValue.lean ====
/- # The sum of the gradient of the output projection over the chips

   Every block of the result is the four slices of the same block of the argument, added in order; the blocks fill the
   result, so the whole of it is the sum over the chips. -/
module

public import proofs.«01_k».proof.Proof.Total
public import proofs.«01_k».proof.Proof.Gen.SumBIdeal.Value

@[expose] public section

noncomputable section

namespace Cert.SumBIdeal.Whole

open Cert.SumBIdeal Cert.SumBIdeal.Gen Cert.Total Idealize.ShloMosaic Idealize.ShloMosaic.TcCoe Idealize.SL.Sem

/-- The argument's blocks are where the result's are, all four slices of them. -/
theorem places : ∀ t : Fin cfg0.N, win0_0.index t (0 : Fin 3) = 0 ∧ win0_0.index t (1 : Fin 3) = win0_1.index t (0 : Fin 2) ∧ win0_0.index t (2 : Fin 3) = win0_1.index t (1 : Fin 2) :=
  (by decide +kernel : ∀ t : Fin grid0.N, _)

theorem onto : ∀ (p : Fin 2) (q : Fin 1), ∃ t : Fin cfg0.N, win0_1.index t = ![p.val, q.val] :=
  (by decide +kernel : ∀ (p : Fin 2) (q : Fin 1), ∃ t : Fin grid0.N, win0_1.index t = ![p.val, q.val])

theorem covered (i : S512x2048.Idx) : ∃ t : Fin cfg0.N, (cfg0.win 1).flush t = true ∧ i ∈ ((cfg0.win 1).blk t).view.set := by
  have i0 : (i 0 : ℕ) < 512 := (i 0).isLt
  have i1 : (i 1 : ℕ) < 2048 := (i 1).isLt
  obtain ⟨t, ht⟩ := onto ⟨(i 0 : ℕ) / 256, by omega⟩ ⟨(i 1 : ℕ) / 2048, by omega⟩
  refine ⟨t, flush0_1 t, ?_⟩
  show i ∈ ((View.whole main_v0).slice (win0_1.rect t)).set
  rw [View.set_slice_whole, Rect.mem_set_unit]
  intro a
  match a with
  | ⟨0, _⟩ =>
    show win0_1.index t (0 : Fin 2) * 256 ≤ (i 0 : ℕ) ∧ (i 0 : ℕ) < win0_1.index t (0 : Fin 2) * 256 + 256
    rw [show win0_1.index t (0 : Fin 2) = (i 0 : ℕ) / 256 from congrFun ht 0]
    omega
  | ⟨1, _⟩ =>
    show win0_1.index t (1 : Fin 2) * 2048 ≤ (i 1 : ℕ) ∧ (i 1 : ℕ) < win0_1.index t (1 : Fin 2) * 2048 + 2048
    rw [show win0_1.index t (1 : Fin 2) = (i 1 : ℕ) / 2048 from congrFun ht 1]
    omega

variable (m : (ℓ : Loc nD τ sig) → Buf (Elt Ideal) ℓ)

/-- The sum over the chips. -/
abbrev total (h : (⟨3, ![4, 512, 2048]⟩ : Shape).ReducesTo [0] ⟨2, ![512, 2048]⟩) (hu : 0 < (⟨0, ![]⟩ : Shape).numel) (c : Dev nD) : Vec Ideal S512x2048 .f32 :=
  Host.reduceAdd (extf .f32 (V m c main_arg0) bitsLt_bf16_f32) (constant (F := Ideal) ⟨0, ![]⟩ .f32 0x00000000#32) h hu

theorem written (h hu) (c : Dev nD) (t : Fin cfg0.N) : (dats m 0 c).flushed 1 t = ((cfg0.win 1).blk t).view.read (Elt Ideal) (total m h hu c) := by
  obtain ⟨e0, e1, e2⟩ := places t
  rw [Value.flushed1]
  funext j
  show out0_1 (iblk m c 0 t) j = total m h hu c (((cfg0.win 1).blk t).view.emb j)
  refine (Value.canon1_eq _ _ _ _ j).trans ?_
  have at0 : (((cfg0.win 0).blk t).view.emb (r0_0.idx (Value.ix1_0 j)) 0 : ℕ) = 0 ∧ (((cfg0.win 0).blk t).view.emb (r0_0.idx (Value.ix1_0 j)) 1 : ℕ) = (((cfg0.win 1).blk t).view.emb j 0 : ℕ)
      ∧ (((cfg0.win 0).blk t).view.emb (r0_0.idx (Value.ix1_0 j)) 2 : ℕ) = (((cfg0.win 1).blk t).view.emb j 1 : ℕ) := by
    refine ⟨?_, ?_, ?_⟩
    · show win0_0.index t (0 : Fin 3) * 4 + 1 * (0 + 1 * 0) = 0
      omega
    · show win0_0.index t (1 : Fin 3) * 256 + 1 * (0 + 1 * (j 0).val) = win0_1.index t (0 : Fin 2) * 256 + 1 * (j 0).val
      omega
    · show win0_0.index t (2 : Fin 3) * 2048 + 1 * (0 + 1 * (j 1).val) = win0_1.index t (1 : Fin 2) * 2048 + 1 * (j 1).val
      omega
  have at1 : (((cfg0.win 0).blk t).view.emb (r0_1.idx (Value.ix1_1 j)) 0 : ℕ) = 1 ∧ (((cfg0.win 0).blk t).view.emb (r0_1.idx (Value.ix1_1 j)) 1 : ℕ) = (((cfg0.win 1).blk t).view.emb j 0 : ℕ)
      ∧ (((cfg0.win 0).blk t).view.emb (r0_1.idx (Value.ix1_1 j)) 2 : ℕ) = (((cfg0.win 1).blk t).view.emb j 1 : ℕ) := by
    refine ⟨?_, ?_, ?_⟩
    · show win0_0.index t (0 : Fin 3) * 4 + 1 * (1 + 1 * 0) = 1
      omega
    · show win0_0.index t (1 : Fin 3) * 256 + 1 * (0 + 1 * (j 0).val) = win0_1.index t (0 : Fin 2) * 256 + 1 * (j 0).val
      omega
    · show win0_0.index t (2 : Fin 3) * 2048 + 1 * (0 + 1 * (j 1).val) = win0_1.index t (1 : Fin 2) * 2048 + 1 * (j 1).val
      omega
  have at2 : (((cfg0.win 0).blk t).view.emb (r0_2.idx (Value.ix1_2 j)) 0 : ℕ) = 2 ∧ (((cfg0.win 0).blk t).view.emb (r0_2.idx (Value.ix1_2 j)) 1 : ℕ) = (((cfg0.win 1).blk t).view.emb j 0 : ℕ)
      ∧ (((cfg0.win 0).blk t).view.emb (r0_2.idx (Value.ix1_2 j)) 2 : ℕ) = (((cfg0.win 1).blk t).view.emb j 1 : ℕ) := by
    refine ⟨?_, ?_, ?_⟩
    · show win0_0.index t (0 : Fin 3) * 4 + 1 * (2 + 1 * 0) = 2
      omega
    · show win0_0.index t (1 : Fin 3) * 256 + 1 * (0 + 1 * (j 0).val) = win0_1.index t (0 : Fin 2) * 256 + 1 * (j 0).val
      omega
    · show win0_0.index t (2 : Fin 3) * 2048 + 1 * (0 + 1 * (j 1).val) = win0_1.index t (1 : Fin 2) * 2048 + 1 * (j 1).val
      omega
  have at3 : (((cfg0.win 0).blk t).view.emb (r0_3.idx (Value.ix1_3 j)) 0 : ℕ) = 3 ∧ (((cfg0.win 0).blk t).view.emb (r0_3.idx (Value.ix1_3 j)) 1 : ℕ) = (((cfg0.win 1).blk t).view.emb j 0 : ℕ)
      ∧ (((cfg0.win 0).blk t).view.emb (r0_3.idx (Value.ix1_3 j)) 2 : ℕ) = (((cfg0.win 1).blk t).view.emb j 1 : ℕ) := by
    refine ⟨?_, ?_, ?_⟩
    · show win0_0.index t (0 : Fin 3) * 4 + 1 * (3 + 1 * 0) = 3
      omega
    · show win0_0.index t (1 : Fin 3) * 256 + 1 * (0 + 1 * (j 0).val) = win0_1.index t (0 : Fin 2) * 256 + 1 * (j 0).val
      omega
    · show win0_0.index t (2 : Fin 3) * 2048 + 1 * (0 + 1 * (j 1).val) = win0_1.index t (1 : Fin 2) * 2048 + 1 * (j 1).val
      omega
  exact total_at (extf .f32 (V m c main_arg0) bitsLt_bf16_f32) h hu (((cfg0.win 1).blk t).view.emb j)
    ![((cfg0.win 0).blk t).view.emb (r0_0.idx (Value.ix1_0 j)), ((cfg0.win 0).blk t).view.emb (r0_1.idx (Value.ix1_1 j)),
      ((cfg0.win 0).blk t).view.emb (r0_2.idx (Value.ix1_2 j)), ((cfg0.win 0).blk t).view.emb (r0_3.idx (Value.ix1_3 j))]
    (fun q => by
      match q with
      | ⟨0, _⟩ => exact at0
      | ⟨1, _⟩ => exact at1
      | ⟨2, _⟩ => exact at2
      | ⟨3, _⟩ => exact at3)

theorem whole (h hu) (c : Dev nD) : (dats m 0 c).arrAt 1 cfg0.N = total m h hu c :=
  (dats m 0 c).arrAt_eq_of_cover 1 _ (fun t _ => written m h hu c t) covered

end Cert.SumBIdeal.Whole

end
-- ==== Proof.LocalSum.lean ====
module

public import proofs.«01_k».proof.Proof.Gen.SumA.Frame
public import proofs.«01_k».proof.Proof.SumAValue
public import proofs.«01_k».proof.Proof.Gen.SumARefIdeal.Run
public import proofs.«01_k».proof.Proof.Gen.SumB.Frame
public import proofs.«01_k».proof.Proof.SumBValue
public import proofs.«01_k».proof.Proof.Gen.SumBRefIdeal.Run
public import proofs.«01_k».proof.Defs

@[expose] public section

noncomputable section

namespace Cert.Proof

open Idealize.ShloMosaic Idealize.SL.Sem

/-! ## The sum over the chips of their shares of the gradient of `w_in` -/

theorem frame_sum_in_kernel : Cert.quiescent_SumA := fun m ρ _ => Cert.SumA.Gen.frame (F := Bits) m ρ

theorem frame_sum_in_ideal : Cert.quiescent_SumAIdeal := fun m ρ _ => Cert.SumAIdeal.Gen.frame (F := Ideal) m ρ

theorem frame_sum_in_reference_ideal : Cert.quiescent_SumARefIdeal := fun m ρ _ =>
  (θ_run Cert.SumARefIdeal.defs _ _).mono (fun r h => ⟨fun c => (h c).2, sem_eq_zero_of_no_sems (by decide) r.2⟩) (Cert.SumARefIdeal.Value.run (F := Ideal) m ρ)

theorem algebraic_sum_in : Cert.algebraic_SumAIdeal_SumARefIdeal := fun m ρ m' ρ' _ hm => by
  refine ⟨_, (θ_run Cert.SumAIdeal.defs _ _).mono (fun r h c => h c) (Cert.SumAIdeal.Value.run_blocks (F := Ideal) m ρ),
    (θ_run Cert.SumARefIdeal.defs _ _).mono (fun r h c => ?_) (Cert.SumARefIdeal.Value.run (F := Ideal) m' ρ')⟩
  obtain ⟨e0, rest⟩ := h c
  have h0 := hm c
  rw [h0] at e0
  exact ⟨e0.trans (Cert.SumAIdeal.Whole.whole m Cert.SumARefIdeal.Facts₀.reducesTo_S4x1544x2048_S1544x2048_d0 Cert.SumARefIdeal.Facts₀.h_S_ c).symm, rest⟩

/-! ## The sum over the chips of their shares of the gradient of `w_out` -/

theorem frame_sum_out_kernel : Cert.quiescent_SumB := fun m ρ _ => Cert.SumB.Gen.frame (F := Bits) m ρ

theorem frame_sum_out_ideal : Cert.quiescent_SumBIdeal := fun m ρ _ => Cert.SumBIdeal.Gen.frame (F := Ideal) m ρ

theorem frame_sum_out_reference_ideal : Cert.quiescent_SumBRefIdeal := fun m ρ _ =>
  (θ_run Cert.SumBRefIdeal.defs _ _).mono (fun r h => ⟨fun c => (h c).2, sem_eq_zero_of_no_sems (by decide) r.2⟩) (Cert.SumBRefIdeal.Value.run (F := Ideal) m ρ)

theorem algebraic_sum_out : Cert.algebraic_SumBIdeal_SumBRefIdeal := fun m ρ m' ρ' _ hm => by
  refine ⟨_, (θ_run Cert.SumBIdeal.defs _ _).mono (fun r h c => h c) (Cert.SumBIdeal.Value.run_blocks (F := Ideal) m ρ),
    (θ_run Cert.SumBRefIdeal.defs _ _).mono (fun r h c => ?_) (Cert.SumBRefIdeal.Value.run (F := Ideal) m' ρ')⟩
  obtain ⟨e0, rest⟩ := h c
  have h0 := hm c
  rw [h0] at e0
  exact ⟨e0.trans (Cert.SumBIdeal.Whole.whole m Cert.SumBRefIdeal.Facts₀.reducesTo_S4x512x2048_S512x2048_d0 Cert.SumBRefIdeal.Facts₀.h_S_ c).symm, rest⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference.Run
public import proofs.«01_k».proof.Proof.Gen.ToSibling
public import proofs.«01_k».proof.Proof.Gen.ToSibling.Skeleton
public import proofs.«01_k».proof.Proof.Gen.ToSibling.Launch
public import proofs.«01_k».proof.Proof.Gen.ToSibling.Points
public import proofs.«01_k».proof.Proof.Gen.ToSibling.Frame
public import proofs.«01_k».proof.Proof.Gen.ToSiblingIdeal
public import proofs.«01_k».proof.Proof.Gen.ToSiblingIdeal.Skeleton
public import proofs.«01_k».proof.Proof.Gen.ToSiblingIdeal.Launch
public import proofs.«01_k».proof.Proof.Gen.ToSiblingIdeal.Points
public import proofs.«01_k».proof.Proof.Gen.ToSiblingIdeal.Frame
public import proofs.«01_k».proof.Proof.Gen.ToSiblingRef
public import proofs.«01_k».proof.Proof.Gen.ToSiblingRef.Run
public import proofs.«01_k».proof.Proof.Gen.ToSiblingRefIdeal
public import proofs.«01_k».proof.Proof.Gen.ToSiblingRefIdeal.Run
public import proofs.«01_k».proof.Proof.Gen.ToOwner
public import proofs.«01_k».proof.Proof.Gen.ToOwner.Skeleton
public import proofs.«01_k».proof.Proof.Gen.ToOwner.Launch
public import proofs.«01_k».proof.Proof.Gen.ToOwner.Points
public import proofs.«01_k».proof.Proof.Gen.ToOwner.Frame
public import proofs.«01_k».proof.Proof.Gen.ToOwnerIdeal
public import proofs.«01_k».proof.Proof.Gen.ToOwnerIdeal.Skeleton
public import proofs.«01_k».proof.Proof.Gen.ToOwnerIdeal.Launch
public import proofs.«01_k».proof.Proof.Gen.ToOwnerIdeal.Points
public import proofs.«01_k».proof.Proof.Gen.ToOwnerIdeal.Frame
public import proofs.«01_k».proof.Proof.Gen.ToOwnerRef
public import proofs.«01_k».proof.Proof.Gen.ToOwnerRef.Run
public import proofs.«01_k».proof.Proof.Gen.ToOwnerRefIdeal
public import proofs.«01_k».proof.Proof.Gen.ToOwnerRefIdeal.Run
public import proofs.«01_k».proof.Proof.Gen.Reduced
public import proofs.«01_k».proof.Proof.Gen.Reduced.Skeleton
public import proofs.«01_k».proof.Proof.Gen.Reduced.Launch
public import proofs.«01_k».proof.Proof.Gen.Reduced.Points
public import proofs.«01_k».proof.Proof.Gen.Reduced.Frame
public import proofs.«01_k».proof.Proof.Gen.ReducedIdeal
public import proofs.«01_k».proof.Proof.Gen.ReducedIdeal.Skeleton
public import proofs.«01_k».proof.Proof.Gen.ReducedIdeal.Launch
public import proofs.«01_k».proof.Proof.Gen.ReducedIdeal.Points
public import proofs.«01_k».proof.Proof.Gen.ReducedIdeal.Frame
public import proofs.«01_k».proof.Proof.Gen.ReducedRef
public import proofs.«01_k».proof.Proof.Gen.ReducedRef.Run
public import proofs.«01_k».proof.Proof.Gen.ReducedRefIdeal
public import proofs.«01_k».proof.Proof.Gen.ReducedRefIdeal.Run
public import proofs.«01_k».proof.Proof.GatherValue
public import proofs.«01_k».proof.Proof.SwapPartial
public import proofs.«01_k».proof.Proof.SwapReduced
public import proofs.«01_k».proof.Proof.DeliverValue
public import Idealize.ShloMosaic.Adequacy
public import proofs.«01_k».proof.Proof.LocalChip
public import proofs.«01_k».proof.Proof.LocalLayer
public import proofs.«01_k».proof.Proof.LocalProduct
public import proofs.«01_k».proof.Proof.LocalStep
public import proofs.«01_k».proof.Proof.LocalSum
public import Idealize.ShloMosaic.Init

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => (h.1 c).2.2.2, h.2⟩) (Cert.Gather.run_main (F := Bits) m ρ)

theorem frame_ideal : Cert.quiescent_KernelIdeal := fun m ρ _ =>
  (θ_run Cert.KernelIdeal.defs _ _).mono (fun _ h => ⟨fun c => (h.1 c).2.2.2, h.2⟩) (Cert.Gather.run_main (F := Ideal) m ρ)

theorem frame_reference : Cert.quiescent_Reference := fun m ρ _ =>
  (θ_run Cert.Reference.defs _ _).mono (fun r h => ⟨fun c => (h c).2.2.2, sem_eq_zero_of_no_sems (by decide) r.2⟩) (Cert.Reference.Value.run (F := Bits) m ρ)

theorem frame_reference_ideal : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run (F := Ideal) m ρ)

section Values

variable {F : FTy → Type} [FloatOps F] (m : (ℓ : Loc Cert.KernelIdeal.nD Cert.KernelIdeal.τ Cert.KernelIdeal.sig) → Buf (Elt F) ℓ)

theorem value_a (w : Cert.ReferenceIdeal.S2x6176x2048.Idx → Elt F .bf16)
    (h : ∀ c : Dev Cert.KernelIdeal.nD, Cert.Gather.inA m c = Layout.blockN ⟨3, ![2, 1544, 2048]⟩ ⟨3, ![2, 6176, 2048]⟩ (Layout.meshBlock [2, 2, 2] ![[], [0, 1], []] c) w)
    (c : Dev Cert.KernelIdeal.nD) : Cert.Gather.outA m c = transpose Cert.ReferenceIdeal.S4x2x1544x2048 [1, 0, 2, 3]
      (shapeCast Cert.ReferenceIdeal.S2x4x1544x2048 w Cert.ReferenceIdeal.Facts₀.shapeCasts_S2x6176x2048_S2x4x1544x2048)
      Cert.ReferenceIdeal.Facts₀.transposes_S2x4x1544x2048_S4x2x1544x2048_1_0_2_3 := by
  unfold Cert.Gather.outA
  rw [show Cert.Gather.inA m = _ from funext h]
  exact Cert.Gather.gathered_blocks (r := 1544) (R := 6176) (n := 2048) rfl w _ _ _ c

theorem value_b (w : Cert.ReferenceIdeal.S2x2048x2048.Idx → Elt F .bf16)
    (h : ∀ c : Dev Cert.KernelIdeal.nD, Cert.Gather.inB m c = Layout.blockN ⟨3, ![2, 512, 2048]⟩ ⟨3, ![2, 2048, 2048]⟩ (Layout.meshBlock [2, 2, 2] ![[], [0, 1], []] c) w)
    (c : Dev Cert.KernelIdeal.nD) : Cert.Gather.outB m c = transpose Cert.ReferenceIdeal.S4x2x512x2048 [1, 0, 2, 3]
      (shapeCast Cert.ReferenceIdeal.S2x4x512x2048 w Cert.ReferenceIdeal.Facts₀.shapeCasts_S2x2048x2048_S2x4x512x2048)
      Cert.ReferenceIdeal.Facts₀.transposes_S2x4x512x2048_S4x2x512x2048_1_0_2_3 := by
  unfold Cert.Gather.outB
  rw [show Cert.Gather.inB m = _ from funext h]
  exact Cert.Gather.gathered_blocks (r := 512) (R := 2048) (n := 2048) rfl w _ _ _ c

theorem value_s (w : Cert.ReferenceIdeal.S2x256x128.Idx → Elt F .f32)
    (h : ∀ c : Dev Cert.KernelIdeal.nD, Cert.Gather.inS m c = Layout.blockN ⟨3, ![2, 64, 128]⟩ ⟨3, ![2, 256, 128]⟩ (Layout.meshBlock [2, 2, 2] ![[], [0, 1], []] c) w)
    (c : Dev Cert.KernelIdeal.nD) : Cert.Gather.outS m c = transpose Cert.ReferenceIdeal.S4x2x64x128 [1, 0, 2, 3]
      (shapeCast Cert.ReferenceIdeal.S2x4x64x128 w Cert.ReferenceIdeal.Facts₀.shapeCasts_S2x256x128_S2x4x64x128)
      Cert.ReferenceIdeal.Facts₀.transposes_S2x4x64x128_S4x2x64x128_1_0_2_3 := by
  unfold Cert.Gather.outS
  rw [show Cert.Gather.inS m = _ from funext h]
  exact Cert.Gather.gathered_blocks (r := 64) (R := 256) (n := 128) rfl w _ _ _ c

end Values

theorem algebraic : Cert.algebraic_KernelIdeal_ReferenceIdeal := fun m ρ m' ρ' _ hm => by
  refine ⟨_, _, _, ?_, (θ_run Cert.ReferenceIdeal.defs _ _).mono (fun r h => h 0) (Cert.ReferenceIdeal.Value.run (F := Ideal) m' ρ')⟩
  refine (θ_run Cert.KernelIdeal.defs _ _).mono (fun r h c => ?_) (Cert.Gather.run_main (F := Ideal) m ρ)
  obtain ⟨h0, h1, h2, h3⟩ := h.1 c
  exact ⟨h0.trans (value_a m _ (fun c => (hm c).1) c), h1.trans (value_b m _ (fun c => (hm c).2.1) c), h2.trans (value_s m _ (fun c => (hm c).2.2) c), h3⟩

theorem bitexact : Cert.bitexact_Kernel_Reference := fun m ρ m' ρ' _ hm => by
  refine ⟨_, _, _, ?_, (θ_run Cert.Reference.defs _ _).mono (fun r h => h 0) (Cert.Reference.Value.run (F := Bits) m' ρ')⟩
  refine (θ_run Cert.KernelIdeal.defs _ _).mono (fun r h c => ?_) (Cert.Gather.run_main (F := Bits) m ρ)
  obtain ⟨h0, h1, h2, h3⟩ := h.1 c
  exact ⟨h0.trans (value_a m _ (fun c => (hm c).1) c), h1.trans (value_b m _ (fun c => (hm c).2.1) c), h2.trans (value_s m _ (fun c => (hm c).2.2) c), h3⟩

/-! ## The partial gradients to the other core of the chip -/

theorem frame_sibling_kernel : Cert.quiescent_ToSibling := fun m ρ _ =>
  (θ_run Cert.ToSiblingIdeal.defs _ _).mono (fun _ h => ⟨fun c => (h.1 c).2.2.2, h.2⟩) (Cert.SwapPartial.run_main (F := Bits) m ρ)

theorem frame_sibling_ideal : Cert.quiescent_ToSiblingIdeal := fun m ρ _ =>
  (θ_run Cert.ToSiblingIdeal.defs _ _).mono (fun _ h => ⟨fun c => (h.1 c).2.2.2, h.2⟩) (Cert.SwapPartial.run_main (F := Ideal) m ρ)

theorem frame_sibling_reference : Cert.quiescent_ToSiblingRef := fun m ρ _ =>
  (θ_run Cert.ToSiblingRef.defs _ _).mono (fun r h => ⟨fun c => (h c).2.2.2, sem_eq_zero_of_no_sems (by decide) r.2⟩) (Cert.ToSiblingRef.Value.run (F := Bits) m ρ)

theorem frame_sibling_reference_ideal : Cert.quiescent_ToSiblingRefIdeal := fun m ρ _ =>
  (θ_run Cert.ToSiblingRefIdeal.defs _ _).mono (fun r h => ⟨fun c => (h c).2.2.2, sem_eq_zero_of_no_sems (by decide) r.2⟩) (Cert.ToSiblingRefIdeal.Value.run (F := Ideal) m ρ)

theorem algebraic_sibling : Cert.algebraic_ToSiblingIdeal_ToSiblingRefIdeal := fun m ρ m' ρ' _ hm => by
  refine ⟨_, _, _, ?_, (θ_run Cert.ToSiblingRefIdeal.defs _ _).mono (fun r h => h 0) (Cert.ToSiblingRefIdeal.Value.run (F := Ideal) m' ρ')⟩
  refine (θ_run Cert.ToSiblingIdeal.defs _ _).mono (fun r h c => ?_) (Cert.SwapPartial.run_main (F := Ideal) m ρ)
  obtain ⟨h0, h1, h2, h3⟩ := h.1 c
  exact ⟨h0.trans ((congrArg (fun f => Cert.Exchange.layer f c) (funext fun c => (hm c).1)).trans (Cert.Exchange.layer_block _ _ _ _ _ _ _ _ _ _ c)),
    h1.trans ((congrArg (fun f => Cert.Exchange.layer f c) (funext fun c => (hm c).2.1)).trans (Cert.Exchange.layer_block _ _ _ _ _ _ _ _ _ _ c)),
    h2.trans ((congrArg (fun f => f (Cert.Exchange.sibling c)) (funext fun c => (hm c).2.2)).trans (Cert.Exchange.swapped_block rfl _ _ _ _ _ _ _ _ _ c)), h3⟩

theorem bitexact_sibling : Cert.bitexact_ToSibling_ToSiblingRef := fun m ρ m' ρ' _ hm => by
  refine ⟨_, _, _, ?_, (θ_run Cert.ToSiblingRef.defs _ _).mono (fun r h => h 0) (Cert.ToSiblingRef.Value.run (F := Bits) m' ρ')⟩
  refine (θ_run Cert.ToSiblingIdeal.defs _ _).mono (fun r h c => ?_) (Cert.SwapPartial.run_main (F := Bits) m ρ)
  obtain ⟨h0, h1, h2, h3⟩ := h.1 c
  exact ⟨h0.trans ((congrArg (fun f => Cert.Exchange.layer f c) (funext fun c => (hm c).1)).trans (Cert.Exchange.layer_block _ _ _ _ _ _ _ _ _ _ c)),
    h1.trans ((congrArg (fun f => Cert.Exchange.layer f c) (funext fun c => (hm c).2.1)).trans (Cert.Exchange.layer_block _ _ _ _ _ _ _ _ _ _ c)),
    h2.trans ((congrArg (fun f => f (Cert.Exchange.sibling c)) (funext fun c => (hm c).2.2)).trans (Cert.Exchange.swapped_block rfl _ _ _ _ _ _ _ _ _ c)), h3⟩

/-! ## The partial gradients to the chips that reduce them -/

theorem frame_owner_kernel : Cert.quiescent_ToOwner := fun m ρ _ =>
  (θ_run Cert.ToOwnerIdeal.defs _ _).mono (fun _ h => ⟨fun c => (h.1 c).2.2.2, h.2⟩) (Cert.Deliver.run_main (F := Bits) m ρ)

theorem frame_owner_ideal : Cert.quiescent_ToOwnerIdeal := fun m ρ _ =>
  (θ_run Cert.ToOwnerIdeal.defs _ _).mono (fun _ h => ⟨fun c => (h.1 c).2.2.2, h.2⟩) (Cert.Deliver.run_main (F := Ideal) m ρ)

theorem frame_owner_reference : Cert.quiescent_ToOwnerRef := fun m ρ _ =>
  (θ_run Cert.ToOwnerRef.defs _ _).mono (fun r h => ⟨fun c => (h c).2.2.2, sem_eq_zero_of_no_sems (by decide) r.2⟩) (Cert.ToOwnerRef.Value.run (F := Bits) m ρ)

theorem frame_owner_reference_ideal : Cert.quiescent_ToOwnerRefIdeal := fun m ρ _ =>
  (θ_run Cert.ToOwnerRefIdeal.defs _ _).mono (fun r h => ⟨fun c => (h c).2.2.2, sem_eq_zero_of_no_sems (by decide) r.2⟩) (Cert.ToOwnerRefIdeal.Value.run (F := Ideal) m ρ)

theorem algebraic_owner : Cert.algebraic_ToOwnerIdeal_ToOwnerRefIdeal := fun m ρ m' ρ' _ hm => by
  refine ⟨_, _, _, ?_, (θ_run Cert.ToOwnerRefIdeal.defs _ _).mono (fun r h => h 0) (Cert.ToOwnerRefIdeal.Value.run (F := Ideal) m' ρ')⟩
  refine (θ_run Cert.ToOwnerIdeal.defs _ _).mono (fun r h c => ?_) (Cert.Deliver.run_main (F := Ideal) m ρ)
  obtain ⟨h0, h1, h2, h3⟩ := h.1 c
  exact ⟨h0.trans ((congrArg (fun f => Cert.Deliver.delivered f c) (funext fun c => (hm c).1)).trans (Cert.Deliver.delivered_block _ _ _ _ _ c)),
    h1.trans ((congrArg (fun f => Cert.Deliver.delivered f c) (funext fun c => (hm c).2.1)).trans (Cert.Deliver.delivered_block _ _ _ _ _ c)),
    h2.trans ((congrArg (fun f => Cert.Deliver.gathered f c) (funext fun c => (hm c).2.2)).trans (Cert.Deliver.gathered_block rfl _ _ _ _ _ _ _ c)), h3⟩

theorem bitexact_owner : Cert.bitexact_ToOwner_ToOwnerRef := fun m ρ m' ρ' _ hm => by
  refine ⟨_, _, _, ?_, (θ_run Cert.ToOwnerRef.defs _ _).mono (fun r h => h 0) (Cert.ToOwnerRef.Value.run (F := Bits) m' ρ')⟩
  refine (θ_run Cert.ToOwnerIdeal.defs _ _).mono (fun r h c => ?_) (Cert.Deliver.run_main (F := Bits) m ρ)
  obtain ⟨h0, h1, h2, h3⟩ := h.1 c
  exact ⟨h0.trans ((congrArg (fun f => Cert.Deliver.delivered f c) (funext fun c => (hm c).1)).trans (Cert.Deliver.delivered_block _ _ _ _ _ c)),
    h1.trans ((congrArg (fun f => Cert.Deliver.delivered f c) (funext fun c => (hm c).2.1)).trans (Cert.Deliver.delivered_block _ _ _ _ _ c)),
    h2.trans ((congrArg (fun f => Cert.Deliver.gathered f c) (funext fun c => (hm c).2.2)).trans (Cert.Deliver.gathered_block rfl _ _ _ _ _ _ _ c)), h3⟩

/-! ## The reduced gradients to the other core of the chip -/

theorem frame_reduced_kernel : Cert.quiescent_Reduced := fun m ρ _ =>
  (θ_run Cert.ReducedIdeal.defs _ _).mono (fun _ h => ⟨fun c => (h.1 c).2.2, h.2⟩) (Cert.SwapReduced.run_main (F := Bits) m ρ)

theorem frame_reduced_ideal : Cert.quiescent_ReducedIdeal := fun m ρ _ =>
  (θ_run Cert.ReducedIdeal.defs _ _).mono (fun _ h => ⟨fun c => (h.1 c).2.2, h.2⟩) (Cert.SwapReduced.run_main (F := Ideal) m ρ)

theorem frame_reduced_reference : Cert.quiescent_ReducedRef := fun m ρ _ =>
  (θ_run Cert.ReducedRef.defs _ _).mono (fun r h => ⟨fun c => (h c).2.2, sem_eq_zero_of_no_sems (by decide) r.2⟩) (Cert.ReducedRef.Value.run (F := Bits) m ρ)

theorem frame_reduced_reference_ideal : Cert.quiescent_ReducedRefIdeal := fun m ρ _ =>
  (θ_run Cert.ReducedRefIdeal.defs _ _).mono (fun r h => ⟨fun c => (h c).2.2, sem_eq_zero_of_no_sems (by decide) r.2⟩) (Cert.ReducedRefIdeal.Value.run (F := Ideal) m ρ)

theorem algebraic_reduced : Cert.algebraic_ReducedIdeal_ReducedRefIdeal := fun m ρ m' ρ' _ hm => by
  refine ⟨_, _, ?_, (θ_run Cert.ReducedRefIdeal.defs _ _).mono (fun r h => h 0) (Cert.ReducedRefIdeal.Value.run (F := Ideal) m' ρ')⟩
  refine (θ_run Cert.ReducedIdeal.defs _ _).mono (fun r h c => ?_) (Cert.SwapReduced.run_main (F := Ideal) m ρ)
  obtain ⟨h0, h1, h2⟩ := h.1 c
  exact ⟨h0.trans ((congrArg (fun f => f (Cert.Exchange.sibling c)) (funext fun c => (hm c).1)).trans (Cert.Exchange.swapped_block rfl _ _ _ _ _ _ _ _ _ c)),
    h1.trans ((congrArg (fun f => f (Cert.Exchange.sibling c)) (funext fun c => (hm c).2)).trans (Cert.Exchange.swapped_block rfl _ _ _ _ _ _ _ _ _ c)), h2⟩

theorem bitexact_reduced : Cert.bitexact_Reduced_ReducedRef := fun m ρ m' ρ' _ hm => by
  refine ⟨_, _, ?_, (θ_run Cert.ReducedRef.defs _ _).mono (fun r h => h 0) (Cert.ReducedRef.Value.run (F := Bits) m' ρ')⟩
  refine (θ_run Cert.ReducedIdeal.defs _ _).mono (fun r h c => ?_) (Cert.SwapReduced.run_main (F := Bits) m ρ)
  obtain ⟨h0, h1, h2⟩ := h.1 c
  exact ⟨h0.trans ((congrArg (fun f => f (Cert.Exchange.sibling c)) (funext fun c => (hm c).1)).trans (Cert.Exchange.swapped_block rfl _ _ _ _ _ _ _ _ _ c)),
    h1.trans ((congrArg (fun f => f (Cert.Exchange.sibling c)) (funext fun c => (hm c).2)).trans (Cert.Exchange.swapped_block rfl _ _ _ _ _ _ _ _ _ c)), h2⟩

theorem claim : Cert.Claim := ⟨Cert.Kernel.Gen.facts, Cert.KernelIdeal.Gen.facts, Cert.ReferenceIdeal.Gen.facts, Cert.Reference.Gen.facts,
  Cert.ToSibling.Gen.facts, Cert.ToSiblingIdeal.Gen.facts, Cert.ToSiblingRefIdeal.Gen.facts, Cert.ToSiblingRef.Gen.facts,
  Cert.ToOwner.Gen.facts, Cert.ToOwnerIdeal.Gen.facts, Cert.ToOwnerRefIdeal.Gen.facts, Cert.ToOwnerRef.Gen.facts,
  Cert.Reduced.Gen.facts, Cert.ReducedIdeal.Gen.facts, Cert.ReducedRefIdeal.Gen.facts, Cert.ReducedRef.Gen.facts,
  Cert.ChipA.Gen.facts, Cert.ChipAIdeal.Gen.facts, Cert.ChipARefIdeal.Gen.facts, Cert.ChipARef.Gen.facts,
  Cert.ChipB.Gen.facts, Cert.ChipBIdeal.Gen.facts, Cert.ChipBRefIdeal.Gen.facts, Cert.ChipBRef.Gen.facts,
  Cert.ChipSmall.Gen.facts, Cert.ChipSmallIdeal.Gen.facts, Cert.ChipSmallRefIdeal.Gen.facts, Cert.ChipSmallRef.Gen.facts,
  Cert.SumA.Gen.facts, Cert.SumAIdeal.Gen.facts, Cert.SumARefIdeal.Gen.facts,
  Cert.SumB.Gen.facts, Cert.SumBIdeal.Gen.facts, Cert.SumBRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamSmall.Gen.facts, Cert.AdamSmallIdeal.Gen.facts, Cert.AdamSmallRefIdeal.Gen.facts,
  Cert.AdamShard.Gen.facts, Cert.AdamShardIdeal.Gen.facts, Cert.AdamShardRefIdeal.Gen.facts,
  Cert.RmsBwd.Gen.facts, Cert.RmsBwdIdeal.Gen.facts, Cert.RmsBwdRefIdeal.Gen.facts,
  Cert.OutProj.Gen.facts, Cert.OutProjIdeal.Gen.facts, Cert.OutProjRefIdeal.Gen.facts,
  Cert.RmsFwd.Gen.facts, Cert.RmsFwdIdeal.Gen.facts, Cert.RmsFwdRefIdeal.Gen.facts,
  Cert.LayerEnd.Gen.facts, Cert.LayerEndIdeal.Gen.facts, Cert.LayerEndRefIdeal.Gen.facts,
  Cert.OutProjBwd.Gen.facts, Cert.OutProjBwdIdeal.Gen.facts, Cert.OutProjBwdRefIdeal.Gen.facts,
  Cert.MulZ.Gen.facts, Cert.MulZIdeal.Gen.facts, Cert.MulZRefIdeal.Gen.facts,
  Cert.MulDh.Gen.facts, Cert.MulDhIdeal.Gen.facts, Cert.MulDhRefIdeal.Gen.facts,
  Cert.MulDwIn.Gen.facts, Cert.MulDwInIdeal.Gen.facts, Cert.MulDwInRefIdeal.Gen.facts,
  Cert.MulDwOut.Gen.facts, Cert.MulDwOutIdeal.Gen.facts, Cert.MulDwOutRefIdeal.Gen.facts,
  frame_kernel, frame_ideal, frame_reference_ideal, frame_reference,
  frame_sibling_kernel, frame_sibling_ideal, frame_sibling_reference_ideal, frame_sibling_reference,
  frame_owner_kernel, frame_owner_ideal, frame_owner_reference_ideal, frame_owner_reference,
  frame_reduced_kernel, frame_reduced_ideal, frame_reduced_reference_ideal, frame_reduced_reference,
  frame_chip_in_kernel, frame_chip_in_ideal, frame_chip_in_reference_ideal, frame_chip_in_reference,
  frame_chip_out_kernel, frame_chip_out_ideal, frame_chip_out_reference_ideal, frame_chip_out_reference,
  frame_chip_small_kernel, frame_chip_small_ideal, frame_chip_small_reference_ideal, frame_chip_small_reference,
  frame_sum_in_kernel, frame_sum_in_ideal, frame_sum_in_reference_ideal,
  frame_sum_out_kernel, frame_sum_out_ideal, frame_sum_out_reference_ideal,
  frame_step_in_kernel, frame_step_in_ideal, frame_step_in_reference_ideal,
  frame_step_out_kernel, frame_step_out_ideal, frame_step_out_reference_ideal,
  frame_step_small_kernel, frame_step_small_ideal, frame_step_small_reference_ideal,
  frame_step_shard_kernel, frame_step_shard_ideal, frame_step_shard_reference_ideal,
  frame_norm_kernel, frame_norm_ideal, frame_norm_reference_ideal,
  frame_out_kernel, frame_out_ideal, frame_out_reference_ideal,
  frame_norm_fwd_kernel, frame_norm_fwd_ideal, frame_norm_fwd_reference_ideal,
  frame_end_kernel, frame_end_ideal, frame_end_reference_ideal,
  frame_gates_kernel, frame_gates_ideal, frame_gates_reference_ideal,
  frame_mul_z_kernel, frame_mul_z_ideal, frame_mul_z_reference_ideal,
  frame_mul_dh_kernel, frame_mul_dh_ideal, frame_mul_dh_reference_ideal,
  frame_mul_dw_in_kernel, frame_mul_dw_in_ideal, frame_mul_dw_in_reference_ideal,
  frame_mul_dw_out_kernel, frame_mul_dw_out_ideal, frame_mul_dw_out_reference_ideal,
  trivial, algebraic, bitexact, trivial, algebraic_sibling, bitexact_sibling, trivial, algebraic_owner, bitexact_owner, trivial, algebraic_reduced, bitexact_reduced,
  trivial, algebraic_chip_in, bitexact_chip_in,
  trivial, algebraic_chip_out, bitexact_chip_out,
  trivial, algebraic_chip_small, bitexact_chip_small,
  trivial, algebraic_sum_in,
  trivial, algebraic_sum_out,
  trivial, algebraic_step_in,
  trivial, algebraic_step_out,
  trivial, algebraic_step_small,
  trivial, algebraic_step_shard,
  trivial, algebraic_norm,
  trivial, algebraic_out,
  trivial, algebraic_norm_fwd,
  trivial, algebraic_end,
  trivial, algebraic_gates,
  trivial, algebraic_mul_z,
  trivial, algebraic_mul_dh,
  trivial, algebraic_mul_dw_in,
  trivial, algebraic_mul_dw_out⟩

end Cert.Proof

end
